-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))).2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))).2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))).1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))).2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))).2.2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))).2.2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))).1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))).2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))).2.2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))).2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))).2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))).2.2.2.2 = (fun _ => 1#1)

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesKernelIdeal_gates_finite [hPre_gates_finite : Cert.Pre_gates_finite.Facts] (m : (ℓ : Loc Cert.GatesKernelIdeal.nD Cert.GatesKernelIdeal.τ Cert.GatesKernelIdeal.sig) → Buf (Elt Ideal) ℓ) : Prop :=
  ∀ c : Dev Cert.GatesKernelIdeal.nD,
    (Cert.Pre_gates_finite.fn (F := Ideal) (m ((c.tc : Thread Cert.GatesKernelIdeal.nD Cert.GatesKernelIdeal.τ).loc Cert.GatesKernelIdeal.main_arg0)) (m ((c.tc : Thread Cert.GatesKernelIdeal.nD Cert.GatesKernelIdeal.τ).loc Cert.GatesKernelIdeal.main_arg1)) (m ((c.tc : Thread Cert.GatesKernelIdeal.nD Cert.GatesKernelIdeal.τ).loc Cert.GatesKernelIdeal.main_arg2))).1 = (fun _ => 1#1)
    ∧ (Cert.Pre_gates_finite.fn (F := Ideal) (m ((c.tc : Thread Cert.GatesKernelIdeal.nD Cert.GatesKernelIdeal.τ).loc Cert.GatesKernelIdeal.main_arg0)) (m ((c.tc : Thread Cert.GatesKernelIdeal.nD Cert.GatesKernelIdeal.τ).loc Cert.GatesKernelIdeal.main_arg1)) (m ((c.tc : Thread Cert.GatesKernelIdeal.nD Cert.GatesKernelIdeal.τ).loc Cert.GatesKernelIdeal.main_arg2))).2.1 = (fun _ => 1#1)
    ∧ (Cert.Pre_gates_finite.fn (F := Ideal) (m ((c.tc : Thread Cert.GatesKernelIdeal.nD Cert.GatesKernelIdeal.τ).loc Cert.GatesKernelIdeal.main_arg0)) (m ((c.tc : Thread Cert.GatesKernelIdeal.nD Cert.GatesKernelIdeal.τ).loc Cert.GatesKernelIdeal.main_arg1)) (m ((c.tc : Thread Cert.GatesKernelIdeal.nD Cert.GatesKernelIdeal.τ).loc Cert.GatesKernelIdeal.main_arg2))).2.2 = (fun _ => 1#1)

def Pre_GatesReferenceIdeal (m : (ℓ : Loc Cert.GatesReferenceIdeal.nD Cert.GatesReferenceIdeal.τ Cert.GatesReferenceIdeal.sig) → Buf (Elt Ideal) ℓ) : Prop :=
  True

def Pre_GatesReferenceIdeal_gates_finite [hPre_gates_finite : Cert.Pre_gates_finite.Facts] (m : (ℓ : Loc Cert.GatesReferenceIdeal.nD Cert.GatesReferenceIdeal.τ Cert.GatesReferenceIdeal.sig) → Buf (Elt Ideal) ℓ) : Prop :=
  ∀ c : Dev Cert.GatesReferenceIdeal.nD,
    (Cert.Pre_gates_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2))).1 = (fun _ => 1#1)
    ∧ (Cert.Pre_gates_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2))).2.1 = (fun _ => 1#1)
    ∧ (Cert.Pre_gates_finite.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2))).2.2 = (fun _ => 1#1)

def Pre_AfwdKernel (m : (ℓ : Loc Cert.AfwdKernel.nD Cert.AfwdKernel.τ Cert.AfwdKernel.sig) → Buf (Elt Bits) ℓ) : Prop :=
  True

def Pre_AfwdKernelIdeal (m : (ℓ : Loc Cert.AfwdKernelIdeal.nD Cert.AfwdKernelIdeal.τ Cert.AfwdKernelIdeal.sig) → Buf (Elt Ideal) ℓ) : Prop :=
  True

def Pre_AfwdKernelIdeal_afwd_finite [hPre_afwd_finite : Cert.Pre_afwd_finite.Facts] (m : (ℓ : Loc Cert.AfwdKernelIdeal.nD Cert.AfwdKernelIdeal.τ Cert.AfwdKernelIdeal.sig) → Buf (Elt Ideal) ℓ) : Prop :=
  ∀ c : Dev Cert.AfwdKernelIdeal.nD,
    (Cert.Pre_afwd_finite.fn (F := Ideal) (m ((c.tc : Thread Cert.AfwdKernelIdeal.nD Cert.AfwdKernelIdeal.τ).loc Cert.AfwdKernelIdeal.main_arg0)) (m ((c.tc : Thread Cert.AfwdKernelIdeal.nD Cert.AfwdKernelIdeal.τ).loc Cert.AfwdKernelIdeal.main_arg1))).1 = (fun _ => 1#1)
    ∧ (Cert.Pre_afwd_finite.fn (F := Ideal) (m ((c.tc : Thread Cert.AfwdKernelIdeal.nD Cert.AfwdKernelIdeal.τ).loc Cert.AfwdKernelIdeal.main_arg0)) (m ((c.tc : Thread Cert.AfwdKernelIdeal.nD Cert.AfwdKernelIdeal.τ).loc Cert.AfwdKernelIdeal.main_arg1))).2 = (fun _ => 1#1)

def Pre_AfwdReferenceIdeal (m : (ℓ : Loc Cert.AfwdReferenceIdeal.nD Cert.AfwdReferenceIdeal.τ Cert.AfwdReferenceIdeal.sig) → Buf (Elt Ideal) ℓ) : Prop :=
  True

def Pre_AfwdReferenceIdeal_afwd_finite [hPre_afwd_finite : Cert.Pre_afwd_finite.Facts] (m : (ℓ : Loc Cert.AfwdReferenceIdeal.nD Cert.AfwdReferenceIdeal.τ Cert.AfwdReferenceIdeal.sig) → Buf (Elt Ideal) ℓ) : Prop :=
  ∀ c : Dev Cert.AfwdReferenceIdeal.nD,
    (Cert.Pre_afwd_finite.fn (F := Ideal) (m ((c.tc : Thread Cert.AfwdReferenceIdeal.nD Cert.AfwdReferenceIdeal.τ).loc Cert.AfwdReferenceIdeal.main_arg0)) (m ((c.tc : Thread Cert.AfwdReferenceIdeal.nD Cert.AfwdReferenceIdeal.τ).loc Cert.AfwdReferenceIdeal.main_arg1))).1 = (fun _ => 1#1)
    ∧ (Cert.Pre_afwd_finite.fn (F := Ideal) (m ((c.tc : Thread Cert.AfwdReferenceIdeal.nD Cert.AfwdReferenceIdeal.τ).loc Cert.AfwdReferenceIdeal.main_arg0)) (m ((c.tc : Thread Cert.AfwdReferenceIdeal.nD Cert.AfwdReferenceIdeal.τ).loc Cert.AfwdReferenceIdeal.main_arg1))).2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_OfwdKernel (m : (ℓ : Loc Cert.OfwdKernel.nD Cert.OfwdKernel.τ Cert.OfwdKernel.sig) → Buf (Elt Bits) ℓ) : Prop :=
  True

def Pre_OfwdKernelIdeal (m : (ℓ : Loc Cert.OfwdKernelIdeal.nD Cert.OfwdKernelIdeal.τ Cert.OfwdKernelIdeal.sig) → Buf (Elt Ideal) ℓ) : Prop :=
  True

def Pre_OfwdKernelIdeal_ofwd_finite [hPre_ofwd_finite : Cert.Pre_ofwd_finite.Facts] (m : (ℓ : Loc Cert.OfwdKernelIdeal.nD Cert.OfwdKernelIdeal.τ Cert.OfwdKernelIdeal.sig) → Buf (Elt Ideal) ℓ) : Prop :=
  ∀ c : Dev Cert.OfwdKernelIdeal.nD,
    (Cert.Pre_ofwd_finite.fn (F := Ideal) (m ((c.tc : Thread Cert.OfwdKernelIdeal.nD Cert.OfwdKernelIdeal.τ).loc Cert.OfwdKernelIdeal.main_arg0)) (m ((c.tc : Thread Cert.OfwdKernelIdeal.nD Cert.OfwdKernelIdeal.τ).loc Cert.OfwdKernelIdeal.main_arg1)) (m ((c.tc : Thread Cert.OfwdKernelIdeal.nD Cert.OfwdKernelIdeal.τ).loc Cert.OfwdKernelIdeal.main_arg2)) (m ((c.tc : Thread Cert.OfwdKernelIdeal.nD Cert.OfwdKernelIdeal.τ).loc Cert.OfwdKernelIdeal.main_arg3)) (m ((c.tc : Thread Cert.OfwdKernelIdeal.nD Cert.OfwdKernelIdeal.τ).loc Cert.OfwdKernelIdeal.main_arg4))).1 = (fun _ => 1#1)
    ∧ (Cert.Pre_ofwd_finite.fn (F := Ideal) (m ((c.tc : Thread Cert.OfwdKernelIdeal.nD Cert.OfwdKernelIdeal.τ).loc Cert.OfwdKernelIdeal.main_arg0)) (m ((c.tc : Thread Cert.OfwdKernelIdeal.nD Cert.OfwdKernelIdeal.τ).loc Cert.OfwdKernelIdeal.main_arg1)) (m ((c.tc : Thread Cert.OfwdKernelIdeal.nD Cert.OfwdKernelIdeal.τ).loc Cert.OfwdKernelIdeal.main_arg2)) (m ((c.tc : Thread Cert.OfwdKernelIdeal.nD Cert.OfwdKernelIdeal.τ).loc Cert.OfwdKernelIdeal.main_arg3)) (m ((c.tc : Thread Cert.OfwdKernelIdeal.nD Cert.OfwdKernelIdeal.τ).loc Cert.OfwdKernelIdeal.main_arg4))).2.1 = (fun _ => 1#1)
    ∧ (Cert.Pre_ofwd_finite.fn (F := Ideal) (m ((c.tc : Thread Cert.OfwdKernelIdeal.nD Cert.OfwdKernelIdeal.τ).loc Cert.OfwdKernelIdeal.main_arg0)) (m ((c.tc : Thread Cert.OfwdKernelIdeal.nD Cert.OfwdKernelIdeal.τ).loc Cert.OfwdKernelIdeal.main_arg1)) (m ((c.tc : Thread Cert.OfwdKernelIdeal.nD Cert.OfwdKernelIdeal.τ).loc Cert.OfwdKernelIdeal.main_arg2)) (m ((c.tc : Thread Cert.OfwdKernelIdeal.nD Cert.OfwdKernelIdeal.τ).loc Cert.OfwdKernelIdeal.main_arg3)) (m ((c.tc : Thread Cert.OfwdKernelIdeal.nD Cert.OfwdKernelIdeal.τ).loc Cert.OfwdKernelIdeal.main_arg4))).2.2.1 = (fun _ => 1#1)
    ∧ (Cert.Pre_ofwd_finite.fn (F := Ideal) (m ((c.tc : Thread Cert.OfwdKernelIdeal.nD Cert.OfwdKernelIdeal.τ).loc Cert.OfwdKernelIdeal.main_arg0)) (m ((c.tc : Thread Cert.OfwdKernelIdeal.nD Cert.OfwdKernelIdeal.τ).loc Cert.OfwdKernelIdeal.main_arg1)) (m ((c.tc : Thread Cert.OfwdKernelIdeal.nD Cert.OfwdKernelIdeal.τ).loc Cert.OfwdKernelIdeal.main_arg2)) (m ((c.tc : Thread Cert.OfwdKernelIdeal.nD Cert.OfwdKernelIdeal.τ).loc Cert.OfwdKernelIdeal.main_arg3)) (m ((c.tc : Thread Cert.OfwdKernelIdeal.nD Cert.OfwdKernelIdeal.τ).loc Cert.OfwdKernelIdeal.main_arg4))).2.2.2.1 = (fun _ => 1#1)
    ∧ (Cert.Pre_ofwd_finite.fn (F := Ideal) (m ((c.tc : Thread Cert.OfwdKernelIdeal.nD Cert.OfwdKernelIdeal.τ).loc Cert.OfwdKernelIdeal.main_arg0)) (m ((c.tc : Thread Cert.OfwdKernelIdeal.nD Cert.OfwdKernelIdeal.τ).loc Cert.OfwdKernelIdeal.main_arg1)) (m ((c.tc : Thread Cert.OfwdKernelIdeal.nD Cert.OfwdKernelIdeal.τ).loc Cert.OfwdKernelIdeal.main_arg2)) (m ((c.tc : Thread Cert.OfwdKernelIdeal.nD Cert.OfwdKernelIdeal.τ).loc Cert.OfwdKernelIdeal.main_arg3)) (m ((c.tc : Thread Cert.OfwdKernelIdeal.nD Cert.OfwdKernelIdeal.τ).loc Cert.OfwdKernelIdeal.main_arg4))).2.2.2.2 = (fun _ => 1#1)

def Pre_OfwdReferenceIdeal (m : (ℓ : Loc Cert.OfwdReferenceIdeal.nD Cert.OfwdReferenceIdeal.τ Cert.OfwdReferenceIdeal.sig) → Buf (Elt Ideal) ℓ) : Prop :=
  True

def Pre_OfwdReferenceIdeal_ofwd_finite [hPre_ofwd_finite : Cert.Pre_ofwd_finite.Facts] (m : (ℓ : Loc Cert.OfwdReferenceIdeal.nD Cert.OfwdReferenceIdeal.τ Cert.OfwdReferenceIdeal.sig) → Buf (Elt Ideal) ℓ) : Prop :=
  ∀ c : Dev Cert.OfwdReferenceIdeal.nD,
    (Cert.Pre_ofwd_finite.fn (F := Ideal) (m ((c.tc : Thread Cert.OfwdReferenceIdeal.nD Cert.OfwdReferenceIdeal.τ).loc Cert.OfwdReferenceIdeal.main_arg0)) (m ((c.tc : Thread Cert.OfwdReferenceIdeal.nD Cert.OfwdReferenceIdeal.τ).loc Cert.OfwdReferenceIdeal.main_arg1)) (m ((c.tc : Thread Cert.OfwdReferenceIdeal.nD Cert.OfwdReferenceIdeal.τ).loc Cert.OfwdReferenceIdeal.main_arg2)) (m ((c.tc : Thread Cert.OfwdReferenceIdeal.nD Cert.OfwdReferenceIdeal.τ).loc Cert.OfwdReferenceIdeal.main_arg3)) (m ((c.tc : Thread Cert.OfwdReferenceIdeal.nD Cert.OfwdReferenceIdeal.τ).loc Cert.OfwdReferenceIdeal.main_arg4))).1 = (fun _ => 1#1)
    ∧ (Cert.Pre_ofwd_finite.fn (F := Ideal) (m ((c.tc : Thread Cert.OfwdReferenceIdeal.nD Cert.OfwdReferenceIdeal.τ).loc Cert.OfwdReferenceIdeal.main_arg0)) (m ((c.tc : Thread Cert.OfwdReferenceIdeal.nD Cert.OfwdReferenceIdeal.τ).loc Cert.OfwdReferenceIdeal.main_arg1)) (m ((c.tc : Thread Cert.OfwdReferenceIdeal.nD Cert.OfwdReferenceIdeal.τ).loc Cert.OfwdReferenceIdeal.main_arg2)) (m ((c.tc : Thread Cert.OfwdReferenceIdeal.nD Cert.OfwdReferenceIdeal.τ).loc Cert.OfwdReferenceIdeal.main_arg3)) (m ((c.tc : Thread Cert.OfwdReferenceIdeal.nD Cert.OfwdReferenceIdeal.τ).loc Cert.OfwdReferenceIdeal.main_arg4))).2.1 = (fun _ => 1#1)
    ∧ (Cert.Pre_ofwd_finite.fn (F := Ideal) (m ((c.tc : Thread Cert.OfwdReferenceIdeal.nD Cert.OfwdReferenceIdeal.τ).loc Cert.OfwdReferenceIdeal.main_arg0)) (m ((c.tc : Thread Cert.OfwdReferenceIdeal.nD Cert.OfwdReferenceIdeal.τ).loc Cert.OfwdReferenceIdeal.main_arg1)) (m ((c.tc : Thread Cert.OfwdReferenceIdeal.nD Cert.OfwdReferenceIdeal.τ).loc Cert.OfwdReferenceIdeal.main_arg2)) (m ((c.tc : Thread Cert.OfwdReferenceIdeal.nD Cert.OfwdReferenceIdeal.τ).loc Cert.OfwdReferenceIdeal.main_arg3)) (m ((c.tc : Thread Cert.OfwdReferenceIdeal.nD Cert.OfwdReferenceIdeal.τ).loc Cert.OfwdReferenceIdeal.main_arg4))).2.2.1 = (fun _ => 1#1)
    ∧ (Cert.Pre_ofwd_finite.fn (F := Ideal) (m ((c.tc : Thread Cert.OfwdReferenceIdeal.nD Cert.OfwdReferenceIdeal.τ).loc Cert.OfwdReferenceIdeal.main_arg0)) (m ((c.tc : Thread Cert.OfwdReferenceIdeal.nD Cert.OfwdReferenceIdeal.τ).loc Cert.OfwdReferenceIdeal.main_arg1)) (m ((c.tc : Thread Cert.OfwdReferenceIdeal.nD Cert.OfwdReferenceIdeal.τ).loc Cert.OfwdReferenceIdeal.main_arg2)) (m ((c.tc : Thread Cert.OfwdReferenceIdeal.nD Cert.OfwdReferenceIdeal.τ).loc Cert.OfwdReferenceIdeal.main_arg3)) (m ((c.tc : Thread Cert.OfwdReferenceIdeal.nD Cert.OfwdReferenceIdeal.τ).loc Cert.OfwdReferenceIdeal.main_arg4))).2.2.2.1 = (fun _ => 1#1)
    ∧ (Cert.Pre_ofwd_finite.fn (F := Ideal) (m ((c.tc : Thread Cert.OfwdReferenceIdeal.nD Cert.OfwdReferenceIdeal.τ).loc Cert.OfwdReferenceIdeal.main_arg0)) (m ((c.tc : Thread Cert.OfwdReferenceIdeal.nD Cert.OfwdReferenceIdeal.τ).loc Cert.OfwdReferenceIdeal.main_arg1)) (m ((c.tc : Thread Cert.OfwdReferenceIdeal.nD Cert.OfwdReferenceIdeal.τ).loc Cert.OfwdReferenceIdeal.main_arg2)) (m ((c.tc : Thread Cert.OfwdReferenceIdeal.nD Cert.OfwdReferenceIdeal.τ).loc Cert.OfwdReferenceIdeal.main_arg3)) (m ((c.tc : Thread Cert.OfwdReferenceIdeal.nD Cert.OfwdReferenceIdeal.τ).loc Cert.OfwdReferenceIdeal.main_arg4))).2.2.2.2 = (fun _ => 1#1)

def Pre_MfwdKernel (m : (ℓ : Loc Cert.MfwdKernel.nD Cert.MfwdKernel.τ Cert.MfwdKernel.sig) → Buf (Elt Bits) ℓ) : Prop :=
  True

def Pre_MfwdKernelIdeal (m : (ℓ : Loc Cert.MfwdKernelIdeal.nD Cert.MfwdKernelIdeal.τ Cert.MfwdKernelIdeal.sig) → Buf (Elt Ideal) ℓ) : Prop :=
  True

def Pre_MfwdKernelIdeal_mfwd_finite [hPre_mfwd_finite : Cert.Pre_mfwd_finite.Facts] (m : (ℓ : Loc Cert.MfwdKernelIdeal.nD Cert.MfwdKernelIdeal.τ Cert.MfwdKernelIdeal.sig) → Buf (Elt Ideal) ℓ) : Prop :=
  ∀ c : Dev Cert.MfwdKernelIdeal.nD,
    (Cert.Pre_mfwd_finite.fn (F := Ideal) (m ((c.tc : Thread Cert.MfwdKernelIdeal.nD Cert.MfwdKernelIdeal.τ).loc Cert.MfwdKernelIdeal.main_arg0)) (m ((c.tc : Thread Cert.MfwdKernelIdeal.nD Cert.MfwdKernelIdeal.τ).loc Cert.MfwdKernelIdeal.main_arg1)) (m ((c.tc : Thread Cert.MfwdKernelIdeal.nD Cert.MfwdKernelIdeal.τ).loc Cert.MfwdKernelIdeal.main_arg2))).1 = (fun _ => 1#1)
    ∧ (Cert.Pre_mfwd_finite.fn (F := Ideal) (m ((c.tc : Thread Cert.MfwdKernelIdeal.nD Cert.MfwdKernelIdeal.τ).loc Cert.MfwdKernelIdeal.main_arg0)) (m ((c.tc : Thread Cert.MfwdKernelIdeal.nD Cert.MfwdKernelIdeal.τ).loc Cert.MfwdKernelIdeal.main_arg1)) (m ((c.tc : Thread Cert.MfwdKernelIdeal.nD Cert.MfwdKernelIdeal.τ).loc Cert.MfwdKernelIdeal.main_arg2))).2.1 = (fun _ => 1#1)
    ∧ (Cert.Pre_mfwd_finite.fn (F := Ideal) (m ((c.tc : Thread Cert.MfwdKernelIdeal.nD Cert.MfwdKernelIdeal.τ).loc Cert.MfwdKernelIdeal.main_arg0)) (m ((c.tc : Thread Cert.MfwdKernelIdeal.nD Cert.MfwdKernelIdeal.τ).loc Cert.MfwdKernelIdeal.main_arg1)) (m ((c.tc : Thread Cert.MfwdKernelIdeal.nD Cert.MfwdKernelIdeal.τ).loc Cert.MfwdKernelIdeal.main_arg2))).2.2 = (fun _ => 1#1)

def Pre_MfwdReferenceIdeal (m : (ℓ : Loc Cert.MfwdReferenceIdeal.nD Cert.MfwdReferenceIdeal.τ Cert.MfwdReferenceIdeal.sig) → Buf (Elt Ideal) ℓ) : Prop :=
  True

def Pre_MfwdReferenceIdeal_mfwd_finite [hPre_mfwd_finite : Cert.Pre_mfwd_finite.Facts] (m : (ℓ : Loc Cert.MfwdReferenceIdeal.nD Cert.MfwdReferenceIdeal.τ Cert.MfwdReferenceIdeal.sig) → Buf (Elt Ideal) ℓ) : Prop :=
  ∀ c : Dev Cert.MfwdReferenceIdeal.nD,
    (Cert.Pre_mfwd_finite.fn (F := Ideal) (m ((c.tc : Thread Cert.MfwdReferenceIdeal.nD Cert.MfwdReferenceIdeal.τ).loc Cert.MfwdReferenceIdeal.main_arg0)) (m ((c.tc : Thread Cert.MfwdReferenceIdeal.nD Cert.MfwdReferenceIdeal.τ).loc Cert.MfwdReferenceIdeal.main_arg1)) (m ((c.tc : Thread Cert.MfwdReferenceIdeal.nD Cert.MfwdReferenceIdeal.τ).loc Cert.MfwdReferenceIdeal.main_arg2))).1 = (fun _ => 1#1)
    ∧ (Cert.Pre_mfwd_finite.fn (F := Ideal) (m ((c.tc : Thread Cert.MfwdReferenceIdeal.nD Cert.MfwdReferenceIdeal.τ).loc Cert.MfwdReferenceIdeal.main_arg0)) (m ((c.tc : Thread Cert.MfwdReferenceIdeal.nD Cert.MfwdReferenceIdeal.τ).loc Cert.MfwdReferenceIdeal.main_arg1)) (m ((c.tc : Thread Cert.MfwdReferenceIdeal.nD Cert.MfwdReferenceIdeal.τ).loc Cert.MfwdReferenceIdeal.main_arg2))).2.1 = (fun _ => 1#1)
    ∧ (Cert.Pre_mfwd_finite.fn (F := Ideal) (m ((c.tc : Thread Cert.MfwdReferenceIdeal.nD Cert.MfwdReferenceIdeal.τ).loc Cert.MfwdReferenceIdeal.main_arg0)) (m ((c.tc : Thread Cert.MfwdReferenceIdeal.nD Cert.MfwdReferenceIdeal.τ).loc Cert.MfwdReferenceIdeal.main_arg1)) (m ((c.tc : Thread Cert.MfwdReferenceIdeal.nD Cert.MfwdReferenceIdeal.τ).loc Cert.MfwdReferenceIdeal.main_arg2))).2.2 = (fun _ => 1#1)

def Pre_GfwdKernel (m : (ℓ : Loc Cert.GfwdKernel.nD Cert.GfwdKernel.τ Cert.GfwdKernel.sig) → Buf (Elt Bits) ℓ) : Prop :=
  True

def Pre_GfwdKernelIdeal (m : (ℓ : Loc Cert.GfwdKernelIdeal.nD Cert.GfwdKernelIdeal.τ Cert.GfwdKernelIdeal.sig) → Buf (Elt Ideal) ℓ) : Prop :=
  True

def Pre_GfwdKernelIdeal_gfwd_finite [hPre_gfwd_finite : Cert.Pre_gfwd_finite.Facts] (m : (ℓ : Loc Cert.GfwdKernelIdeal.nD Cert.GfwdKernelIdeal.τ Cert.GfwdKernelIdeal.sig) → Buf (Elt Ideal) ℓ) : Prop :=
  ∀ c : Dev Cert.GfwdKernelIdeal.nD,
    (Cert.Pre_gfwd_finite.fn (F := Ideal) (m ((c.tc : Thread Cert.GfwdKernelIdeal.nD Cert.GfwdKernelIdeal.τ).loc Cert.GfwdKernelIdeal.main_arg0)) (m ((c.tc : Thread Cert.GfwdKernelIdeal.nD Cert.GfwdKernelIdeal.τ).loc Cert.GfwdKernelIdeal.main_arg1))).1 = (fun _ => 1#1)
    ∧ (Cert.Pre_gfwd_finite.fn (F := Ideal) (m ((c.tc : Thread Cert.GfwdKernelIdeal.nD Cert.GfwdKernelIdeal.τ).loc Cert.GfwdKernelIdeal.main_arg0)) (m ((c.tc : Thread Cert.GfwdKernelIdeal.nD Cert.GfwdKernelIdeal.τ).loc Cert.GfwdKernelIdeal.main_arg1))).2 = (fun _ => 1#1)

def Pre_GfwdReferenceIdeal (m : (ℓ : Loc Cert.GfwdReferenceIdeal.nD Cert.GfwdReferenceIdeal.τ Cert.GfwdReferenceIdeal.sig) → Buf (Elt Ideal) ℓ) : Prop :=
  True

def Pre_GfwdReferenceIdeal_gfwd_finite [hPre_gfwd_finite : Cert.Pre_gfwd_finite.Facts] (m : (ℓ : Loc Cert.GfwdReferenceIdeal.nD Cert.GfwdReferenceIdeal.τ Cert.GfwdReferenceIdeal.sig) → Buf (Elt Ideal) ℓ) : Prop :=
  ∀ c : Dev Cert.GfwdReferenceIdeal.nD,
    (Cert.Pre_gfwd_finite.fn (F := Ideal) (m ((c.tc : Thread Cert.GfwdReferenceIdeal.nD Cert.GfwdReferenceIdeal.τ).loc Cert.GfwdReferenceIdeal.main_arg0)) (m ((c.tc : Thread Cert.GfwdReferenceIdeal.nD Cert.GfwdReferenceIdeal.τ).loc Cert.GfwdReferenceIdeal.main_arg1))).1 = (fun _ => 1#1)
    ∧ (Cert.Pre_gfwd_finite.fn (F := Ideal) (m ((c.tc : Thread Cert.GfwdReferenceIdeal.nD Cert.GfwdReferenceIdeal.τ).loc Cert.GfwdReferenceIdeal.main_arg0)) (m ((c.tc : Thread Cert.GfwdReferenceIdeal.nD Cert.GfwdReferenceIdeal.τ).loc Cert.GfwdReferenceIdeal.main_arg1))).2 = (fun _ => 1#1)

def Pre_CfwdKernel (m : (ℓ : Loc Cert.CfwdKernel.nD Cert.CfwdKernel.τ Cert.CfwdKernel.sig) → Buf (Elt Bits) ℓ) : Prop :=
  True

def Pre_CfwdKernelIdeal (m : (ℓ : Loc Cert.CfwdKernelIdeal.nD Cert.CfwdKernelIdeal.τ Cert.CfwdKernelIdeal.sig) → Buf (Elt Ideal) ℓ) : Prop :=
  True

def Pre_CfwdReferenceIdeal (m : (ℓ : Loc Cert.CfwdReferenceIdeal.nD Cert.CfwdReferenceIdeal.τ Cert.CfwdReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_SsumKernel (m : (ℓ : Loc Cert.SsumKernel.nD Cert.SsumKernel.τ Cert.SsumKernel.sig) → Buf (Elt Bits) ℓ) : Prop :=
  True

def Pre_SsumKernelIdeal (m : (ℓ : Loc Cert.SsumKernelIdeal.nD Cert.SsumKernelIdeal.τ Cert.SsumKernelIdeal.sig) → Buf (Elt Ideal) ℓ) : Prop :=
  True

def Pre_SsumReferenceIdeal (m : (ℓ : Loc Cert.SsumReferenceIdeal.nD Cert.SsumReferenceIdeal.τ Cert.SsumReferenceIdeal.sig) → Buf (Elt Ideal) ℓ) : Prop :=
  True

def Pre_FupKernel (m : (ℓ : Loc Cert.FupKernel.nD Cert.FupKernel.τ Cert.FupKernel.sig) → Buf (Elt Bits) ℓ) : Prop :=
  True

def Pre_FupKernelIdeal (m : (ℓ : Loc Cert.FupKernelIdeal.nD Cert.FupKernelIdeal.τ Cert.FupKernelIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_FfwKernel (m : (ℓ : Loc Cert.FfwKernel.nD Cert.FfwKernel.τ Cert.FfwKernel.sig) → Buf (Elt Bits) ℓ) : Prop :=
  True

def Pre_FfwKernelIdeal (m : (ℓ : Loc Cert.FfwKernelIdeal.nD Cert.FfwKernelIdeal.τ Cert.FfwKernelIdeal.sig) → Buf (Elt Ideal) ℓ) : Prop :=
  True

def Pre_FfwReferenceIdeal (m : (ℓ : Loc Cert.FfwReferenceIdeal.nD Cert.FfwReferenceIdeal.τ Cert.FfwReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ r.2.sem = fun _ => 0)

def quiescent_GatesKernelIdeal_pre_gates_finite [hGatesKernelIdeal : Cert.GatesKernelIdeal.Facts] [hPre_gates_finite : Cert.Pre_gates_finite.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal_gates_finite m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_GatesReferenceIdeal_pre_gates_finite [hGatesReferenceIdeal : Cert.GatesReferenceIdeal.Facts] [hPre_gates_finite : Cert.Pre_gates_finite.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal_gates_finite m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_AfwdKernel [hAfwdKernel : Cert.AfwdKernel.Facts] : Prop :=
  ∀ (m : (ℓ : Loc Cert.AfwdKernel.nD Cert.AfwdKernel.τ Cert.AfwdKernel.sig) → Buf (Elt Bits) ℓ) (g : Dev Cert.AfwdKernel.nD → PrngReg), Pre_AfwdKernel m →
    θ_run (Cert.AfwdKernel.defs (F := Bits)) (onTc (τ := Cert.AfwdKernel.τ) (Cert.AfwdKernel.main (F := Bits))) ⟨m, fun _ => 0, g⟩ (fun r => (∀ c : Dev Cert.AfwdKernel.nD,
      r.2.mem ((c.tc : Thread Cert.AfwdKernel.nD Cert.AfwdKernel.τ).loc Cert.AfwdKernel.main_arg0) = m ((c.tc : Thread Cert.AfwdKernel.nD Cert.AfwdKernel.τ).loc Cert.AfwdKernel.main_arg0)
      ∧ r.2.mem ((c.tc : Thread Cert.AfwdKernel.nD Cert.AfwdKernel.τ).loc Cert.AfwdKernel.main_arg1) = m ((c.tc : Thread Cert.AfwdKernel.nD Cert.AfwdKernel.τ).loc Cert.AfwdKernel.main_arg1))
      ∧ r.2.sem = fun _ => 0)

def quiescent_AfwdKernelIdeal [hAfwdKernelIdeal : Cert.AfwdKernelIdeal.Facts] : Prop :=
  ∀ (m : (ℓ : Loc Cert.AfwdKernelIdeal.nD Cert.AfwdKernelIdeal.τ Cert.AfwdKernelIdeal.sig) → Buf (Elt Ideal) ℓ) (g : Dev Cert.AfwdKernelIdeal.nD → PrngReg), Pre_AfwdKernelIdeal m →
    θ_run (Cert.AfwdKernelIdeal.defs (F := Ideal)) (onTc (τ := Cert.AfwdKernelIdeal.τ) (Cert.AfwdKernelIdeal.main (F := Ideal))) ⟨m, fun _ => 0, g⟩ (fun r => (∀ c : Dev Cert.AfwdKernelIdeal.nD,
      r.2.mem ((c.tc : Thread Cert.AfwdKernelIdeal.nD Cert.AfwdKernelIdeal.τ).loc Cert.AfwdKernelIdeal.main_arg0) = m ((c.tc : Thread Cert.AfwdKernelIdeal.nD Cert.AfwdKernelIdeal.τ).loc Cert.AfwdKernelIdeal.main_arg0)
      ∧ r.2.mem ((c.tc : Thread Cert.AfwdKernelIdeal.nD Cert.AfwdKernelIdeal.τ).loc Cert.AfwdKernelIdeal.main_arg1) = m ((c.tc : Thread Cert.AfwdKernelIdeal.nD Cert.AfwdKernelIdeal.τ).loc Cert.AfwdKernelIdeal.main_arg1))
      ∧ r.2.sem = fun _ => 0)

def quiescent_AfwdKernelIdeal_pre_afwd_finite [hAfwdKernelIdeal : Cert.AfwdKernelIdeal.Facts] [hPre_afwd_finite : Cert.Pre_afwd_finite.Facts] : Prop :=
  ∀ (m : (ℓ : Loc Cert.AfwdKernelIdeal.nD Cert.AfwdKernelIdeal.τ Cert.AfwdKernelIdeal.sig) → Buf (Elt Ideal) ℓ) (g : Dev Cert.AfwdKernelIdeal.nD → PrngReg), Pre_AfwdKernelIdeal_afwd_finite m →
    θ_run (Cert.AfwdKernelIdeal.defs (F := Ideal)) (onTc (τ := Cert.AfwdKernelIdeal.τ) (Cert.AfwdKernelIdeal.main (F := Ideal))) ⟨m, fun _ => 0, g⟩ (fun r => (∀ c : Dev Cert.AfwdKernelIdeal.nD,
      r.2.mem ((c.tc : Thread Cert.AfwdKernelIdeal.nD Cert.AfwdKernelIdeal.τ).loc Cert.AfwdKernelIdeal.main_arg0) = m ((c.tc : Thread Cert.AfwdKernelIdeal.nD Cert.AfwdKernelIdeal.τ).loc Cert.AfwdKernelIdeal.main_arg0)
      ∧ r.2.mem ((c.tc : Thread Cert.AfwdKernelIdeal.nD Cert.AfwdKernelIdeal.τ).loc Cert.AfwdKernelIdeal.main_arg1) = m ((c.tc : Thread Cert.AfwdKernelIdeal.nD Cert.AfwdKernelIdeal.τ).loc Cert.AfwdKernelIdeal.main_arg1))
      ∧ r.2.sem = fun _ => 0)

def quiescent_AfwdReferenceIdeal [hAfwdReferenceIdeal : Cert.AfwdReferenceIdeal.Facts] : Prop :=
  ∀ (m : (ℓ : Loc Cert.AfwdReferenceIdeal.nD Cert.AfwdReferenceIdeal.τ Cert.AfwdReferenceIdeal.sig) → Buf (Elt Ideal) ℓ) (g : Dev Cert.AfwdReferenceIdeal.nD → PrngReg), Pre_AfwdReferenceIdeal m →
    θ_run (Cert.AfwdReferenceIdeal.defs (F := Ideal)) (onTc (τ := Cert.AfwdReferenceIdeal.τ) (Cert.AfwdReferenceIdeal.main (F := Ideal))) ⟨m, fun _ => 0, g⟩ (fun r => (∀ c : Dev Cert.AfwdReferenceIdeal.nD,
      r.2.mem ((c.tc : Thread Cert.AfwdReferenceIdeal.nD Cert.AfwdReferenceIdeal.τ).loc Cert.AfwdReferenceIdeal.main_arg0) = m ((c.tc : Thread Cert.AfwdReferenceIdeal.nD Cert.AfwdReferenceIdeal.τ).loc Cert.AfwdReferenceIdeal.main_arg0)
      ∧ r.2.mem ((c.tc : Thread Cert.AfwdReferenceIdeal.nD Cert.AfwdReferenceIdeal.τ).loc Cert.AfwdReferenceIdeal.main_arg1) = m ((c.tc : Thread Cert.AfwdReferenceIdeal.nD Cert.AfwdReferenceIdeal.τ).loc Cert.AfwdReferenceIdeal.main_arg1))
      ∧ r.2.sem = fun _ => 0)

def quiescent_AfwdReferenceIdeal_pre_afwd_finite [hAfwdReferenceIdeal : Cert.AfwdReferenceIdeal.Facts] [hPre_afwd_finite : Cert.Pre_afwd_finite.Facts] : Prop :=
  ∀ (m : (ℓ : Loc Cert.AfwdReferenceIdeal.nD Cert.AfwdReferenceIdeal.τ Cert.AfwdReferenceIdeal.sig) → Buf (Elt Ideal) ℓ) (g : Dev Cert.AfwdReferenceIdeal.nD → PrngReg), Pre_AfwdReferenceIdeal_afwd_finite m →
    θ_run (Cert.AfwdReferenceIdeal.defs (F := Ideal)) (onTc (τ := Cert.AfwdReferenceIdeal.τ) (Cert.AfwdReferenceIdeal.main (F := Ideal))) ⟨m, fun _ => 0, g⟩ (fun r => (∀ c : Dev Cert.AfwdReferenceIdeal.nD,
      r.2.mem ((c.tc : Thread Cert.AfwdReferenceIdeal.nD Cert.AfwdReferenceIdeal.τ).loc Cert.AfwdReferenceIdeal.main_arg0) = m ((c.tc : Thread Cert.AfwdReferenceIdeal.nD Cert.AfwdReferenceIdeal.τ).loc Cert.AfwdReferenceIdeal.main_arg0)
      ∧ r.2.mem ((c.tc : Thread Cert.AfwdReferenceIdeal.nD Cert.AfwdReferenceIdeal.τ).loc Cert.AfwdReferenceIdeal.main_arg1) = m ((c.tc : Thread Cert.AfwdReferenceIdeal.nD Cert.AfwdReferenceIdeal.τ).loc Cert.AfwdReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_OfwdKernel [hOfwdKernel : Cert.OfwdKernel.Facts] : Prop :=
  ∀ (m : (ℓ : Loc Cert.OfwdKernel.nD Cert.OfwdKernel.τ Cert.OfwdKernel.sig) → Buf (Elt Bits) ℓ) (g : Dev Cert.OfwdKernel.nD → PrngReg), Pre_OfwdKernel m →
    θ_run (Cert.OfwdKernel.defs (F := Bits)) (onTc (τ := Cert.OfwdKernel.τ) (Cert.OfwdKernel.main (F := Bits))) ⟨m, fun _ => 0, g⟩ (fun r => (∀ c : Dev Cert.OfwdKernel.nD,
      r.2.mem ((c.tc : Thread Cert.OfwdKernel.nD Cert.OfwdKernel.τ).loc Cert.OfwdKernel.main_arg0) = m ((c.tc : Thread Cert.OfwdKernel.nD Cert.OfwdKernel.τ).loc Cert.OfwdKernel.main_arg0)
      ∧ r.2.mem ((c.tc : Thread Cert.OfwdKernel.nD Cert.OfwdKernel.τ).loc Cert.OfwdKernel.main_arg1) = m ((c.tc : Thread Cert.OfwdKernel.nD Cert.OfwdKernel.τ).loc Cert.OfwdKernel.main_arg1)
      ∧ r.2.mem ((c.tc : Thread Cert.OfwdKernel.nD Cert.OfwdKernel.τ).loc Cert.OfwdKernel.main_arg2) = m ((c.tc : Thread Cert.OfwdKernel.nD Cert.OfwdKernel.τ).loc Cert.OfwdKernel.main_arg2)
      ∧ r.2.mem ((c.tc : Thread Cert.OfwdKernel.nD Cert.OfwdKernel.τ).loc Cert.OfwdKernel.main_arg3) = m ((c.tc : Thread Cert.OfwdKernel.nD Cert.OfwdKernel.τ).loc Cert.OfwdKernel.main_arg3)
      ∧ r.2.mem ((c.tc : Thread Cert.OfwdKernel.nD Cert.OfwdKernel.τ).loc Cert.OfwdKernel.main_arg4) = m ((c.tc : Thread Cert.OfwdKernel.nD Cert.OfwdKernel.τ).loc Cert.OfwdKernel.main_arg4))
      ∧ r.2.sem = fun _ => 0)

def quiescent_OfwdKernelIdeal [hOfwdKernelIdeal : Cert.OfwdKernelIdeal.Facts] : Prop :=
  ∀ (m : (ℓ : Loc Cert.OfwdKernelIdeal.nD Cert.OfwdKernelIdeal.τ Cert.OfwdKernelIdeal.sig) → Buf (Elt Ideal) ℓ) (g : Dev Cert.OfwdKernelIdeal.nD → PrngReg), Pre_OfwdKernelIdeal m →
    θ_run (Cert.OfwdKernelIdeal.defs (F := Ideal)) (onTc (τ := Cert.OfwdKernelIdeal.τ) (Cert.OfwdKernelIdeal.main (F := Ideal))) ⟨m, fun _ => 0, g⟩ (fun r => (∀ c : Dev Cert.OfwdKernelIdeal.nD,
      r.2.mem ((c.tc : Thread Cert.OfwdKernelIdeal.nD Cert.OfwdKernelIdeal.τ).loc Cert.OfwdKernelIdeal.main_arg0) = m ((c.tc : Thread Cert.OfwdKernelIdeal.nD Cert.OfwdKernelIdeal.τ).loc Cert.OfwdKernelIdeal.main_arg0)
      ∧ r.2.mem ((c.tc : Thread Cert.OfwdKernelIdeal.nD Cert.OfwdKernelIdeal.τ).loc Cert.OfwdKernelIdeal.main_arg1) = m ((c.tc : Thread Cert.OfwdKernelIdeal.nD Cert.OfwdKernelIdeal.τ).loc Cert.OfwdKernelIdeal.main_arg1)
      ∧ r.2.mem ((c.tc : Thread Cert.OfwdKernelIdeal.nD Cert.OfwdKernelIdeal.τ).loc Cert.OfwdKernelIdeal.main_arg2) = m ((c.tc : Thread Cert.OfwdKernelIdeal.nD Cert.OfwdKernelIdeal.τ).loc Cert.OfwdKernelIdeal.main_arg2)
      ∧ r.2.mem ((c.tc : Thread Cert.OfwdKernelIdeal.nD Cert.OfwdKernelIdeal.τ).loc Cert.OfwdKernelIdeal.main_arg3) = m ((c.tc : Thread Cert.OfwdKernelIdeal.nD Cert.OfwdKernelIdeal.τ).loc Cert.OfwdKernelIdeal.main_arg3)
      ∧ r.2.mem ((c.tc : Thread Cert.OfwdKernelIdeal.nD Cert.OfwdKernelIdeal.τ).loc Cert.OfwdKernelIdeal.main_arg4) = m ((c.tc : Thread Cert.OfwdKernelIdeal.nD Cert.OfwdKernelIdeal.τ).loc Cert.OfwdKernelIdeal.main_arg4))
      ∧ r.2.sem = fun _ => 0)

def quiescent_OfwdKernelIdeal_pre_ofwd_finite [hOfwdKernelIdeal : Cert.OfwdKernelIdeal.Facts] [hPre_ofwd_finite : Cert.Pre_ofwd_finite.Facts] : Prop :=
  ∀ (m : (ℓ : Loc Cert.OfwdKernelIdeal.nD Cert.OfwdKernelIdeal.τ Cert.OfwdKernelIdeal.sig) → Buf (Elt Ideal) ℓ) (g : Dev Cert.OfwdKernelIdeal.nD → PrngReg), Pre_OfwdKernelIdeal_ofwd_finite m →
    θ_run (Cert.OfwdKernelIdeal.defs (F := Ideal)) (onTc (τ := Cert.OfwdKernelIdeal.τ) (Cert.OfwdKernelIdeal.main (F := Ideal))) ⟨m, fun _ => 0, g⟩ (fun r => (∀ c : Dev Cert.OfwdKernelIdeal.nD,
      r.2.mem ((c.tc : Thread Cert.OfwdKernelIdeal.nD Cert.OfwdKernelIdeal.τ).loc Cert.OfwdKernelIdeal.main_arg0) = m ((c.tc : Thread Cert.OfwdKernelIdeal.nD Cert.OfwdKernelIdeal.τ).loc Cert.OfwdKernelIdeal.main_arg0)
      ∧ r.2.mem ((c.tc : Thread Cert.OfwdKernelIdeal.nD Cert.OfwdKernelIdeal.τ).loc Cert.OfwdKernelIdeal.main_arg1) = m ((c.tc : Thread Cert.OfwdKernelIdeal.nD Cert.OfwdKernelIdeal.τ).loc Cert.OfwdKernelIdeal.main_arg1)
      ∧ r.2.mem ((c.tc : Thread Cert.OfwdKernelIdeal.nD Cert.OfwdKernelIdeal.τ).loc Cert.OfwdKernelIdeal.main_arg2) = m ((c.tc : Thread Cert.OfwdKernelIdeal.nD Cert.OfwdKernelIdeal.τ).loc Cert.OfwdKernelIdeal.main_arg2)
      ∧ r.2.mem ((c.tc : Thread Cert.OfwdKernelIdeal.nD Cert.OfwdKernelIdeal.τ).loc Cert.OfwdKernelIdeal.main_arg3) = m ((c.tc : Thread Cert.OfwdKernelIdeal.nD Cert.OfwdKernelIdeal.τ).loc Cert.OfwdKernelIdeal.main_arg3)
      ∧ r.2.mem ((c.tc : Thread Cert.OfwdKernelIdeal.nD Cert.OfwdKernelIdeal.τ).loc Cert.OfwdKernelIdeal.main_arg4) = m ((c.tc : Thread Cert.OfwdKernelIdeal.nD Cert.OfwdKernelIdeal.τ).loc Cert.OfwdKernelIdeal.main_arg4))
      ∧ r.2.sem = fun _ => 0)

def quiescent_OfwdReferenceIdeal [hOfwdReferenceIdeal : Cert.OfwdReferenceIdeal.Facts] : Prop :=
  ∀ (m : (ℓ : Loc Cert.OfwdReferenceIdeal.nD Cert.OfwdReferenceIdeal.τ Cert.OfwdReferenceIdeal.sig) → Buf (Elt Ideal) ℓ) (g : Dev Cert.OfwdReferenceIdeal.nD → PrngReg), Pre_OfwdReferenceIdeal m →
    θ_run (Cert.OfwdReferenceIdeal.defs (F := Ideal)) (onTc (τ := Cert.OfwdReferenceIdeal.τ) (Cert.OfwdReferenceIdeal.main (F := Ideal))) ⟨m, fun _ => 0, g⟩ (fun r => (∀ c : Dev Cert.OfwdReferenceIdeal.nD,
      r.2.mem ((c.tc : Thread Cert.OfwdReferenceIdeal.nD Cert.OfwdReferenceIdeal.τ).loc Cert.OfwdReferenceIdeal.main_arg0) = m ((c.tc : Thread Cert.OfwdReferenceIdeal.nD Cert.OfwdReferenceIdeal.τ).loc Cert.OfwdReferenceIdeal.main_arg0)
      ∧ r.2.mem ((c.tc : Thread Cert.OfwdReferenceIdeal.nD Cert.OfwdReferenceIdeal.τ).loc Cert.OfwdReferenceIdeal.main_arg1) = m ((c.tc : Thread Cert.OfwdReferenceIdeal.nD Cert.OfwdReferenceIdeal.τ).loc Cert.OfwdReferenceIdeal.main_arg1)
      ∧ r.2.mem ((c.tc : Thread Cert.OfwdReferenceIdeal.nD Cert.OfwdReferenceIdeal.τ).loc Cert.OfwdReferenceIdeal.main_arg2) = m ((c.tc : Thread Cert.OfwdReferenceIdeal.nD Cert.OfwdReferenceIdeal.τ).loc Cert.OfwdReferenceIdeal.main_arg2)
      ∧ r.2.mem ((c.tc : Thread Cert.OfwdReferenceIdeal.nD Cert.OfwdReferenceIdeal.τ).loc Cert.OfwdReferenceIdeal.main_arg3) = m ((c.tc : Thread Cert.OfwdReferenceIdeal.nD Cert.OfwdReferenceIdeal.τ).loc Cert.OfwdReferenceIdeal.main_arg3)
      ∧ r.2.mem ((c.tc : Thread Cert.OfwdReferenceIdeal.nD Cert.OfwdReferenceIdeal.τ).loc Cert.OfwdReferenceIdeal.main_arg4) = m ((c.tc : Thread Cert.OfwdReferenceIdeal.nD Cert.OfwdReferenceIdeal.τ).loc Cert.OfwdReferenceIdeal.main_arg4))
      ∧ r.2.sem = fun _ => 0)

def quiescent_OfwdReferenceIdeal_pre_ofwd_finite [hOfwdReferenceIdeal : Cert.OfwdReferenceIdeal.Facts] [hPre_ofwd_finite : Cert.Pre_ofwd_finite.Facts] : Prop :=
  ∀ (m : (ℓ : Loc Cert.OfwdReferenceIdeal.nD Cert.OfwdReferenceIdeal.τ Cert.OfwdReferenceIdeal.sig) → Buf (Elt Ideal) ℓ) (g : Dev Cert.OfwdReferenceIdeal.nD → PrngReg), Pre_OfwdReferenceIdeal_ofwd_finite m →
    θ_run (Cert.OfwdReferenceIdeal.defs (F := Ideal)) (onTc (τ := Cert.OfwdReferenceIdeal.τ) (Cert.OfwdReferenceIdeal.main (F := Ideal))) ⟨m, fun _ => 0, g⟩ (fun r => (∀ c : Dev Cert.OfwdReferenceIdeal.nD,
      r.2.mem ((c.tc : Thread Cert.OfwdReferenceIdeal.nD Cert.OfwdReferenceIdeal.τ).loc Cert.OfwdReferenceIdeal.main_arg0) = m ((c.tc : Thread Cert.OfwdReferenceIdeal.nD Cert.OfwdReferenceIdeal.τ).loc Cert.OfwdReferenceIdeal.main_arg0)
      ∧ r.2.mem ((c.tc : Thread Cert.OfwdReferenceIdeal.nD Cert.OfwdReferenceIdeal.τ).loc Cert.OfwdReferenceIdeal.main_arg1) = m ((c.tc : Thread Cert.OfwdReferenceIdeal.nD Cert.OfwdReferenceIdeal.τ).loc Cert.OfwdReferenceIdeal.main_arg1)
      ∧ r.2.mem ((c.tc : Thread Cert.OfwdReferenceIdeal.nD Cert.OfwdReferenceIdeal.τ).loc Cert.OfwdReferenceIdeal.main_arg2) = m ((c.tc : Thread Cert.OfwdReferenceIdeal.nD Cert.OfwdReferenceIdeal.τ).loc Cert.OfwdReferenceIdeal.main_arg2)
      ∧ r.2.mem ((c.tc : Thread Cert.OfwdReferenceIdeal.nD Cert.OfwdReferenceIdeal.τ).loc Cert.OfwdReferenceIdeal.main_arg3) = m ((c.tc : Thread Cert.OfwdReferenceIdeal.nD Cert.OfwdReferenceIdeal.τ).loc Cert.OfwdReferenceIdeal.main_arg3)
      ∧ r.2.mem ((c.tc : Thread Cert.OfwdReferenceIdeal.nD Cert.OfwdReferenceIdeal.τ).loc Cert.OfwdReferenceIdeal.main_arg4) = m ((c.tc : Thread Cert.OfwdReferenceIdeal.nD Cert.OfwdReferenceIdeal.τ).loc Cert.OfwdReferenceIdeal.main_arg4))
      ∧ r.2.sem = fun _ => 0)

def quiescent_MfwdKernel [hMfwdKernel : Cert.MfwdKernel.Facts] : Prop :=
  ∀ (m : (ℓ : Loc Cert.MfwdKernel.nD Cert.MfwdKernel.τ Cert.MfwdKernel.sig) → Buf (Elt Bits) ℓ) (g : Dev Cert.MfwdKernel.nD → PrngReg), Pre_MfwdKernel m →
    θ_run (Cert.MfwdKernel.defs (F := Bits)) (onTc (τ := Cert.MfwdKernel.τ) (Cert.MfwdKernel.main (F := Bits))) ⟨m, fun _ => 0, g⟩ (fun r => (∀ c : Dev Cert.MfwdKernel.nD,
      r.2.mem ((c.tc : Thread Cert.MfwdKernel.nD Cert.MfwdKernel.τ).loc Cert.MfwdKernel.main_arg0) = m ((c.tc : Thread Cert.MfwdKernel.nD Cert.MfwdKernel.τ).loc Cert.MfwdKernel.main_arg0)
      ∧ r.2.mem ((c.tc : Thread Cert.MfwdKernel.nD Cert.MfwdKernel.τ).loc Cert.MfwdKernel.main_arg1) = m ((c.tc : Thread Cert.MfwdKernel.nD Cert.MfwdKernel.τ).loc Cert.MfwdKernel.main_arg1)
      ∧ r.2.mem ((c.tc : Thread Cert.MfwdKernel.nD Cert.MfwdKernel.τ).loc Cert.MfwdKernel.main_arg2) = m ((c.tc : Thread Cert.MfwdKernel.nD Cert.MfwdKernel.τ).loc Cert.MfwdKernel.main_arg2))
      ∧ r.2.sem = fun _ => 0)

def quiescent_MfwdKernelIdeal [hMfwdKernelIdeal : Cert.MfwdKernelIdeal.Facts] : Prop :=
  ∀ (m : (ℓ : Loc Cert.MfwdKernelIdeal.nD Cert.MfwdKernelIdeal.τ Cert.MfwdKernelIdeal.sig) → Buf (Elt Ideal) ℓ) (g : Dev Cert.MfwdKernelIdeal.nD → PrngReg), Pre_MfwdKernelIdeal m →
    θ_run (Cert.MfwdKernelIdeal.defs (F := Ideal)) (onTc (τ := Cert.MfwdKernelIdeal.τ) (Cert.MfwdKernelIdeal.main (F := Ideal))) ⟨m, fun _ => 0, g⟩ (fun r => (∀ c : Dev Cert.MfwdKernelIdeal.nD,
      r.2.mem ((c.tc : Thread Cert.MfwdKernelIdeal.nD Cert.MfwdKernelIdeal.τ).loc Cert.MfwdKernelIdeal.main_arg0) = m ((c.tc : Thread Cert.MfwdKernelIdeal.nD Cert.MfwdKernelIdeal.τ).loc Cert.MfwdKernelIdeal.main_arg0)
      ∧ r.2.mem ((c.tc : Thread Cert.MfwdKernelIdeal.nD Cert.MfwdKernelIdeal.τ).loc Cert.MfwdKernelIdeal.main_arg1) = m ((c.tc : Thread Cert.MfwdKernelIdeal.nD Cert.MfwdKernelIdeal.τ).loc Cert.MfwdKernelIdeal.main_arg1)
      ∧ r.2.mem ((c.tc : Thread Cert.MfwdKernelIdeal.nD Cert.MfwdKernelIdeal.τ).loc Cert.MfwdKernelIdeal.main_arg2) = m ((c.tc : Thread Cert.MfwdKernelIdeal.nD Cert.MfwdKernelIdeal.τ).loc Cert.MfwdKernelIdeal.main_arg2))
      ∧ r.2.sem = fun _ => 0)

def quiescent_MfwdKernelIdeal_pre_mfwd_finite [hMfwdKernelIdeal : Cert.MfwdKernelIdeal.Facts] [hPre_mfwd_finite : Cert.Pre_mfwd_finite.Facts] : Prop :=
  ∀ (m : (ℓ : Loc Cert.MfwdKernelIdeal.nD Cert.MfwdKernelIdeal.τ Cert.MfwdKernelIdeal.sig) → Buf (Elt Ideal) ℓ) (g : Dev Cert.MfwdKernelIdeal.nD → PrngReg), Pre_MfwdKernelIdeal_mfwd_finite m →
    θ_run (Cert.MfwdKernelIdeal.defs (F := Ideal)) (onTc (τ := Cert.MfwdKernelIdeal.τ) (Cert.MfwdKernelIdeal.main (F := Ideal))) ⟨m, fun _ => 0, g⟩ (fun r => (∀ c : Dev Cert.MfwdKernelIdeal.nD,
      r.2.mem ((c.tc : Thread Cert.MfwdKernelIdeal.nD Cert.MfwdKernelIdeal.τ).loc Cert.MfwdKernelIdeal.main_arg0) = m ((c.tc : Thread Cert.MfwdKernelIdeal.nD Cert.MfwdKernelIdeal.τ).loc Cert.MfwdKernelIdeal.main_arg0)
      ∧ r.2.mem ((c.tc : Thread Cert.MfwdKernelIdeal.nD Cert.MfwdKernelIdeal.τ).loc Cert.MfwdKernelIdeal.main_arg1) = m ((c.tc : Thread Cert.MfwdKernelIdeal.nD Cert.MfwdKernelIdeal.τ).loc Cert.MfwdKernelIdeal.main_arg1)
      ∧ r.2.mem ((c.tc : Thread Cert.MfwdKernelIdeal.nD Cert.MfwdKernelIdeal.τ).loc Cert.MfwdKernelIdeal.main_arg2) = m ((c.tc : Thread Cert.MfwdKernelIdeal.nD Cert.MfwdKernelIdeal.τ).loc Cert.MfwdKernelIdeal.main_arg2))
      ∧ r.2.sem = fun _ => 0)

def quiescent_MfwdReferenceIdeal [hMfwdReferenceIdeal : Cert.MfwdReferenceIdeal.Facts] : Prop :=
  ∀ (m : (ℓ : Loc Cert.MfwdReferenceIdeal.nD Cert.MfwdReferenceIdeal.τ Cert.MfwdReferenceIdeal.sig) → Buf (Elt Ideal) ℓ) (g : Dev Cert.MfwdReferenceIdeal.nD → PrngReg), Pre_MfwdReferenceIdeal m →
    θ_run (Cert.MfwdReferenceIdeal.defs (F := Ideal)) (onTc (τ := Cert.MfwdReferenceIdeal.τ) (Cert.MfwdReferenceIdeal.main (F := Ideal))) ⟨m, fun _ => 0, g⟩ (fun r => (∀ c : Dev Cert.MfwdReferenceIdeal.nD,
      r.2.mem ((c.tc : Thread Cert.MfwdReferenceIdeal.nD Cert.MfwdReferenceIdeal.τ).loc Cert.MfwdReferenceIdeal.main_arg0) = m ((c.tc : Thread Cert.MfwdReferenceIdeal.nD Cert.MfwdReferenceIdeal.τ).loc Cert.MfwdReferenceIdeal.main_arg0)
      ∧ r.2.mem ((c.tc : Thread Cert.MfwdReferenceIdeal.nD Cert.MfwdReferenceIdeal.τ).loc Cert.MfwdReferenceIdeal.main_arg1) = m ((c.tc : Thread Cert.MfwdReferenceIdeal.nD Cert.MfwdReferenceIdeal.τ).loc Cert.MfwdReferenceIdeal.main_arg1)
      ∧ r.2.mem ((c.tc : Thread Cert.MfwdReferenceIdeal.nD Cert.MfwdReferenceIdeal.τ).loc Cert.MfwdReferenceIdeal.main_arg2) = m ((c.tc : Thread Cert.MfwdReferenceIdeal.nD Cert.MfwdReferenceIdeal.τ).loc Cert.MfwdReferenceIdeal.main_arg2))
      ∧ r.2.sem = fun _ => 0)

def quiescent_MfwdReferenceIdeal_pre_mfwd_finite [hMfwdReferenceIdeal : Cert.MfwdReferenceIdeal.Facts] [hPre_mfwd_finite : Cert.Pre_mfwd_finite.Facts] : Prop :=
  ∀ (m : (ℓ : Loc Cert.MfwdReferenceIdeal.nD Cert.MfwdReferenceIdeal.τ Cert.MfwdReferenceIdeal.sig) → Buf (Elt Ideal) ℓ) (g : Dev Cert.MfwdReferenceIdeal.nD → PrngReg), Pre_MfwdReferenceIdeal_mfwd_finite m →
    θ_run (Cert.MfwdReferenceIdeal.defs (F := Ideal)) (onTc (τ := Cert.MfwdReferenceIdeal.τ) (Cert.MfwdReferenceIdeal.main (F := Ideal))) ⟨m, fun _ => 0, g⟩ (fun r => (∀ c : Dev Cert.MfwdReferenceIdeal.nD,
      r.2.mem ((c.tc : Thread Cert.MfwdReferenceIdeal.nD Cert.MfwdReferenceIdeal.τ).loc Cert.MfwdReferenceIdeal.main_arg0) = m ((c.tc : Thread Cert.MfwdReferenceIdeal.nD Cert.MfwdReferenceIdeal.τ).loc Cert.MfwdReferenceIdeal.main_arg0)
      ∧ r.2.mem ((c.tc : Thread Cert.MfwdReferenceIdeal.nD Cert.MfwdReferenceIdeal.τ).loc Cert.MfwdReferenceIdeal.main_arg1) = m ((c.tc : Thread Cert.MfwdReferenceIdeal.nD Cert.MfwdReferenceIdeal.τ).loc Cert.MfwdReferenceIdeal.main_arg1)
      ∧ r.2.mem ((c.tc : Thread Cert.MfwdReferenceIdeal.nD Cert.MfwdReferenceIdeal.τ).loc Cert.MfwdReferenceIdeal.main_arg2) = m ((c.tc : Thread Cert.MfwdReferenceIdeal.nD Cert.MfwdReferenceIdeal.τ).loc Cert.MfwdReferenceIdeal.main_arg2))
      ∧ r.2.sem = fun _ => 0)

def quiescent_GfwdKernel [hGfwdKernel : Cert.GfwdKernel.Facts] : Prop :=
  ∀ (m : (ℓ : Loc Cert.GfwdKernel.nD Cert.GfwdKernel.τ Cert.GfwdKernel.sig) → Buf (Elt Bits) ℓ) (g : Dev Cert.GfwdKernel.nD → PrngReg), Pre_GfwdKernel m →
    θ_run (Cert.GfwdKernel.defs (F := Bits)) (onTc (τ := Cert.GfwdKernel.τ) (Cert.GfwdKernel.main (F := Bits))) ⟨m, fun _ => 0, g⟩ (fun r => (∀ c : Dev Cert.GfwdKernel.nD,
      r.2.mem ((c.tc : Thread Cert.GfwdKernel.nD Cert.GfwdKernel.τ).loc Cert.GfwdKernel.main_arg0) = m ((c.tc : Thread Cert.GfwdKernel.nD Cert.GfwdKernel.τ).loc Cert.GfwdKernel.main_arg0)
      ∧ r.2.mem ((c.tc : Thread Cert.GfwdKernel.nD Cert.GfwdKernel.τ).loc Cert.GfwdKernel.main_arg1) = m ((c.tc : Thread Cert.GfwdKernel.nD Cert.GfwdKernel.τ).loc Cert.GfwdKernel.main_arg1))
      ∧ r.2.sem = fun _ => 0)

def quiescent_GfwdKernelIdeal [hGfwdKernelIdeal : Cert.GfwdKernelIdeal.Facts] : Prop :=
  ∀ (m : (ℓ : Loc Cert.GfwdKernelIdeal.nD Cert.GfwdKernelIdeal.τ Cert.GfwdKernelIdeal.sig) → Buf (Elt Ideal) ℓ) (g : Dev Cert.GfwdKernelIdeal.nD → PrngReg), Pre_GfwdKernelIdeal m →
    θ_run (Cert.GfwdKernelIdeal.defs (F := Ideal)) (onTc (τ := Cert.GfwdKernelIdeal.τ) (Cert.GfwdKernelIdeal.main (F := Ideal))) ⟨m, fun _ => 0, g⟩ (fun r => (∀ c : Dev Cert.GfwdKernelIdeal.nD,
      r.2.mem ((c.tc : Thread Cert.GfwdKernelIdeal.nD Cert.GfwdKernelIdeal.τ).loc Cert.GfwdKernelIdeal.main_arg0) = m ((c.tc : Thread Cert.GfwdKernelIdeal.nD Cert.GfwdKernelIdeal.τ).loc Cert.GfwdKernelIdeal.main_arg0)
      ∧ r.2.mem ((c.tc : Thread Cert.GfwdKernelIdeal.nD Cert.GfwdKernelIdeal.τ).loc Cert.GfwdKernelIdeal.main_arg1) = m ((c.tc : Thread Cert.GfwdKernelIdeal.nD Cert.GfwdKernelIdeal.τ).loc Cert.GfwdKernelIdeal.main_arg1))
      ∧ r.2.sem = fun _ => 0)

def quiescent_GfwdKernelIdeal_pre_gfwd_finite [hGfwdKernelIdeal : Cert.GfwdKernelIdeal.Facts] [hPre_gfwd_finite : Cert.Pre_gfwd_finite.Facts] : Prop :=
  ∀ (m : (ℓ : Loc Cert.GfwdKernelIdeal.nD Cert.GfwdKernelIdeal.τ Cert.GfwdKernelIdeal.sig) → Buf (Elt Ideal) ℓ) (g : Dev Cert.GfwdKernelIdeal.nD → PrngReg), Pre_GfwdKernelIdeal_gfwd_finite m →
    θ_run (Cert.GfwdKernelIdeal.defs (F := Ideal)) (onTc (τ := Cert.GfwdKernelIdeal.τ) (Cert.GfwdKernelIdeal.main (F := Ideal))) ⟨m, fun _ => 0, g⟩ (fun r => (∀ c : Dev Cert.GfwdKernelIdeal.nD,
      r.2.mem ((c.tc : Thread Cert.GfwdKernelIdeal.nD Cert.GfwdKernelIdeal.τ).loc Cert.GfwdKernelIdeal.main_arg0) = m ((c.tc : Thread Cert.GfwdKernelIdeal.nD Cert.GfwdKernelIdeal.τ).loc Cert.GfwdKernelIdeal.main_arg0)
      ∧ r.2.mem ((c.tc : Thread Cert.GfwdKernelIdeal.nD Cert.GfwdKernelIdeal.τ).loc Cert.GfwdKernelIdeal.main_arg1) = m ((c.tc : Thread Cert.GfwdKernelIdeal.nD Cert.GfwdKernelIdeal.τ).loc Cert.GfwdKernelIdeal.main_arg1))
      ∧ r.2.sem = fun _ => 0)

def quiescent_GfwdReferenceIdeal [hGfwdReferenceIdeal : Cert.GfwdReferenceIdeal.Facts] : Prop :=
  ∀ (m : (ℓ : Loc Cert.GfwdReferenceIdeal.nD Cert.GfwdReferenceIdeal.τ Cert.GfwdReferenceIdeal.sig) → Buf (Elt Ideal) ℓ) (g : Dev Cert.GfwdReferenceIdeal.nD → PrngReg), Pre_GfwdReferenceIdeal m →
    θ_run (Cert.GfwdReferenceIdeal.defs (F := Ideal)) (onTc (τ := Cert.GfwdReferenceIdeal.τ) (Cert.GfwdReferenceIdeal.main (F := Ideal))) ⟨m, fun _ => 0, g⟩ (fun r => (∀ c : Dev Cert.GfwdReferenceIdeal.nD,
      r.2.mem ((c.tc : Thread Cert.GfwdReferenceIdeal.nD Cert.GfwdReferenceIdeal.τ).loc Cert.GfwdReferenceIdeal.main_arg0) = m ((c.tc : Thread Cert.GfwdReferenceIdeal.nD Cert.GfwdReferenceIdeal.τ).loc Cert.GfwdReferenceIdeal.main_arg0)
      ∧ r.2.mem ((c.tc : Thread Cert.GfwdReferenceIdeal.nD Cert.GfwdReferenceIdeal.τ).loc Cert.GfwdReferenceIdeal.main_arg1) = m ((c.tc : Thread Cert.GfwdReferenceIdeal.nD Cert.GfwdReferenceIdeal.τ).loc Cert.GfwdReferenceIdeal.main_arg1))
      ∧ r.2.sem = fun _ => 0)

def quiescent_GfwdReferenceIdeal_pre_gfwd_finite [hGfwdReferenceIdeal : Cert.GfwdReferenceIdeal.Facts] [hPre_gfwd_finite : Cert.Pre_gfwd_finite.Facts] : Prop :=
  ∀ (m : (ℓ : Loc Cert.GfwdReferenceIdeal.nD Cert.GfwdReferenceIdeal.τ Cert.GfwdReferenceIdeal.sig) → Buf (Elt Ideal) ℓ) (g : Dev Cert.GfwdReferenceIdeal.nD → PrngReg), Pre_GfwdReferenceIdeal_gfwd_finite m →
    θ_run (Cert.GfwdReferenceIdeal.defs (F := Ideal)) (onTc (τ := Cert.GfwdReferenceIdeal.τ) (Cert.GfwdReferenceIdeal.main (F := Ideal))) ⟨m, fun _ => 0, g⟩ (fun r => (∀ c : Dev Cert.GfwdReferenceIdeal.nD,
      r.2.mem ((c.tc : Thread Cert.GfwdReferenceIdeal.nD Cert.GfwdReferenceIdeal.τ).loc Cert.GfwdReferenceIdeal.main_arg0) = m ((c.tc : Thread Cert.GfwdReferenceIdeal.nD Cert.GfwdReferenceIdeal.τ).loc Cert.GfwdReferenceIdeal.main_arg0)
      ∧ r.2.mem ((c.tc : Thread Cert.GfwdReferenceIdeal.nD Cert.GfwdReferenceIdeal.τ).loc Cert.GfwdReferenceIdeal.main_arg1) = m ((c.tc : Thread Cert.GfwdReferenceIdeal.nD Cert.GfwdReferenceIdeal.τ).loc Cert.GfwdReferenceIdeal.main_arg1))
      ∧ r.2.sem = fun _ => 0)

def quiescent_CfwdKernel [hCfwdKernel : Cert.CfwdKernel.Facts] : Prop :=
  ∀ (m : (ℓ : Loc Cert.CfwdKernel.nD Cert.CfwdKernel.τ Cert.CfwdKernel.sig) → Buf (Elt Bits) ℓ) (g : Dev Cert.CfwdKernel.nD → PrngReg), Pre_CfwdKernel m →
    θ_run (Cert.CfwdKernel.defs (F := Bits)) (onTc (τ := Cert.CfwdKernel.τ) (Cert.CfwdKernel.main (F := Bits))) ⟨m, fun _ => 0, g⟩ (fun r => (∀ c : Dev Cert.CfwdKernel.nD,
      r.2.mem ((c.tc : Thread Cert.CfwdKernel.nD Cert.CfwdKernel.τ).loc Cert.CfwdKernel.main_arg0) = m ((c.tc : Thread Cert.CfwdKernel.nD Cert.CfwdKernel.τ).loc Cert.CfwdKernel.main_arg0)
      ∧ r.2.mem ((c.tc : Thread Cert.CfwdKernel.nD Cert.CfwdKernel.τ).loc Cert.CfwdKernel.main_arg1) = m ((c.tc : Thread Cert.CfwdKernel.nD Cert.CfwdKernel.τ).loc Cert.CfwdKernel.main_arg1)
      ∧ r.2.mem ((c.tc : Thread Cert.CfwdKernel.nD Cert.CfwdKernel.τ).loc Cert.CfwdKernel.main_arg2) = m ((c.tc : Thread Cert.CfwdKernel.nD Cert.CfwdKernel.τ).loc Cert.CfwdKernel.main_arg2)
      ∧ r.2.mem ((c.tc : Thread Cert.CfwdKernel.nD Cert.CfwdKernel.τ).loc Cert.CfwdKernel.main_arg3) = m ((c.tc : Thread Cert.CfwdKernel.nD Cert.CfwdKernel.τ).loc Cert.CfwdKernel.main_arg3)
      ∧ r.2.mem ((c.tc : Thread Cert.CfwdKernel.nD Cert.CfwdKernel.τ).loc Cert.CfwdKernel.main_arg4) = m ((c.tc : Thread Cert.CfwdKernel.nD Cert.CfwdKernel.τ).loc Cert.CfwdKernel.main_arg4)
      ∧ r.2.mem ((c.tc : Thread Cert.CfwdKernel.nD Cert.CfwdKernel.τ).loc Cert.CfwdKernel.main_arg5) = m ((c.tc : Thread Cert.CfwdKernel.nD Cert.CfwdKernel.τ).loc Cert.CfwdKernel.main_arg5))
      ∧ r.2.sem = fun _ => 0)

def quiescent_CfwdKernelIdeal [hCfwdKernelIdeal : Cert.CfwdKernelIdeal.Facts] : Prop :=
  ∀ (m : (ℓ : Loc Cert.CfwdKernelIdeal.nD Cert.CfwdKernelIdeal.τ Cert.CfwdKernelIdeal.sig) → Buf (Elt Ideal) ℓ) (g : Dev Cert.CfwdKernelIdeal.nD → PrngReg), Pre_CfwdKernelIdeal m →
    θ_run (Cert.CfwdKernelIdeal.defs (F := Ideal)) (onTc (τ := Cert.CfwdKernelIdeal.τ) (Cert.CfwdKernelIdeal.main (F := Ideal))) ⟨m, fun _ => 0, g⟩ (fun r => (∀ c : Dev Cert.CfwdKernelIdeal.nD,
      r.2.mem ((c.tc : Thread Cert.CfwdKernelIdeal.nD Cert.CfwdKernelIdeal.τ).loc Cert.CfwdKernelIdeal.main_arg0) = m ((c.tc : Thread Cert.CfwdKernelIdeal.nD Cert.CfwdKernelIdeal.τ).loc Cert.CfwdKernelIdeal.main_arg0)
      ∧ r.2.mem ((c.tc : Thread Cert.CfwdKernelIdeal.nD Cert.CfwdKernelIdeal.τ).loc Cert.CfwdKernelIdeal.main_arg1) = m ((c.tc : Thread Cert.CfwdKernelIdeal.nD Cert.CfwdKernelIdeal.τ).loc Cert.CfwdKernelIdeal.main_arg1)
      ∧ r.2.mem ((c.tc : Thread Cert.CfwdKernelIdeal.nD Cert.CfwdKernelIdeal.τ).loc Cert.CfwdKernelIdeal.main_arg2) = m ((c.tc : Thread Cert.CfwdKernelIdeal.nD Cert.CfwdKernelIdeal.τ).loc Cert.CfwdKernelIdeal.main_arg2)
      ∧ r.2.mem ((c.tc : Thread Cert.CfwdKernelIdeal.nD Cert.CfwdKernelIdeal.τ).loc Cert.CfwdKernelIdeal.main_arg3) = m ((c.tc : Thread Cert.CfwdKernelIdeal.nD Cert.CfwdKernelIdeal.τ).loc Cert.CfwdKernelIdeal.main_arg3)
      ∧ r.2.mem ((c.tc : Thread Cert.CfwdKernelIdeal.nD Cert.CfwdKernelIdeal.τ).loc Cert.CfwdKernelIdeal.main_arg4) = m ((c.tc : Thread Cert.CfwdKernelIdeal.nD Cert.CfwdKernelIdeal.τ).loc Cert.CfwdKernelIdeal.main_arg4)
      ∧ r.2.mem ((c.tc : Thread Cert.CfwdKernelIdeal.nD Cert.CfwdKernelIdeal.τ).loc Cert.CfwdKernelIdeal.main_arg5) = m ((c.tc : Thread Cert.CfwdKernelIdeal.nD Cert.CfwdKernelIdeal.τ).loc Cert.CfwdKernelIdeal.main_arg5))
      ∧ r.2.sem = fun _ => 0)

def quiescent_CfwdReferenceIdeal [hCfwdReferenceIdeal : Cert.CfwdReferenceIdeal.Facts] : Prop :=
  ∀ (m : (ℓ : Loc Cert.CfwdReferenceIdeal.nD Cert.CfwdReferenceIdeal.τ Cert.CfwdReferenceIdeal.sig) → Buf (Elt Ideal) ℓ) (g : Dev Cert.CfwdReferenceIdeal.nD → PrngReg), Pre_CfwdReferenceIdeal m →
    θ_run (Cert.CfwdReferenceIdeal.defs (F := Ideal)) (onTc (τ := Cert.CfwdReferenceIdeal.τ) (Cert.CfwdReferenceIdeal.main (F := Ideal))) ⟨m, fun _ => 0, g⟩ (fun r => (∀ c : Dev Cert.CfwdReferenceIdeal.nD,
      r.2.mem ((c.tc : Thread Cert.CfwdReferenceIdeal.nD Cert.CfwdReferenceIdeal.τ).loc Cert.CfwdReferenceIdeal.main_arg0) = m ((c.tc : Thread Cert.CfwdReferenceIdeal.nD Cert.CfwdReferenceIdeal.τ).loc Cert.CfwdReferenceIdeal.main_arg0)
      ∧ r.2.mem ((c.tc : Thread Cert.CfwdReferenceIdeal.nD Cert.CfwdReferenceIdeal.τ).loc Cert.CfwdReferenceIdeal.main_arg1) = m ((c.tc : Thread Cert.CfwdReferenceIdeal.nD Cert.CfwdReferenceIdeal.τ).loc Cert.CfwdReferenceIdeal.main_arg1)
      ∧ r.2.mem ((c.tc : Thread Cert.CfwdReferenceIdeal.nD Cert.CfwdReferenceIdeal.τ).loc Cert.CfwdReferenceIdeal.main_arg2) = m ((c.tc : Thread Cert.CfwdReferenceIdeal.nD Cert.CfwdReferenceIdeal.τ).loc Cert.CfwdReferenceIdeal.main_arg2)
      ∧ r.2.mem ((c.tc : Thread Cert.CfwdReferenceIdeal.nD Cert.CfwdReferenceIdeal.τ).loc Cert.CfwdReferenceIdeal.main_arg3) = m ((c.tc : Thread Cert.CfwdReferenceIdeal.nD Cert.CfwdReferenceIdeal.τ).loc Cert.CfwdReferenceIdeal.main_arg3)
      ∧ r.2.mem ((c.tc : Thread Cert.CfwdReferenceIdeal.nD Cert.CfwdReferenceIdeal.τ).loc Cert.CfwdReferenceIdeal.main_arg4) = m ((c.tc : Thread Cert.CfwdReferenceIdeal.nD Cert.CfwdReferenceIdeal.τ).loc Cert.CfwdReferenceIdeal.main_arg4)
      ∧ r.2.mem ((c.tc : Thread Cert.CfwdReferenceIdeal.nD Cert.CfwdReferenceIdeal.τ).loc Cert.CfwdReferenceIdeal.main_arg5) = m ((c.tc : Thread Cert.CfwdReferenceIdeal.nD Cert.CfwdReferenceIdeal.τ).loc Cert.CfwdReferenceIdeal.main_arg5))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_SsumKernel [hSsumKernel : Cert.SsumKernel.Facts] : Prop :=
  ∀ (m : (ℓ : Loc Cert.SsumKernel.nD Cert.SsumKernel.τ Cert.SsumKernel.sig) → Buf (Elt Bits) ℓ) (g : Dev Cert.SsumKernel.nD → PrngReg), Pre_SsumKernel m →
    θ_run (Cert.SsumKernel.defs (F := Bits)) (onTc (τ := Cert.SsumKernel.τ) (Cert.SsumKernel.main (F := Bits))) ⟨m, fun _ => 0, g⟩ (fun r => (∀ c : Dev Cert.SsumKernel.nD,
      r.2.mem ((c.tc : Thread Cert.SsumKernel.nD Cert.SsumKernel.τ).loc Cert.SsumKernel.main_arg0) = m ((c.tc : Thread Cert.SsumKernel.nD Cert.SsumKernel.τ).loc Cert.SsumKernel.main_arg0))
      ∧ r.2.sem = fun _ => 0)

def quiescent_SsumKernelIdeal [hSsumKernelIdeal : Cert.SsumKernelIdeal.Facts] : Prop :=
  ∀ (m : (ℓ : Loc Cert.SsumKernelIdeal.nD Cert.SsumKernelIdeal.τ Cert.SsumKernelIdeal.sig) → Buf (Elt Ideal) ℓ) (g : Dev Cert.SsumKernelIdeal.nD → PrngReg), Pre_SsumKernelIdeal m →
    θ_run (Cert.SsumKernelIdeal.defs (F := Ideal)) (onTc (τ := Cert.SsumKernelIdeal.τ) (Cert.SsumKernelIdeal.main (F := Ideal))) ⟨m, fun _ => 0, g⟩ (fun r => (∀ c : Dev Cert.SsumKernelIdeal.nD,
      r.2.mem ((c.tc : Thread Cert.SsumKernelIdeal.nD Cert.SsumKernelIdeal.τ).loc Cert.SsumKernelIdeal.main_arg0) = m ((c.tc : Thread Cert.SsumKernelIdeal.nD Cert.SsumKernelIdeal.τ).loc Cert.SsumKernelIdeal.main_arg0))
      ∧ r.2.sem = fun _ => 0)

def quiescent_SsumReferenceIdeal [hSsumReferenceIdeal : Cert.SsumReferenceIdeal.Facts] : Prop :=
  ∀ (m : (ℓ : Loc Cert.SsumReferenceIdeal.nD Cert.SsumReferenceIdeal.τ Cert.SsumReferenceIdeal.sig) → Buf (Elt Ideal) ℓ) (g : Dev Cert.SsumReferenceIdeal.nD → PrngReg), Pre_SsumReferenceIdeal m →
    θ_run (Cert.SsumReferenceIdeal.defs (F := Ideal)) (onTc (τ := Cert.SsumReferenceIdeal.τ) (Cert.SsumReferenceIdeal.main (F := Ideal))) ⟨m, fun _ => 0, g⟩ (fun r => (∀ c : Dev Cert.SsumReferenceIdeal.nD,
      r.2.mem ((c.tc : Thread Cert.SsumReferenceIdeal.nD Cert.SsumReferenceIdeal.τ).loc Cert.SsumReferenceIdeal.main_arg0) = m ((c.tc : Thread Cert.SsumReferenceIdeal.nD Cert.SsumReferenceIdeal.τ).loc Cert.SsumReferenceIdeal.main_arg0))
      ∧ r.2.sem = fun _ => 0)

def quiescent_FupKernel [hFupKernel : Cert.FupKernel.Facts] : Prop :=
  ∀ (m : (ℓ : Loc Cert.FupKernel.nD Cert.FupKernel.τ Cert.FupKernel.sig) → Buf (Elt Bits) ℓ) (g : Dev Cert.FupKernel.nD → PrngReg), Pre_FupKernel m →
    θ_run (Cert.FupKernel.defs (F := Bits)) (onTc (τ := Cert.FupKernel.τ) (Cert.FupKernel.main (F := Bits))) ⟨m, fun _ => 0, g⟩ (fun r => (∀ c : Dev Cert.FupKernel.nD,
      r.2.mem ((c.tc : Thread Cert.FupKernel.nD Cert.FupKernel.τ).loc Cert.FupKernel.main_arg0) = m ((c.tc : Thread Cert.FupKernel.nD Cert.FupKernel.τ).loc Cert.FupKernel.main_arg0)
      ∧ r.2.mem ((c.tc : Thread Cert.FupKernel.nD Cert.FupKernel.τ).loc Cert.FupKernel.main_arg1) = m ((c.tc : Thread Cert.FupKernel.nD Cert.FupKernel.τ).loc Cert.FupKernel.main_arg1)
      ∧ r.2.mem ((c.tc : Thread Cert.FupKernel.nD Cert.FupKernel.τ).loc Cert.FupKernel.main_arg2) = m ((c.tc : Thread Cert.FupKernel.nD Cert.FupKernel.τ).loc Cert.FupKernel.main_arg2))
      ∧ r.2.sem = fun _ => 0)

def quiescent_FupKernelIdeal [hFupKernelIdeal : Cert.FupKernelIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg), Pre_FupKernelIdeal m →
    θ_run (Cert.FupKernelIdeal.defs (F := Ideal)) (onTc (τ := Cert.FupKernelIdeal.τ) (Cert.FupKernelIdeal.main (F := Ideal))) ⟨m, fun _ => 0, g⟩ (fun r => (∀ c : Dev Cert.FupKernelIdeal.nD,
      r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
      ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
      ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1)
      ∧ r.2.mem ((c.tc : Thread Cert.FupReferenceIdeal.nD Cert.FupReferenceIdeal.τ).loc Cert.FupReferenceIdeal.main_arg2) = m ((c.tc : Thread Cert.FupReferenceIdeal.nD Cert.FupReferenceIdeal.τ).loc Cert.FupReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfwKernel [hFfwKernel : Cert.FfwKernel.Facts] : Prop :=
  ∀ (m : (ℓ : Loc Cert.FfwKernel.nD Cert.FfwKernel.τ Cert.FfwKernel.sig) → Buf (Elt Bits) ℓ) (g : Dev Cert.FfwKernel.nD → PrngReg), Pre_FfwKernel m →
    θ_run (Cert.FfwKernel.defs (F := Bits)) (onTc (τ := Cert.FfwKernel.τ) (Cert.FfwKernel.main (F := Bits))) ⟨m, fun _ => 0, g⟩ (fun r => (∀ c : Dev Cert.FfwKernel.nD,
      r.2.mem ((c.tc : Thread Cert.FfwKernel.nD Cert.FfwKernel.τ).loc Cert.FfwKernel.main_arg0) = m ((c.tc : Thread Cert.FfwKernel.nD Cert.FfwKernel.τ).loc Cert.FfwKernel.main_arg0)
      ∧ r.2.mem ((c.tc : Thread Cert.FfwKernel.nD Cert.FfwKernel.τ).loc Cert.FfwKernel.main_arg1) = m ((c.tc : Thread Cert.FfwKernel.nD Cert.FfwKernel.τ).loc Cert.FfwKernel.main_arg1)
      ∧ r.2.mem ((c.tc : Thread Cert.FfwKernel.nD Cert.FfwKernel.τ).loc Cert.FfwKernel.main_arg2) = m ((c.tc : Thread Cert.FfwKernel.nD Cert.FfwKernel.τ).loc Cert.FfwKernel.main_arg2)
      ∧ r.2.mem ((c.tc : Thread Cert.FfwKernel.nD Cert.FfwKernel.τ).loc Cert.FfwKernel.main_arg3) = m ((c.tc : Thread Cert.FfwKernel.nD Cert.FfwKernel.τ).loc Cert.FfwKernel.main_arg3))
      ∧ r.2.sem = fun _ => 0)

def quiescent_FfwKernelIdeal [hFfwKernelIdeal : Cert.FfwKernelIdeal.Facts] : Prop :=
  ∀ (m : (ℓ : Loc Cert.FfwKernelIdeal.nD Cert.FfwKernelIdeal.τ Cert.FfwKernelIdeal.sig) → Buf (Elt Ideal) ℓ) (g : Dev Cert.FfwKernelIdeal.nD → PrngReg), Pre_FfwKernelIdeal m →
    θ_run (Cert.FfwKernelIdeal.defs (F := Ideal)) (onTc (τ := Cert.FfwKernelIdeal.τ) (Cert.FfwKernelIdeal.main (F := Ideal))) ⟨m, fun _ => 0, g⟩ (fun r => (∀ c : Dev Cert.FfwKernelIdeal.nD,
      r.2.mem ((c.tc : Thread Cert.FfwKernelIdeal.nD Cert.FfwKernelIdeal.τ).loc Cert.FfwKernelIdeal.main_arg0) = m ((c.tc : Thread Cert.FfwKernelIdeal.nD Cert.FfwKernelIdeal.τ).loc Cert.FfwKernelIdeal.main_arg0)
      ∧ r.2.mem ((c.tc : Thread Cert.FfwKernelIdeal.nD Cert.FfwKernelIdeal.τ).loc Cert.FfwKernelIdeal.main_arg1) = m ((c.tc : Thread Cert.FfwKernelIdeal.nD Cert.FfwKernelIdeal.τ).loc Cert.FfwKernelIdeal.main_arg1)
      ∧ r.2.mem ((c.tc : Thread Cert.FfwKernelIdeal.nD Cert.FfwKernelIdeal.τ).loc Cert.FfwKernelIdeal.main_arg2) = m ((c.tc : Thread Cert.FfwKernelIdeal.nD Cert.FfwKernelIdeal.τ).loc Cert.FfwKernelIdeal.main_arg2)
      ∧ r.2.mem ((c.tc : Thread Cert.FfwKernelIdeal.nD Cert.FfwKernelIdeal.τ).loc Cert.FfwKernelIdeal.main_arg3) = m ((c.tc : Thread Cert.FfwKernelIdeal.nD Cert.FfwKernelIdeal.τ).loc Cert.FfwKernelIdeal.main_arg3))
      ∧ r.2.sem = fun _ => 0)

def quiescent_FfwReferenceIdeal [hFfwReferenceIdeal : Cert.FfwReferenceIdeal.Facts] : Prop :=
  ∀ (m : (ℓ : Loc Cert.FfwReferenceIdeal.nD Cert.FfwReferenceIdeal.τ Cert.FfwReferenceIdeal.sig) → Buf (Elt Ideal) ℓ) (g : Dev Cert.FfwReferenceIdeal.nD → PrngReg), Pre_FfwReferenceIdeal m →
    θ_run (Cert.FfwReferenceIdeal.defs (F := Ideal)) (onTc (τ := Cert.FfwReferenceIdeal.τ) (Cert.FfwReferenceIdeal.main (F := Ideal))) ⟨m, fun _ => 0, g⟩ (fun r => (∀ c : Dev Cert.FfwReferenceIdeal.nD,
      r.2.mem ((c.tc : Thread Cert.FfwReferenceIdeal.nD Cert.FfwReferenceIdeal.τ).loc Cert.FfwReferenceIdeal.main_arg0) = m ((c.tc : Thread Cert.FfwReferenceIdeal.nD Cert.FfwReferenceIdeal.τ).loc Cert.FfwReferenceIdeal.main_arg0)
      ∧ r.2.mem ((c.tc : Thread Cert.FfwReferenceIdeal.nD Cert.FfwReferenceIdeal.τ).loc Cert.FfwReferenceIdeal.main_arg1) = m ((c.tc : Thread Cert.FfwReferenceIdeal.nD Cert.FfwReferenceIdeal.τ).loc Cert.FfwReferenceIdeal.main_arg1)
      ∧ r.2.mem ((c.tc : Thread Cert.FfwReferenceIdeal.nD Cert.FfwReferenceIdeal.τ).loc Cert.FfwReferenceIdeal.main_arg2) = m ((c.tc : Thread Cert.FfwReferenceIdeal.nD Cert.FfwReferenceIdeal.τ).loc Cert.FfwReferenceIdeal.main_arg2)
      ∧ r.2.mem ((c.tc : Thread Cert.FfwReferenceIdeal.nD Cert.FfwReferenceIdeal.τ).loc Cert.FfwReferenceIdeal.main_arg3) = m ((c.tc : Thread Cert.FfwReferenceIdeal.nD Cert.FfwReferenceIdeal.τ).loc Cert.FfwReferenceIdeal.main_arg3))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v29_0)) (v1 : (c : Dev Cert.AttnKernelIdeal.nD) → Buf (Elt Ideal) ((c.tc : Thread Cert.AttnKernelIdeal.nD Cert.AttnKernelIdeal.τ).loc Cert.AttnKernelIdeal.main_v29_1)) (v2 : (c : Dev Cert.AttnKernelIdeal.nD) → Buf (Elt Ideal) ((c.tc : Thread Cert.AttnKernelIdeal.nD Cert.AttnKernelIdeal.τ).loc Cert.AttnKernelIdeal.main_v29_2)) (v3 : (c : Dev Cert.AttnKernelIdeal.nD) → Buf (Elt Ideal) ((c.tc : Thread Cert.AttnKernelIdeal.nD Cert.AttnKernelIdeal.τ).loc Cert.AttnKernelIdeal.main_v29_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v29_0) = v0 c
          ∧ r.2.mem ((c.tc : Thread Cert.AttnKernelIdeal.nD Cert.AttnKernelIdeal.τ).loc Cert.AttnKernelIdeal.main_v29_1) = v1 c
          ∧ r.2.mem ((c.tc : Thread Cert.AttnKernelIdeal.nD Cert.AttnKernelIdeal.τ).loc Cert.AttnKernelIdeal.main_v29_2) = v2 c
          ∧ r.2.mem ((c.tc : Thread Cert.AttnKernelIdeal.nD Cert.AttnKernelIdeal.τ).loc Cert.AttnKernelIdeal.main_v29_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v92) = v0 c
          ∧ r.2.mem ((c.tc : Thread Cert.AttnReferenceIdeal.nD Cert.AttnReferenceIdeal.τ).loc Cert.AttnReferenceIdeal.main_v93) = v1 c
          ∧ r.2.mem ((c.tc : Thread Cert.AttnReferenceIdeal.nD Cert.AttnReferenceIdeal.τ).loc Cert.AttnReferenceIdeal.main_v94) = v2 c
          ∧ r.2.mem ((c.tc : Thread Cert.AttnReferenceIdeal.nD Cert.AttnReferenceIdeal.τ).loc Cert.AttnReferenceIdeal.main_v95) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)) (v2 : (c : Dev Cert.OutKernelIdeal.nD) → Buf (Elt Ideal) ((c.tc : Thread Cert.OutKernelIdeal.nD Cert.OutKernelIdeal.τ).loc Cert.OutKernelIdeal.main_v2_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_v2_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v21) = v0 c
          ∧ r.2.mem ((c.tc : Thread Cert.OutReferenceIdeal.nD Cert.OutReferenceIdeal.τ).loc Cert.OutReferenceIdeal.main_v42) = v1 c
          ∧ r.2.mem ((c.tc : Thread Cert.OutReferenceIdeal.nD Cert.OutReferenceIdeal.τ).loc Cert.OutReferenceIdeal.main_v43) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v8_0)) (v1 : (c : Dev Cert.MixKernelIdeal.nD) → Buf (Elt Ideal) ((c.tc : Thread Cert.MixKernelIdeal.nD Cert.MixKernelIdeal.τ).loc Cert.MixKernelIdeal.main_v8_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v8_0) = v0 c
          ∧ r.2.mem ((c.tc : Thread Cert.MixKernelIdeal.nD Cert.MixKernelIdeal.τ).loc Cert.MixKernelIdeal.main_v8_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v39) = v0 c
          ∧ r.2.mem ((c.tc : Thread Cert.MixReferenceIdeal.nD Cert.MixReferenceIdeal.τ).loc Cert.MixReferenceIdeal.main_v40) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_GatesKernel_GatesKernelIdeal : Prop :=
  True

def algebraic_GatesKernelIdeal_GatesReferenceIdeal_pre_gates_finite [hGatesKernelIdeal : Cert.GatesKernelIdeal.Facts] [hGatesReferenceIdeal : Cert.GatesReferenceIdeal.Facts] [hPre_gates_finite : Cert.Pre_gates_finite.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal_gates_finite m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)) →
    ∃ (v0 : (c : Dev Cert.GatesKernelIdeal.nD) → Buf (Elt Ideal) ((c.tc : Thread Cert.GatesKernelIdeal.nD Cert.GatesKernelIdeal.τ).loc Cert.GatesKernelIdeal.main_v0_0)) (v1 : (c : Dev Cert.GatesKernelIdeal.nD) → Buf (Elt Ideal) ((c.tc : Thread Cert.GatesKernelIdeal.nD Cert.GatesKernelIdeal.τ).loc Cert.GatesKernelIdeal.main_v0_1)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v0_0) = v0 c
          ∧ r.2.mem ((c.tc : Thread Cert.GatesKernelIdeal.nD Cert.GatesKernelIdeal.τ).loc Cert.GatesKernelIdeal.main_v0_1) = v1 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v5) = v0 c
          ∧ r.2.mem ((c.tc : Thread Cert.GatesReferenceIdeal.nD Cert.GatesReferenceIdeal.τ).loc Cert.GatesReferenceIdeal.main_v7) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_AfwdKernel_AfwdKernelIdeal : Prop :=
  True

def algebraic_AfwdKernelIdeal_AfwdReferenceIdeal_pre_afwd_finite [hAfwdKernelIdeal : Cert.AfwdKernelIdeal.Facts] [hAfwdReferenceIdeal : Cert.AfwdReferenceIdeal.Facts] [hPre_afwd_finite : Cert.Pre_afwd_finite.Facts] : Prop :=
  ∀ (m : (ℓ : Loc Cert.AfwdKernelIdeal.nD Cert.AfwdKernelIdeal.τ Cert.AfwdKernelIdeal.sig) → Buf (Elt Ideal) ℓ) (g : Dev Cert.AfwdKernelIdeal.nD → PrngReg)
    (m' : (ℓ : Loc Cert.AfwdReferenceIdeal.nD Cert.AfwdReferenceIdeal.τ Cert.AfwdReferenceIdeal.sig) → Buf (Elt Ideal) ℓ) (g' : Dev Cert.AfwdReferenceIdeal.nD → PrngReg), Pre_AfwdKernelIdeal_afwd_finite m →
    (∀ c : Dev Cert.AfwdKernelIdeal.nD,
      m' ((c.tc : Thread Cert.AfwdReferenceIdeal.nD Cert.AfwdReferenceIdeal.τ).loc Cert.AfwdReferenceIdeal.main_arg0) = m ((c.tc : Thread Cert.AfwdKernelIdeal.nD Cert.AfwdKernelIdeal.τ).loc Cert.AfwdKernelIdeal.main_arg0)
      ∧ m' ((c.tc : Thread Cert.AfwdReferenceIdeal.nD Cert.AfwdReferenceIdeal.τ).loc Cert.AfwdReferenceIdeal.main_arg1) = m ((c.tc : Thread Cert.AfwdKernelIdeal.nD Cert.AfwdKernelIdeal.τ).loc Cert.AfwdKernelIdeal.main_arg1)) →
    ∃ (v0 : (c : Dev Cert.AfwdKernelIdeal.nD) → Buf (Elt Ideal) ((c.tc : Thread Cert.AfwdKernelIdeal.nD Cert.AfwdKernelIdeal.τ).loc Cert.AfwdKernelIdeal.main_v2_0)) (v1 : (c : Dev Cert.AfwdKernelIdeal.nD) → Buf (Elt Ideal) ((c.tc : Thread Cert.AfwdKernelIdeal.nD Cert.AfwdKernelIdeal.τ).loc Cert.AfwdKernelIdeal.main_v2_1)),
      θ_run (Cert.AfwdKernelIdeal.defs (F := Ideal)) (onTc (τ := Cert.AfwdKernelIdeal.τ) (Cert.AfwdKernelIdeal.main (F := Ideal))) ⟨m, fun _ => 0, g⟩ (fun r => ∀ c : Dev Cert.AfwdKernelIdeal.nD,
          r.2.mem ((c.tc : Thread Cert.AfwdKernelIdeal.nD Cert.AfwdKernelIdeal.τ).loc Cert.AfwdKernelIdeal.main_v2_0) = v0 c
          ∧ r.2.mem ((c.tc : Thread Cert.AfwdKernelIdeal.nD Cert.AfwdKernelIdeal.τ).loc Cert.AfwdKernelIdeal.main_v2_1) = v1 c
          ∧ r.2.mem ((c.tc : Thread Cert.AfwdKernelIdeal.nD Cert.AfwdKernelIdeal.τ).loc Cert.AfwdKernelIdeal.main_arg0) = m ((c.tc : Thread Cert.AfwdKernelIdeal.nD Cert.AfwdKernelIdeal.τ).loc Cert.AfwdKernelIdeal.main_arg0)
          ∧ r.2.mem ((c.tc : Thread Cert.AfwdKernelIdeal.nD Cert.AfwdKernelIdeal.τ).loc Cert.AfwdKernelIdeal.main_arg1) = m ((c.tc : Thread Cert.AfwdKernelIdeal.nD Cert.AfwdKernelIdeal.τ).loc Cert.AfwdKernelIdeal.main_arg1))
      ∧ θ_run (Cert.AfwdReferenceIdeal.defs (F := Ideal)) (onTc (τ := Cert.AfwdReferenceIdeal.τ) (Cert.AfwdReferenceIdeal.main (F := Ideal))) ⟨m', fun _ => 0, g'⟩ (fun r => ∀ c : Dev Cert.AfwdReferenceIdeal.nD,
          r.2.mem ((c.tc : Thread Cert.AfwdReferenceIdeal.nD Cert.AfwdReferenceIdeal.τ).loc Cert.AfwdReferenceIdeal.main_v35) = v0 c
          ∧ r.2.mem ((c.tc : Thread Cert.AfwdReferenceIdeal.nD Cert.AfwdReferenceIdeal.τ).loc Cert.AfwdReferenceIdeal.main_v62) = v1 c
          ∧ r.2.mem ((c.tc : Thread Cert.AfwdReferenceIdeal.nD Cert.AfwdReferenceIdeal.τ).loc Cert.AfwdReferenceIdeal.main_arg0) = m' ((c.tc : Thread Cert.AfwdReferenceIdeal.nD Cert.AfwdReferenceIdeal.τ).loc Cert.AfwdReferenceIdeal.main_arg0)
          ∧ r.2.mem ((c.tc : Thread Cert.AfwdReferenceIdeal.nD Cert.AfwdReferenceIdeal.τ).loc Cert.AfwdReferenceIdeal.main_arg1) = m' ((c.tc : Thread Cert.AfwdReferenceIdeal.nD Cert.AfwdReferenceIdeal.τ).loc Cert.AfwdReferenceIdeal.main_arg1))

def preserves_ConvKernel_ConvKernelIdeal : Prop :=
  True

def preserves_OfwdKernel_OfwdKernelIdeal : Prop :=
  True

def algebraic_OfwdKernelIdeal_OfwdReferenceIdeal_pre_ofwd_finite [hOfwdKernelIdeal : Cert.OfwdKernelIdeal.Facts] [hOfwdReferenceIdeal : Cert.OfwdReferenceIdeal.Facts] [hPre_ofwd_finite : Cert.Pre_ofwd_finite.Facts] : Prop :=
  ∀ (m : (ℓ : Loc Cert.OfwdKernelIdeal.nD Cert.OfwdKernelIdeal.τ Cert.OfwdKernelIdeal.sig) → Buf (Elt Ideal) ℓ) (g : Dev Cert.OfwdKernelIdeal.nD → PrngReg)
    (m' : (ℓ : Loc Cert.OfwdReferenceIdeal.nD Cert.OfwdReferenceIdeal.τ Cert.OfwdReferenceIdeal.sig) → Buf (Elt Ideal) ℓ) (g' : Dev Cert.OfwdReferenceIdeal.nD → PrngReg), Pre_OfwdKernelIdeal_ofwd_finite m →
    (∀ c : Dev Cert.OfwdKernelIdeal.nD,
      m' ((c.tc : Thread Cert.OfwdReferenceIdeal.nD Cert.OfwdReferenceIdeal.τ).loc Cert.OfwdReferenceIdeal.main_arg0) = m ((c.tc : Thread Cert.OfwdKernelIdeal.nD Cert.OfwdKernelIdeal.τ).loc Cert.OfwdKernelIdeal.main_arg0)
      ∧ m' ((c.tc : Thread Cert.OfwdReferenceIdeal.nD Cert.OfwdReferenceIdeal.τ).loc Cert.OfwdReferenceIdeal.main_arg1) = m ((c.tc : Thread Cert.OfwdKernelIdeal.nD Cert.OfwdKernelIdeal.τ).loc Cert.OfwdKernelIdeal.main_arg1)
      ∧ m' ((c.tc : Thread Cert.OfwdReferenceIdeal.nD Cert.OfwdReferenceIdeal.τ).loc Cert.OfwdReferenceIdeal.main_arg2) = m ((c.tc : Thread Cert.OfwdKernelIdeal.nD Cert.OfwdKernelIdeal.τ).loc Cert.OfwdKernelIdeal.main_arg2)
      ∧ m' ((c.tc : Thread Cert.OfwdReferenceIdeal.nD Cert.OfwdReferenceIdeal.τ).loc Cert.OfwdReferenceIdeal.main_arg3) = m ((c.tc : Thread Cert.OfwdKernelIdeal.nD Cert.OfwdKernelIdeal.τ).loc Cert.OfwdKernelIdeal.main_arg3)
      ∧ m' ((c.tc : Thread Cert.OfwdReferenceIdeal.nD Cert.OfwdReferenceIdeal.τ).loc Cert.OfwdReferenceIdeal.main_arg4) = m ((c.tc : Thread Cert.OfwdKernelIdeal.nD Cert.OfwdKernelIdeal.τ).loc Cert.OfwdKernelIdeal.main_arg4)) →
    ∃ (v0 : (c : Dev Cert.OfwdKernelIdeal.nD) → Buf (Elt Ideal) ((c.tc : Thread Cert.OfwdKernelIdeal.nD Cert.OfwdKernelIdeal.τ).loc Cert.OfwdKernelIdeal.main_v2_0)) (v1 : (c : Dev Cert.OfwdKernelIdeal.nD) → Buf (Elt Ideal) ((c.tc : Thread Cert.OfwdKernelIdeal.nD Cert.OfwdKernelIdeal.τ).loc Cert.OfwdKernelIdeal.main_v2_1)),
      θ_run (Cert.OfwdKernelIdeal.defs (F := Ideal)) (onTc (τ := Cert.OfwdKernelIdeal.τ) (Cert.OfwdKernelIdeal.main (F := Ideal))) ⟨m, fun _ => 0, g⟩ (fun r => ∀ c : Dev Cert.OfwdKernelIdeal.nD,
          r.2.mem ((c.tc : Thread Cert.OfwdKernelIdeal.nD Cert.OfwdKernelIdeal.τ).loc Cert.OfwdKernelIdeal.main_v2_0) = v0 c
          ∧ r.2.mem ((c.tc : Thread Cert.OfwdKernelIdeal.nD Cert.OfwdKernelIdeal.τ).loc Cert.OfwdKernelIdeal.main_v2_1) = v1 c
          ∧ r.2.mem ((c.tc : Thread Cert.OfwdKernelIdeal.nD Cert.OfwdKernelIdeal.τ).loc Cert.OfwdKernelIdeal.main_arg0) = m ((c.tc : Thread Cert.OfwdKernelIdeal.nD Cert.OfwdKernelIdeal.τ).loc Cert.OfwdKernelIdeal.main_arg0)
          ∧ r.2.mem ((c.tc : Thread Cert.OfwdKernelIdeal.nD Cert.OfwdKernelIdeal.τ).loc Cert.OfwdKernelIdeal.main_arg1) = m ((c.tc : Thread Cert.OfwdKernelIdeal.nD Cert.OfwdKernelIdeal.τ).loc Cert.OfwdKernelIdeal.main_arg1)
          ∧ r.2.mem ((c.tc : Thread Cert.OfwdKernelIdeal.nD Cert.OfwdKernelIdeal.τ).loc Cert.OfwdKernelIdeal.main_arg2) = m ((c.tc : Thread Cert.OfwdKernelIdeal.nD Cert.OfwdKernelIdeal.τ).loc Cert.OfwdKernelIdeal.main_arg2)
          ∧ r.2.mem ((c.tc : Thread Cert.OfwdKernelIdeal.nD Cert.OfwdKernelIdeal.τ).loc Cert.OfwdKernelIdeal.main_arg3) = m ((c.tc : Thread Cert.OfwdKernelIdeal.nD Cert.OfwdKernelIdeal.τ).loc Cert.OfwdKernelIdeal.main_arg3)
          ∧ r.2.mem ((c.tc : Thread Cert.OfwdKernelIdeal.nD Cert.OfwdKernelIdeal.τ).loc Cert.OfwdKernelIdeal.main_arg4) = m ((c.tc : Thread Cert.OfwdKernelIdeal.nD Cert.OfwdKernelIdeal.τ).loc Cert.OfwdKernelIdeal.main_arg4))
      ∧ θ_run (Cert.OfwdReferenceIdeal.defs (F := Ideal)) (onTc (τ := Cert.OfwdReferenceIdeal.τ) (Cert.OfwdReferenceIdeal.main (F := Ideal))) ⟨m', fun _ => 0, g'⟩ (fun r => ∀ c : Dev Cert.OfwdReferenceIdeal.nD,
          r.2.mem ((c.tc : Thread Cert.OfwdReferenceIdeal.nD Cert.OfwdReferenceIdeal.τ).loc Cert.OfwdReferenceIdeal.main_v16) = v0 c
          ∧ r.2.mem ((c.tc : Thread Cert.OfwdReferenceIdeal.nD Cert.OfwdReferenceIdeal.τ).loc Cert.OfwdReferenceIdeal.main_v17) = v1 c
          ∧ r.2.mem ((c.tc : Thread Cert.OfwdReferenceIdeal.nD Cert.OfwdReferenceIdeal.τ).loc Cert.OfwdReferenceIdeal.main_arg0) = m' ((c.tc : Thread Cert.OfwdReferenceIdeal.nD Cert.OfwdReferenceIdeal.τ).loc Cert.OfwdReferenceIdeal.main_arg0)
          ∧ r.2.mem ((c.tc : Thread Cert.OfwdReferenceIdeal.nD Cert.OfwdReferenceIdeal.τ).loc Cert.OfwdReferenceIdeal.main_arg1) = m' ((c.tc : Thread Cert.OfwdReferenceIdeal.nD Cert.OfwdReferenceIdeal.τ).loc Cert.OfwdReferenceIdeal.main_arg1)
          ∧ r.2.mem ((c.tc : Thread Cert.OfwdReferenceIdeal.nD Cert.OfwdReferenceIdeal.τ).loc Cert.OfwdReferenceIdeal.main_arg2) = m' ((c.tc : Thread Cert.OfwdReferenceIdeal.nD Cert.OfwdReferenceIdeal.τ).loc Cert.OfwdReferenceIdeal.main_arg2)
          ∧ r.2.mem ((c.tc : Thread Cert.OfwdReferenceIdeal.nD Cert.OfwdReferenceIdeal.τ).loc Cert.OfwdReferenceIdeal.main_arg3) = m' ((c.tc : Thread Cert.OfwdReferenceIdeal.nD Cert.OfwdReferenceIdeal.τ).loc Cert.OfwdReferenceIdeal.main_arg3)
          ∧ r.2.mem ((c.tc : Thread Cert.OfwdReferenceIdeal.nD Cert.OfwdReferenceIdeal.τ).loc Cert.OfwdReferenceIdeal.main_arg4) = m' ((c.tc : Thread Cert.OfwdReferenceIdeal.nD Cert.OfwdReferenceIdeal.τ).loc Cert.OfwdReferenceIdeal.main_arg4))

def preserves_MfwdKernel_MfwdKernelIdeal : Prop :=
  True

def algebraic_MfwdKernelIdeal_MfwdReferenceIdeal_pre_mfwd_finite [hMfwdKernelIdeal : Cert.MfwdKernelIdeal.Facts] [hMfwdReferenceIdeal : Cert.MfwdReferenceIdeal.Facts] [hPre_mfwd_finite : Cert.Pre_mfwd_finite.Facts] : Prop :=
  ∀ (m : (ℓ : Loc Cert.MfwdKernelIdeal.nD Cert.MfwdKernelIdeal.τ Cert.MfwdKernelIdeal.sig) → Buf (Elt Ideal) ℓ) (g : Dev Cert.MfwdKernelIdeal.nD → PrngReg)
    (m' : (ℓ : Loc Cert.MfwdReferenceIdeal.nD Cert.MfwdReferenceIdeal.τ Cert.MfwdReferenceIdeal.sig) → Buf (Elt Ideal) ℓ) (g' : Dev Cert.MfwdReferenceIdeal.nD → PrngReg), Pre_MfwdKernelIdeal_mfwd_finite m →
    (∀ c : Dev Cert.MfwdKernelIdeal.nD,
      m' ((c.tc : Thread Cert.MfwdReferenceIdeal.nD Cert.MfwdReferenceIdeal.τ).loc Cert.MfwdReferenceIdeal.main_arg0) = m ((c.tc : Thread Cert.MfwdKernelIdeal.nD Cert.MfwdKernelIdeal.τ).loc Cert.MfwdKernelIdeal.main_arg0)
      ∧ m' ((c.tc : Thread Cert.MfwdReferenceIdeal.nD Cert.MfwdReferenceIdeal.τ).loc Cert.MfwdReferenceIdeal.main_arg1) = m ((c.tc : Thread Cert.MfwdKernelIdeal.nD Cert.MfwdKernelIdeal.τ).loc Cert.MfwdKernelIdeal.main_arg1)
      ∧ m' ((c.tc : Thread Cert.MfwdReferenceIdeal.nD Cert.MfwdReferenceIdeal.τ).loc Cert.MfwdReferenceIdeal.main_arg2) = m ((c.tc : Thread Cert.MfwdKernelIdeal.nD Cert.MfwdKernelIdeal.τ).loc Cert.MfwdKernelIdeal.main_arg2)) →
    ∃ (v0 : (c : Dev Cert.MfwdKernelIdeal.nD) → Buf (Elt Ideal) ((c.tc : Thread Cert.MfwdKernelIdeal.nD Cert.MfwdKernelIdeal.τ).loc Cert.MfwdKernelIdeal.main_v6_0)) (v1 : (c : Dev Cert.MfwdKernelIdeal.nD) → Buf (Elt Ideal) ((c.tc : Thread Cert.MfwdKernelIdeal.nD Cert.MfwdKernelIdeal.τ).loc Cert.MfwdKernelIdeal.main_v6_1)) (v2 : (c : Dev Cert.MfwdKernelIdeal.nD) → Buf (Elt Ideal) ((c.tc : Thread Cert.MfwdKernelIdeal.nD Cert.MfwdKernelIdeal.τ).loc Cert.MfwdKernelIdeal.main_v6_2)) (v3 : (c : Dev Cert.MfwdKernelIdeal.nD) → Buf (Elt Ideal) ((c.tc : Thread Cert.MfwdKernelIdeal.nD Cert.MfwdKernelIdeal.τ).loc Cert.MfwdKernelIdeal.main_v6_3)),
      θ_run (Cert.MfwdKernelIdeal.defs (F := Ideal)) (onTc (τ := Cert.MfwdKernelIdeal.τ) (Cert.MfwdKernelIdeal.main (F := Ideal))) ⟨m, fun _ => 0, g⟩ (fun r => ∀ c : Dev Cert.MfwdKernelIdeal.nD,
          r.2.mem ((c.tc : Thread Cert.MfwdKernelIdeal.nD Cert.MfwdKernelIdeal.τ).loc Cert.MfwdKernelIdeal.main_v6_0) = v0 c
          ∧ r.2.mem ((c.tc : Thread Cert.MfwdKernelIdeal.nD Cert.MfwdKernelIdeal.τ).loc Cert.MfwdKernelIdeal.main_v6_1) = v1 c
          ∧ r.2.mem ((c.tc : Thread Cert.MfwdKernelIdeal.nD Cert.MfwdKernelIdeal.τ).loc Cert.MfwdKernelIdeal.main_v6_2) = v2 c
          ∧ r.2.mem ((c.tc : Thread Cert.MfwdKernelIdeal.nD Cert.MfwdKernelIdeal.τ).loc Cert.MfwdKernelIdeal.main_v6_3) = v3 c
          ∧ r.2.mem ((c.tc : Thread Cert.MfwdKernelIdeal.nD Cert.MfwdKernelIdeal.τ).loc Cert.MfwdKernelIdeal.main_arg0) = m ((c.tc : Thread Cert.MfwdKernelIdeal.nD Cert.MfwdKernelIdeal.τ).loc Cert.MfwdKernelIdeal.main_arg0)
          ∧ r.2.mem ((c.tc : Thread Cert.MfwdKernelIdeal.nD Cert.MfwdKernelIdeal.τ).loc Cert.MfwdKernelIdeal.main_arg1) = m ((c.tc : Thread Cert.MfwdKernelIdeal.nD Cert.MfwdKernelIdeal.τ).loc Cert.MfwdKernelIdeal.main_arg1)
          ∧ r.2.mem ((c.tc : Thread Cert.MfwdKernelIdeal.nD Cert.MfwdKernelIdeal.τ).loc Cert.MfwdKernelIdeal.main_arg2) = m ((c.tc : Thread Cert.MfwdKernelIdeal.nD Cert.MfwdKernelIdeal.τ).loc Cert.MfwdKernelIdeal.main_arg2))
      ∧ θ_run (Cert.MfwdReferenceIdeal.defs (F := Ideal)) (onTc (τ := Cert.MfwdReferenceIdeal.τ) (Cert.MfwdReferenceIdeal.main (F := Ideal))) ⟨m', fun _ => 0, g'⟩ (fun r => ∀ c : Dev Cert.MfwdReferenceIdeal.nD,
          r.2.mem ((c.tc : Thread Cert.MfwdReferenceIdeal.nD Cert.MfwdReferenceIdeal.τ).loc Cert.MfwdReferenceIdeal.main_v18) = v0 c
          ∧ r.2.mem ((c.tc : Thread Cert.MfwdReferenceIdeal.nD Cert.MfwdReferenceIdeal.τ).loc Cert.MfwdReferenceIdeal.main_v15) = v1 c
          ∧ r.2.mem ((c.tc : Thread Cert.MfwdReferenceIdeal.nD Cert.MfwdReferenceIdeal.τ).loc Cert.MfwdReferenceIdeal.main_v19) = v2 c
          ∧ r.2.mem ((c.tc : Thread Cert.MfwdReferenceIdeal.nD Cert.MfwdReferenceIdeal.τ).loc Cert.MfwdReferenceIdeal.main_v20) = v3 c
          ∧ r.2.mem ((c.tc : Thread Cert.MfwdReferenceIdeal.nD Cert.MfwdReferenceIdeal.τ).loc Cert.MfwdReferenceIdeal.main_arg0) = m' ((c.tc : Thread Cert.MfwdReferenceIdeal.nD Cert.MfwdReferenceIdeal.τ).loc Cert.MfwdReferenceIdeal.main_arg0)
          ∧ r.2.mem ((c.tc : Thread Cert.MfwdReferenceIdeal.nD Cert.MfwdReferenceIdeal.τ).loc Cert.MfwdReferenceIdeal.main_arg1) = m' ((c.tc : Thread Cert.MfwdReferenceIdeal.nD Cert.MfwdReferenceIdeal.τ).loc Cert.MfwdReferenceIdeal.main_arg1)
          ∧ r.2.mem ((c.tc : Thread Cert.MfwdReferenceIdeal.nD Cert.MfwdReferenceIdeal.τ).loc Cert.MfwdReferenceIdeal.main_arg2) = m' ((c.tc : Thread Cert.MfwdReferenceIdeal.nD Cert.MfwdReferenceIdeal.τ).loc Cert.MfwdReferenceIdeal.main_arg2))

def preserves_GfwdKernel_GfwdKernelIdeal : Prop :=
  True

def algebraic_GfwdKernelIdeal_GfwdReferenceIdeal_pre_gfwd_finite [hGfwdKernelIdeal : Cert.GfwdKernelIdeal.Facts] [hGfwdReferenceIdeal : Cert.GfwdReferenceIdeal.Facts] [hPre_gfwd_finite : Cert.Pre_gfwd_finite.Facts] : Prop :=
  ∀ (m : (ℓ : Loc Cert.GfwdKernelIdeal.nD Cert.GfwdKernelIdeal.τ Cert.GfwdKernelIdeal.sig) → Buf (Elt Ideal) ℓ) (g : Dev Cert.GfwdKernelIdeal.nD → PrngReg)
    (m' : (ℓ : Loc Cert.GfwdReferenceIdeal.nD Cert.GfwdReferenceIdeal.τ Cert.GfwdReferenceIdeal.sig) → Buf (Elt Ideal) ℓ) (g' : Dev Cert.GfwdReferenceIdeal.nD → PrngReg), Pre_GfwdKernelIdeal_gfwd_finite m →
    (∀ c : Dev Cert.GfwdKernelIdeal.nD,
      m' ((c.tc : Thread Cert.GfwdReferenceIdeal.nD Cert.GfwdReferenceIdeal.τ).loc Cert.GfwdReferenceIdeal.main_arg0) = m ((c.tc : Thread Cert.GfwdKernelIdeal.nD Cert.GfwdKernelIdeal.τ).loc Cert.GfwdKernelIdeal.main_arg0)
      ∧ m' ((c.tc : Thread Cert.GfwdReferenceIdeal.nD Cert.GfwdReferenceIdeal.τ).loc Cert.GfwdReferenceIdeal.main_arg1) = m ((c.tc : Thread Cert.GfwdKernelIdeal.nD Cert.GfwdKernelIdeal.τ).loc Cert.GfwdKernelIdeal.main_arg1)) →
    ∃ (v0 : (c : Dev Cert.GfwdKernelIdeal.nD) → Buf (Elt Ideal) ((c.tc : Thread Cert.GfwdKernelIdeal.nD Cert.GfwdKernelIdeal.τ).loc Cert.GfwdKernelIdeal.main_v0)),
      θ_run (Cert.GfwdKernelIdeal.defs (F := Ideal)) (onTc (τ := Cert.GfwdKernelIdeal.τ) (Cert.GfwdKernelIdeal.main (F := Ideal))) ⟨m, fun _ => 0, g⟩ (fun r => ∀ c : Dev Cert.GfwdKernelIdeal.nD,
          r.2.mem ((c.tc : Thread Cert.GfwdKernelIdeal.nD Cert.GfwdKernelIdeal.τ).loc Cert.GfwdKernelIdeal.main_v0) = v0 c
          ∧ r.2.mem ((c.tc : Thread Cert.GfwdKernelIdeal.nD Cert.GfwdKernelIdeal.τ).loc Cert.GfwdKernelIdeal.main_arg0) = m ((c.tc : Thread Cert.GfwdKernelIdeal.nD Cert.GfwdKernelIdeal.τ).loc Cert.GfwdKernelIdeal.main_arg0)
          ∧ r.2.mem ((c.tc : Thread Cert.GfwdKernelIdeal.nD Cert.GfwdKernelIdeal.τ).loc Cert.GfwdKernelIdeal.main_arg1) = m ((c.tc : Thread Cert.GfwdKernelIdeal.nD Cert.GfwdKernelIdeal.τ).loc Cert.GfwdKernelIdeal.main_arg1))
      ∧ θ_run (Cert.GfwdReferenceIdeal.defs (F := Ideal)) (onTc (τ := Cert.GfwdReferenceIdeal.τ) (Cert.GfwdReferenceIdeal.main (F := Ideal))) ⟨m', fun _ => 0, g'⟩ (fun r => ∀ c : Dev Cert.GfwdReferenceIdeal.nD,
          r.2.mem ((c.tc : Thread Cert.GfwdReferenceIdeal.nD Cert.GfwdReferenceIdeal.τ).loc Cert.GfwdReferenceIdeal.main_v3) = v0 c
          ∧ r.2.mem ((c.tc : Thread Cert.GfwdReferenceIdeal.nD Cert.GfwdReferenceIdeal.τ).loc Cert.GfwdReferenceIdeal.main_arg0) = m' ((c.tc : Thread Cert.GfwdReferenceIdeal.nD Cert.GfwdReferenceIdeal.τ).loc Cert.GfwdReferenceIdeal.main_arg0)
          ∧ r.2.mem ((c.tc : Thread Cert.GfwdReferenceIdeal.nD Cert.GfwdReferenceIdeal.τ).loc Cert.GfwdReferenceIdeal.main_arg1) = m' ((c.tc : Thread Cert.GfwdReferenceIdeal.nD Cert.GfwdReferenceIdeal.τ).loc Cert.GfwdReferenceIdeal.main_arg1))

def preserves_CfwdKernel_CfwdKernelIdeal : Prop :=
  True

def algebraic_CfwdKernelIdeal_CfwdReferenceIdeal [hCfwdKernelIdeal : Cert.CfwdKernelIdeal.Facts] [hCfwdReferenceIdeal : Cert.CfwdReferenceIdeal.Facts] : Prop :=
  ∀ (m : (ℓ : Loc Cert.CfwdKernelIdeal.nD Cert.CfwdKernelIdeal.τ Cert.CfwdKernelIdeal.sig) → Buf (Elt Ideal) ℓ) (g : Dev Cert.CfwdKernelIdeal.nD → PrngReg)
    (m' : (ℓ : Loc Cert.CfwdReferenceIdeal.nD Cert.CfwdReferenceIdeal.τ Cert.CfwdReferenceIdeal.sig) → Buf (Elt Ideal) ℓ) (g' : Dev Cert.CfwdReferenceIdeal.nD → PrngReg), Pre_CfwdKernelIdeal m →
    (∀ c : Dev Cert.CfwdKernelIdeal.nD,
      m' ((c.tc : Thread Cert.CfwdReferenceIdeal.nD Cert.CfwdReferenceIdeal.τ).loc Cert.CfwdReferenceIdeal.main_arg0) = m ((c.tc : Thread Cert.CfwdKernelIdeal.nD Cert.CfwdKernelIdeal.τ).loc Cert.CfwdKernelIdeal.main_arg0)
      ∧ m' ((c.tc : Thread Cert.CfwdReferenceIdeal.nD Cert.CfwdReferenceIdeal.τ).loc Cert.CfwdReferenceIdeal.main_arg1) = m ((c.tc : Thread Cert.CfwdKernelIdeal.nD Cert.CfwdKernelIdeal.τ).loc Cert.CfwdKernelIdeal.main_arg1)
      ∧ m' ((c.tc : Thread Cert.CfwdReferenceIdeal.nD Cert.CfwdReferenceIdeal.τ).loc Cert.CfwdReferenceIdeal.main_arg2) = m ((c.tc : Thread Cert.CfwdKernelIdeal.nD Cert.CfwdKernelIdeal.τ).loc Cert.CfwdKernelIdeal.main_arg2)
      ∧ m' ((c.tc : Thread Cert.CfwdReferenceIdeal.nD Cert.CfwdReferenceIdeal.τ).loc Cert.CfwdReferenceIdeal.main_arg3) = m ((c.tc : Thread Cert.CfwdKernelIdeal.nD Cert.CfwdKernelIdeal.τ).loc Cert.CfwdKernelIdeal.main_arg3)
      ∧ m' ((c.tc : Thread Cert.CfwdReferenceIdeal.nD Cert.CfwdReferenceIdeal.τ).loc Cert.CfwdReferenceIdeal.main_arg4) = m ((c.tc : Thread Cert.CfwdKernelIdeal.nD Cert.CfwdKernelIdeal.τ).loc Cert.CfwdKernelIdeal.main_arg4)
      ∧ m' ((c.tc : Thread Cert.CfwdReferenceIdeal.nD Cert.CfwdReferenceIdeal.τ).loc Cert.CfwdReferenceIdeal.main_arg5) = m ((c.tc : Thread Cert.CfwdKernelIdeal.nD Cert.CfwdKernelIdeal.τ).loc Cert.CfwdKernelIdeal.main_arg5)) →
    ∃ (v0 : (c : Dev Cert.CfwdKernelIdeal.nD) → Buf (Elt Ideal) ((c.tc : Thread Cert.CfwdKernelIdeal.nD Cert.CfwdKernelIdeal.τ).loc Cert.CfwdKernelIdeal.main_v1_0)) (v1 : (c : Dev Cert.CfwdKernelIdeal.nD) → Buf (Elt Ideal) ((c.tc : Thread Cert.CfwdKernelIdeal.nD Cert.CfwdKernelIdeal.τ).loc Cert.CfwdKernelIdeal.main_v1_1)),
      θ_run (Cert.CfwdKernelIdeal.defs (F := Ideal)) (onTc (τ := Cert.CfwdKernelIdeal.τ) (Cert.CfwdKernelIdeal.main (F := Ideal))) ⟨m, fun _ => 0, g⟩ (fun r => ∀ c : Dev Cert.CfwdKernelIdeal.nD,
          r.2.mem ((c.tc : Thread Cert.CfwdKernelIdeal.nD Cert.CfwdKernelIdeal.τ).loc Cert.CfwdKernelIdeal.main_v1_0) = v0 c
          ∧ r.2.mem ((c.tc : Thread Cert.CfwdKernelIdeal.nD Cert.CfwdKernelIdeal.τ).loc Cert.CfwdKernelIdeal.main_v1_1) = v1 c
          ∧ r.2.mem ((c.tc : Thread Cert.CfwdKernelIdeal.nD Cert.CfwdKernelIdeal.τ).loc Cert.CfwdKernelIdeal.main_arg0) = m ((c.tc : Thread Cert.CfwdKernelIdeal.nD Cert.CfwdKernelIdeal.τ).loc Cert.CfwdKernelIdeal.main_arg0)
          ∧ r.2.mem ((c.tc : Thread Cert.CfwdKernelIdeal.nD Cert.CfwdKernelIdeal.τ).loc Cert.CfwdKernelIdeal.main_arg1) = m ((c.tc : Thread Cert.CfwdKernelIdeal.nD Cert.CfwdKernelIdeal.τ).loc Cert.CfwdKernelIdeal.main_arg1)
          ∧ r.2.mem ((c.tc : Thread Cert.CfwdKernelIdeal.nD Cert.CfwdKernelIdeal.τ).loc Cert.CfwdKernelIdeal.main_arg2) = m ((c.tc : Thread Cert.CfwdKernelIdeal.nD Cert.CfwdKernelIdeal.τ).loc Cert.CfwdKernelIdeal.main_arg2)
          ∧ r.2.mem ((c.tc : Thread Cert.CfwdKernelIdeal.nD Cert.CfwdKernelIdeal.τ).loc Cert.CfwdKernelIdeal.main_arg3) = m ((c.tc : Thread Cert.CfwdKernelIdeal.nD Cert.CfwdKernelIdeal.τ).loc Cert.CfwdKernelIdeal.main_arg3)
          ∧ r.2.mem ((c.tc : Thread Cert.CfwdKernelIdeal.nD Cert.CfwdKernelIdeal.τ).loc Cert.CfwdKernelIdeal.main_arg4) = m ((c.tc : Thread Cert.CfwdKernelIdeal.nD Cert.CfwdKernelIdeal.τ).loc Cert.CfwdKernelIdeal.main_arg4)
          ∧ r.2.mem ((c.tc : Thread Cert.CfwdKernelIdeal.nD Cert.CfwdKernelIdeal.τ).loc Cert.CfwdKernelIdeal.main_arg5) = m ((c.tc : Thread Cert.CfwdKernelIdeal.nD Cert.CfwdKernelIdeal.τ).loc Cert.CfwdKernelIdeal.main_arg5))
      ∧ θ_run (Cert.CfwdReferenceIdeal.defs (F := Ideal)) (onTc (τ := Cert.CfwdReferenceIdeal.τ) (Cert.CfwdReferenceIdeal.main (F := Ideal))) ⟨m', fun _ => 0, g'⟩ (fun r => ∀ c : Dev Cert.CfwdReferenceIdeal.nD,
          r.2.mem ((c.tc : Thread Cert.CfwdReferenceIdeal.nD Cert.CfwdReferenceIdeal.τ).loc Cert.CfwdReferenceIdeal.main_v271) = v0 c
          ∧ r.2.mem ((c.tc : Thread Cert.CfwdReferenceIdeal.nD Cert.CfwdReferenceIdeal.τ).loc Cert.CfwdReferenceIdeal.main_v231) = v1 c
          ∧ r.2.mem ((c.tc : Thread Cert.CfwdReferenceIdeal.nD Cert.CfwdReferenceIdeal.τ).loc Cert.CfwdReferenceIdeal.main_arg0) = m' ((c.tc : Thread Cert.CfwdReferenceIdeal.nD Cert.CfwdReferenceIdeal.τ).loc Cert.CfwdReferenceIdeal.main_arg0)
          ∧ r.2.mem ((c.tc : Thread Cert.CfwdReferenceIdeal.nD Cert.CfwdReferenceIdeal.τ).loc Cert.CfwdReferenceIdeal.main_arg1) = m' ((c.tc : Thread Cert.CfwdReferenceIdeal.nD Cert.CfwdReferenceIdeal.τ).loc Cert.CfwdReferenceIdeal.main_arg1)
          ∧ r.2.mem ((c.tc : Thread Cert.CfwdReferenceIdeal.nD Cert.CfwdReferenceIdeal.τ).loc Cert.CfwdReferenceIdeal.main_arg2) = m' ((c.tc : Thread Cert.CfwdReferenceIdeal.nD Cert.CfwdReferenceIdeal.τ).loc Cert.CfwdReferenceIdeal.main_arg2)
          ∧ r.2.mem ((c.tc : Thread Cert.CfwdReferenceIdeal.nD Cert.CfwdReferenceIdeal.τ).loc Cert.CfwdReferenceIdeal.main_arg3) = m' ((c.tc : Thread Cert.CfwdReferenceIdeal.nD Cert.CfwdReferenceIdeal.τ).loc Cert.CfwdReferenceIdeal.main_arg3)
          ∧ r.2.mem ((c.tc : Thread Cert.CfwdReferenceIdeal.nD Cert.CfwdReferenceIdeal.τ).loc Cert.CfwdReferenceIdeal.main_arg4) = m' ((c.tc : Thread Cert.CfwdReferenceIdeal.nD Cert.CfwdReferenceIdeal.τ).loc Cert.CfwdReferenceIdeal.main_arg4)
          ∧ r.2.mem ((c.tc : Thread Cert.CfwdReferenceIdeal.nD Cert.CfwdReferenceIdeal.τ).loc Cert.CfwdReferenceIdeal.main_arg5) = m' ((c.tc : Thread Cert.CfwdReferenceIdeal.nD Cert.CfwdReferenceIdeal.τ).loc Cert.CfwdReferenceIdeal.main_arg5))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)) →
    ∃ (v0 : (c : Dev Cert.WgradKernelIdeal.nD) → Buf (Elt Ideal) ((c.tc : Thread Cert.WgradKernelIdeal.nD Cert.WgradKernelIdeal.τ).loc Cert.WgradKernelIdeal.main_v2)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v2) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v13) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg1) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_SsumKernel_SsumKernelIdeal : Prop :=
  True

def algebraic_SsumKernelIdeal_SsumReferenceIdeal [hSsumKernelIdeal : Cert.SsumKernelIdeal.Facts] [hSsumReferenceIdeal : Cert.SsumReferenceIdeal.Facts] : Prop :=
  ∀ (m : (ℓ : Loc Cert.SsumKernelIdeal.nD Cert.SsumKernelIdeal.τ Cert.SsumKernelIdeal.sig) → Buf (Elt Ideal) ℓ) (g : Dev Cert.SsumKernelIdeal.nD → PrngReg)
    (m' : (ℓ : Loc Cert.SsumReferenceIdeal.nD Cert.SsumReferenceIdeal.τ Cert.SsumReferenceIdeal.sig) → Buf (Elt Ideal) ℓ) (g' : Dev Cert.SsumReferenceIdeal.nD → PrngReg), Pre_SsumKernelIdeal m →
    (∀ c : Dev Cert.SsumKernelIdeal.nD,
      m' ((c.tc : Thread Cert.SsumReferenceIdeal.nD Cert.SsumReferenceIdeal.τ).loc Cert.SsumReferenceIdeal.main_arg0) = m ((c.tc : Thread Cert.SsumKernelIdeal.nD Cert.SsumKernelIdeal.τ).loc Cert.SsumKernelIdeal.main_arg0)) →
    ∃ (v0 : (c : Dev Cert.SsumKernelIdeal.nD) → Buf (Elt Ideal) ((c.tc : Thread Cert.SsumKernelIdeal.nD Cert.SsumKernelIdeal.τ).loc Cert.SsumKernelIdeal.main_v0)),
      θ_run (Cert.SsumKernelIdeal.defs (F := Ideal)) (onTc (τ := Cert.SsumKernelIdeal.τ) (Cert.SsumKernelIdeal.main (F := Ideal))) ⟨m, fun _ => 0, g⟩ (fun r => ∀ c : Dev Cert.SsumKernelIdeal.nD,
          r.2.mem ((c.tc : Thread Cert.SsumKernelIdeal.nD Cert.SsumKernelIdeal.τ).loc Cert.SsumKernelIdeal.main_v0) = v0 c
          ∧ r.2.mem ((c.tc : Thread Cert.SsumKernelIdeal.nD Cert.SsumKernelIdeal.τ).loc Cert.SsumKernelIdeal.main_arg0) = m ((c.tc : Thread Cert.SsumKernelIdeal.nD Cert.SsumKernelIdeal.τ).loc Cert.SsumKernelIdeal.main_arg0))
      ∧ θ_run (Cert.SsumReferenceIdeal.defs (F := Ideal)) (onTc (τ := Cert.SsumReferenceIdeal.τ) (Cert.SsumReferenceIdeal.main (F := Ideal))) ⟨m', fun _ => 0, g'⟩ (fun r => ∀ c : Dev Cert.SsumReferenceIdeal.nD,
          r.2.mem ((c.tc : Thread Cert.SsumReferenceIdeal.nD Cert.SsumReferenceIdeal.τ).loc Cert.SsumReferenceIdeal.main_v0) = v0 c
          ∧ r.2.mem ((c.tc : Thread Cert.SsumReferenceIdeal.nD Cert.SsumReferenceIdeal.τ).loc Cert.SsumReferenceIdeal.main_arg0) = m' ((c.tc : Thread Cert.SsumReferenceIdeal.nD Cert.SsumReferenceIdeal.τ).loc Cert.SsumReferenceIdeal.main_arg0))

def preserves_FupKernel_FupKernelIdeal : Prop :=
  True

def algebraic_FupKernelIdeal_FupReferenceIdeal [hFupKernelIdeal : Cert.FupKernelIdeal.Facts] [hFupReferenceIdeal : Cert.FupReferenceIdeal.Facts] : Prop :=
  ∀ (m : (ℓ : Loc Cert.FupKernelIdeal.nD Cert.FupKernelIdeal.τ Cert.FupKernelIdeal.sig) → Buf (Elt Ideal) ℓ) (g : Dev Cert.FupKernelIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupKernelIdeal m →
    (∀ c : Dev Cert.FupKernelIdeal.nD,
      m' ((c.tc : Thread Cert.FupReferenceIdeal.nD Cert.FupReferenceIdeal.τ).loc Cert.FupReferenceIdeal.main_arg0) = m ((c.tc : Thread Cert.FupKernelIdeal.nD Cert.FupKernelIdeal.τ).loc Cert.FupKernelIdeal.main_arg0)
      ∧ m' ((c.tc : Thread Cert.FupReferenceIdeal.nD Cert.FupReferenceIdeal.τ).loc Cert.FupReferenceIdeal.main_arg1) = m ((c.tc : Thread Cert.FupKernelIdeal.nD Cert.FupKernelIdeal.τ).loc Cert.FupKernelIdeal.main_arg1)
      ∧ m' ((c.tc : Thread Cert.FupReferenceIdeal.nD Cert.FupReferenceIdeal.τ).loc Cert.FupReferenceIdeal.main_arg2) = m ((c.tc : Thread Cert.FupKernelIdeal.nD Cert.FupKernelIdeal.τ).loc Cert.FupKernelIdeal.main_arg2)) →
    ∃ (v0 : (c : Dev Cert.FupKernelIdeal.nD) → Buf (Elt Ideal) ((c.tc : Thread Cert.FupKernelIdeal.nD Cert.FupKernelIdeal.τ).loc Cert.FupKernelIdeal.main_v3_0)) (v1 : (c : Dev Cert.FupKernelIdeal.nD) → Buf (Elt Ideal) ((c.tc : Thread Cert.FupKernelIdeal.nD Cert.FupKernelIdeal.τ).loc Cert.FupKernelIdeal.main_v3_1)) (v2 : (c : Dev Cert.FupKernelIdeal.nD) → Buf (Elt Ideal) ((c.tc : Thread Cert.FupKernelIdeal.nD Cert.FupKernelIdeal.τ).loc Cert.FupKernelIdeal.main_v3_2)),
      θ_run (Cert.FupKernelIdeal.defs (F := Ideal)) (onTc (τ := Cert.FupKernelIdeal.τ) (Cert.FupKernelIdeal.main (F := Ideal))) ⟨m, fun _ => 0, g⟩ (fun r => ∀ c : Dev Cert.FupKernelIdeal.nD,
          r.2.mem ((c.tc : Thread Cert.FupKernelIdeal.nD Cert.FupKernelIdeal.τ).loc Cert.FupKernelIdeal.main_v3_0) = v0 c
          ∧ r.2.mem ((c.tc : Thread Cert.FupKernelIdeal.nD Cert.FupKernelIdeal.τ).loc Cert.FupKernelIdeal.main_v3_1) = v1 c
          ∧ r.2.mem ((c.tc : Thread Cert.FupKernelIdeal.nD Cert.FupKernelIdeal.τ).loc Cert.FupKernelIdeal.main_v3_2) = v2 c
          ∧ r.2.mem ((c.tc : Thread Cert.FupKernelIdeal.nD Cert.FupKernelIdeal.τ).loc Cert.FupKernelIdeal.main_arg0) = m ((c.tc : Thread Cert.FupKernelIdeal.nD Cert.FupKernelIdeal.τ).loc Cert.FupKernelIdeal.main_arg0)
          ∧ r.2.mem ((c.tc : Thread Cert.FupKernelIdeal.nD Cert.FupKernelIdeal.τ).loc Cert.FupKernelIdeal.main_arg1) = m ((c.tc : Thread Cert.FupKernelIdeal.nD Cert.FupKernelIdeal.τ).loc Cert.FupKernelIdeal.main_arg1)
          ∧ r.2.mem ((c.tc : Thread Cert.FupKernelIdeal.nD Cert.FupKernelIdeal.τ).loc Cert.FupKernelIdeal.main_arg2) = m ((c.tc : Thread Cert.FupKernelIdeal.nD Cert.FupKernelIdeal.τ).loc Cert.FupKernelIdeal.main_arg2))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v17) = v0 c
          ∧ r.2.mem ((c.tc : Thread Cert.FupReferenceIdeal.nD Cert.FupReferenceIdeal.τ).loc Cert.FupReferenceIdeal.main_v18) = v1 c
          ∧ r.2.mem ((c.tc : Thread Cert.FupReferenceIdeal.nD Cert.FupReferenceIdeal.τ).loc Cert.FupReferenceIdeal.main_v21) = v2 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1)
          ∧ r.2.mem ((c.tc : Thread Cert.FupReferenceIdeal.nD Cert.FupReferenceIdeal.τ).loc Cert.FupReferenceIdeal.main_arg2) = m' ((c.tc : Thread Cert.FupReferenceIdeal.nD Cert.FupReferenceIdeal.τ).loc Cert.FupReferenceIdeal.main_arg2))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v20_0)) (v1 : (c : Dev Cert.FfnKernelIdeal.nD) → Buf (Elt Ideal) ((c.tc : Thread Cert.FfnKernelIdeal.nD Cert.FfnKernelIdeal.τ).loc Cert.FfnKernelIdeal.main_v20_1)) (v2 : (c : Dev Cert.FfnKernelIdeal.nD) → Buf (Elt Ideal) ((c.tc : Thread Cert.FfnKernelIdeal.nD Cert.FfnKernelIdeal.τ).loc Cert.FfnKernelIdeal.main_v20_2)) (v3 : (c : Dev Cert.FfnKernelIdeal.nD) → Buf (Elt Ideal) ((c.tc : Thread Cert.FfnKernelIdeal.nD Cert.FfnKernelIdeal.τ).loc Cert.FfnKernelIdeal.main_v20_3)) (v4 : (c : Dev Cert.FfnKernelIdeal.nD) → Buf (Elt Ideal) ((c.tc : Thread Cert.FfnKernelIdeal.nD Cert.FfnKernelIdeal.τ).loc Cert.FfnKernelIdeal.main_v20_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v20_0) = v0 c
          ∧ r.2.mem ((c.tc : Thread Cert.FfnKernelIdeal.nD Cert.FfnKernelIdeal.τ).loc Cert.FfnKernelIdeal.main_v20_1) = v1 c
          ∧ r.2.mem ((c.tc : Thread Cert.FfnKernelIdeal.nD Cert.FfnKernelIdeal.τ).loc Cert.FfnKernelIdeal.main_v20_2) = v2 c
          ∧ r.2.mem ((c.tc : Thread Cert.FfnKernelIdeal.nD Cert.FfnKernelIdeal.τ).loc Cert.FfnKernelIdeal.main_v20_3) = v3 c
          ∧ r.2.mem ((c.tc : Thread Cert.FfnKernelIdeal.nD Cert.FfnKernelIdeal.τ).loc Cert.FfnKernelIdeal.main_v20_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v54) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v53) = v2 c
          ∧ r.2.mem ((c.tc : Thread Cert.FfnReferenceIdeal.nD Cert.FfnReferenceIdeal.τ).loc Cert.FfnReferenceIdeal.main_v58) = v3 c
          ∧ r.2.mem ((c.tc : Thread Cert.FfnReferenceIdeal.nD Cert.FfnReferenceIdeal.τ).loc Cert.FfnReferenceIdeal.main_v59) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfwKernel_FfwKernelIdeal : Prop :=
  True

def algebraic_FfwKernelIdeal_FfwReferenceIdeal [hFfwKernelIdeal : Cert.FfwKernelIdeal.Facts] [hFfwReferenceIdeal : Cert.FfwReferenceIdeal.Facts] : Prop :=
  ∀ (m : (ℓ : Loc Cert.FfwKernelIdeal.nD Cert.FfwKernelIdeal.τ Cert.FfwKernelIdeal.sig) → Buf (Elt Ideal) ℓ) (g : Dev Cert.FfwKernelIdeal.nD → PrngReg)
    (m' : (ℓ : Loc Cert.FfwReferenceIdeal.nD Cert.FfwReferenceIdeal.τ Cert.FfwReferenceIdeal.sig) → Buf (Elt Ideal) ℓ) (g' : Dev Cert.FfwReferenceIdeal.nD → PrngReg), Pre_FfwKernelIdeal m →
    (∀ c : Dev Cert.FfwKernelIdeal.nD,
      m' ((c.tc : Thread Cert.FfwReferenceIdeal.nD Cert.FfwReferenceIdeal.τ).loc Cert.FfwReferenceIdeal.main_arg0) = m ((c.tc : Thread Cert.FfwKernelIdeal.nD Cert.FfwKernelIdeal.τ).loc Cert.FfwKernelIdeal.main_arg0)
      ∧ m' ((c.tc : Thread Cert.FfwReferenceIdeal.nD Cert.FfwReferenceIdeal.τ).loc Cert.FfwReferenceIdeal.main_arg1) = m ((c.tc : Thread Cert.FfwKernelIdeal.nD Cert.FfwKernelIdeal.τ).loc Cert.FfwKernelIdeal.main_arg1)
      ∧ m' ((c.tc : Thread Cert.FfwReferenceIdeal.nD Cert.FfwReferenceIdeal.τ).loc Cert.FfwReferenceIdeal.main_arg2) = m ((c.tc : Thread Cert.FfwKernelIdeal.nD Cert.FfwKernelIdeal.τ).loc Cert.FfwKernelIdeal.main_arg2)
      ∧ m' ((c.tc : Thread Cert.FfwReferenceIdeal.nD Cert.FfwReferenceIdeal.τ).loc Cert.FfwReferenceIdeal.main_arg3) = m ((c.tc : Thread Cert.FfwKernelIdeal.nD Cert.FfwKernelIdeal.τ).loc Cert.FfwKernelIdeal.main_arg3)) →
    ∃ (v0 : (c : Dev Cert.FfwKernelIdeal.nD) → Buf (Elt Ideal) ((c.tc : Thread Cert.FfwKernelIdeal.nD Cert.FfwKernelIdeal.τ).loc Cert.FfwKernelIdeal.main_v4_0)) (v1 : (c : Dev Cert.FfwKernelIdeal.nD) → Buf (Elt Ideal) ((c.tc : Thread Cert.FfwKernelIdeal.nD Cert.FfwKernelIdeal.τ).loc Cert.FfwKernelIdeal.main_v4_1)) (v2 : (c : Dev Cert.FfwKernelIdeal.nD) → Buf (Elt Ideal) ((c.tc : Thread Cert.FfwKernelIdeal.nD Cert.FfwKernelIdeal.τ).loc Cert.FfwKernelIdeal.main_v4_2)) (v3 : (c : Dev Cert.FfwKernelIdeal.nD) → Buf (Elt Ideal) ((c.tc : Thread Cert.FfwKernelIdeal.nD Cert.FfwKernelIdeal.τ).loc Cert.FfwKernelIdeal.main_v4_3)),
      θ_run (Cert.FfwKernelIdeal.defs (F := Ideal)) (onTc (τ := Cert.FfwKernelIdeal.τ) (Cert.FfwKernelIdeal.main (F := Ideal))) ⟨m, fun _ => 0, g⟩ (fun r => ∀ c : Dev Cert.FfwKernelIdeal.nD,
          r.2.mem ((c.tc : Thread Cert.FfwKernelIdeal.nD Cert.FfwKernelIdeal.τ).loc Cert.FfwKernelIdeal.main_v4_0) = v0 c
          ∧ r.2.mem ((c.tc : Thread Cert.FfwKernelIdeal.nD Cert.FfwKernelIdeal.τ).loc Cert.FfwKernelIdeal.main_v4_1) = v1 c
          ∧ r.2.mem ((c.tc : Thread Cert.FfwKernelIdeal.nD Cert.FfwKernelIdeal.τ).loc Cert.FfwKernelIdeal.main_v4_2) = v2 c
          ∧ r.2.mem ((c.tc : Thread Cert.FfwKernelIdeal.nD Cert.FfwKernelIdeal.τ).loc Cert.FfwKernelIdeal.main_v4_3) = v3 c
          ∧ r.2.mem ((c.tc : Thread Cert.FfwKernelIdeal.nD Cert.FfwKernelIdeal.τ).loc Cert.FfwKernelIdeal.main_arg0) = m ((c.tc : Thread Cert.FfwKernelIdeal.nD Cert.FfwKernelIdeal.τ).loc Cert.FfwKernelIdeal.main_arg0)
          ∧ r.2.mem ((c.tc : Thread Cert.FfwKernelIdeal.nD Cert.FfwKernelIdeal.τ).loc Cert.FfwKernelIdeal.main_arg1) = m ((c.tc : Thread Cert.FfwKernelIdeal.nD Cert.FfwKernelIdeal.τ).loc Cert.FfwKernelIdeal.main_arg1)
          ∧ r.2.mem ((c.tc : Thread Cert.FfwKernelIdeal.nD Cert.FfwKernelIdeal.τ).loc Cert.FfwKernelIdeal.main_arg2) = m ((c.tc : Thread Cert.FfwKernelIdeal.nD Cert.FfwKernelIdeal.τ).loc Cert.FfwKernelIdeal.main_arg2)
          ∧ r.2.mem ((c.tc : Thread Cert.FfwKernelIdeal.nD Cert.FfwKernelIdeal.τ).loc Cert.FfwKernelIdeal.main_arg3) = m ((c.tc : Thread Cert.FfwKernelIdeal.nD Cert.FfwKernelIdeal.τ).loc Cert.FfwKernelIdeal.main_arg3))
      ∧ θ_run (Cert.FfwReferenceIdeal.defs (F := Ideal)) (onTc (τ := Cert.FfwReferenceIdeal.τ) (Cert.FfwReferenceIdeal.main (F := Ideal))) ⟨m', fun _ => 0, g'⟩ (fun r => ∀ c : Dev Cert.FfwReferenceIdeal.nD,
          r.2.mem ((c.tc : Thread Cert.FfwReferenceIdeal.nD Cert.FfwReferenceIdeal.τ).loc Cert.FfwReferenceIdeal.main_v22) = v0 c
          ∧ r.2.mem ((c.tc : Thread Cert.FfwReferenceIdeal.nD Cert.FfwReferenceIdeal.τ).loc Cert.FfwReferenceIdeal.main_v23) = v1 c
          ∧ r.2.mem ((c.tc : Thread Cert.FfwReferenceIdeal.nD Cert.FfwReferenceIdeal.τ).loc Cert.FfwReferenceIdeal.main_v24) = v2 c
          ∧ r.2.mem ((c.tc : Thread Cert.FfwReferenceIdeal.nD Cert.FfwReferenceIdeal.τ).loc Cert.FfwReferenceIdeal.main_v25) = v3 c
          ∧ r.2.mem ((c.tc : Thread Cert.FfwReferenceIdeal.nD Cert.FfwReferenceIdeal.τ).loc Cert.FfwReferenceIdeal.main_arg0) = m' ((c.tc : Thread Cert.FfwReferenceIdeal.nD Cert.FfwReferenceIdeal.τ).loc Cert.FfwReferenceIdeal.main_arg0)
          ∧ r.2.mem ((c.tc : Thread Cert.FfwReferenceIdeal.nD Cert.FfwReferenceIdeal.τ).loc Cert.FfwReferenceIdeal.main_arg1) = m' ((c.tc : Thread Cert.FfwReferenceIdeal.nD Cert.FfwReferenceIdeal.τ).loc Cert.FfwReferenceIdeal.main_arg1)
          ∧ r.2.mem ((c.tc : Thread Cert.FfwReferenceIdeal.nD Cert.FfwReferenceIdeal.τ).loc Cert.FfwReferenceIdeal.main_arg2) = m' ((c.tc : Thread Cert.FfwReferenceIdeal.nD Cert.FfwReferenceIdeal.τ).loc Cert.FfwReferenceIdeal.main_arg2)
          ∧ r.2.mem ((c.tc : Thread Cert.FfwReferenceIdeal.nD Cert.FfwReferenceIdeal.τ).loc Cert.FfwReferenceIdeal.main_arg3) = m' ((c.tc : Thread Cert.FfwReferenceIdeal.nD Cert.FfwReferenceIdeal.τ).loc Cert.FfwReferenceIdeal.main_arg3))

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hOutKernel : Cert.OutKernel.Facts) (hOutKernelIdeal : Cert.OutKernelIdeal.Facts) (hOutReferenceIdeal : Cert.OutReferenceIdeal.Facts) (hMixKernel : Cert.MixKernel.Facts) (hMixKernelIdeal : Cert.MixKernelIdeal.Facts) (hMixReferenceIdeal : Cert.MixReferenceIdeal.Facts) (hGatesKernel : Cert.GatesKernel.Facts) (hGatesKernelIdeal : Cert.GatesKernelIdeal.Facts) (hGatesReferenceIdeal : Cert.GatesReferenceIdeal.Facts) (hAfwdKernel : Cert.AfwdKernel.Facts) (hAfwdKernelIdeal : Cert.AfwdKernelIdeal.Facts) (hAfwdReferenceIdeal : Cert.AfwdReferenceIdeal.Facts) (hConvKernel : Cert.ConvKernel.Facts) (hConvKernelIdeal : Cert.ConvKernelIdeal.Facts) (hConvReferenceIdeal : Cert.ConvReferenceIdeal.Facts) (hOfwdKernel : Cert.OfwdKernel.Facts) (hOfwdKernelIdeal : Cert.OfwdKernelIdeal.Facts) (hOfwdReferenceIdeal : Cert.OfwdReferenceIdeal.Facts) (hMfwdKernel : Cert.MfwdKernel.Facts) (hMfwdKernelIdeal : Cert.MfwdKernelIdeal.Facts) (hMfwdReferenceIdeal : Cert.MfwdReferenceIdeal.Facts) (hGfwdKernel : Cert.GfwdKernel.Facts) (hGfwdKernelIdeal : Cert.GfwdKernelIdeal.Facts) (hGfwdReferenceIdeal : Cert.GfwdReferenceIdeal.Facts) (hCfwdKernel : Cert.CfwdKernel.Facts) (hCfwdKernelIdeal : Cert.CfwdKernelIdeal.Facts) (hCfwdReferenceIdeal : Cert.CfwdReferenceIdeal.Facts) (hWgradKernel : Cert.WgradKernel.Facts) (hWgradKernelIdeal : Cert.WgradKernelIdeal.Facts) (hWgradReferenceIdeal : Cert.WgradReferenceIdeal.Facts) (hAdamKernel : Cert.AdamKernel.Facts) (hAdamKernelIdeal : Cert.AdamKernelIdeal.Facts) (hAdamReferenceIdeal : Cert.AdamReferenceIdeal.Facts) (hSsumKernel : Cert.SsumKernel.Facts) (hSsumKernelIdeal : Cert.SsumKernelIdeal.Facts) (hSsumReferenceIdeal : Cert.SsumReferenceIdeal.Facts) (hFupKernel : Cert.FupKernel.Facts) (hFupKernelIdeal : Cert.FupKernelIdeal.Facts) (hFupReferenceIdeal : Cert.FupReferenceIdeal.Facts) (hFfnKernel : Cert.FfnKernel.Facts) (hFfnKernelIdeal : Cert.FfnKernelIdeal.Facts) (hFfnReferenceIdeal : Cert.FfnReferenceIdeal.Facts) (hFfwKernel : Cert.FfwKernel.Facts) (hFfwKernelIdeal : Cert.FfwKernelIdeal.Facts) (hFfwReferenceIdeal : Cert.FfwReferenceIdeal.Facts) (hPre_loss_finite : Cert.Pre_loss_finite.Facts) (hPre_attn_finite : Cert.Pre_attn_finite.Facts) (hPre_out_finite : Cert.Pre_out_finite.Facts) (hPre_mix_finite : Cert.Pre_mix_finite.Facts) (hPre_gates_finite : Cert.Pre_gates_finite.Facts) (hPre_afwd_finite : Cert.Pre_afwd_finite.Facts) (hPre_ofwd_finite : Cert.Pre_ofwd_finite.Facts) (hPre_mfwd_finite : Cert.Pre_mfwd_finite.Facts) (hPre_gfwd_finite : Cert.Pre_gfwd_finite.Facts) (hPre_ffn_finite : Cert.Pre_ffn_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_GatesKernel (hGatesKernel := hGatesKernel)
    ∧ quiescent_GatesKernelIdeal (hGatesKernelIdeal := hGatesKernelIdeal)
    ∧ quiescent_GatesKernelIdeal_pre_gates_finite (hGatesKernelIdeal := hGatesKernelIdeal) (hPre_gates_finite := hPre_gates_finite)
    ∧ quiescent_GatesReferenceIdeal (hGatesReferenceIdeal := hGatesReferenceIdeal)
    ∧ quiescent_GatesReferenceIdeal_pre_gates_finite (hGatesReferenceIdeal := hGatesReferenceIdeal) (hPre_gates_finite := hPre_gates_finite)
    ∧ quiescent_AfwdKernel (hAfwdKernel := hAfwdKernel)
    ∧ quiescent_AfwdKernelIdeal (hAfwdKernelIdeal := hAfwdKernelIdeal)
    ∧ quiescent_AfwdKernelIdeal_pre_afwd_finite (hAfwdKernelIdeal := hAfwdKernelIdeal) (hPre_afwd_finite := hPre_afwd_finite)
    ∧ quiescent_AfwdReferenceIdeal (hAfwdReferenceIdeal := hAfwdReferenceIdeal)
    ∧ quiescent_AfwdReferenceIdeal_pre_afwd_finite (hAfwdReferenceIdeal := hAfwdReferenceIdeal) (hPre_afwd_finite := hPre_afwd_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_OfwdKernel (hOfwdKernel := hOfwdKernel)
    ∧ quiescent_OfwdKernelIdeal (hOfwdKernelIdeal := hOfwdKernelIdeal)
    ∧ quiescent_OfwdKernelIdeal_pre_ofwd_finite (hOfwdKernelIdeal := hOfwdKernelIdeal) (hPre_ofwd_finite := hPre_ofwd_finite)
    ∧ quiescent_OfwdReferenceIdeal (hOfwdReferenceIdeal := hOfwdReferenceIdeal)
    ∧ quiescent_OfwdReferenceIdeal_pre_ofwd_finite (hOfwdReferenceIdeal := hOfwdReferenceIdeal) (hPre_ofwd_finite := hPre_ofwd_finite)
    ∧ quiescent_MfwdKernel (hMfwdKernel := hMfwdKernel)
    ∧ quiescent_MfwdKernelIdeal (hMfwdKernelIdeal := hMfwdKernelIdeal)
    ∧ quiescent_MfwdKernelIdeal_pre_mfwd_finite (hMfwdKernelIdeal := hMfwdKernelIdeal) (hPre_mfwd_finite := hPre_mfwd_finite)
    ∧ quiescent_MfwdReferenceIdeal (hMfwdReferenceIdeal := hMfwdReferenceIdeal)
    ∧ quiescent_MfwdReferenceIdeal_pre_mfwd_finite (hMfwdReferenceIdeal := hMfwdReferenceIdeal) (hPre_mfwd_finite := hPre_mfwd_finite)
    ∧ quiescent_GfwdKernel (hGfwdKernel := hGfwdKernel)
    ∧ quiescent_GfwdKernelIdeal (hGfwdKernelIdeal := hGfwdKernelIdeal)
    ∧ quiescent_GfwdKernelIdeal_pre_gfwd_finite (hGfwdKernelIdeal := hGfwdKernelIdeal) (hPre_gfwd_finite := hPre_gfwd_finite)
    ∧ quiescent_GfwdReferenceIdeal (hGfwdReferenceIdeal := hGfwdReferenceIdeal)
    ∧ quiescent_GfwdReferenceIdeal_pre_gfwd_finite (hGfwdReferenceIdeal := hGfwdReferenceIdeal) (hPre_gfwd_finite := hPre_gfwd_finite)
    ∧ quiescent_CfwdKernel (hCfwdKernel := hCfwdKernel)
    ∧ quiescent_CfwdKernelIdeal (hCfwdKernelIdeal := hCfwdKernelIdeal)
    ∧ quiescent_CfwdReferenceIdeal (hCfwdReferenceIdeal := hCfwdReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_SsumKernel (hSsumKernel := hSsumKernel)
    ∧ quiescent_SsumKernelIdeal (hSsumKernelIdeal := hSsumKernelIdeal)
    ∧ quiescent_SsumReferenceIdeal (hSsumReferenceIdeal := hSsumReferenceIdeal)
    ∧ quiescent_FupKernel (hFupKernel := hFupKernel)
    ∧ quiescent_FupKernelIdeal (hFupKernelIdeal := hFupKernelIdeal)
    ∧ quiescent_FupReferenceIdeal (hFupReferenceIdeal := hFupReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_FfwKernel (hFfwKernel := hFfwKernel)
    ∧ quiescent_FfwKernelIdeal (hFfwKernelIdeal := hFfwKernelIdeal)
    ∧ quiescent_FfwReferenceIdeal (hFfwReferenceIdeal := hFfwReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_GatesKernel_GatesKernelIdeal
    ∧ algebraic_GatesKernelIdeal_GatesReferenceIdeal_pre_gates_finite (hGatesKernelIdeal := hGatesKernelIdeal) (hGatesReferenceIdeal := hGatesReferenceIdeal) (hPre_gates_finite := hPre_gates_finite)
    ∧ preserves_AfwdKernel_AfwdKernelIdeal
    ∧ algebraic_AfwdKernelIdeal_AfwdReferenceIdeal_pre_afwd_finite (hAfwdKernelIdeal := hAfwdKernelIdeal) (hAfwdReferenceIdeal := hAfwdReferenceIdeal) (hPre_afwd_finite := hPre_afwd_finite)
    ∧ preserves_ConvKernel_ConvKernelIdeal
    ∧ preserves_OfwdKernel_OfwdKernelIdeal
    ∧ algebraic_OfwdKernelIdeal_OfwdReferenceIdeal_pre_ofwd_finite (hOfwdKernelIdeal := hOfwdKernelIdeal) (hOfwdReferenceIdeal := hOfwdReferenceIdeal) (hPre_ofwd_finite := hPre_ofwd_finite)
    ∧ preserves_MfwdKernel_MfwdKernelIdeal
    ∧ algebraic_MfwdKernelIdeal_MfwdReferenceIdeal_pre_mfwd_finite (hMfwdKernelIdeal := hMfwdKernelIdeal) (hMfwdReferenceIdeal := hMfwdReferenceIdeal) (hPre_mfwd_finite := hPre_mfwd_finite)
    ∧ preserves_GfwdKernel_GfwdKernelIdeal
    ∧ algebraic_GfwdKernelIdeal_GfwdReferenceIdeal_pre_gfwd_finite (hGfwdKernelIdeal := hGfwdKernelIdeal) (hGfwdReferenceIdeal := hGfwdReferenceIdeal) (hPre_gfwd_finite := hPre_gfwd_finite)
    ∧ preserves_CfwdKernel_CfwdKernelIdeal
    ∧ algebraic_CfwdKernelIdeal_CfwdReferenceIdeal (hCfwdKernelIdeal := hCfwdKernelIdeal) (hCfwdReferenceIdeal := hCfwdReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_SsumKernel_SsumKernelIdeal
    ∧ algebraic_SsumKernelIdeal_SsumReferenceIdeal (hSsumKernelIdeal := hSsumKernelIdeal) (hSsumReferenceIdeal := hSsumReferenceIdeal)
    ∧ preserves_FupKernel_FupKernelIdeal
    ∧ algebraic_FupKernelIdeal_FupReferenceIdeal (hFupKernelIdeal := hFupKernelIdeal) (hFupReferenceIdeal := hFupReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_FfwKernel_FfwKernelIdeal
    ∧ algebraic_FfwKernelIdeal_FfwReferenceIdeal (hFfwKernelIdeal := hFfwKernelIdeal) (hFfwReferenceIdeal := hFfwReferenceIdeal)
-- ==== Pre_afwd_finite.lean ====
abbrev S2048x1536 : Shape := ⟨2, ![2048, 1536]⟩
abbrev S8x2048 : Shape := ⟨2, ![8, 2048]⟩
abbrev S_ : Shape := ⟨0, ![]⟩

class Facts : Prop where
  bcast_S_S2048x1536 : S_.BroadcastsInDim S2048x1536 (![] : Fin 0 → Fin S2048x1536.rank)
  bcast_S_S8x2048 : S_.BroadcastsInDim S8x2048 (![] : Fin 0 → Fin S8x2048.rank)

variable [Facts]

def fn {F : FTy → Type} [FloatOps F] (main_arg0 : FVec F S2048x1536 .f32) (main_arg1 : FVec F S8x2048 .f32) : IVec S2048x1536 1 × IVec S8x2048 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S8x2048 .f32 := Host.absf main_arg1
  let main_cst_0 : FVec F S_ .f32 := constant S_ .f32 0x7F800000#32
  let main_v4 : FVec F S8x2048 .f32 := broadcastInDim S8x2048 ![] bcast_S_S8x2048 main_cst_0
  let main_v5 : IVec S8x2048 1 := cmpf .olt main_v3 main_v4
  (main_v2, main_v5)
-- ==== Pre_attn_finite.lean ====
abbrev S2048x1536 : Shape := ⟨2, ![2048, 1536]⟩
abbrev S8x2048 : Shape := ⟨2, ![8, 2048]⟩
abbrev S2048x512 : Shape := ⟨2, ![2048, 512]⟩
abbrev S_ : Shape := ⟨0, ![]⟩

class Facts : Prop where
  bcast_S_S2048x1536 : S_.BroadcastsInDim S2048x1536 (![] : Fin 0 → Fin S2048x1536.rank)
  bcast_S_S8x2048 : S_.BroadcastsInDim S8x2048 (![] : Fin 0 → Fin S8x2048.rank)
  bcast_S_S2048x512 : S_.BroadcastsInDim S2048x512 (![] : Fin 0 → Fin S2048x512.rank)

variable [Facts]

def fn {F : FTy → Type} [FloatOps F] (main_arg0 : FVec F S2048x1536 .f32) (main_arg1 : FVec F S8x2048 .f32) (main_arg2 : FVec F S2048x512 .f32) : IVec S2048x1536 1 × IVec S8x2048 1 × IVec S2048x512 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S8x2048 .f32 := Host.absf main_arg1
  let main_cst_0 : FVec F S_ .f32 := constant S_ .f32 0x7F800000#32
  let main_v4 : FVec F S8x2048 .f32 := broadcastInDim S8x2048 ![] bcast_S_S8x2048 main_cst_0
  let main_v5 : IVec S8x2048 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  (main_v2, main_v5, main_v8)
-- ==== Pre_ffn_finite.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1x1024 .f32) (main_arg3 : FVec F S1024x5632 .f32) (main_arg4 : FVec F S2816x1024 .f32) : IVec S2048x1024 1 × IVec S2048x1024 1 × IVec S1x1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_gates_finite.lean ====
abbrev S16x2048 : Shape := ⟨2, ![16, 2048]⟩
abbrev S16x1 : Shape := ⟨2, ![16, 1]⟩
abbrev S_ : Shape := ⟨0, ![]⟩

class Facts : Prop where
  bcast_S_S16x2048 : S_.BroadcastsInDim S16x2048 (![] : Fin 0 → Fin S16x2048.rank)
  bcast_S_S16x1 : S_.BroadcastsInDim S16x1 (![] : Fin 0 → Fin S16x1.rank)

variable [Facts]

def fn {F : FTy → Type} [FloatOps F] (main_arg0 : FVec F S16x2048 .f32) (main_arg1 : FVec F S16x2048 .f32) (main_arg2 : FVec F S16x1 .f32) : IVec S16x2048 1 × IVec S16x2048 1 × IVec S16x1 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S16x1 .f32 := Host.absf main_arg2
  let main_cst_1 : FVec F S_ .f32 := constant S_ .f32 0x7F800000#32
  let main_v7 : FVec F S16x1 .f32 := broadcastInDim S16x1 ![] bcast_S_S16x1 main_cst_1
  let main_v8 : IVec S16x1 1 := cmpf .olt main_v6 main_v7
  (main_v2, main_v5, main_v8)
-- ==== Pre_gfwd_finite.lean ====
abbrev S16x2048 : Shape := ⟨2, ![16, 2048]⟩
abbrev S16x1 : Shape := ⟨2, ![16, 1]⟩
abbrev S_ : Shape := ⟨0, ![]⟩

class Facts : Prop where
  bcast_S_S16x2048 : S_.BroadcastsInDim S16x2048 (![] : Fin 0 → Fin S16x2048.rank)
  bcast_S_S16x1 : S_.BroadcastsInDim S16x1 (![] : Fin 0 → Fin S16x1.rank)

variable [Facts]

def fn {F : FTy → Type} [FloatOps F] (main_arg0 : FVec F S16x2048 .f32) (main_arg1 : FVec F S16x1 .f32) : IVec S16x2048 1 × IVec S16x1 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_v3 : FVec F S16x1 .f32 := Host.absf main_arg1
  let main_cst_0 : FVec F S_ .f32 := constant S_ .f32 0x7F800000#32
  let main_v4 : FVec F S16x1 .f32 := broadcastInDim S16x1 ![] bcast_S_S16x1 main_cst_0
  let main_v5 : IVec S16x1 1 := cmpf .olt main_v3 main_v4
  (main_v2, main_v5)
-- ==== Pre_loss_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S1x1024 .f32) : IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_mfwd_finite.lean ====
abbrev S2048x1024 : Shape := ⟨2, ![2048, 1024]⟩
abbrev S1x1024 : Shape := ⟨2, ![1, 1024]⟩
abbrev S1024x2568 : Shape := ⟨2, ![1024, 2568]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2568 : S_.BroadcastsInDim S1024x2568 (![] : Fin 0 → Fin S1024x2568.rank)

variable [Facts]

def fn {F : FTy → Type} [FloatOps F] (main_arg0 : FVec F S2048x1024 .f32) (main_arg1 : FVec F S1x1024 .f32) (main_arg2 : FVec F S1024x2568 .f32) : IVec S2048x1024 1 × IVec S1x1024 1 × IVec S1024x2568 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2568 .f32 := Host.absf main_arg2
  let main_cst_1 : FVec F S_ .f32 := constant S_ .f32 0x7F800000#32
  let main_v7 : FVec F S1024x2568 .f32 := broadcastInDim S1024x2568 ![] bcast_S_S1024x2568 main_cst_1
  let main_v8 : IVec S1024x2568 1 := cmpf .olt main_v6 main_v7
  (main_v2, main_v5, main_v8)
-- ==== Pre_mix_finite.lean ====
abbrev S2048x2568 : Shape := ⟨2, ![2048, 2568]⟩
abbrev S2048x1024 : Shape := ⟨2, ![2048, 1024]⟩
abbrev S1x1024 : Shape := ⟨2, ![1, 1024]⟩
abbrev S1024x2568 : Shape := ⟨2, ![1024, 2568]⟩
abbrev S_ : Shape := ⟨0, ![]⟩

class Facts : Prop where
  bcast_S_S2048x2568 : S_.BroadcastsInDim S2048x2568 (![] : Fin 0 → Fin S2048x2568.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2568 : S_.BroadcastsInDim S1024x2568 (![] : Fin 0 → Fin S1024x2568.rank)

variable [Facts]

def fn {F : FTy → Type} [FloatOps F] (main_arg0 : FVec F S2048x2568 .f32) (main_arg1 : FVec F S2048x1024 .f32) (main_arg2 : FVec F S2048x1024 .f32) (main_arg3 : FVec F S1x1024 .f32) (main_arg4 : FVec F S1024x2568 .f32) : IVec S2048x2568 1 × IVec S2048x1024 1 × IVec S2048x1024 1 × IVec S1x1024 1 × IVec S1024x2568 1 :=
  let main_v0 : FVec F S2048x2568 .f32 := Host.absf main_arg0
  let main_cst : FVec F S_ .f32 := constant S_ .f32 0x7F800000#32
  let main_v1 : FVec F S2048x2568 .f32 := broadcastInDim S2048x2568 ![] bcast_S_S2048x2568 main_cst
  let main_v2 : IVec S2048x2568 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x2568 .f32 := Host.absf main_arg4
  let main_cst_3 : FVec F S_ .f32 := constant S_ .f32 0x7F800000#32
  let main_v13 : FVec F S1024x2568 .f32 := broadcastInDim S1024x2568 ![] bcast_S_S1024x2568 main_cst_3
  let main_v14 : IVec S1024x2568 1 := cmpf .olt main_v12 main_v13
  (main_v2, main_v5, main_v8, main_v11, main_v14)
-- ==== Pre_ofwd_finite.lean ====
abbrev S2048x512 : Shape := ⟨2, ![2048, 512]⟩
abbrev S1x512 : Shape := ⟨2, ![1, 512]⟩
abbrev S1024x1024 : Shape := ⟨2, ![1024, 1024]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S2048x512 .f32) (main_arg1 : FVec F S2048x512 .f32) (main_arg2 : FVec F S1x512 .f32) (main_arg3 : FVec F S1024x1024 .f32) (main_arg4 : FVec F S2048x1024 .f32) : IVec S2048x512 1 × IVec S2048x512 1 × IVec S1x512 1 × IVec S1024x1024 1 × IVec S2048x1024 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_out_finite.lean ====
abbrev S2048x1024 : Shape := ⟨2, ![2048, 1024]⟩
abbrev S2048x512 : Shape := ⟨2, ![2048, 512]⟩
abbrev S1x512 : Shape := ⟨2, ![1, 512]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn {F : FTy → Type} [FloatOps F] (main_arg0 : FVec F S2048x1024 .f32) (main_arg1 : FVec F S2048x512 .f32) (main_arg2 : FVec F S1x512 .f32) (main_arg3 : FVec F S1024x1024 .f32) : IVec S2048x1024 1 × IVec S2048x512 1 × IVec S1x512 1 × IVec S1024x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== LossKernel.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x128, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1x1024, .f32⟩
  | .hbm, ⟨73, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AttnKernel.lean ====
abbrev S2048x1536 : Shape := ⟨2, ![2048, 1536]⟩
abbrev S8x2048 : Shape := ⟨2, ![8, 2048]⟩
abbrev S2048x512 : Shape := ⟨2, ![2048, 512]⟩
abbrev S_ : Shape := ⟨0, ![]⟩
abbrev S2048x8x64 : Shape := ⟨3, ![2048, 8, 64]⟩
abbrev S8x2048x2048 : Shape := ⟨3, ![8, 2048, 2048]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S2048x128 : Shape := ⟨2, ![2048, 128]⟩
abbrev S2x1x2048 : Shape := ⟨3, ![2, 1, 2048]⟩
abbrev S2x2048x1 : Shape := ⟨3, ![2, 2048, 1]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S512x128 : Shape := ⟨2, ![512, 128]⟩
abbrev S1x1x512 : Shape := ⟨3, ![1, 1, 512]⟩
abbrev S1x512 : Shape := ⟨2, ![1, 512]⟩
abbrev S256x512 : Shape := ⟨2, ![256, 512]⟩
abbrev S512 : Shape := ⟨1, ![512]⟩
abbrev S768x128 : Shape := ⟨2, ![768, 128]⟩
abbrev S1x1x768 : Shape := ⟨3, ![1, 1, 768]⟩
abbrev S1x768 : Shape := ⟨2, ![1, 768]⟩
abbrev S256x768 : Shape := ⟨2, ![256, 768]⟩
abbrev S768 : Shape := ⟨1, ![768]⟩
abbrev S1024x128 : Shape := ⟨2, ![1024, 128]⟩
abbrev S1x1x1024 : Shape := ⟨3, ![1, 1, 1024]⟩
abbrev S1x1024 : Shape := ⟨2, ![1, 1024]⟩
abbrev S256x1024 : Shape := ⟨2, ![256, 1024]⟩
abbrev S1024 : Shape := ⟨1, ![1024]⟩
abbrev S1280x128 : Shape := ⟨2, ![1280, 128]⟩
abbrev S1x1x1280 : Shape := ⟨3, ![1, 1, 1280]⟩
abbrev S1x1280 : Shape := ⟨2, ![1, 1280]⟩
abbrev S256x1280 : Shape := ⟨2, ![256, 1280]⟩
abbrev S1280 : Shape := ⟨1, ![1280]⟩
abbrev S1536x128 : Shape := ⟨2, ![1536, 128]⟩
abbrev S1x1x1536 : Shape := ⟨3, ![1, 1, 1536]⟩
abbrev S1x1536 : Shape := ⟨2, ![1, 1536]⟩
abbrev S256x1536 : Shape := ⟨2, ![256, 1536]⟩
abbrev S1536 : Shape := ⟨1, ![1536]⟩
abbrev S1792x128 : Shape := ⟨2, ![1792, 128]⟩
abbrev S1x1x1792 : Shape := ⟨3, ![1, 1, 1792]⟩
abbrev S1x1792 : Shape := ⟨2, ![1, 1792]⟩
abbrev S256x1792 : Shape := ⟨2, ![256, 1792]⟩
abbrev S1792 : Shape := ⟨1, ![1792]⟩
abbrev S1x1x2048 : Shape := ⟨3, ![1, 1, 2048]⟩
abbrev S256x2048 : Shape := ⟨2, ![256, 2048]⟩

abbrev nBuf : Space → Nat
  | .hbm => 43
  | .vmem => 22
  | .smem => 0
  | _ => 0

abbrev bufTy : (tb : Table) → Fin (tcTables nBuf tb) → BufTy
  | .hbm, ⟨0, _⟩ => ⟨S2048x1536, .f32⟩
  | .hbm, ⟨1, _⟩ => ⟨S8x2048, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S2048x8x64, .f32⟩
  | .hbm, ⟨10, _⟩ => ⟨S2048x8x64, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S2048x1536, .bf16⟩
  | .hbm, ⟨38, _⟩ => ⟨S8x1x2048, .f32⟩
  | .hbm, ⟨39, _⟩ => ⟨S2048x512, .bf16⟩
  | .hbm, ⟨40, _⟩ => ⟨S2048x512, .bf16⟩
  | .hbm, ⟨41, _⟩ => ⟨S2048x512, .bf16⟩
  | .hbm, ⟨42, _⟩ => ⟨S8x1x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x1x2048, .f32⟩
  | .local _ .vmem, ⟨7, _⟩ => ⟨S2x1x2048, .f32⟩
  | .local _ .vmem, ⟨8, _⟩ => ⟨S2x2048x1, .f32⟩
  | .local _ .vmem, ⟨9, _⟩ => ⟨S2x2048x1, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2x1x2048, .f32⟩
  | .local _ .vmem, ⟨19, _⟩ => ⟨S2x1x2048, .f32⟩
  | .local _ .vmem, ⟨20, _⟩ => ⟨S2048x128, .f32⟩
  | .local _ .vmem, ⟨21, _⟩ => ⟨S2048x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnReferenceIdeal.lean ====
abbrev S2048x1536 : Shape := ⟨2, ![2048, 1536]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 125
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S8x2048, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x8x64, .f32⟩
  | .hbm, ⟨7, _⟩ => ⟨S2048x8x64, .f32⟩
  | .hbm, ⟨8, _⟩ => ⟨S2048x8x64, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .i1⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x64x2048, .f32⟩
  | .hbm, ⟨71, _⟩ => ⟨S2048x8x64, .f32⟩
  | .hbm, ⟨72, _⟩ => ⟨S2048x512, .f32⟩
  | .hbm, ⟨73, _⟩ => ⟨S2048x8x64, .f32⟩
  | .hbm, ⟨74, _⟩ => ⟨S8x64x2048, .f32⟩
  | .hbm, ⟨75, _⟩ => ⟨S8x2048x2048, .f32⟩
  | .hbm, ⟨76, _⟩ => ⟨S8x64x2048, .f32⟩
  | .hbm, ⟨77, _⟩ => ⟨S2048x8x64, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x1, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x2048, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x1x2048, .f32⟩
  | .hbm, ⟨99, _⟩ => ⟨S_, .f32⟩
  | .hbm, ⟨100, _⟩ => ⟨S8x2048, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048, .f32⟩
  | .hbm, ⟨106, _⟩ => ⟨S8x2048, .f32⟩
  | .hbm, ⟨107, _⟩ => ⟨S_, .f32⟩
  | .hbm, ⟨108, _⟩ => ⟨S8x2048x2048, .f32⟩
  | .hbm, ⟨109, _⟩ => ⟨S8x2048x2048, .f32⟩
  | .hbm, ⟨110, _⟩ => ⟨S8x2048x64, .f32⟩
  | .hbm, ⟨111, _⟩ => ⟨S2048x8x64, .f32⟩
  | .hbm, ⟨112, _⟩ => ⟨S8x2048x64, .f32⟩
  | .hbm, ⟨113, _⟩ => ⟨S2048x8x64, .f32⟩
  | .hbm, ⟨114, _⟩ => ⟨S2048x512, .f32⟩
  | .hbm, ⟨115, _⟩ => ⟨S2048x512, .f32⟩
  | .hbm, ⟨116, _⟩ => ⟨S2048x512, .f32⟩
  | .hbm, ⟨117, _⟩ => ⟨S2048x1536, .f32⟩
  | .hbm, ⟨118, _⟩ => ⟨S2048x512, .f32⟩
  | .hbm, ⟨119, _⟩ => ⟨S2048x512, .f32⟩
  | .hbm, ⟨120, _⟩ => ⟨S2048x512, .f32⟩
  | .hbm, ⟨121, _⟩ => ⟨S2048x512, .bf16⟩
  | .hbm, ⟨122, _⟩ => ⟨S2048x512, .bf16⟩
  | .hbm, ⟨123, _⟩ => ⟨S2048x512, .bf16⟩
  | .hbm, ⟨124, _⟩ => ⟨S8x1x2048, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== OutKernel.lean ====
abbrev S2048x1024 : Shape := ⟨2, ![2048, 1024]⟩
abbrev S2048x512 : Shape := ⟨2, ![2048, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S2048x1024, .bf16⟩
  | .hbm, ⟨5, _⟩ => ⟨S1024x1024, .bf16⟩
  | .hbm, ⟨6, _⟩ => ⟨S2048x512, .f32⟩
  | .hbm, ⟨7, _⟩ => ⟨S2048x512, .f32⟩
  | .hbm, ⟨8, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutReferenceIdeal.lean ====
abbrev S2048x1024 : Shape := ⟨2, ![2048, 1024]⟩
abbrev S2048x512 : Shape := ⟨2, ![2048, 512]⟩
abbrev S1x512 : Shape := ⟨2, ![1, 512]⟩
abbrev S1024x1024 : Shape := ⟨2, ![1024, 1024]⟩
abbrev S_ : Shape := ⟨0, ![]⟩
abbrev S512 : Shape := ⟨1, ![512]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S_, .f32⟩
  | .hbm, ⟨5, _⟩ => ⟨S2048x512, .f32⟩
  | .hbm, ⟨6, _⟩ => ⟨S512, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S512, .f32⟩
  | .hbm, ⟨40, _⟩ => ⟨S2048x512, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x512, .f32⟩
  | .hbm, ⟨45, _⟩ => ⟨S2048x512, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S1x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== MixKernel.lean ====
abbrev S2048x2568 : Shape := ⟨2, ![2048, 2568]⟩
abbrev S2048x1024 : Shape := ⟨2, ![2048, 1024]⟩
abbrev S1x1024 : Shape := ⟨2, ![1, 1024]⟩
abbrev S1024x2568 : Shape := ⟨2, ![1024, 2568]⟩
abbrev S2568x1024 : Shape := ⟨2, ![2568, 1024]⟩
abbrev S1024x1024 : Shape := ⟨2, ![1024, 1024]⟩
abbrev S1536x1024 : Shape := ⟨2, ![1536, 1024]⟩
abbrev S8x1024 : Shape := ⟨2, ![8, 1024]⟩
abbrev S_ : Shape := ⟨0, ![]⟩
abbrev S128x1024 : Shape := ⟨2, ![128, 1024]⟩
abbrev S2048x2688 : Shape := ⟨2, ![2048, 2688]⟩
abbrev S512x2688 : Shape := ⟨2, ![512, 2688]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S2048x2568, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1024x2568, .f32⟩
  | .hbm, ⟨5, _⟩ => ⟨S1024x2568, .bf16⟩
  | .hbm, ⟨6, _⟩ => ⟨S2568x1024, .bf16⟩
  | .hbm, ⟨7, _⟩ => ⟨S1024x1024, .bf16⟩
  | .hbm, ⟨8, _⟩ => ⟨S1536x1024, .bf16⟩
  | .hbm, ⟨9, _⟩ => ⟨S8x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S2048x2568, .bf16⟩
  | .hbm, ⟨14, _⟩ => ⟨S_, .i32⟩
  | .hbm, ⟨15, _⟩ => ⟨S_, .bf16⟩
  | .hbm, ⟨16, _⟩ => ⟨S2048x2688, .bf16⟩
  | .hbm, ⟨17, _⟩ => ⟨S2048x1024, .f32⟩
  | .hbm, ⟨18, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1536x1024, .bf16⟩
  | .local _ .vmem, ⟨9, _⟩ => ⟨S128x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x2568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixReferenceIdeal.lean ====
abbrev S2048x2568 : Shape := ⟨2, ![2048, 2568]⟩
abbrev S2048x1024 : Shape := ⟨2, ![2048, 1024]⟩
abbrev S1x1024 : Shape := ⟨2, ![1, 1024]⟩
abbrev S1024x2568 : Shape := ⟨2, ![1024, 2568]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x2568, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1024x2568, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2568, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x2568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== GatesKernel.lean ====
abbrev S16x2048 : Shape := ⟨2, ![16, 2048]⟩
abbrev S16x1 : Shape := ⟨2, ![16, 1]⟩
abbrev S128x128 : Shape := ⟨2, ![128, 128]⟩
abbrev S16x128 : Shape := ⟨2, ![16, 128]⟩
abbrev S16 : Shape := ⟨1, ![16]⟩

abbrev nBuf : Space → Nat
  | .hbm => 5
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x1, .f32⟩
  | .hbm, ⟨3, _⟩ => ⟨S16x2048, .f32⟩
  | .hbm, ⟨4, _⟩ => ⟨S16x1, .f32⟩
  | .local _ .vmem, ⟨0, _⟩ => ⟨S16x2048, .f32⟩
  | .local _ .vmem, ⟨1, _⟩ => ⟨S16x2048, .f32⟩
  | .local _ .vmem, ⟨2, _⟩ => ⟨S16x1, .f32⟩
  | .local _ .vmem, ⟨3, _⟩ => ⟨S16x2048, .f32⟩
  | .local _ .vmem, ⟨4, _⟩ => ⟨S16x1, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GatesReferenceIdeal.lean ====
abbrev S16x2048 : Shape := ⟨2, ![16, 2048]⟩
abbrev S16x1 : Shape := ⟨2, ![16, 1]⟩
abbrev S_ : Shape := ⟨0, ![]⟩
abbrev S16 : Shape := ⟨1, ![16]⟩

abbrev nBuf : Space → Nat
  | .hbm => 65
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S16x1, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x2048, .i1⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S16x2048, .i1⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .i1⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16x2048, .f32⟩
  | .hbm, ⟨42, _⟩ => ⟨S16x2048, .i1⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S16x2048, .f32⟩
  | .hbm, ⟨47, _⟩ => ⟨S16x2048, .f32⟩
  | .hbm, ⟨48, _⟩ => ⟨S16x2048, .f32⟩
  | .hbm, ⟨49, _⟩ => ⟨S_, .f32⟩
  | .hbm, ⟨50, _⟩ => ⟨S16x2048, .f32⟩
  | .hbm, ⟨51, _⟩ => ⟨S16x2048, .f32⟩
  | .hbm, ⟨52, _⟩ => ⟨S16x2048, .f32⟩
  | .hbm, ⟨53, _⟩ => ⟨S_, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S_, .f32⟩
  | .hbm, ⟨58, _⟩ => ⟨S16x2048, .f32⟩
  | .hbm, ⟨59, _⟩ => ⟨S16x2048, .f32⟩
  | .hbm, ⟨60, _⟩ => ⟨S16x2048, .f32⟩
  | .hbm, ⟨61, _⟩ => ⟨S16x2048, .f32⟩
  | .hbm, ⟨62, _⟩ => ⟨S_, .f32⟩
  | .hbm, ⟨63, _⟩ => ⟨S16, .f32⟩
  | .hbm, ⟨64, _⟩ => ⟨S16x1, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1_0 : Ref sig .tc := ⟨.hbm, 19, rfl⟩
abbrev main_call0_call0_cst_0 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_cst_1 : Ref sig .tc := ⟨.hbm, 23, rfl⟩
abbrev main_call0_call0_v15 : Ref sig .tc := ⟨.hbm, 24, rfl⟩
abbrev main_call0_call0_v16 : Ref sig .tc := ⟨.hbm, 25, rfl⟩
abbrev main_call0_call0_cst_2 : Ref sig .tc := ⟨.hbm, 26, rfl⟩
abbrev main_call0_call0_v17 : Ref sig .tc := ⟨.hbm, 27, rfl⟩
abbrev main_call0_call0_v18 : Ref sig .tc := ⟨.hbm, 28, rfl⟩
abbrev main_call0_call0_cst_3 : Ref sig .tc := ⟨.hbm, 29, rfl⟩
abbrev main_call0_call0_v19 : Ref sig .tc := ⟨.hbm, 30, rfl⟩
abbrev main_call0_call0_v20 : Ref sig .tc := ⟨.hbm, 31, rfl⟩
abbrev main_call0_call0_v21 : Ref sig .tc := ⟨.hbm, 32, rfl⟩
abbrev main_v2_1 : Ref sig .tc := ⟨.hbm, 33, rfl⟩
abbrev main_call0_call0_cst_4 : Ref sig .tc := ⟨.hbm, 34, rfl⟩
abbrev main_call0_call0_cst_5 : Ref sig .tc := ⟨.hbm, 35, rfl⟩
abbrev main_call0_call0_v23 : Ref sig .tc := ⟨.hbm, 36, rfl⟩
abbrev main_call0_call0_cst_6 : Ref sig .tc := ⟨.hbm, 37, rfl⟩
abbrev main_call0_call0_cst_7 : Ref sig .tc := ⟨.hbm, 38, rfl⟩
abbrev main_call0_call0_v24 : Ref sig .tc := ⟨.hbm, 39, rfl⟩
abbrev main_call0_call0_cst_8 : Ref sig .tc := ⟨.hbm, 40, rfl⟩
abbrev main_call0_call0_v25 : Ref sig .tc := ⟨.hbm, 41, rfl⟩
abbrev main_call0_call0_v26 : Ref sig .tc := ⟨.hbm, 42, rfl⟩
abbrev main_call0_call0_cst_9 : Ref sig .tc := ⟨.hbm, 43, rfl⟩
abbrev main_call0_call0_v27 : Ref sig .tc := ⟨.hbm, 44, rfl⟩
abbrev main_call0_call0_v28 : Ref sig .tc := ⟨.hbm, 45, rfl⟩
abbrev main_call0_call0_v29 : Ref sig .tc := ⟨.hbm, 46, rfl⟩
abbrev main_call0_call0_v30 : Ref sig .tc := ⟨.hbm, 47, rfl⟩
abbrev main_call0_call0_v31 : Ref sig .tc := ⟨.hbm, 48, rfl⟩
abbrev main_call0_call0_cst_10 : Ref sig .tc := ⟨.hbm, 49, rfl⟩
abbrev main_call0_call0_v32 : Ref sig .tc := ⟨.hbm, 50, rfl⟩
abbrev main_v2_2 : Ref sig .tc := ⟨.hbm, 51, rfl⟩
abbrev main_v2_0 : Ref sig .tc := ⟨.hbm, 52, rfl⟩
abbrev main_call1_call0_cst : Ref sig .tc := ⟨.hbm, 53, rfl⟩
abbrev main_call1_call0_v0 : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_cst : Ref sig .tc := ⟨.hbm, 62, rfl⟩
abbrev main_v6 : Ref sig .tc := ⟨.hbm, 63, rfl⟩
abbrev main_v7 : Ref sig .tc := ⟨.hbm, 64, rfl⟩

abbrev nD : Nat := 1
abbrev τ : Topo := Topo.v7x

variable {F : FTy → Type} [FloatOps F]
-- ==== AfwdKernel.lean ====
abbrev S2048x1536 : Shape := ⟨2, ![2048, 1536]⟩
abbrev S8x2048 : Shape := ⟨2, ![8, 2048]⟩
abbrev S8x1x2048 : Shape := ⟨3, ![8, 1, 2048]⟩
abbrev S2048x512 : Shape := ⟨2, ![2048, 512]⟩
abbrev S8x2048x1 : Shape := ⟨3, ![8, 2048, 1]⟩
abbrev S2048x128 : Shape := ⟨2, ![2048, 128]⟩
abbrev S2x1x2048 : Shape := ⟨3, ![2, 1, 2048]⟩
abbrev S2x2048x1 : Shape := ⟨3, ![2, 2048, 1]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S512x128 : Shape := ⟨2, ![512, 128]⟩
abbrev S1x1x512 : Shape := ⟨3, ![1, 1, 512]⟩
abbrev S1x512 : Shape := ⟨2, ![1, 512]⟩
abbrev S256x512 : Shape := ⟨2, ![256, 512]⟩
abbrev S768x128 : Shape := ⟨2, ![768, 128]⟩
abbrev S1x1x768 : Shape := ⟨3, ![1, 1, 768]⟩
abbrev S1x768 : Shape := ⟨2, ![1, 768]⟩
abbrev S256x768 : Shape := ⟨2, ![256, 768]⟩
abbrev S1024x128 : Shape := ⟨2, ![1024, 128]⟩
abbrev S1x1x1024 : Shape := ⟨3, ![1, 1, 1024]⟩
abbrev S1x1024 : Shape := ⟨2, ![1, 1024]⟩
abbrev S256x1024 : Shape := ⟨2, ![256, 1024]⟩
abbrev S1280x128 : Shape := ⟨2, ![1280, 128]⟩
abbrev S1x1x1280 : Shape := ⟨3, ![1, 1, 1280]⟩
abbrev S1x1280 : Shape := ⟨2, ![1, 1280]⟩
abbrev S256x1280 : Shape := ⟨2, ![256, 1280]⟩
abbrev S1536x128 : Shape := ⟨2, ![1536, 128]⟩
abbrev S1x1x1536 : Shape := ⟨3, ![1, 1, 1536]⟩
abbrev S1x1536 : Shape := ⟨2, ![1, 1536]⟩
abbrev S256x1536 : Shape := ⟨2, ![256, 1536]⟩
abbrev S1792x128 : Shape := ⟨2, ![1792, 128]⟩
abbrev S1x1x1792 : Shape := ⟨3, ![1, 1, 1792]⟩
abbrev S1x1792 : Shape := ⟨2, ![1, 1792]⟩
abbrev S256x1792 : Shape := ⟨2, ![256, 1792]⟩
abbrev S1x1x2048 : Shape := ⟨3, ![1, 1, 2048]⟩
abbrev S1x2048 : Shape := ⟨2, ![1, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2048x1536, .f32⟩
  | .hbm, ⟨1, _⟩ => ⟨S8x2048, .f32⟩
  | .hbm, ⟨2, _⟩ => ⟨S2048x1536, .bf16⟩
  | .hbm, ⟨3, _⟩ => ⟨S8x1x2048, .f32⟩
  | .hbm, ⟨4, _⟩ => ⟨S2048x512, .f32⟩
  | .hbm, ⟨5, _⟩ => ⟨S8x2048x1, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x1x2048, .f32⟩
  | .local _ .vmem, ⟨7, _⟩ => ⟨S2x1x2048, .f32⟩
  | .local _ .vmem, ⟨8, _⟩ => ⟨S2048x128, .f32⟩
  | .local _ .vmem, ⟨9, _⟩ => ⟨S2048x128, .f32⟩
  | .local _ .vmem, ⟨10, _⟩ => ⟨S2x2048x1, .f32⟩
  | .local _ .vmem, ⟨11, _⟩ => ⟨S2x2048x1, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AfwdReferenceIdeal.lean ====
abbrev S2048x1536 : Shape := ⟨2, ![2048, 1536]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 80
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S8x2048, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x64x2048, .f32⟩
  | .hbm, ⟨44, _⟩ => ⟨S2048x8x64, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x8x64, .f32⟩
  | .hbm, ⟨53, _⟩ => ⟨S2048x8x64, .f32⟩
  | .hbm, ⟨54, _⟩ => ⟨S8x2048x2048, .f32⟩
  | .hbm, ⟨55, _⟩ => ⟨S8x1x2048, .f32⟩
  | .hbm, ⟨56, _⟩ => ⟨S8x2048x2048, .f32⟩
  | .hbm, ⟨57, _⟩ => ⟨S8x2048x2048, .f32⟩
  | .hbm, ⟨58, _⟩ => ⟨S2048, .i32⟩
  | .hbm, ⟨59, _⟩ => ⟨S1x2048, .i32⟩
  | .hbm, ⟨60, _⟩ => ⟨S2048x1, .i32⟩
  | .hbm, ⟨61, _⟩ => ⟨S2048x2048, .i32⟩
  | .hbm, ⟨62, _⟩ => ⟨S2048x2048, .i32⟩
  | .hbm, ⟨63, _⟩ => ⟨S2048x2048, .i1⟩
  | .hbm, ⟨64, _⟩ => ⟨S_, .f32⟩
  | .hbm, ⟨65, _⟩ => ⟨S_, .f32⟩
  | .hbm, ⟨66, _⟩ => ⟨S8x2048x2048, .i1⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S8x2048x1, .f32⟩
  | .hbm, ⟨79, _⟩ => ⟨S8x2048x1, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== ConvKernel.lean ====
abbrev S2048x512 : Shape := ⟨2, ![2048, 512]⟩
abbrev S2048x1024 : Shape := ⟨2, ![2048, 1024]⟩
abbrev S31x512 : Shape := ⟨2, ![31, 512]⟩
abbrev S1x512 : Shape := ⟨2, ![1, 512]⟩
abbrev S_ : Shape := ⟨0, ![]⟩
abbrev S30x512 : Shape := ⟨2, ![30, 512]⟩
abbrev S2078x512 : Shape := ⟨2, ![2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x512 : Shape := ⟨3, ![2048, 31, 512]⟩
abbrev S1x31x512 : Shape := ⟨3, ![1, 31, 512]⟩
abbrev S32x512 : Shape := ⟨2, ![32, 512]⟩
abbrev S2096x512 : Shape := ⟨2, ![2096, 512]⟩
abbrev S16x512 : Shape := ⟨2, ![16, 512]⟩
abbrev S128x512 : Shape := ⟨2, ![128, 512]⟩
abbrev S48x512 : Shape := ⟨2, ![48, 512]⟩
abbrev S128 : Shape := ⟨1, ![128]⟩
abbrev S128x1 : Shape := ⟨2, ![128, 1]⟩
abbrev S168x512 : Shape := ⟨2, ![168, 512]⟩
abbrev S512 : Shape := ⟨1, ![512]⟩

abbrev nBuf : Space → Nat
  | .hbm => 53
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S30x512, .f32⟩
  | .hbm, ⟨20, _⟩ => ⟨S2078x512, .f32⟩
  | .hbm, ⟨21, _⟩ => ⟨S2048, .i32⟩
  | .hbm, ⟨22, _⟩ => ⟨S2048x1, .i32⟩
  | .hbm, ⟨23, _⟩ => ⟨S31, .i32⟩
  | .hbm, ⟨24, _⟩ => ⟨S1x31, .i32⟩
  | .hbm, ⟨25, _⟩ => ⟨S2048x31, .i32⟩
  | .hbm, ⟨26, _⟩ => ⟨S2048x31, .i32⟩
  | .hbm, ⟨27, _⟩ => ⟨S2048x31, .i32⟩
  | .hbm, ⟨28, _⟩ => ⟨S_, .i32⟩
  | .hbm, ⟨29, _⟩ => ⟨S2048x31, .i32⟩
  | .hbm, ⟨30, _⟩ => ⟨S2048x31, .i1⟩
  | .hbm, ⟨31, _⟩ => ⟨S_, .i32⟩
  | .hbm, ⟨32, _⟩ => ⟨S2048x31, .i32⟩
  | .hbm, ⟨33, _⟩ => ⟨S2048x31, .i32⟩
  | .hbm, ⟨34, _⟩ => ⟨S2048x31, .i32⟩
  | .hbm, ⟨35, _⟩ => ⟨S2048x31x1, .i32⟩
  | .hbm, ⟨36, _⟩ => ⟨S2048x31x512, .f32⟩
  | .hbm, ⟨37, _⟩ => ⟨S1x31x512, .f32⟩
  | .hbm, ⟨38, _⟩ => ⟨S2048x31x512, .f32⟩
  | .hbm, ⟨39, _⟩ => ⟨S2048x31x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .i32⟩
  | .hbm, ⟨45, _⟩ => ⟨S_, .f32⟩
  | .hbm, ⟨46, _⟩ => ⟨S32x512, .f32⟩
  | .hbm, ⟨47, _⟩ => ⟨S2048x1024, .bf16⟩
  | .hbm, ⟨48, _⟩ => ⟨S32x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .local _ .vmem, ⟨0, _⟩ => ⟨S2048x1024, .f32⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S2048x1024, .bf16⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S2096x512, .f32⟩
  | .local _ .vmem, ⟨14, _⟩ => ⟨S2096x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call0_v0 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v32_3 : Ref sig .tc := ⟨.hbm, 50, rfl⟩
abbrev main_v32_4 : Ref sig .tc := ⟨.hbm, 51, rfl⟩
abbrev main_v32_5 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v26 : BitVec 32 := Scalar.muli arg15 c128_i32
  v26
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v26 : BitVec 32 := Scalar.muli arg15 c128_i32
  let v27 : BitVec 32 := v26
  let v28 : Index := Scalar.indexCast v27
  let c0_32 : Index := 0#32
  ![v28.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v26 : BitVec 32 := Scalar.muli arg15 c128_i32
  let v27 : BitVec 32 := v26
  let v30 : Index := Scalar.indexCast v27
  let c512 : Index := 512#32
  ![v30.toNat, 512]
def k0_off3 (k0_t1 : Fin k0_t1_loop.trips) : Fin 2 → Nat :=
  let c32_i32 : BitVec 32 := 32#32
  let c0_i32 : BitVec 32 := 0#32
  let c1_i32 : BitVec 32 := 1#32
  let arg15 : BitVec 32 := Scf.iv c0_i32 c1_i32 k0_t1
  let c128_i32 : BitVec 32 := 128#32
  let v26 : BitVec 32 := Scalar.muli arg15 c128_i32
  let v27 : BitVec 32 := v26
  let v40 : BitVec 32 := Scalar.addi c32_i32 v27
  let v41 : Index := Scalar.indexCast v40
  let c0_36 : Index := 0#32
  ![v41.toNat, 0]
@[reducible] def k0_t2_loop : Scf.Loop 32 :=
  let c0_i32_16 : BitVec 32 := 0#32
  let c16_i32_17 : BitVec 32 := 16#32
  let v19 : BitVec 32 := Scalar.addi c0_i32_16 c16_i32_17
  let c1_i32_18 : BitVec 32 := 1#32
  ⟨c0_i32_16, v19, c1_i32_18⟩
def k0_mult2 (k0_t2 : Fin k0_t2_loop.trips) : BitVec 32 :=
  let c0_i32_16 : BitVec 32 := 0#32
  let c1_i32_18 : BitVec 32 := 1#32
  let arg15 : BitVec 32 := Scf.iv c0_i32_16 c1_i32_18 k0_t2
  let c128_i32 : BitVec 32 := 128#32
  let v26 : BitVec 32 := Scalar.muli arg15 c128_i32
  v26
def k0_off4 (k0_t2 : Fin k0_t2_loop.trips) : Fin 2 → Nat :=
  let c0_i32_16 : BitVec 32 := 0#32
  let c1_i32_18 : BitVec 32 := 1#32
  let arg15 : BitVec 32 := Scf.iv c0_i32_16 c1_i32_18 k0_t2
  let c128_i32 : BitVec 32 := 128#32
  let v26 : BitVec 32 := Scalar.muli arg15 c128_i32
  let v27 : BitVec 32 := v26
  let v28 : Index := Scalar.indexCast v27
  let c0_32 : Index := 0#32
  ![v28.toNat, 0]
def k0_off5 (k0_t2 : Fin k0_t2_loop.trips) : Fin 2 → Nat :=
  let c0_i32_16 : BitVec 32 := 0#32
  let c1_i32_18 : BitVec 32 := 1#32
  let arg15 : BitVec 32 := Scf.iv c0_i32_16 c1_i32_18 k0_t2
  let c128_i32 : BitVec 32 := 128#32
  let v26 : BitVec 32 := Scalar.muli arg15 c128_i32
  let v27 : BitVec 32 := v26
  let v113 : Index := Scalar.indexCast v27
  let c0_53 : Index := 0#32
  ![v113.toNat, 0]
def k0_off6 (k0_t2 : Fin k0_t2_loop.trips) : Fin 2 → Nat :=
  let c0_i32_16 : BitVec 32 := 0#32
  let c1_i32_18 : BitVec 32 := 1#32
  let arg15 : BitVec 32 := Scf.iv c0_i32_16 c1_i32_18 k0_t2
  let c128_i32 : BitVec 32 := 128#32
  let v26 : BitVec 32 := Scalar.muli arg15 c128_i32
  let v27 : BitVec 32 := v26
  let v117 : Index := Scalar.indexCast v27
  let c0_54 : Index := 0#32
  ![v117.toNat, 0]
@[reducible] def k0_t3_loop : Scf.Loop 32 :=
  let c0_i32_28 : BitVec 32 := 0#32
  let c16_i32_29 : BitVec 32 := 16#32
  let v25 : BitVec 32 := Scalar.addi c0_i32_28 c16_i32_29
  let c1_i32_30 : BitVec 32 := 1#32
  ⟨c0_i32_28, v25, c1_i32_30⟩
def k0_mult3 (k0_t3 : Fin k0_t3_loop.trips) : BitVec 32 :=
  let c0_i32_28 : BitVec 32 := 0#32
  let c1_i32_30 : BitVec 32 := 1#32
  let arg15 : BitVec 32 := Scf.iv c0_i32_28 c1_i32_30 k0_t3
  let c128_i32 : BitVec 32 := 128#32
  let v26 : BitVec 32 := Scalar.muli arg15 c128_i32
  v26
def k0_off7 (k0_t3 : Fin k0_t3_loop.trips) : Fin 2 → Nat :=
  let c0_i32_28 : BitVec 32 := 0#32
  let c1_i32_30 : BitVec 32 := 1#32
  let arg15 : BitVec 32 := Scf.iv c0_i32_28 c1_i32_30 k0_t3
  let c128_i32 : BitVec 32 := 128#32
  let v26 : BitVec 32 := Scalar.muli arg15 c128_i32
  let v27 : BitVec 32 := v26
  let v29 : Index := Scalar.indexCast v27
  let c0_33 : Index := 0#32
  ![v29.toNat, 0]
def k0_off8 (k0_t3 : Fin k0_t3_loop.trips) : Fin 2 → Nat :=
  let c0_i32_28 : BitVec 32 := 0#32
  let c1_i32_30 : BitVec 32 := 1#32
  let arg15 : BitVec 32 := Scf.iv c0_i32_28 c1_i32_30 k0_t3
  let c128_i32 : BitVec 32 := 128#32
  let v26 : BitVec 32 := Scalar.muli arg15 c128_i32
  let v27 : BitVec 32 := v26
  let v224 : Index := Scalar.indexCast v27
  let c0_66 : Index := 0#32
  ![v224.toNat, 0]
def k0_off9 (k0_t3 : Fin k0_t3_loop.trips) : Fin 2 → Nat :=
  let c0_i32_28 : BitVec 32 := 0#32
  let c1_i32_30 : BitVec 32 := 1#32
  let arg15 : BitVec 32 := Scf.iv c0_i32_28 c1_i32_30 k0_t3
  let c128_i32 : BitVec 32 := 128#32
  let v26 : BitVec 32 := Scalar.muli arg15 c128_i32
  let v27 : BitVec 32 := v26
  let v226 : Index := Scalar.indexCast v27
  let c512 : Index := 512#32
  ![v226.toNat, 512]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ConvReferenceIdeal.lean ====
abbrev S2048x512 : Shape := ⟨2, ![2048, 512]⟩
abbrev S2048x1024 : Shape := ⟨2, ![2048, 1024]⟩
abbrev S31x512 : Shape := ⟨2, ![31, 512]⟩
abbrev S1x512 : Shape := ⟨2, ![1, 512]⟩
abbrev S_ : Shape := ⟨0, ![]⟩
abbrev S30x512 : Shape := ⟨2, ![30, 512]⟩
abbrev S2078x512 : Shape := ⟨2, ![2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S2048x31x512 : Shape := ⟨3, ![2048, 31, 512]⟩
abbrev S1x31x512 : Shape := ⟨3, ![1, 31, 512]⟩
abbrev S512 : Shape := ⟨1, ![512]⟩
abbrev S32x512 : Shape := ⟨2, ![32, 512]⟩

abbrev nBuf : Space → Nat
  | .hbm => 215
  | .vmem => 0
  | .smem => 0
  | _ => 0

abbrev hbmTy0_0 (i : Nat) : BufTy := match i % 128 with
  | 0 => ⟨S2048x512, .f32⟩
  | 1 => ⟨S2048x1024, .f32⟩
  | 2 => ⟨S31x512, .f32⟩
  | 3 => ⟨S1x512, .f32⟩
  | 4 => ⟨S1x512, .f32⟩
  | 5 => ⟨S1x512, .f32⟩
  | 6 => ⟨S1x512, .f32⟩
  | 7 => ⟨S2048x512, .f32⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S2048x512, .f32⟩
  | 22 => ⟨S_, .f32⟩
  | 23 => ⟨S30x512, .f32⟩
  | 24 => ⟨S2078x512, .f32⟩
  | 25 => ⟨S_, .f32⟩
  | 26 => ⟨S30x512, .f32⟩
  | 27 => ⟨S2048, .i32⟩
  | 28 => ⟨S2048x1, .i32⟩
  | 29 => ⟨S31, .i32⟩
  | 30 => ⟨S1x31, .i32⟩
  | 31 => ⟨S2048x31, .i32⟩
  | 32 => ⟨S2048x31, .i32⟩
  | 33 => ⟨S2048x31, .i32⟩
  | 34 => ⟨S_, .i32⟩
  | 35 => ⟨S2048x31, .i32⟩
  | 36 => ⟨S2048x31, .i1⟩
  | 37 => ⟨S_, .i32⟩
  | 38 => ⟨S2048x31, .i32⟩
  | 39 => ⟨S2048x31, .i32⟩
  | 40 => ⟨S2048x31, .i32⟩
  | 41 => ⟨S2048x31x1, .i32⟩
  | 42 => ⟨S2048x31x512, .f32⟩
  | 43 => ⟨S1x31x512, .f32⟩
  | 44 => ⟨S2048x31x512, .f32⟩
  | 45 => ⟨S2048x31x512, .f32⟩
  | 46 => ⟨S_, .f32⟩
  | 47 => ⟨S2048x512, .f32⟩
  | 48 => ⟨S2048x512, .f32⟩
  | 49 => ⟨S2048x512, .f32⟩
  | 50 => ⟨S512, .f32⟩
  | 51 => ⟨S512, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S2048x512, .f32⟩
  | 59 => ⟨S2048x512, .f32⟩
  | 60 => ⟨S2048x512, .f32⟩
  | 61 => ⟨S_, .f32⟩
  | 62 => ⟨S2048, .f32⟩
  | 63 => ⟨S2048x1, .f32⟩
  | 64 => ⟨S_, .f32⟩
  | 65 => ⟨S2048x1, .f32⟩
  | 66 => ⟨S2048x1, .f32⟩
  | 67 => ⟨S_, .f32⟩
  | 68 => ⟨S2048x1, .f32⟩
  | 69 => ⟨S2048x1, .f32⟩
  | 70 => ⟨S2048x1, .f32⟩
  | 71 => ⟨S2048x1, .f32⟩
  | 72 => ⟨S_, .f32⟩
  | 73 => ⟨S2048x1, .f32⟩
  | 74 => ⟨S2048x1, .f32⟩
  | 75 => ⟨S2048x512, .f32⟩
  | 76 => ⟨S2048x512, .f32⟩
  | 77 => ⟨S1x512, .f32⟩
  | 78 => ⟨S2048x512, .f32⟩
  | 79 => ⟨S2048x512, .f32⟩
  | 80 => ⟨S1x512, .f32⟩
  | 81 => ⟨S2048x512, .f32⟩
  | 82 => ⟨S2048x512, .f32⟩
  | 83 => ⟨S2048x512, .f32⟩
  | 84 => ⟨S2048x512, .f32⟩
  | 85 => ⟨S_, .f32⟩
  | 86 => ⟨S2048x512, .f32⟩
  | 87 => ⟨S2048x512, .f32⟩
  | 88 => ⟨S_, .f32⟩
  | 89 => ⟨S2048x512, .f32⟩
  | 90 => ⟨S2048x512, .f32⟩
  | 91 => ⟨S_, .f32⟩
  | 92 => ⟨S2048x512, .f32⟩
  | 93 => ⟨S2048x512, .f32⟩
  | 94 => ⟨S2048x512, .f32⟩
  | 95 => ⟨S2048x512, .f32⟩
  | 96 => ⟨S512, .f32⟩
  | 97 => ⟨S2048x512, .f32⟩
  | 98 => ⟨S_, .f32⟩
  | 99 => ⟨S2048, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048x1, .f32⟩
  | 106 => ⟨S2048x1, .f32⟩
  | 107 => ⟨S2048x1, .f32⟩
  | 108 => ⟨S2048x1, .f32⟩
  | 109 => ⟨S_, .f32⟩
  | 110 => ⟨S2048x1, .f32⟩
  | 111 => ⟨S2048x1, .f32⟩
  | 112 => ⟨S2048x512, .f32⟩
  | 113 => ⟨S2048x512, .f32⟩
  | 114 => ⟨S1x512, .f32⟩
  | 115 => ⟨S2048x512, .f32⟩
  | 116 => ⟨S2048x512, .f32⟩
  | 117 => ⟨S2048x512, .f32⟩
  | 118 => ⟨S_, .f32⟩
  | 119 => ⟨S512, .f32⟩
  | 120 => ⟨S1x512, .f32⟩
  | 121 => ⟨S2048x512, .f32⟩
  | 122 => ⟨S2048x512, .f32⟩
  | 123 => ⟨S_, .f32⟩
  | 124 => ⟨S512, .f32⟩
  | 125 => ⟨S2048x512, .f32⟩
  | 126 => ⟨S_, .f32⟩
  | 127 => ⟨S2048, .f32⟩
  | _ => ⟨S2048x512, .f32⟩

abbrev hbmTy0_1 (i : Nat) : BufTy := match i % 128 with
  | 0 => ⟨S2048x1, .f32⟩
  | 1 => ⟨S2048x512, .f32⟩
  | 2 => ⟨S2048x512, .f32⟩
  | 3 => ⟨S2048x1, .f32⟩
  | 4 => ⟨S_, .f32⟩
  | 5 => ⟨S2048x1, .f32⟩
  | 6 => ⟨S2048x1, .f32⟩
  | 7 => ⟨S_, .f32⟩
  | 8 => ⟨S2048, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S1x512, .f32⟩
  | 15 => ⟨S2048x512, .f32⟩
  | 16 => ⟨S2048x512, .f32⟩
  | 17 => ⟨S2048x512, .f32⟩
  | 18 => ⟨S2048x512, .f32⟩
  | 19 => ⟨S_, .f32⟩
  | 20 => ⟨S512, .f32⟩
  | 21 => ⟨S1x512, .f32⟩
  | 22 => ⟨S_, .f32⟩
  | 23 => ⟨S512, .f32⟩
  | 24 => ⟨S2048x512, .f32⟩
  | 25 => ⟨S_, .f32⟩
  | 26 => ⟨S512, .f32⟩
  | 27 => ⟨S1x512, .f32⟩
  | 28 => ⟨S2048x512, .f32⟩
  | 29 => ⟨S2048x512, .f32⟩
  | 30 => ⟨S_, .f32⟩
  | 31 => ⟨S512, .f32⟩
  | 32 => ⟨S2048x512, .f32⟩
  | 33 => ⟨S_, .f32⟩
  | 34 => ⟨S2048, .f32⟩
  | 35 => ⟨S2048x1, .f32⟩
  | 36 => ⟨S2048x512, .f32⟩
  | 37 => ⟨S2048x512, .f32⟩
  | 38 => ⟨S2048x1, .f32⟩
  | 39 => ⟨S_, .f32⟩
  | 40 => ⟨S2048x1, .f32⟩
  | 41 => ⟨S2048x1, .f32⟩
  | 42 => ⟨S_, .f32⟩
  | 43 => ⟨S2048, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S_, .f32⟩
  | 57 => ⟨S2048, .f32⟩
  | 58 => ⟨S2048x512, .f32⟩
  | 59 => ⟨S2048x512, .f32⟩
  | 60 => ⟨S1x512, .f32⟩
  | 61 => ⟨S1x512, .f32⟩
  | 62 => ⟨S_, .f32⟩
  | 63 => ⟨S512, .f32⟩
  | 64 => ⟨S1x512, .f32⟩
  | 65 => ⟨S2048x31x512, .f32⟩
  | 66 => ⟨S2048x31x512, .f32⟩
  | 67 => ⟨S_, .f32⟩
  | 68 => ⟨S31x512, .f32⟩
  | 69 => ⟨S1x31x512, .f32⟩
  | 70 => ⟨S2048x31x512, .f32⟩
  | 71 => ⟨S2048x31x512, .f32⟩
  | 72 => ⟨S_, .f32⟩
  | 73 => ⟨S31x512, .f32⟩
  | 74 => ⟨S_, .f32⟩
  | 75 => ⟨S2078x512, .f32⟩
  | 76 => ⟨S2078x512, .f32⟩
  | 77 => ⟨S30x512, .f32⟩
  | 78 => ⟨S2048x512, .f32⟩
  | 79 => ⟨S2048x512, .f32⟩
  | 80 => ⟨S2048x512, .f32⟩
  | 81 => ⟨S2048x512, .f32⟩
  | 82 => ⟨S2048x1024, .f32⟩
  | 83 => ⟨S2048x1024, .bf16⟩
  | 84 => ⟨S_, .i32⟩
  | 85 => ⟨S_, .f32⟩
  | 86 => ⟨S32x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_v62_2 : Ref sig .tc := ⟨.hbm, 90, rfl⟩
abbrev main_call0_cst_1 : Ref sig .tc := ⟨.hbm, 91, rfl⟩
abbrev main_call0_v6 : Ref sig .tc := ⟨.hbm, 92, rfl⟩
abbrev main_call0_v7 : Ref sig .tc := ⟨.hbm, 93, rfl⟩
abbrev main_v62_1 : Ref sig .tc := ⟨.hbm, 94, rfl⟩
abbrev main_v62_0 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_cst_23 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_cst_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_26 : Ref sig .tc := ⟨.hbm, 167, rfl⟩
abbrev main_v117 : Ref sig .tc := ⟨.hbm, 168, rfl⟩
abbrev main_v118 : Ref sig .tc := ⟨.hbm, 169, rfl⟩
abbrev main_cst_27 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_cst_28 : Ref sig .tc := ⟨.hbm, 178, rfl⟩
abbrev main_v126 : Ref sig .tc := ⟨.hbm, 179, rfl⟩
abbrev main_v127 : Ref sig .tc := ⟨.hbm, 180, rfl⟩
abbrev main_cst_29 : Ref sig .tc := ⟨.hbm, 181, rfl⟩
abbrev main_v128 : Ref sig .tc := ⟨.hbm, 182, rfl⟩
abbrev main_v129 : Ref sig .tc := ⟨.hbm, 183, rfl⟩
abbrev main_cst_30 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_31 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_32 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_33 : Ref sig .tc := ⟨.hbm, 200, rfl⟩
abbrev main_v143 : Ref sig .tc := ⟨.hbm, 201, rfl⟩
abbrev main_cst_34 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_35 : Ref sig .tc := ⟨.hbm, 212, rfl⟩
abbrev main_call2_v0 : Ref sig .tc := ⟨.hbm, 213, rfl⟩
abbrev main_v153 : Ref sig .tc := ⟨.hbm, 214, rfl⟩

abbrev nD : Nat := 1
abbrev τ : Topo := Topo.v7x

variable {F : FTy → Type} [FloatOps F]
-- ==== OfwdKernel.lean ====
abbrev S2048x512 : Shape := ⟨2, ![2048, 512]⟩
abbrev S1x512 : Shape := ⟨2, ![1, 512]⟩
abbrev S1024x1024 : Shape := ⟨2, ![1024, 1024]⟩
abbrev S2048x1024 : Shape := ⟨2, ![2048, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S2048x1024, .f32⟩
  | .hbm, ⟨5, _⟩ => ⟨S2048x512, .bf16⟩
  | .hbm, ⟨6, _⟩ => ⟨S1024x1024, .bf16⟩
  | .hbm, ⟨7, _⟩ => ⟨S2048x1024, .f32⟩
  | .hbm, ⟨8, _⟩ => ⟨S2048x512, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OfwdReferenceIdeal.lean ====
abbrev S2048x512 : Shape := ⟨2, ![2048, 512]⟩
abbrev S1x512 : Shape := ⟨2, ![1, 512]⟩
abbrev S1024x1024 : Shape := ⟨2, ![1024, 1024]⟩
abbrev S2048x1024 : Shape := ⟨2, ![2048, 1024]⟩
abbrev S512 : Shape := ⟨1, ![512]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S2048x1024, .f32⟩
  | .hbm, ⟨5, _⟩ => ⟨S512, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MfwdKernel.lean ====
abbrev S2048x1024 : Shape := ⟨2, ![2048, 1024]⟩
abbrev S1x1024 : Shape := ⟨2, ![1, 1024]⟩
abbrev S1024x2568 : Shape := ⟨2, ![1024, 2568]⟩
abbrev S2568x1024 : Shape := ⟨2, ![2568, 1024]⟩
abbrev S1024x1024 : Shape := ⟨2, ![1024, 1024]⟩
abbrev S1536x1024 : Shape := ⟨2, ![1536, 1024]⟩
abbrev S8x1024 : Shape := ⟨2, ![8, 1024]⟩
abbrev S_ : Shape := ⟨0, ![]⟩
abbrev S128x1024 : Shape := ⟨2, ![128, 1024]⟩
abbrev S2048x1536 : Shape := ⟨2, ![2048, 1536]⟩
abbrev S2048x128 : Shape := ⟨2, ![2048, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2568, .f32⟩
  | .hbm, ⟨3, _⟩ => ⟨S1024x2568, .bf16⟩
  | .hbm, ⟨4, _⟩ => ⟨S2568x1024, .bf16⟩
  | .hbm, ⟨5, _⟩ => ⟨S1024x1024, .bf16⟩
  | .hbm, ⟨6, _⟩ => ⟨S1536x1024, .bf16⟩
  | .hbm, ⟨7, _⟩ => ⟨S8x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S2048x1024, .bf16⟩
  | .hbm, ⟨12, _⟩ => ⟨S2048x1024, .f32⟩
  | .hbm, ⟨13, _⟩ => ⟨S2048x1536, .bf16⟩
  | .hbm, ⟨14, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1536x1024, .bf16⟩
  | .local _ .vmem, ⟨5, _⟩ => ⟨S128x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1536, .bf16⟩
  | .local _ .vmem, ⟨11, _⟩ => ⟨S512x1536, .bf16⟩
  | .local _ .vmem, ⟨12, _⟩ => ⟨S512x128, .f32⟩
  | .local _ .vmem, ⟨13, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MfwdReferenceIdeal.lean ====
abbrev S2048x1024 : Shape := ⟨2, ![2048, 1024]⟩
abbrev S1x1024 : Shape := ⟨2, ![1, 1024]⟩
abbrev S1024x2568 : Shape := ⟨2, ![1024, 2568]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2568 : Shape := ⟨2, ![2048, 2568]⟩
abbrev S2048x1536 : Shape := ⟨2, ![2048, 1536]⟩
abbrev S2048x8 : Shape := ⟨2, ![2048, 8]⟩
abbrev S2048x128 : Shape := ⟨2, ![2048, 128]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2568, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2568, .f32⟩
  | .hbm, ⟨21, _⟩ => ⟨S2048x1024, .f32⟩
  | .hbm, ⟨22, _⟩ => ⟨S2048x1536, .f32⟩
  | .hbm, ⟨23, _⟩ => ⟨S2048x8, .f32⟩
  | .hbm, ⟨24, _⟩ => ⟨S2048x1024, .bf16⟩
  | .hbm, ⟨25, _⟩ => ⟨S2048x1536, .bf16⟩
  | .hbm, ⟨26, _⟩ => ⟨S_, .i32⟩
  | .hbm, ⟨27, _⟩ => ⟨S_, .f32⟩
  | .hbm, ⟨28, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== GfwdKernel.lean ====
abbrev S16x2048 : Shape := ⟨2, ![16, 2048]⟩
abbrev S16x1 : Shape := ⟨2, ![16, 1]⟩
abbrev S128x128 : Shape := ⟨2, ![128, 128]⟩
abbrev S16x128 : Shape := ⟨2, ![16, 128]⟩

abbrev nBuf : Space → Nat
  | .hbm => 3
  | .vmem => 3
  | .smem => 0
  | _ => 0

abbrev bufTy : (tb : Table) → Fin (tcTables nBuf tb) → BufTy
  | .hbm, ⟨0, _⟩ => ⟨S16x2048, .f32⟩
  | .hbm, ⟨1, _⟩ => ⟨S16x1, .f32⟩
  | .hbm, ⟨2, _⟩ => ⟨S16x2048, .f32⟩
  | .local _ .vmem, ⟨0, _⟩ => ⟨S16x2048, .f32⟩
  | .local _ .vmem, ⟨1, _⟩ => ⟨S16x1, .f32⟩
  | .local _ .vmem, ⟨2, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GfwdReferenceIdeal.lean ====
abbrev S16x2048 : Shape := ⟨2, ![16, 2048]⟩
abbrev S16x1 : Shape := ⟨2, ![16, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x1, .f32⟩
  | .hbm, ⟨2, _⟩ => ⟨S16x2048, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .i1⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S_, .f32⟩
  | .hbm, ⟨21, _⟩ => ⟨S_, .f32⟩
  | .hbm, ⟨22, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v2 : Ref sig .tc := ⟨.hbm, 19, rfl⟩
abbrev main_call1_call0_cst : Ref sig .tc := ⟨.hbm, 20, rfl⟩
abbrev main_call1_call0_v0 : Ref sig .tc := ⟨.hbm, 21, rfl⟩
abbrev main_v3 : Ref sig .tc := ⟨.hbm, 22, rfl⟩

abbrev nD : Nat := 1
abbrev τ : Topo := Topo.v7x

variable {F : FTy → Type} [FloatOps F]
-- ==== CfwdKernel.lean ====
abbrev S2048x1024 : Shape := ⟨2, ![2048, 1024]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S2048x512 : Shape := ⟨2, ![2048, 512]⟩
abbrev S2096x512 : Shape := ⟨2, ![2096, 512]⟩
abbrev S16x512 : Shape := ⟨2, ![16, 512]⟩
abbrev S128x512 : Shape := ⟨2, ![128, 512]⟩
abbrev S168x512 : Shape := ⟨2, ![168, 512]⟩
abbrev S128 : Shape := ⟨1, ![128]⟩
abbrev S128x1 : Shape := ⟨2, ![128, 1]⟩

abbrev nBuf : Space → Nat
  | .hbm => 11
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S2048x512, .bf16⟩
  | .hbm, ⟨10, _⟩ => ⟨S2048x512, .f32⟩
  | .local _ .vmem, ⟨0, _⟩ => ⟨S2048x1024, .f32⟩
  | .local _ .vmem, ⟨1, _⟩ => ⟨S32x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .f32⟩
  | .local _ .vmem, ⟨8, _⟩ => ⟨S2096x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v14 : BitVec 32 := Scalar.muli arg9 c128_i32
  v14
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v14 : BitVec 32 := Scalar.muli arg9 c128_i32
  let v15 : BitVec 32 := v14
  let v16 : Index := Scalar.indexCast v15
  let c0_16 : Index := 0#32
  ![v16.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v14 : BitVec 32 := Scalar.muli arg9 c128_i32
  let v15 : BitVec 32 := v14
  let v18 : Index := Scalar.indexCast v15
  let c512 : Index := 512#32
  ![v18.toNat, 512]
def k0_off3 (k0_t1 : Fin k0_t1_loop.trips) : Fin 2 → Nat :=
  let c32_i32 : BitVec 32 := 32#32
  let c0_i32 : BitVec 32 := 0#32
  let c1_i32 : BitVec 32 := 1#32
  let arg9 : BitVec 32 := Scf.iv c0_i32 c1_i32 k0_t1
  let c128_i32 : BitVec 32 := 128#32
  let v14 : BitVec 32 := Scalar.muli arg9 c128_i32
  let v15 : BitVec 32 := v14
  let v28 : BitVec 32 := Scalar.addi c32_i32 v15
  let v29 : Index := Scalar.indexCast v28
  let c0_20 : Index := 0#32
  ![v29.toNat, 0]
@[reducible] def k0_t2_loop : Scf.Loop 32 :=
  let c0_i32_12 : BitVec 32 := 0#32
  let c16_i32_13 : BitVec 32 := 16#32
  let v13 : BitVec 32 := Scalar.addi c0_i32_12 c16_i32_13
  let c1_i32_14 : BitVec 32 := 1#32
  ⟨c0_i32_12, v13, c1_i32_14⟩
def k0_mult2 (k0_t2 : Fin k0_t2_loop.trips) : BitVec 32 :=
  let c0_i32_12 : BitVec 32 := 0#32
  let c1_i32_14 : BitVec 32 := 1#32
  let arg9 : BitVec 32 := Scf.iv c0_i32_12 c1_i32_14 k0_t2
  let c128_i32 : BitVec 32 := 128#32
  let v14 : BitVec 32 := Scalar.muli arg9 c128_i32
  v14
def k0_off4 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let c128_i32 : BitVec 32 := 128#32
  let v14 : BitVec 32 := Scalar.muli arg9 c128_i32
  let v15 : BitVec 32 := v14
  let v17 : Index := Scalar.indexCast v15
  let c0_17 : Index := 0#32
  ![v17.toNat, 0]
def k0_off5 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let c128_i32 : BitVec 32 := 128#32
  let v14 : BitVec 32 := Scalar.muli arg9 c128_i32
  let v15 : BitVec 32 := v14
  let v214 : Index := Scalar.indexCast v15
  let c0_50 : Index := 0#32
  ![v214.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== CfwdReferenceIdeal.lean ====
abbrev S2048x1024 : Shape := ⟨2, ![2048, 1024]⟩
abbrev S31x512 : Shape := ⟨2, ![31, 512]⟩
abbrev S1x512 : Shape := ⟨2, ![1, 512]⟩
abbrev S2048x512 : Shape := ⟨2, ![2048, 512]⟩
abbrev S_ : Shape := ⟨0, ![]⟩
abbrev S2078x512 : Shape := ⟨2, ![2078, 512]⟩
abbrev S512 : Shape := ⟨1, ![512]⟩
abbrev S2048 : Shape := ⟨1, ![2048]⟩
abbrev S2048x1 : Shape := ⟨2, ![2048, 1]⟩

abbrev nBuf : Space → Nat
  | .hbm => 299
  | .vmem => 0
  | .smem => 0
  | _ => 0

abbrev hbmTy0_0 (i : Nat) : BufTy := match i % 128 with
  | 0 => ⟨S2048x1024, .f32⟩
  | 1 => ⟨S31x512, .f32⟩
  | 2 => ⟨S1x512, .f32⟩
  | 3 => ⟨S1x512, .f32⟩
  | 4 => ⟨S1x512, .f32⟩
  | 5 => ⟨S1x512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S2048x512, .f32⟩
  | 17 => ⟨S_, .i32⟩
  | 18 => ⟨S_, .f32⟩
  | 19 => ⟨S2078x512, .f32⟩
  | 20 => ⟨S2048x512, .f32⟩
  | 21 => ⟨S1x512, .f32⟩
  | 22 => ⟨S512, .f32⟩
  | 23 => ⟨S1x512, .f32⟩
  | 24 => ⟨S2048x512, .f32⟩
  | 25 => ⟨S2048x512, .f32⟩
  | 26 => ⟨S_, .f32⟩
  | 27 => ⟨S2048x512, .f32⟩
  | 28 => ⟨S2048x512, .f32⟩
  | 29 => ⟨S2048x512, .f32⟩
  | 30 => ⟨S1x512, .f32⟩
  | 31 => ⟨S512, .f32⟩
  | 32 => ⟨S1x512, .f32⟩
  | 33 => ⟨S2048x512, .f32⟩
  | 34 => ⟨S2048x512, .f32⟩
  | 35 => ⟨S2048x512, .f32⟩
  | 36 => ⟨S2048x512, .f32⟩
  | 37 => ⟨S1x512, .f32⟩
  | 38 => ⟨S512, .f32⟩
  | 39 => ⟨S1x512, .f32⟩
  | 40 => ⟨S2048x512, .f32⟩
  | 41 => ⟨S2048x512, .f32⟩
  | 42 => ⟨S2048x512, .f32⟩
  | 43 => ⟨S2048x512, .f32⟩
  | 44 => ⟨S1x512, .f32⟩
  | 45 => ⟨S512, .f32⟩
  | 46 => ⟨S1x512, .f32⟩
  | 47 => ⟨S2048x512, .f32⟩
  | 48 => ⟨S2048x512, .f32⟩
  | 49 => ⟨S2048x512, .f32⟩
  | 50 => ⟨S2048x512, .f32⟩
  | 51 => ⟨S1x512, .f32⟩
  | 52 => ⟨S512, .f32⟩
  | 53 => ⟨S1x512, .f32⟩
  | 54 => ⟨S2048x512, .f32⟩
  | 55 => ⟨S2048x512, .f32⟩
  | 56 => ⟨S2048x512, .f32⟩
  | 57 => ⟨S2048x512, .f32⟩
  | 58 => ⟨S1x512, .f32⟩
  | 59 => ⟨S512, .f32⟩
  | 60 => ⟨S1x512, .f32⟩
  | 61 => ⟨S2048x512, .f32⟩
  | 62 => ⟨S2048x512, .f32⟩
  | 63 => ⟨S2048x512, .f32⟩
  | 64 => ⟨S2048x512, .f32⟩
  | 65 => ⟨S1x512, .f32⟩
  | 66 => ⟨S512, .f32⟩
  | 67 => ⟨S1x512, .f32⟩
  | 68 => ⟨S2048x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S1x512, .f32⟩
  | 75 => ⟨S2048x512, .f32⟩
  | 76 => ⟨S2048x512, .f32⟩
  | 77 => ⟨S2048x512, .f32⟩
  | 78 => ⟨S2048x512, .f32⟩
  | 79 => ⟨S1x512, .f32⟩
  | 80 => ⟨S512, .f32⟩
  | 81 => ⟨S1x512, .f32⟩
  | 82 => ⟨S2048x512, .f32⟩
  | 83 => ⟨S2048x512, .f32⟩
  | 84 => ⟨S2048x512, .f32⟩
  | 85 => ⟨S2048x512, .f32⟩
  | 86 => ⟨S1x512, .f32⟩
  | 87 => ⟨S512, .f32⟩
  | 88 => ⟨S1x512, .f32⟩
  | 89 => ⟨S2048x512, .f32⟩
  | 90 => ⟨S2048x512, .f32⟩
  | 91 => ⟨S2048x512, .f32⟩
  | 92 => ⟨S2048x512, .f32⟩
  | 93 => ⟨S1x512, .f32⟩
  | 94 => ⟨S512, .f32⟩
  | 95 => ⟨S1x512, .f32⟩
  | 96 => ⟨S2048x512, .f32⟩
  | 97 => ⟨S2048x512, .f32⟩
  | 98 => ⟨S2048x512, .f32⟩
  | 99 => ⟨S2048x512, .f32⟩
  | 100 => ⟨S1x512, .f32⟩
  | 101 => ⟨S512, .f32⟩
  | 102 => ⟨S1x512, .f32⟩
  | 103 => ⟨S2048x512, .f32⟩
  | 104 => ⟨S2048x512, .f32⟩
  | 105 => ⟨S2048x512, .f32⟩
  | 106 => ⟨S2048x512, .f32⟩
  | 107 => ⟨S1x512, .f32⟩
  | 108 => ⟨S512, .f32⟩
  | 109 => ⟨S1x512, .f32⟩
  | 110 => ⟨S2048x512, .f32⟩
  | 111 => ⟨S2048x512, .f32⟩
  | 112 => ⟨S2048x512, .f32⟩
  | 113 => ⟨S2048x512, .f32⟩
  | 114 => ⟨S1x512, .f32⟩
  | 115 => ⟨S512, .f32⟩
  | 116 => ⟨S1x512, .f32⟩
  | 117 => ⟨S2048x512, .f32⟩
  | 118 => ⟨S2048x512, .f32⟩
  | 119 => ⟨S2048x512, .f32⟩
  | 120 => ⟨S2048x512, .f32⟩
  | 121 => ⟨S1x512, .f32⟩
  | 122 => ⟨S512, .f32⟩
  | 123 => ⟨S1x512, .f32⟩
  | 124 => ⟨S2048x512, .f32⟩
  | 125 => ⟨S2048x512, .f32⟩
  | 126 => ⟨S2048x512, .f32⟩
  | 127 => ⟨S2048x512, .f32⟩
  | _ => ⟨S2048x1024, .f32⟩

abbrev hbmTy0_1 (i : Nat) : BufTy := match i % 128 with
  | 0 => ⟨S1x512, .f32⟩
  | 1 => ⟨S512, .f32⟩
  | 2 => ⟨S1x512, .f32⟩
  | 3 => ⟨S2048x512, .f32⟩
  | 4 => ⟨S2048x512, .f32⟩
  | 5 => ⟨S2048x512, .f32⟩
  | 6 => ⟨S2048x512, .f32⟩
  | 7 => ⟨S1x512, .f32⟩
  | 8 => ⟨S512, .f32⟩
  | 9 => ⟨S1x512, .f32⟩
  | 10 => ⟨S2048x512, .f32⟩
  | 11 => ⟨S2048x512, .f32⟩
  | 12 => ⟨S2048x512, .f32⟩
  | 13 => ⟨S2048x512, .f32⟩
  | 14 => ⟨S1x512, .f32⟩
  | 15 => ⟨S512, .f32⟩
  | 16 => ⟨S1x512, .f32⟩
  | 17 => ⟨S2048x512, .f32⟩
  | 18 => ⟨S2048x512, .f32⟩
  | 19 => ⟨S2048x512, .f32⟩
  | 20 => ⟨S2048x512, .f32⟩
  | 21 => ⟨S1x512, .f32⟩
  | 22 => ⟨S512, .f32⟩
  | 23 => ⟨S1x512, .f32⟩
  | 24 => ⟨S2048x512, .f32⟩
  | 25 => ⟨S2048x512, .f32⟩
  | 26 => ⟨S2048x512, .f32⟩
  | 27 => ⟨S2048x512, .f32⟩
  | 28 => ⟨S1x512, .f32⟩
  | 29 => ⟨S512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S1x512, .f32⟩
  | 36 => ⟨S512, .f32⟩
  | 37 => ⟨S1x512, .f32⟩
  | 38 => ⟨S2048x512, .f32⟩
  | 39 => ⟨S2048x512, .f32⟩
  | 40 => ⟨S2048x512, .f32⟩
  | 41 => ⟨S2048x512, .f32⟩
  | 42 => ⟨S1x512, .f32⟩
  | 43 => ⟨S512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S1x512, .f32⟩
  | 50 => ⟨S512, .f32⟩
  | 51 => ⟨S1x512, .f32⟩
  | 52 => ⟨S2048x512, .f32⟩
  | 53 => ⟨S2048x512, .f32⟩
  | 54 => ⟨S2048x512, .f32⟩
  | 55 => ⟨S2048x512, .f32⟩
  | 56 => ⟨S1x512, .f32⟩
  | 57 => ⟨S512, .f32⟩
  | 58 => ⟨S1x512, .f32⟩
  | 59 => ⟨S2048x512, .f32⟩
  | 60 => ⟨S2048x512, .f32⟩
  | 61 => ⟨S2048x512, .f32⟩
  | 62 => ⟨S2048x512, .f32⟩
  | 63 => ⟨S1x512, .f32⟩
  | 64 => ⟨S512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S1x512, .f32⟩
  | 71 => ⟨S512, .f32⟩
  | 72 => ⟨S1x512, .f32⟩
  | 73 => ⟨S2048x512, .f32⟩
  | 74 => ⟨S2048x512, .f32⟩
  | 75 => ⟨S2048x512, .f32⟩
  | 76 => ⟨S2048x512, .f32⟩
  | 77 => ⟨S1x512, .f32⟩
  | 78 => ⟨S512, .f32⟩
  | 79 => ⟨S1x512, .f32⟩
  | 80 => ⟨S2048x512, .f32⟩
  | 81 => ⟨S2048x512, .f32⟩
  | 82 => ⟨S2048x512, .f32⟩
  | 83 => ⟨S2048x512, .f32⟩
  | 84 => ⟨S1x512, .f32⟩
  | 85 => ⟨S512, .f32⟩
  | 86 => ⟨S1x512, .f32⟩
  | 87 => ⟨S2048x512, .f32⟩
  | 88 => ⟨S2048x512, .f32⟩
  | 89 => ⟨S2048x512, .f32⟩
  | 90 => ⟨S2048x512, .f32⟩
  | 91 => ⟨S1x512, .f32⟩
  | 92 => ⟨S512, .f32⟩
  | 93 => ⟨S1x512, .f32⟩
  | 94 => ⟨S2048x512, .f32⟩
  | 95 => ⟨S2048x512, .f32⟩
  | 96 => ⟨S2048x512, .f32⟩
  | 97 => ⟨S2048x512, .f32⟩
  | 98 => ⟨S1x512, .f32⟩
  | 99 => ⟨S512, .f32⟩
  | 100 => ⟨S1x512, .f32⟩
  | 101 => ⟨S2048x512, .f32⟩
  | 102 => ⟨S2048x512, .f32⟩
  | 103 => ⟨S2048x512, .f32⟩
  | 104 => ⟨S2048x512, .f32⟩
  | 105 => ⟨S1x512, .f32⟩
  | 106 => ⟨S512, .f32⟩
  | 107 => ⟨S1x512, .f32⟩
  | 108 => ⟨S2048x512, .f32⟩
  | 109 => ⟨S2048x512, .f32⟩
  | 110 => ⟨S2048x512, .f32⟩
  | 111 => ⟨S512, .f32⟩
  | 112 => ⟨S1x512, .f32⟩
  | 113 => ⟨S2048x512, .f32⟩
  | 114 => ⟨S2048x512, .f32⟩
  | 115 => ⟨S512, .f32⟩
  | 116 => ⟨S512, .f32⟩
  | 117 => ⟨S_, .f32⟩
  | 118 => ⟨S2048, .f32⟩
  | 119 => ⟨S2048x1, .f32⟩
  | 120 => ⟨S_, .f32⟩
  | 121 => ⟨S2048x1, .f32⟩
  | 122 => ⟨S2048x1, .f32⟩
  | 123 => ⟨S2048x512, .f32⟩
  | 124 => ⟨S2048x512, .f32⟩
  | 125 => ⟨S2048x512, .f32⟩
  | 126 => ⟨S_, .f32⟩
  | 127 => ⟨S2048, .f32⟩
  | _ => ⟨S2048x1024, .f32⟩

abbrev hbmTy0_2 (i : Nat) : BufTy := match i % 128 with
  | 0 => ⟨S2048x1, .f32⟩
  | 1 => ⟨S_, .f32⟩
  | 2 => ⟨S2048x1, .f32⟩
  | 3 => ⟨S2048x1, .f32⟩
  | 4 => ⟨S_, .f32⟩
  | 5 => ⟨S2048x1, .f32⟩
  | 6 => ⟨S2048x1, .f32⟩
  | 7 => ⟨S2048x1, .f32⟩
  | 8 => ⟨S2048x512, .f32⟩
  | 9 => ⟨S2048x512, .f32⟩
  | 10 => ⟨S1x512, .f32⟩
  | 11 => ⟨S2048x512, .f32⟩
  | 12 => ⟨S2048x512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S_, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S2048x512, .f32⟩
  | 25 => ⟨S512, .f32⟩
  | 26 => ⟨S2048x512, .f32⟩
  | 27 => ⟨S_, .f32⟩
  | 28 => ⟨S2048, .f32⟩
  | 29 => ⟨S2048x1, .f32⟩
  | 30 => ⟨S_, .f32⟩
  | 31 => ⟨S2048x1, .f32⟩
  | 32 => ⟨S2048x1, .f32⟩
  | 33 => ⟨S_, .f32⟩
  | 34 => ⟨S2048x1, .f32⟩
  | 35 => ⟨S2048x1, .f32⟩
  | 36 => ⟨S2048x1, .f32⟩
  | 37 => ⟨S2048x512, .f32⟩
  | 38 => ⟨S2048x512, .f32⟩
  | 39 => ⟨S1x512, .f32⟩
  | 40 => ⟨S2048x512, .f32⟩
  | 41 => ⟨S2048x512, .f32⟩
  | 42 => ⟨S2048x512, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_cst_2 : Ref sig .tc := ⟨.hbm, 245, rfl⟩
abbrev main_v234 : Ref sig .tc := ⟨.hbm, 246, rfl⟩
abbrev main_v235 : Ref sig .tc := ⟨.hbm, 247, rfl⟩
abbrev main_cst_3 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_cst_4 : Ref sig .tc := ⟨.hbm, 254, rfl⟩
abbrev main_v241 : Ref sig .tc := ⟨.hbm, 255, rfl⟩
abbrev main_v242 : Ref sig .tc := ⟨.hbm, 256, rfl⟩
abbrev main_cst_5 : Ref sig .tc := ⟨.hbm, 257, rfl⟩
abbrev main_v243 : Ref sig .tc := ⟨.hbm, 258, rfl⟩
abbrev main_v244 : Ref sig .tc := ⟨.hbm, 259, rfl⟩
abbrev main_cst_6 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_call1_v0 : Ref sig .tc := ⟨.hbm, 272, rfl⟩
abbrev main_call1_v1 : Ref sig .tc := ⟨.hbm, 273, rfl⟩
abbrev main_call1_cst : Ref sig .tc := ⟨.hbm, 274, rfl⟩
abbrev main_call1_v2 : Ref sig .tc := ⟨.hbm, 275, rfl⟩
abbrev main_call1_v3 : Ref sig .tc := ⟨.hbm, 276, rfl⟩
abbrev main_call1_cst_0 : Ref sig .tc := ⟨.hbm, 277, rfl⟩
abbrev main_call1_v4 : Ref sig .tc := ⟨.hbm, 278, rfl⟩
abbrev main_call1_v5 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_cst_7 : Ref sig .tc := ⟨.hbm, 283, rfl⟩
abbrev main_v259 : Ref sig .tc := ⟨.hbm, 284, rfl⟩
abbrev main_v260 : Ref sig .tc := ⟨.hbm, 285, rfl⟩
abbrev main_cst_8 : Ref sig .tc := ⟨.hbm, 286, rfl⟩
abbrev main_v261 : Ref sig .tc := ⟨.hbm, 287, rfl⟩
abbrev main_v262 : Ref sig .tc := ⟨.hbm, 288, rfl⟩
abbrev main_cst_9 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩

abbrev nD : Nat := 1
abbrev τ : Topo := Topo.v7x

variable {F : FTy → Type} [FloatOps F]
-- ==== WgradKernel.lean ====
abbrev S2048x1024 : Shape := ⟨2, ![2048, 1024]⟩
abbrev S2048x5632 : Shape := ⟨2, ![2048, 5632]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .bf16⟩
  | .local _ .vmem, ⟨4, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WgradReferenceIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S4x1024x1408, .f32⟩
  | .hbm, ⟨16, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== AdamKernel.lean ====
abbrev S1024x1408 : Shape := ⟨2, ![1024, 1408]⟩
abbrev S512x1408 : Shape := ⟨2, ![512, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SsumKernel.lean ====
abbrev S8x184x128 : Shape := ⟨3, ![8, 184, 128]⟩
abbrev S184x128 : Shape := ⟨2, ![184, 128]⟩
abbrev S1x184x128 : Shape := ⟨3, ![1, 184, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .local _ .vmem, ⟨0, _⟩ => ⟨S8x184x128, .f32⟩
  | .local _ .vmem, ⟨1, _⟩ => ⟨S184x128, .f32⟩
  | _, _ => ⟨S8x184x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SsumReferenceIdeal.lean ====
abbrev S8x184x128 : Shape := ⟨3, ![8, 184, 128]⟩
abbrev S_ : Shape := ⟨0, ![]⟩
abbrev S184x128 : Shape := ⟨2, ![184, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x184x128, .f32⟩
  | .hbm, ⟨1, _⟩ => ⟨S_, .f32⟩
  | .hbm, ⟨2, _⟩ => ⟨S184x128, .f32⟩
  | _, _ => ⟨S8x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FupKernel.lean ====
abbrev S2048x1024 : Shape := ⟨2, ![2048, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S256x1408 : Shape := ⟨2, ![256, 1408]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S2048x1024, .bf16⟩
  | .hbm, ⟨7, _⟩ => ⟨S2048x5632, .bf16⟩
  | .hbm, ⟨8, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S4x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_9 : BitVec 32 := 0#32
  let v2 : BitVec 1 := Scalar.cmpi .ne v1 c0_i32_9
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_10 : BitVec 32 := 0#32
  let v5 : BitVec 1 := Scalar.cmpi .ne v4 c0_i32_10
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FupReferenceIdeal.lean ====
abbrev S2048x1024 : Shape := ⟨2, ![2048, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S2048x2816, .f32⟩
  | .hbm, ⟨22, _⟩ => ⟨S2048x2816, .f32⟩
  | .hbm, ⟨23, _⟩ => ⟨S2048x1024, .bf16⟩
  | .hbm, ⟨24, _⟩ => ⟨S2048x5632, .bf16⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== FfnKernel.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S1024x4x1408 : Shape := ⟨3, ![1024, 4, 1408]⟩
abbrev S4x1024x1408 : Shape := ⟨3, ![4, 1024, 1408]⟩
abbrev S256x1024 : Shape := ⟨2, ![256, 1024]⟩
abbrev S256x5632 : Shape := ⟨2, ![256, 5632]⟩
abbrev S6 : Shape := ⟨1, ![6]⟩
abbrev S1 : Shape := ⟨1, ![1]⟩
abbrev S1408x1024 : Shape := ⟨2, ![1408, 1024]⟩
abbrev S1x1024x1408 : Shape := ⟨3, ![1, 1024, 1408]⟩
abbrev S1024x1408 : Shape := ⟨2, ![1024, 1408]⟩
abbrev S256x1408 : Shape := ⟨2, ![256, 1408]⟩
abbrev S256 : Shape := ⟨1, ![256]⟩
abbrev S256x1 : Shape := ⟨2, ![256, 1]⟩

abbrev nBuf : Space → Nat
  | .hbm => 33
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x5632, .f32⟩
  | .hbm, ⟨23, _⟩ => ⟨S2048x5632, .bf16⟩
  | .hbm, ⟨24, _⟩ => ⟨S1024x5632, .bf16⟩
  | .hbm, ⟨25, _⟩ => ⟨S1024x4x1408, .bf16⟩
  | .hbm, ⟨26, _⟩ => ⟨S4x1024x1408, .bf16⟩
  | .hbm, ⟨27, _⟩ => ⟨S2816x1024, .bf16⟩
  | .hbm, ⟨28, _⟩ => ⟨S2048x1024, .f32⟩
  | .hbm, ⟨29, _⟩ => ⟨S2048x5632, .bf16⟩
  | .hbm, ⟨30, _⟩ => ⟨S1x1024, .f32⟩
  | .hbm, ⟨31, _⟩ => ⟨S2048x1024, .bf16⟩
  | .hbm, ⟨32, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S4x1024x1408, .bf16⟩
  | .local _ .vmem, ⟨17, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_11 : BitVec 32 := 0#32
  let v5 : BitVec 1 := Scalar.cmpi .ne v4 c0_i32_11
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_12 : BitVec 32 := 0#32
  let v8 : BitVec 1 := Scalar.cmpi .ne v7 c0_i32_12
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x5632, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S1x1024, .f32⟩
  | .hbm, ⟨85, _⟩ => ⟨S2048x1024, .f32⟩
  | .hbm, ⟨86, _⟩ => ⟨S2048x5632, .bf16⟩
  | .hbm, ⟨87, _⟩ => ⟨S_, .f32⟩
  | .hbm, ⟨88, _⟩ => ⟨S2048x1024, .f32⟩
  | .hbm, ⟨89, _⟩ => ⟨S2048x1024, .f32⟩
  | .hbm, ⟨90, _⟩ => ⟨S2048x1024, .bf16⟩
  | .hbm, ⟨91, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== FfwKernel.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1408x1024 : Shape := ⟨2, ![1408, 1024]⟩
abbrev S256 : Shape := ⟨1, ![256]⟩
abbrev S256x1 : Shape := ⟨2, ![256, 1]⟩
abbrev S256x1408 : Shape := ⟨2, ![256, 1408]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S2816x1024, .bf16⟩
  | .hbm, ⟨8, _⟩ => ⟨S2048x1024, .f32⟩
  | .hbm, ⟨9, _⟩ => ⟨S2048x1024, .bf16⟩
  | .hbm, ⟨10, _⟩ => ⟨S2048x5632, .bf16⟩
  | .hbm, ⟨11, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x5632, .bf16⟩
  | .local _ .vmem, ⟨8, _⟩ => ⟨S256x5632, .bf16⟩
  | .local _ .vmem, ⟨9, _⟩ => ⟨S256x2816, .bf16⟩
  | .local _ .vmem, ⟨10, _⟩ => ⟨S256x2816, .bf16⟩
  | .local _ .vmem, ⟨11, _⟩ => ⟨S4x1024x1408, .bf16⟩
  | .local _ .vmem, ⟨12, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_9 : BitVec 32 := 0#32
  let v2 : BitVec 1 := Scalar.cmpi .ne v1 c0_i32_9
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_10 : BitVec 32 := 0#32
  let v5 : BitVec 1 := Scalar.cmpi .ne v4 c0_i32_10
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfwReferenceIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x5632, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | .hbm, ⟨40, _⟩ => ⟨S2048x5632, .bf16⟩
  | .hbm, ⟨41, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Reals.lean ====
/- Finite extended reals as real numbers: the facts every value proof here takes to leave the extended reals, in which
   subtraction and division do not obey the field laws, for the real numbers, in which they do. -/
module

public import Idealize.ShloMosaic.Lib.Pipeline.ValueKit
public import Idealize.ShloMosaic.Lib.Pointwise
public import Idealize.ShloMosaic.PureOps.Ideal.Laws

@[expose] public section

noncomputable section

namespace Cert.Reals

open Idealize.ShloMosaic Idealize.SL.Sem

/-- An array of reals read as an array of extended reals. -/
abbrev up {S : Shape} (X : S.Idx → ℝ) : S.Idx → EReal := fun i => ((X i : ℝ) : EReal)

/-- A sum of reals, read as an extended real, is the sum of the readings. -/
theorem sum_up {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of reals with nonzero denominator. -/
theorem div_up (x : ℝ) {y : ℝ} (h : y ≠ 0) : Ideal.div (x : EReal) (y : EReal) = ((x / y : ℝ) : EReal) := by
  rw [Ideal.div_coe h, ← EReal.coe_mul, mul_one_div]

/-- The inverse square root of a positive real. -/
theorem rsqrt_up {x : ℝ} (h : 0 < x) : Ideal.rsqrt (x : EReal) = (((√x)⁻¹ : ℝ) : EReal) := by
  rw [Ideal.rsqrt_coe, if_neg (not_lt.mpr h.le), if_neg h.ne']

/-- An extended real whose absolute value is below infinity is a real. -/
theorem real_of_abs_lt {x : EReal} (h : max x (-x) < ⊤) : ∃ r : ℝ, x = r := by
  refine ⟨x.toReal, (EReal.coe_toReal ?_ ?_).symm⟩
  · rintro rfl; simp at h
  · rintro rfl; simp at h

/-- The printed test "absolute value below infinity", true at every index, gives the array's real values. -/
theorem reals_of_test {S S0 : Shape} (d : Fin S0.rank → Fin S.rank) (b : S0.BroadcastsInDim S d) (X : FVec Ideal S .f32)
    (h : cmpf .olt (Host.absf X) (broadcastInDim S d b (constant (F := Ideal) S0 .f32 0x7F800000#32)) = fun _ => 1#1) :
    ∃ Y : S.Idx → ℝ, X = up Y := by
  have hr : ∀ i, ∃ r : ℝ, X i = (r : EReal) := fun i => by
    have hi := congrFun h i
    refine real_of_abs_lt ?_
    have htop : Ideal.ofBits .f32 0x7F800000#32 = (⊤ : EReal) := by simp [Ideal.ofBits, Ideal.ieee]
    have hc : Ideal.cmp .olt (max (X i) (-(X i))) (Ideal.ofBits .f32 0x7F800000#32) = 1#1 := hi
    rw [htop] at hc
    by_contra hn
    simp [Ideal.cmp, hn] at hc
  choose Y hY using hr
  exact ⟨Y, funext hY⟩

/-- The comparison of two small words. -/
theorem select_le (b a : ℕ) (hb : b < 2147483648) (ha : a < 2147483648) (A B : EReal) :
    Scalar.select (IntOp.cmpi .sle (BitVec.ofNat 32 b) (BitVec.ofNat 32 a)) A B = if b ≤ a then A else B := by
  have : IntOp.cmpi .sle (BitVec.ofNat 32 b) (BitVec.ofNat 32 a) = if b ≤ a then 1#1 else 0#1 := by
    have h1 : (BitVec.ofNat 32 b).toInt = b := by rw [BitVec.toInt_eq_toNat_of_lt] <;> simp <;> omega
    have h2 : (BitVec.ofNat 32 a).toInt = a := by rw [BitVec.toInt_eq_toNat_of_lt] <;> simp <;> omega
    simp only [IntOp.cmpi, BitVec.sle, h1, h2]
    by_cases h : b ≤ a <;> simp [h]
  rw [this]
  split_ifs <;> rfl

/-- The largest of finitely many values below `∞`, one of them real, is real; `op` is the maximum as a program has it. -/
theorem max_real {n : ℕ} (op : EReal → EReal → EReal) [Std.Commutative op] [Std.Associative op] (hop : ∀ x y, op x y = x ⊔ y)
    (b : EReal) (hb : b = ⊥) (f : Fin n → EReal) (k : Fin n) (hk : f k ≠ ⊥) (h : ∀ j, f j ≠ ⊤) :
    ∃ r : ℝ, Finset.univ.fold op b f = (r : EReal) := by
  obtain rfl : op = (· ⊔ ·) := funext fun x => funext fun y => hop x y
  subst hb
  have e : Finset.univ.fold (· ⊔ ·) ⊥ f = Finset.univ.sup f := rfl
  rw [e]
  refine ⟨(Finset.univ.sup f).toReal, (EReal.coe_toReal ?_ ?_).symm⟩
  · exact ((Finset.sup_lt_iff (bot_lt_top)).2 fun j _ => (h j).lt_top).ne
  · exact (lt_of_lt_of_le (bot_lt_iff_ne_bot.2 hk) (Finset.le_sup (f := f) (Finset.mem_univ k))).ne'

/-! ## The float constants of the programs as reals -/

/-- The constant added to the mean square before the inverse square root. -/
def eps : ℝ := 8796093 / 8796093022208

theorem eps_pos : 0 < eps := by norm_num [eps]
theorem bits_eps : Ideal.ofBits .f32 0x358637BD#32 = ((eps : ℝ) : EReal) := by
  simp [Ideal.ofBits, Ideal.ieee, -EReal.coe_mul, eps]; norm_num
theorem bits_bot : Ideal.ofBits .f32 0xFF800000#32 = (⊥ : EReal) := by
  simp [Ideal.ofBits, Ideal.ieee]
theorem bits_eighth : Ideal.ofBits .f32 0x3E000000#32 = ((1 / 8 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_inv_2048 : Ideal.ofBits .f32 0x3A000000#32 = ((1 / 2048 : ℝ) : EReal) := by
  simp [Ideal.ofBits, Ideal.ieee, -EReal.coe_mul]; norm_num

theorem div_1024 (x : ℝ) : Ideal.div (x : EReal) ((1024 : ℝ) : EReal) = ((x / 1024 : ℝ) : EReal) := div_up x (by norm_num)
theorem div_512 (x : ℝ) : Ideal.div (x : EReal) ((512 : ℝ) : EReal) = ((x / 512 : ℝ) : EReal) := div_up x (by norm_num)

end Cert.Reals

end
-- ==== Proof.Rms.lean ====
/- The root-mean-square norm of one row of reals, and its derivative in the two forms the programs write. -/
module

public import proofs.«01_k».proof.Proof.Reals

@[expose] public section

noncomputable section

namespace Cert.Rms

open Cert.Reals

variable {w : ℕ}

/-- The mean square of a row of `n` numbers, plus the constant. -/
def ms (n : ℝ) (x : Fin w → ℝ) : ℝ := (∑ k, x k * x k) / n + eps

/-- The inverse root mean square of a row. -/
def inv (n : ℝ) (x : Fin w → ℝ) : ℝ := (√(ms n x))⁻¹

theorem ms_pos {n : ℝ} (hn : 0 < n) (x : Fin w → ℝ) : 0 < ms n x :=
  add_pos_of_nonneg_of_pos (div_nonneg (Finset.sum_nonneg fun k _ => mul_self_nonneg (x k)) hn.le) eps_pos

theorem inv_mul_inv {n : ℝ} (hn : 0 < n) (x : Fin w → ℝ) : inv n x * inv n x = (ms n x)⁻¹ := by
  unfold inv
  rw [← mul_inv, Real.mul_self_sqrt (ms_pos hn x).le]

/-- The derivative of `x ↦ x * inv x` along `d`, as the cube of the inverse root. -/
def grad (n : ℝ) (x d : Fin w → ℝ) (j : Fin w) : ℝ :=
  inv n x * d j - x j * (inv n x * inv n x * inv n x) * ((∑ k, d k * x k) / n)

/-- The same derivative, written through the quotient of the inverse root by the mean square. -/
theorem grad_eq {n : ℝ} (hn : 0 < n) (x d : Fin w → ℝ) (j : Fin w) :
    d j * inv n x + x j * ((∑ k, x k * d k) * (-(1 / 2) * (inv n x / ms n x)) / n)
      + (∑ k, x k * d k) * (-(1 / 2) * (inv n x / ms n x)) / n * x j = grad n x d j := by
  have hs : ∑ k, d k * x k = ∑ k, x k * d k := Finset.sum_congr rfl fun k _ => mul_comm _ _
  rw [grad, hs, inv_mul_inv hn]
  ring

end Cert.Rms

end
-- ==== Proof.LossMath.lean ====
/- The loss and its gradients over real arrays. -/
module

public import proofs.«01_k».proof.Proof.Rms

@[expose] public section

noncomputable section

namespace Cert.LossMath

open Idealize.ShloMosaic Cert.Rms

abbrev Tok := (⟨2, ![2048, 1024]⟩ : Shape).Idx → ℝ
abbrev Vec1 := (⟨2, ![1, 1024]⟩ : Shape).Idx → ℝ

/-- One token's row. -/
abbrev row (X : Tok) (a : Fin 2048) : Fin 1024 → ℝ := fun k => X (ix2 a k)

/-- The normed token minus its target. -/
def diff (X T : Tok) (G : Vec1) (a : Fin 2048) (b : Fin 1024) : ℝ := X (ix2 a b) * inv 1024 (row X a) * G (ix2 0 b) - T (ix2 a b)

/-- Half the sum over tokens of the mean squared difference. -/
def loss (X T : Tok) (G : Vec1) : ℝ := ∑ a, (∑ b, diff X T G a b * diff X T G a b) * (1 / 2048)

/-- The loss's gradient at the difference. -/
def dh (X T : Tok) (G : Vec1) (a : Fin 2048) (b : Fin 1024) : ℝ := diff X T G a b * (1 / 1024)

/-- The loss's gradient at the tokens. -/
def dx (X T : Tok) (G : Vec1) (a : Fin 2048) (b : Fin 1024) : ℝ := grad 1024 (row X a) (fun k => dh X T G a k * G (ix2 0 k)) b

/-- The loss's gradient at the norm's scale. -/
def dg (X T : Tok) (G : Vec1) (b : Fin 1024) : ℝ := ∑ a, dh X T G a b * X (ix2 a b) * inv 1024 (row X a)

end Cert.LossMath

end
-- ==== Proof.LossKernel.lean ====
/- What the loss kernel's grid leaves in its three arrays, from real arrays. -/
module

public import proofs.«01_k».proof.Proof.LossMath
public import proofs.«01_k».proof.Proof.Gen.LossKernelIdeal.Value

@[expose] public section

set_option maxRecDepth 16384
noncomputable section
open Idealize.ShloMosaic Idealize.ShloMosaic.TcCoe Idealize.SL.Sem

namespace Cert.LossKernelIdeal.Arrays
open Cert.LossKernelIdeal Cert.LossKernelIdeal.Gen Cert.Reals Cert.Rms Cert.LossMath

/-! ## One block of rows -/

section Block
variable (x t : S512x1024.Idx → ℝ) (g : S1x1024.Idx → ℝ)

/-- One row of a block. -/
abbrev brow (p : Fin 512) : Fin 1024 → ℝ := fun k => x (ix2 p k)

/-- The normed row minus its target, inside a block. -/
def bdiff (p : Fin 512) (q : Fin 1024) : ℝ := x (ix2 p q) * inv 1024 (brow x p) * g (ix2 0 q) - t (ix2 p q)

theorem inv_block (p : Fin 512) (q : Fin 1) : k0_pay5 (F := Ideal) (up x) (ix2 p q) = (inv 1024 (brow x p) : ℝ) := by
  pointwise [k0_pay5]
  simp only [up, bits_1024, bits_eps, ← EReal.coe_mul, sum_up, div_1024, ← EReal.coe_add]
  exact rsqrt_up (ms_pos (by norm_num) (brow x p))

theorem diff_block (p : Fin 512) (q : Fin 1024) : k0_pay6 (F := Ideal) (up x) (up g) (up t) (ix2 p q) = (bdiff x t g p q : ℝ) := by
  pointwise [k0_pay6]
  rw [inv_block]
  simp only [up, ← EReal.coe_mul, ← EReal.coe_sub]
  rfl

theorem dh_block (p : Fin 512) (q : Fin 1024) :
    k0_pay8 (F := Ideal) (up x) (up g) (up t) (ix2 p q) = ((bdiff x t g p q * (1 / 1024) : ℝ) : EReal) := by
  pointwise [k0_pay8]
  rw [diff_block, bits_inv_1024, ← EReal.coe_mul]

theorem dhg_block (p : Fin 512) (q : Fin 1024) :
    k0_pay9 (F := Ideal) (up x) (up g) (up t) (ix2 p q) = ((bdiff x t g p q * (1 / 1024) * g (ix2 0 q) : ℝ) : EReal) := by
  pointwise [k0_pay9]
  rw [dh_block, up, ← EReal.coe_mul]

/-- A block's share of the loss is added to what the lanes held. -/
theorem loss_block (acc : Vec Ideal S1x128 .f32) (j : S1x128.Idx) :
    k0_pay7 (F := Ideal) (up x) (up g) (up t) acc j
      = acc j + ((∑ p : Fin 512, (∑ q : Fin 1024, bdiff x t g p q * bdiff x t g p q) * (1 / 2048) : ℝ) : EReal) := by
  idx_vars j
  pointwise [k0_pay7]
  simp only [diff_block, bits_inv_2048, ← EReal.coe_mul, sum_up]

/-- A block's gradient at its tokens. -/
theorem dx_block (p : Fin 512) (q : Fin 1024) :
    k0_pay1 (F := Ideal) (up x) (k0_pay5 (up x)) (k0_pay9 (up x) (up g) (up t)) (k0_pay10 (up x) (up g) (up t)) (k0_pay11 (up x)) (ix2 p q)
      = (grad 1024 (brow x p) (fun k => bdiff x t g p k * (1 / 1024) * g (ix2 0 k)) q : ℝ) := by
  pointwise [k0_pay1, k0_pay10, k0_pay11]
  simp only [inv_block, dhg_block, up, bits_1024, ← EReal.coe_mul, sum_up, div_1024, ← EReal.coe_sub]
  rfl

/-- A block's share of the gradient at the norm's scale is added to what the row held. -/
theorem dg_block (acc : Vec Ideal S1x1024 .f32) (j : S1x1024.Idx) :
    k0_pay2 (F := Ideal) (up x) (k0_pay5 (up x)) (k0_pay8 (up x) (up g) (up t)) acc j
      = acc j + ((∑ p : Fin 512, bdiff x t g p (j 1) * (1 / 1024) * x (ix2 p (j 1)) * inv 1024 (brow x p) : ℝ) : EReal) := by
  idx_vars j
  pointwise [k0_pay2]
  simp only [dh_block, inv_block, up, ← EReal.coe_mul, sum_up]

end Block

/-! ## The arrays after the grid -/

variable (m : (ℓ : Loc nD τ sig) → Buf (Elt Ideal) ℓ)
variable (X T : S2048x1024.Idx → ℝ) (G : S1x1024.Idx → ℝ)

theorem idx : ∀ t : Fin cfg0.N, win0_0.index t = ![t.val, 0] ∧ win0_1.index t = ![t.val, 0] ∧ win0_2.index t = ![0, 0]
    ∧ win0_4.index t = ![t.val, 0] ∧ t.val < 4 :=
  (by decide +kernel : ∀ t : Fin grid0.N, _)

/-- The rows of an array that point `t`'s block holds. -/
abbrev rows (X : S2048x1024.Idx → ℝ) (t : Fin cfg0.N) : S512x1024.Idx → ℝ :=
  fun y => X (ix2 ⟨t.val * 512 + (y 0).val, by have := (idx t).2.2.2.2; have := (y 0).isLt; show _ < 2048; change _ < 512 at this; omega⟩ (y 1))

theorem blk0 (c : Dev nD) (h : m ((c.tc : Thread nD τ).loc main_arg0) = up X) (t : Fin cfg0.N) : iblk m c 0 t = up (rows X t) := by
  funext y
  refine Eq.trans ?_ (congrFun h _)
  blk_ext [iblk, V, idx t]

theorem blk1 (c : Dev nD) (h : m ((c.tc : Thread nD τ).loc main_arg1) = up T) (t : Fin cfg0.N) : iblk m c 1 t = up (rows T t) := by
  funext y
  refine Eq.trans ?_ (congrFun h _)
  blk_ext [iblk, V, idx t]

theorem blk2 (c : Dev nD) (h : m ((c.tc : Thread nD τ).loc main_arg2) = up G) (t : Fin cfg0.N) : iblk m c 2 t = up G := by
  funext y
  refine Eq.trans ?_ (congrFun h _)
  blk_ext [iblk, V, idx t]

theorem zero3 (j : S1x128.Idx) : k0_pay3 (F := Ideal) j = 0 := by pointwise [k0_pay3]
theorem zero4 (j : S1x1024.Idx) : k0_pay4 (F := Ideal) j = 0 := by pointwise [k0_pay4]

section
variable (c : Dev nD) (h0 : m ((c.tc : Thread nD τ).loc main_arg0) = up X) (h1 : m ((c.tc : Thread nD τ).loc main_arg1) = up T)
  (h2 : m ((c.tc : Thread nD τ).loc main_arg2) = up G)
include h0 h1 h2

/-- What a point writes into the array of token gradients. -/
theorem dx_point (t : Fin cfg0.N) (y : S512x1024.Idx) (i : S2048x1024.Idx) (hi0 : (i 0 : ℕ) = t.val * 512 + y 0) (hi1 : (i 1 : ℕ) = y 1) :
    k0_pay1 (F := Ideal) (iblk m c 0 t) (k0_pay5 (iblk m c 0 t)) (k0_pay9 (iblk m c 0 t) (iblk m c 2 t) (iblk m c 1 t))
      (k0_pay10 (iblk m c 0 t) (iblk m c 2 t) (iblk m c 1 t)) (k0_pay11 (iblk m c 0 t)) y = up (fun i => dx X T G (i 0) (i 1)) i := by
  rw [blk0 m X c h0, blk1 m T c h1, blk2 m G c h2]
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 ⟨t.val * 512 + p.val, hi0 ▸ (i 0).isLt⟩ q := by blk_ext []
  rw [hi]
  exact dx_block _ _ _ p q

/-- The array of token gradients. -/
theorem dx_array : (dats m 0 c).arrAt 4 cfg0.N = up fun i => dx X T G (i 0) (i 1) := by
  refine (dats m 0 c).arrAt_eq_of_covers 4 _ (by decide +kernel) fun t _ y => ?_
  blk_simp
  rw [after0_4]
  have hi : ∀ a, ((((View.whole main_v0_1).slice (win0_4.rect t)).emb y) a : ℕ) = win0_4.index t a * ![512, 1024] a + y a := by
    intro a; fin_cases a <;> blk_simp
  have hi0 := hi 0
  have hi1 := hi 1
  rw [(idx t).2.2.2.1] at hi0 hi1
  rcases em (t.val % 4 = 0) with ht | ht
  · rw [outsAt0_A m c t ht]; frame_out
    exact dx_point m X T G c h0 h1 h2 t y _ hi0 (by simpa using hi1)
  · rw [outsAt0_B m c t ht]; frame_out
    exact dx_point m X T G c h0 h1 h2 t y _ hi0 (by simpa using hi1)

/-- The lanes of the loss. -/
theorem loss_array : (dats m 0 c).arrAt 3 cfg0.N = up fun _ => loss X T G := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0) _
    (fun t h j => by rw [outsAt0_A m c t h]; frame_out; rw [blk0 m X c h0, blk1 m T c h1, blk2 m G c h2, loss_block, zero3])
    (fun t h j => by rw [outsAt0_B m c t h]; frame_out; rw [blk0 m X c h0, blk1 m T c h1, blk2 m G c h2, loss_block])
    (le_of_eq N_0) t0_3 rfl j, zero_add]
  refine (sum_up _ _).trans (congrArg _ ?_)
  refine Fin.sum_mul_add_congr fun s k hl => ?_
  rfl

/-- The row of the gradient at the norm's scale. -/
theorem dg_array : (dats m 0 c).arrAt 5 cfg0.N = up fun i => dg X T G (i 1) := by
  refine (dats m 0 c).arrAt_eq_of_after_last 5 t0_3 (by decide +kernel) _ fun j => ?_
  blk_simp
  rw [after0_5, Pipeline.eq_sum_fin_of_reset_step_apply_last (fun n h => (outsAt0 m c n h).2.2) 4 (fun _ => 0) _
    (fun t h j => by rw [outsAt0_A m c t h]; frame_out; rw [blk0 m X c h0, blk1 m T c h1, blk2 m G c h2, dg_block, zero4])
    (fun t h j => by rw [outsAt0_B m c t h]; frame_out; rw [blk0 m X c h0, blk1 m T c h1, blk2 m G c h2, dg_block])
    (le_of_eq N_0) t0_3 rfl j, zero_add]
  refine (sum_up _ _).trans (congrArg _ ?_)
  refine Fin.sum_mul_add_congr fun s k hl => ?_
  rfl

end
end Cert.LossKernelIdeal.Arrays
end
-- ==== Proof.LossRef.lean ====
/- What the reference of the loss computes from real arrays. -/
module

public import proofs.«01_k».proof.Proof.LossMath
public import proofs.«01_k».proof.Proof.Gen.LossReferenceIdeal.Read

@[expose] public section

set_option maxRecDepth 16384
noncomputable section
open Idealize.ShloMosaic Idealize.ShloMosaic.TcCoe Idealize.SL.Sem

namespace Cert.LossReferenceIdeal.Read
open Cert.LossReferenceIdeal Cert.LossReferenceIdeal.Gen Cert.Reals Cert.Rms Cert.LossMath

variable (X T : S2048x1024.Idx → ℝ) (G : S1x1024.Idx → ℝ)

theorem v7_up (a : Fin 2048) (b : Fin 1) : val_main_v7 (F := Ideal) (up X) (ix2 a b) = (ms 1024 (row X a) : ℝ) := by
  pointwise [val_main_v7, val_main_v6, val_main_v5, val_main_v4, val_main_v3, val_main_v2, val_main_v1, val_main_cst, val_main_cst_0, val_main_cst_1]
  simp only [up, bits_1024, bits_eps, ← EReal.coe_mul, sum_up, div_1024, ← EReal.coe_add]
  rfl

theorem v8_up (a : Fin 2048) (b : Fin 1) : val_main_v8 (F := Ideal) (up X) (ix2 a b) = (inv 1024 (row X a) : ℝ) := by
  pointwise [val_main_v8]
  rw [v7_up, rsqrt_up (ms_pos (by norm_num) _)]
  rfl

theorem v11_up (a : Fin 2048) (b : Fin 1) :
    val_main_v11 (F := Ideal) (up X) (ix2 a b) = ((-(1 / 2) * (inv 1024 (row X a) / ms 1024 (row X a)) : ℝ) : EReal) := by
  pointwise [val_main_v11, val_main_v10, val_main_v9, val_main_cst_2]
  rw [v7_up, v8_up, bits_neg_half, div_up _ (ms_pos (by norm_num) _).ne', ← EReal.coe_mul]

theorem v17_up (a : Fin 2048) (b : Fin 1024) : val_main_v17 (F := Ideal) (up X) (up T) (up G) (ix2 a b) = (diff X T G a b : ℝ) := by
  pointwise [val_main_v17, val_main_v16, val_main_v15, val_main_v14, val_main_v13, val_main_v12, val_main_v0]
  rw [v8_up]
  simp only [up, ← EReal.coe_mul, ← EReal.coe_sub]
  rfl

theorem v31_up (a : Fin 2048) (b : Fin 1024) : val_main_v31 (F := Ideal) (up X) (up T) (up G) (ix2 a b) = (dh X T G a b : ℝ) := by
  pointwise [val_main_v31, val_main_v30, val_main_v29, val_main_v28, val_main_v27, val_main_v26, val_main_v20, val_main_v19, val_main_cst_8, val_main_cst_9, val_main_cst_10, val_main_cst_3]
  simp only [v17_up, bits_half, bits_one, bits_two, bits_1024, div_1024, ← EReal.coe_mul]
  rw [dh]
  exact congrArg _ (by ring)

theorem v36_up (a : Fin 2048) (b : Fin 1024) :
    val_main_v36 (F := Ideal) (up X) (up T) (up G) (ix2 a b) = ((dh X T G a b * G (ix2 0 b) : ℝ) : EReal) := by
  pointwise [val_main_v36, val_main_v35, val_main_v14, val_main_v0]
  rw [v31_up, up, ← EReal.coe_mul]

/-- The reference's loss, at every lane. -/
theorem loss_up (j : S1x128.Idx) : val_main_v53 (F := Ideal) (up X) (up T) (up G) j = (loss X T G : ℝ) := by
  pointwise [val_main_v53, val_main_v25, val_main_v24, val_main_v23, val_main_v22, val_main_v21, val_main_v18, val_main_cst_4, val_main_cst_5, val_main_cst_6, val_main_cst_7]
  simp only [v17_up, bits_half, bits_1024, ← EReal.coe_mul, sum_up, div_1024]
  rw [loss, Finset.mul_sum]
  exact congrArg _ (Finset.sum_congr rfl fun a _ => by ring)

/-- The reference's gradient at the tokens. -/
theorem dx_up (a : Fin 2048) (b : Fin 1024) : val_main_v51 (F := Ideal) (up X) (up T) (up G) (ix2 a b) = (dx X T G a b : ℝ) := by
  pointwise [val_main_v51, val_main_v50, val_main_v49, val_main_v48, val_main_v47, val_main_v46, val_main_v45, val_main_v44, val_main_v43, val_main_v42, val_main_v41, val_main_v40, val_main_v39, val_main_v38, val_main_cst_13, val_main_cst_14, val_main_cst_15]
  simp only [v36_up, v8_up, v11_up, up, bits_1024, ← EReal.coe_mul, sum_up, div_1024, ← EReal.coe_add, Finset.univ_unique, Finset.sum_singleton]
  rw [dx, ← grad_eq (by norm_num)]

/-- The reference's gradient at the norm's scale. -/
theorem dg_up (a : Fin 1) (b : Fin 1024) : val_main_v52 (F := Ideal) (up X) (up T) (up G) (ix2 a b) = (dg X T G b : ℝ) := by
  pointwise [val_main_v52, val_main_v37, val_main_v34, val_main_v33, val_main_v32, val_main_v13, val_main_v12, val_main_cst_11, val_main_cst_12]
  simp only [v31_up, v8_up, up, ← EReal.coe_mul, sum_up, Finset.univ_unique, Finset.sum_singleton]
  rw [dg]
  exact congrArg _ (Finset.sum_congr rfl fun a _ => by ring)

/-! ## The three results as arrays -/

theorem loss_of : val_main_v53 (F := Ideal) (up X) (up T) (up G) = up fun _ => loss X T G := funext fun j => loss_up X T G j

theorem dx_of : val_main_v51 (F := Ideal) (up X) (up T) (up G) = up fun i => dx X T G (i 0) (i 1) := by
  funext j
  idx_vars j
  exact dx_up X T G _ _

theorem dg_of : val_main_v52 (F := Ideal) (up X) (up T) (up G) = up fun i => dg X T G (i 1) := by
  funext j
  idx_vars j
  exact dg_up X T G _ _

end Cert.LossReferenceIdeal.Read
end
-- ==== Proof.LossClaim.lean ====
/- The claims about the loss kernel. -/
module

public import proofs.«01_k».proof.Defs
public import proofs.«01_k».proof.Proof.LossKernel
public import proofs.«01_k».proof.Proof.LossRef
public import proofs.«01_k».proof.Proof.Gen.LossKernel.Frame
public import proofs.«01_k».proof.Proof.Gen.LossKernelIdeal.Frame
public import proofs.«01_k».proof.Proof.Gen.LossReferenceIdeal.Run
public import Idealize.ShloMosaic.Lib.Quiescent

@[expose] public section

set_option maxRecDepth 16384
noncomputable section
open Idealize.ShloMosaic Idealize.ShloMosaic.TcCoe Idealize.SL.Sem

namespace Cert.LossClaim
open Cert.Reals Cert.LossMath

instance facts_pre : Cert.Pre_loss_finite.Facts := by
  constructor <;> decide +kernel

/-- The precondition gives the three arguments as real arrays. -/
theorem reals (m) (h : Cert.Pre_LossKernelIdeal_loss_finite m) (c : Dev Cert.LossKernelIdeal.nD) :
    ∃ X T G, m ((c.tc : Thread _ Cert.LossKernelIdeal.τ).loc Cert.LossKernelIdeal.main_arg0) = up X
      ∧ m ((c.tc : Thread _ Cert.LossKernelIdeal.τ).loc Cert.LossKernelIdeal.main_arg1) = up T
      ∧ m ((c.tc : Thread _ Cert.LossKernelIdeal.τ).loc Cert.LossKernelIdeal.main_arg2) = up G := by
  obtain ⟨h0, h1, h2⟩ := h c
  obtain ⟨X, hX⟩ := reals_of_test _ _ _ h0
  obtain ⟨T, hT⟩ := reals_of_test _ _ _ h1
  obtain ⟨G, hG⟩ := reals_of_test _ _ _ h2
  exact ⟨X, T, G, hX, hT, hG⟩

/-- The reference declares no semaphore, so its run leaves every counter at zero. -/
theorem frame_ref : Cert.quiescent_LossReferenceIdeal (hLossReferenceIdeal := Cert.LossReferenceIdeal.Gen.facts) := fun m g _ =>
  (θ_run _ _ _).mono (fun r h => ⟨fun c => (h c).2.2.2, sem_eq_zero_of_no_sems (by decide) r.2⟩) (Cert.LossReferenceIdeal.Value.run (F := Ideal) m g)

/-- The two programs end with equal results. -/
theorem algebraic : Cert.algebraic_LossKernelIdeal_LossReferenceIdeal_pre_loss_finite
    (hLossKernelIdeal := Cert.LossKernelIdeal.Gen.facts) (hLossReferenceIdeal := Cert.LossReferenceIdeal.Gen.facts) := by
  intro m g m' g' hpre hag
  refine ⟨fun c => _, fun c => _, fun c => _, Cert.LossKernelIdeal.Value.run_blocks m g, ?_⟩
  refine (θ_run _ _ _).mono (fun r h c => ?_) (Cert.LossReferenceIdeal.Value.run m' g')
  obtain ⟨X, T, G, hX, hT, hG⟩ := reals m hpre c
  obtain ⟨a0, a1, a2⟩ := hag c
  obtain ⟨r0, r1, r2, k⟩ := h c
  refine ⟨r0.trans ?_, r1.trans ?_, r2.trans ?_, k⟩
  · rw [Cert.LossReferenceIdeal.Read.val_main_v53_eq, a0, a1, a2, hX, hT, hG]
    exact (Cert.LossReferenceIdeal.Read.loss_of X T G).trans (Cert.LossKernelIdeal.Arrays.loss_array m X T G c hX hT hG).symm
  · rw [Cert.LossReferenceIdeal.Read.val_main_v51_eq, a0, a1, a2, hX, hT, hG]
    exact (Cert.LossReferenceIdeal.Read.dx_of X T G).trans (Cert.LossKernelIdeal.Arrays.dx_array m X T G c hX hT hG).symm
  · rw [Cert.LossReferenceIdeal.Read.val_main_v52_eq, a0, a1, a2, hX, hT, hG]
    exact (Cert.LossReferenceIdeal.Read.dg_of X T G).trans (Cert.LossKernelIdeal.Arrays.dg_array m X T G c hX hT hG).symm

end Cert.LossClaim
end
-- ==== Proof.AttnMath.lean ====
/- The backward of one head of attention in real numbers, from the scores' row sums: first for any block of rows and
   any prefix of columns, then for all of them. -/
module

public import proofs.«01_k».proof.Proof.Reals

@[expose] public section

noncomputable section

namespace Cert.AttnMath

open Idealize.ShloMosaic

/-- Lane `x` of a pair of heads belongs to head `h` of the pair. -/
abbrev lane (h : Fin 2) (x : Fin 128) : Prop := x.val / 64 = h.val

section
variable {R n : ℕ} (r : ℕ) (h : Fin 2) (q o : Fin R → Fin 128 → ℝ) (k v : Fin n → Fin 128 → ℝ) (d : Fin n → ℝ) (l : Fin R → ℝ)

/-- A score: scaled product of a query and a key over the head's lanes, less the key's decay. -/
def sc (a : Fin R) (b : Fin n) : ℝ := (∑ x : Fin 128, if lane h x then q a x * (1 / 8) * k b x else 0) - d b

/-- A weight: zero beyond the diagonal; row `a` of the block is row `a + r` of the whole. -/
def pr (a : Fin R) (b : Fin n) : ℝ := if b.val ≤ a.val + r then Real.exp (sc h q k d a b - l a) else 0

/-- The derivative at a weight. -/
def dp (a : Fin R) (b : Fin n) : ℝ := ∑ x : Fin 128, if lane h x then o a x * v b x else 0

/-- The derivative at a score. -/
def ds (a : Fin R) (b : Fin n) : ℝ :=
  pr r h q k d l a b * (dp h o v a b - ∑ y : Fin n, pr r h q k d l a y * dp h o v a y)

end

/-- A sum over a prefix of the columns is the sum over all, if the rest vanish. -/
theorem sum_prefix {n m : ℕ} (hn : n ≤ m) (f : Fin m → ℝ) (hf : ∀ j : Fin m, n ≤ j.val → f j = 0) :
    ∑ y : Fin n, f ⟨y.val, y.isLt.trans_le hn⟩ = ∑ j : Fin m, f j := by
  obtain ⟨e, rfl⟩ := Nat.exists_eq_add_of_le hn
  rw [Fin.sum_univ_add, Finset.sum_eq_zero (s := Finset.univ (α := Fin e)) (fun j _ => hf _ (by simp)), add_zero]
  rfl

/-- Rows `r …` of an array. -/
abbrev cut {α : Type} (r : ℕ) (hr : r + 256 ≤ 2048) (f : Fin 2048 → α) : Fin 256 → α := fun a => f ⟨a.val + r, by omega⟩
/-- Its first `n` rows. -/
abbrev pre {α : Type} (n : ℕ) (hn : n ≤ 2048) (f : Fin 2048 → α) : Fin n → α := fun b => f ⟨b.val, by omega⟩

section
variable (h : Fin 2) (q k v o : Fin 2048 → Fin 128 → ℝ) (d l : Fin 2048 → ℝ)

/-- Weights beyond the diagonal vanish, -/
theorem pr_zero (i j : Fin 2048) (hij : i.val < j.val) : pr 0 h q k d l i j = 0 := by
  rw [pr, if_neg (by omega)]

/-- and so do the derivatives at their scores. -/
theorem ds_zero (i j : Fin 2048) (hij : i.val < j.val) : ds 0 h q o k v d l i j = 0 := by
  rw [ds, pr_zero h q k d l i j hij, zero_mul]

variable (n r : ℕ) (hr : r + 256 ≤ 2048) (hn : n ≤ 2048)

theorem pr_cut (a : Fin 256) (b : Fin n) :
    pr r h (cut r hr q) (pre n hn k) (pre n hn d) (cut r hr l) a b = pr 0 h q k d l ⟨a.val + r, by omega⟩ ⟨b.val, by omega⟩ := by
  simp only [pr, sc, add_zero, cut, pre]

theorem dp_cut (a : Fin 256) (b : Fin n) :
    dp h (cut r hr o) (pre n hn v) a b = dp h o v ⟨a.val + r, by omega⟩ ⟨b.val, by omega⟩ := rfl

/-- A block of rows over all the columns its diagonal reaches has the whole's derivatives. -/
theorem ds_cut (hrn : r + 256 ≤ n) (a : Fin 256) (b : Fin n) :
    ds r h (cut r hr q) (cut r hr o) (pre n hn k) (pre n hn v) (pre n hn d) (cut r hr l) a b
      = ds 0 h q o k v d l ⟨a.val + r, by omega⟩ ⟨b.val, by omega⟩ := by
  simp only [ds, pr_cut, dp_cut]
  rw [sum_prefix hn (fun j => pr 0 h q k d l ⟨a.val + r, by omega⟩ j * dp h o v ⟨a.val + r, by omega⟩ j)]
  intro j hj
  rw [pr_zero _ _ _ _ _ _ _ (by simp only; omega), zero_mul]

end

/-! ## What one tile of rows adds to the gradients of keys, values and decays -/

section
variable (Q K V O : Fin 2048 → Fin 128 → ℝ) (D L : Fin 2 → Fin 2048 → ℝ)

/-- The derivative at a score, and a weight, of head `h` of the pair. -/
def dsAt (h : Fin 2) (i j : Fin 2048) : ℝ := ds 0 h Q O K V (D h) (L h) i j
def prAt (h : Fin 2) (i j : Fin 2048) : ℝ := pr 0 h Q K (D h) (L h) i j

/-- Row `x` of tile `s`. -/
abbrev row (s : Fin 8) (x : Fin 256) : Fin 2048 := ⟨x.val + s.val * 256, by omega⟩

def dkTile (s : Fin 8) (h : Fin 2) (j : Fin 2048) (b : Fin 128) : ℝ :=
  ∑ x : Fin 256, if lane h b then dsAt Q K V O D L h (row s x) j * (Q (row s x) b * (1 / 8)) else 0
def dvTile (s : Fin 8) (h : Fin 2) (j : Fin 2048) (b : Fin 128) : ℝ :=
  ∑ x : Fin 256, if lane h b then prAt Q K D L h (row s x) j * O (row s x) b else 0
def ddTile (s : Fin 8) (h : Fin 2) (j : Fin 2048) : ℝ := ∑ x : Fin 256, dsAt Q K V O D L h (row s x) j

theorem dsAt_past (s : Fin 8) (h : Fin 2) (j : Fin 2048) (n : ℕ) (hn : s.val * 256 + 256 ≤ n) (hj : n ≤ j.val) (x : Fin 256) :
    dsAt Q K V O D L h (row s x) j = 0 := ds_zero _ _ _ _ _ _ _ _ _ (by simp only [row]; omega)

theorem dk_past (s : Fin 8) (h : Fin 2) (n : ℕ) (hn : s.val * 256 + 256 ≤ n) (j : Fin 2048) (b : Fin 128) (hj : n ≤ j.val) :
    dkTile Q K V O D L s h j b = 0 :=
  Finset.sum_eq_zero fun x _ => by rw [dsAt_past Q K V O D L s h j n hn hj x, zero_mul, ite_self]

theorem dv_past (s : Fin 8) (h : Fin 2) (n : ℕ) (hn : s.val * 256 + 256 ≤ n) (j : Fin 2048) (b : Fin 128) (hj : n ≤ j.val) :
    dvTile Q K O D L s h j b = 0 :=
  Finset.sum_eq_zero fun x _ => by
    rw [prAt, pr_zero _ _ _ _ _ _ _ (by simp only [row]; omega), zero_mul, ite_self]

theorem dd_past (s : Fin 8) (h : Fin 2) (n : ℕ) (hn : s.val * 256 + 256 ≤ n) (j : Fin 2048) (hj : n ≤ j.val) :
    ddTile Q K V O D L s h j = 0 :=
  Finset.sum_eq_zero fun x _ => dsAt_past Q K V O D L s h j n hn hj x

section
variable (n : ℕ) (s : Fin 8) (h : Fin 2) (r : ℕ) (hs : s.val * 256 = r) (hr : r + 256 ≤ 2048) (hn : n ≤ 2048) (hrn : r + 256 ≤ n)
include hs hrn

/-- A tile's derivatives at its scores are those of the whole. -/
theorem ds_tile (x : Fin 256) (a : Fin n) :
    ds r h (cut r hr Q) (cut r hr O) (pre n hn K) (pre n hn V) (pre n hn (D h)) (cut r hr (L h)) x a
      = dsAt Q K V O D L h (row s x) ⟨a.val, by omega⟩ :=
  by subst hs; exact ds_cut h Q K V O (D h) (L h) n _ hr hn hrn x a

theorem dk_tile (a : Fin n) (b : Fin 128) :
    (∑ x, if lane h b then
      ds r h (cut r hr Q) (cut r hr O) (pre n hn K) (pre n hn V) (pre n hn (D h)) (cut r hr (L h)) x a
        * (cut r hr Q x b * (1 / 8)) else 0) = dkTile Q K V O D L s h ⟨a.val, by omega⟩ b := by
  simp only [ds_tile Q K V O D L n s h r hs hr hn hrn]; subst hs; rfl

theorem dv_tile (a : Fin n) (b : Fin 128) :
    (∑ x, if lane h b then
      pr r h (cut r hr Q) (pre n hn K) (pre n hn (D h)) (cut r hr (L h)) x a * cut r hr O x b else 0)
      = dvTile Q K O D L s h ⟨a.val, by omega⟩ b := by
  subst hs; simp only [pr_cut]; rfl

theorem dd_tile (a : Fin n) :
    (∑ x, ds r h (cut r hr Q) (cut r hr O) (pre n hn K) (pre n hn V) (pre n hn (D h)) (cut r hr (L h)) x a)
      = ddTile Q K V O D L s h ⟨a.val, by omega⟩ := by
  simp only [ds_tile Q K V O D L n s h r hs hr hn hrn]; rfl

end

/-! ## The tiles together -/

/-- The gradient at keys, values and decays of a pair of heads. -/
def dk (j : Fin 2048) (b : Fin 128) : ℝ := ∑ h : Fin 2, ∑ i : Fin 2048, if lane h b then dsAt Q K V O D L h i j * (Q i b * (1 / 8)) else 0
def dv (j : Fin 2048) (b : Fin 128) : ℝ := ∑ h : Fin 2, ∑ i : Fin 2048, if lane h b then prAt Q K D L h i j * O i b else 0
def dd (h : Fin 2) (j : Fin 2048) : ℝ := -∑ i : Fin 2048, dsAt Q K V O D L h i j

/-- The gradient at queries of a pair of heads. -/
def dqHead (h : Fin 2) (i : Fin 2048) (b : Fin 128) : ℝ := (∑ j : Fin 2048, dsAt Q K V O D L h i j * K j b) * (1 / 8)
def dq (i : Fin 2048) (b : Fin 128) : ℝ := if lane 0 b then dqHead Q K V O D L 0 i b else dqHead Q K V O D L 1 i b

theorem dq_tile (n : ℕ) (h : Fin 2) (r : ℕ) (hr : r + 256 ≤ 2048) (hn : n ≤ 2048) (hrn : r + 256 ≤ n) (a : Fin 256) (b : Fin 128) :
    (∑ y, ds r h (cut r hr Q) (cut r hr O) (pre n hn K) (pre n hn V) (pre n hn (D h)) (cut r hr (L h)) a y * pre n hn K y b) * (1 / 8)
      = dqHead Q K V O D L h ⟨a.val + r, by omega⟩ b := by
  simp only [ds_cut h Q K V O (D h) (L h) n r hr hn hrn]
  refine congrArg (· * (1 / 8)) (sum_prefix hn (fun j => dsAt Q K V O D L h ⟨a.val + r, by omega⟩ j * K j b) fun j hj => ?_)
  rw [dsAt, ds_zero _ _ _ _ _ _ _ _ _ (by simp only; omega), zero_mul]

/-- Eight tiles of 256 rows are the 2048 rows. -/
theorem sum_rows (f : Fin 2048 → ℝ) : ∑ s : Fin 8, ∑ x : Fin 256, f (row s x) = ∑ i : Fin 2048, f i := by
  refine Fin.sum_mul_add_congr (S := 8) (n := 256) fun s k hl => ?_
  exact congrArg f (Fin.ext (Nat.add_comm _ _))

theorem dk_sum (j : Fin 2048) (b : Fin 128) :
    0 + dkTile Q K V O D L 0 0 j b + dkTile Q K V O D L 0 1 j b + dkTile Q K V O D L 1 0 j b + dkTile Q K V O D L 1 1 j b + dkTile Q K V O D L 2 0 j b + dkTile Q K V O D L 2 1 j b + dkTile Q K V O D L 3 0 j b + dkTile Q K V O D L 3 1 j b + dkTile Q K V O D L 4 0 j b + dkTile Q K V O D L 4 1 j b + dkTile Q K V O D L 5 0 j b + dkTile Q K V O D L 5 1 j b + dkTile Q K V O D L 6 0 j b + dkTile Q K V O D L 6 1 j b + dkTile Q K V O D L 7 0 j b + dkTile Q K V O D L 7 1 j b = dk Q K V O D L j b := by
  have e (h : Fin 2) := (sum_rows fun i => if lane h b then dsAt Q K V O D L h i j * (Q i b * (1 / 8)) else 0).symm
  simp only [dk, Fin.sum_univ_two]
  rw [e 0, e 1]
  simp only [Fin.sum_univ_eight, dkTile]
  ring

theorem dv_sum (j : Fin 2048) (b : Fin 128) :
    0 + dvTile Q K O D L 0 0 j b + dvTile Q K O D L 0 1 j b + dvTile Q K O D L 1 0 j b + dvTile Q K O D L 1 1 j b + dvTile Q K O D L 2 0 j b + dvTile Q K O D L 2 1 j b + dvTile Q K O D L 3 0 j b + dvTile Q K O D L 3 1 j b + dvTile Q K O D L 4 0 j b + dvTile Q K O D L 4 1 j b + dvTile Q K O D L 5 0 j b + dvTile Q K O D L 5 1 j b + dvTile Q K O D L 6 0 j b + dvTile Q K O D L 6 1 j b + dvTile Q K O D L 7 0 j b + dvTile Q K O D L 7 1 j b = dv Q K O D L j b := by
  have e (h : Fin 2) := (sum_rows fun i => if lane h b then prAt Q K D L h i j * O i b else 0).symm
  simp only [dv, Fin.sum_univ_two]
  rw [e 0, e 1]
  simp only [Fin.sum_univ_eight, dvTile]
  ring

theorem dd_sum (h : Fin 2) (j : Fin 2048) :
    0 + -ddTile Q K V O D L 0 h j + -ddTile Q K V O D L 1 h j + -ddTile Q K V O D L 2 h j + -ddTile Q K V O D L 3 h j + -ddTile Q K V O D L 4 h j + -ddTile Q K V O D L 5 h j + -ddTile Q K V O D L 6 h j + -ddTile Q K V O D L 7 h j = dd Q K V O D L h j := by
  rw [dd, ← sum_rows fun i => dsAt Q K V O D L h i j]
  simp only [Fin.sum_univ_eight, ddTile]
  ring

end

end Cert.AttnMath

end
-- ==== Proof.AttnScores.lean ====
/- The scores of each tile of rows, diagonal mask and all, in one form. -/
module

public import proofs.«01_k».proof.Proof.AttnMath
public import proofs.«01_k».proof.Proof.Gen.AttnKernelIdeal.Skeleton

@[expose] public section

set_option maxRecDepth 16384
noncomputable section
open Idealize.ShloMosaic Idealize.ShloMosaic.TcCoe Idealize.SL.Sem

namespace Cert.AttnKernelIdeal.Arrays
open Cert.AttnKernelIdeal Cert.AttnKernelIdeal.Gen Cert.Reals Cert.AttnMath

theorem bits_eighth_half : Ideal.ofBits .bf16 0x3E00#16 = ((1 / 8 : ℝ) : EReal) := by
  simp [Ideal.ofBits, Ideal.ieee, -EReal.coe_mul]; norm_num

/-- The mask of the first head's lanes. -/
theorem select_lane0 (x : Fin 128) (A : ℝ) :
    Scalar.select (IntOp.cmpi .slt (BitVec.ofNat 32 x.val) 64#32) ((A : ℝ) : EReal) 0 = ((if lane 0 x then A else 0 : ℝ) : EReal) := by
  have hx := x.isLt
  have : IntOp.cmpi .slt (BitVec.ofNat 32 x.val) 64#32 = if lane 0 x then 1#1 else 0#1 := by
    revert x; decide
  rw [this]
  split_ifs <;> rfl

/-- The mask of the second head's lanes. -/
theorem select_lane1 (x : Fin 128) (A : ℝ) :
    Scalar.select (IntOp.xori (IntOp.cmpi .slt (BitVec.ofNat 32 x.val) 64#32) 1#1) ((A : ℝ) : EReal) 0 = ((if lane 1 x then A else 0 : ℝ) : EReal) := by
  have hx := x.isLt
  have : IntOp.xori (IntOp.cmpi .slt (BitVec.ofNat 32 x.val) 64#32) 1#1 = if lane 1 x then 1#1 else 0#1 := by
    revert x; decide
  rw [this]
  split_ifs <;> rfl

/-- The mask of a diagonal tile. -/
theorem select_diag (b a : ℕ) (hb : b < 256) (ha : a < 256) (A B : EReal) :
    Scalar.select (IntOp.cmpi .sle (BitVec.ofNat 32 b) (BitVec.ofNat 32 a)) A B = if b ≤ a then A else B :=
  select_le b a (by omega) (by omega) A B

section
variable {n : ℕ} (r : ℕ) (h : Fin 2) (q : Fin 256 → Fin 128 → ℝ) (k : Fin n → Fin 128 → ℝ) (d : Fin n → ℝ)

/-- A tile of scores, `-∞` beyond the diagonal. -/
def score (i : (⟨2, ![256, n]⟩ : Shape).Idx) : EReal :=
  if (i 1).val ≤ (i 0).val + r then ((sc h q k d (i 0) (i 1) : ℝ) : EReal) else ⊥

/-- An exponential less the row's log sum is the weight. -/
theorem exp_score (l : Fin 256 → ℝ) (a : Fin 256) (b : Fin n) :
    Ideal.exp (score r h q k d (ix2 a b) - ((l a : ℝ) : EReal)) = ((pr r h q k d l a b : ℝ) : EReal) := by
  rw [score, pr]
  change Ideal.exp ((if b.val ≤ a.val + r then _ else _) - _) = _
  split_ifs with hb
  · exact (congrArg Ideal.exp (EReal.coe_sub _ _).symm).trans (Ideal.exp_coe _)
  · exact (congrArg Ideal.exp (EReal.bot_sub _)).trans Ideal.exp_bot

end

/-- A matrix of reals, a row and a column of them, in the shapes the program loads them. -/
def r2 {a b : ℕ} (f : Fin a → Fin b → ℝ) (i : (⟨2, ![a, b]⟩ : Shape).Idx) : EReal := ((f (i 0) (i 1) : ℝ) : EReal)
def r1 {a : ℕ} (f : Fin a → ℝ) (i : (⟨3, ![1, 1, a]⟩ : Shape).Idx) : EReal := ((f (i 2) : ℝ) : EReal)
def c1 {a : ℕ} (f : Fin a → ℝ) (i : (⟨3, ![1, a, 1]⟩ : Shape).Idx) : EReal := ((f (i 1) : ℝ) : EReal)

theorem r2_ix {a b : ℕ} (f : Fin a → Fin b → ℝ) (i : Fin a) (j : Fin b) : r2 f (ix2 i j) = ((f i j : ℝ) : EReal) := rfl
theorem r1_ix {a : ℕ} (f : Fin a → ℝ) (i j : Fin 1) (k : Fin a) : r1 f (ix3 i j k) = ((f k : ℝ) : EReal) := rfl
theorem c1_ix {a : ℕ} (f : Fin a → ℝ) (i j : Fin 1) (k : Fin a) : c1 f (ix3 i k j) = ((f k : ℝ) : EReal) := rfl

theorem score_first (q : Fin 256 → Fin 128 → ℝ) (k : Fin 256 → Fin 128 → ℝ) (d : Fin 256 → ℝ) (h : Fin 2) (a b : Fin 256) :
    Scalar.select (IntOp.cmpi .sle (BitVec.ofNat 32 b.val) (BitVec.ofNat 32 a.val)) ((sc h q k d a b : ℝ) : EReal) ⊥ = score 0 h q k d (ix2 a b) := by
  rw [select_diag _ _ b.isLt a.isLt, score]
  simp only [add_zero]
  rfl

/-- A tile whose last 256 columns are masked. -/
theorem score_next {n : ℕ} (r : ℕ) (hn : n = r + 256) (q : Fin 256 → Fin 128 → ℝ) (k : Fin n → Fin 128 → ℝ) (d : Fin n → ℝ) (h : Fin 2) (a : Fin 256) (b : Fin n)
    (hb : ¬ b.val < r → r + (b.val - r) < n) :
    (if hlt : b.val < r then ((sc h q k d a b : ℝ) : EReal) else
      Scalar.select (IntOp.cmpi .sle (BitVec.ofNat 32 (b.val - r)) (BitVec.ofNat 32 a.val))
        ((sc h q k d a ⟨r + (b.val - r), hb hlt⟩ : ℝ) : EReal) ⊥) = score r h q k d (ix2 a b) := by
  have hbl := b.isLt
  rw [score]
  change _ = if b.val ≤ a.val + r then ((sc h q k d a b : ℝ) : EReal) else ⊥
  split_ifs with h1 h2 h2
  · rfl
  · omega
  · rw [select_diag _ _ (by omega) a.isLt, if_pos (by omega)]
    congr 2
    exact Fin.ext (by simp only; omega)
  · rw [select_diag _ _ (by omega) a.isLt, if_neg (by omega)]

/-- The tiles' scores of the first head, -/
theorem scores0 :
    (∀ q k d, k0_pay29 (F := Ideal) k0_pay2 (r2 q) (r2 k) (r1 d) = score 256 0 q k d)
      ∧ (∀ q k d, k0_pay57 (F := Ideal) k0_pay2 (r2 q) (r2 k) (r1 d) = score 512 0 q k d)
      ∧ (∀ q k d, k0_pay85 (F := Ideal) k0_pay2 (r2 q) (r2 k) (r1 d) = score 768 0 q k d)
      ∧ (∀ q k d, k0_pay113 (F := Ideal) k0_pay2 (r2 q) (r2 k) (r1 d) = score 1024 0 q k d)
      ∧ (∀ q k d, k0_pay141 (F := Ideal) k0_pay2 (r2 q) (r2 k) (r1 d) = score 1280 0 q k d)
      ∧ (∀ q k d, k0_pay169 (F := Ideal) k0_pay2 (r2 q) (r2 k) (r1 d) = score 1536 0 q k d)
      ∧ (∀ q k d, k0_pay197 (F := Ideal) k0_pay2 (r2 q) (r2 k) (r1 d) = score 1792 0 q k d) := by
  refine ⟨?_, ?_, ?_, ?_, ?_, ?_, ?_⟩ <;>
  · intro q k d
    funext y
    idx_vars y
    pointwise [
      k0_pay27, k0_pay29, k0_pay55, k0_pay57, k0_pay83, k0_pay85, k0_pay111, k0_pay113, k0_pay139, k0_pay141, k0_pay167, k0_pay169,
      k0_pay195, k0_pay197, k0_pay2]
    simp only [r2_ix, r1_ix, bits_eighth_half, bits_bot, ← EReal.coe_mul, select_lane0, sum_up, ← EReal.coe_sub]
    exact score_next _ rfl q k d 0 y0 y1 _

/-- of the second, -/
theorem scores1 :
    (∀ q k d, k0_pay43 (F := Ideal) k0_pay2 (r2 q) (r2 k) (r1 d) = score 256 1 q k d)
      ∧ (∀ q k d, k0_pay71 (F := Ideal) k0_pay2 (r2 q) (r2 k) (r1 d) = score 512 1 q k d)
      ∧ (∀ q k d, k0_pay99 (F := Ideal) k0_pay2 (r2 q) (r2 k) (r1 d) = score 768 1 q k d)
      ∧ (∀ q k d, k0_pay127 (F := Ideal) k0_pay2 (r2 q) (r2 k) (r1 d) = score 1024 1 q k d)
      ∧ (∀ q k d, k0_pay155 (F := Ideal) k0_pay2 (r2 q) (r2 k) (r1 d) = score 1280 1 q k d)
      ∧ (∀ q k d, k0_pay183 (F := Ideal) k0_pay2 (r2 q) (r2 k) (r1 d) = score 1536 1 q k d)
      ∧ (∀ q k d, k0_pay211 (F := Ideal) k0_pay2 (r2 q) (r2 k) (r1 d) = score 1792 1 q k d) := by
  refine ⟨?_, ?_, ?_, ?_, ?_, ?_, ?_⟩ <;>
  · intro q k d
    funext y
    idx_vars y
    pointwise [
      k0_pay40, k0_pay41, k0_pay43, k0_pay68, k0_pay69, k0_pay71, k0_pay96, k0_pay97, k0_pay99, k0_pay124, k0_pay125, k0_pay127, k0_pay152,
      k0_pay153, k0_pay155, k0_pay180, k0_pay181, k0_pay183, k0_pay208, k0_pay209, k0_pay211, k0_pay2]
    simp only [r2_ix, r1_ix, bits_eighth_half, bits_bot, ← EReal.coe_mul, select_lane1, sum_up, ← EReal.coe_sub]
    exact score_next _ rfl q k d 1 y0 y1 _

/-- and the two on the first diagonal tile. -/
theorem scores_first : (∀ q k d, k0_pay10 (F := Ideal) (k0_pay8 (r1 d)) (k0_pay9 (r2 q) (r2 k)) = score 0 0 q k d)
    ∧ (∀ q k d, k0_pay15 (F := Ideal) k0_pay2 (r2 q) (r2 k) (r1 d) = score 0 1 q k d) := by
  refine ⟨?_, ?_⟩ <;>
  · intro q k d
    funext y
    idx_vars y
    pointwise [k0_pay10, k0_pay8, k0_pay9, k0_pay6, k0_pay2, k0_pay15, k0_pay13, k0_pay12]
    simp only [r2_ix, r1_ix, bits_eighth_half, bits_bot, ← EReal.coe_mul, select_lane0, select_lane1, sum_up, ← EReal.coe_sub]
    exact score_first q k d _ y0 y1

end Cert.AttnKernelIdeal.Arrays
end
-- ==== Proof.AttnArrays.lean ====
/- What the attention kernel's grid leaves in its arrays, from real arrays. -/
module

public import proofs.«01_k».proof.Proof.AttnScores
public import proofs.«01_k».proof.Proof.Gen.AttnKernelIdeal.Value

@[expose] public section

set_option maxRecDepth 16384
set_option maxHeartbeats 4000000
noncomputable section
open Idealize.ShloMosaic Idealize.ShloMosaic.TcCoe Idealize.SL.Sem

namespace Cert.AttnKernelIdeal.Arrays
open Cert.AttnKernelIdeal Cert.AttnKernelIdeal.Gen Cert.Reals Cert.AttnMath

/-! ## Loads of a block's rows and columns -/

/-- One row, one column per head, as the blocks hold them. -/
def d3 {a b : ℕ} (f : Fin a → Fin b → ℝ) (i : (⟨3, ![a, 1, b]⟩ : Shape).Idx) : EReal := ((f (i 0) (i 2) : ℝ) : EReal)
def l3 {a b : ℕ} (f : Fin a → Fin b → ℝ) (i : (⟨3, ![a, b, 1]⟩ : Shape).Idx) : EReal := ((f (i 0) (i 1) : ℝ) : EReal)

/-- A load of 256 rows. -/
theorem ld_rows (r : ℕ) (f : Fin 2048 → Fin 128 → ℝ) (inb : ∀ a, (![r, 0] : Fin 2 → ℕ) a + (![256, 128] : Fin 2 → ℕ) a ≤ S2048x128.size a) :
    View.ld (Val := Elt Ideal) (e' := .f32) (r2 f) (Rect.unit (s := S2048x128) ![r, 0] ![256, 128] inb) = r2 (cut r (by simpa using inb 0) f) := by
  funext y
  refine congrArg _ (congrArg₂ f (Fin.ext ?_) (Fin.ext ?_)) <;> simp [Nat.add_comm]

/-! ## A buffer that accumulates over prefixes of its rows -/

/-- One more product added to the first `n` rows of an accumulated buffer. -/
theorem step {sig : RefSig} {κ : Kind} {sp : Space}
    (v : View sig κ sp S2048x128 .f32) {n : ℕ} {inb : ∀ a, (![0, 0] : Fin 2 → ℕ) a + (![n, 128] : Fin 2 → ℕ) a ≤ S2048x128.size a}
    {pay : (⟨2, ![n, 128]⟩ : Shape).Idx → Elt Ideal .f32} {L : List (View.Piece (Elt Ideal) S2048x128 .f32)} {A : S2048x128.Idx → ℝ} (C : Fin 2048 → Fin 128 → ℝ)
    (hout : ∀ a b, n ≤ a.val → C a b = 0)
    (hL : View.canon L = up A)
    (hin : ∀ acc, v.readCov L (Rect.unit ![0, 0] ![n, 128] inb).toLoadRect = acc →
      ∀ (a : Fin n) (b : Fin 128) (h : a.val < 2048), pay (ix2 a b) = acc (ix2 a b) + ((C ⟨a, h⟩ b : ℝ) : EReal)) :
    View.canon (⟨Rect.unit ![0, 0] ![n, 128] inb, pay⟩ :: L) = up (fun i => A i + C (i 0) (i 1)) := by
  funext y
  by_cases hy : y ∈ (Rect.unit ![0, 0] ![n, 128] inb).set
  · obtain ⟨x, rfl⟩ := LoadRect.exists_idx_of_mem _ hy
    obtain ⟨p, q, rfl⟩ : ∃ (p : Fin n) (q : Fin 128), x = ix2 p q := ⟨x 0, x 1, by funext a; fin_cases a <;> rfl⟩
    have hp : p.val < 2048 := p.isLt.trans_le (by simpa using inb 0)
    have hi : ∀ (E : Fin 2048 → Fin 128 → ℝ), E ((Rect.unit (s := S2048x128) ![0, 0] ![n, 128] inb).toLoadRect.idx (ix2 p q) 0)
        ((Rect.unit (s := S2048x128) ![0, 0] ![n, 128] inb).toLoadRect.idx (ix2 p q) 1) = E ⟨p, hp⟩ q := fun E =>
      congrArg₂ E (Fin.ext (by simp [ix2])) (Fin.ext (by simp [ix2]))
    refine (View.canon_cons_emb _ _ _ _).trans ((hin _ rfl p q hp).trans ?_)
    rw [View.readCov_eq_canon', hL]
    refine (EReal.coe_add _ _).symm.trans (congrArg _ ?_)
    exact congrArg _ (hi C).symm
  · rw [View.canon_cons_of_not_mem _ _ hy, hL]
    have : n ≤ (y 0).val := by
      by_contra hlt
      refine hy (Rect.mem_set_unit.2 fun a => ?_)
      have h0 := (y 1).isLt
      fin_cases a
      · exact ⟨Nat.zero_le _, by simpa using hlt⟩
      · exact ⟨Nat.zero_le _, by simpa using h0⟩
    exact congrArg _ ((add_zero _).symm.trans (congrArg _ (hout (y 0) (y 1) this).symm))

/-- The zeros an accumulated buffer starts from. -/
theorem base {s : Shape} {off : Fin s.rank → ℕ} (inb : ∀ a, off a + s.size a ≤ s.size a) (Z : s.Idx → Elt Ideal .f32) (h : ∀ a, off a = 0)
    (hz : ∀ y, Z y = 0) :
    View.canon (Val := Elt Ideal) [⟨Rect.unit off (no_index s.size) inb, Z⟩] = up (fun _ => 0) := by
  rw [View.canon_cons_unit_lit inb Z [] h]
  funext y
  rw [hz y]; rfl

/-- A read of an accumulated buffer, from what it holds. -/
theorem read_of {sig : RefSig} {κ : Kind} {sp : Space} {s : Shape}
    {v : View sig κ sp s .f32} {B : LoadRect s} {acc : B.shape.Idx → Elt Ideal .f32} {L : List (View.Piece (Elt Ideal) s .f32)} {A : s.Idx → ℝ}
    (h : v.readCov L B = acc) (hL : View.canon L = up A) : acc = fun j => up A (B.idx j) := by
  rw [← h, View.readCov_eq_canon', hL]

theorem zero3 (j : S2048x128.Idx) : k0_pay3 (F := Ideal) j = 0 := by idx_vars j; pointwise [k0_pay3]

/-- A load of the first `n` rows. -/
theorem ld_pre (n : ℕ) (f : Fin 2048 → Fin 128 → ℝ) (inb : ∀ a, (![0, 0] : Fin 2 → ℕ) a + (![n, 128] : Fin 2 → ℕ) a ≤ S2048x128.size a) :
    View.ld (Val := Elt Ideal) (e' := .f32) (r2 f) (Rect.unit (s := S2048x128) ![0, 0] ![n, 128] inb) = r2 (pre n (by simpa using inb 0) f) := by
  funext y
  refine congrArg _ (congrArg₂ f (Fin.ext ?_) (Fin.ext ?_)) <;> simp

/-- A load of the first `n` of a head's decays. -/
theorem ld_d (h : Fin 2) (o : ℕ) (e : h.val = o) (n : ℕ) (D : Fin 2 → Fin 2048 → ℝ) (inb : ∀ a, (![o, 0, 0] : Fin 3 → ℕ) a + (![1, 1, n] : Fin 3 → ℕ) a ≤ S2x1x2048.size a) :
    View.ld (Val := Elt Ideal) (e' := .f32) (d3 D) (Rect.unit (s := S2x1x2048) ![o, 0, 0] ![1, 1, n] inb) = r1 (pre n (by simpa using inb 2) (D h)) := by
  subst e
  funext y
  have h0 := (y 0).isLt
  refine congrArg _ (congrArg₂ D (Fin.ext ?_) (Fin.ext ?_)) <;> simp at h0 ⊢ <;> omega

/-- A load of 256 of a head's row sums. -/
theorem ld_l (h : Fin 2) (o : ℕ) (e : h.val = o) (r : ℕ) (L : Fin 2 → Fin 2048 → ℝ) (inb : ∀ a, (![o, r, 0] : Fin 3 → ℕ) a + (![1, 256, 1] : Fin 3 → ℕ) a ≤ S2x2048x1.size a) :
    View.ld (Val := Elt Ideal) (e' := .f32) (l3 L) (Rect.unit (s := S2x2048x1) ![o, r, 0] ![1, 256, 1] inb) = c1 (cut r (by simpa using inb 1) (L h)) := by
  subst e
  funext y
  have h0 := (y 0).isLt
  refine congrArg _ (congrArg₂ L (Fin.ext ?_) (Fin.ext ?_)) <;> simp at h0 ⊢ <;> omega

variable (m : (ℓ : Loc nD τ sig) → Buf (Elt Ideal) ℓ) (c : Dev nD) (t : Fin cfg0.N)
variable (Q K V O : Fin 2048 → Fin 128 → ℝ) (D L : Fin 2 → Fin 2048 → ℝ)
variable (hq : iblk m c 0 t = r2 Q) (hk : iblk m c 1 t = r2 K) (hv : iblk m c 2 t = r2 V)
  (hd : iblk m c 3 t = d3 D) (hl : iblk m c 4 t = l3 L) (ho : iblk m c 5 t = r2 O)
include hq hk hv hd hl ho

omit hq hk hv hd hl ho in
theorem last {inb : ∀ a, (![0, 0] : Fin 2 → ℕ) a + (![2048, 128] : Fin 2 → ℕ) a ≤ S2048x128.size a}
    {acc : (⟨2, ![2048, 128]⟩ : Shape).Idx → Elt Ideal .f32} {A : S2048x128.Idx → ℝ}
    (key : acc = fun j => up A ((Rect.unit (s := S2048x128) ![0, 0] ![2048, 128] inb).toLoadRect.idx j)) {p : Fin 2048} {b : Fin 128} {x y x' y' T : ℝ}
    (h : T = A (ix2 p b) + x' + y') (hx : x = x') (hy : y = y') : acc (ix2 p b) + (x : EReal) + (y : EReal) = (T : EReal) := by
  have e : (Rect.unit (s := S2048x128) ![0, 0] ![2048, 128] inb).toLoadRect.idx (ix2 p b) = ix2 p b := by
    funext a; apply Fin.ext; fin_cases a <;> simp [ix2]
  rw [key, hx, hy, h, EReal.coe_add, EReal.coe_add]
  beta_reduce
  rw [e]

/-- What a grid point leaves for the keys. -/
theorem dk_out (p : Fin 2048) (b : Fin 128) : (outsAt0 m c t).2.1 (ix2 p b) = ((dk Q K V O D L p b : ℝ) : EReal) := by
  unfold outsAt0; frame_out
  simp only [hq, hk, hv, hd, hl, ho]
  generalize View.whole cc0_scratch0 = w
  generalize hacc : View.readCov (Val := Elt Ideal) w _ _ = acc
  refine have key := read_of hacc (step w (dkTile Q K V O D L 6 1) (dk_past Q K V O D L 6 1 _ (by decide)) (step w (dkTile Q K V O D L 6 0) (dk_past Q K V O D L 6 0 _ (by decide)) (step w (dkTile Q K V O D L 5 1) (dk_past Q K V O D L 5 1 _ (by decide)) (step w (dkTile Q K V O D L 5 0) (dk_past Q K V O D L 5 0 _ (by decide)) (step w (dkTile Q K V O D L 4 1) (dk_past Q K V O D L 4 1 _ (by decide)) (step w (dkTile Q K V O D L 4 0) (dk_past Q K V O D L 4 0 _ (by decide)) (step w (dkTile Q K V O D L 3 1) (dk_past Q K V O D L 3 1 _ (by decide)) (step w (dkTile Q K V O D L 3 0) (dk_past Q K V O D L 3 0 _ (by decide)) (step w (dkTile Q K V O D L 2 1) (dk_past Q K V O D L 2 1 _ (by decide)) (step w (dkTile Q K V O D L 2 0) (dk_past Q K V O D L 2 0 _ (by decide)) (step w (dkTile Q K V O D L 1 1) (dk_past Q K V O D L 1 1 _ (by decide)) (step w (dkTile Q K V O D L 1 0) (dk_past Q K V O D L 1 0 _ (by decide)) (step w (dkTile Q K V O D L 0 1) (dk_past Q K V O D L 0 1 _ (by decide)) (step w (dkTile Q K V O D L 0 0) (dk_past Q K V O D L 0 0 _ (by decide)) (base _ _ (by decide) zero3) ?_) ?_) ?_) ?_) ?_) ?_) ?_) ?_) ?_) ?_) ?_) ?_) ?_) ?_); ?_
  all_goals
    first
      | (clear hacc acc; intro acc e a d h; rw [e]; clear e)
      | clear hacc
    simp only [ld_rows, ld_pre, ld_d 0 0 rfl, ld_d 1 1 rfl, ld_l 0 0 rfl, ld_l 1 1 rfl, scores0, scores1, scores_first]
    pointwise [      k0_pay1, k0_pay2, k0_pay3, k0_pay4, k0_pay5, k0_pay6, k0_pay7, k0_pay8, k0_pay9, k0_pay11, k0_pay12, k0_pay13, k0_pay14, k0_pay16,
      k0_pay17, k0_pay18, k0_pay19, k0_pay20, k0_pay21, k0_pay22, k0_pay23, k0_pay24, k0_pay25, k0_pay26, k0_pay27, k0_pay28, k0_pay30,
      k0_pay31, k0_pay32, k0_pay33, k0_pay34, k0_pay35, k0_pay36, k0_pay37, k0_pay38, k0_pay39, k0_pay40, k0_pay41, k0_pay42, k0_pay44,
      k0_pay45, k0_pay46, k0_pay47, k0_pay48, k0_pay49, k0_pay50, k0_pay51, k0_pay52, k0_pay53, k0_pay54, k0_pay55, k0_pay56, k0_pay58,
      k0_pay59, k0_pay60, k0_pay61, k0_pay62, k0_pay63, k0_pay64, k0_pay65, k0_pay66, k0_pay67, k0_pay68, k0_pay69, k0_pay70, k0_pay72,
      k0_pay73, k0_pay74, k0_pay75, k0_pay76, k0_pay77, k0_pay78, k0_pay79, k0_pay80, k0_pay81, k0_pay82, k0_pay83, k0_pay84, k0_pay86,
      k0_pay87, k0_pay88, k0_pay89, k0_pay90, k0_pay91, k0_pay92, k0_pay93, k0_pay94, k0_pay95, k0_pay96, k0_pay97, k0_pay98, k0_pay100,
      k0_pay101, k0_pay102, k0_pay103, k0_pay104, k0_pay105, k0_pay106, k0_pay107, k0_pay108, k0_pay109, k0_pay110, k0_pay111, k0_pay112,
      k0_pay114, k0_pay115, k0_pay116, k0_pay117, k0_pay118, k0_pay119, k0_pay120, k0_pay121, k0_pay122, k0_pay123, k0_pay124, k0_pay125,
      k0_pay126, k0_pay128, k0_pay129, k0_pay130, k0_pay131, k0_pay132, k0_pay133, k0_pay134, k0_pay135, k0_pay136, k0_pay137, k0_pay138,
      k0_pay139, k0_pay140, k0_pay142, k0_pay143, k0_pay144, k0_pay145, k0_pay146, k0_pay147, k0_pay148, k0_pay149, k0_pay150, k0_pay151,
      k0_pay152, k0_pay153, k0_pay154, k0_pay156, k0_pay157, k0_pay158, k0_pay159, k0_pay160, k0_pay161, k0_pay162, k0_pay163, k0_pay164,
      k0_pay165, k0_pay166, k0_pay167, k0_pay168, k0_pay170, k0_pay171, k0_pay172, k0_pay173, k0_pay174, k0_pay175, k0_pay176, k0_pay177,
      k0_pay178, k0_pay179, k0_pay180, k0_pay181, k0_pay182, k0_pay184, k0_pay185, k0_pay186, k0_pay187, k0_pay188, k0_pay189, k0_pay190,
      k0_pay191, k0_pay192, k0_pay193, k0_pay194, k0_pay195, k0_pay196, k0_pay198, k0_pay199, k0_pay200, k0_pay201, k0_pay202, k0_pay203,
      k0_pay204, k0_pay205, k0_pay206, k0_pay207, k0_pay208, k0_pay209, k0_pay210, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231]
    simp only [r2_ix, c1_ix, exp_score, bits_eighth, bits_eighth_half, ← EReal.coe_mul, select_lane0, select_lane1, sum_up, ← EReal.coe_sub]
    first
      | exact congrArg (fun z : ℝ => acc (ix2 a d) + (z : EReal)) (dk_tile Q K V O D L _ _ _ _ (by decide) _ _ (by decide) a d)
      | exact last key (dk_sum Q K V O D L p b).symm (dk_tile Q K V O D L 2048 7 _ _ (by decide) _ _ (by decide) p b)
          (dk_tile Q K V O D L 2048 7 _ _ (by decide) _ _ (by decide) p b)

/-- What a grid point leaves for the values. -/
theorem dv_out (p : Fin 2048) (b : Fin 128) : (outsAt0 m c t).2.2.1 (ix2 p b) = ((dv Q K O D L p b : ℝ) : EReal) := by
  unfold outsAt0; frame_out
  simp only [hq, hk, hv, hd, hl, ho]
  generalize View.whole cc0_scratch1 = w
  generalize hacc : View.readCov (Val := Elt Ideal) w _ _ = acc
  refine have key := read_of hacc (step w (dvTile Q K O D L 6 1) (dv_past Q K O D L 6 1 _ (by decide)) (step w (dvTile Q K O D L 6 0) (dv_past Q K O D L 6 0 _ (by decide)) (step w (dvTile Q K O D L 5 1) (dv_past Q K O D L 5 1 _ (by decide)) (step w (dvTile Q K O D L 5 0) (dv_past Q K O D L 5 0 _ (by decide)) (step w (dvTile Q K O D L 4 1) (dv_past Q K O D L 4 1 _ (by decide)) (step w (dvTile Q K O D L 4 0) (dv_past Q K O D L 4 0 _ (by decide)) (step w (dvTile Q K O D L 3 1) (dv_past Q K O D L 3 1 _ (by decide)) (step w (dvTile Q K O D L 3 0) (dv_past Q K O D L 3 0 _ (by decide)) (step w (dvTile Q K O D L 2 1) (dv_past Q K O D L 2 1 _ (by decide)) (step w (dvTile Q K O D L 2 0) (dv_past Q K O D L 2 0 _ (by decide)) (step w (dvTile Q K O D L 1 1) (dv_past Q K O D L 1 1 _ (by decide)) (step w (dvTile Q K O D L 1 0) (dv_past Q K O D L 1 0 _ (by decide)) (step w (dvTile Q K O D L 0 1) (dv_past Q K O D L 0 1 _ (by decide)) (step w (dvTile Q K O D L 0 0) (dv_past Q K O D L 0 0 _ (by decide)) (base _ _ (by decide) zero3) ?_) ?_) ?_) ?_) ?_) ?_) ?_) ?_) ?_) ?_) ?_) ?_) ?_) ?_); ?_
  all_goals
    first
      | (clear hacc acc; intro acc e a d h; rw [e]; clear e)
      | clear hacc
    simp only [ld_rows, ld_pre, ld_d 0 0 rfl, ld_d 1 1 rfl, ld_l 0 0 rfl, ld_l 1 1 rfl, scores0, scores1, scores_first]
    pointwise [      k0_pay1, k0_pay2, k0_pay3, k0_pay4, k0_pay5, k0_pay6, k0_pay7, k0_pay8, k0_pay9, k0_pay11, k0_pay12, k0_pay13, k0_pay14, k0_pay16,
      k0_pay17, k0_pay18, k0_pay19, k0_pay20, k0_pay21, k0_pay22, k0_pay23, k0_pay24, k0_pay25, k0_pay26, k0_pay27, k0_pay28, k0_pay30,
      k0_pay31, k0_pay32, k0_pay33, k0_pay34, k0_pay35, k0_pay36, k0_pay37, k0_pay38, k0_pay39, k0_pay40, k0_pay41, k0_pay42, k0_pay44,
      k0_pay45, k0_pay46, k0_pay47, k0_pay48, k0_pay49, k0_pay50, k0_pay51, k0_pay52, k0_pay53, k0_pay54, k0_pay55, k0_pay56, k0_pay58,
      k0_pay59, k0_pay60, k0_pay61, k0_pay62, k0_pay63, k0_pay64, k0_pay65, k0_pay66, k0_pay67, k0_pay68, k0_pay69, k0_pay70, k0_pay72,
      k0_pay73, k0_pay74, k0_pay75, k0_pay76, k0_pay77, k0_pay78, k0_pay79, k0_pay80, k0_pay81, k0_pay82, k0_pay83, k0_pay84, k0_pay86,
      k0_pay87, k0_pay88, k0_pay89, k0_pay90, k0_pay91, k0_pay92, k0_pay93, k0_pay94, k0_pay95, k0_pay96, k0_pay97, k0_pay98, k0_pay100,
      k0_pay101, k0_pay102, k0_pay103, k0_pay104, k0_pay105, k0_pay106, k0_pay107, k0_pay108, k0_pay109, k0_pay110, k0_pay111, k0_pay112,
      k0_pay114, k0_pay115, k0_pay116, k0_pay117, k0_pay118, k0_pay119, k0_pay120, k0_pay121, k0_pay122, k0_pay123, k0_pay124, k0_pay125,
      k0_pay126, k0_pay128, k0_pay129, k0_pay130, k0_pay131, k0_pay132, k0_pay133, k0_pay134, k0_pay135, k0_pay136, k0_pay137, k0_pay138,
      k0_pay139, k0_pay140, k0_pay142, k0_pay143, k0_pay144, k0_pay145, k0_pay146, k0_pay147, k0_pay148, k0_pay149, k0_pay150, k0_pay151,
      k0_pay152, k0_pay153, k0_pay154, k0_pay156, k0_pay157, k0_pay158, k0_pay159, k0_pay160, k0_pay161, k0_pay162, k0_pay163, k0_pay164,
      k0_pay165, k0_pay166, k0_pay167, k0_pay168, k0_pay170, k0_pay171, k0_pay172, k0_pay173, k0_pay174, k0_pay175, k0_pay176, k0_pay177,
      k0_pay178, k0_pay179, k0_pay180, k0_pay181, k0_pay182, k0_pay184, k0_pay185, k0_pay186, k0_pay187, k0_pay188, k0_pay189, k0_pay190,
      k0_pay191, k0_pay192, k0_pay193, k0_pay194, k0_pay195, k0_pay196, k0_pay198, k0_pay199, k0_pay200, k0_pay201, k0_pay202, k0_pay203,
      k0_pay204, k0_pay205, k0_pay206, k0_pay207, k0_pay208, k0_pay209, k0_pay210, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231]
    simp only [r2_ix, c1_ix, exp_score, bits_eighth, bits_eighth_half, ← EReal.coe_mul, select_lane0, select_lane1, sum_up, ← EReal.coe_sub]
    first
      | exact congrArg (fun z : ℝ => acc (ix2 a d) + (z : EReal)) (dv_tile Q K O D L _ _ _ _ (by decide) _ _ (by decide) a d)
      | exact last key (dv_sum Q K O D L p b).symm (dv_tile Q K O D L 2048 7 _ _ (by decide) _ _ (by decide) p b)
          (dv_tile Q K O D L 2048 7 _ _ (by decide) _ _ (by decide) p b)

omit hq hk hv hd hl ho in
theorem dq_piece {p i : Fin 2048} {b d : Fin 128} {x y : ℝ} (ep : p = i) (ed : b = d)
    (hx : x = dqHead Q K V O D L 0 i d) (hy : y = dqHead Q K V O D L 1 i d) :
    Scalar.select (IntOp.cmpi .slt (BitVec.ofNat 32 ↑d) 64#32) (x : EReal) (y : EReal) = ((dq Q K V O D L p b : ℝ) : EReal) := by
  have hc : ∀ d : Fin 128, IntOp.cmpi .slt (BitVec.ofNat 32 d.val) 64#32 = if lane 0 d then 1#1 else 0#1 := by decide
  rw [hc, dq, hx, hy, ep, ed]
  split_ifs <;> rfl

/-- What a grid point leaves for the queries. -/
theorem dq_out (p : Fin 2048) (b : Fin 128) : (outsAt0 m c t).1 (ix2 p b) = ((dq Q K V O D L p b : ℝ) : EReal) := by
  unfold outsAt0; frame_out
  simp only [hq, hk, hv, hd, hl, ho]
  canon_tiles x e
  all_goals
    obtain ⟨a, d, rfl⟩ : ∃ (a : Fin 256) (d : Fin 128), x = ix2 a d := ⟨x 0, x 1, by funext i; fin_cases i <;> rfl⟩
    simp only [ld_rows, ld_pre, ld_d 0 0 rfl, ld_d 1 1 rfl, ld_l 0 0 rfl, ld_l 1 1 rfl, scores0, scores1, scores_first]
    pointwise [      k0_pay1, k0_pay2, k0_pay3, k0_pay4, k0_pay5, k0_pay6, k0_pay7, k0_pay8, k0_pay9, k0_pay11, k0_pay12, k0_pay13, k0_pay14, k0_pay16,
      k0_pay17, k0_pay18, k0_pay19, k0_pay20, k0_pay21, k0_pay22, k0_pay23, k0_pay24, k0_pay25, k0_pay26, k0_pay27, k0_pay28, k0_pay30,
      k0_pay31, k0_pay32, k0_pay33, k0_pay34, k0_pay35, k0_pay36, k0_pay37, k0_pay38, k0_pay39, k0_pay40, k0_pay41, k0_pay42, k0_pay44,
      k0_pay45, k0_pay46, k0_pay47, k0_pay48, k0_pay49, k0_pay50, k0_pay51, k0_pay52, k0_pay53, k0_pay54, k0_pay55, k0_pay56, k0_pay58,
      k0_pay59, k0_pay60, k0_pay61, k0_pay62, k0_pay63, k0_pay64, k0_pay65, k0_pay66, k0_pay67, k0_pay68, k0_pay69, k0_pay70, k0_pay72,
      k0_pay73, k0_pay74, k0_pay75, k0_pay76, k0_pay77, k0_pay78, k0_pay79, k0_pay80, k0_pay81, k0_pay82, k0_pay83, k0_pay84, k0_pay86,
      k0_pay87, k0_pay88, k0_pay89, k0_pay90, k0_pay91, k0_pay92, k0_pay93, k0_pay94, k0_pay95, k0_pay96, k0_pay97, k0_pay98, k0_pay100,
      k0_pay101, k0_pay102, k0_pay103, k0_pay104, k0_pay105, k0_pay106, k0_pay107, k0_pay108, k0_pay109, k0_pay110, k0_pay111, k0_pay112,
      k0_pay114, k0_pay115, k0_pay116, k0_pay117, k0_pay118, k0_pay119, k0_pay120, k0_pay121, k0_pay122, k0_pay123, k0_pay124, k0_pay125,
      k0_pay126, k0_pay128, k0_pay129, k0_pay130, k0_pay131, k0_pay132, k0_pay133, k0_pay134, k0_pay135, k0_pay136, k0_pay137, k0_pay138,
      k0_pay139, k0_pay140, k0_pay142, k0_pay143, k0_pay144, k0_pay145, k0_pay146, k0_pay147, k0_pay148, k0_pay149, k0_pay150, k0_pay151,
      k0_pay152, k0_pay153, k0_pay154, k0_pay156, k0_pay157, k0_pay158, k0_pay159, k0_pay160, k0_pay161, k0_pay162, k0_pay163, k0_pay164,
      k0_pay165, k0_pay166, k0_pay167, k0_pay168, k0_pay170, k0_pay171, k0_pay172, k0_pay173, k0_pay174, k0_pay175, k0_pay176, k0_pay177,
      k0_pay178, k0_pay179, k0_pay180, k0_pay181, k0_pay182, k0_pay184, k0_pay185, k0_pay186, k0_pay187, k0_pay188, k0_pay189, k0_pay190,
      k0_pay191, k0_pay192, k0_pay193, k0_pay194, k0_pay195, k0_pay196, k0_pay198, k0_pay199, k0_pay200, k0_pay201, k0_pay202, k0_pay203,
      k0_pay204, k0_pay205, k0_pay206, k0_pay207, k0_pay208, k0_pay209, k0_pay210, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231]
    simp only [r2_ix, c1_ix, exp_score, bits_eighth, bits_eighth_half, ← EReal.coe_mul, select_lane0, select_lane1, sum_up, ← EReal.coe_sub]
    exact dq_piece Q K V O D L (Fin.ext (by first | exact e0.trans (Nat.add_comm _ _) | exact e0)) (Fin.ext e1) (dq_tile Q K V O D L _ _ _ _ _ (by decide) a d) (dq_tile Q K V O D L _ _ _ _ _ (by decide) a d)

omit hq hk hv hd hl ho in
theorem sub_coe (x : EReal) (c : ℝ) : x - (c : EReal) = x + ((-c : ℝ) : EReal) := by rw [EReal.coe_neg, sub_eq_add_neg]

omit hq hk hv hd hl ho in
theorem zero_dd (j : S2x1x2048.Idx) : k0_pay5 (F := Ideal) j = 0 := by idx_vars j; pointwise [k0_pay5]

omit hq hk hv hd hl ho in
/-- The row of one head, accumulated over a prefix. -/
theorem step_row {sig : RefSig} {κ : Kind} {sp : Space}
    (v : View sig κ sp S2x1x2048 .f32) {o n : ℕ} {inb : ∀ a, (![o, 0, 0] : Fin 3 → ℕ) a + (![1, 1, n] : Fin 3 → ℕ) a ≤ S2x1x2048.size a}
    {pay : (⟨3, ![1, 1, n]⟩ : Shape).Idx → Elt Ideal .f32} {L : List (View.Piece (Elt Ideal) S2x1x2048 .f32)} {A : S2x1x2048.Idx → ℝ} (C : Fin 2048 → ℝ)
    (hout : ∀ a, n ≤ a.val → C a = 0)
    (hL : View.canon L = up A)
    (hin : ∀ acc, v.readCov L (Rect.unit ![o, 0, 0] ![1, 1, n] inb).toLoadRect = acc →
      ∀ (a : Fin n) (h : a.val < 2048), pay (ix3 0 0 a) = acc (ix3 0 0 a) + ((C ⟨a, h⟩ : ℝ) : EReal)) :
    View.canon (⟨Rect.unit ![o, 0, 0] ![1, 1, n] inb, pay⟩ :: L) = up (fun i => A i + if (i 0).val = o then C (i 2) else 0) := by
  funext y
  by_cases hy : y ∈ (Rect.unit ![o, 0, 0] ![1, 1, n] inb).set
  · obtain ⟨x, rfl⟩ := LoadRect.exists_idx_of_mem _ hy
    obtain ⟨q, rfl⟩ : ∃ (q : Fin n), x = ix3 0 0 q := ⟨x 2, by
      have h0 := (x 0).isLt
      have h1 := (x 1).isLt
      funext a; fin_cases a
      · exact Fin.ext (Nat.lt_one_iff.1 h0)
      · exact Fin.ext (Nat.lt_one_iff.1 h1)
      · rfl⟩
    have hp : q.val < 2048 := q.isLt.trans_le (by simpa using inb 2)
    have h0 : ((Rect.unit (s := S2x1x2048) ![o, 0, 0] ![1, 1, n] inb).toLoadRect.idx (ix3 0 0 q) 0).val = o := by simp [ix3]
    have h2 : (Rect.unit (s := S2x1x2048) ![o, 0, 0] ![1, 1, n] inb).toLoadRect.idx (ix3 0 0 q) 2 = (⟨q, hp⟩ : Fin 2048) := Fin.ext (by simp [ix3])
    refine (View.canon_cons_emb _ _ _ _).trans ((hin _ rfl q hp).trans ?_)
    rw [View.readCov_eq_canon', hL]
    refine (EReal.coe_add _ _).symm.trans (congrArg _ ?_)
    exact congrArg _ ((congrArg C h2).symm.trans (if_pos h0).symm)
  · rw [View.canon_cons_of_not_mem _ _ hy, hL]
    refine congrArg Real.toEReal ((add_zero (A y)).symm.trans (congrArg (A y + ·) ?_))
    split_ifs with h
    · refine (hout (y 2) ?_).symm
      by_contra hlt
      refine hy (Rect.mem_set_unit.2 fun a => ?_)
      have h1 := (y 1).isLt
      fin_cases a
      · exact ⟨h.ge, by simpa using h.le⟩
      · exact ⟨Nat.zero_le _, by simpa using h1⟩
      · exact ⟨Nat.zero_le _, by simpa using hlt⟩
    · rfl

/-- What a grid point leaves for the rows' terms. -/
theorem dd_out (h : Fin 2) (p : Fin 2048) : (outsAt0 m c t).2.2.2 (ix3 h 0 p) = ((dd Q K V O D L h p : ℝ) : EReal) := by
  unfold outsAt0; frame_out
  simp only [hq, hk, hv, hd, hl, ho]
  refine (congrFun (step_row (ms0_9 t).view (fun j => -ddTile Q K V O D L 7 1 j) (fun j hj => neg_eq_zero.2 (dd_past Q K V O D L 7 1 _ (by decide) j hj)) (step_row (ms0_9 t).view (fun j => -ddTile Q K V O D L 7 0 j) (fun j hj => neg_eq_zero.2 (dd_past Q K V O D L 7 0 _ (by decide) j hj)) (step_row (ms0_9 t).view (fun j => -ddTile Q K V O D L 6 1 j) (fun j hj => neg_eq_zero.2 (dd_past Q K V O D L 6 1 _ (by decide) j hj)) (step_row (ms0_9 t).view (fun j => -ddTile Q K V O D L 6 0 j) (fun j hj => neg_eq_zero.2 (dd_past Q K V O D L 6 0 _ (by decide) j hj)) (step_row (ms0_9 t).view (fun j => -ddTile Q K V O D L 5 1 j) (fun j hj => neg_eq_zero.2 (dd_past Q K V O D L 5 1 _ (by decide) j hj)) (step_row (ms0_9 t).view (fun j => -ddTile Q K V O D L 5 0 j) (fun j hj => neg_eq_zero.2 (dd_past Q K V O D L 5 0 _ (by decide) j hj)) (step_row (ms0_9 t).view (fun j => -ddTile Q K V O D L 4 1 j) (fun j hj => neg_eq_zero.2 (dd_past Q K V O D L 4 1 _ (by decide) j hj)) (step_row (ms0_9 t).view (fun j => -ddTile Q K V O D L 4 0 j) (fun j hj => neg_eq_zero.2 (dd_past Q K V O D L 4 0 _ (by decide) j hj)) (step_row (ms0_9 t).view (fun j => -ddTile Q K V O D L 3 1 j) (fun j hj => neg_eq_zero.2 (dd_past Q K V O D L 3 1 _ (by decide) j hj)) (step_row (ms0_9 t).view (fun j => -ddTile Q K V O D L 3 0 j) (fun j hj => neg_eq_zero.2 (dd_past Q K V O D L 3 0 _ (by decide) j hj)) (step_row (ms0_9 t).view (fun j => -ddTile Q K V O D L 2 1 j) (fun j hj => neg_eq_zero.2 (dd_past Q K V O D L 2 1 _ (by decide) j hj)) (step_row (ms0_9 t).view (fun j => -ddTile Q K V O D L 2 0 j) (fun j hj => neg_eq_zero.2 (dd_past Q K V O D L 2 0 _ (by decide) j hj)) (step_row (ms0_9 t).view (fun j => -ddTile Q K V O D L 1 1 j) (fun j hj => neg_eq_zero.2 (dd_past Q K V O D L 1 1 _ (by decide) j hj)) (step_row (ms0_9 t).view (fun j => -ddTile Q K V O D L 1 0 j) (fun j hj => neg_eq_zero.2 (dd_past Q K V O D L 1 0 _ (by decide) j hj)) (step_row (ms0_9 t).view (fun j => -ddTile Q K V O D L 0 1 j) (fun j hj => neg_eq_zero.2 (dd_past Q K V O D L 0 1 _ (by decide) j hj)) (step_row (ms0_9 t).view (fun j => -ddTile Q K V O D L 0 0 j) (fun j hj => neg_eq_zero.2 (dd_past Q K V O D L 0 0 _ (by decide) j hj)) (base _ _ (by decide) zero_dd) ?_) ?_) ?_) ?_) ?_) ?_) ?_) ?_) ?_) ?_) ?_) ?_) ?_) ?_) ?_) ?_) (ix3 h 0 p)).trans ?_
  rotate_right 1
  · refine congrArg _ (Eq.trans ?_ (dd_sum Q K V O D L h p))
    show _ = _
    simp only [ix3]
    match h with
    | 0 => simp
    | 1 => simp
  all_goals
    intro acc e a h'
    rw [e]
    clear e
    simp only [ld_rows, ld_pre, ld_d 0 0 rfl, ld_d 1 1 rfl, ld_l 0 0 rfl, ld_l 1 1 rfl, scores0, scores1, scores_first]
    pointwise [      k0_pay1, k0_pay2, k0_pay3, k0_pay4, k0_pay5, k0_pay6, k0_pay7, k0_pay8, k0_pay9, k0_pay11, k0_pay12, k0_pay13, k0_pay14, k0_pay16,
      k0_pay17, k0_pay18, k0_pay19, k0_pay20, k0_pay21, k0_pay22, k0_pay23, k0_pay24, k0_pay25, k0_pay26, k0_pay27, k0_pay28, k0_pay30,
      k0_pay31, k0_pay32, k0_pay33, k0_pay34, k0_pay35, k0_pay36, k0_pay37, k0_pay38, k0_pay39, k0_pay40, k0_pay41, k0_pay42, k0_pay44,
      k0_pay45, k0_pay46, k0_pay47, k0_pay48, k0_pay49, k0_pay50, k0_pay51, k0_pay52, k0_pay53, k0_pay54, k0_pay55, k0_pay56, k0_pay58,
      k0_pay59, k0_pay60, k0_pay61, k0_pay62, k0_pay63, k0_pay64, k0_pay65, k0_pay66, k0_pay67, k0_pay68, k0_pay69, k0_pay70, k0_pay72,
      k0_pay73, k0_pay74, k0_pay75, k0_pay76, k0_pay77, k0_pay78, k0_pay79, k0_pay80, k0_pay81, k0_pay82, k0_pay83, k0_pay84, k0_pay86,
      k0_pay87, k0_pay88, k0_pay89, k0_pay90, k0_pay91, k0_pay92, k0_pay93, k0_pay94, k0_pay95, k0_pay96, k0_pay97, k0_pay98, k0_pay100,
      k0_pay101, k0_pay102, k0_pay103, k0_pay104, k0_pay105, k0_pay106, k0_pay107, k0_pay108, k0_pay109, k0_pay110, k0_pay111, k0_pay112,
      k0_pay114, k0_pay115, k0_pay116, k0_pay117, k0_pay118, k0_pay119, k0_pay120, k0_pay121, k0_pay122, k0_pay123, k0_pay124, k0_pay125,
      k0_pay126, k0_pay128, k0_pay129, k0_pay130, k0_pay131, k0_pay132, k0_pay133, k0_pay134, k0_pay135, k0_pay136, k0_pay137, k0_pay138,
      k0_pay139, k0_pay140, k0_pay142, k0_pay143, k0_pay144, k0_pay145, k0_pay146, k0_pay147, k0_pay148, k0_pay149, k0_pay150, k0_pay151,
      k0_pay152, k0_pay153, k0_pay154, k0_pay156, k0_pay157, k0_pay158, k0_pay159, k0_pay160, k0_pay161, k0_pay162, k0_pay163, k0_pay164,
      k0_pay165, k0_pay166, k0_pay167, k0_pay168, k0_pay170, k0_pay171, k0_pay172, k0_pay173, k0_pay174, k0_pay175, k0_pay176, k0_pay177,
      k0_pay178, k0_pay179, k0_pay180, k0_pay181, k0_pay182, k0_pay184, k0_pay185, k0_pay186, k0_pay187, k0_pay188, k0_pay189, k0_pay190,
      k0_pay191, k0_pay192, k0_pay193, k0_pay194, k0_pay195, k0_pay196, k0_pay198, k0_pay199, k0_pay200, k0_pay201, k0_pay202, k0_pay203,
      k0_pay204, k0_pay205, k0_pay206, k0_pay207, k0_pay208, k0_pay209, k0_pay210, k0_pay212, k0_pay213, k0_pay214, k0_pay215, k0_pay216,
      k0_pay217, k0_pay218, k0_pay219, k0_pay220, k0_pay221, k0_pay222, k0_pay223, k0_pay224, k0_pay225, k0_pay226, k0_pay227, k0_pay228,
      k0_pay229, k0_pay230, k0_pay231]
    simp only [r2_ix, c1_ix, exp_score, bits_eighth, bits_eighth_half, ← EReal.coe_mul, select_lane0, select_lane1, sum_up, ← EReal.coe_sub]
    exact (sub_coe _ _).trans (congrArg (fun z : ℝ => acc (ix3 0 0 a) + ((-z : ℝ) : EReal)) (dd_tile Q K V O D L _ _ _ _ (by decide) _ _ (by decide) a))

end Cert.AttnKernelIdeal.Arrays
end
-- ==== Proof.AttnHeads.lean ====
/- The gradients of causal attention with decayed scores, head by head over the real numbers, and the two heads of one block of 128 lanes as two of them. -/
module

public import proofs.«01_k».proof.Proof.AttnMath

@[expose] public section

noncomputable section

namespace Cert.AttnMath

variable (X : Fin 2048 → Fin 1536 → ℝ) (C : Fin 8 → Fin 2048 → ℝ) (U : Fin 2048 → Fin 512 → ℝ)

/-- Queries, keys, values and the output's cotangent of head `g`. -/
def qh (g : Fin 8) (i : Fin 2048) (d : Fin 64) : ℝ := X i ⟨g.val * 64 + d.val, by omega⟩
def kh (g : Fin 8) (i : Fin 2048) (d : Fin 64) : ℝ := X i ⟨512 + (g.val * 64 + d.val), by omega⟩
def vh (g : Fin 8) (i : Fin 2048) (d : Fin 64) : ℝ := X i ⟨1024 + (g.val * 64 + d.val), by omega⟩
def uh (g : Fin 8) (i : Fin 2048) (d : Fin 64) : ℝ := U i ⟨g.val * 64 + d.val, by omega⟩

/-- A score without its row's own term, the sum of the row's exponentials, a weight. -/
def gs (g : Fin 8) (i j : Fin 2048) : ℝ := (∑ d, qh X g i d * kh X g j d) * (1 / 8) - C g j
def gZ (g : Fin 8) (i : Fin 2048) : ℝ := ∑ j : Fin 2048, if j.val ≤ i.val then Real.exp (gs X C g i j) else 0
def gP (g : Fin 8) (i j : Fin 2048) : ℝ := if j.val ≤ i.val then Real.exp (gs X C g i j) / gZ X C g i else 0
/-- The cotangent of a weight and of a score. -/
def gdP (g : Fin 8) (i j : Fin 2048) : ℝ := ∑ d, uh U g i d * vh X g j d
def gdS (g : Fin 8) (i j : Fin 2048) : ℝ := gP X C g i j * (gdP X U g i j - ∑ y, gP X C g i y * gdP X U g i y)

def gdQ (g : Fin 8) (i : Fin 2048) (d : Fin 64) : ℝ := (∑ j, gdS X C U g i j * kh X g j d) * (1 / 8)
def gdK (g : Fin 8) (j : Fin 2048) (d : Fin 64) : ℝ := (∑ i, gdS X C U g i j * qh X g i d) * (1 / 8)
def gdV (g : Fin 8) (j : Fin 2048) (d : Fin 64) : ℝ := ∑ i, gP X C g i j * uh U g i d
def gdC (g : Fin 8) (j : Fin 2048) : ℝ := -∑ i, gdS X C U g i j

/-- The head of a column, and the column in its head. -/
abbrev hd (x : Fin 512) : Fin 8 := ⟨x.val / 64, by omega⟩
abbrev co (x : Fin 512) : Fin 64 := ⟨x.val % 64, by omega⟩

theorem gZ_pos (g : Fin 8) (i : Fin 2048) : 0 < gZ X C g i := by
  refine Finset.sum_pos' (fun j _ => ?_) ⟨i, Finset.mem_univ _, ?_⟩
  · split_ifs
    · exact (Real.exp_pos _).le
    · exact le_rfl
  · rw [if_pos le_rfl]; exact Real.exp_pos _

/-- The weights of a row sum to one. -/
theorem gP_sum (g : Fin 8) (i : Fin 2048) : ∑ j, gP X C g i j = 1 := by
  have h : ∀ j, gP X C g i j = (if j.val ≤ i.val then Real.exp (gs X C g i j) else 0) / gZ X C g i := fun j => by
    rw [gP]; split_ifs
    · rfl
    · exact (zero_div _).symm
  simp only [h]
  rw [← Finset.sum_div]
  exact div_self (gZ_pos X C g i).ne'

/-- So the cotangents of a row's scores sum to zero. -/
theorem gdS_sum (g : Fin 8) (i : Fin 2048) : ∑ j, gdS X C U g i j = 0 := by
  simp only [gdS, mul_sub, Finset.sum_sub_distrib, ← Finset.sum_mul, gP_sum, one_mul, sub_self]

/-! ## The two heads of a block of 128 lanes -/

abbrev head (t : Fin 4) (h : Fin 2) : Fin 8 := ⟨t.val * 2 + h.val, by omega⟩
abbrev tQ (t : Fin 4) (i : Fin 2048) (x : Fin 128) : ℝ := X i ⟨t.val * 128 + x.val, by omega⟩
abbrev tK (t : Fin 4) (i : Fin 2048) (x : Fin 128) : ℝ := X i ⟨512 + (t.val * 128 + x.val), by omega⟩
abbrev tV (t : Fin 4) (i : Fin 2048) (x : Fin 128) : ℝ := X i ⟨1024 + (t.val * 128 + x.val), by omega⟩
abbrev tU (t : Fin 4) (i : Fin 2048) (x : Fin 128) : ℝ := U i ⟨t.val * 128 + x.val, by omega⟩
abbrev tD (t : Fin 4) (h : Fin 2) (j : Fin 2048) : ℝ := C (head t h) j
abbrev tL (t : Fin 4) (h : Fin 2) (i : Fin 2048) : ℝ := Real.log (gZ X C (head t h) i)

/-- A sum over a head's lanes. -/
theorem lane_sum (h : Fin 2) (f : Fin 128 → ℝ) : (∑ x, if lane h x then f x else 0) = ∑ d : Fin 64, f ⟨h.val * 64 + d.val, by omega⟩ := by
  rw [← Finset.sum_filter]
  refine (Finset.sum_bij' (fun d _ => (⟨h.val * 64 + d.val, by omega⟩ : Fin 128)) (fun x _ => (⟨x.val % 64, by omega⟩ : Fin 64)) ?_ ?_ ?_ ?_ ?_).symm
  · intro d _
    refine Finset.mem_filter.2 ⟨Finset.mem_univ _, ?_⟩
    show (h.val * 64 + d.val) / 64 = h.val
    omega
  · intro x _; exact Finset.mem_univ _
  · intro d _; exact Fin.ext (by show (h.val * 64 + d.val) % 64 = d.val; omega)
  · intro x hx
    have : x.val / 64 = h.val := (Finset.mem_filter.1 hx).2
    exact Fin.ext (by show h.val * 64 + x.val % 64 = x.val; omega)
  · intro d _; rfl

theorem sc_pair (t : Fin 4) (h : Fin 2) (i j : Fin 2048) : sc h (tQ X t) (tK X t) (tD C t h) i j = gs X C (head t h) i j := by
  rw [sc, lane_sum, gs, Finset.sum_mul]
  refine congrArg (· - _) (Finset.sum_congr rfl fun d _ => ?_)
  rw [qh, kh]
  have e : t.val * 128 + (h.val * 64 + d.val) = (t.val * 2 + h.val) * 64 + d.val := by omega
  simp only [tQ, tK, e]
  ring

theorem pr_pair (t : Fin 4) (h : Fin 2) (i j : Fin 2048) :
    prAt (tQ X t) (tK X t) (tD C t) (tL X C t) h i j = gP X C (head t h) i j := by
  rw [prAt, pr, gP, add_zero, sc_pair, Real.exp_sub, Real.exp_log (gZ_pos X C _ i)]

theorem dp_pair (t : Fin 4) (h : Fin 2) (i j : Fin 2048) : dp h (tU U t) (tV X t) i j = gdP X U (head t h) i j := by
  rw [dp, lane_sum, gdP]
  refine Finset.sum_congr rfl fun d _ => ?_
  rw [uh, vh]
  have e : t.val * 128 + (h.val * 64 + d.val) = (t.val * 2 + h.val) * 64 + d.val := by omega
  simp only [tU, tV, e]

theorem ds_pair (t : Fin 4) (h : Fin 2) (i j : Fin 2048) :
    dsAt (tQ X t) (tK X t) (tV X t) (tU U t) (tD C t) (tL X C t) h i j = gdS X C U (head t h) i j := by
  have hp := pr_pair X C t h i
  simp only [prAt] at hp
  rw [dsAt, ds, gdS]
  simp only [hp, dp_pair]

theorem lane_pick (F : Fin 2 → ℝ) (b : Fin 128) : (∑ h : Fin 2, if lane h b then F h else 0) = F ⟨b.val / 64, by omega⟩ := by
  rw [Finset.sum_eq_single (⟨b.val / 64, by omega⟩ : Fin 2)]
  · exact if_pos rfl
  · intro h _ hn
    exact if_neg fun e => hn (Fin.ext e.symm)
  · intro hn; exact absurd (Finset.mem_univ _) hn

/-- The column of lane `b` of block `t`, by its head. -/
theorem at_lane (t : Fin 4) (b : Fin 128) (f : Fin 8 → Fin 64 → ℝ) :
    f (hd ⟨t.val * 128 + b.val, by omega⟩) (co ⟨t.val * 128 + b.val, by omega⟩) = f (head t ⟨b.val / 64, by omega⟩) ⟨b.val % 64, by omega⟩ :=
  congrArg₂ f (Fin.ext (by show (t.val * 128 + b.val) / 64 = t.val * 2 + b.val / 64; omega))
    (Fin.ext (by show (t.val * 128 + b.val) % 64 = b.val % 64; omega))

theorem col_lane (t : Fin 4) (b : Fin 128) : t.val * 128 + b.val = (t.val * 2 + b.val / 64) * 64 + b.val % 64 := by omega

theorem dk_pair (t : Fin 4) (j : Fin 2048) (b : Fin 128) :
    dk (tQ X t) (tK X t) (tV X t) (tU U t) (tD C t) (tL X C t) j b
      = gdK X C U (hd ⟨t.val * 128 + b.val, by omega⟩) j (co ⟨t.val * 128 + b.val, by omega⟩) := by
  rw [at_lane t b fun g d => gdK X C U g j d, dk]
  have e : ∀ h : Fin 2, (∑ i : Fin 2048, if lane h b then dsAt (tQ X t) (tK X t) (tV X t) (tU U t) (tD C t) (tL X C t) h i j * (tQ X t i b * (1 / 8)) else 0)
      = if lane h b then ∑ i, gdS X C U (head t h) i j * (tQ X t i b * (1 / 8)) else 0 := fun h => by
    simp only [ds_pair]; split_ifs
    · rfl
    · exact Finset.sum_const_zero
  simp only [e]
  rw [lane_pick (fun h => ∑ i, gdS X C U (head t h) i j * (tQ X t i b * (1 / 8)))]
  rw [gdK, Finset.sum_mul]
  refine Finset.sum_congr rfl fun i _ => ?_
  simp only [qh, tQ, col_lane t b]
  ring

theorem dv_pair (t : Fin 4) (j : Fin 2048) (b : Fin 128) :
    dv (tQ X t) (tK X t) (tU U t) (tD C t) (tL X C t) j b
      = gdV X C U (hd ⟨t.val * 128 + b.val, by omega⟩) j (co ⟨t.val * 128 + b.val, by omega⟩) := by
  rw [at_lane t b fun g d => gdV X C U g j d, dv]
  have e : ∀ h : Fin 2, (∑ i : Fin 2048, if lane h b then prAt (tQ X t) (tK X t) (tD C t) (tL X C t) h i j * tU U t i b else 0)
      = if lane h b then ∑ i, gP X C (head t h) i j * tU U t i b else 0 := fun h => by
    simp only [pr_pair]; split_ifs
    · rfl
    · exact Finset.sum_const_zero
  simp only [e]
  rw [lane_pick (fun h => ∑ i, gP X C (head t h) i j * tU U t i b)]
  rw [gdV]
  refine Finset.sum_congr rfl fun i _ => ?_
  simp only [uh, tU, col_lane t b]

theorem dqHead_pair (t : Fin 4) (h : Fin 2) (i : Fin 2048) (b : Fin 128) (hl : lane h b) :
    dqHead (tQ X t) (tK X t) (tV X t) (tU U t) (tD C t) (tL X C t) h i b = gdQ X C U (head t ⟨b.val / 64, by omega⟩) i ⟨b.val % 64, by omega⟩ := by
  have hh : h = ⟨b.val / 64, by omega⟩ := Fin.ext hl.symm
  rw [dqHead, gdQ]
  refine congrArg (· * _) (Finset.sum_congr rfl fun j _ => ?_)
  rw [ds_pair]
  simp only [kh, tK, col_lane t b, ← hh]

theorem dq_pair (t : Fin 4) (i : Fin 2048) (b : Fin 128) :
    dq (tQ X t) (tK X t) (tV X t) (tU U t) (tD C t) (tL X C t) i b
      = gdQ X C U (hd ⟨t.val * 128 + b.val, by omega⟩) i (co ⟨t.val * 128 + b.val, by omega⟩) := by
  rw [at_lane t b fun g d => gdQ X C U g i d, dq]
  split_ifs with h
  · exact dqHead_pair X C U t 0 i b h
  · refine dqHead_pair X C U t 1 i b ?_
    have : ¬b.val / 64 = 0 := h
    show b.val / 64 = 1
    omega

theorem dd_pair (t : Fin 4) (h : Fin 2) (j : Fin 2048) :
    dd (tQ X t) (tK X t) (tV X t) (tU U t) (tD C t) (tL X C t) h j = gdC X C U (head t h) j := by
  rw [dd, gdC]
  simp only [ds_pair]

end Cert.AttnMath

end
-- ==== Proof.AttnHost.lean ====
/- What the host computes for the attention kernel: the logarithm of each row's sum of exponentials. -/
module

public import proofs.«01_k».proof.Proof.AttnHeads
public import proofs.«01_k».proof.Proof.AttnScores
public import proofs.«01_k».proof.Proof.Gen.AttnKernelIdeal.Frame
public import Idealize.ShloMosaic.Lib.Claim

@[expose] public section

set_option maxRecDepth 16384
noncomputable section
open Idealize.ShloMosaic Idealize.ShloMosaic.TcCoe Idealize.SL.Sem

namespace Cert.AttnKernelIdeal.Arrays
open Cert.AttnKernelIdeal Cert.AttnKernelIdeal.Gen Cert.Reals Cert.AttnMath

/-! ## The host's lines as functions of the arguments -/

section
variable (x : FVec Ideal S2048x1536 .f32) (k : FVec Ideal S8x2048 .f32)

/-- The masked scores, without each row's own term. -/
def hS : FVec Ideal S8x2048x2048 .f32 :=
  select (broadcastInDim S8x2048x2048 ![1, 2] bcast_S2048x2048_S8x2048x2048_1_2
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (Host.dotGeneral dot_S2048x8x64_S2048x8x64_S8x2048x2048_2_2_0_0_1_1 none
        (shapeCast S2048x8x64 (mulf (extractStridedSlice S2048x512 ![0, 0] x slices_S2048x1536_S2048x512_0_0)
          (broadcastInDim S2048x512 ![] bcast_S_S2048x512 (constant S_ .f32 0x3E000000#32))) shapeCasts_S2048x512_S2048x8x64)
        (shapeCast S2048x8x64 (extractStridedSlice S2048x512 ![0, 512] x slices_S2048x1536_S2048x512_0_512) shapeCasts_S2048x512_S2048x8x64))
      (broadcastInDim S8x2048x2048 ![0, 1, 2] bcast_S8x1x2048_S8x2048x2048_0_1_2 (broadcastInDim S8x1x2048 ![0, 2] bcast_S8x2048_S8x1x2048_0_2 k)))
    (broadcastInDim S8x2048x2048 ![] bcast_S_S8x2048x2048 (constant S_ .f32 0xFF800000#32))

/-- The largest score of each row. -/
def hM : FVec Ideal S8x2048 .f32 :=
  Host.reduce (FloatOps.maximumf (F := Ideal) (φ := .f32)) (hS x k) (constant S_ .f32 0xFF800000#32) reducesTo_S8x2048x2048_S8x2048_d2 h_S_
/-- The exponentials of scores `s` under a row's `v`, and the logarithm of the sums of exponentials `e`. -/
def hExp (s : FVec Ideal S8x2048x2048 .f32) (v : FVec Ideal S8x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1 v)))
def hLog (v : FVec Ideal S8x2048 .f32) (e : FVec Ideal S8x2048x2048 .f32) : FVec Ideal S8x2048x1 .f32 :=
  addf (broadcastInDim S8x2048x1 ![0, 1] bcast_S8x2048_S8x2048x1_0_1 v)
    (Host.log (broadcastInDim S8x2048x1 ![0, 1] bcast_S8x2048_S8x2048x1_0_1 (Host.reduceAdd e (constant S_ .f32 0x00000000#32) reducesTo_S8x2048x2048_S8x2048_d2 h_S_)))
end

theorem hExp_at (s : FVec Ideal S8x2048x2048 .f32) (v : FVec Ideal S8x2048 .f32) (g : Fin 8) (i j : Fin 2048) :
    hExp s v (ix3 g i j) = Ideal.exp (s (ix3 g i j) - v (ix2 g i)) := by
  pointwise [hExp]
theorem hLog_at (v : FVec Ideal S8x2048 .f32) (e : FVec Ideal S8x2048x2048 .f32) (g : Fin 8) (i : Fin 2048) (z : Fin 1) :
    hLog v e (ix3 g i z) = v (ix2 g i) + Ideal.log (∑ j, e (ix3 g i j)) := by
  pointwise [hLog]

section
variable (m : (ℓ : Loc nD τ sig) → Buf (Elt Ideal) ℓ) (c : Dev nD)

/-- The logarithms of the rows' sums. -/
abbrev lse (x : FVec Ideal S2048x1536 .f32) (k : FVec Ideal S8x2048 .f32) : FVec Ideal S8x2048x1 .f32 := hLog (hM x k) (hExp (hS x k) (hM x k))

theorem V_v26 : V m c main_v26 = lse (m ((c.tc : Thread nD τ).loc main_arg0)) (m ((c.tc : Thread nD τ).loc main_arg1)) := by
  simp only [V, hostOps0, hostOps0_1, hostOps0_2, List.flatten_cons, List.flatten_nil, List.append_nil, List.cons_append, List.nil_append]
  after_results
  rfl
theorem V_v27 : V m c main_v27 = m ((c.tc : Thread nD τ).loc main_arg0) := by
  entry_read
  rfl
theorem V_v28 : V m c main_v28 = (shapeCast S8x1x2048 (m ((c.tc : Thread nD τ).loc main_arg1)) shapeCasts_S8x2048_S8x1x2048 : S8x1x2048.Idx → Elt Ideal .f32) := by
  entry_read
  rfl
end

/-! ## Their values -/

variable (X : Fin 2048 → Fin 1536 → ℝ) (C : Fin 8 → Fin 2048 → ℝ)

abbrev kX : S2048x1536.Idx → EReal := up fun i => X (i 0) (i 1)
abbrev kC : S8x2048.Idx → EReal := up fun i => C (i 0) (i 1)

theorem hS_up (g : Fin 8) (i j : Fin 2048) : hS (kX X) (kC C) (ix3 g i j) = if j.val ≤ i.val then ((gs X C g i j : ℝ) : EReal) else ⊥ := by
  pointwise [hS]
  rw [select_le _ _ (by omega) (by omega)]
  simp only [bits_bot, bits_eighth, up, ← EReal.coe_mul, sum_up, ← EReal.coe_sub]
  refine if_congr Iff.rfl (congrArg Real.toEReal ?_) rfl
  rw [gs, Finset.sum_mul]
  refine congrArg (· - _) (Finset.sum_congr rfl fun d _ => ?_)
  show X i ⟨g.val * 64 + d.val, _⟩ * (1 / 8) * X j ⟨512 + (g.val * 64 + d.val), _⟩ = X i ⟨g.val * 64 + d.val, _⟩ * X j ⟨512 + (g.val * 64 + d.val), _⟩ * (1 / 8)
  ring

theorem hM_real (g : Fin 8) (i : Fin 2048) : ∃ r : ℝ, hM (kX X) (kC C) (ix2 g i) = (r : EReal) := by
  pointwise [hM]
  refine max_real _ (fun _ _ => rfl) _ bits_bot _ i ?_ fun j => ?_
  · rw [hS_up, if_pos le_rfl]; exact EReal.coe_ne_bot _
  · rw [hS_up]; split_ifs; exacts [EReal.coe_ne_top _, bot_ne_top]

theorem hE_up (g : Fin 8) (i j : Fin 2048) (r : ℝ) (hr : hM (kX X) (kC C) (ix2 g i) = (r : EReal)) :
    hExp (hS (kX X) (kC C)) (hM (kX X) (kC C)) (ix3 g i j) = (((if j.val ≤ i.val then Real.exp (gs X C g i j) else 0) * Real.exp (-r) : ℝ) : EReal) := by
  rw [hExp_at, hr, hS_up]
  split_ifs
  · rw [← EReal.coe_sub, Ideal.exp_coe, ← Real.exp_add]
    rfl
  · rw [zero_mul, EReal.bot_sub, Ideal.exp_bot]
    rfl

theorem lse_up (g : Fin 8) (i : Fin 2048) (z : Fin 1) : lse (kX X) (kC C) (ix3 g i z) = (Real.log (gZ X C g i) : ℝ) := by
  obtain ⟨r, hr⟩ := hM_real X C g i
  have hz := gZ_pos X C g i
  have hs : (∑ j, hExp (hS (kX X) (kC C)) (hM (kX X) (kC C)) (ix3 g i j)) = ((gZ X C g i * Real.exp (-r) : ℝ) : EReal) := by
    simp only [hE_up X C g i _ r hr, sum_up, ← Finset.sum_mul]
    rfl
  rw [lse, hLog_at, hs, hr, Ideal.log_coe, if_neg (not_le.2 (mul_pos hz (Real.exp_pos _))), Real.log_mul hz.ne' (Real.exp_pos _).ne', Real.log_exp,
    ← EReal.coe_add]
  exact congrArg _ (by ring)

end Cert.AttnKernelIdeal.Arrays
end
-- ==== Proof.AttnBlocks.lean ====
/- The blocks the attention kernel's grid points read, and what its grid leaves in the four arrays, from real arrays. -/
module

public import proofs.«01_k».proof.Proof.AttnArrays
public import proofs.«01_k».proof.Proof.AttnHost

@[expose] public section

set_option maxRecDepth 16384
noncomputable section
open Idealize.ShloMosaic Idealize.ShloMosaic.TcCoe Idealize.SL.Sem

namespace Cert.AttnKernelIdeal.Arrays
open Cert.AttnKernelIdeal Cert.AttnKernelIdeal.Gen Cert.Reals Cert.AttnMath

variable (m : (ℓ : Loc nD τ sig) → Buf (Elt Ideal) ℓ) (c : Dev nD)
variable (X : Fin 2048 → Fin 1536 → ℝ) (C : Fin 8 → Fin 2048 → ℝ) (U : Fin 2048 → Fin 512 → ℝ)

theorem idx_in : ∀ t : Fin cfg0.N, win0_0.index t = ![0, t.val] ∧ win0_1.index t = ![0, 4 + t.val] ∧ win0_2.index t = ![0, 8 + t.val]
    ∧ win0_3.index t = ![t.val, 0, 0] ∧ win0_4.index t = ![t.val, 0, 0] ∧ win0_5.index t = ![0, t.val] ∧ t.val < 4 :=
  (by decide +kernel : ∀ t : Fin grid0.N, _)
theorem idx_out : ∀ t : Fin cfg0.N, win0_6.index t = ![0, t.val] ∧ win0_7.index t = ![0, t.val] ∧ win0_8.index t = ![0, t.val]
    ∧ win0_9.index t = ![t.val, 0, 0] :=
  (by decide +kernel : ∀ t : Fin grid0.N, _)

/-- The pair of heads of a grid point. -/
abbrev pt (t : Fin cfg0.N) : Fin 4 := ⟨t.val, (idx_in t).2.2.2.2.2.2⟩

section
variable (hX : m ((c.tc : Thread nD τ).loc main_arg0) = kX X) (hC : m ((c.tc : Thread nD τ).loc main_arg1) = kC C)
  (hU : m ((c.tc : Thread nD τ).loc main_arg2) = up fun i => U (i 0) (i 1)) (t : Fin cfg0.N)

include hX in
theorem blk_q : iblk m c 0 t = r2 (tQ X (pt t)) := by
  funext y
  refine Eq.trans ?_ (congrFun ((V_v27 m c).trans hX) (ix2 (y 0) ⟨t.val * 128 + (y 1).val, by have := (pt t).isLt; have := (y 1).isLt; change _ < 128 at this; change t.val < 4 at *; omega⟩))
  blk_ext [iblk, idx_in t]

include hX in
theorem blk_k : iblk m c 1 t = r2 (tK X (pt t)) := by
  funext y
  refine Eq.trans ?_ (congrFun ((V_v27 m c).trans hX) (ix2 (y 0) ⟨512 + (t.val * 128 + (y 1).val), by have := (pt t).isLt; have := (y 1).isLt; change _ < 128 at this; change t.val < 4 at *; omega⟩))
  blk_ext [iblk, idx_in t]

include hX in
theorem blk_v : iblk m c 2 t = r2 (tV X (pt t)) := by
  funext y
  refine Eq.trans ?_ (congrFun ((V_v27 m c).trans hX) (ix2 (y 0) ⟨1024 + (t.val * 128 + (y 1).val), by have := (pt t).isLt; have := (y 1).isLt; change _ < 128 at this; change t.val < 4 at *; omega⟩))
  blk_ext [iblk, idx_in t]

include hC in
theorem blk_d : iblk m c 3 t = d3 (tD C (pt t)) := by
  funext y
  have e : ∀ (g : Fin 8) (z : Fin 1) (j : Fin 2048), V m c main_v28 (ix3 g z j) = (C g j : EReal) := fun g z j => by
    rw [V_v28, hC]
    pointwise
    rfl
  refine Eq.trans ?_ (e (head (pt t) (y 0)) (y 1) (y 2))
  blk_ext [iblk, idx_in t]

theorem blk4 (W : S8x2048x1.Idx → EReal) (hW : V m c main_v26 = W) (y : S2x2048x1.Idx) : iblk m c 4 t y = W (ix3 (head (pt t) (y 0)) (y 1) (y 2)) := by
  have h : V m c (Pipeline.arrRef spec0 4) = W := hW
  unfold iblk
  rw [h]
  blk_ext [idx_in t]

include hX hC in
theorem blk_l : iblk m c 4 t = l3 (tL X C (pt t)) := by
  funext y
  refine (blk4 m c t _ (V_v26 m c) y).trans ?_
  rw [hX, hC]
  exact lse_up X C _ _ _

include hU in
theorem blk_o : iblk m c 5 t = r2 (tU U (pt t)) := by
  funext y
  refine Eq.trans ?_ (congrFun ((V_main_arg2 m c).trans hU) (ix2 (y 0) ⟨t.val * 128 + (y 1).val, by have := (pt t).isLt; have := (y 1).isLt; change _ < 128 at this; change t.val < 4 at *; omega⟩))
  blk_ext [iblk, idx_in t]

/-! ## The four arrays -/

variable (p : Fin 2048) (b : Fin 128)
include hX hC hU

theorem dq_at : (outsAt0 m c t).1 (ix2 p b) = (gdQ X C U (hd ⟨(pt t).val * 128 + b.val, by omega⟩) p (co ⟨(pt t).val * 128 + b.val, by omega⟩) : EReal) :=
  (dq_out m c t _ _ _ _ _ _ (blk_q m c X hX t) (blk_k m c X hX t) (blk_v m c X hX t) (blk_d m c C hC t) (blk_l m c X C hX hC t) (blk_o m c U hU t) p b).trans
    (congrArg _ (dq_pair X C U (pt t) p b))
theorem dk_at : (outsAt0 m c t).2.1 (ix2 p b) = (gdK X C U (hd ⟨(pt t).val * 128 + b.val, by omega⟩) p (co ⟨(pt t).val * 128 + b.val, by omega⟩) : EReal) :=
  (dk_out m c t _ _ _ _ _ _ (blk_q m c X hX t) (blk_k m c X hX t) (blk_v m c X hX t) (blk_d m c C hC t) (blk_l m c X C hX hC t) (blk_o m c U hU t) p b).trans
    (congrArg _ (dk_pair X C U (pt t) p b))
theorem dv_at : (outsAt0 m c t).2.2.1 (ix2 p b) = (gdV X C U (hd ⟨(pt t).val * 128 + b.val, by omega⟩) p (co ⟨(pt t).val * 128 + b.val, by omega⟩) : EReal) :=
  (dv_out m c t _ _ _ _ _ _ (blk_q m c X hX t) (blk_k m c X hX t) (blk_v m c X hX t) (blk_d m c C hC t) (blk_l m c X C hX hC t) (blk_o m c U hU t) p b).trans
    (congrArg _ (dv_pair X C U (pt t) p b))
omit b in
theorem dd_at (h : Fin 2) (z : Fin 1) : (outsAt0 m c t).2.2.2 (ix3 h z p) = (gdC X C U (head (pt t) h) p : EReal) := by
  obtain rfl : z = 0 := Fin.ext (by omega)
  exact (dd_out m c t _ _ _ _ _ _ (blk_q m c X hX t) (blk_k m c X hX t) (blk_v m c X hX t) (blk_d m c C hC t) (blk_l m c X C hX hC t) (blk_o m c U hU t) h p).trans
    (congrArg _ (dd_pair X C U (pt t) h p))
end

/-- An index of an array of columns, by the block and the place in it. -/
theorem col_idx (t : Fin 4) (p : Fin 2048) (b : Fin 128) (i : S2048x512.Idx) (h0 : (i 0 : ℕ) = p.val) (h1 : (i 1 : ℕ) = t.val * 128 + b.val)
    (f : Fin 8 → Fin 2048 → Fin 64 → ℝ) :
    f (hd ⟨t.val * 128 + b.val, by omega⟩) p (co ⟨t.val * 128 + b.val, by omega⟩) = f (hd (i 1)) (i 0) (co (i 1)) := by
  have e0 : p = i 0 := Fin.ext h0.symm
  have e1 : (⟨t.val * 128 + b.val, by omega⟩ : Fin 512) = i 1 := Fin.ext h1.symm
  rw [e0, e1]

variable (hX : m ((c.tc : Thread nD τ).loc main_arg0) = kX X) (hC : m ((c.tc : Thread nD τ).loc main_arg1) = kC C)
  (hU : m ((c.tc : Thread nD τ).loc main_arg2) = up fun i => U (i 0) (i 1))
include hX hC hU

/-- The gradients at the queries, the keys, the values and the rows' terms. -/
theorem dq_array : (dats m 0 c).arrAt 6 cfg0.N = up fun i => gdQ X C U (hd (i 1)) (i 0) (co (i 1)) := by
  refine (dats m 0 c).arrAt_eq_of_covers 6 _ (by decide +kernel) fun t _ y => ?_
  blk_simp
  rw [after0_6]
  have hi : ∀ a, ((((View.whole main_v29_0).slice (win0_6.rect t)).emb y) a : ℕ) = win0_6.index t a * ![2048, 128] a + y a := by
    intro a; fin_cases a <;> blk_simp
  have hi0 := hi 0
  have hi1 := hi 1
  rw [(idx_out t).1] at hi0 hi1
  have hy : y = ix2 (y 0) (y 1) := by funext a; fin_cases a <;> rfl
  refine (congrArg (outsAt0 m c t).1 hy).trans ((dq_at m c X C U hX hC hU t (y 0) (y 1)).trans (congrArg Real.toEReal ?_))
  exact col_idx (pt t) (y 0) (y 1) _ (by simpa using hi0) (by simpa using hi1) (gdQ X C U)

theorem dk_array : (dats m 0 c).arrAt 7 cfg0.N = up fun i => gdK X C U (hd (i 1)) (i 0) (co (i 1)) := by
  refine (dats m 0 c).arrAt_eq_of_covers 7 _ (by decide +kernel) fun t _ y => ?_
  blk_simp
  rw [after0_7]
  have hi : ∀ a, ((((View.whole main_v29_1).slice (win0_7.rect t)).emb y) a : ℕ) = win0_7.index t a * ![2048, 128] a + y a := by
    intro a; fin_cases a <;> blk_simp
  have hi0 := hi 0
  have hi1 := hi 1
  rw [(idx_out t).2.1] at hi0 hi1
  have hy : y = ix2 (y 0) (y 1) := by funext a; fin_cases a <;> rfl
  refine (congrArg (outsAt0 m c t).2.1 hy).trans ((dk_at m c X C U hX hC hU t (y 0) (y 1)).trans (congrArg Real.toEReal ?_))
  exact col_idx (pt t) (y 0) (y 1) _ (by simpa using hi0) (by simpa using hi1) (gdK X C U)

theorem dv_array : (dats m 0 c).arrAt 8 cfg0.N = up fun i => gdV X C U (hd (i 1)) (i 0) (co (i 1)) := by
  refine (dats m 0 c).arrAt_eq_of_covers 8 _ (by decide +kernel) fun t _ y => ?_
  blk_simp
  rw [after0_8]
  have hi : ∀ a, ((((View.whole main_v29_2).slice (win0_8.rect t)).emb y) a : ℕ) = win0_8.index t a * ![2048, 128] a + y a := by
    intro a; fin_cases a <;> blk_simp
  have hi0 := hi 0
  have hi1 := hi 1
  rw [(idx_out t).2.2.1] at hi0 hi1
  have hy : y = ix2 (y 0) (y 1) := by funext a; fin_cases a <;> rfl
  refine (congrArg (outsAt0 m c t).2.2.1 hy).trans ((dv_at m c X C U hX hC hU t (y 0) (y 1)).trans (congrArg Real.toEReal ?_))
  exact col_idx (pt t) (y 0) (y 1) _ (by simpa using hi0) (by simpa using hi1) (gdV X C U)

theorem dd_array : (dats m 0 c).arrAt 9 cfg0.N = up fun i => gdC X C U (i 0) (i 2) := by
  refine (dats m 0 c).arrAt_eq_of_covers 9 _ (by decide +kernel) fun t _ y => ?_
  blk_simp
  rw [after0_9]
  have hi : ∀ a, ((((View.whole main_v29_3).slice (win0_9.rect t)).emb y) a : ℕ) = win0_9.index t a * ![2, 1, 2048] a + y a := by
    intro a; fin_cases a <;> blk_simp
  have hi0 := hi 0
  have hi2 := hi 2
  rw [(idx_out t).2.2.2] at hi0 hi2
  have hy : y = ix3 (y 0) (y 1) (y 2) := by funext a; fin_cases a <;> rfl
  refine (congrArg (outsAt0 m c t).2.2.2 hy).trans ((dd_at m c X C U hX hC hU t (y 2) (y 0) (y 1)).trans (congrArg Real.toEReal ?_))
  exact congrArg₂ (gdC X C U) (Fin.ext (by simpa using hi0.symm)) (Fin.ext (by simpa using hi2.symm))

end Cert.AttnKernelIdeal.Arrays
end
-- ==== Proof.AttnRef.lean ====
/- What the reference of the attention's backward pass computes from real arrays. -/
module

public import proofs.«01_k».proof.Proof.AttnHeads
public import proofs.«01_k».proof.Proof.Reals
public import proofs.«01_k».proof.Proof.Gen.AttnReferenceIdeal.Read

@[expose] public section

set_option maxRecDepth 16384
noncomputable section
open Idealize.ShloMosaic Idealize.ShloMosaic.TcCoe Idealize.SL.Sem

namespace Cert.AttnReferenceIdeal.Read
open Cert.AttnReferenceIdeal Cert.AttnReferenceIdeal.Gen Cert.Reals Cert.AttnMath

variable (X : Fin 2048 → Fin 1536 → ℝ) (C : Fin 8 → Fin 2048 → ℝ) (U : Fin 2048 → Fin 512 → ℝ)

abbrev rX : S2048x1536.Idx → EReal := up fun i => X (i 0) (i 1)
abbrev rC : S8x2048.Idx → EReal := up fun i => C (i 0) (i 1)
abbrev rU : S2048x512.Idx → EReal := up fun i => U (i 0) (i 1)

theorem v3_up (i : Fin 2048) (g : Fin 8) (d : Fin 64) : val_main_v3 (F := Ideal) (rX X) (ix3 i g d) = (qh X g i d : ℝ) := by
  pointwise [val_main_v3, val_main_v0]
  rfl
theorem v4_up (i : Fin 2048) (g : Fin 8) (d : Fin 64) : val_main_v4 (F := Ideal) (rX X) (ix3 i g d) = (kh X g i d : ℝ) := by
  pointwise [val_main_v4, val_main_v1]
  rfl
theorem v5_up (i : Fin 2048) (g : Fin 8) (d : Fin 64) : val_main_v5 (F := Ideal) (rX X) (ix3 i g d) = (vh X g i d : ℝ) := by
  pointwise [val_main_v5, val_main_v2]
  rfl

/-- The masked scores. -/
theorem v21_up (g : Fin 8) (i j : Fin 2048) :
    val_main_v21_0 (F := Ideal) (rX X) (rC C) (ix3 g i j) = if j.val ≤ i.val then ((gs X C g i j + C g i : ℝ) : EReal) else ⊥ := by
  pointwise [val_main_v21_0, val_main_v21_1, val_main_v20, val_main_v19, val_main_v18, val_main_v17, val_main_v16, val_main_v15, val_main_v14, val_main_v13, val_main_v12, val_main_v11, val_main_v10, val_main_v9, val_main_v8, val_main_v7, val_main_v6, val_main_cst, val_main_call0_v2, val_main_call0_v0, val_main_cst_0, id]
  rw [select_le _ _ (by omega) (by omega)]
  simp only [v3_up, v4_up, bits_bot, bits_eighth, up, ← EReal.coe_mul, sum_up, ← EReal.coe_add, ← EReal.coe_sub]
  refine if_congr Iff.rfl (congrArg Real.toEReal ?_) rfl
  rw [gs]
  show (∑ d, qh X g i d * kh X g j d) * (1 / 8) + C g i - C g j = _
  ring

/-- The largest score of a row is real. -/
theorem v22_real (g : Fin 8) (i : Fin 2048) : ∃ r : ℝ, val_main_v22 (F := Ideal) (rX X) (rC C) (ix2 g i) = (r : EReal) := by
  pointwise [val_main_v22, val_main_cst_1]
  refine max_real _ (fun _ _ => rfl) _ bits_bot _ i ?_ fun j => ?_
  · rw [v21_up, if_pos le_rfl]; exact EReal.coe_ne_bot _
  · rw [v21_up]; split_ifs; exacts [EReal.coe_ne_top _, bot_ne_top]

theorem v29_real (g : Fin 8) (i : Fin 2048) : ∃ r : ℝ, val_main_v29 (F := Ideal) (rX X) (rC C) (ix2 g i) = (r : EReal) := by
  obtain ⟨r, hr⟩ := v22_real X C g i
  refine ⟨r, ?_⟩
  rw [val_main_v29_apply, hr, val_main_v28_apply, val_main_cst_3_apply]
  show Ideal.ofBits .f32 0xFF800000#32 ⊔ (r : EReal) = r
  rw [bits_bot]
  exact bot_sup_eq _

/-- The largest score of a row, and the row's sum of exponentials of the scores below it. -/
def mx (g : Fin 8) (i : Fin 2048) : ℝ := (v29_real X C g i).choose
theorem v29_up (g : Fin 8) (i : Fin 2048) : val_main_v29 (F := Ideal) (rX X) (rC C) (ix2 g i) = (mx X C g i : EReal) :=
  (v29_real X C g i).choose_spec
def Zr (g : Fin 8) (i : Fin 2048) : ℝ := gZ X C g i * Real.exp (C g i - mx X C g i)
theorem Zr_ne (g : Fin 8) (i : Fin 2048) : Zr X C g i ≠ 0 := (mul_pos (gZ_pos X C g i) (Real.exp_pos _)).ne'

theorem v42_up (g : Fin 8) (i j : Fin 2048) :
    val_main_v42 (F := Ideal) (rX X) (rC C) (ix3 g i j) = ((gP X C g i j * Zr X C g i : ℝ) : EReal) := by
  pointwise [val_main_v42, val_main_v41, val_main_v40, val_main_v39]
  rw [v29_up, v21_up, gP, Zr]
  split_ifs
  · rw [← EReal.coe_sub, Ideal.exp_coe]
    refine congrArg Real.toEReal ?_
    rw [← mul_assoc, div_mul_cancel₀ _ (gZ_pos X C g i).ne', ← Real.exp_add]
    exact congrArg _ (by ring)
  · rw [zero_mul, EReal.bot_sub, Ideal.exp_bot]
    rfl

theorem v43_up (g : Fin 8) (i : Fin 2048) : val_main_v43 (F := Ideal) (rX X) (rC C) (ix2 g i) = (Zr X C g i : ℝ) := by
  pointwise [val_main_v43, val_main_cst_9]
  simp only [v42_up, sum_up, ← Finset.sum_mul, gP_sum, one_mul]

/-- The weights. -/
theorem v46_up (g : Fin 8) (i j : Fin 2048) : val_main_v46 (F := Ideal) (rX X) (rC C) (ix3 g i j) = (gP X C g i j : ℝ) := by
  pointwise [val_main_v46, val_main_v45, val_main_v44]
  rw [v42_up, v43_up, div_up _ (Zr_ne X C g i), mul_div_cancel_right₀ _ (Zr_ne X C g i)]

theorem v54_up (g : Fin 8) (d : Fin 64) (i : Fin 2048) : val_main_v54 (F := Ideal) (rU U) (ix3 g d i) = (uh U g i d : ℝ) := by
  pointwise [val_main_v54, val_main_v53]
  rfl

/-- The cotangents of the weights. -/
theorem v55_up (g : Fin 8) (i j : Fin 2048) : val_main_v55 (F := Ideal) (rX X) (rU U) (ix3 g i j) = (gdP X U g i j : ℝ) := by
  pointwise [val_main_v55]
  simp only [v54_up, v5_up, ← EReal.coe_mul, sum_up]
  rfl

theorem v66_up (g : Fin 8) (i : Fin 2048) :
    val_main_v66 (F := Ideal) (rX X) (rC C) (rU U) (ix2 g i) = ((-((∑ y, gP X C g i y * gdP X U g i y) / Zr X C g i) : ℝ) : EReal) := by
  pointwise [val_main_v66, val_main_v63, val_main_v62, val_main_v61, val_main_v60, val_main_v59, val_main_v58, val_main_v49, val_main_v48, val_main_v47, val_main_v44, val_main_cst_10, val_main_cst_11, val_main_cst_12]
  have hz := Zr_ne X C g i
  simp only [v55_up, v42_up, v43_up, bits_one, ← EReal.coe_one, ← EReal.coe_mul, div_up _ (mul_ne_zero hz hz), sum_up, Finset.univ_unique, Finset.sum_singleton, ← EReal.coe_neg]
  refine congrArg Real.toEReal (congrArg Neg.neg ?_)
  rw [Finset.sum_div]
  refine Finset.sum_congr rfl fun y _ => ?_
  field_simp

/-- The cotangents of the scores. -/
theorem v70_up (g : Fin 8) (i j : Fin 2048) : val_main_v70 (F := Ideal) (rX X) (rC C) (rU U) (ix3 g i j) = (gdS X C U g i j : ℝ) := by
  pointwise [val_main_v70, val_main_v21_1, val_main_v20, val_main_v19, val_main_v18, val_main_v17, val_main_v16, val_main_v15, val_main_v69, val_main_v68, val_main_v67, val_main_v65, val_main_v64, val_main_v44, val_main_call1_v0, val_main_call1_cst]
  have hz := Zr_ne X C g i
  rw [select_le _ _ (by omega) (by omega)]
  simp only [v55_up, v42_up, v43_up, v66_up, ← EReal.coe_mul, div_up _ hz, ← EReal.coe_add]
  rw [gdS]
  split_ifs with h
  · refine congrArg Real.toEReal ?_
    field_simp
    ring
  · rw [gP, if_neg h, zero_mul]
    rfl

/-- The gradients, head by head. -/
theorem v81_up (g : Fin 8) (j : Fin 2048) (d : Fin 64) : val_main_v81 (F := Ideal) (rX X) (rC C) (rU U) (ix3 g j d) = (gdK X C U g j d : ℝ) := by
  pointwise [val_main_v81, val_main_v80, val_main_v79, val_main_cst_17]
  simp only [v70_up, v3_up, bits_eighth, ← EReal.coe_mul, sum_up]
  rw [gdK, Finset.sum_mul]
  exact congrArg _ (Finset.sum_congr rfl fun _ _ => by ring)

theorem v83_up (g : Fin 8) (i : Fin 2048) (d : Fin 64) : val_main_v83 (F := Ideal) (rX X) (rC C) (rU U) (ix3 g i d) = (gdQ X C U g i d : ℝ) := by
  pointwise [val_main_v83, val_main_v80, val_main_v79, val_main_cst_17]
  simp only [v70_up, v4_up, bits_eighth, ← EReal.coe_mul, sum_up]
  rw [gdQ, Finset.sum_mul]
  exact congrArg _ (Finset.sum_congr rfl fun _ _ => by ring)

theorem v56_up (g : Fin 8) (d : Fin 64) (j : Fin 2048) : val_main_v56 (F := Ideal) (rX X) (rC C) (rU U) (ix3 g d j) = (gdV X C U g j d : ℝ) := by
  pointwise [val_main_v56]
  simp only [v54_up, v46_up, ← EReal.coe_mul, sum_up]
  rw [gdV]
  exact congrArg _ (Finset.sum_congr rfl fun _ _ => by ring)

/-! ## The four results as arrays -/

/-- The gradient at a column, by its head. -/
def outQ (i : Fin 2048) (x : Fin 512) : ℝ := gdQ X C U (hd x) i (co x)
def outK (i : Fin 2048) (x : Fin 512) : ℝ := gdK X C U (hd x) i (co x)
def outV (i : Fin 2048) (x : Fin 512) : ℝ := gdV X C U (hd x) i (co x)

theorem dq_of : val_main_v92 (F := Ideal) (rX X) (rC C) (rU U) = up fun i => outQ X C U (i 0) (i 1) := by
  funext j
  idx_vars j
  pointwise [val_main_v92, val_main_v89, val_main_v88, val_main_v87, val_main_v84]
  rw [v83_up]
  rfl

theorem dk_of : val_main_v93 (F := Ideal) (rX X) (rC C) (rU U) = up fun i => outK X C U (i 0) (i 1) := by
  funext j
  idx_vars j
  pointwise [val_main_v93, val_main_v90, val_main_v88, val_main_v86, val_main_v82]
  rw [v81_up]
  rfl

theorem v85_up (i : Fin 2048) (x : Fin 512) : val_main_v85 (F := Ideal) (rX X) (rC C) (rU U) (ix2 i x) = (outV X C U i x : ℝ) := by
  pointwise [val_main_v85, val_main_v57]
  rw [v56_up]
  rfl

theorem dv_of : val_main_v94 (F := Ideal) (rX X) (rC C) (rU U) = up fun i => outV X C U (i 0) (i 1) := by
  funext j
  idx_vars j
  have e1 : ¬1024 + j1.val < 512 := by omega
  have e2 : ¬1024 + j1.val - 512 < 512 := by omega
  have e3 : 1024 + j1.val - 512 - 512 = j1.val := by omega
  pointwise [val_main_v94, val_main_v91, val_main_v88, e1, e2, e3]
  exact v85_up X C U j0 j1

theorem dd_of : val_main_v95 (F := Ideal) (rX X) (rC C) (rU U) = up fun i => gdC X C U (i 0) (i 2) := by
  funext j
  idx_vars j
  pointwise [val_main_v95, val_main_v78, val_main_v77, val_main_v76, val_main_v75, val_main_v74, val_main_v73, val_main_v72, val_main_v71, val_main_cst_13, val_main_cst_14, val_main_cst_15, val_main_cst_16]
  simp only [v70_up, sum_up, gdS_sum, Finset.univ_unique, Finset.sum_singleton, ← EReal.coe_neg, ← EReal.coe_add, Finset.sum_neg_distrib]
  exact congrArg Real.toEReal (add_zero _)

end Cert.AttnReferenceIdeal.Read
end
-- ==== Proof.AttnClaim.lean ====
/- The claims about the attention's backward kernel. -/
module

public import proofs.«01_k».proof.Defs
public import proofs.«01_k».proof.Proof.AttnBlocks
public import proofs.«01_k».proof.Proof.AttnRef
public import proofs.«01_k».proof.Proof.Gen.AttnKernel.Frame
public import proofs.«01_k».proof.Proof.Gen.AttnKernelIdeal.Frame
public import proofs.«01_k».proof.Proof.Gen.AttnReferenceIdeal.Run
public import Idealize.ShloMosaic.Lib.Quiescent

@[expose] public section

set_option maxRecDepth 16384
noncomputable section
open Idealize.ShloMosaic Idealize.ShloMosaic.TcCoe Idealize.SL.Sem

namespace Cert.AttnClaim
open Cert.Reals Cert.AttnMath

instance facts_pre : Cert.Pre_attn_finite.Facts := by
  constructor <;> decide +kernel

/-- The precondition gives the three arguments as real arrays, each a function of a row and a column. -/
theorem reals (m) (h : Cert.Pre_AttnKernelIdeal_attn_finite m) (c : Dev Cert.AttnKernelIdeal.nD) :
    ∃ X C U, m ((c.tc : Thread _ Cert.AttnKernelIdeal.τ).loc Cert.AttnKernelIdeal.main_arg0) = Cert.AttnReferenceIdeal.Read.rX X
      ∧ m ((c.tc : Thread _ Cert.AttnKernelIdeal.τ).loc Cert.AttnKernelIdeal.main_arg1) = Cert.AttnReferenceIdeal.Read.rC C
      ∧ m ((c.tc : Thread _ Cert.AttnKernelIdeal.τ).loc Cert.AttnKernelIdeal.main_arg2) = Cert.AttnReferenceIdeal.Read.rU U := by
  obtain ⟨h0, h1, h2⟩ := h c
  obtain ⟨X, hX⟩ := reals_of_test _ _ _ h0
  obtain ⟨C, hC⟩ := reals_of_test _ _ _ h1
  obtain ⟨U, hU⟩ := reals_of_test _ _ _ h2
  refine ⟨fun i j => X (ix2 i j), fun i j => C (ix2 i j), fun i j => U (ix2 i j), hX.trans ?_, hC.trans ?_, hU.trans ?_⟩
  · exact funext fun i => congrArg (up X) (by funext a; fin_cases a <;> rfl : i = ix2 (i 0) (i 1))
  · exact funext fun i => congrArg (up C) (by funext a; fin_cases a <;> rfl : i = ix2 (i 0) (i 1))
  · exact funext fun i => congrArg (up U) (by funext a; fin_cases a <;> rfl : i = ix2 (i 0) (i 1))

/-- The reference declares no semaphore, so its run leaves every counter at zero. -/
theorem frame_ref : Cert.quiescent_AttnReferenceIdeal (hAttnReferenceIdeal := Cert.AttnReferenceIdeal.Gen.facts) := fun m g _ =>
  (θ_run _ _ _).mono (fun r h => ⟨fun c => (h c).2.2.2.2, sem_eq_zero_of_no_sems (by decide) r.2⟩) (Cert.AttnReferenceIdeal.Value.run (F := Ideal) m g)

/-- The two programs end with equal results. -/
theorem algebraic : Cert.algebraic_AttnKernelIdeal_AttnReferenceIdeal_pre_attn_finite
    (hAttnKernelIdeal := Cert.AttnKernelIdeal.Gen.facts) (hAttnReferenceIdeal := Cert.AttnReferenceIdeal.Gen.facts) := by
  intro m g m' g' hpre hag
  refine ⟨fun c => _, fun c => _, fun c => _, fun c => _, Cert.AttnKernelIdeal.Value.run_blocks m g, ?_⟩
  refine (θ_run _ _ _).mono (fun r h c => ?_) (Cert.AttnReferenceIdeal.Value.run m' g')
  obtain ⟨X, C, U, hX, hC, hU⟩ := reals m hpre c
  obtain ⟨a0, a1, a2⟩ := hag c
  obtain ⟨r0, r1, r2, r3, k⟩ := h c
  refine ⟨r0.trans ?_, r1.trans ?_, r2.trans ?_, r3.trans ?_, k⟩
  · rw [Cert.AttnReferenceIdeal.Read.val_main_v92_eq, a0, a1, a2, hX, hC, hU]
    exact (Cert.AttnReferenceIdeal.Read.dq_of X C U).trans (Cert.AttnKernelIdeal.Arrays.dq_array m c X C U hX hC hU).symm
  · rw [Cert.AttnReferenceIdeal.Read.val_main_v93_eq, a0, a1, a2, hX, hC, hU]
    exact (Cert.AttnReferenceIdeal.Read.dk_of X C U).trans (Cert.AttnKernelIdeal.Arrays.dk_array m c X C U hX hC hU).symm
  · rw [Cert.AttnReferenceIdeal.Read.val_main_v94_eq, a0, a1, a2, hX, hC, hU]
    exact (Cert.AttnReferenceIdeal.Read.dv_of X C U).trans (Cert.AttnKernelIdeal.Arrays.dv_array m c X C U hX hC hU).symm
  · rw [Cert.AttnReferenceIdeal.Read.val_main_v95_eq, a0, a1, a2, hX, hC, hU]
    exact (Cert.AttnReferenceIdeal.Read.dd_of X C U).trans (Cert.AttnKernelIdeal.Arrays.dd_array m c X C U hX hC hU).symm

end Cert.AttnClaim
end
-- ==== Proof.OutMath.lean ====
/- The gradients of the output projection's second half, with its norm, over real arrays. -/
module

public import proofs.«01_k».proof.Proof.Rms

@[expose] public section

noncomputable section

namespace Cert.OutMath

open Idealize.ShloMosaic Cert.Rms

abbrev Tok := (⟨2, ![2048, 1024]⟩ : Shape).Idx → ℝ
abbrev Half := (⟨2, ![2048, 512]⟩ : Shape).Idx → ℝ
abbrev Scale := (⟨2, ![1, 512]⟩ : Shape).Idx → ℝ
abbrev Wt := (⟨2, ![1024, 1024]⟩ : Shape).Idx → ℝ

/-- One token's row. -/
abbrev row (O : Half) (a : Fin 2048) : Fin 512 → ℝ := fun k => O (ix2 a k)

/-- The gradient at the mixed row: the output's gradient times the transposed weights. -/
def dy (D : Tok) (W : Wt) (a : Fin 2048) (b : Fin 1024) : ℝ := ∑ k, D (ix2 a k) * W (ix2 b k)

/-- Its first half, the gradient at the convolution's normed output. -/
def dyc (D : Tok) (W : Wt) (a : Fin 2048) (b : Fin 512) : ℝ := dy D W a ⟨b.val, by omega⟩

/-- Its second half, the gradient at the attention's normed output. -/
def dya (D : Tok) (W : Wt) (a : Fin 2048) (b : Fin 512) : ℝ := dy D W a ⟨512 + b.val, by omega⟩

/-- The gradient at the attention's output. -/
def dout (D : Tok) (O : Half) (G : Scale) (W : Wt) (a : Fin 2048) (b : Fin 512) : ℝ :=
  grad 512 (row O a) (fun k => dya D W a k * G (ix2 0 k)) b

/-- The gradient at the norm's scale. -/
def dg (D : Tok) (O : Half) (W : Wt) (b : Fin 512) : ℝ := ∑ a, dya D W a b * O (ix2 a b) * inv 512 (row O a)

end Cert.OutMath

end
-- ==== Proof.OutKernel.lean ====
/- What the output projection's backward kernel leaves in its three arrays, from real arrays. -/
module

public import proofs.«01_k».proof.Proof.OutMath
public import proofs.«01_k».proof.Proof.Gen.OutKernelIdeal.Value

@[expose] public section

set_option maxRecDepth 16384
noncomputable section
open Idealize.ShloMosaic Idealize.ShloMosaic.TcCoe Idealize.SL.Sem

namespace Cert.OutKernelIdeal.Arrays
open Cert.OutKernelIdeal Cert.OutKernelIdeal.Gen Cert.Reals Cert.Rms Cert.OutMath

/-! ## One block of rows -/

section Block
variable (d : S512x1024.Idx → ℝ) (o : S512x512.Idx → ℝ) (g : S1x512.Idx → ℝ) (w : S512x1024.Idx → ℝ)

/-- One row of a block. -/
abbrev brow (p : Fin 512) : Fin 512 → ℝ := fun k => o (ix2 p k)

/-- Rows of the gradient times rows of the weights. -/
def bdy (p q : Fin 512) : ℝ := ∑ k, d (ix2 p k) * w (ix2 q k)

theorem dyc_block (p q : Fin 512) : k0_pay5 (F := Ideal) (up d) (up w) (ix2 p q) = (bdy d w p q : ℝ) := by
  pointwise [k0_pay5, k0_pay4]
  simp only [up, ← EReal.coe_mul, sum_up]
  rfl

theorem dya_block (p q : Fin 512) : k0_pay6 (F := Ideal) (up d) (up w) (ix2 p q) = (bdy d w p q : ℝ) := by
  pointwise [k0_pay6, k0_pay4]
  simp only [up, ← EReal.coe_mul, sum_up]
  rfl

theorem inv_block (p : Fin 512) (q : Fin 1) : k0_pay7 (F := Ideal) (up o) (ix2 p q) = (inv 512 (brow o p) : ℝ) := by
  pointwise [k0_pay7]
  simp only [up, bits_512, bits_eps, ← EReal.coe_mul, sum_up, div_512, ← EReal.coe_add]
  exact rsqrt_up (ms_pos (by norm_num) (brow o p))

theorem dyg_block (p q : Fin 512) : k0_pay8 (F := Ideal) (up d) (up w) (up g) (ix2 p q) = ((bdy d w p q * g (ix2 0 q) : ℝ) : EReal) := by
  pointwise [k0_pay8]
  rw [dya_block, up, ← EReal.coe_mul]

/-- A block's gradient at the attention's output. -/
theorem dout_block (p q : Fin 512) :
    k0_pay1 (F := Ideal) (k0_pay9 (up d) (up w) (up o) (up g)) (k0_pay10 (up o)) (k0_pay11 (up d) (up w) (up o) (up g)) (ix2 p q)
      = (grad 512 (brow o p) (fun k => bdy d w p k * g (ix2 0 k)) q : ℝ) := by
  pointwise [k0_pay1, k0_pay9, k0_pay10, k0_pay11]
  simp only [inv_block, dyg_block, up, bits_512, ← EReal.coe_mul, sum_up, div_512, ← EReal.coe_sub]
  rfl

/-- A block's share of the gradient at the norm's scale is added to what the row held. -/
theorem dg_block (acc : Vec Ideal S1x512 .f32) (j : S1x512.Idx) :
    k0_pay2 (F := Ideal) (k0_pay6 (up d) (up w)) (up o) (k0_pay7 (up o)) acc j
      = acc j + ((∑ p : Fin 512, bdy d w p (j 1) * o (ix2 p (j 1)) * inv 512 (brow o p) : ℝ) : EReal) := by
  idx_vars j
  pointwise [k0_pay2]
  simp only [dya_block, inv_block, up, ← EReal.coe_mul, sum_up]

end Block

/-! ## The arrays after the grid -/

variable (m : (ℓ : Loc nD τ sig) → Buf (Elt Ideal) ℓ) (c : Dev nD)
variable (D : S2048x1024.Idx → ℝ) (O : S2048x512.Idx → ℝ) (G : S1x512.Idx → ℝ) (W : S1024x1024.Idx → ℝ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 4 :=
  (by decide +kernel : ∀ t : Fin grid0.N, _)

/-- The rows of an array that point `t`'s block holds. -/
abbrev rows {w : ℕ} (X : (⟨2, ![2048, w]⟩ : Shape).Idx → ℝ) (t : Fin cfg0.N) : (⟨2, ![512, w]⟩ : Shape).Idx → ℝ :=
  fun y => X (ix2 ⟨t.val * 512 + (y 0).val, by have := (idx t).2.2.2.2.2.2; have := (y 0).isLt; show _ < 2048; change _ < 512 at this; omega⟩ (y 1))

/-- 512 rows of the weights, from row `r`. -/
abbrev half (r : ℕ) (hr : r + 512 ≤ 1024) (W : S1024x1024.Idx → ℝ) : S512x1024.Idx → ℝ :=
  fun y => W (ix2 ⟨r + (y 0).val, by have := (y 0).isLt; change _ < 512 at this; show _ < 1024; omega⟩ (y 1))

theorem ld_half (r : ℕ) (inb : ∀ a, (![r, 0] : Fin 2 → ℕ) a + (![512, 1024] : Fin 2 → ℕ) a ≤ S1024x1024.size a) :
    View.ld (Val := Elt Ideal) (e' := .bf16) (up W) (Rect.unit (s := S1024x1024) ![r, 0] ![512, 1024] inb) = up (half r (by simpa using inb 0) W) := by
  funext y
  refine congrArg (up W) ?_
  funext a
  fin_cases a <;> exact Fin.ext (by simp [ix2])

theorem V_v0 : V m c main_v0 = m ((c.tc : Thread nD τ).loc main_arg0) := by entry_read; rfl
theorem V_v1 : V m c main_v1 = m ((c.tc : Thread nD τ).loc main_arg3) := by entry_read; rfl

variable (h0 : m ((c.tc : Thread nD τ).loc main_arg0) = up D) (h1 : m ((c.tc : Thread nD τ).loc main_arg1) = up O)
  (h2 : m ((c.tc : Thread nD τ).loc main_arg2) = up G) (h3 : m ((c.tc : Thread nD τ).loc main_arg3) = up W)

include h0 in
theorem blk0 (t : Fin cfg0.N) : iblk m c 0 t = up (rows D t) := by
  funext y
  refine Eq.trans ?_ (congrFun ((V_v0 m c).trans h0) _)
  blk_ext [iblk, idx t]

include h1 in
theorem blk1 (t : Fin cfg0.N) : iblk m c 1 t = up (rows O t) := by
  funext y
  refine Eq.trans ?_ (congrFun ((V_main_arg1 m c).trans h1) _)
  blk_ext [iblk, idx t]

include h2 in
theorem blk2 (t : Fin cfg0.N) : iblk m c 2 t = up G := by
  funext y
  refine Eq.trans ?_ (congrFun ((V_main_arg2 m c).trans h2) _)
  blk_ext [iblk, idx t]

include h3 in
theorem blk3 (t : Fin cfg0.N) : iblk m c 3 t = up W := by
  funext y
  refine Eq.trans ?_ (congrFun ((V_v1 m c).trans h3) _)
  blk_ext [iblk, idx t]

theorem zero3 (j : S1x512.Idx) : k0_pay3 (F := Ideal) j = 0 := by pointwise [k0_pay3]

/-- A block's values are the array's, at the block's rows. -/
theorem dyc_point (t : Fin cfg0.N) (y : S512x512.Idx) (i : S2048x512.Idx) (hi0 : (i 0 : ℕ) = t.val * 512 + y 0) (hi1 : (i 1 : ℕ) = y 1) :
    k0_pay5 (F := Ideal) (up (rows D t)) (up (half 0 (by decide) W)) y
      = up (fun i => dyc D W (i 0) (i 1)) i := by
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 ⟨t.val * 512 + p.val, hi0 ▸ (i 0).isLt⟩ q := by blk_ext []
  rw [hi]
  exact (dyc_block _ _ p q).trans (congrArg Real.toEReal (Finset.sum_congr rfl fun k _ =>
    congrArg (D _ * ·) (congrArg W (congrArg (fun z => ix2 z k) (Fin.ext (Nat.zero_add _))))))

/-- A block's values are the array's, at the block's rows. -/
theorem dout_point (t : Fin cfg0.N) (y : S512x512.Idx) (i : S2048x512.Idx) (hi0 : (i 0 : ℕ) = t.val * 512 + y 0) (hi1 : (i 1 : ℕ) = y 1) :
    k0_pay1 (F := Ideal) (k0_pay9 (up (rows D t)) (up (half 512 (by decide) W)) (up (rows O t)) (up G)) (k0_pay10 (up (rows O t)))
        (k0_pay11 (up (rows D t)) (up (half 512 (by decide) W)) (up (rows O t)) (up G)) y
      = up (fun i => dout D O G W (i 0) (i 1)) i := by
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 ⟨t.val * 512 + p.val, hi0 ▸ (i 0).isLt⟩ q := by blk_ext []
  rw [hi]
  exact dout_block _ _ _ _ p q

include h0 h1 h2 h3

/-- The array of gradients at the convolution's normed output. -/
theorem dyc_array : (dats m 0 c).arrAt 4 cfg0.N = up fun i => dyc D W (i 0) (i 1) := by
  refine (dats m 0 c).arrAt_eq_of_covers 4 _ (by decide +kernel) fun t _ y => ?_
  blk_simp
  rw [after0_4]
  have hi : ∀ a, ((((View.whole main_v2_0).slice (win0_4.rect t)).emb y) a : ℕ) = win0_4.index t a * ![512, 512] a + y a := by
    intro a; fin_cases a <;> blk_simp
  have hi0 := hi 0
  have hi1 := hi 1
  rw [(idx t).2.2.2.2.1] at hi0 hi1
  rcases em (t.val % 4 = 0) with ht | ht
  · rw [outsAt0_A m c t ht]; frame_out
    simp only [blk0 m c D h0, blk1 m c O h1, blk2 m c G h2, blk3 m c W h3, ld_half]
    exact dyc_point D W t y _ hi0 (by simpa using hi1)
  · rw [outsAt0_B m c t ht]; frame_out
    simp only [blk0 m c D h0, blk1 m c O h1, blk2 m c G h2, blk3 m c W h3, ld_half]
    exact dyc_point D W t y _ hi0 (by simpa using hi1)

/-- The array of gradients at the attention's output. -/
theorem dout_array : (dats m 0 c).arrAt 5 cfg0.N = up fun i => dout D O G W (i 0) (i 1) := by
  refine (dats m 0 c).arrAt_eq_of_covers 5 _ (by decide +kernel) fun t _ y => ?_
  blk_simp
  rw [after0_5]
  have hi : ∀ a, ((((View.whole main_v2_1).slice (win0_5.rect t)).emb y) a : ℕ) = win0_5.index t a * ![512, 512] a + y a := by
    intro a; fin_cases a <;> blk_simp
  have hi0 := hi 0
  have hi1 := hi 1
  rw [(idx t).2.2.2.2.2.1] at hi0 hi1
  rcases em (t.val % 4 = 0) with ht | ht
  · rw [outsAt0_A m c t ht]; frame_out
    simp only [blk0 m c D h0, blk1 m c O h1, blk2 m c G h2, blk3 m c W h3, ld_half]
    exact dout_point D O G W t y _ hi0 (by simpa using hi1)
  · rw [outsAt0_B m c t ht]; frame_out
    simp only [blk0 m c D h0, blk1 m c O h1, blk2 m c G h2, blk3 m c W h3, ld_half]
    exact dout_point D O G W t y _ hi0 (by simpa using hi1)

/-- The row of the gradient at the norm's scale. -/
theorem dg_array : (dats m 0 c).arrAt 6 cfg0.N = up fun i => dg D O W (i 1) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [blk0 m c D h0, blk1 m c O h1, blk3 m c W h3, ld_half, dg_block, zero3])
    (fun t h j => by rw [outsAt0_B m c t h]; frame_out; rw [blk0 m c D h0, blk1 m c O h1, blk3 m c W h3, ld_half, dg_block])
    (le_of_eq N_0) t0_3 rfl j, zero_add]
  refine (sum_up _ _).trans (congrArg _ ?_)
  refine Fin.sum_mul_add_congr fun s k hl => ?_
  rfl

end Cert.OutKernelIdeal.Arrays
end
-- ==== Proof.OutRef.lean ====
/- What the reference of the output projection computes from real arrays. -/
module

public import proofs.«01_k».proof.Proof.OutMath
public import proofs.«01_k».proof.Proof.Gen.OutReferenceIdeal.Read

@[expose] public section

set_option maxRecDepth 16384
noncomputable section
open Idealize.ShloMosaic Idealize.ShloMosaic.TcCoe Idealize.SL.Sem

namespace Cert.OutReferenceIdeal.Read
open Cert.OutReferenceIdeal Cert.OutReferenceIdeal.Gen Cert.Reals Cert.Rms Cert.OutMath

variable (D : S2048x1024.Idx → ℝ) (O : S2048x512.Idx → ℝ) (G : S1x512.Idx → ℝ) (W : S1024x1024.Idx → ℝ)

theorem v8_up (a : Fin 2048) (b : Fin 1) : val_main_v8 (F := Ideal) (up O) (ix2 a b) = (ms 512 (row O a) : ℝ) := by
  pointwise [val_main_v8, val_main_v7, val_main_v6, val_main_v5, val_main_v4, val_main_v3, val_main_v2, val_main_cst_0, val_main_cst_1, val_main_cst_2]
  simp only [up, bits_512, bits_eps, ← EReal.coe_mul, sum_up, div_512, ← EReal.coe_add]
  rfl

theorem v9_up (a : Fin 2048) (b : Fin 1) : val_main_v9 (F := Ideal) (up O) (ix2 a b) = (inv 512 (row O a) : ℝ) := by
  pointwise [val_main_v9]
  rw [v8_up, rsqrt_up (ms_pos (by norm_num) _)]
  rfl

theorem v12_up (a : Fin 2048) (b : Fin 1) :
    val_main_v12 (F := Ideal) (up O) (ix2 a b) = ((-(1 / 2) * (inv 512 (row O a) / ms 512 (row O a)) : ℝ) : EReal) := by
  pointwise [val_main_v12, val_main_v11, val_main_v10, val_main_cst_3]
  rw [v8_up, v9_up, bits_neg_half, div_up _ (ms_pos (by norm_num) _).ne', ← EReal.coe_mul]

theorem v20_up (a : Fin 2048) (b : Fin 1024) : val_main_v20 (F := Ideal) (up D) (up W) (ix2 a b) = (dy D W a b : ℝ) := by
  pointwise [val_main_v20]
  simp only [up, ← EReal.coe_mul, sum_up]
  rfl

theorem v22_up (a : Fin 2048) (b : Fin 512) : val_main_v22 (F := Ideal) (up D) (up W) (ix2 a b) = (dya D W a b : ℝ) := by
  pointwise [val_main_v22]
  exact v20_up D W a _

theorem v27_up (a : Fin 2048) (b : Fin 512) :
    val_main_v27 (F := Ideal) (up D) (up G) (up W) (ix2 a b) = ((dya D W a b * G (ix2 0 b) : ℝ) : EReal) := by
  pointwise [val_main_v27, val_main_v26, val_main_v15, val_main_v1]
  rw [v22_up, up, ← EReal.coe_mul]

/-- The reference's three gradients. -/
theorem dyc_up (a : Fin 2048) (b : Fin 512) : val_main_v21 (F := Ideal) (up D) (up W) (ix2 a b) = (dyc D W a b : ℝ) := by
  pointwise [val_main_v21]
  exact v20_up D W a _

theorem dout_up (a : Fin 2048) (b : Fin 512) : val_main_v42 (F := Ideal) (up D) (up O) (up G) (up W) (ix2 a b) = (dout D O G W a b : ℝ) := by
  pointwise [val_main_v42, val_main_v41, val_main_v40, val_main_v39, val_main_v38, val_main_v37, val_main_v36, val_main_v35, val_main_v34, val_main_v33, val_main_v32, val_main_v31, val_main_v30, val_main_v29, val_main_cst_6, val_main_cst_7, val_main_cst_8]
  simp only [v27_up, v9_up, v12_up, up, bits_512, ← EReal.coe_mul, sum_up, div_512, ← EReal.coe_add, Finset.univ_unique, Finset.sum_singleton]
  rw [dout, ← grad_eq (by norm_num)]

theorem dg_up (a : Fin 1) (b : Fin 512) : val_main_v43 (F := Ideal) (up D) (up O) (up W) (ix2 a b) = (dg D O W b : ℝ) := by
  pointwise [val_main_v43, val_main_v28, val_main_v25, val_main_v24, val_main_v23, val_main_v14, val_main_v13, val_main_cst_4, val_main_cst_5]
  simp only [v22_up, v9_up, up, ← EReal.coe_mul, sum_up, Finset.univ_unique, Finset.sum_singleton]
  rw [dg]
  exact congrArg _ (Finset.sum_congr rfl fun a _ => by ring)

/-! ## The three results as arrays -/

theorem dyc_of : val_main_v21 (F := Ideal) (up D) (up W) = up fun i => dyc D W (i 0) (i 1) := by
  funext j
  idx_vars j
  exact dyc_up D W _ _

theorem dout_of : val_main_v42 (F := Ideal) (up D) (up O) (up G) (up W) = up fun i => dout D O G W (i 0) (i 1) := by
  funext j
  idx_vars j
  exact dout_up D O G W _ _

theorem dg_of : val_main_v43 (F := Ideal) (up D) (up O) (up W) = up fun i => dg D O W (i 1) := by
  funext j
  idx_vars j
  exact dg_up D O W _ _

end Cert.OutReferenceIdeal.Read
end
-- ==== Proof.OutClaim.lean ====
/- The claims about the output projection's backward kernel. -/
module

public import proofs.«01_k».proof.Defs
public import proofs.«01_k».proof.Proof.OutKernel
public import proofs.«01_k».proof.Proof.OutRef
public import proofs.«01_k».proof.Proof.Gen.OutKernel.Frame
public import proofs.«01_k».proof.Proof.Gen.OutKernelIdeal.Frame
public import proofs.«01_k».proof.Proof.Gen.OutReferenceIdeal.Run
public import Idealize.ShloMosaic.Lib.Quiescent

@[expose] public section

set_option maxRecDepth 16384
noncomputable section
open Idealize.ShloMosaic Idealize.ShloMosaic.TcCoe Idealize.SL.Sem

namespace Cert.OutClaim
open Cert.Reals Cert.OutMath

instance facts_pre : Cert.Pre_out_finite.Facts := by
  constructor <;> decide +kernel

/-- The precondition gives the arguments as real arrays. -/
theorem reals (m) (h : Cert.Pre_OutKernelIdeal_out_finite m) (c : Dev Cert.OutKernelIdeal.nD) :
    ∃ D O G W, m ((c.tc : Thread _ Cert.OutKernelIdeal.τ).loc Cert.OutKernelIdeal.main_arg0) = up D
      ∧ m ((c.tc : Thread _ Cert.OutKernelIdeal.τ).loc Cert.OutKernelIdeal.main_arg1) = up O
      ∧ m ((c.tc : Thread _ Cert.OutKernelIdeal.τ).loc Cert.OutKernelIdeal.main_arg2) = up G
      ∧ m ((c.tc : Thread _ Cert.OutKernelIdeal.τ).loc Cert.OutKernelIdeal.main_arg3) = up W := by
  obtain ⟨h0, h1, h2, h3⟩ := h c
  obtain ⟨D, eD⟩ := reals_of_test _ _ _ h0
  obtain ⟨O, eO⟩ := reals_of_test _ _ _ h1
  obtain ⟨G, eG⟩ := reals_of_test _ _ _ h2
  obtain ⟨W, eW⟩ := reals_of_test _ _ _ h3
  exact ⟨D, O, G, W, eD, eO, eG, eW⟩

/-- The reference declares no semaphore, so its run leaves every counter at zero. -/
theorem frame_ref : Cert.quiescent_OutReferenceIdeal (hOutReferenceIdeal := Cert.OutReferenceIdeal.Gen.facts) := fun m g _ =>
  (θ_run _ _ _).mono (fun r h => ⟨fun c => (h c).2.2.2, sem_eq_zero_of_no_sems (by decide) r.2⟩) (Cert.OutReferenceIdeal.Value.run (F := Ideal) m g)

/-- The two programs end with equal results. -/
theorem algebraic : Cert.algebraic_OutKernelIdeal_OutReferenceIdeal_pre_out_finite
    (hOutKernelIdeal := Cert.OutKernelIdeal.Gen.facts) (hOutReferenceIdeal := Cert.OutReferenceIdeal.Gen.facts) := by
  intro m g m' g' hpre hag
  refine ⟨fun c => _, fun c => _, fun c => _, Cert.OutKernelIdeal.Value.run_blocks m g, ?_⟩
  refine (θ_run _ _ _).mono (fun r h c => ?_) (Cert.OutReferenceIdeal.Value.run m' g')
  obtain ⟨D, O, G, W, eD, eO, eG, eW⟩ := reals m hpre c
  obtain ⟨a0, a1, a2, a3⟩ := hag c
  obtain ⟨r0, r1, r2, k⟩ := h c
  refine ⟨r0.trans ?_, r1.trans ?_, r2.trans ?_, k⟩
  · rw [Cert.OutReferenceIdeal.Read.val_main_v21_eq, a0, a3, eD, eW]
    exact (Cert.OutReferenceIdeal.Read.dyc_of D W).trans (Cert.OutKernelIdeal.Arrays.dyc_array m c D O G W eD eO eG eW).symm
  · rw [Cert.OutReferenceIdeal.Read.val_main_v42_eq, a0, a1, a2, a3, eD, eO, eG, eW]
    exact (Cert.OutReferenceIdeal.Read.dout_of D O G W).trans (Cert.OutKernelIdeal.Arrays.dout_array m c D O G W eD eO eG eW).symm
  · rw [Cert.OutReferenceIdeal.Read.val_main_v43_eq, a0, a1, a3, eD, eO, eW]
    exact (Cert.OutReferenceIdeal.Read.dg_of D O W).trans (Cert.OutKernelIdeal.Arrays.dg_array m c D O G W eD eO eG eW).symm

end Cert.OutClaim
end
-- ==== Proof.MixMath.lean ====
/- The gradients of the input projection with its norm, over real arrays. -/
module

public import proofs.«01_k».proof.Proof.Rms

@[expose] public section

noncomputable section

namespace Cert.MixMath

open Idealize.ShloMosaic Cert.Rms

abbrev Proj := (⟨2, ![2048, 2568]⟩ : Shape).Idx → ℝ
abbrev Tok := (⟨2, ![2048, 1024]⟩ : Shape).Idx → ℝ
abbrev Scale := (⟨2, ![1, 1024]⟩ : Shape).Idx → ℝ
abbrev Wt := (⟨2, ![1024, 2568]⟩ : Shape).Idx → ℝ

/-- One token's row. -/
abbrev row (X : Tok) (a : Fin 2048) : Fin 1024 → ℝ := fun k => X (ix2 a k)

/-- The gradient at the normed row: the projection's gradient times the transposed weights. -/
def dh (D : Proj) (W : Wt) (a : Fin 2048) (b : Fin 1024) : ℝ := ∑ k, D (ix2 a k) * W (ix2 b k)

/-- The gradient at the block's input. -/
def dx (D : Proj) (E X : Tok) (G : Scale) (W : Wt) (a : Fin 2048) (b : Fin 1024) : ℝ :=
  E (ix2 a b) + grad 1024 (row X a) (fun k => dh D W a k * G (ix2 0 k)) b

/-- The gradient at the norm's scale. -/
def dg (D : Proj) (X : Tok) (W : Wt) (b : Fin 1024) : ℝ := ∑ a, dh D W a b * X (ix2 a b) * inv 1024 (row X a)

/-- A sum over the projection's columns, in the three pieces that the kernel's products take:
the last piece is widened to 128 columns by zeros. -/
theorem sum_pieces (f : Fin 2568 → ℝ) :
    (∑ k : Fin 1024, f ⟨k.val, by omega⟩) + (∑ k : Fin 1536, f ⟨1024 + k.val, by omega⟩)
        + (∑ k : Fin 128, if h : k.val < 8 then f ⟨2560 + k.val, by omega⟩ else 0)
      = ∑ k, f k := by
  have h8 : (∑ k : Fin 128, if h : k.val < 8 then f ⟨2560 + k.val, by omega⟩ else 0) = ∑ k : Fin 8, f ⟨2560 + k.val, by omega⟩ := by
    refine (Fin.sum_univ_add (a := 8) (b := 120) _).trans ?_
    refine (congrArg₂ (· + ·) (Finset.sum_congr rfl fun k _ => dif_pos k.isLt)
      (Finset.sum_eq_zero fun k _ => dif_neg (by simp))).trans ?_
    exact add_zero _
  rw [h8]
  exact ((Fin.sum_univ_add (a := 2560) (b := 8) f).trans
    (congrArg (· + _) (Fin.sum_univ_add (a := 1024) (b := 1536) fun k => f (Fin.castAdd 8 k)))).symm

end Cert.MixMath

end
-- ==== Proof.MixKernel.lean ====
/- What the input projection's backward kernel leaves in its two arrays, from real arrays. -/
module

public import proofs.«01_k».proof.Proof.MixMath
public import proofs.«01_k».proof.Proof.Gen.MixKernelIdeal.Value
public import Idealize.ShloMosaic.Lib.Claim

@[expose] public section

set_option maxRecDepth 16384
noncomputable section
open Idealize.ShloMosaic Idealize.ShloMosaic.TcCoe Idealize.SL.Sem

namespace Cert.MixKernelIdeal.Arrays
open Cert.MixKernelIdeal Cert.MixKernelIdeal.Gen Cert.Reals Cert.Rms Cert.MixMath

/-! ## One block of rows -/

section Block
variable (d1 : S512x1024.Idx → ℝ) (w1 : S1024x1024.Idx → ℝ) (d2 : S512x1536.Idx → ℝ) (w2 : S1536x1024.Idx → ℝ)
  (d3 : S512x128.Idx → ℝ) (w3 : S128x1024.Idx → ℝ) (x e : S512x1024.Idx → ℝ) (g : S1x1024.Idx → ℝ)

/-- One row of a block. -/
abbrev brow (p : Fin 512) : Fin 1024 → ℝ := fun k => x (ix2 p k)

/-- The three products' sum. -/
def bdh (p : Fin 512) (q : Fin 1024) : ℝ :=
  (∑ k, d1 (ix2 p k) * w1 (ix2 k q)) + (∑ k, d2 (ix2 p k) * w2 (ix2 k q)) + ∑ k, d3 (ix2 p k) * w3 (ix2 k q)

theorem dh_block (p : Fin 512) (q : Fin 1024) :
    k0_pay4 (F := Ideal) (up d1) (up w1) (up d2) (up w2) (up d3) (up w3) (ix2 p q) = (bdh d1 w1 d2 w2 d3 w3 p q : ℝ) := by
  pointwise [k0_pay4]
  simp only [up, ← EReal.coe_mul, sum_up, ← EReal.coe_add]
  rfl

theorem inv_block (p : Fin 512) (q : Fin 1) : k0_pay5 (F := Ideal) (up x) (ix2 p q) = (inv 1024 (brow x p) : ℝ) := by
  pointwise [k0_pay5]
  simp only [up, bits_1024, bits_eps, ← EReal.coe_mul, sum_up, div_1024, ← EReal.coe_add]
  exact rsqrt_up (ms_pos (by norm_num) (brow x p))

theorem dhg_block (p : Fin 512) (q : Fin 1024) :
    k0_pay6 (F := Ideal) (up d1) (up w1) (up d2) (up w2) (up d3) (up w3) (up g) (ix2 p q)
      = ((bdh d1 w1 d2 w2 d3 w3 p q * g (ix2 0 q) : ℝ) : EReal) := by
  pointwise [k0_pay6]
  rw [dh_block, up, ← EReal.coe_mul]

/-- A block's gradient at the block's input. -/
theorem dx_block (p : Fin 512) (q : Fin 1024) :
    k0_pay1 (F := Ideal) (up x) (k0_pay5 (up x)) (k0_pay6 (up d1) (up w1) (up d2) (up w2) (up d3) (up w3) (up g))
        (k0_pay7 (up d1) (up w1) (up d2) (up w2) (up d3) (up w3) (up x) (up g)) (up e) (ix2 p q)
      = ((e (ix2 p q) + grad 1024 (brow x p) (fun k => bdh d1 w1 d2 w2 d3 w3 p k * g (ix2 0 k)) q : ℝ) : EReal) := by
  pointwise [k0_pay1, k0_pay7]
  simp only [inv_block, dhg_block, up, bits_1024, ← EReal.coe_mul, sum_up, div_1024, ← EReal.coe_sub, ← EReal.coe_add]
  rfl

/-- A block's share of the gradient at the norm's scale is added to what the row held. -/
theorem dg_block (acc : Vec Ideal S1x1024 .f32) (j : S1x1024.Idx) :
    k0_pay2 (F := Ideal) (k0_pay4 (up d1) (up w1) (up d2) (up w2) (up d3) (up w3)) (up x) (k0_pay5 (up x)) acc j
      = acc j + ((∑ p : Fin 512, bdh d1 w1 d2 w2 d3 w3 p (j 1) * x (ix2 p (j 1)) * inv 1024 (brow x p) : ℝ) : EReal) := by
  idx_vars j
  pointwise [k0_pay2]
  simp only [dh_block, inv_block, up, ← EReal.coe_mul, sum_up]

end Block

theorem sitofp_zero_up : (FloatOps.sitofp (F := Ideal) FTy.bf16 (0#32) : EReal) = ((0 : ℝ) : EReal) := by
  show ((((0#32 : BitVec 32).toInt : ℤ) : ℝ) : EReal) = _
  simp

/-! ## The arrays that the host prepares -/

variable (m : (ℓ : Loc nD τ sig) → Buf (Elt Ideal) ℓ) (c : Dev nD)
variable (D : S2048x2568.Idx → ℝ) (E X : S2048x1024.Idx → ℝ) (G : S1x1024.Idx → ℝ) (W : S1024x2568.Idx → ℝ)

/-- The projection's gradient, widened by 120 columns of zeros. -/
def wide (D : S2048x2568.Idx → ℝ) : S2048x2688.Idx → ℝ := fun i => if h : (i 1).val < 2568 then D (ix2 (i 0) ⟨(i 1).val, h⟩) else 0

/-- The transposed weights of the convolution's columns. -/
def wag (W : S1024x2568.Idx → ℝ) : S1024x1024.Idx → ℝ := fun i => W (ix2 (i 1) ⟨(i 0).val, by have := (i 0).isLt; change _ < 1024 at this; omega⟩)

/-- Of the attention's columns. -/
def wqkv (W : S1024x2568.Idx → ℝ) : S1536x1024.Idx → ℝ := fun i => W (ix2 (i 1) ⟨1024 + (i 0).val, by have := (i 0).isLt; change _ < 1536 at this; omega⟩)

/-- Of the forget gates' columns, with 120 rows of zeros. -/
def wf (W : S1024x2568.Idx → ℝ) : S128x1024.Idx → ℝ := fun i => if h : (i 0).val < 8 then W (ix2 (i 1) ⟨2560 + (i 0).val, by omega⟩) else 0

theorem wide_of : pad S2048x2688 ![0, 0] ![0, 120] ![0, 0] (truncf (F := Ideal) .bf16 (up D) bitsLt_bf16_f32)
    (sitofp (F := Ideal) .bf16 (constantI S_ 32 0#32)) pads_S2048x2568_S2048x2688_000_01200 h_S_ = up (wide D) := by
  funext j
  idx_vars j
  pointwise [wide, up]
  split
  · rfl
  · exact sitofp_zero_up

theorem wag_of : extractStridedSlice S1024x1024 ![0, 0] (transpose S2568x1024 [1, 0] (truncf (F := Ideal) .bf16 (up W) bitsLt_bf16_f32)
    transposes_S1024x2568_S2568x1024_1_0) slices_S2568x1024_S1024x1024_0_0 = up (wag W) := by
  funext j
  idx_vars j
  pointwise [wag, up]
  try rfl

theorem wqkv_of : extractStridedSlice S1536x1024 ![1024, 0] (transpose S2568x1024 [1, 0] (truncf (F := Ideal) .bf16 (up W) bitsLt_bf16_f32)
    transposes_S1024x2568_S2568x1024_1_0) slices_S2568x1024_S1536x1024_1024_0 = up (wqkv W) := by
  funext j
  idx_vars j
  pointwise [wqkv, up]
  try rfl

theorem wf_of : pad S128x1024 ![0, 0] ![120, 0] ![0, 0] (extractStridedSlice S8x1024 ![2560, 0] (transpose S2568x1024 [1, 0]
    (truncf (F := Ideal) .bf16 (up W) bitsLt_bf16_f32) transposes_S1024x2568_S2568x1024_1_0) slices_S2568x1024_S8x1024_2560_0)
    (sitofp (F := Ideal) .bf16 (constantI S_ 32 0#32)) pads_S8x1024_S128x1024_01200_000 h_S_ = up (wf W) := by
  funext j
  idx_vars j
  pointwise [wf, up]
  split
  · rfl
  · exact sitofp_zero_up

theorem V_v2 : V m c main_v2 = extractStridedSlice S1024x1024 ![0, 0] (transpose S2568x1024 [1, 0] (truncf (F := Ideal) .bf16
    (m ((c.tc : Thread nD τ).loc main_arg4)) bitsLt_bf16_f32) transposes_S1024x2568_S2568x1024_1_0) slices_S2568x1024_S1024x1024_0_0 := by
  simp only [V, hostOps0, hostOps0_1, hostOps0_2, hostOps0_3, List.flatten_cons, List.flatten_nil, List.append_nil, List.cons_append, List.nil_append]
  after_results

theorem V_v3 : V m c main_v3 = extractStridedSlice S1536x1024 ![1024, 0] (transpose S2568x1024 [1, 0] (truncf (F := Ideal) .bf16
    (m ((c.tc : Thread nD τ).loc main_arg4)) bitsLt_bf16_f32) transposes_S1024x2568_S2568x1024_1_0) slices_S2568x1024_S1536x1024_1024_0 := by
  simp only [V, hostOps0, hostOps0_1, hostOps0_2, hostOps0_3, List.flatten_cons, List.flatten_nil, List.append_nil, List.cons_append, List.nil_append]
  after_results

theorem V_v5 : V m c main_v5 = pad S128x1024 ![0, 0] ![120, 0] ![0, 0] (extractStridedSlice S8x1024 ![2560, 0] (transpose S2568x1024 [1, 0]
    (truncf (F := Ideal) .bf16 (m ((c.tc : Thread nD τ).loc main_arg4)) bitsLt_bf16_f32) transposes_S1024x2568_S2568x1024_1_0) slices_S2568x1024_S8x1024_2560_0)
    (sitofp (F := Ideal) .bf16 (constantI S_ 32 0#32)) pads_S8x1024_S128x1024_01200_000 h_S_ := by
  simp only [V, hostOps0, hostOps0_1, hostOps0_2, hostOps0_3, List.flatten_cons, List.flatten_nil, List.append_nil, List.cons_append, List.nil_append]
  after_results
  rfl

theorem V_v7 : V m c main_v7 = pad S2048x2688 ![0, 0] ![0, 120] ![0, 0] (truncf (F := Ideal) .bf16 (m ((c.tc : Thread nD τ).loc main_arg0)) bitsLt_bf16_f32)
    (sitofp (F := Ideal) .bf16 (constantI S_ 32 0#32)) pads_S2048x2568_S2048x2688_000_01200 h_S_ := by
  simp only [V, hostOps0, hostOps0_1, hostOps0_2, hostOps0_3, List.flatten_cons, List.flatten_nil, List.append_nil, List.cons_append, List.nil_append]
  after_results
  rfl

/-! ## The blocks -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ t.val < 4 :=
  (by decide +kernel : ∀ t : Fin grid0.N, _)

/-- The rows of an array that point `t`'s block holds. -/
abbrev rows {w : ℕ} (X : (⟨2, ![2048, w]⟩ : Shape).Idx → ℝ) (t : Fin cfg0.N) : (⟨2, ![512, w]⟩ : Shape).Idx → ℝ :=
  fun y => X (ix2 ⟨t.val * 512 + (y 0).val, by have := (idx t).2.2.2.2.2.2.2.2; have := (y 0).isLt; show _ < 2048; change _ < 512 at this; omega⟩ (y 1))

/-- Some columns of a block. -/
abbrev cols (r n : ℕ) (hr : r + n ≤ 2688) (d : S512x2688.Idx → ℝ) : (⟨2, ![512, n]⟩ : Shape).Idx → ℝ :=
  fun y => d (ix2 (y 0) ⟨r + (y 1).val, by have := (y 1).isLt; change _ < n at this; show _ < 2688; omega⟩)

theorem ld_cols (d : S512x2688.Idx → ℝ) (r n : ℕ) (inb : ∀ a, (![0, r] : Fin 2 → ℕ) a + (![512, n] : Fin 2 → ℕ) a ≤ S512x2688.size a) :
    View.ld (Val := Elt Ideal) (e' := .bf16) (up d) (Rect.unit (s := S512x2688) ![0, r] ![512, n] inb) = up (cols r n (by simpa using inb 1) d) := by
  funext y
  refine congrArg (up d) ?_
  funext a
  fin_cases a <;> exact Fin.ext (by simp [ix2])

/-- The kernel's three products over a block's columns are the one product over the projection's columns. -/
theorem bdh_eq (t : Fin cfg0.N) (p : Fin 512) (q : Fin 1024) :
    bdh (cols 0 1024 (by decide) (rows (wide D) t)) (wag W) (cols 1024 1536 (by decide) (rows (wide D) t)) (wqkv W)
        (cols 2560 128 (by decide) (rows (wide D) t)) (wf W) p q
      = dh D W ⟨t.val * 512 + p.val, by have := (idx t).2.2.2.2.2.2.2.2; omega⟩ q := by
  unfold dh bdh
  rw [← sum_pieces]
  refine congrArg₂ (· + ·) (congrArg₂ (· + ·) (Finset.sum_congr rfl fun k _ => ?_) (Finset.sum_congr rfl fun k _ => ?_)) (Finset.sum_congr rfl fun k _ => ?_)
  · have hk : 0 + k.val < 2568 := by omega
    refine congrArg₂ (· * ·) ((dif_pos hk).trans (congrArg D (congrArg _ (Fin.ext (Nat.zero_add _))))) rfl
  · have hk : 1024 + k.val < 2568 := by omega
    exact congrArg (· * _) (dif_pos hk)
  · rcases em (k.val < 8) with h | h
    · rw [dif_pos h]
      have hk : 2560 + k.val < 2568 := by omega
      exact congrArg₂ (· * ·) (dif_pos hk) (dif_pos h)
    · rw [dif_neg h]
      exact (congrArg (_ * ·) (dif_neg h)).trans (mul_zero _)

variable (h0 : m ((c.tc : Thread nD τ).loc main_arg0) = up D) (h1 : m ((c.tc : Thread nD τ).loc main_arg1) = up E)
  (h2 : m ((c.tc : Thread nD τ).loc main_arg2) = up X) (h3 : m ((c.tc : Thread nD τ).loc main_arg3) = up G)
  (h4 : m ((c.tc : Thread nD τ).loc main_arg4) = up W)

include h0 in
theorem blk0 (t : Fin cfg0.N) : iblk m c 0 t = up (rows (wide D) t) := by
  funext y
  refine Eq.trans ?_ (congrFun ((V_v7 m c).trans ((congrArg (fun x => pad S2048x2688 ![0, 0] ![0, 120] ![0, 0] (truncf (F := Ideal) .bf16 x bitsLt_bf16_f32)
    (sitofp (F := Ideal) .bf16 (constantI S_ 32 0#32)) pads_S2048x2568_S2048x2688_000_01200 h_S_) h0).trans (wide_of D))) _)
  blk_ext [iblk, idx t]

include h1 in
theorem blk1 (t : Fin cfg0.N) : iblk m c 1 t = up (rows E t) := by
  funext y
  refine Eq.trans ?_ (congrFun ((V_main_arg1 m c).trans h1) _)
  blk_ext [iblk, idx t]

include h2 in
theorem blk2 (t : Fin cfg0.N) : iblk m c 2 t = up (rows X t) := by
  funext y
  refine Eq.trans ?_ (congrFun ((V_main_arg2 m c).trans h2) _)
  blk_ext [iblk, idx t]

include h3 in
theorem blk3 (t : Fin cfg0.N) : iblk m c 3 t = up G := by
  funext y
  refine Eq.trans ?_ (congrFun ((V_main_arg3 m c).trans h3) _)
  blk_ext [iblk, idx t]

include h4 in
theorem blk4 (t : Fin cfg0.N) : iblk m c 4 t = up (wag W) := by
  have hv : V m c main_v2 = up (wag W) := by rw [V_v2, h4]; exact wag_of W
  funext y
  refine Eq.trans ?_ (congrFun hv _)
  blk_ext [iblk, idx t]

include h4 in
theorem blk5 (t : Fin cfg0.N) : iblk m c 5 t = up (wqkv W) := by
  have hv : V m c main_v3 = up (wqkv W) := by rw [V_v3, h4]; exact wqkv_of W
  funext y
  refine Eq.trans ?_ (congrFun hv _)
  blk_ext [iblk, idx t]

include h4 in
theorem blk6 (t : Fin cfg0.N) : iblk m c 6 t = up (wf W) := by
  have hv : V m c main_v5 = up (wf W) := by rw [V_v5, h4]; exact wf_of W
  funext y
  refine Eq.trans ?_ (congrFun hv _)
  blk_ext [iblk, idx t]

theorem zero3 (j : S1x1024.Idx) : k0_pay3 (F := Ideal) j = 0 := by pointwise [k0_pay3]

/-- A block's values are the array's, at the block's rows. -/
theorem dx_point (t : Fin cfg0.N) (y : S512x1024.Idx) (i : S2048x1024.Idx) (hi0 : (i 0 : ℕ) = t.val * 512 + y 0) (hi1 : (i 1 : ℕ) = y 1) :
    k0_pay1 (F := Ideal) (up (rows X t)) (k0_pay5 (up (rows X t)))
        (k0_pay6 (up (cols 0 1024 (by decide) (rows (wide D) t))) (up (wag W)) (up (cols 1024 1536 (by decide) (rows (wide D) t))) (up (wqkv W))
          (up (cols 2560 128 (by decide) (rows (wide D) t))) (up (wf W)) (up G))
        (k0_pay7 (up (cols 0 1024 (by decide) (rows (wide D) t))) (up (wag W)) (up (cols 1024 1536 (by decide) (rows (wide D) t))) (up (wqkv W))
          (up (cols 2560 128 (by decide) (rows (wide D) t))) (up (wf W)) (up (rows X t)) (up G)) (up (rows E t)) y
      = up (fun i => dx D E X G W (i 0) (i 1)) i := by
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 ⟨t.val * 512 + p.val, hi0 ▸ (i 0).isLt⟩ q := by blk_ext []
  rw [hi, dx_block]
  simp only [bdh_eq]
  rfl

include h0 h1 h2 h3 h4

/-- The array of gradients at the block's input. -/
theorem dx_array : (dats m 0 c).arrAt 7 cfg0.N = up fun i => dx D E X G W (i 0) (i 1) := by
  refine (dats m 0 c).arrAt_eq_of_covers 7 _ (by decide +kernel) fun t _ y => ?_
  blk_simp
  rw [after0_7]
  have hi : ∀ a, ((((View.whole main_v8_0).slice (win0_7.rect t)).emb y) a : ℕ) = win0_7.index t a * ![512, 1024] a + y a := by
    intro a; fin_cases a <;> blk_simp
  have hi0 := hi 0
  have hi1 := hi 1
  rw [(idx t).2.2.2.2.2.2.2.1] at hi0 hi1
  rcases em (t.val % 4 = 0) with ht | ht
  · rw [outsAt0_A m c t ht]; frame_out
    simp only [blk0 m c D h0, blk1 m c E h1, blk2 m c X h2, blk3 m c G h3, blk4 m c W h4, blk5 m c W h4, blk6 m c W h4, ld_cols]
    exact dx_point D E X G W t y _ hi0 (by simpa using hi1)
  · rw [outsAt0_B m c t ht]; frame_out
    simp only [blk0 m c D h0, blk1 m c E h1, blk2 m c X h2, blk3 m c G h3, blk4 m c W h4, blk5 m c W h4, blk6 m c W h4, ld_cols]
    exact dx_point D E X G W t y _ hi0 (by simpa using hi1)

/-- The row of the gradient at the norm's scale. -/
theorem dg_array : (dats m 0 c).arrAt 8 cfg0.N = up fun i => dg D X W (i 1) := by
  refine (dats m 0 c).arrAt_eq_of_after_last 8 t0_3 (by decide +kernel) _ fun j => ?_
  blk_simp
  rw [after0_8, Pipeline.eq_sum_fin_of_reset_step_apply_last (fun n h => (outsAt0 m c n h).2) 4 (fun _ => 0) _
    (fun t h j => by rw [outsAt0_A m c t h]; frame_out; rw [blk0 m c D h0, blk2 m c X h2, blk4 m c W h4, blk5 m c W h4, blk6 m c W h4, ld_cols, ld_cols, ld_cols, dg_block, zero3])
    (fun t h j => by rw [outsAt0_B m c t h]; frame_out; rw [blk0 m c D h0, blk2 m c X h2, blk4 m c W h4, blk5 m c W h4, blk6 m c W h4, ld_cols, ld_cols, ld_cols, dg_block])
    (le_of_eq N_0) t0_3 rfl j, zero_add]
  refine (sum_up _ _).trans (congrArg _ ?_)
  refine Fin.sum_mul_add_congr fun s k hl => ?_
  exact congrArg (fun z => z * X _ * Cert.Rms.inv 1024 _) (bdh_eq D W s k (j 1))

end Cert.MixKernelIdeal.Arrays
end
-- ==== Proof.MixRef.lean ====
/- What the reference of the input projection computes from real arrays. -/
module

public import proofs.«01_k».proof.Proof.MixMath
public import proofs.«01_k».proof.Proof.Gen.MixReferenceIdeal.Read

@[expose] public section

set_option maxRecDepth 16384
noncomputable section
open Idealize.ShloMosaic Idealize.ShloMosaic.TcCoe Idealize.SL.Sem

namespace Cert.MixReferenceIdeal.Read
open Cert.MixReferenceIdeal Cert.MixReferenceIdeal.Gen Cert.Reals Cert.Rms Cert.MixMath

variable (D : S2048x2568.Idx → ℝ) (E X : S2048x1024.Idx → ℝ) (G : S1x1024.Idx → ℝ) (W : S1024x2568.Idx → ℝ)

theorem v7_up (a : Fin 2048) (b : Fin 1) : val_main_v7 (F := Ideal) (up X) (ix2 a b) = (ms 1024 (row X a) : ℝ) := by
  pointwise [val_main_v7, val_main_v6, val_main_v5, val_main_v4, val_main_v3, val_main_v2, val_main_v1, val_main_cst, val_main_cst_0, val_main_cst_1]
  simp only [up, bits_1024, bits_eps, ← EReal.coe_mul, sum_up, div_1024, ← EReal.coe_add]
  rfl

theorem v8_up (a : Fin 2048) (b : Fin 1) : val_main_v8 (F := Ideal) (up X) (ix2 a b) = (inv 1024 (row X a) : ℝ) := by
  pointwise [val_main_v8]
  rw [v7_up, rsqrt_up (ms_pos (by norm_num) _)]
  rfl

theorem v11_up (a : Fin 2048) (b : Fin 1) :
    val_main_v11 (F := Ideal) (up X) (ix2 a b) = ((-(1 / 2) * (inv 1024 (row X a) / ms 1024 (row X a)) : ℝ) : EReal) := by
  pointwise [val_main_v11, val_main_v10, val_main_v9, val_main_cst_2]
  rw [v7_up, v8_up, bits_neg_half, div_up _ (ms_pos (by norm_num) _).ne', ← EReal.coe_mul]

theorem v18_up (a : Fin 2048) (b : Fin 1024) : val_main_v18 (F := Ideal) (up D) (up W) (ix2 a b) = (dh D W a b : ℝ) := by
  pointwise [val_main_v18]
  simp only [up, ← EReal.coe_mul, sum_up]
  rfl

theorem v23_up (a : Fin 2048) (b : Fin 1024) :
    val_main_v23 (F := Ideal) (up D) (up G) (up W) (ix2 a b) = ((dh D W a b * G (ix2 0 b) : ℝ) : EReal) := by
  pointwise [val_main_v23, val_main_v22, val_main_v14, val_main_v0]
  rw [v18_up, up, ← EReal.coe_mul]

/-- The reference's two gradients. -/
theorem dx_up (a : Fin 2048) (b : Fin 1024) :
    val_main_v39 (F := Ideal) (up D) (up E) (up X) (up G) (up W) (ix2 a b) = (dx D E X G W a b : ℝ) := by
  pointwise [val_main_v39, val_main_v38, val_main_v37, val_main_v36, val_main_v35, val_main_v34, val_main_v33, val_main_v32, val_main_v31, val_main_v30, val_main_v29, val_main_v28, val_main_v27, val_main_v26, val_main_v25, val_main_cst_5, val_main_cst_6, val_main_cst_7]
  simp only [v23_up, v8_up, v11_up, up, bits_1024, ← EReal.coe_mul, sum_up, div_1024, ← EReal.coe_add, Finset.univ_unique, Finset.sum_singleton]
  rw [dx, ← grad_eq (by norm_num), ← add_assoc, ← add_assoc]

theorem dg_up (a : Fin 1) (b : Fin 1024) : val_main_v40 (F := Ideal) (up D) (up X) (up W) (ix2 a b) = (dg D X W b : ℝ) := by
  pointwise [val_main_v40, val_main_v24, val_main_v21, val_main_v20, val_main_v19, val_main_v13, val_main_v12, val_main_cst_3, val_main_cst_4]
  simp only [v18_up, v8_up, up, ← EReal.coe_mul, sum_up, Finset.univ_unique, Finset.sum_singleton]
  rw [dg]
  exact congrArg _ (Finset.sum_congr rfl fun a _ => by ring)

/-! ## The two results as arrays -/

theorem dx_of : val_main_v39 (F := Ideal) (up D) (up E) (up X) (up G) (up W) = up fun i => dx D E X G W (i 0) (i 1) := by
  funext j
  idx_vars j
  exact dx_up D E X G W _ _

theorem dg_of : val_main_v40 (F := Ideal) (up D) (up X) (up W) = up fun i => dg D X W (i 1) := by
  funext j
  idx_vars j
  exact dg_up D X W _ _

end Cert.MixReferenceIdeal.Read
end
-- ==== Proof.MixClaim.lean ====
/- The claims about the input projection's backward kernel. -/
module

public import proofs.«01_k».proof.Defs
public import proofs.«01_k».proof.Proof.MixKernel
public import proofs.«01_k».proof.Proof.MixRef
public import proofs.«01_k».proof.Proof.Gen.MixKernel.Frame
public import proofs.«01_k».proof.Proof.Gen.MixKernelIdeal.Frame
public import proofs.«01_k».proof.Proof.Gen.MixReferenceIdeal.Run
public import Idealize.ShloMosaic.Lib.Quiescent

@[expose] public section

set_option maxRecDepth 16384
noncomputable section
open Idealize.ShloMosaic Idealize.ShloMosaic.TcCoe Idealize.SL.Sem

namespace Cert.MixClaim
open Cert.Reals Cert.MixMath

instance facts_pre : Cert.Pre_mix_finite.Facts := by
  constructor <;> decide +kernel

/-- The precondition gives the arguments as real arrays. -/
theorem reals (m) (h : Cert.Pre_MixKernelIdeal_mix_finite m) (c : Dev Cert.MixKernelIdeal.nD) :
    ∃ D E X G W, m ((c.tc : Thread _ Cert.MixKernelIdeal.τ).loc Cert.MixKernelIdeal.main_arg0) = up D
      ∧ m ((c.tc : Thread _ Cert.MixKernelIdeal.τ).loc Cert.MixKernelIdeal.main_arg1) = up E
      ∧ m ((c.tc : Thread _ Cert.MixKernelIdeal.τ).loc Cert.MixKernelIdeal.main_arg2) = up X
      ∧ m ((c.tc : Thread _ Cert.MixKernelIdeal.τ).loc Cert.MixKernelIdeal.main_arg3) = up G
      ∧ m ((c.tc : Thread _ Cert.MixKernelIdeal.τ).loc Cert.MixKernelIdeal.main_arg4) = up W := by
  obtain ⟨h0, h1, h2, h3, h4⟩ := h c
  obtain ⟨D, eD⟩ := reals_of_test _ _ _ h0
  obtain ⟨E, eE⟩ := reals_of_test _ _ _ h1
  obtain ⟨X, eX⟩ := reals_of_test _ _ _ h2
  obtain ⟨G, eG⟩ := reals_of_test _ _ _ h3
  obtain ⟨W, eW⟩ := reals_of_test _ _ _ h4
  exact ⟨D, E, X, G, W, eD, eE, eX, eG, eW⟩

/-- The reference declares no semaphore, so its run leaves every counter at zero. -/
theorem frame_ref : Cert.quiescent_MixReferenceIdeal (hMixReferenceIdeal := Cert.MixReferenceIdeal.Gen.facts) := fun m g _ =>
  (θ_run _ _ _).mono (fun r h => ⟨fun c => (h c).2.2, sem_eq_zero_of_no_sems (by decide) r.2⟩) (Cert.MixReferenceIdeal.Value.run (F := Ideal) m g)

/-- The two programs end with equal results. -/
theorem algebraic : Cert.algebraic_MixKernelIdeal_MixReferenceIdeal_pre_mix_finite
    (hMixKernelIdeal := Cert.MixKernelIdeal.Gen.facts) (hMixReferenceIdeal := Cert.MixReferenceIdeal.Gen.facts) := by
  intro m g m' g' hpre hag
  refine ⟨fun c => _, fun c => _, Cert.MixKernelIdeal.Value.run_blocks m g, ?_⟩
  refine (θ_run _ _ _).mono (fun r h c => ?_) (Cert.MixReferenceIdeal.Value.run m' g')
  obtain ⟨D, E, X, G, W, eD, eE, eX, eG, eW⟩ := reals m hpre c
  obtain ⟨a0, a1, a2, a3, a4⟩ := hag c
  obtain ⟨r0, r1, k⟩ := h c
  refine ⟨r0.trans ?_, r1.trans ?_, k⟩
  · rw [Cert.MixReferenceIdeal.Read.val_main_v39_eq, a0, a1, a2, a3, a4, eD, eE, eX, eG, eW]
    exact (Cert.MixReferenceIdeal.Read.dx_of D E X G W).trans (Cert.MixKernelIdeal.Arrays.dx_array m c D E X G W eD eE eX eG eW).symm
  · rw [Cert.MixReferenceIdeal.Read.val_main_v40_eq, a0, a2, a4, eD, eX, eW]
    exact (Cert.MixReferenceIdeal.Read.dg_of D X W).trans (Cert.MixKernelIdeal.Arrays.dg_array m c D E X G W eD eE eX eG eW).symm

end Cert.MixClaim
end
-- ==== Proof.GatesMath.lean ====
/- The gradients of the forget gates' running sums, over real arrays. -/
module

public import proofs.«01_k».proof.Proof.Reals

@[expose] public section

noncomputable section

namespace Cert.GatesMath

open Idealize.ShloMosaic

abbrev Heads := (⟨2, ![16, 2048]⟩ : Shape).Idx → ℝ
abbrev Blk := (⟨2, ![16, 128]⟩ : Shape).Idx → ℝ
abbrev Col := (⟨2, ![16, 1]⟩ : Shape).Idx → ℝ

/-- The sum of one head's entries from token `s` on. -/
def tail (X : Heads) (s : ℕ) (p : Fin 16) : ℝ := ∑ j : Fin 2048, if s ≤ j.val then X (ix2 p j) else 0

/-- The gate's argument. -/
def gate (X : Heads) (B : Col) : Heads := fun i => X i + B (ix2 (i 0) 0)

/-- The gradient at the gate's argument: the gradient's tail times the derivative of the log gate. -/
def dz (D X : Heads) (B : Col) : Heads := fun i => tail D (i 1).val (i 0) * (1 / (1 + Real.exp (gate X B i)))

/-- The gradient at the bias. -/
def db (D X : Heads) (B : Col) : Col := fun i => ∑ j : Fin 2048, dz D X B (ix2 (i 0) j)

/-- 128 tokens of every head, from token `r`. -/
def blk (r : ℕ) (hr : r + 128 ≤ 2048) (X : Heads) : Blk := fun y => X (ix2 (y 0) ⟨r + (y 1).val, by have := (y 1).isLt; change _ < 128 at this; omega⟩)

/-- The tails inside a block. -/
def btail (x : Blk) : Blk := fun y => ∑ k : Fin 128, if (y 1).val ≤ k.val then x (ix2 (y 0) k) else 0

/-- A block's row sums. -/
def total (x : Blk) : Col := fun i => ∑ k : Fin 128, x (ix2 (i 0) k)

/-- A tail as one column. -/
def ctail (X : Heads) (s : ℕ) : Col := fun i => tail X s (i 0)

/-- A column beside every token of a block. -/
def beside (v : Col) : Blk := fun y => v (ix2 (y 0) 0)

/-- The first column of a block. -/
def first (x : Blk) : Col := fun i => x (ix2 (i 0) 0)

theorem tail_split (X : Heads) (p : Fin 16) (r : ℕ) (hr : r + 128 ≤ 2048) (q : ℕ) (hq : q ≤ 128) :
    tail X (r + q) p = (∑ k : Fin 128, if q ≤ k.val then blk r hr X (ix2 p k) else 0) + tail X (r + 128) p := by
  have e1 : (∑ k : Fin 128, if q ≤ k.val then blk r hr X (ix2 p k) else 0)
      = ∑ k ∈ Finset.range 128, if h : k + r < 2048 then if q ≤ k then X (ix2 p ⟨k + r, h⟩) else 0 else 0 := by
    rw [Finset.sum_range]
    refine Finset.sum_congr rfl fun k _ => ?_
    rw [dif_pos (by omega)]
    refine if_congr Iff.rfl (congrArg X (congrArg (ix2 p) (Fin.ext (Nat.add_comm _ _)))) rfl
  have e2 : ∀ s, tail X s p = ∑ j ∈ Finset.range 2048, if h : j < 2048 then if s ≤ j then X (ix2 p ⟨j, h⟩) else 0 else 0 := fun s => by
    rw [Finset.sum_range]
    exact Finset.sum_congr rfl fun k _ => by rw [dif_pos k.isLt]
  rw [e1, e2, e2, ← Finset.sum_range_add_sum_Ico _ hr, ← Finset.sum_range_add_sum_Ico (fun j => if h : j < 2048 then if r + 128 ≤ j then X (ix2 p ⟨j, h⟩) else 0 else 0) hr,
    ← Finset.sum_range_add_sum_Ico (fun j => if h : j < 2048 then if r + q ≤ j then X (ix2 p ⟨j, h⟩) else 0 else 0) (Nat.le_add_right r 128), ← add_assoc]
  refine congrArg₂ (· + ·) ?_ (Finset.sum_congr rfl fun j hj => ?_)
  · have z1 : (∑ j ∈ Finset.range r, if h : j < 2048 then if r + q ≤ j then X (ix2 p ⟨j, h⟩) else 0 else 0) = 0 :=
      Finset.sum_eq_zero fun j hj => by
        have := Finset.mem_range.1 hj
        split
        · exact if_neg (by omega)
        · rfl
    have z2 : (∑ j ∈ Finset.range (r + 128), if h : j < 2048 then if r + 128 ≤ j then X (ix2 p ⟨j, h⟩) else 0 else 0) = 0 :=
      Finset.sum_eq_zero fun j hj => by
        have := Finset.mem_range.1 hj
        split
        · exact if_neg (by omega)
        · rfl
    rw [z1, z2, zero_add, add_zero, Finset.sum_Ico_eq_sum_range, Nat.add_sub_cancel_left]
    refine Finset.sum_congr rfl fun k _ => ?_
    have hk : r + k = k + r := Nat.add_comm _ _
    simp only [hk]
    refine dite_congr rfl (fun h => if_congr (by omega) rfl rfl) fun _ => rfl
  · have := Finset.mem_Ico.1 hj
    rw [dif_pos this.2, dif_pos this.2, if_pos (by omega), if_pos (by omega)]

/-- The tails of a block are those inside it and the tail after it. -/
theorem btail_add (X : Heads) (r : ℕ) (hr : r + 128 ≤ 2048) :
    btail (blk r hr X) + beside (ctail X (r + 128)) = blk r hr (fun i => tail X (i 1).val (i 0)) := by
  funext y
  exact (tail_split X (y 0) r hr (y 1).val (by have := (y 1).isLt; change _ < 128 at this; omega)).symm

/-- The tail before a block is the tail after it and the block's sum. -/
theorem ctail_add (X : Heads) (r : ℕ) (hr : r + 128 ≤ 2048) : ctail X (r + 128) + total (blk r hr X) = ctail X r := by
  funext i
  refine (add_comm _ _).trans (Eq.trans ?_ (tail_split X (i 0) r hr 0 (by omega)).symm)
  exact congrArg (· + _) (Finset.sum_congr rfl fun k _ => (if_pos (Nat.zero_le _)).symm)

theorem first_btail (x : Blk) : first (btail x) = total x := by
  funext i
  unfold first btail total
  exact Finset.sum_congr rfl fun k _ => if_pos (Nat.zero_le _)

theorem ctail_end (X : Heads) : ctail X 2048 = 0 := by
  funext i
  unfold ctail tail
  exact Finset.sum_eq_zero fun (j : Fin 2048) _ => if_neg (not_le.2 j.isLt)

theorem ctail_zero (D X : Heads) (B : Col) : ctail (dz D X B) 0 = db D X B := by
  funext i
  unfold ctail tail db
  exact Finset.sum_congr rfl fun j _ => if_pos (Nat.zero_le _)

/-- The derivative of the log gate, as the host takes it. -/
theorem exp_sub_softplus (a : ℝ) : Real.exp (a - (max a 0 + Real.log (1 + Real.exp (-|a|)))) = 1 / (1 + Real.exp (-a)) := by
  have h1 : 0 < 1 + Real.exp (-|a|) := by positivity
  rw [Real.exp_sub, Real.exp_add, Real.exp_log h1]
  have ha := Real.exp_pos a
  rcases le_total 0 a with h | h
  · rw [max_eq_left h, abs_of_nonneg h]
    field_simp
  · rw [max_eq_right h, abs_of_nonpos h, neg_neg, Real.exp_zero, Real.exp_neg]
    field_simp
    ring

end Cert.GatesMath

end
-- ==== Proof.GatesKernel.lean ====
/- What the gates' backward kernel leaves in its two arrays, from real arrays. -/
module

public import proofs.«01_k».proof.Proof.GatesMath
public import proofs.«01_k».proof.Proof.Gen.GatesKernelIdeal.Frame

@[expose] public section

set_option maxRecDepth 16384
noncomputable section
open Idealize.ShloMosaic Idealize.ShloMosaic.TcCoe Idealize.SL.Sem

namespace Cert.GatesKernelIdeal.Arrays
open Cert.GatesKernelIdeal Cert.GatesKernelIdeal.Gen Cert.Reals Cert.GatesMath

/-! ## The kernel's operations, of real arrays -/

theorem truncf_up (x : Blk) : (truncf (F := Ideal) .bf16 (up x : FVec Ideal S16x128 .f32) bitsLt_bf16_f32 : S16x128.Idx → EReal) = up x := rfl
theorem extf_up (x : Blk) : (extf (F := Ideal) .f32 (up x : FVec Ideal S16x128 .bf16) bitsLt_bf16_f32 : S16x128.Idx → EReal) = up x := rfl
theorem sub_up (x y : Blk) : (subf (F := Ideal) (φ := .f32) (up x) (up y) : S16x128.Idx → EReal) = up (x - y) := funext fun i => (EReal.coe_sub (x i) (y i)).symm
theorem add_up (x y : Blk) : (addf (F := Ideal) (φ := .f32) (up x) (up y) : S16x128.Idx → EReal) = up (x + y) := funext fun i => (EReal.coe_add (x i) (y i)).symm
theorem addc_up (x y : Col) : (addf (F := Ideal) (φ := .f32) (up x) (up y) : S16x1.Idx → EReal) = up (x + y) := funext fun i => (EReal.coe_add (x i) (y i)).symm

theorem zeros_up : (broadcast S16x128 (Scalar.ofBits (F := Ideal) .f32 0x00000000#32) : S16x128.Idx → EReal) = up 0 := by
  funext j
  pointwise []
  exact EReal.coe_zero.symm

theorem zeroc_up : (broadcast S16x1 (Scalar.ofBits (F := Ideal) .f32 0x00000000#32) : S16x1.Idx → EReal) = up 0 := by
  funext j
  pointwise []
  exact EReal.coe_zero.symm

theorem sigmoid_up (x z : Blk) :
    (mulf (F := Ideal) (φ := .f32) (up x) (divf (broadcast S16x128 (Scalar.ofBits (F := Ideal) .f32 0x3F800000#32))
      (addf (broadcast S16x128 (Scalar.ofBits (F := Ideal) .f32 0x3F800000#32)) (exp (up z)))) : S16x128.Idx → EReal)
      = up fun i => x i * (1 / (1 + Real.exp (z i))) := by
  funext j
  idx_vars j
  pointwise []
  rw [← EReal.coe_one, up, Ideal.exp_coe, ← EReal.coe_add, div_up _ (by positivity), up, ← EReal.coe_mul]

theorem word_le : ∀ a b : Fin 128, BitVec.setWidth 32 (IntOp.cmpi CmpIPredicate.sge (BitVec.ofNat 32 b.val) (BitVec.ofNat 32 a.val))
    = if a.val ≤ b.val then 1#32 else 0#32 := by decide +kernel

/-- The mask of the lower triangle as numbers. -/
theorem bit_le (a b : Fin 128) : FloatOps.sitofp (F := Ideal) FTy.f32 (BitVec.setWidth 32 (IntOp.cmpi CmpIPredicate.sge (BitVec.ofNat 32 b.val) (BitVec.ofNat 32 a.val)))
    = ((if a.val ≤ b.val then (1 : ℝ) else 0 : ℝ) : EReal) := by
  rw [word_le]
  show ((((if a.val ≤ b.val then 1#32 else 0#32 : BitVec 32).toInt : ℤ) : ℝ) : EReal) = _
  split <;> simp

theorem dot_up (x : Blk) :
    (matmul dot_S16x128_S128x128_S16x128_1_0_0_1_n_n none (up x : FVec Ideal S16x128 .bf16) (φ₁ := .bf16) (k0_pay4 (F := Ideal)) (constant S16x128 .f32 0x00000000#32) : S16x128.Idx → EReal)
      = up (btail x) := by
  funext j
  idx_vars j
  pointwise [k0_pay4]
  simp only [bit_le, up, ← EReal.coe_mul, sum_up]
  refine congrArg _ (Finset.sum_congr rfl fun k _ => ?_)
  rw [mul_ite, mul_one, mul_zero]
  rfl

theorem beside_up (v : Col) (h) : (broadcastTo S16x128 (up v : FVec Ideal S16x1 .f32) h : S16x128.Idx → EReal) = up (beside v) := by
  funext j
  idx_vars j
  pointwise [beside, up]

theorem first_up (x : Blk) (h) : (extractStridedSlice S16x1 ![0, 0] (up x : FVec Ideal S16x128 .f32) h : S16x1.Idx → EReal) = up (first x) := by
  funext j
  idx_vars j
  pointwise [first, up]

theorem slice_up (X : Heads) (r : ℕ) (h : S16x2048.Slices ![0, r] S16x128) :
    (extractStridedSlice S16x128 ![0, r] (up X : FVec Ideal S16x2048 .f32) h : S16x128.Idx → EReal) = up (blk r (by simpa using h.2 1) X) := by
  funext j
  idx_vars j
  pointwise [blk, up]

theorem total_up (x : Blk) : (shapeCast (α := Ideal .f32) S16x1 (multiReduction (F := Ideal) .add [1] S16 (up x : FVec Ideal S16x128 .f32) 0x00000000#32 reduces_S16x128_S16 (.inl rfl) rfl) shapeCasts_S16_S16x1 : S16x1.Idx → EReal) = up (total x) := by
  funext j
  idx_vars j
  pointwise []
  simp only [up, sum_up]
  rfl

theorem gate_up (X : Heads) (B : Col) : k0_pay3 (F := Ideal) (up X) (up B) = up (gate X B) := by
  funext j
  idx_vars j
  pointwise [k0_pay3]
  rw [up, up, ← EReal.coe_add]
  rfl

theorem ld_blk (X : Heads) (r : ℕ) (inb : ∀ a, (![0, r] : Fin 2 → ℕ) a + S16x128.size a ≤ S16x2048.size a) :
    View.ld (Val := Elt Ideal) (e' := .f32) (up X) (Rect.unit (s := S16x2048) ![0, r] S16x128.size inb) = up (blk r (by simpa using inb 1) X) := by
  funext y
  refine congrArg (up X) ?_
  funext a
  fin_cases a <;> exact Fin.ext (by simp [ix2])

theorem ld_all (X : Heads) : View.ld (Val := Elt Ideal) (e' := .f32) (up X) r0_0 = up X := by
  funext y
  refine congrArg (up X) ?_
  funext a
  fin_cases a <;> exact Fin.ext (by simp)

theorem ld_col (B : Col) : View.ld (Val := Elt Ideal) (e' := .f32) (up B) r0_1 = up B := by
  funext y
  refine congrArg (up B) ?_
  funext a
  fin_cases a <;> exact Fin.ext (by simp)

theorem btail_zero : btail 0 = 0 := by
  funext y
  exact Finset.sum_eq_zero fun k _ => ite_self _

theorem start_total (X : Heads) : (0 : Col) + total (blk 1920 (by decide) X) = ctail X 1920 := by rw [← ctail_end X]; exact ctail_add X 1920 (by decide)

theorem start_tail (X : Heads) : btail (blk 1920 (by decide) X) + beside 0 = blk 1920 (by decide) (fun i => tail X (i 1).val (i 0)) := by
  rw [← ctail_end X]; exact btail_add X 1920 (by decide)

theorem dz_blk (D X : Heads) (B : Col) (r : ℕ) (hr : r + 128 ≤ 2048) :
    (fun i => blk r hr (fun i => tail D (i 1).val (i 0)) i * (1 / (1 + Real.exp (blk r hr (gate X B) i)))) = blk r hr (dz D X B) := rfl

variable (D X : Heads) (B : Col)

/-- The sixteen stores of the kernel's first result hold the blocks of the one array. -/
theorem pieces (a : S16x2048.Idx → EReal) (L : List (View.Piece (Elt Ideal) S16x2048 .f32)) (h : ∀ pc ∈ L, ∀ x, pc.2 x = a (pc.1.emb x))
    (hc : ∀ y, ∃ pc ∈ L, y ∈ pc.1.set) : View.canon L = a := by
  funext y
  exact View.canon_apply_of_pieces a L h y (hc y)

theorem blk_piece (X : Heads) (r : ℕ) (hr : r + 128 ≤ 2048) (inb : ∀ a, (![0, r] : Fin 2 → ℕ) a + S16x128.size a ≤ S16x2048.size a) (x : S16x128.Idx) :
    (up (blk r hr X) x : EReal) = up X ((Rect.unit (s := S16x2048) ![0, r] S16x128.size inb).emb x) := by
  refine congrArg (up X) ?_
  funext a
  fin_cases a <;> exact Fin.ext (by simp [ix2])

theorem out3_up : out0_3 (F := Ideal) (up D) (up X) (up B) = up (dz D X B) := by
  refine pieces _ _ ?_ (cover0_3 _ _ _ _ _ _ _ _ _ _ _ _ _ _ _ _)
  dsimp only [k0_pay1, k0_pay2, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133]
  simp only [ld_all, ld_col, ld_blk, gate_up, truncf_up, extf_up, sub_up, add_up, addc_up, zeros_up, zeroc_up, sigmoid_up, dot_up, beside_up, first_up,
    slice_up, total_up, sub_self, btail_zero, add_zero, zero_sub, neg_neg, first_btail, start_total, start_tail, ctail_add, btail_add, dz_blk]
  simp only [List.forall_mem_cons, List.not_mem_nil, false_implies, implies_true]
  repeat' apply And.intro
  all_goals first | trivial | exact fun x => blk_piece _ _ _ _ x

theorem out4_up : out0_4 (F := Ideal) (up D) (up X) (up B) = up (db D X B) := by
  funext y
  refine View.canon_apply_of_pieces (Val := Elt Ideal) (e := .f32) (up (db D X B)) _ ?_ y (cover0_4 _ y)
  dsimp only [k0_pay1, k0_pay2, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42, k0_pay43, k0_pay44, k0_pay45, k0_pay46, k0_pay47,
    k0_pay48, k0_pay49, k0_pay50, k0_pay51, k0_pay52, k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72, k0_pay73, k0_pay74, k0_pay75, k0_pay76, k0_pay77,
    k0_pay78, k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133]
  simp only [ld_all, ld_col, ld_blk, gate_up, truncf_up, extf_up, sub_up, add_up, addc_up, zeros_up, zeroc_up, sigmoid_up, dot_up, beside_up, first_up,
    slice_up, total_up, sub_self, btail_zero, add_zero, zero_sub, neg_neg, first_btail, start_total, start_tail, ctail_add, btail_add, dz_blk]
  repeat rw [total_up]
  simp only [addc_up]
  simp only [start_total, ctail_add]
  rw [ctail_zero]
  simp only [List.forall_mem_cons, List.not_mem_nil, false_implies, implies_true, and_true]
  intro x
  refine congrArg (up (db D X B)) ?_
  funext a
  fin_cases a <;> exact Fin.ext (by simp)

/-! ## The arrays after the grid's one point -/

variable (m : (ℓ : Loc nD τ sig) → Buf (Elt Ideal) ℓ)

/-- Every execution ends with the two arrays that the grid leaves, and the arguments unchanged. -/
theorem run (g : Dev nD → PrngReg) : θ_run defs (onTc (τ := τ) (main (F := Ideal))) ⟨m, fun _ => 0, g⟩ fun r => ∀ c : Dev nD,
    r.2.mem ((c : Thread nD τ).loc main_v0_0) = (dats m 0 c).arrAt 3 cfg0.N ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1 3, (h c).1 4, ?_, ?_, ?_⟩) (run_main m g)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

variable (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

variable (h0 : m ((c.tc : Thread nD τ).loc main_arg0) = up D) (h1 : m ((c.tc : Thread nD τ).loc main_arg1) = up X)
  (h2 : m ((c.tc : Thread nD τ).loc main_arg2) = up B)

include h0 in
theorem blk0 (t : Fin cfg0.N) : iblk m c 0 t = up D := by
  funext y
  refine Eq.trans ?_ (congrFun ((V_main_arg0 m c).trans h0) _)
  blk_ext [iblk, idx t]

include h1 in
theorem blk1 (t : Fin cfg0.N) : iblk m c 1 t = up X := by
  funext y
  refine Eq.trans ?_ (congrFun ((V_main_arg1 m c).trans h1) _)
  blk_ext [iblk, idx t]

include h2 in
theorem blk2 (t : Fin cfg0.N) : iblk m c 2 t = up B := by
  funext y
  refine Eq.trans ?_ (congrFun ((V_main_arg2 m c).trans h2) _)
  blk_ext [iblk, idx t]

include h0 h1 h2

theorem dz_array : (dats m 0 c).arrAt 3 cfg0.N = up (dz D X B) := by
  refine (dats m 0 c).arrAt_eq_of_covers 3 _ (by decide +kernel) fun t _ y => ?_
  blk_simp
  rw [after0_3, blk0 D m c h0, blk1 X m c h1, blk2 B m c h2, out3_up]
  refine congrArg (up (dz D X B)) ?_
  blk_ext [idx t]

theorem db_array : (dats m 0 c).arrAt 4 cfg0.N = up (db D X B) := by
  refine (dats m 0 c).arrAt_eq_of_covers 4 _ (by decide +kernel) fun t _ y => ?_
  blk_simp
  rw [after0_4, blk0 D m c h0, blk1 X m c h1, blk2 B m c h2, out4_up]
  refine congrArg (up (db D X B)) ?_
  blk_ext [idx t]

end Cert.GatesKernelIdeal.Arrays
end
-- ==== Proof.GatesRef.lean ====
/- What the reference of the forget gates computes from real arrays. -/
module

public import proofs.«01_k».proof.Proof.GatesMath
public import proofs.«01_k».proof.Proof.Gen.GatesReferenceIdeal.Read
public import Idealize.ShloMosaic.Lib.Routing.Ops

@[expose] public section

set_option maxRecDepth 16384
noncomputable section
open Idealize.ShloMosaic Idealize.ShloMosaic.TcCoe Idealize.SL.Sem

namespace Cert.GatesReferenceIdeal.Read
open Cert.GatesReferenceIdeal Cert.GatesReferenceIdeal.Gen Cert.Reals Cert.GatesMath

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- What one position of the window adds. -/
def from_ (X : Heads) (p : Fin 16) (q : Fin 2048) (w : (⟨2, ![1, 2048]⟩ : Shape).Idx) : EReal :=
  if h : q.val + (w 1).val < 2048 then up X (ix2 p ⟨q.val + (w 1).val, h⟩) else 0

theorem shift (X : Heads) (p : Fin 16) (q : Fin 2048) : ∑ k : Fin 2048, from_ X p q (ix2 0 k) = (tail X q.val p : ℝ) := by
  have e : ∀ k : Fin 2048, from_ X p q (ix2 0 k) = (((fun k : ℕ => if h : q.val + k < 2048 then X (ix2 p ⟨q.val + k, h⟩) else 0) k.val : ℝ) : EReal) := fun k => by
    show (if h : q.val + k.val < 2048 then up X (ix2 p ⟨q.val + k.val, h⟩) else (0 : EReal)) = _
    dsimp only
    split
    · rfl
    · rfl
  have t : tail X q.val p = ∑ k ∈ Finset.range 2048, (if h : k < 2048 then if q.val ≤ k then X (ix2 p ⟨k, h⟩) else 0 else 0) := by
    rw [Finset.sum_range]
    exact Finset.sum_congr rfl fun k _ => by rw [dif_pos k.isLt]
  simp only [e, sum_up]
  rw [t, ← Finset.sum_range (fun k : ℕ => if h : q.val + k < 2048 then X (ix2 p ⟨q.val + k, h⟩) else 0)]
  refine congrArg Real.toEReal ?_
  have hq : q.val ≤ 2048 := q.isLt.le
  rw [← Finset.sum_range_add_sum_Ico (fun k : ℕ => if h : k < 2048 then if q.val ≤ k then X (ix2 p ⟨k, h⟩) else 0 else 0) hq, ← Finset.sum_range_add_sum_Ico (fun k : ℕ => if h : q.val + k < 2048 then X (ix2 p ⟨q.val + k, h⟩) else 0) (Nat.sub_le 2048 q.val)]
  rw [Finset.sum_eq_zero (s := Finset.range q.val), zero_add, Finset.sum_eq_zero (s := Finset.Ico (2048 - q.val) 2048), add_zero, Finset.sum_Ico_eq_sum_range]
  · refine Finset.sum_congr rfl fun k hk => ?_
    have := Finset.mem_range.1 hk
    rw [dif_pos (by omega), dif_pos (by omega), if_pos (by omega)]
  · intro k hk
    have := Finset.mem_Ico.1 hk
    exact dif_neg (by omega)
  · intro k hk
    have := Finset.mem_range.1 hk
    rw [dif_pos (by omega), if_neg (by omega)]

/-- A sum over the window that starts at an entry and runs to the end is the tail. -/
theorem window_tail (X : Heads) (z : S_.Idx → EReal) (hz : ∀ i, z i = 0) (p : Fin 16) (q : Fin 2048) :
    Host.reduceWindowAdd (F := Ideal) (φ := .f32) ![1, 2048] ![1, 1] ![0, 0] ![0, 2047] (up X) z reduceWindows_S16x2048_S16x2048_w1s1p0_0_w2048s1p0_2047 h_S_ (ix2 p q)
      = (tail X q.val p : ℝ) := by
  unfold Host.reduceWindowAdd
  rw [Ideal.hostReduceWindowAdd_def]
  unfold Ideal.hostReduceWindowAdd Host.reduceWindow
  dsimp only
  rw [foldl_add, hz, zero_add, ← List.ofFn_eq_map, List.sum_ofFn]
  refine (Finset.sum_congr rfl fun i _ => (?_ : _ = from_ X p q ((⟨2, ![1, 2048]⟩ : Shape).rowMajor.symm i))).trans ?_
  · have e0 : (((⟨2, ![1, 2048]⟩ : Shape).rowMajor.symm i) 0).val = 0 := by have := (((⟨2, ![1, 2048]⟩ : Shape).rowMajor.symm i) 0).isLt; change _ < 1 at this; omega
    unfold from_
    split
    · next hin =>
      have h1 := (hin 1).2
      change q.val * 1 + (((⟨2, ![1, 2048]⟩ : Shape).rowMajor.symm i) 1).val - 0 < 2048 at h1
      rw [dif_pos (by omega)]
      refine congrArg (up X) ?_
      funext a
      fin_cases a
      · exact Fin.ext (show p.val * 1 + (((⟨2, ![1, 2048]⟩ : Shape).rowMajor.symm i) 0).val - 0 = p.val by omega)
      · exact Fin.ext (show q.val * 1 + (((⟨2, ![1, 2048]⟩ : Shape).rowMajor.symm i) 1).val - 0 = q.val + (((⟨2, ![1, 2048]⟩ : Shape).rowMajor.symm i) 1).val by omega)
    · next hin =>
      rw [dif_neg]
      intro h
      refine hin fun a => ?_
      have := p.isLt
      fin_cases a
      · show 0 ≤ p.val * 1 + (((⟨2, ![1, 2048]⟩ : Shape).rowMajor.symm i) 0).val ∧ p.val * 1 + (((⟨2, ![1, 2048]⟩ : Shape).rowMajor.symm i) 0).val - 0 < 16
        omega
      · show 0 ≤ q.val * 1 + (((⟨2, ![1, 2048]⟩ : Shape).rowMajor.symm i) 1).val ∧ q.val * 1 + (((⟨2, ![1, 2048]⟩ : Shape).rowMajor.symm i) 1).val - 0 < 2048
        omega
  · rw [Equiv.sum_comp (⟨2, ![1, 2048]⟩ : Shape).rowMajor.symm (from_ X p q), ValueIdx.sum_idx2, Finset.univ_unique, Finset.sum_singleton]
    exact shift X p q

theorem bits_top : Ideal.ofBits .f32 0x7F800000#32 = (⊤ : EReal) := by
  simp [Ideal.ofBits, Ideal.ieee]

theorem abs_up (x : ℝ) : FloatOps.absf (F := Ideal) (φ := .f32) ((x : ℝ) : EReal) = ((|x| : ℝ) : EReal) := by
  show max (x : EReal) (-(x : EReal)) = _
  rw [← EReal.coe_neg, ← EReal.coe_strictMono.monotone.map_max]
  rfl

theorem log1p_up {x : ℝ} (h : 0 < x) : Ideal.log1p (x : EReal) = ((Real.log (1 + x) : ℝ) : EReal) := by
  unfold Ideal.log1p
  rw [← EReal.coe_one, ← EReal.coe_add, Ideal.log_coe, if_neg (by linarith)]

variable (D X : Heads) (B : Col)

theorem arg_of : val_main_call0_v0 (F := Ideal) (up X) (up B) = up (fun i => -gate X B i) := by
  funext i
  idx_vars i
  pointwise [val_main_call0_v0, val_main_v1, val_main_v0]
  simp only [up, ← EReal.coe_add, ← EReal.coe_neg]
  rfl

/-- The softplus of the negated gate. -/
def soft (i : (⟨2, ![16, 2048]⟩ : Shape).Idx) : ℝ := max (-gate X B i) 0 + Real.log (1 + Real.exp (-|(-gate X B i)|))

theorem soft_of : val_main_call0_v1_0 (F := Ideal) (up X) (up B) = up (soft X B) := by
  funext i
  idx_vars i
  pointwise [val_main_call0_v1_0, val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2, val_main_call0_call0_v1,
    val_main_call0_call0_v0, val_main_call0_call0_cst, arg_of]
  rw [if_neg (fun h => h rfl)]
  simp only [up]
  rw [abs_up, ← EReal.coe_neg, Ideal.exp_coe, log1p_up (Real.exp_pos _), ← EReal.coe_zero, ← EReal.coe_strictMono.monotone.map_max, ← EReal.coe_add]
  rfl

theorem slope_of : val_main_v2_1 (F := Ideal) (up X) (up B) = up (fun i => 1 / (1 + Real.exp (gate X B i))) := by
  funext i
  idx_vars i
  pointwise [val_main_v2_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_call0_cst_0,
    val_main_call0_call0_cst_1, val_main_call0_call0_cst_2, val_main_call0_call0_cst_3, arg_of, soft_of]
  simp only [up, bits_top]
  rw [if_neg (EReal.coe_ne_top _), if_neg (EReal.coe_ne_top _), ← EReal.coe_sub, Ideal.exp_coe]
  refine congrArg Real.toEReal ?_
  unfold soft
  rw [exp_sub_softplus, neg_neg]

theorem tails_of : val_main_v4 (F := Ideal) (up D) = up (fun i => tail D (i 1).val (i 0)) := by
  funext i
  idx_vars i
  exact window_tail D _ (fun j => by pointwise [val_main_call2_call0_v0, val_main_call2_call0_cst]) i0 i1

theorem dz_of : val_main_v5 (F := Ideal) (up D) (up X) (up B) = up (dz D X B) := by
  funext i
  idx_vars i
  pointwise [val_main_v5, val_main_call3_v1, val_main_call3_v0, tails_of, slope_of]
  simp only [up, ← EReal.coe_mul, ← EReal.coe_neg]
  exact congrArg Real.toEReal (by unfold dz; ring)

theorem db_of : val_main_v7 (F := Ideal) (up D) (up X) (up B) = up (db D X B) := by
  funext i
  idx_vars i
  pointwise [val_main_v7, val_main_v6, val_main_cst, dz_of]
  simp only [up, sum_up]
  rfl

end Cert.GatesReferenceIdeal.Read
end
-- ==== Proof.GatesClaim.lean ====
/- The claims about the forget gates' backward kernel. -/
module

public import proofs.«01_k».proof.Defs
public import proofs.«01_k».proof.Proof.GatesKernel
public import proofs.«01_k».proof.Proof.GatesRef
public import proofs.«01_k».proof.Proof.Gen.GatesKernel.Frame
public import proofs.«01_k».proof.Proof.Gen.GatesKernelIdeal.Frame
public import proofs.«01_k».proof.Proof.Gen.GatesReferenceIdeal.Run
public import Idealize.ShloMosaic.Lib.Quiescent

@[expose] public section

set_option maxRecDepth 16384
noncomputable section
open Idealize.ShloMosaic Idealize.ShloMosaic.TcCoe Idealize.SL.Sem

namespace Cert.GatesClaim
open Cert.Reals Cert.GatesMath

instance facts_pre : Cert.Pre_gates_finite.Facts := by
  constructor <;> decide +kernel

/-- The precondition gives the arguments as real arrays. -/
theorem reals (m) (h : Cert.Pre_GatesKernelIdeal_gates_finite m) (c : Dev Cert.GatesKernelIdeal.nD) :
    ∃ D X B, m ((c.tc : Thread _ Cert.GatesKernelIdeal.τ).loc Cert.GatesKernelIdeal.main_arg0) = up D
      ∧ m ((c.tc : Thread _ Cert.GatesKernelIdeal.τ).loc Cert.GatesKernelIdeal.main_arg1) = up X
      ∧ m ((c.tc : Thread _ Cert.GatesKernelIdeal.τ).loc Cert.GatesKernelIdeal.main_arg2) = up B := by
  obtain ⟨h0, h1, h2⟩ := h c
  obtain ⟨D, eD⟩ := reals_of_test _ _ _ h0
  obtain ⟨X, eX⟩ := reals_of_test _ _ _ h1
  obtain ⟨B, eB⟩ := reals_of_test _ _ _ h2
  exact ⟨D, X, B, eD, eX, eB⟩

/-- The reference declares no semaphore, so its run leaves every counter at zero. -/
theorem frame_ref : Cert.quiescent_GatesReferenceIdeal (hGatesReferenceIdeal := Cert.GatesReferenceIdeal.Gen.facts) := fun m g _ =>
  (θ_run _ _ _).mono (fun r h => ⟨fun c => (h c).2.2, sem_eq_zero_of_no_sems (by decide) r.2⟩) (Cert.GatesReferenceIdeal.Value.run (F := Ideal) m g)

/-- The two programs end with equal results. -/
theorem algebraic : Cert.algebraic_GatesKernelIdeal_GatesReferenceIdeal_pre_gates_finite
    (hGatesKernelIdeal := Cert.GatesKernelIdeal.Gen.facts) (hGatesReferenceIdeal := Cert.GatesReferenceIdeal.Gen.facts) := by
  intro m g m' g' hpre hag
  refine ⟨fun c => _, fun c => _, Cert.GatesKernelIdeal.Arrays.run m g, ?_⟩
  refine (θ_run _ _ _).mono (fun r h c => ?_) (Cert.GatesReferenceIdeal.Value.run m' g')
  obtain ⟨D, X, B, eD, eX, eB⟩ := reals m hpre c
  obtain ⟨a0, a1, a2⟩ := hag c
  obtain ⟨r0, r1, k⟩ := h c
  refine ⟨r0.trans ?_, r1.trans ?_, k⟩
  · rw [Cert.GatesReferenceIdeal.Read.val_main_v5_eq, a0, a1, a2, eD, eX, eB]
    exact (Cert.GatesReferenceIdeal.Read.dz_of D X B).trans (Cert.GatesKernelIdeal.Arrays.dz_array D X B m c eD eX eB).symm
  · rw [Cert.GatesReferenceIdeal.Read.val_main_v7_eq, a0, a1, a2, eD, eX, eB]
    exact (Cert.GatesReferenceIdeal.Read.db_of D X B).trans (Cert.GatesKernelIdeal.Arrays.db_array D X B m c eD eX eB).symm

end Cert.GatesClaim
end
-- ==== Proof.AfwdScores.lean ====
/- The scores of each tile of rows in the forward attention kernel, diagonal mask and all, in one form. -/
module

public import proofs.«01_k».proof.Proof.AttnArrays
public import proofs.«01_k».proof.Proof.Gen.AfwdKernelIdeal.Frame

@[expose] public section

set_option maxRecDepth 16384
noncomputable section
open Idealize.ShloMosaic Idealize.ShloMosaic.TcCoe Idealize.SL.Sem

namespace Cert.AfwdKernelIdeal.Arrays
open Cert.AfwdKernelIdeal Cert.AfwdKernelIdeal.Gen Cert.Reals Cert.AttnMath
open Cert.AttnKernelIdeal.Arrays (r2 r1 d3 l3 score r2_ix r1_ix ld_d select_lane0 select_lane1 score_first score_next bits_eighth_half)

variable (Q K V : Fin 2048 → Fin 128 → ℝ) (D : Fin 2 → Fin 2048 → ℝ)

/-- The scores of the tile of rows from `r`, over the columns up to its diagonal. -/
abbrev tile (r n : ℕ) (h : Fin 2) (hr : r + 256 ≤ 2048) (hn : n ≤ 2048) : (⟨2, ![256, n]⟩ : Shape).Idx → EReal :=
  score r h (cut r hr Q) (pre n hn K) (pre n hn (D h))

/-- The tiles' scores of the first head, -/
theorem scores0 :
    (∀ q k d, k0_pay16 (F := Ideal) (k0_pay13 k0_pay2 (r2 q)) (k0_pay14 (r2 k)) (k0_pay15 (r1 d)) = score 256 0 q k d)
      ∧ (∀ q k d, k0_pay32 (F := Ideal) k0_pay2 (k0_pay31 (r2 q)) (r2 k) (r1 d) = score 512 0 q k d)
      ∧ (∀ q k d, k0_pay45 (F := Ideal) k0_pay2 (r2 q) (r2 k) (r1 d) = score 768 0 q k d)
      ∧ (∀ q k d, k0_pay61 (F := Ideal) (k0_pay58 k0_pay2 (r2 q) (r2 k) (r1 d)) k0_pay59 (k0_pay60 k0_pay2 (r2 q) (r2 k) (r1 d)) (Scalar.ofBits .f32 0xFF800000#32) = score 1024 0 q k d)
      ∧ (∀ q k d, k0_pay76 (F := Ideal) (k0_pay75 k0_pay2 (r2 q)) (r2 k) (r1 d) = score 1280 0 q k d)
      ∧ (∀ q k d, k0_pay89 (F := Ideal) k0_pay2 (r2 q) (r2 k) (r1 d) = score 1536 0 q k d)
      ∧ (∀ q k d, k0_pay102 (F := Ideal) k0_pay2 (r2 q) (r2 k) (r1 d) = score 1792 0 q k d) := by
  refine ⟨?_, ?_, ?_, ?_, ?_, ?_, ?_⟩ <;>
  · intro q k d
    funext y
    idx_vars y
    pointwise [k0_pay2, k0_pay13, k0_pay14, k0_pay15, k0_pay16, k0_pay31, k0_pay32, k0_pay45, k0_pay58, k0_pay59, k0_pay60, k0_pay61, k0_pay75, k0_pay76, k0_pay89, k0_pay102]
    simp only [r2_ix, r1_ix, bits_eighth_half, bits_bot, ← EReal.coe_mul, select_lane0, sum_up, ← EReal.coe_sub]
    exact score_next _ rfl q k d 0 y0 y1 _

/-- of the second, -/
theorem scores1 :
    (∀ q k d, k0_pay25 (F := Ideal) (k0_pay22 (r2 q)) k0_pay23 (k0_pay24 k0_pay2) (r2 k) (r1 d) = score 256 1 q k d)
      ∧ (∀ q k d, k0_pay39 (F := Ideal) k0_pay2 (r2 q) (r2 k) (r1 d) = score 512 1 q k d)
      ∧ (∀ q k d, k0_pay52 (F := Ideal) k0_pay2 (r2 q) (r2 k) (r1 d) = score 768 1 q k d)
      ∧ (∀ q k d, k0_pay69 (F := Ideal) (k0_pay67 k0_pay2 (r2 q)) (k0_pay68 (r2 k)) (r1 d) = score 1024 1 q k d)
      ∧ (∀ q k d, k0_pay82 (F := Ideal) k0_pay2 (r2 q) (r2 k) (r1 d) = score 1280 1 q k d)
      ∧ (∀ q k d, k0_pay96 (F := Ideal) k0_pay2 (r2 q) (r2 k) (r1 d) = score 1536 1 q k d)
      ∧ (∀ q k d, k0_pay110 (F := Ideal) (k0_pay109 k0_pay2 (r2 q) (r2 k) (r1 d)) (iota .tc S256x256 32 [0] iota_S256x256_d0_w32) = score 1792 1 q k d) := by
  refine ⟨?_, ?_, ?_, ?_, ?_, ?_, ?_⟩ <;>
  · intro q k d
    funext y
    idx_vars y
    pointwise [k0_pay2, k0_pay22, k0_pay23, k0_pay24, k0_pay25, k0_pay39, k0_pay52, k0_pay67, k0_pay68, k0_pay69, k0_pay82, k0_pay96, k0_pay109, k0_pay110]
    simp only [r2_ix, r1_ix, bits_eighth_half, bits_bot, ← EReal.coe_mul, select_lane1, sum_up, ← EReal.coe_sub]
    exact score_next _ rfl q k d 1 y0 y1 _

/-- and the two on the first diagonal tile. -/
theorem scores_first :
    (∀ q k d, k0_pay3 (F := Ideal) (r2 q) (r2 k) (r1 d) = score 0 0 q k d)
      ∧ (∀ q k d, k0_pay7 (F := Ideal) (k0_pay4 (r2 q)) (k0_pay5 (r2 k)) (k0_pay6 (r1 d)) (constant S256x256 .f32 0x00000000#32) = score 0 1 q k d) := by
  refine ⟨?_, ?_⟩ <;>
  · intro q k d
    funext y
    idx_vars y
    pointwise [k0_pay2, k0_pay3, k0_pay4, k0_pay5, k0_pay6, k0_pay7]
    simp only [r2_ix, r1_ix, bits_eighth_half, bits_bot, ← EReal.coe_mul, select_lane0, select_lane1, sum_up, ← EReal.coe_sub]
    exact score_first q k d _ y0 y1

/-- A load of 256 rows, -/
theorem ld_rows (r : ℕ) (f : Fin 2048 → Fin 128 → ℝ) (inb : ∀ a, (![r, 0] : Fin 2 → ℕ) a + (![256, 128] : Fin 2 → ℕ) a ≤ S2048x128.size a) :
    View.ld (Val := Elt Ideal) (e' := .bf16) (r2 f) (Rect.unit (s := S2048x128) ![r, 0] ![256, 128] inb) = r2 (cut r (by simpa using inb 0) f) :=
  Cert.AttnKernelIdeal.Arrays.ld_rows r f inb

/-- and of the first `n` rows. -/
theorem ld_pre (n : ℕ) (f : Fin 2048 → Fin 128 → ℝ) (inb : ∀ a, (![0, 0] : Fin 2 → ℕ) a + (![n, 128] : Fin 2 → ℕ) a ≤ S2048x128.size a) :
    View.ld (Val := Elt Ideal) (e' := .bf16) (r2 f) (Rect.unit (s := S2048x128) ![0, 0] ![n, 128] inb) = r2 (pre n (by simpa using inb 0) f) :=
  Cert.AttnKernelIdeal.Arrays.ld_pre n f inb

/-- The same of the loaded tiles: of the first head, -/
theorem first_head :
    k0_pay124 (F := Ideal) (r2 Q) (r2 K) (r2 V) (d3 D) = tile Q K D 256 512 0 (by decide) (by decide)
      ∧ k0_pay126 (F := Ideal) (r2 Q) (r2 K) (r2 V) (d3 D) = tile Q K D 512 768 0 (by decide) (by decide)
      ∧ k0_pay128 (F := Ideal) (r2 Q) (r2 K) (r2 V) (d3 D) = tile Q K D 768 1024 0 (by decide) (by decide)
      ∧ k0_pay130 (F := Ideal) (r2 Q) (r2 K) (r2 V) (d3 D) = tile Q K D 1024 1280 0 (by decide) (by decide)
      ∧ k0_pay132 (F := Ideal) (r2 Q) (r2 K) (r2 V) (d3 D) = tile Q K D 1280 1536 0 (by decide) (by decide)
      ∧ k0_pay134 (F := Ideal) (r2 Q) (r2 K) (r2 V) (d3 D) = tile Q K D 1536 1792 0 (by decide) (by decide)
      ∧ k0_pay137 (F := Ideal) (r2 Q) (r2 K) (r2 V) (d3 D) = tile Q K D 1792 2048 0 (by decide) (by decide) := by
  unfold k0_pay124 k0_pay126 k0_pay128 k0_pay130 k0_pay132 k0_pay134 k0_pay137 k0_pay121
  refine ⟨?_, ?_, ?_, ?_, ?_, ?_, ?_⟩ <;>
  · rw [ld_rows, ld_pre]
    simp only [ld_d 0 0 rfl, scores0]

/-- of the second, -/
theorem second_head :
    k0_pay125 (F := Ideal) (r2 Q) (r2 K) (r2 V) (d3 D) = tile Q K D 256 512 1 (by decide) (by decide)
      ∧ k0_pay127 (F := Ideal) (r2 Q) (r2 K) (r2 V) (d3 D) = tile Q K D 512 768 1 (by decide) (by decide)
      ∧ k0_pay129 (F := Ideal) (r2 Q) (r2 K) (r2 V) (d3 D) = tile Q K D 768 1024 1 (by decide) (by decide)
      ∧ k0_pay131 (F := Ideal) (r2 Q) (r2 K) (r2 V) (d3 D) = tile Q K D 1024 1280 1 (by decide) (by decide)
      ∧ k0_pay133 (F := Ideal) (r2 Q) (r2 K) (r2 V) (d3 D) = tile Q K D 1280 1536 1 (by decide) (by decide)
      ∧ k0_pay135 (F := Ideal) (r2 Q) (r2 K) (r2 V) (d3 D) = tile Q K D 1536 1792 1 (by decide) (by decide)
      ∧ k0_pay110 (F := Ideal) (k0_pay140 (r2 Q) (r2 K) (r2 V) (d3 D)) (k0_pay139 (F := Ideal) (r2 Q) (r2 K) (r2 V) (d3 D)) = tile Q K D 1792 2048 1 (by decide) (by decide) := by
  unfold k0_pay125 k0_pay127 k0_pay129 k0_pay131 k0_pay133 k0_pay135 k0_pay140 k0_pay139 k0_pay121
  refine ⟨?_, ?_, ?_, ?_, ?_, ?_, ?_⟩ <;> rw [ld_rows, ld_pre] <;>
    simp only [ld_d 1 1 rfl, scores1]
  exact scores1.2.2.2.2.2.2 _ _ _

/-- and of both in the first tile. -/
theorem first_tile :
    k0_pay122 (F := Ideal) (r2 Q) (r2 K) (r2 V) (d3 D) = tile Q K D 0 256 0 (by decide) (by decide)
      ∧ k0_pay123 (F := Ideal) (r2 Q) (r2 K) (r2 V) (d3 D) = tile Q K D 0 256 1 (by decide) (by decide) := by
  unfold k0_pay122 k0_pay123
  refine ⟨?_, ?_⟩ <;>
  · rw [ld_rows 0 Q, ld_rows 0 K]
    simp only [ld_d 0 0 rfl, ld_d 1 1 rfl, scores_first]
    rfl

end Cert.AfwdKernelIdeal.Arrays
end
-- ==== Proof.AfwdSoft.lean ====
/- The two results of the forward attention kernel from its scores: the logarithm of each row's sum of exponentials,
   and each row's mean of the values under its exponentials, both through the row's largest score. -/
module

public import proofs.«01_k».proof.Proof.AfwdScores

@[expose] public section

set_option maxRecDepth 16384
noncomputable section
open Idealize.ShloMosaic Idealize.ShloMosaic.TcCoe Idealize.SL.Sem

namespace Cert.AfwdKernelIdeal.Arrays
open Cert.AfwdKernelIdeal Cert.AfwdKernelIdeal.Gen Cert.Reals Cert.AttnMath
open Cert.AttnKernelIdeal.Arrays (r2 r1 d3 l3 score)

/-! ## As the kernel computes them -/

section
variable {n : ℕ} (s : (⟨2, ![256, n]⟩ : Shape).Idx → EReal) (v : (⟨2, ![n, 128]⟩ : Shape).Idx → EReal) (a : Fin 256) (b : Fin 128)

/-- The largest score of row `a`, the logarithm of its sum of exponentials, and its mean of column `b` of the values. -/
def rowtop : EReal := Finset.univ.fold max (Ideal.ofBits .f32 0xFF800000#32) fun x => s (ix2 a x)
def rowlog : EReal := rowtop s a + Ideal.log (∑ x, Ideal.exp (s (ix2 a x) - rowtop s a))
def rowmean : EReal := (∑ x, Ideal.exp (s (ix2 a x) - rowtop s a) * v (ix2 x b)) * Ideal.div 1 (∑ x, Ideal.exp (s (ix2 a x) - rowtop s a))
end

/-- The mask of the first head's lanes. -/
theorem select_first (x : Fin 128) (A B : EReal) :
    Scalar.select (IntOp.cmpi .slt (BitVec.ofNat 32 x.val) 64#32) A B = if lane 0 x then A else B := by
  have : IntOp.cmpi .slt (BitVec.ofNat 32 x.val) 64#32 = if lane 0 x then 1#1 else 0#1 := by
    revert x; decide
  rw [this]
  split_ifs <;> rfl

/-- The sixteen stores of logarithms, -/
theorem logs :
    (∀ s i a z, k0_pay11 (F := Ideal) s (ix3 i a z) = rowlog s a)
      ∧ (∀ s i a z, k0_pay20 (F := Ideal) s (ix3 i a z) = rowlog s a)
      ∧ (∀ s i a z, k0_pay29 (F := Ideal) s (ix3 i a z) = rowlog s a)
      ∧ (∀ s i a z, k0_pay36 (F := Ideal) s (ix3 i a z) = rowlog s a)
      ∧ (∀ s i a z, k0_pay43 (F := Ideal) s (ix3 i a z) = rowlog s a)
      ∧ (∀ s i a z, k0_pay50 (F := Ideal) (k0_pay49 s) (ix3 i a z) = rowlog s a)
      ∧ (∀ s i a z, k0_pay56 (F := Ideal) s (ix3 i a z) = rowlog s a)
      ∧ (∀ s i a z, k0_pay65 (F := Ideal) s (ix3 i a z) = rowlog s a)
      ∧ (∀ s i a z, k0_pay73 (F := Ideal) s (ix3 i a z) = rowlog s a)
      ∧ (∀ s i a z, k0_pay80 (F := Ideal) s (ix3 i a z) = rowlog s a)
      ∧ (∀ s i a z, k0_pay86 (F := Ideal) s (ix3 i a z) = rowlog s a)
      ∧ (∀ s i a z, k0_pay93 (F := Ideal) s (ix3 i a z) = rowlog s a)
      ∧ (∀ s i a z, k0_pay100 (F := Ideal) (k0_pay97 s) (k0_pay99 s) (ix3 i a z) = rowlog s a)
      ∧ (∀ s i a z, k0_pay107 (F := Ideal) (k0_pay103 s) (k0_pay104 s) (ix3 i a z) = rowlog s a)
      ∧ (∀ s i a z, k0_pay114 (F := Ideal) s (ix3 i a z) = rowlog s a)
      ∧ (∀ u w i a z, k0_pay119 (F := Ideal) u w (ix3 i a z) = rowlog (k0_pay110 u w) a) := by
  refine ⟨?_, ?_, ?_, ?_, ?_, ?_, ?_, ?_, ?_, ?_, ?_, ?_, ?_, ?_, ?_, ?_⟩ <;>
  · intros
    pointwise [k0_pay1, k0_pay8, k0_pay9, k0_pay10, k0_pay11, k0_pay12, k0_pay17, k0_pay18, k0_pay19, k0_pay20, k0_pay21, k0_pay26, k0_pay27, k0_pay28, k0_pay29,
      k0_pay30, k0_pay33, k0_pay34, k0_pay35, k0_pay36, k0_pay37, k0_pay38, k0_pay40, k0_pay41, k0_pay42, k0_pay43, k0_pay44, k0_pay46, k0_pay47, k0_pay48,
      k0_pay49, k0_pay50, k0_pay51, k0_pay53, k0_pay54, k0_pay55, k0_pay56, k0_pay57, k0_pay62, k0_pay63, k0_pay64, k0_pay65, k0_pay66, k0_pay70, k0_pay71,
      k0_pay72, k0_pay73, k0_pay74, k0_pay77, k0_pay78, k0_pay79, k0_pay80, k0_pay81, k0_pay83, k0_pay84, k0_pay85, k0_pay86, k0_pay87, k0_pay88, k0_pay90,
      k0_pay91, k0_pay92, k0_pay93, k0_pay94, k0_pay95, k0_pay97, k0_pay98, k0_pay99, k0_pay100, k0_pay101, k0_pay103, k0_pay104, k0_pay105, k0_pay106,
      k0_pay107, k0_pay108, k0_pay111, k0_pay112, k0_pay113, k0_pay114, k0_pay115, k0_pay116, k0_pay117, k0_pay118, k0_pay119, k0_pay120]
    rfl

/-- and the eight stores of means. -/
theorem means :
    (∀ s0 s1 v a b, k0_pay21 (F := Ideal) k0_pay2 s1 (k0_pay12 s0 v) v (ix2 a b) = if lane 0 b then rowmean s0 v a b else rowmean s1 v a b)
      ∧ (∀ s0 s1 v a b, k0_pay38 (F := Ideal) k0_pay2 (k0_pay30 s0 v) (k0_pay37 s1 v) (ix2 a b) = if lane 0 b then rowmean s0 v a b else rowmean s1 v a b)
      ∧ (∀ s0 s1 v a b, k0_pay51 (F := Ideal) k0_pay2 (k0_pay44 (k0_pay41 s0) (k0_pay42 s0) v) (k0_pay47 s1) (k0_pay48 s1) v (ix2 a b) = if lane 0 b then rowmean s0 v a b else rowmean s1 v a b)
      ∧ (∀ s0 s1 v a b, k0_pay66 (F := Ideal) k0_pay2 s1 (k0_pay57 s0 v) v (ix2 a b) = if lane 0 b then rowmean s0 v a b else rowmean s1 v a b)
      ∧ (∀ s0 s1 v a b, k0_pay81 (F := Ideal) k0_pay2 s1 (k0_pay74 s0 v) v (ix2 a b) = if lane 0 b then rowmean s0 v a b else rowmean s1 v a b)
      ∧ (∀ s0 s1 v a b, k0_pay95 (F := Ideal) k0_pay2 (k0_pay88 (k0_pay85 s0) (k0_pay87 s0 v) (Scalar.ofBits .f32 0x3F800000#32)) (k0_pay92 s1) (k0_pay94 s1) v (ix2 a b) = if lane 0 b then rowmean s0 v a b else rowmean s1 v a b)
      ∧ (∀ s0 s1 v a b, k0_pay108 (F := Ideal) k0_pay2 (k0_pay101 (k0_pay98 s0) (k0_pay99 s0) v) (k0_pay104 s1) v (ix2 a b) = if lane 0 b then rowmean s0 v a b else rowmean s1 v a b)
      ∧ (∀ s0 u w v a b, k0_pay1 (F := Ideal) k0_pay2 (k0_pay115 s0 v) (k0_pay118 u w) (k0_pay120 u w) v (ix2 a b) = if lane 0 b then rowmean s0 v a b else rowmean (k0_pay110 u w) v a b) := by
  refine ⟨?_, ?_, ?_, ?_, ?_, ?_, ?_, ?_⟩ <;>
  · intros
    pointwise [k0_pay2, k0_pay1, k0_pay8, k0_pay9, k0_pay10, k0_pay11, k0_pay12, k0_pay17, k0_pay18, k0_pay19, k0_pay20, k0_pay21, k0_pay26, k0_pay27, k0_pay28, k0_pay29,
      k0_pay30, k0_pay33, k0_pay34, k0_pay35, k0_pay36, k0_pay37, k0_pay38, k0_pay40, k0_pay41, k0_pay42, k0_pay43, k0_pay44, k0_pay46, k0_pay47, k0_pay48,
      k0_pay49, k0_pay50, k0_pay51, k0_pay53, k0_pay54, k0_pay55, k0_pay56, k0_pay57, k0_pay62, k0_pay63, k0_pay64, k0_pay65, k0_pay66, k0_pay70, k0_pay71,
      k0_pay72, k0_pay73, k0_pay74, k0_pay77, k0_pay78, k0_pay79, k0_pay80, k0_pay81, k0_pay83, k0_pay84, k0_pay85, k0_pay86, k0_pay87, k0_pay88, k0_pay90,
      k0_pay91, k0_pay92, k0_pay93, k0_pay94, k0_pay95, k0_pay97, k0_pay98, k0_pay99, k0_pay100, k0_pay101, k0_pay103, k0_pay104, k0_pay105, k0_pay106,
      k0_pay107, k0_pay108, k0_pay111, k0_pay112, k0_pay113, k0_pay114, k0_pay115, k0_pay116, k0_pay117, k0_pay118, k0_pay119, k0_pay120]
    exact select_first _ _ _

/-! ## In real numbers -/

section
variable {n : ℕ} (r : ℕ) (h : Fin 2) (q : Fin 256 → Fin 128 → ℝ) (k : Fin n → Fin 128 → ℝ) (d : Fin n → ℝ) (hn : r + 256 ≤ n) (a : Fin 256)

/-- An exponential, zero beyond the diagonal, and a row's sum of them. -/
def ex (b : Fin n) : ℝ := if b.val ≤ a.val + r then Real.exp (sc h q k d a b) else 0
def zr : ℝ := ∑ b, ex r h q k d a b

include hn
theorem zr_pos : 0 < zr r h q k d a := by
  refine Finset.sum_pos' (fun b _ => ?_) ⟨⟨a.val + r, by omega⟩, Finset.mem_univ _, ?_⟩
  · rw [ex]; split_ifs; exacts [(Real.exp_pos _).le, le_rfl]
  · rw [ex, if_pos le_rfl]; exact Real.exp_pos _

theorem rowtop_real : ∃ m : ℝ, rowtop (score r h q k d) a = (m : EReal) := by
  refine max_real _ (fun _ _ => rfl) _ bits_bot _ ⟨a.val + r, by omega⟩ ?_ fun j => ?_
  · rw [score]
    exact (if_pos (le_refl (a.val + r))).trans_ne (EReal.coe_ne_bot _)
  · rw [score]; split_ifs; exacts [EReal.coe_ne_top _, bot_ne_top]
omit hn

theorem exp_top (m : ℝ) (b : Fin n) : Ideal.exp (score r h q k d (ix2 a b) - (m : EReal)) = ((ex r h q k d a b * Real.exp (-m) : ℝ) : EReal) := by
  rw [score, ex]
  change Ideal.exp ((if b.val ≤ a.val + r then ((sc h q k d a b : ℝ) : EReal) else ⊥) - _) = _
  split_ifs
  · rw [← EReal.coe_sub, Ideal.exp_coe, ← Real.exp_add]
    rfl
  · rw [zero_mul, EReal.bot_sub, Ideal.exp_bot]
    rfl

include hn
theorem rowlog_up : rowlog (score r h q k d) a = (Real.log (zr r h q k d a) : ℝ) := by
  obtain ⟨m, hm⟩ := rowtop_real r h q k d hn a
  have hz := zr_pos r h q k d hn a
  rw [rowlog, hm]
  simp only [exp_top, sum_up, ← Finset.sum_mul]
  change _ + Ideal.log ((zr r h q k d a * Real.exp (-m) : ℝ) : EReal) = _
  rw [Ideal.log_coe, if_neg (not_le.2 (mul_pos hz (Real.exp_pos _))), Real.log_mul hz.ne' (Real.exp_pos _).ne', Real.log_exp, ← EReal.coe_add]
  exact congrArg _ (by ring)

theorem rowmean_up (v : Fin n → Fin 128 → ℝ) (b : Fin 128) :
    rowmean (score r h q k d) (r2 v) a b = (((∑ x, ex r h q k d a x * v x b) / zr r h q k d a : ℝ) : EReal) := by
  obtain ⟨m, hm⟩ := rowtop_real r h q k d hn a
  have hz := zr_pos r h q k d hn a
  have he := Real.exp_pos (-m)
  rw [rowmean, hm]
  have hr : ∀ x, r2 v (ix2 x b) = ((v x b : ℝ) : EReal) := fun _ => rfl
  simp only [hr, exp_top, sum_up, ← EReal.coe_mul, ← Finset.sum_mul]
  change _ * Ideal.div ((1 : ℝ) : EReal) ((zr r h q k d a * Real.exp (-m) : ℝ) : EReal) = _
  rw [div_up _ (mul_pos hz he).ne', ← EReal.coe_mul]
  refine congrArg Real.toEReal ?_
  rw [Finset.sum_congr rfl fun x _ => (mul_right_comm (ex r h q k d a x) (Real.exp (-m)) (v x b)), ← Finset.sum_mul]
  field_simp
end

end Cert.AfwdKernelIdeal.Arrays
end
-- ==== Proof.AfwdOuts.lean ====
/- What a grid point of the forward attention kernel leaves: the means and the logarithms of its pair of heads. -/
module

public import proofs.«01_k».proof.Proof.AfwdSoft

@[expose] public section

set_option maxRecDepth 16384
noncomputable section
open Idealize.ShloMosaic Idealize.ShloMosaic.TcCoe Idealize.SL.Sem

namespace Cert.AfwdKernelIdeal.Arrays
open Cert.AfwdKernelIdeal Cert.AfwdKernelIdeal.Gen Cert.Reals Cert.AttnMath
open Cert.AttnKernelIdeal.Arrays (r2 r1 d3 l3 score)

variable (Q K V : Fin 2048 → Fin 128 → ℝ) (D : Fin 2 → Fin 2048 → ℝ)

/-- An exponential of the whole pair, the logarithm of a row's sum, and a row's mean of the values by the lane's head. -/
def exAll (h : Fin 2) (i j : Fin 2048) : ℝ := if j.val ≤ i.val then Real.exp (sc h Q K (D h) i j) else 0
def logAll (h : Fin 2) (i : Fin 2048) : ℝ := Real.log (∑ j, exAll Q K D h i j)
def meanHead (h : Fin 2) (i : Fin 2048) (b : Fin 128) : ℝ := (∑ j, exAll Q K D h i j * V j b) / ∑ j, exAll Q K D h i j
def meanAll (i : Fin 2048) (b : Fin 128) : ℝ := if lane 0 b then meanHead Q K V D 0 i b else meanHead Q K V D 1 i b

section
variable (r n : ℕ) (h : Fin 2) (hr : r + 256 ≤ 2048) (hn : n ≤ 2048) (hrn : n = r + 256) (a : Fin 256)

include hrn in
/-- A tile's sums are the whole rows'. -/
theorem sum_tile (f : Fin 2048 → ℝ) :
    ∑ b, ex r h (cut r hr Q) (pre n hn K) (pre n hn (D h)) a b * f ⟨b.val, b.isLt.trans_le hn⟩ = ∑ j, exAll Q K D h ⟨a.val + r, by omega⟩ j * f j := by
  rw [← sum_prefix hn (fun j => exAll Q K D h ⟨a.val + r, by omega⟩ j * f j) fun j hj => by rw [exAll, if_neg (by simp only; omega), zero_mul]]
  rfl

include hrn in
theorem zr_tile : zr r h (cut r hr Q) (pre n hn K) (pre n hn (D h)) a = ∑ j, exAll Q K D h ⟨a.val + r, by omega⟩ j := by
  have e := sum_tile Q K D r n h hr hn hrn a fun _ => 1
  simp only [mul_one] at e
  exact e

include hrn in
theorem rowlog_tile : rowlog (tile Q K D r n h hr hn) a = (logAll Q K D h ⟨a.val + r, by omega⟩ : ℝ) := by
  rw [rowlog_up r h _ _ _ hrn.ge, zr_tile Q K D r n h hr hn hrn a]
  rfl

include hrn in
theorem rowmean_tile (b : Fin 128) :
    rowmean (tile Q K D r n h hr hn) (r2 (pre n hn V)) a b = (meanHead Q K V D h ⟨a.val + r, by omega⟩ b : ℝ) := by
  rw [rowmean_up r h _ _ _ hrn.ge, zr_tile Q K D r n h hr hn hrn a, sum_tile Q K D r n h hr hn hrn a fun j => V j b]
  rfl

/-- A store of logarithms holds its part of the one array, -/
theorem piece_log (o : ℕ) (e : h.val = o) (s : (⟨2, ![256, n]⟩ : Shape).Idx → EReal) (P : S1x256x1.Idx → EReal)
    (hP : ∀ i a z, P (ix3 i a z) = rowlog s a) (hs : s = tile Q K D r n h hr hn) (hrn : n = r + 256)
    (inb : ∀ a, (![o, r, 0] : Fin 3 → ℕ) a + S1x256x1.size a ≤ S2x2048x1.size a) (x : S1x256x1.Idx) :
    P x = l3 (logAll Q K D) ((Rect.unit (s := S2x2048x1) ![o, r, 0] S1x256x1.size inb).emb x) := by
  subst e hs
  idx_vars x
  refine (hP x0 x1 x2).trans ((rowlog_tile Q K D r n h hr hn hrn x1).trans ?_)
  refine congrArg Real.toEReal (congrArg₂ (logAll Q K D) (Fin.ext ?_) (Fin.ext ?_)) <;> simp [ix3, Nat.add_comm]

/-- and a store of means. -/
theorem piece_mean (s0 s1 : (⟨2, ![256, n]⟩ : Shape).Idx → EReal) (v : (⟨2, ![n, 128]⟩ : Shape).Idx → EReal) (P : S256x128.Idx → EReal)
    (hP : ∀ a b, P (ix2 a b) = if lane 0 b then rowmean s0 v a b else rowmean s1 v a b)
    (h0 : s0 = tile Q K D r n 0 hr hn) (h1 : s1 = tile Q K D r n 1 hr hn) (hv : v = r2 (pre n hn V)) (hrn : n = r + 256)
    (inb : ∀ a, (![r, 0] : Fin 2 → ℕ) a + S256x128.size a ≤ S2048x128.size a) (x : S256x128.Idx) :
    P x = r2 (meanAll Q K V D) ((Rect.unit (s := S2048x128) ![r, 0] S256x128.size inb).emb x) := by
  subst h0 h1 hv
  idx_vars x
  refine (hP x0 x1).trans ?_
  rw [rowmean_tile Q K V D r n 0 hr hn hrn, rowmean_tile Q K V D r n 1 hr hn hrn]
  have e : meanAll Q K V D ⟨x0.val + r, by omega⟩ x1
      = meanAll Q K V D (((Rect.unit (s := S2048x128) ![r, 0] S256x128.size inb).emb (ix2 x0 x1)) 0)
        (((Rect.unit (s := S2048x128) ![r, 0] S256x128.size inb).emb (ix2 x0 x1)) 1) := by
    refine congrArg₂ (meanAll Q K V D) (Fin.ext ?_) (Fin.ext ?_) <;> simp [ix2, Nat.add_comm]
  refine Eq.trans ?_ (congrArg Real.toEReal e)
  rw [meanAll]
  split_ifs <;> rfl
end

/-- The whole of the logarithms, -/
theorem out_log : out0_5 (F := Ideal) (r2 Q) (r2 K) (r2 V) (d3 D) = l3 (logAll Q K D) := by
  funext y
  refine View.canon_apply_of_pieces (Val := Elt Ideal) (e := .f32) (l3 (logAll Q K D)) _ ?_ y (cover0_5 _ _ _ _ _ _ _ _ _ _ _ _ _ _ _ _ y)
  simp only [List.forall_mem_cons, List.not_mem_nil, false_implies, implies_true, and_true]
  exact ⟨piece_log Q K D 1792 2048 1 (by decide) (by decide) 1 rfl _ _ (logs.2.2.2.2.2.2.2.2.2.2.2.2.2.2.2 _ _) ((second_head Q K V D).2.2.2.2.2.2) rfl _,
    piece_log Q K D 1792 2048 0 (by decide) (by decide) 0 rfl _ _ (logs.2.2.2.2.2.2.2.2.2.2.2.2.2.2.1 _) ((first_head Q K V D).2.2.2.2.2.2) rfl _,
    piece_log Q K D 1536 1792 1 (by decide) (by decide) 1 rfl _ _ (logs.2.2.2.2.2.2.2.2.2.2.2.2.2.1 _) ((second_head Q K V D).2.2.2.2.2.1) rfl _,
    piece_log Q K D 1536 1792 0 (by decide) (by decide) 0 rfl _ _ (logs.2.2.2.2.2.2.2.2.2.2.2.2.1 _) ((first_head Q K V D).2.2.2.2.2.1) rfl _,
    piece_log Q K D 1280 1536 1 (by decide) (by decide) 1 rfl _ _ (logs.2.2.2.2.2.2.2.2.2.2.2.1 _) ((second_head Q K V D).2.2.2.2.1) rfl _,
    piece_log Q K D 1280 1536 0 (by decide) (by decide) 0 rfl _ _ (logs.2.2.2.2.2.2.2.2.2.2.1 _) ((first_head Q K V D).2.2.2.2.1) rfl _,
    piece_log Q K D 1024 1280 1 (by decide) (by decide) 1 rfl _ _ (logs.2.2.2.2.2.2.2.2.2.1 _) ((second_head Q K V D).2.2.2.1) rfl _,
    piece_log Q K D 1024 1280 0 (by decide) (by decide) 0 rfl _ _ (logs.2.2.2.2.2.2.2.2.1 _) ((first_head Q K V D).2.2.2.1) rfl _,
    piece_log Q K D 768 1024 1 (by decide) (by decide) 1 rfl _ _ (logs.2.2.2.2.2.2.2.1 _) ((second_head Q K V D).2.2.1) rfl _,
    piece_log Q K D 768 1024 0 (by decide) (by decide) 0 rfl _ _ (logs.2.2.2.2.2.2.1 _) ((first_head Q K V D).2.2.1) rfl _,
    piece_log Q K D 512 768 1 (by decide) (by decide) 1 rfl _ _ (logs.2.2.2.2.2.1 _) ((second_head Q K V D).2.1) rfl _,
    piece_log Q K D 512 768 0 (by decide) (by decide) 0 rfl _ _ (logs.2.2.2.2.1 _) ((first_head Q K V D).2.1) rfl _,
    piece_log Q K D 256 512 1 (by decide) (by decide) 1 rfl _ _ (logs.2.2.2.1 _) ((second_head Q K V D).1) rfl _,
    piece_log Q K D 256 512 0 (by decide) (by decide) 0 rfl _ _ (logs.2.2.1 _) ((first_head Q K V D).1) rfl _,
    piece_log Q K D 0 256 1 (by decide) (by decide) 1 rfl _ _ (logs.2.1 _) ((first_tile Q K V D).2) rfl _,
    piece_log Q K D 0 256 0 (by decide) (by decide) 0 rfl _ _ (logs.1 _) ((first_tile Q K V D).1) rfl _⟩

/-- and of the means. -/
theorem out_mean : out0_4 (F := Ideal) (r2 Q) (r2 K) (r2 V) (d3 D) = r2 (meanAll Q K V D) := by
  funext y
  refine View.canon_apply_of_pieces (Val := Elt Ideal) (e := .f32) (r2 (meanAll Q K V D)) _ ?_ y (cover0_4 _ _ _ _ _ _ _ _ y)
  simp only [List.forall_mem_cons, List.not_mem_nil, false_implies, implies_true, and_true]
  exact ⟨piece_mean Q K V D 1792 2048 (by decide) (by decide) _ _ _ _ (means.2.2.2.2.2.2.2 _ _ _ _) ((first_head Q K V D).2.2.2.2.2.2) ((second_head Q K V D).2.2.2.2.2.2) (ld_pre 2048 V _) rfl _,
    piece_mean Q K V D 1536 1792 (by decide) (by decide) _ _ _ _ (means.2.2.2.2.2.2.1 _ _ _) ((first_head Q K V D).2.2.2.2.2.1) ((second_head Q K V D).2.2.2.2.2.1) (ld_pre 1792 V _) rfl _,
    piece_mean Q K V D 1280 1536 (by decide) (by decide) _ _ _ _ (means.2.2.2.2.2.1 _ _ _) ((first_head Q K V D).2.2.2.2.1) ((second_head Q K V D).2.2.2.2.1) (ld_pre 1536 V _) rfl _,
    piece_mean Q K V D 1024 1280 (by decide) (by decide) _ _ _ _ (means.2.2.2.2.1 _ _ _) ((first_head Q K V D).2.2.2.1) ((second_head Q K V D).2.2.2.1) (ld_pre 1280 V _) rfl _,
    piece_mean Q K V D 768 1024 (by decide) (by decide) _ _ _ _ (means.2.2.2.1 _ _ _) ((first_head Q K V D).2.2.1) ((second_head Q K V D).2.2.1) (ld_pre 1024 V _) rfl _,
    piece_mean Q K V D 512 768 (by decide) (by decide) _ _ _ _ (means.2.2.1 _ _ _) ((first_head Q K V D).2.1) ((second_head Q K V D).2.1) (ld_pre 768 V _) rfl _,
    piece_mean Q K V D 256 512 (by decide) (by decide) _ _ _ _ (means.2.1 _ _ _) ((first_head Q K V D).1) ((second_head Q K V D).1) (ld_pre 512 V _) rfl _,
    piece_mean Q K V D 0 256 (by decide) (by decide) _ _ _ _ (means.1 _ _ _) ((first_tile Q K V D).1) ((first_tile Q K V D).2) (ld_pre 256 V _) rfl _⟩

end Cert.AfwdKernelIdeal.Arrays
end
-- ==== Proof.AfwdRef.lean ====
/- What the reference of the forward attention computes from real arrays. -/
module

public import proofs.«01_k».proof.Proof.AttnHeads
public import proofs.«01_k».proof.Proof.Reals
public import proofs.«01_k».proof.Proof.Gen.AfwdReferenceIdeal.Read

@[expose] public section

set_option maxRecDepth 16384
noncomputable section
open Idealize.ShloMosaic Idealize.ShloMosaic.TcCoe Idealize.SL.Sem

namespace Cert.AfwdReferenceIdeal.Read
open Cert.AfwdReferenceIdeal Cert.AfwdReferenceIdeal.Gen Cert.Reals Cert.AttnMath

/-- Each row's mean of the values under its weights. -/
def gO (X : Fin 2048 → Fin 1536 → ℝ) (C : Fin 8 → Fin 2048 → ℝ) (g : Fin 8) (i : Fin 2048) (d : Fin 64) : ℝ := ∑ j, gP X C g i j * vh X g j d

variable (X : Fin 2048 → Fin 1536 → ℝ) (C : Fin 8 → Fin 2048 → ℝ)

/-- The arguments. -/
abbrev aX : S2048x1536.Idx → EReal := up fun i => X (i 0) (i 1)
abbrev aC : S8x2048.Idx → EReal := up fun i => C (i 0) (i 1)

/-- A row of masked scores, with or without a term of the row's own: its largest is real, -/
theorem top_real (f : Fin 2048 → EReal) (s : Fin 2048 → ℝ) (i : Fin 2048) (hf : ∀ j, f j = if j.val ≤ i.val then ((s j : ℝ) : EReal) else ⊥) :
    ∃ r : ℝ, Finset.univ.fold max (Ideal.ofBits .f32 0xFF800000#32) f = (r : EReal) := by
  refine max_real _ (fun _ _ => rfl) _ bits_bot _ i ?_ fun j => ?_
  · rw [hf, if_pos le_rfl]; exact EReal.coe_ne_bot _
  · rw [hf]; split_ifs; exacts [EReal.coe_ne_top _, bot_ne_top]

/-- and its exponentials are those of the scores, times one factor. -/
theorem exp_row (f : EReal) (g : Fin 8) (i j : Fin 2048) (r u : ℝ) (hf : f = if j.val ≤ i.val then ((gs X C g i j + u : ℝ) : EReal) else ⊥) :
    Ideal.exp (f - (r : EReal)) = (((if j.val ≤ i.val then Real.exp (gs X C g i j) else 0) * Real.exp (u - r) : ℝ) : EReal) := by
  rw [hf]
  split_ifs
  · rw [← EReal.coe_sub, Ideal.exp_coe, ← Real.exp_add]
    exact congrArg Real.toEReal (congrArg _ (by ring))
  · rw [zero_mul, EReal.bot_sub, Ideal.exp_bot]
    rfl

/-! ## The means -/

theorem v21_up (g : Fin 8) (i j : Fin 2048) :
    val_main_v21 (F := Ideal) (aX X) (aC C) (ix3 g i j) = if j.val ≤ i.val then ((gs X C g i j + C g i : ℝ) : EReal) else ⊥ := by
  pointwise [val_main_v21, val_main_call0_v0, val_main_call0_v1, val_main_call0_v2, val_main_cst_0, val_main_v20, val_main_v19, val_main_v18, val_main_v17, val_main_v16,
    val_main_v15, val_main_v14, val_main_v13, val_main_v12, val_main_v11, val_main_v10, val_main_v9, val_main_v8, val_main_v7, val_main_v6, val_main_v4, val_main_v3,
    val_main_v1, val_main_v0, val_main_cst]
  rw [select_le _ _ (by omega) (by omega)]
  simp only [bits_bot, bits_eighth, up, ← EReal.coe_mul, sum_up, ← EReal.coe_add, ← EReal.coe_sub]
  refine if_congr Iff.rfl (congrArg Real.toEReal ?_) rfl
  rw [gs]
  show (∑ d, qh X g i d * kh X g j d) * (1 / 8) + C g i - C g j = _
  ring

theorem v22_real (g : Fin 8) (i : Fin 2048) : ∃ r : ℝ, val_main_v22 (F := Ideal) (aX X) (aC C) (ix2 g i) = (r : EReal) := by
  pointwise [val_main_v22, val_main_cst_1]
  exact top_real _ _ i (v21_up X C g i)

theorem v24_real (g : Fin 8) (i : Fin 2048) : ∃ r : ℝ, val_main_v24 (F := Ideal) (aX X) (aC C) (ix2 g i) = (r : EReal) := by
  obtain ⟨r, hr⟩ := v22_real X C g i
  refine ⟨r, ?_⟩
  rw [val_main_v24_apply, hr, val_main_v23_apply, val_main_cst_2_apply]
  show Ideal.ofBits .f32 0xFF800000#32 ⊔ (r : EReal) = r
  rw [bits_bot]
  exact bot_sup_eq _

section
variable (g : Fin 8) (i : Fin 2048) (r : ℝ) (hr : val_main_v24 (F := Ideal) (aX X) (aC C) (ix2 g i) = (r : EReal))
include hr

theorem v28_up (j : Fin 2048) : val_main_v28 (F := Ideal) (aX X) (aC C) (ix3 g i j) = (((if j.val ≤ i.val then Real.exp (gs X C g i j) else 0) * Real.exp (C g i - r) : ℝ) : EReal) := by
  pointwise [val_main_v28, val_main_v27, val_main_v26, val_main_v25]
  rw [hr]
  exact exp_row X C _ g i j r _ (v21_up X C g i j)

theorem v29_up : val_main_v29 (F := Ideal) (aX X) (aC C) (ix2 g i) = ((gZ X C g i * Real.exp (C g i - r) : ℝ) : EReal) := by
  pointwise [val_main_v29, val_main_cst_3]
  simp only [v28_up X C g i r hr, sum_up, ← Finset.sum_mul]
  rfl

theorem v32_up (j : Fin 2048) : val_main_v32 (F := Ideal) (aX X) (aC C) (ix3 g i j) = (gP X C g i j : ℝ) := by
  have he := Real.exp_pos (C g i - r)
  pointwise [val_main_v32, val_main_v31, val_main_v30]
  rw [v28_up X C g i r hr, v29_up X C g i r hr, div_up _ (mul_pos (gZ_pos X C g i) he).ne', mul_div_mul_right _ _ he.ne', gP]
  split_ifs
  · rfl
  · rw [zero_div]
end

theorem v33_up (g : Fin 8) (d : Fin 64) (i : Fin 2048) : val_main_v33 (F := Ideal) (aX X) (aC C) (ix3 g d i) = (gO X C g i d : ℝ) := by
  obtain ⟨r, hr⟩ := v24_real X C g i
  have hv : ∀ j, val_main_v5 (F := Ideal) (aX X) (ix3 j g d) = (vh X g j d : ℝ) := fun j => by
    pointwise [val_main_v5, val_main_v2]
    rfl
  pointwise [val_main_v33]
  simp only [v32_up X C g i r hr, hv, ← EReal.coe_mul, sum_up, mul_comm (vh X g _ d)]
  rfl

theorem v35_up (i : Fin 2048) (c : Fin 512) : val_main_v35 (F := Ideal) (aX X) (aC C) (ix2 i c) = (gO X C (hd c) i (co c) : ℝ) := by
  pointwise [val_main_v35, val_main_v34]
  exact v33_up X C _ _ _

/-! ## The logarithms -/

theorem v53_up (g : Fin 8) (i j : Fin 2048) :
    val_main_v53 (F := Ideal) (aX X) (aC C) (ix3 g i j) = if j.val ≤ i.val then ((gs X C g i j : ℝ) : EReal) else ⊥ := by
  pointwise [val_main_v53, val_main_call1_v0, val_main_call1_v1, val_main_call1_v2, val_main_cst_5, val_main_v52, val_main_v51, val_main_v50, val_main_v49, val_main_v48,
    val_main_v47, val_main_v46, val_main_v45, val_main_v44, val_main_v43, val_main_v42, val_main_v41, val_main_v40, val_main_v39, val_main_v37, val_main_v36, val_main_cst_4]
  rw [select_le _ _ (by omega) (by omega)]
  simp only [bits_bot, bits_eighth, up, ← EReal.coe_mul, sum_up, ← EReal.coe_sub]
  refine if_congr Iff.rfl (congrArg Real.toEReal ?_) rfl
  rw [gs, Finset.sum_mul]
  refine congrArg (· - _) (Finset.sum_congr rfl fun d _ => ?_)
  exact mul_right_comm (X i _) _ _

theorem v54_real (g : Fin 8) (i : Fin 2048) : ∃ r : ℝ, val_main_v54 (F := Ideal) (aX X) (aC C) (ix2 g i) = (r : EReal) := by
  pointwise [val_main_v54, val_main_cst_6]
  exact top_real _ _ i (v53_up X C g i)

section
variable (g : Fin 8) (i : Fin 2048) (r : ℝ) (hr : val_main_v54 (F := Ideal) (aX X) (aC C) (ix2 g i) = (r : EReal))
include hr

theorem v58_up (j : Fin 2048) : val_main_v58 (F := Ideal) (aX X) (aC C) (ix3 g i j) = (((if j.val ≤ i.val then Real.exp (gs X C g i j) else 0) * Real.exp (0 - r) : ℝ) : EReal) := by
  pointwise [val_main_v58, val_main_v57, val_main_v56, val_main_v55]
  rw [hr]
  exact exp_row X C _ g i j r 0 (by rw [v53_up X C g i j, add_zero])

theorem v59_up : val_main_v59 (F := Ideal) (aX X) (aC C) (ix2 g i) = ((gZ X C g i * Real.exp (0 - r) : ℝ) : EReal) := by
  pointwise [val_main_v59, val_main_cst_7]
  simp only [v58_up X C g i r hr, sum_up, ← Finset.sum_mul]
  rfl
end

/-- A row's value and the logarithm of another's. -/
theorem log_at (v w : FVec Ideal S8x2048 .f32) (g : Fin 8) (i : Fin 2048) (z : Fin 1) :
    addf (broadcastInDim S8x2048x1 ![0, 1] bcast_S8x2048_S8x2048x1_0_1 v) (Host.log (broadcastInDim S8x2048x1 ![0, 1] bcast_S8x2048_S8x2048x1_0_1 w)) (ix3 g i z)
      = v (ix2 g i) + Ideal.log (w (ix2 g i)) := by
  pointwise

theorem v62_up (g : Fin 8) (i : Fin 2048) (z : Fin 1) : val_main_v62 (F := Ideal) (aX X) (aC C) (ix3 g i z) = (Real.log (gZ X C g i) : ℝ) := by
  obtain ⟨r, hr⟩ := v54_real X C g i
  have hz := gZ_pos X C g i
  refine (log_at _ _ g i z).trans ?_
  rw [hr, v59_up X C g i r hr, Ideal.log_coe, if_neg (not_le.2 (mul_pos hz (Real.exp_pos _))), Real.log_mul hz.ne' (Real.exp_pos _).ne', Real.log_exp, ← EReal.coe_add]
  exact congrArg _ (by ring)

/-- The two results. -/
theorem o_of : val_main_v35 (F := Ideal) (aX X) (aC C) = up fun i => gO X C (hd (i 1)) (i 0) (co (i 1)) := by
  funext y
  idx_vars y
  exact v35_up X C y0 y1
theorem lse_of : val_main_v62 (F := Ideal) (aX X) (aC C) = up fun i => Real.log (gZ X C (i 0) (i 1)) := by
  funext y
  idx_vars y
  exact v62_up X C y0 y1 y2

end Cert.AfwdReferenceIdeal.Read
end
-- ==== Proof.AfwdBlocks.lean ====
/- The blocks the forward attention kernel's grid points read, and what its grid leaves in its two arrays, from real arrays. -/
module

public import proofs.«01_k».proof.Proof.AfwdOuts
public import proofs.«01_k».proof.Proof.AfwdRef
public import proofs.«01_k».proof.Proof.AttnBlocks
public import proofs.«01_k».proof.Proof.Gen.AfwdKernelIdeal.Value
public import Idealize.ShloMosaic.Lib.Claim

@[expose] public section

set_option maxRecDepth 16384
noncomputable section
open Idealize.ShloMosaic Idealize.ShloMosaic.TcCoe Idealize.SL.Sem

namespace Cert.AfwdKernelIdeal.Arrays
open Cert.AfwdKernelIdeal Cert.AfwdKernelIdeal.Gen Cert.Reals Cert.AttnMath
open Cert.AttnKernelIdeal.Arrays (r2 r1 d3 l3 score)
open Cert.AfwdReferenceIdeal.Read (gO aX aC)

variable (X : Fin 2048 → Fin 1536 → ℝ) (C : Fin 8 → Fin 2048 → ℝ)

/-! ## A pair of heads as two of the eight -/

theorem exAll_pair (t : Fin 4) (h : Fin 2) (i j : Fin 2048) :
    exAll (tQ X t) (tK X t) (tD C t) h i j = if j.val ≤ i.val then Real.exp (gs X C (head t h) i j) else 0 := by
  rw [exAll, sc_pair]

theorem log_pair (t : Fin 4) (h : Fin 2) (i : Fin 2048) : logAll (tQ X t) (tK X t) (tD C t) h i = Real.log (gZ X C (head t h) i) := by
  simp only [logAll, exAll_pair]
  rfl

theorem meanHead_pair (t : Fin 4) (h : Fin 2) (i : Fin 2048) (b : Fin 128) :
    meanHead (tQ X t) (tK X t) (tV X t) (tD C t) h i b = ∑ j, gP X C (head t h) i j * tV X t j b := by
  simp only [meanHead, exAll_pair]
  change _ / gZ X C (head t h) i = _
  rw [Finset.sum_div]
  refine Finset.sum_congr rfl fun j _ => ?_
  rw [gP]
  split_ifs <;> ring

theorem mean_pair (t : Fin 4) (i : Fin 2048) (b : Fin 128) : meanAll (tQ X t) (tK X t) (tV X t) (tD C t) i b
    = gO X C (hd ⟨t.val * 128 + b.val, by omega⟩) i (co ⟨t.val * 128 + b.val, by omega⟩) := by
  have hb : ∀ h : Fin 2, lane h b → meanHead (tQ X t) (tK X t) (tV X t) (tD C t) h i b
      = gO X C (hd ⟨t.val * 128 + b.val, by omega⟩) i (co ⟨t.val * 128 + b.val, by omega⟩) := fun h hl => by
    rw [meanHead_pair, at_lane t b fun g d => gO X C g i d, gO]
    have e : (⟨b.val / 64, by omega⟩ : Fin 2) = h := Fin.ext hl
    rw [e]
    refine Finset.sum_congr rfl fun j _ => congrArg (_ * ·) (congrArg (X j) (Fin.ext ?_))
    simp only [← hl]
    omega
  rw [meanAll]
  split_ifs with h0
  · exact hb 0 h0
  · refine hb 1 ?_
    have := b.isLt
    change ¬ b.val / 64 = 0 at h0
    change b.val / 64 = 1
    omega

variable (m : (ℓ : Loc nD τ sig) → Buf (Elt Ideal) ℓ) (c : Dev nD)

theorem idx_in : ∀ t : Fin cfg0.N, win0_0.index t = ![0, t.val] ∧ win0_1.index t = ![0, 4 + t.val] ∧ win0_2.index t = ![0, 8 + t.val]
    ∧ win0_3.index t = ![t.val, 0, 0] ∧ win0_4.index t = ![0, t.val] ∧ win0_5.index t = ![t.val, 0, 0] ∧ t.val < 4 :=
  (by decide +kernel : ∀ t : Fin grid0.N, _)

/-- The pair of heads of a grid point. -/
abbrev pt (t : Fin cfg0.N) : Fin 4 := ⟨t.val, (idx_in t).2.2.2.2.2.2⟩

theorem V_v0 : V m c main_v0 = m ((c.tc : Thread nD τ).loc main_arg0) := by
  entry_read
  rfl
theorem V_v1 : V m c main_v1 = (shapeCast S8x1x2048 (m ((c.tc : Thread nD τ).loc main_arg1)) shapeCasts_S8x2048_S8x1x2048 : S8x1x2048.Idx → Elt Ideal .f32) := by
  entry_read
  rfl

section
variable (hX : m ((c.tc : Thread nD τ).loc main_arg0) = aX X) (hC : m ((c.tc : Thread nD τ).loc main_arg1) = aC C) (t : Fin cfg0.N)

include hX in
theorem blk_q : iblk m c 0 t = r2 (tQ X (pt t)) := by
  funext y
  refine Eq.trans ?_ (congrFun ((V_v0 m c).trans hX) (ix2 (y 0) ⟨t.val * 128 + (y 1).val, by have := (pt t).isLt; have := (y 1).isLt; change _ < 128 at this; change t.val < 4 at *; omega⟩))
  blk_ext [iblk, idx_in t]

include hX in
theorem blk_k : iblk m c 1 t = r2 (tK X (pt t)) := by
  funext y
  refine Eq.trans ?_ (congrFun ((V_v0 m c).trans hX) (ix2 (y 0) ⟨512 + (t.val * 128 + (y 1).val), by have := (pt t).isLt; have := (y 1).isLt; change _ < 128 at this; change t.val < 4 at *; omega⟩))
  blk_ext [iblk, idx_in t]

include hX in
theorem blk_v : iblk m c 2 t = r2 (tV X (pt t)) := by
  funext y
  refine Eq.trans ?_ (congrFun ((V_v0 m c).trans hX) (ix2 (y 0) ⟨1024 + (t.val * 128 + (y 1).val), by have := (pt t).isLt; have := (y 1).isLt; change _ < 128 at this; change t.val < 4 at *; omega⟩))
  blk_ext [iblk, idx_in t]

include hC in
theorem blk_d : iblk m c 3 t = d3 (tD C (pt t)) := by
  funext y
  have e : ∀ (g : Fin 8) (z : Fin 1) (j : Fin 2048), V m c main_v1 (ix3 g z j) = (C g j : EReal) := fun g z j => by
    rw [V_v1, hC]
    pointwise
    rfl
  refine Eq.trans ?_ (e (head (pt t) (y 0)) (y 1) (y 2))
  blk_ext [iblk, idx_in t]

include hX hC
theorem out4_blk : out0_4 (F := Ideal) (iblk m c 0 t) (iblk m c 1 t) (iblk m c 2 t) (iblk m c 3 t) = r2 (meanAll (tQ X (pt t)) (tK X (pt t)) (tV X (pt t)) (tD C (pt t))) := by
  rw [blk_q X m c hX t, blk_k X m c hX t, blk_v X m c hX t, blk_d C m c hC t, out_mean]
theorem out5_blk : out0_5 (F := Ideal) (iblk m c 0 t) (iblk m c 1 t) (iblk m c 2 t) (iblk m c 3 t) = l3 (logAll (tQ X (pt t)) (tK X (pt t)) (tD C (pt t))) := by
  rw [blk_q X m c hX t, blk_k X m c hX t, blk_v X m c hX t, blk_d C m c hC t, out_log]
end

/-! ## The two arrays -/

variable (hX : m ((c.tc : Thread nD τ).loc main_arg0) = aX X) (hC : m ((c.tc : Thread nD τ).loc main_arg1) = aC C)
include hX hC

theorem o_array : (dats m 0 c).arrAt 4 cfg0.N = up fun i => gO X C (hd (i 1)) (i 0) (co (i 1)) := by
  refine (dats m 0 c).arrAt_eq_of_covers 4 _ (by decide +kernel) fun t _ y => ?_
  blk_simp
  rw [after0_4, out4_blk X C m c hX hC t]
  have hi : ∀ a, ((((View.whole main_v2_0).slice (win0_4.rect t)).emb y) a : ℕ) = win0_4.index t a * ![2048, 128] a + y a := by
    intro a; fin_cases a <;> blk_simp
  have hi0 := hi 0
  have hi1 := hi 1
  rw [(idx_in t).2.2.2.2.1] at hi0 hi1
  refine congrArg Real.toEReal ((mean_pair X C (pt t) (y 0) (y 1)).trans ?_)
  exact Cert.AttnKernelIdeal.Arrays.col_idx (pt t) (y 0) (y 1) _ (by simpa using hi0) (by simpa using hi1) (gO X C)

theorem lse_array : (dats m 0 c).arrAt 5 cfg0.N = up fun i => Real.log (gZ X C (i 0) (i 1)) := by
  refine (dats m 0 c).arrAt_eq_of_covers 5 _ (by decide +kernel) fun t _ y => ?_
  blk_simp
  rw [after0_5, out5_blk X C m c hX hC t]
  have hi : ∀ a, ((((View.whole main_v2_1).slice (win0_5.rect t)).emb y) a : ℕ) = win0_5.index t a * ![2, 2048, 1] a + y a := by
    intro a; fin_cases a <;> blk_simp
  have hi0 := hi 0
  have hi1 := hi 1
  rw [(idx_in t).2.2.2.2.2.1] at hi0 hi1
  refine congrArg Real.toEReal ((log_pair X C (pt t) (y 0) (y 1)).trans ?_)
  exact congrArg Real.log (congrArg₂ (gZ X C) (Fin.ext (by simpa using hi0.symm)) (Fin.ext (by simpa using hi1.symm)))

end Cert.AfwdKernelIdeal.Arrays
end
-- ==== Proof.AfwdClaim.lean ====
/- The claims about the forward attention kernel. -/
module

public import proofs.«01_k».proof.Defs
public import proofs.«01_k».proof.Proof.AfwdBlocks
public import proofs.«01_k».proof.Proof.AfwdRef
public import proofs.«01_k».proof.Proof.Gen.AfwdKernel.Frame
public import proofs.«01_k».proof.Proof.Gen.AfwdKernelIdeal.Value
public import proofs.«01_k».proof.Proof.Gen.AfwdReferenceIdeal.Run
public import Idealize.ShloMosaic.Lib.Quiescent

@[expose] public section

set_option maxRecDepth 16384
noncomputable section
open Idealize.ShloMosaic Idealize.ShloMosaic.TcCoe Idealize.SL.Sem

namespace Cert.AfwdClaim
open Cert.Reals Cert.AttnMath

instance facts_pre : Cert.Pre_afwd_finite.Facts := by
  constructor <;> decide +kernel

/-- The precondition gives the two arguments as real arrays, each a function of a row and a column. -/
theorem reals (m) (h : Cert.Pre_AfwdKernelIdeal_afwd_finite m) (c : Dev Cert.AfwdKernelIdeal.nD) :
    ∃ X C, m ((c.tc : Thread _ Cert.AfwdKernelIdeal.τ).loc Cert.AfwdKernelIdeal.main_arg0) = Cert.AfwdReferenceIdeal.Read.aX X
      ∧ m ((c.tc : Thread _ Cert.AfwdKernelIdeal.τ).loc Cert.AfwdKernelIdeal.main_arg1) = Cert.AfwdReferenceIdeal.Read.aC C := by
  obtain ⟨h0, h1⟩ := h c
  obtain ⟨X, hX⟩ := reals_of_test _ _ _ h0
  obtain ⟨C, hC⟩ := reals_of_test _ _ _ h1
  refine ⟨fun i j => X (ix2 i j), fun i j => C (ix2 i j), hX.trans ?_, hC.trans ?_⟩
  · exact funext fun i => congrArg (up X) (by funext a; fin_cases a <;> rfl : i = ix2 (i 0) (i 1))
  · exact funext fun i => congrArg (up C) (by funext a; fin_cases a <;> rfl : i = ix2 (i 0) (i 1))

/-- The reference declares no semaphore, so its run leaves every counter at zero. -/
theorem frame_ref : Cert.quiescent_AfwdReferenceIdeal (hAfwdReferenceIdeal := Cert.AfwdReferenceIdeal.Gen.facts) := fun m g _ =>
  (θ_run _ _ _).mono (fun r h => ⟨fun c => (h c).2.2, sem_eq_zero_of_no_sems (by decide) r.2⟩) (Cert.AfwdReferenceIdeal.Value.run (F := Ideal) m g)

/-- The two programs end with equal results. -/
theorem algebraic : Cert.algebraic_AfwdKernelIdeal_AfwdReferenceIdeal_pre_afwd_finite
    (hAfwdKernelIdeal := Cert.AfwdKernelIdeal.Gen.facts) (hAfwdReferenceIdeal := Cert.AfwdReferenceIdeal.Gen.facts) := by
  intro m g m' g' hpre hag
  refine ⟨fun c => _, fun c => _, Cert.AfwdKernelIdeal.Value.run_blocks m g, ?_⟩
  refine (θ_run _ _ _).mono (fun r h c => ?_) (Cert.AfwdReferenceIdeal.Value.run m' g')
  obtain ⟨X, C, hX, hC⟩ := reals m hpre c
  obtain ⟨a0, a1⟩ := hag c
  obtain ⟨r0, r1, k⟩ := h c
  refine ⟨r0.trans ?_, r1.trans ?_, k⟩
  · rw [Cert.AfwdReferenceIdeal.Read.val_main_v35_eq, a0, a1, hX, hC]
    exact (Cert.AfwdReferenceIdeal.Read.o_of X C).trans (Cert.AfwdKernelIdeal.Arrays.o_array X C m c hX hC).symm
  · rw [Cert.AfwdReferenceIdeal.Read.val_main_v62_eq, a0, a1, hX, hC]
    exact (Cert.AfwdReferenceIdeal.Read.lse_of X C).trans (Cert.AfwdKernelIdeal.Arrays.lse_array X C m c hX hC).symm

end Cert.AfwdClaim
end
-- ==== Proof.ConvKernelIdealFrame.lean ====
/- The frame of the convolution's backward kernel (ConvKernelIdeal): its body runs to an end from any staged arrays, and its results are not
   tracked. -/
module

public import proofs.«01_k».proof.Proof.Gen.ConvKernelIdeal.Frame.Runs
public import Idealize.ShloMosaic.Lib.Pipeline.Frame
public import Idealize.ShloMosaic.Lib.Tactic

@[expose] public section

set_option maxRecDepth 16384

noncomputable section

namespace Cert.ConvKernelIdeal.Whole

open Cert.ConvKernelIdeal Cert.ConvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents that the body starts from are contents at some value. -/
theorem some_contents {sp : Space} {s : Shape} {e : EltTy} (c : Dev nD) (a : Memref sig .tc sp s e) (f : BufTy.Contents (Elt F) a.view.ty) :
    (a.view.loc (c : Thread nD τ) ↦[a.view.set]{fullShare} f : sProp 𝕄) ⊢ iprop(∃ d, owns (c : Thread nD τ) a fullShare d) := by
  unfold owns
  iintro H
  iexists _, _; isplitr; swap; · iexact H
  ipureintro; rfl

/-- An array held at its contents is owned at the value they came from. -/
theorem same_contents {sp : Space} {s : Shape} {e : EltTy} (c : Dev nD) (a : Memref sig .tc sp s e) (h : a.IsWhole) (x : Vec F s e) :
    (a.view.loc (c : Thread nD τ) ↦[a.view.set]{fullShare} h.unread x : sProp 𝕄) ⊢ iprop(∃ f, ⌜a.view.read (Elt F) f = x⌝ ∗ (a.view.loc (c : Thread nD τ) ↦[a.view.set]{fullShare} f)) := by
  iintro H
  iexists _; isplitr; swap; · iexact H
  ipureintro; exact h.read_unread _

set_option maxHeartbeats 0 in
/-- The body keeps what it reads and leaves every other buffer at some contents. -/
theorem body_runs (c : Dev nD) (a0 : Memref sig .tc .vmem S2048x1024 .f32) (h0 : a0.IsWhole) (a1 : Memref sig .tc .vmem S2048x512 .f32) (h1 : a1.IsWhole) (a2 : Memref sig .tc .vmem S2048x512 .f32) (h2 : a2.IsWhole) (a3 : Memref sig .tc .vmem S32x512 .f32) (h3 : a3.IsWhole) (a4 : Memref sig .tc .vmem S1x512 .f32) (h4 : a4.IsWhole) (a5 : Memref sig .tc .vmem S1x512 .f32) (h5 : a5.IsWhole) (a6 : Memref sig .tc .vmem S1x512 .f32) (h6 : a6.IsWhole) (a7 : Memref sig .tc .vmem S2048x1024 .bf16) (h7 : a7.IsWhole) (a8 : Memref sig .tc .vmem S32x512 .f32) (h8 : a8.IsWhole) (a9 : Memref sig .tc .vmem S1x512 .f32) (h9 : a9.IsWhole) (a10 : Memref sig .tc .vmem S1x512 .f32) (h10 : a10.IsWhole) (a11 : Memref sig .tc .vmem S1x512 .f32) (h11 : a11.IsWhole) (a12 : Memref sig .tc .vmem S1x512 .f32) (h12 : a12.IsWhole) (a13 : Memref sig .tc .vmem S2096x512 .f32) (h13 : a13.IsWhole) (a14 : Memref sig .tc .vmem S2096x512 .f32) (h14 : a14.IsWhole)
    (x0 : Vec F S2048x1024 .f32) (x1 : Vec F S2048x512 .f32) (x2 : Vec F S2048x512 .f32) (x3 : Vec F S32x512 .f32) (x4 : Vec F S1x512 .f32) (x5 : Vec F S1x512 .f32) (x6 : Vec F S1x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
      ⊢ wp frame (wpE (defs₀ (F := F)) Variants.none c none) E (cc0_conv_bwd a0 h0 a1 h1 a2 h2 a3 h3 a4 h4 a5 h5 a6 h6 a7 h7 a8 h8 a9 h9 a10 h10 a11 h11 a12 h12 a13 h13 a14 h14) K := by
  simp only [cc0_conv_bwd_eq_skeleton]; unfold cc0_conv_bwd_skel
  simp only [k0_part15_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6
  sl_exec
  sl_step
  iapply Hk
  isplitl [H0]; · iapply (same_contents c a0 h0 x0); iexact H0
  isplitl [H1]; · iapply (same_contents c a1 h1 x1); iexact H1
  isplitl [H2]; · iapply (same_contents c a2 h2 x2); iexact H2
  isplitl [H3]; · iapply (same_contents c a3 h3 x3); iexact H3
  isplitl [H4]; · iapply (same_contents c a4 h4 x4); iexact H4
  isplitl [H5]; · iapply (same_contents c a5 h5 x5); iexact H5
  isplitl [H6]; · iapply (same_contents c a6 h6 x6); iexact H6
  isplitl [H7]; · iapply (some_contents c a7); iexact H7
  isplitl [H8]; · iapply (some_contents c a8); iexact H8
  isplitl [H9]; · iapply (some_contents c a9); iexact H9
  isplitl [H10]; · iapply (some_contents c a10); iexact H10
  isplitl [H11]; · iapply (some_contents c a11); iexact H11
  isplitl [H12]; · iapply (some_contents c a12); iexact H12
  isplitl [H13]; · iapply (some_contents c a13); iexact H13
  iapply (some_contents c a14); iexact H14

/-- The outputs, which the frame forgets. -/
def forgotten : Fin cfg0.W → Bool := ![false, false, false, false, false, false, false, true, true, true, true, true, true]

/-- The proof data: the arrays as the call finds them, the inputs' blocks kept, the outputs' contents unused. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ms0_7 t).view.read (Elt F) (ms0_7 t).view.junk
    | ⟨8, _⟩ => (ms0_8 t).view.read (Elt F) (ms0_8 t).view.junk
    | ⟨9, _⟩ => (ms0_9 t).view.read (Elt F) (ms0_9 t).view.junk
    | ⟨10, _⟩ => (ms0_10 t).view.read (Elt F) (ms0_10 t).view.junk
    | ⟨11, _⟩ => (ms0_11 t).view.read (Elt F) (ms0_11 t).view.junk
    | ⟨12, _⟩ => (ms0_12 t).view.read (Elt F) (ms0_12 t).view.junk
  Φ _ := Pipeline.ΦA spec0 c
  q _ := fullShare
  owed _ := 0

theorem A_eq (c : Dev nD) (w : Fin cfg0.W) : (dats m 0 c).A w = V m c (Pipeline.arrRef spec0 w) := by
  dsimp only [dats]

theorem kept_0 (c : Dev nD) (t : Fin cfg0.N) : (dats m 0 c).after 0 t = iblk m c 0 t := by dsimp only [dats]

theorem found_0 (c : Dev nD) (t : Fin cfg0.N) (d) : (dats m 0 c).before 0 t d = iblk m c 0 t :=
  before0_0_of m (dats m 0 c) (A_eq m c 0) (kept_0 m c) t d

theorem kept_1 (c : Dev nD) (t : Fin cfg0.N) : (dats m 0 c).after 1 t = iblk m c 1 t := by dsimp only [dats]

theorem found_1 (c : Dev nD) (t : Fin cfg0.N) (d) : (dats m 0 c).before 1 t d = iblk m c 1 t :=
  before0_1_of m (dats m 0 c) (A_eq m c 1) (kept_1 m c) t d

theorem kept_2 (c : Dev nD) (t : Fin cfg0.N) : (dats m 0 c).after 2 t = iblk m c 2 t := by dsimp only [dats]

theorem found_2 (c : Dev nD) (t : Fin cfg0.N) (d) : (dats m 0 c).before 2 t d = iblk m c 2 t :=
  before0_2_of m (dats m 0 c) (A_eq m c 2) (kept_2 m c) t d

theorem kept_3 (c : Dev nD) (t : Fin cfg0.N) : (dats m 0 c).after 3 t = iblk m c 3 t := by dsimp only [dats]

theorem found_3 (c : Dev nD) (t : Fin cfg0.N) (d) : (dats m 0 c).before 3 t d = iblk m c 3 t :=
  before0_3_of m (dats m 0 c) (A_eq m c 3) (kept_3 m c) t d

theorem kept_4 (c : Dev nD) (t : Fin cfg0.N) : (dats m 0 c).after 4 t = iblk m c 4 t := by dsimp only [dats]

theorem found_4 (c : Dev nD) (t : Fin cfg0.N) (d) : (dats m 0 c).before 4 t d = iblk m c 4 t :=
  before0_4_of m (dats m 0 c) (A_eq m c 4) (kept_4 m c) t d

theorem kept_5 (c : Dev nD) (t : Fin cfg0.N) : (dats m 0 c).after 5 t = iblk m c 5 t := by dsimp only [dats]

theorem found_5 (c : Dev nD) (t : Fin cfg0.N) (d) : (dats m 0 c).before 5 t d = iblk m c 5 t :=
  before0_5_of m (dats m 0 c) (A_eq m c 5) (kept_5 m c) t d

theorem kept_6 (c : Dev nD) (t : Fin cfg0.N) : (dats m 0 c).after 6 t = iblk m c 6 t := by dsimp only [dats]

theorem found_6 (c : Dev nD) (t : Fin cfg0.N) (d) : (dats m 0 c).before 6 t d = iblk m c 6 t :=
  before0_6_of m (dats m 0 c) (A_eq m c 6) (kept_6 m c) t d

/-- The body at a point: from the blocks it finds to the blocks it keeps. -/
theorem body_sound (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))
      ⊢ wp frame (wpE (defs₀ (F := F)) Variants.none c none) Set.univ (bodyAt0 t) (fun _ => iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d))) := by
  unfold bodyAt0
  simp only [found_0, found_1, found_2, found_3, found_4, found_5, found_6]
  rw [show (dats m 0 c).Φ t.succ = (dats m 0 c).Φ t.castSucc from rfl,
    show (dats m 0 c).owesAt () t.succ = (dats m 0 c).owesAt () t.castSucc from rfl,
    kept_0, kept_1, kept_2, kept_3, kept_4, kept_5, kept_6]
  rw [show (dats m 0 c).Φ t.castSucc = Pipeline.ΦA spec0 c from rfl, PhiA0_eq]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12⟩
  iapply (body_runs c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  iintro ⟨H0, H1, H2, H3, H4, H5, H6, H7, H8, H9, H10, H11, H12, S0, S1⟩
  isplitl [S0 S1 Hg]
  · isplitl [S0 S1]
    · isplitl [S0]
      · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body's row of the table of bodies is the body at the point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgotten := fun t => by
  rw [bigSep_W0, bigSep_W0, row]
  exact triple_restated (body_sound m c t) rfl .rfl fun _ => .rfl

set_option backward.isDefEq.respectTransparency.types false in
/-- The launch: the arrays the windows read end as found, like every array no window stages, and every counter at zero. -/
theorem ends : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- An input's array ends as the call found it. -/
theorem read_only {r : PUnit × MemSt nD τ sig (Elt F)}
    (h : Pipeline.RDat.FramePost cfg0 (fun c => (dats m 0 c).toRForget forgotten) (V m) r) (c : Dev nD) (w : Fin cfg0.W)
    (hw : (cfg0.win w).isOut = false) : r.2.mem ((cfg0.spec w).arr.view.loc (c.tc : Thread nD τ)) = V m c (Pipeline.arrRef spec0 w) := by
  refine (Pipeline.RDat.FramePost.arr_in h c w hw).trans ?_
  rw [Pipeline.Dat.toRForget_A]
  exact A_eq m c w

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(read_only m h.1 c 2 rfl).trans (V_main_arg0 m c),
      (read_only m h.1 c 0 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (read_only m h.1 c 4 rfl).trans (V_main_arg4 m c),
      (read_only m h.1 c 5 rfl).trans (V_main_arg5 m c),
      (read_only m h.1 c 6 rfl).trans (V_main_arg6 m c)⟩, h.2⟩) (ends m ρ)

end Cert.ConvKernelIdeal.Whole

end
-- ==== Proof.ConvKernelFrame.lean ====
/- The frame of the convolution's backward kernel on machine numbers (ConvKernel): its text is the idealised program's, so the proof is. -/
module

public import proofs.«01_k».proof.Defs
public import proofs.«01_k».proof.Proof.Gen.ConvKernel
public import proofs.«01_k».proof.Proof.ConvKernelIdealFrame

@[expose] public section

set_option maxRecDepth 16384

noncomputable section
open Idealize.ShloMosaic Idealize.ShloMosaic.TcCoe Idealize.SL.Sem

namespace Cert.ConvKernel.Whole
open Cert.ConvKernel

/-- The bodies are the same. -/
theorem bodies_eq : @Cert.ConvKernel.defs₀ Bits _ Cert.ConvKernel.Gen.facts = @Cert.ConvKernelIdeal.defs₀ Bits _ Cert.ConvKernelIdeal.Gen.facts := by
  unfold Cert.ConvKernel.defs₀ Cert.ConvKernelIdeal.defs₀
  refine congrArg Defs.onTc ?_
  funext l a
  match l, a with
  | 0, (t, s) => with_unfolding_all rfl

theorem defs_eq : @Cert.ConvKernel.defs Bits _ Cert.ConvKernel.Gen.facts = @Cert.ConvKernelIdeal.defs Bits _ Cert.ConvKernelIdeal.Gen.facts :=
  congrArg (Pipeline.defs Cert.ConvKernelIdeal.pcfgs) bodies_eq

/-- So are the host operations. -/
theorem main_eq : @Cert.ConvKernel.main Bits _ Cert.ConvKernel.Gen.facts = @Cert.ConvKernelIdeal.main Bits _ Cert.ConvKernelIdeal.Gen.facts := by with_unfolding_all rfl

/-- The arguments end unchanged and every counter at zero. -/
theorem frame (m : (ℓ : Loc nD τ sig) → Buf (Elt Bits) ℓ) (ρ : Dev nD → PrngReg) :
    θ_run (@Cert.ConvKernel.defs Bits _ Cert.ConvKernel.Gen.facts) (onTc (τ := τ) (@Cert.ConvKernel.main Bits _ Cert.ConvKernel.Gen.facts)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) := by
  rw [defs_eq, main_eq]
  exact Cert.ConvKernelIdeal.Whole.frame (F := Bits) m ρ

end Cert.ConvKernel.Whole
end
-- ==== Proof.ConvClaim.lean ====
/- The frame of the reference of the convolution's backward call. -/
module

public import proofs.«01_k».proof.Defs
public import proofs.«01_k».proof.Proof.Gen.ConvReferenceIdeal.Run
public import Idealize.ShloMosaic.Lib.Quiescent

@[expose] public section

set_option maxRecDepth 16384
noncomputable section
open Idealize.ShloMosaic Idealize.ShloMosaic.TcCoe Idealize.SL.Sem

namespace Cert.ConvClaim

/-- The reference declares no semaphore, so its run leaves every counter at zero. -/
theorem frame_ref : Cert.quiescent_ConvReferenceIdeal (hConvReferenceIdeal := Cert.ConvReferenceIdeal.Gen.facts) := fun m g _ =>
  (θ_run _ _ _).mono (fun r h => ⟨fun c => (h c).2.2.2.2.2.2, sem_eq_zero_of_no_sems (by decide) r.2⟩) (Cert.ConvReferenceIdeal.Value.run (F := Ideal) m g)

end Cert.ConvClaim
end
-- ==== Proof.OfwdMath.lean ====
/- The output projection with the attention branch's norm and the residual, over real arrays. -/
module

public import proofs.«01_k».proof.Proof.Rms

@[expose] public section

noncomputable section

namespace Cert.OfwdMath

open Idealize.ShloMosaic Cert.Rms

abbrev Tok := (⟨2, ![2048, 1024]⟩ : Shape).Idx → ℝ
abbrev Half := (⟨2, ![2048, 512]⟩ : Shape).Idx → ℝ
abbrev Scale := (⟨2, ![1, 512]⟩ : Shape).Idx → ℝ
abbrev Wt := (⟨2, ![1024, 1024]⟩ : Shape).Idx → ℝ

/-- The attention branch, normed. -/
def ya (O : Half) (G : Scale) (a : Fin 2048) (b : Fin 512) : ℝ := O (ix2 a b) * inv 512 (fun k => O (ix2 a k)) * G (ix2 0 b)

/-- The two branches side by side. -/
def both (C O : Half) (G : Scale) (a : Fin 2048) (k : Fin 1024) : ℝ :=
  if h : k.val < 512 then C (ix2 a ⟨k.val, h⟩) else ya O G a ⟨k.val - 512, by omega⟩

/-- The projection of the two branches, added to the block's input. -/
def xo (C O : Half) (G : Scale) (W : Wt) (X : Tok) (a : Fin 2048) (b : Fin 1024) : ℝ := X (ix2 a b) + ∑ k, both C O G a k * W (ix2 k b)

/-- The same as two products, one for each branch's rows of the weights. -/
theorem xo_eq (C O : Half) (G : Scale) (W : Wt) (X : Tok) (a : Fin 2048) (b : Fin 1024) :
    X (ix2 a b) + (∑ k : Fin 512, C (ix2 a k) * W (ix2 ⟨k.val, by omega⟩ b))
        + (∑ k : Fin 512, ya O G a k * W (ix2 ⟨512 + k.val, by omega⟩ b)) = xo C O G W X a b := by
  rw [xo, add_assoc]
  refine congrArg (_ + ·) ((Fin.sum_univ_add (a := 512) (b := 512) fun k => both C O G a k * W (ix2 k b)).trans ?_).symm
  refine congrArg₂ (· + ·) (Finset.sum_congr rfl fun k _ => ?_) (Finset.sum_congr rfl fun k _ => ?_)
  · exact congrArg (· * _) (dif_pos k.isLt)
  · have hk : ¬ 512 + k.val < 512 := by omega
    exact congrArg (· * _) ((dif_neg hk).trans (congrArg (ya O G a) (Fin.ext (Nat.add_sub_cancel_left 512 k.val))))

end Cert.OfwdMath

end
-- ==== Proof.OfwdKernel.lean ====
/- What the output projection's forward kernel leaves in its two arrays, from real arrays. -/
module

public import proofs.«01_k».proof.Proof.OfwdMath
public import proofs.«01_k».proof.Proof.Gen.OfwdKernelIdeal.Value

@[expose] public section

set_option maxRecDepth 16384
noncomputable section
open Idealize.ShloMosaic Idealize.ShloMosaic.TcCoe Idealize.SL.Sem

namespace Cert.OfwdKernelIdeal.Arrays
open Cert.OfwdKernelIdeal Cert.OfwdKernelIdeal.Gen Cert.Reals Cert.Rms Cert.OfwdMath

/-! ## One block of rows -/

section Block
variable (c o : S512x512.Idx → ℝ) (g : S1x512.Idx → ℝ) (w v x : S512x1024.Idx → ℝ)

/-- A block of the normed branch. -/
def bya (p q : Fin 512) : ℝ := o (ix2 p q) * inv 512 (fun k => o (ix2 p k)) * g (ix2 0 q)

theorem ya_block (p q : Fin 512) : k0_pay1 (F := Ideal) (up o) (up g) (ix2 p q) = (bya o g p q : ℝ) := by
  pointwise [k0_pay1]
  simp only [up, bits_512, bits_eps, ← EReal.coe_mul, sum_up, div_512, ← EReal.coe_add]
  rw [show ∀ z : ℝ, z = ms 512 (fun k => o (ix2 p k)) → Ideal.rsqrt (z : EReal) = (inv 512 (fun k => o (ix2 p k)) : ℝ) from
    fun z hz => hz ▸ rsqrt_up (ms_pos (by norm_num) _)]
  · simp only [← EReal.coe_mul]
    rfl
  · rfl

theorem xo_block (p : Fin 512) (q : Fin 1024) :
    k0_pay2 (F := Ideal) (up o) (up g) (up x) (up c) (up w) (up v) (ix2 p q)
      = ((x (ix2 p q) + (∑ k, c (ix2 p k) * w (ix2 k q)) + (∑ k, bya o g p k * v (ix2 k q)) : ℝ) : EReal) := by
  pointwise [k0_pay2]
  simp only [ya_block, up, ← EReal.coe_mul, sum_up, ← EReal.coe_add]

end Block

/-! ## The arrays after the grid -/

variable (m : (ℓ : Loc nD τ sig) → Buf (Elt Ideal) ℓ) (c : Dev nD)
variable (C O : S2048x512.Idx → ℝ) (G : S1x512.Idx → ℝ) (W : S1024x1024.Idx → ℝ) (X : S2048x1024.Idx → ℝ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] ∧ t.val < 4 :=
  (by decide +kernel : ∀ t : Fin grid0.N, _)

/-- The token that row `p` of point `t`'s block is. -/
abbrev tok (t : Fin cfg0.N) (p : Fin 512) : Fin 2048 := ⟨t.val * 512 + p.val, by have := (idx t).2.2.2.2.2.2.2; omega⟩

/-- The rows of an array that point `t`'s block holds. -/
abbrev rows {w : ℕ} (A : (⟨2, ![2048, w]⟩ : Shape).Idx → ℝ) (t : Fin cfg0.N) : (⟨2, ![512, w]⟩ : Shape).Idx → ℝ :=
  fun y => A (ix2 (tok t (y 0)) (y 1))

/-- 512 rows of the weights, from row `r`. -/
abbrev half (r : ℕ) (hr : r + 512 ≤ 1024) (W : S1024x1024.Idx → ℝ) : S512x1024.Idx → ℝ :=
  fun y => W (ix2 ⟨r + (y 0).val, by have := (y 0).isLt; change _ < 512 at this; show _ < 1024; omega⟩ (y 1))

theorem ld_half (r : ℕ) (inb : ∀ a, (![r, 0] : Fin 2 → ℕ) a + S512x1024.size a ≤ S1024x1024.size a) :
    View.ld (Val := Elt Ideal) (e' := .bf16) (up W) (Rect.unit (s := S1024x1024) ![r, 0] S512x1024.size inb) = up (half r (by simpa using inb 0) W) := by
  funext y
  refine congrArg (up W) ?_
  funext a
  fin_cases a <;> exact Fin.ext (by simp [ix2])

theorem V_v0 : V m c main_v0 = m ((c.tc : Thread nD τ).loc main_arg0) := by entry_read; rfl
theorem V_v1 : V m c main_v1 = m ((c.tc : Thread nD τ).loc main_arg3) := by entry_read; rfl

variable (h0 : m ((c.tc : Thread nD τ).loc main_arg0) = up C) (h1 : m ((c.tc : Thread nD τ).loc main_arg1) = up O)
  (h2 : m ((c.tc : Thread nD τ).loc main_arg2) = up G) (h3 : m ((c.tc : Thread nD τ).loc main_arg3) = up W)
  (h4 : m ((c.tc : Thread nD τ).loc main_arg4) = up X)

include h0 in
theorem blk0 (t : Fin cfg0.N) : iblk m c 0 t = up (rows C t) := by
  funext y
  refine Eq.trans ?_ (congrFun ((V_v0 m c).trans h0) _)
  blk_ext [iblk, idx t]

include h1 in
theorem blk1 (t : Fin cfg0.N) : iblk m c 1 t = up (rows O t) := by
  funext y
  refine Eq.trans ?_ (congrFun ((V_main_arg1 m c).trans h1) _)
  blk_ext [iblk, idx t]

include h2 in
theorem blk2 (t : Fin cfg0.N) : iblk m c 2 t = up G := by
  funext y
  refine Eq.trans ?_ (congrFun ((V_main_arg2 m c).trans h2) _)
  blk_ext [iblk, idx t]

include h3 in
theorem blk3 (t : Fin cfg0.N) : iblk m c 3 t = up W := by
  funext y
  refine Eq.trans ?_ (congrFun ((V_v1 m c).trans h3) _)
  blk_ext [iblk, idx t]

include h4 in
theorem blk4 (t : Fin cfg0.N) : iblk m c 4 t = up (rows X t) := by
  funext y
  refine Eq.trans ?_ (congrFun ((V_main_arg4 m c).trans h4) _)
  blk_ext [iblk, idx t]

/-- A block's values are the array's, at the block's rows. -/
theorem xo_point (t : Fin cfg0.N) (y : S512x1024.Idx) (i : S2048x1024.Idx) (hi0 : (i 0 : ℕ) = t.val * 512 + y 0) (hi1 : (i 1 : ℕ) = y 1) :
    k0_pay2 (F := Ideal) (up (rows O t)) (up G) (up (rows X t)) (up (rows C t)) (up (half 0 (by decide) W)) (up (half 512 (by decide) W)) y
      = up (fun i => xo C O G W X (i 0) (i 1)) i := by
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 (tok t p) q := by blk_ext []
  rw [hi, xo_block]
  refine congrArg Real.toEReal (Eq.trans ?_ (xo_eq C O G W X (tok t p) q))
  refine congrArg₂ (· + ·) (congrArg (_ + ·) (Finset.sum_congr rfl fun k _ => ?_)) rfl
  exact congrArg (_ * ·) (congrArg W (congrArg (fun z => ix2 z q) (Fin.ext (Nat.zero_add _))))

theorem ya_point (t : Fin cfg0.N) (y : S512x512.Idx) (i : S2048x512.Idx) (hi0 : (i 0 : ℕ) = t.val * 512 + y 0) (hi1 : (i 1 : ℕ) = y 1) :
    k0_pay1 (F := Ideal) (up (rows O t)) (up G) y = up (fun i => ya O G (i 0) (i 1)) i := by
  obtain ⟨p, q, rfl⟩ : ∃ p q, y = ix2 p q := ⟨y 0, y 1, by funext a; fin_cases a <;> rfl⟩
  change (i 0 : ℕ) = t.val * 512 + p.val at hi0
  change (i 1 : ℕ) = q.val at hi1
  have hi : i = ix2 (tok t p) q := by blk_ext []
  rw [hi]
  exact ya_block _ _ p q

include h0 h1 h2 h3 h4

/-- The array of the block's output. -/
theorem xo_array : (dats m 0 c).arrAt 5 cfg0.N = up fun i => xo C O G W X (i 0) (i 1) := by
  refine (dats m 0 c).arrAt_eq_of_covers 5 _ (by decide +kernel) fun t _ y => ?_
  blk_simp
  rw [after0_5, blk0 m c C h0, blk1 m c O h1, blk2 m c G h2, blk3 m c W h3, blk4 m c X h4]
  have hi : ∀ a, ((((View.whole main_v2_0).slice (win0_5.rect t)).emb y) a : ℕ) = win0_5.index t a * ![512, 1024] a + y a := by
    intro a; fin_cases a <;> blk_simp
  have hi0 := hi 0
  have hi1 := hi 1
  rw [(idx t).2.2.2.2.2.1] at hi0 hi1
  frame_out
  rw [ld_half W 0, ld_half W 512]
  exact xo_point C O G W X t y _ hi0 (by simpa using hi1)

/-- The array of the normed branch. -/
theorem ya_array : (dats m 0 c).arrAt 6 cfg0.N = up fun i => ya O G (i 0) (i 1) := by
  refine (dats m 0 c).arrAt_eq_of_covers 6 _ (by decide +kernel) fun t _ y => ?_
  blk_simp
  rw [after0_6, blk0 m c C h0, blk1 m c O h1, blk2 m c G h2, blk3 m c W h3, blk4 m c X h4]
  have hi : ∀ a, ((((View.whole main_v2_1).slice (win0_6.rect t)).emb y) a : ℕ) = win0_6.index t a * ![512, 512] a + y a := by
    intro a; fin_cases a <;> blk_simp
  have hi0 := hi 0
  have hi1 := hi 1
  rw [(idx t).2.2.2.2.2.2.1] at hi0 hi1
  frame_out
  exact ya_point O G t y _ hi0 (by simpa using hi1)

end Cert.OfwdKernelIdeal.Arrays
end
-- ==== Proof.OfwdRef.lean ====
/- What the reference of the forward output projection computes from real arrays. -/
module

public import proofs.«01_k».proof.Proof.OfwdMath
public import proofs.«01_k».proof.Proof.Gen.OfwdReferenceIdeal.Read

@[expose] public section

set_option maxRecDepth 16384
noncomputable section
open Idealize.ShloMosaic Idealize.ShloMosaic.TcCoe Idealize.SL.Sem

namespace Cert.OfwdReferenceIdeal.Read
open Cert.OfwdReferenceIdeal Cert.OfwdReferenceIdeal.Gen Cert.Reals Cert.Rms Cert.OfwdMath

variable (C O : S2048x512.Idx → ℝ) (G : S1x512.Idx → ℝ) (W : S1024x1024.Idx → ℝ) (X : S2048x1024.Idx → ℝ)

theorem v8_up (a : Fin 2048) (b : Fin 1) : val_main_v8 (F := Ideal) (up O) (ix2 a b) = (inv 512 (fun k => O (ix2 a k)) : ℝ) := by
  pointwise [val_main_v8, val_main_v7, val_main_v6, val_main_v5, val_main_v4, val_main_v3, val_main_v2, val_main_v1, val_main_cst, val_main_cst_0, val_main_cst_1]
  simp only [up, bits_512, bits_eps, ← EReal.coe_mul, sum_up, div_512, ← EReal.coe_add]
  exact rsqrt_up (ms_pos (by norm_num) _)

theorem v13_up (a : Fin 2048) (b : Fin 512) : val_main_v13 (F := Ideal) (up O) (up G) (ix2 a b) = (ya O G a b : ℝ) := by
  pointwise [val_main_v13, val_main_v12, val_main_v11, val_main_v10, val_main_v9, val_main_v0]
  simp only [v8_up, up, ← EReal.coe_mul]
  rfl

theorem v14_up (a : Fin 2048) (k : Fin 1024) : val_main_v14 (F := Ideal) (up C) (up O) (up G) (ix2 a k) = (both C O G a k : ℝ) := by
  pointwise [val_main_v14]
  unfold both
  split
  · rfl
  · exact v13_up O G a _

/-- The reference's two results as arrays. -/
theorem xo_of : val_main_v16 (F := Ideal) (up C) (up O) (up G) (up W) (up X) = up fun i => xo C O G W X (i 0) (i 1) := by
  funext j
  idx_vars j
  pointwise [val_main_v16, val_main_v15]
  simp only [v14_up, up, ← EReal.coe_mul, sum_up, ← EReal.coe_add]
  rfl

theorem ya_of : val_main_v17 (F := Ideal) (up O) (up G) = up fun i => ya O G (i 0) (i 1) := by
  funext j
  idx_vars j
  pointwise [val_main_v17]
  exact v13_up O G _ _

end Cert.OfwdReferenceIdeal.Read
end
-- ==== Proof.OfwdClaim.lean ====
/- The claims about the output projection's forward kernel. -/
module

public import proofs.«01_k».proof.Defs
public import proofs.«01_k».proof.Proof.OfwdKernel
public import proofs.«01_k».proof.Proof.OfwdRef
public import proofs.«01_k».proof.Proof.Gen.OfwdKernel.Frame
public import proofs.«01_k».proof.Proof.Gen.OfwdKernelIdeal.Frame
public import proofs.«01_k».proof.Proof.Gen.OfwdReferenceIdeal.Run
public import Idealize.ShloMosaic.Lib.Quiescent

@[expose] public section

set_option maxRecDepth 16384
noncomputable section
open Idealize.ShloMosaic Idealize.ShloMosaic.TcCoe Idealize.SL.Sem

namespace Cert.OfwdClaim
open Cert.Reals Cert.OfwdMath

instance facts_pre : Cert.Pre_ofwd_finite.Facts := by
  constructor <;> decide +kernel

/-- The precondition gives the arguments as real arrays. -/
theorem reals (m) (h : Cert.Pre_OfwdKernelIdeal_ofwd_finite m) (c : Dev Cert.OfwdKernelIdeal.nD) :
    ∃ C O G W X, m ((c.tc : Thread _ Cert.OfwdKernelIdeal.τ).loc Cert.OfwdKernelIdeal.main_arg0) = up C
      ∧ m ((c.tc : Thread _ Cert.OfwdKernelIdeal.τ).loc Cert.OfwdKernelIdeal.main_arg1) = up O
      ∧ m ((c.tc : Thread _ Cert.OfwdKernelIdeal.τ).loc Cert.OfwdKernelIdeal.main_arg2) = up G
      ∧ m ((c.tc : Thread _ Cert.OfwdKernelIdeal.τ).loc Cert.OfwdKernelIdeal.main_arg3) = up W
      ∧ m ((c.tc : Thread _ Cert.OfwdKernelIdeal.τ).loc Cert.OfwdKernelIdeal.main_arg4) = up X := by
  obtain ⟨h0, h1, h2, h3, h4⟩ := h c
  obtain ⟨C, eC⟩ := reals_of_test _ _ _ h0
  obtain ⟨O, eO⟩ := reals_of_test _ _ _ h1
  obtain ⟨G, eG⟩ := reals_of_test _ _ _ h2
  obtain ⟨W, eW⟩ := reals_of_test _ _ _ h3
  obtain ⟨X, eX⟩ := reals_of_test _ _ _ h4
  exact ⟨C, O, G, W, X, eC, eO, eG, eW, eX⟩

/-- The reference declares no semaphore, so its run leaves every counter at zero. -/
theorem frame_ref : Cert.quiescent_OfwdReferenceIdeal (hOfwdReferenceIdeal := Cert.OfwdReferenceIdeal.Gen.facts) := fun m g _ =>
  (θ_run _ _ _).mono (fun r h => ⟨fun c => (h c).2.2, sem_eq_zero_of_no_sems (by decide) r.2⟩) (Cert.OfwdReferenceIdeal.Value.run (F := Ideal) m g)

/-- The two programs end with equal results. -/
theorem algebraic : Cert.algebraic_OfwdKernelIdeal_OfwdReferenceIdeal_pre_ofwd_finite
    (hOfwdKernelIdeal := Cert.OfwdKernelIdeal.Gen.facts) (hOfwdReferenceIdeal := Cert.OfwdReferenceIdeal.Gen.facts) := by
  intro m g m' g' hpre hag
  refine ⟨fun c => _, fun c => _, Cert.OfwdKernelIdeal.Value.run_blocks m g, ?_⟩
  refine (θ_run _ _ _).mono (fun r h c => ?_) (Cert.OfwdReferenceIdeal.Value.run m' g')
  obtain ⟨C, O, G, W, X, eC, eO, eG, eW, eX⟩ := reals m hpre c
  obtain ⟨a0, a1, a2, a3, a4⟩ := hag c
  obtain ⟨r0, r1, k⟩ := h c
  refine ⟨r0.trans ?_, r1.trans ?_, k⟩
  · rw [Cert.OfwdReferenceIdeal.Read.val_main_v16_eq, a0, a1, a2, a3, a4, eC, eO, eG, eW, eX]
    exact (Cert.OfwdReferenceIdeal.Read.xo_of C O G W X).trans (Cert.OfwdKernelIdeal.Arrays.xo_array m c C O G W X eC eO eG eW eX).symm
  · rw [Cert.OfwdReferenceIdeal.Read.val_main_v17_eq, a1, a2, eO, eG]
    exact (Cert.OfwdReferenceIdeal.Read.ya_of O G).trans (Cert.OfwdKernelIdeal.Arrays.ya_array m c C O G W X eC eO eG eW eX).symm

end Cert.OfwdClaim
end
-- ==== Proof.MfwdMath.lean ====
/- The input projection with its norm, over real arrays. -/
module

public import proofs.«01_k».proof.Proof.Rms

@[expose] public section

noncomputable section

namespace Cert.MfwdMath

open Idealize.ShloMosaic Cert.Rms

abbrev Tok := (⟨2, ![2048, 1024]⟩ : Shape).Idx → ℝ
abbrev Scale := (⟨2, ![1, 1024]⟩ : Shape).Idx → ℝ
abbrev Wt := (⟨2, ![1024, 2568]⟩ : Shape).Idx → ℝ

/-- The normed row. -/
def h (X : Tok) (G : Scale) (a : Fin 2048) (b : Fin 1024) : ℝ := X (ix2 a b) * inv 1024 (fun k => X (ix2 a k)) * G (ix2 0 b)

/-- The projection's columns. -/
def proj (X : Tok) (G : Scale) (W : Wt) (a : Fin 2048) (b : Fin 2568) : ℝ := ∑ k, h X G a k * W (ix2 k b)

/-- The convolution's columns. -/
def ag (X : Tok) (G : Scale) (W : Wt) (a : Fin 2048) (b : Fin 1024) : ℝ := proj X G W a ⟨b.val, by omega⟩

/-- The attention's columns. -/
def qkv (X : Tok) (G : Scale) (W : Wt) (a : Fin 2048) (b : Fin 1536) : ℝ := proj X G W a ⟨1024 + b.val, by omega⟩

/-- The forget gates' columns, widened to 128 by zeros. -/
def fl (X : Tok) (G : Scale) (W : Wt) (a : Fin 2048) (b : Fin 128) : ℝ := if hb : b.val < 8 then proj X G W a ⟨2560 + b.val, by omega⟩ else 0

end Cert.MfwdMath

end
-- ==== Proof.MfwdKernel.lean ====
/- What the input projection's forward kernel leaves in its four arrays, from real arrays. The weights that the host
   prepares are those of the backward kernel. -/
module

public import proofs.«01_k».proof.Proof.MfwdMath
public import proofs.«01_k».proof.Proof.MixKernel
public import proofs.«01_k».proof.Proof.Gen.MfwdKernelIdeal.Value

@[expose] public section

set_option maxRecDepth 16384
noncomputable section
open Idealize.ShloMosaic Idealize.ShloMosaic.TcCoe Idealize.SL.Sem

namespace Cert.MfwdKernelIdeal.Arrays
open Cert.MfwdKernelIdeal Cert.MfwdKernelIdeal.Gen Cert.Reals Cert.Rms Cert.MfwdMath
open Cert.MixKernelIdeal.Arrays (wag wqkv wf wag_of wqkv_of wf_of)

/-! ## One block of rows -/

section Block
variable (x : S512x1024.Idx → ℝ) (g : S1x1024.Idx → ℝ)

/-- A block of normed rows. -/
def bh (p : Fin 512) (q : Fin 1024) : ℝ := x (ix2 p q) * inv 1024 (fun k => x (ix2 p k)) * g (ix2 0 q)

theorem h_block (p : Fin 512) (q : Fin 1024) : k0_pay1 (F := Ideal) (up x) (up g) (ix2 p q) = (bh x g p q : ℝ) := by
  pointwise [k0_pay1]
  simp only [up, bits_1024, bits_eps, ← EReal.coe_mul, sum_up, div_1024, ← EReal.coe_add]
  rw [show ∀ z : ℝ, z = ms 1024 (fun k => x (ix2 p k)) → Ideal.rsqrt (z : EReal) = (inv 1024 (fun k => x (ix2 p k)) : ℝ) from
    fun z hz => hz ▸ rsqrt_up (ms_pos (by norm_num) _)]
  · simp only [← EReal.coe_mul]
    rfl
  · rfl

theorem ag_block (w : S1024x1024.Idx → ℝ) (p : Fin 512) (q : Fin 1024) :
    k0_pay2 (F := Ideal) (up x) (up g) (up w) (ix2 p q) = ((∑ k, bh x g p k * w (ix2 q k) : ℝ) : EReal) := by
  pointwise [k0_pay2]
  simp only [h_block, up, ← EReal.coe_mul, sum_up]

theorem qkv_block (w : S1536x1024.Idx → ℝ) (p : Fin 512) (q : Fin 1536) :
    k0_pay3 (F := Ideal) (up x) (up g) (up w) (ix2 p q) = ((∑ k, bh x g p k * w (ix2 q k) : ℝ) : EReal) := by
  pointwise [k0_pay3]
  simp only [h_block, up, ← EReal.coe_mul, sum_up]

theorem fl_block (w : S128x1024.Idx → ℝ) (p : Fin 512) (q : Fin 128) :
    k0_pay4 (F := Ideal) (up x) (up g) (up w) (ix2 p q) = ((∑ k, bh x g p k * w (ix2 q k) : ℝ) : EReal) := by
  pointwise [k0_pay4]
  simp only [h_block, up, ← EReal.coe_mul, sum_up]

end Block

/-! ## The blocks -/

variable (m : (ℓ : Loc nD τ sig) → Buf (Elt Ideal) ℓ) (c : Dev nD)
variable (X : S2048x1024.Idx → ℝ) (G : S1x1024.Idx → ℝ) (W : S1024x2568.Idx → ℝ)

theorem V_v2 : V m c main_v2 = extractStridedSlice S1024x1024 ![0, 0] (transpose S2568x1024 [1, 0] (truncf (F := Ideal) .bf16
    (m ((c.tc : Thread nD τ).loc main_arg2)) bitsLt_bf16_f32) transposes_S1024x2568_S2568x1024_1_0) slices_S2568x1024_S1024x1024_0_0 := by
  simp only [V, hostOps0, hostOps0_1, List.flatten_cons, List.flatten_nil, List.append_nil, List.cons_append, List.nil_append]
  after_results

theorem V_v3 : V m c main_v3 = extractStridedSlice S1536x1024 ![1024, 0] (transpose S2568x1024 [1, 0] (truncf (F := Ideal) .bf16
    (m ((c.tc : Thread nD τ).loc main_arg2)) bitsLt_bf16_f32) transposes_S1024x2568_S2568x1024_1_0) slices_S2568x1024_S1536x1024_1024_0 := by
  simp only [V, hostOps0, hostOps0_1, List.flatten_cons, List.flatten_nil, List.append_nil, List.cons_append, List.nil_append]
  after_results

theorem V_v5 : V m c main_v5 = pad S128x1024 ![0, 0] ![120, 0] ![0, 0] (extractStridedSlice S8x1024 ![2560, 0] (transpose S2568x1024 [1, 0]
    (truncf (F := Ideal) .bf16 (m ((c.tc : Thread nD τ).loc main_arg2)) bitsLt_bf16_f32) transposes_S1024x2568_S2568x1024_1_0) slices_S2568x1024_S8x1024_2560_0)
    (sitofp (F := Ideal) .bf16 (constantI S_ 32 0#32)) pads_S8x1024_S128x1024_01200_000 h_S_ := by
  simp only [V, hostOps0, hostOps0_1, List.flatten_cons, List.flatten_nil, List.append_nil, List.cons_append, List.nil_append]
  after_results
  rfl

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ t.val < 4 :=
  (by decide +kernel : ∀ t : Fin grid0.N, _)

/-- The token that row `p` of point `t`'s block is. -/
abbrev tok (t : Fin cfg0.N) (p : Fin 512) : Fin 2048 := ⟨t.val * 512 + p.val, by have := (idx t).2.2.2.2.2.2.2.2.2; omega⟩

/-- The rows that point `t`'s block holds. -/
abbrev rows (X : S2048x1024.Idx → ℝ) (t : Fin cfg0.N) : S512x1024.Idx → ℝ := fun y => X (ix2 (tok t (y 0)) (y 1))

/-- An array of the block's rows, read at the block's entries: from equal values at every row and column. -/
theorem at_rows {n : ℕ} (t : Fin cfg0.N) (f : (⟨2, ![512, n]⟩ : Shape).Idx → EReal) (F : Fin 2048 → Fin n → ℝ)
    (h : ∀ p q, f (ix2 p q) = (F (tok t p) q : ℝ)) (y : (⟨2, ![512, n]⟩ : Shape).Idx) (i : (⟨2, ![2048, n]⟩ : Shape).Idx)
    (hi0 : (i 0 : ℕ) = t.val * 512 + y 0) (hi1 : (i 1 : ℕ) = y 1) : f y = up (fun i => F (i 0) (i 1)) i := by
  obtain ⟨p, q, rfl⟩ : ∃ p q, y = ix2 p q := ⟨y 0, y 1, by funext a; fin_cases a <;> rfl⟩
  refine (h p q).trans (congrArg Real.toEReal (congrArg₂ F (Fin.ext ?_) (Fin.ext ?_)))
  · exact hi0.symm
  · exact hi1.symm

variable (h0 : m ((c.tc : Thread nD τ).loc main_arg0) = up X) (h1 : m ((c.tc : Thread nD τ).loc main_arg1) = up G)
  (h2 : m ((c.tc : Thread nD τ).loc main_arg2) = up W)

include h0 in
theorem blk0 (t : Fin cfg0.N) : iblk m c 0 t = up (rows X t) := by
  funext y
  refine Eq.trans ?_ (congrFun ((V_main_arg0 m c).trans h0) _)
  blk_ext [iblk, idx t]

include h1 in
theorem blk1 (t : Fin cfg0.N) : iblk m c 1 t = up G := by
  funext y
  refine Eq.trans ?_ (congrFun ((V_main_arg1 m c).trans h1) _)
  blk_ext [iblk, idx t]

include h2 in
theorem blk2 (t : Fin cfg0.N) : iblk m c 2 t = up (wag W) := by
  have hv : V m c main_v2 = up (wag W) := by rw [V_v2, h2]; exact wag_of W
  funext y
  refine Eq.trans ?_ (congrFun hv _)
  blk_ext [iblk, idx t]

include h2 in
theorem blk3 (t : Fin cfg0.N) : iblk m c 3 t = up (wqkv W) := by
  have hv : V m c main_v3 = up (wqkv W) := by rw [V_v3, h2]; exact wqkv_of W
  funext y
  refine Eq.trans ?_ (congrFun hv _)
  blk_ext [iblk, idx t]

include h2 in
theorem blk4 (t : Fin cfg0.N) : iblk m c 4 t = up (wf W) := by
  have hv : V m c main_v5 = up (wf W) := by rw [V_v5, h2]; exact wf_of W
  funext y
  refine Eq.trans ?_ (congrFun hv _)
  blk_ext [iblk, idx t]

theorem h_rows (t : Fin cfg0.N) (p : Fin 512) (q : Fin 1024) :
    k0_pay1 (F := Ideal) (up (rows X t)) (up G) (ix2 p q) = (h X G (tok t p) q : ℝ) := h_block _ _ p q

theorem ag_rows (t : Fin cfg0.N) (p : Fin 512) (q : Fin 1024) :
    k0_pay2 (F := Ideal) (up (rows X t)) (up G) (up (wag W)) (ix2 p q) = (ag X G W (tok t p) q : ℝ) := ag_block _ _ _ p q

theorem qkv_rows (t : Fin cfg0.N) (p : Fin 512) (q : Fin 1536) :
    k0_pay3 (F := Ideal) (up (rows X t)) (up G) (up (wqkv W)) (ix2 p q) = (qkv X G W (tok t p) q : ℝ) := qkv_block _ _ _ p q

theorem fl_rows (t : Fin cfg0.N) (p : Fin 512) (q : Fin 128) :
    k0_pay4 (F := Ideal) (up (rows X t)) (up G) (up (wf W)) (ix2 p q) = (fl X G W (tok t p) q : ℝ) := by
  rw [fl_block]
  refine congrArg Real.toEReal ?_
  unfold fl
  split
  · next hq => exact Finset.sum_congr rfl fun k _ => congrArg (_ * ·) (dif_pos hq)
  · next hq => exact Finset.sum_eq_zero fun k _ => (congrArg (_ * ·) (dif_neg hq)).trans (mul_zero _)

/-! ## The arrays after the grid -/

include h0 h1 h2

theorem h_array : (dats m 0 c).arrAt 5 cfg0.N = up fun i => h X G (i 0) (i 1) := by
  refine (dats m 0 c).arrAt_eq_of_covers 5 _ (by decide +kernel) fun t _ y => ?_
  blk_simp
  rw [after0_5, blk0 m c X h0, blk1 m c G h1, blk2 m c W h2, blk3 m c W h2, blk4 m c W h2]
  have hi : ∀ a, ((((View.whole main_v6_0).slice (win0_5.rect t)).emb y) a : ℕ) = win0_5.index t a * ![512, 1024] a + y a := by
    intro a; fin_cases a <;> blk_simp
  rw [(idx t).2.2.2.2.2.1] at hi
  frame_out
  exact at_rows t _ (h X G) (h_rows X G t) y _ (hi 0) (by simpa using hi 1)

theorem ag_array : (dats m 0 c).arrAt 6 cfg0.N = up fun i => ag X G W (i 0) (i 1) := by
  refine (dats m 0 c).arrAt_eq_of_covers 6 _ (by decide +kernel) fun t _ y => ?_
  blk_simp
  rw [after0_6, blk0 m c X h0, blk1 m c G h1, blk2 m c W h2, blk3 m c W h2, blk4 m c W h2]
  have hi : ∀ a, ((((View.whole main_v6_1).slice (win0_6.rect t)).emb y) a : ℕ) = win0_6.index t a * ![512, 1024] a + y a := by
    intro a; fin_cases a <;> blk_simp
  rw [(idx t).2.2.2.2.2.2.1] at hi
  frame_out
  exact at_rows t _ (ag X G W) (ag_rows X G W t) y _ (hi 0) (by simpa using hi 1)

theorem qkv_array : (dats m 0 c).arrAt 7 cfg0.N = up fun i => qkv X G W (i 0) (i 1) := by
  refine (dats m 0 c).arrAt_eq_of_covers 7 _ (by decide +kernel) fun t _ y => ?_
  blk_simp
  rw [after0_7, blk0 m c X h0, blk1 m c G h1, blk2 m c W h2, blk3 m c W h2, blk4 m c W h2]
  have hi : ∀ a, ((((View.whole main_v6_2).slice (win0_7.rect t)).emb y) a : ℕ) = win0_7.index t a * ![512, 1536] a + y a := by
    intro a; fin_cases a <;> blk_simp
  rw [(idx t).2.2.2.2.2.2.2.1] at hi
  frame_out
  exact at_rows t _ (qkv X G W) (qkv_rows X G W t) y _ (hi 0) (by simpa using hi 1)

theorem fl_array : (dats m 0 c).arrAt 8 cfg0.N = up fun i => fl X G W (i 0) (i 1) := by
  refine (dats m 0 c).arrAt_eq_of_covers 8 _ (by decide +kernel) fun t _ y => ?_
  blk_simp
  rw [after0_8, blk0 m c X h0, blk1 m c G h1, blk2 m c W h2, blk3 m c W h2, blk4 m c W h2]
  have hi : ∀ a, ((((View.whole main_v6_3).slice (win0_8.rect t)).emb y) a : ℕ) = win0_8.index t a * ![512, 128] a + y a := by
    intro a; fin_cases a <;> blk_simp
  rw [(idx t).2.2.2.2.2.2.2.2.1] at hi
  frame_out
  exact at_rows t _ (fl X G W) (fl_rows X G W t) y _ (hi 0) (by simpa using hi 1)

end Cert.MfwdKernelIdeal.Arrays
end
-- ==== Proof.MfwdRef.lean ====
/- What the reference of the forward input projection computes from real arrays. -/
module

public import proofs.«01_k».proof.Proof.MfwdMath
public import proofs.«01_k».proof.Proof.Gen.MfwdReferenceIdeal.Read

@[expose] public section

set_option maxRecDepth 16384
noncomputable section
open Idealize.ShloMosaic Idealize.ShloMosaic.TcCoe Idealize.SL.Sem

namespace Cert.MfwdReferenceIdeal.Read
open Cert.MfwdReferenceIdeal Cert.MfwdReferenceIdeal.Gen Cert.Reals Cert.Rms Cert.MfwdMath

variable (X : S2048x1024.Idx → ℝ) (G : S1x1024.Idx → ℝ) (W : S1024x2568.Idx → ℝ)

theorem v8_up (a : Fin 2048) (b : Fin 1) : val_main_v8 (F := Ideal) (up X) (ix2 a b) = (inv 1024 (fun k => X (ix2 a k)) : ℝ) := by
  pointwise [val_main_v8, val_main_v7, val_main_v6, val_main_v5, val_main_v4, val_main_v3, val_main_v2, val_main_v1, val_main_cst, val_main_cst_0, val_main_cst_1]
  simp only [up, bits_1024, bits_eps, ← EReal.coe_mul, sum_up, div_1024, ← EReal.coe_add]
  exact rsqrt_up (ms_pos (by norm_num) _)

theorem v13_up (a : Fin 2048) (b : Fin 1024) : val_main_v13 (F := Ideal) (up X) (up G) (ix2 a b) = (h X G a b : ℝ) := by
  pointwise [val_main_v13, val_main_v12, val_main_v11, val_main_v10, val_main_v9, val_main_v0]
  simp only [v8_up, up, ← EReal.coe_mul]
  rfl

theorem v14_up (a : Fin 2048) (b : Fin 2568) : val_main_v14 (F := Ideal) (up X) (up G) (up W) (ix2 a b) = (proj X G W a b : ℝ) := by
  pointwise [val_main_v14]
  simp only [v13_up, up, ← EReal.coe_mul, sum_up]
  rfl

/-- The reference's four results as arrays. -/
theorem h_of : val_main_v18 (F := Ideal) (up X) (up G) = up fun i => h X G (i 0) (i 1) := by
  funext j
  idx_vars j
  pointwise [val_main_v18]
  exact v13_up X G _ _

theorem ag_of : val_main_v15 (F := Ideal) (up X) (up G) (up W) = up fun i => ag X G W (i 0) (i 1) := by
  funext j
  idx_vars j
  pointwise [val_main_v15]
  exact v14_up X G W _ _

theorem qkv_of : val_main_v19 (F := Ideal) (up X) (up G) (up W) = up fun i => qkv X G W (i 0) (i 1) := by
  funext j
  idx_vars j
  pointwise [val_main_v19, val_main_v16]
  exact v14_up X G W _ _

theorem fl_of : val_main_v20 (F := Ideal) (up X) (up G) (up W) = up fun i => fl X G W (i 0) (i 1) := by
  funext j
  idx_vars j
  pointwise [val_main_v20, val_main_v17, val_main_call0_v0, val_main_c, up, fl]
  split
  · exact v14_up X G W _ _
  · show ((((0#32 : BitVec 32).toInt : ℤ) : ℝ) : EReal) = _
    simp

end Cert.MfwdReferenceIdeal.Read
end
-- ==== Proof.MfwdClaim.lean ====
/- The claims about the input projection's forward kernel. -/
module

public import proofs.«01_k».proof.Defs
public import proofs.«01_k».proof.Proof.MfwdKernel
public import proofs.«01_k».proof.Proof.MfwdRef
public import proofs.«01_k».proof.Proof.Gen.MfwdKernel.Frame
public import proofs.«01_k».proof.Proof.Gen.MfwdKernelIdeal.Frame
public import proofs.«01_k».proof.Proof.Gen.MfwdReferenceIdeal.Run
public import Idealize.ShloMosaic.Lib.Quiescent

@[expose] public section

set_option maxRecDepth 16384
noncomputable section
open Idealize.ShloMosaic Idealize.ShloMosaic.TcCoe Idealize.SL.Sem

namespace Cert.MfwdClaim
open Cert.Reals Cert.MfwdMath

instance facts_pre : Cert.Pre_mfwd_finite.Facts := by
  constructor <;> decide +kernel

/-- The precondition gives the arguments as real arrays. -/
theorem reals (m) (h : Cert.Pre_MfwdKernelIdeal_mfwd_finite m) (c : Dev Cert.MfwdKernelIdeal.nD) :
    ∃ X G W, m ((c.tc : Thread _ Cert.MfwdKernelIdeal.τ).loc Cert.MfwdKernelIdeal.main_arg0) = up X
      ∧ m ((c.tc : Thread _ Cert.MfwdKernelIdeal.τ).loc Cert.MfwdKernelIdeal.main_arg1) = up G
      ∧ m ((c.tc : Thread _ Cert.MfwdKernelIdeal.τ).loc Cert.MfwdKernelIdeal.main_arg2) = up W := by
  obtain ⟨h0, h1, h2⟩ := h c
  obtain ⟨X, eX⟩ := reals_of_test _ _ _ h0
  obtain ⟨G, eG⟩ := reals_of_test _ _ _ h1
  obtain ⟨W, eW⟩ := reals_of_test _ _ _ h2
  exact ⟨X, G, W, eX, eG, eW⟩

/-- The reference declares no semaphore, so its run leaves every counter at zero. -/
theorem frame_ref : Cert.quiescent_MfwdReferenceIdeal (hMfwdReferenceIdeal := Cert.MfwdReferenceIdeal.Gen.facts) := fun m g _ =>
  (θ_run _ _ _).mono (fun r h => ⟨fun c => (h c).2.2.2.2, sem_eq_zero_of_no_sems (by decide) r.2⟩) (Cert.MfwdReferenceIdeal.Value.run (F := Ideal) m g)

/-- The two programs end with equal results. -/
theorem algebraic : Cert.algebraic_MfwdKernelIdeal_MfwdReferenceIdeal_pre_mfwd_finite
    (hMfwdKernelIdeal := Cert.MfwdKernelIdeal.Gen.facts) (hMfwdReferenceIdeal := Cert.MfwdReferenceIdeal.Gen.facts) := by
  intro m g m' g' hpre hag
  refine ⟨fun c => _, fun c => _, fun c => _, fun c => _, Cert.MfwdKernelIdeal.Value.run_blocks m g, ?_⟩
  refine (θ_run _ _ _).mono (fun r h c => ?_) (Cert.MfwdReferenceIdeal.Value.run m' g')
  obtain ⟨X, G, W, eX, eG, eW⟩ := reals m hpre c
  obtain ⟨a0, a1, a2⟩ := hag c
  obtain ⟨r0, r1, r2, r3, k⟩ := h c
  refine ⟨r0.trans ?_, r1.trans ?_, r2.trans ?_, r3.trans ?_, k⟩
  · rw [Cert.MfwdReferenceIdeal.Read.val_main_v18_eq, a0, a1, eX, eG]
    exact (Cert.MfwdReferenceIdeal.Read.h_of X G).trans (Cert.MfwdKernelIdeal.Arrays.h_array m c X G W eX eG eW).symm
  · rw [Cert.MfwdReferenceIdeal.Read.val_main_v15_eq, a0, a1, a2, eX, eG, eW]
    exact (Cert.MfwdReferenceIdeal.Read.ag_of X G W).trans (Cert.MfwdKernelIdeal.Arrays.ag_array m c X G W eX eG eW).symm
  · rw [Cert.MfwdReferenceIdeal.Read.val_main_v19_eq, a0, a1, a2, eX, eG, eW]
    exact (Cert.MfwdReferenceIdeal.Read.qkv_of X G W).trans (Cert.MfwdKernelIdeal.Arrays.qkv_array m c X G W eX eG eW).symm
  · rw [Cert.MfwdReferenceIdeal.Read.val_main_v20_eq, a0, a1, a2, eX, eG, eW]
    exact (Cert.MfwdReferenceIdeal.Read.fl_of X G W).trans (Cert.MfwdKernelIdeal.Arrays.fl_array m c X G W eX eG eW).symm

end Cert.MfwdClaim
end
-- ==== Proof.GfwdMath.lean ====
/- The running sums of the log forget gates, over real arrays. -/
module

public import proofs.«01_k».proof.Proof.GatesMath

@[expose] public section

noncomputable section

namespace Cert.GfwdMath

open Idealize.ShloMosaic
open Cert.GatesMath (Heads Blk Col gate blk total beside)

/-- The log of the gate. -/
def logf (X : Heads) (B : Col) : Heads := fun i => min (gate X B i) 0 - Real.log (1 + Real.exp (-|gate X B i|))

/-- One head's entry at a token, zero past the last. -/
def entry (L : Heads) (p : Fin 16) (j : ℕ) : ℝ := if h : j < 2048 then L (ix2 p ⟨j, h⟩) else 0

/-- The sum of one head's first `s` entries. -/
def head (L : Heads) (s : ℕ) (p : Fin 16) : ℝ := ∑ j ∈ Finset.range s, entry L p j

/-- The running sums of every head. -/
def runs (L : Heads) : Heads := fun i => head L ((i 1).val + 1) (i 0)

/-- The running sums inside a block. -/
def bhead (x : Blk) : Blk := fun y => ∑ k : Fin 128, if k.val ≤ (y 1).val then x (ix2 (y 0) k) else 0

/-- The sum before a token as one column. -/
def chead (L : Heads) (s : ℕ) : Col := fun i => head L s (i 0)

/-- The last column of a block. -/
def last (x : Blk) : Col := fun i => x (ix2 (i 0) 127)

theorem upto (n : ℕ) (g : ℕ → ℝ) (q : ℕ) (hq : q < n) : (∑ k : Fin n, if k.val ≤ q then g k.val else 0) = ∑ k ∈ Finset.range (q + 1), g k := by
  rw [← Finset.sum_range (fun k => if k ≤ q then g k else 0), ← Finset.sum_filter]
  refine Finset.sum_congr ?_ fun _ _ => rfl
  ext k
  simp only [Finset.mem_filter, Finset.mem_range]
  omega

theorem blk_entry (L : Heads) (r : ℕ) (hr : r + 128 ≤ 2048) (p : Fin 16) (k : Fin 128) : blk r hr L (ix2 p k) = entry L p (r + k.val) := by
  unfold entry
  rw [dif_pos (by omega)]
  rfl

theorem head_in (L : Heads) (p : Fin 16) (r : ℕ) (hr : r + 128 ≤ 2048) (q : ℕ) (hq : q < 128) :
    (∑ k : Fin 128, if k.val ≤ q then blk r hr L (ix2 p k) else 0) + head L r p = head L (r + q + 1) p := by
  simp only [blk_entry]
  rw [upto 128 (fun k => entry L p (r + k)) _ hq, add_comm]
  exact (Finset.sum_range_add (entry L p) r (q + 1)).symm

theorem head_over (L : Heads) (p : Fin 16) (r : ℕ) (hr : r + 128 ≤ 2048) :
    head L r p + ∑ k : Fin 128, blk r hr L (ix2 p k) = head L (r + 128) p := by
  simp only [blk_entry]
  rw [← Finset.sum_range (fun k => entry L p (r + k))]
  exact (Finset.sum_range_add (entry L p) r 128).symm

/-- The running sums of a block are those inside it and the sum before it. -/
theorem bhead_add (L : Heads) (r : ℕ) (hr : r + 128 ≤ 2048) : bhead (blk r hr L) + beside (chead L r) = blk r hr (runs L) := by
  funext y
  exact head_in L (y 0) r hr (y 1).val (y 1).isLt

/-- The sum after a block is the sum before it and the block's. -/
theorem chead_add (L : Heads) (r : ℕ) (hr : r + 128 ≤ 2048) : chead L r + total (blk r hr L) = chead L (r + 128) := by
  funext i
  exact head_over L (i 0) r hr

theorem last_bhead (x : Blk) : last (bhead x) = total x := by
  funext i
  unfold last bhead total
  exact Finset.sum_congr rfl fun k _ => if_pos (Nat.le_of_lt_succ k.isLt)

theorem chead_start (L : Heads) : chead L 0 = 0 := rfl

theorem bhead_zero : bhead 0 = 0 := by
  funext y
  exact Finset.sum_eq_zero fun k _ => ite_self _

/-- The log of the gate, as the host takes it. -/
theorem neg_softplus (a : ℝ) : -(max (-a) 0 + Real.log (1 + Real.exp (-|(-a)|))) = min a 0 - Real.log (1 + Real.exp (-|a|)) := by
  rw [abs_neg, neg_add, ← sub_eq_add_neg, ← min_neg_neg, neg_neg, neg_zero]

end Cert.GfwdMath

end
-- ==== Proof.GfwdKernel.lean ====
/- What the forward gates' kernel leaves in its array, from real arrays. -/
module

public import proofs.«01_k».proof.Proof.GfwdMath
public import proofs.«01_k».proof.Proof.GatesKernel
public import proofs.«01_k».proof.Proof.GatesRef
public import proofs.«01_k».proof.Proof.Gen.GfwdKernelIdeal.Value

@[expose] public section

set_option maxRecDepth 16384
noncomputable section
open Idealize.ShloMosaic Idealize.ShloMosaic.TcCoe Idealize.SL.Sem

namespace Cert.GfwdKernelIdeal.Arrays
open Cert.GfwdKernelIdeal Cert.GfwdKernelIdeal.Gen Cert.Reals Cert.GfwdMath
open Cert.GatesMath (Heads Blk Col gate blk total beside)
open Cert.GatesKernelIdeal.Arrays (truncf_up extf_up sub_up add_up addc_up zeroc_up beside_up slice_up ld_all ld_col pieces blk_piece)

/-! ## The kernel's operations, of real arrays -/

theorem word_le : ∀ a b : Fin 128, BitVec.setWidth 32 (IntOp.cmpi CmpIPredicate.sle (BitVec.ofNat 32 a.val) (BitVec.ofNat 32 b.val))
    = if a.val ≤ b.val then 1#32 else 0#32 := by decide +kernel

/-- The mask of the upper triangle as numbers. -/
theorem bit_le (a b : Fin 128) : FloatOps.sitofp (F := Ideal) FTy.f32 (BitVec.setWidth 32 (IntOp.cmpi CmpIPredicate.sle (BitVec.ofNat 32 a.val) (BitVec.ofNat 32 b.val)))
    = ((if a.val ≤ b.val then (1 : ℝ) else 0 : ℝ) : EReal) := by
  rw [word_le]
  show ((((if a.val ≤ b.val then 1#32 else 0#32 : BitVec 32).toInt : ℤ) : ℝ) : EReal) = _
  split <;> simp

/-- The product with the mask. -/
theorem dot_up (x : Blk) :
    (matmul dot_S16x128_S128x128_S16x128_1_0_0_1_n_n none (up x : FVec Ideal S16x128 .bf16) (φ₁ := .bf16) (k0_pay6 (F := Ideal)) (constant S16x128 .f32 0x00000000#32) : S16x128.Idx → EReal)
      = up (bhead x) := by
  funext j
  idx_vars j
  pointwise [k0_pay6]
  simp only [bit_le, up, ← EReal.coe_mul, sum_up]
  refine congrArg _ (Finset.sum_congr rfl fun k _ => ?_)
  rw [mul_ite, mul_one, mul_zero]
  rfl

theorem last_up (x : Blk) (h) : (extractStridedSlice S16x1 ![0, 127] (up x : FVec Ideal S16x128 .f32) h : S16x1.Idx → EReal) = up (last x) := by
  funext j
  idx_vars j
  pointwise [last, up]

theorem logf_up (X : Heads) (B : Col) : k0_pay5 (F := Ideal) (up X) (up B) = up (logf X B) := by
  funext j
  idx_vars j
  pointwise [k0_pay5]
  simp only [up, ← EReal.coe_add]
  have hp := Real.exp_pos (-|X (ix2 j0 j1) + B (ix2 j0 0)|)
  rw [Cert.GatesReferenceIdeal.Read.abs_up, ← EReal.coe_zero, ← EReal.coe_one, ← EReal.coe_sub, zero_sub, Ideal.exp_coe, ← EReal.coe_add, Ideal.log_coe,
    if_neg (by linarith), ← EReal.coe_strictMono.monotone.map_min, ← EReal.coe_sub]
  rfl

theorem start_total (L : Heads) : (0 : Col) + total (blk 0 (by decide) L) = chead L 128 := chead_add L 0 (by decide)

theorem start_run (L : Heads) : bhead (blk 0 (by decide) L) + beside 0 = blk 0 (by decide) (runs L) := bhead_add L 0 (by decide)

/-- The sixteen stores hold the blocks of the running sums. -/
theorem out2_up (X : Heads) (B : Col) : out0_2 (F := Ideal) (up X) (up B) = up (runs (logf X B)) := by
  refine pieces _ _ ?_ (cover0_2 _ _ _ _ _ _ _ _ _ _ _ _ _ _ _ _)
  dsimp only [k0_pay1, k0_pay2, k0_pay3, k0_pay4, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63,
    k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
  simp only [ld_all, ld_col, logf_up, truncf_up, extf_up, sub_up, add_up, addc_up, zeroc_up, dot_up, beside_up, last_up, slice_up, sub_self,
    bhead_zero, add_zero, last_bhead, start_total, start_run, chead_add, bhead_add, Nat.reduceAdd]
  simp only [List.forall_mem_cons, List.not_mem_nil, false_implies, implies_true]
  repeat' apply And.intro
  all_goals first | trivial | exact fun x => blk_piece _ _ _ _ x

/-! ## The array after the grid's one point -/

variable (m : (ℓ : Loc nD τ sig) → Buf (Elt Ideal) ℓ) (c : Dev nD) (X : Heads) (B : Col)

theorem idx : ∀ t : Fin cfg0.N, win0_0.index t = ![0, 0] ∧ win0_1.index t = ![0, 0] ∧ win0_2.index t = ![0, 0] :=
  (by decide +kernel : ∀ t : Fin grid0.N, _)

variable (h0 : m ((c.tc : Thread nD τ).loc main_arg0) = up X) (h1 : m ((c.tc : Thread nD τ).loc main_arg1) = up B)

include h0 in
theorem blk0 (t : Fin cfg0.N) : iblk m c 0 t = up X := by
  funext y
  refine Eq.trans ?_ (congrFun ((V_main_arg0 m c).trans h0) _)
  blk_ext [iblk, idx t]

include h1 in
theorem blk1 (t : Fin cfg0.N) : iblk m c 1 t = up B := by
  funext y
  refine Eq.trans ?_ (congrFun ((V_main_arg1 m c).trans h1) _)
  blk_ext [iblk, idx t]

include h0 h1

theorem decay_array : (dats m 0 c).arrAt 2 cfg0.N = up (runs (logf X B)) := by
  refine (dats m 0 c).arrAt_eq_of_covers 2 _ (by decide +kernel) fun t _ y => ?_
  blk_simp
  rw [after0_2, blk0 m c X h0, blk1 m c B h1, out2_up]
  refine congrArg (up (runs (logf X B))) ?_
  blk_ext [idx t]

end Cert.GfwdKernelIdeal.Arrays
end
-- ==== Proof.GfwdRef.lean ====
/- What the reference of the forward gates computes from real arrays. -/
module

public import proofs.«01_k».proof.Proof.GfwdMath
public import proofs.«01_k».proof.Proof.GatesRef
public import proofs.«01_k».proof.Proof.Gen.GfwdReferenceIdeal.Read

@[expose] public section

set_option maxRecDepth 16384
noncomputable section
open Idealize.ShloMosaic Idealize.ShloMosaic.TcCoe Idealize.SL.Sem

namespace Cert.GfwdReferenceIdeal.Read
open Cert.GfwdReferenceIdeal Cert.GfwdReferenceIdeal.Gen Cert.Reals Cert.GfwdMath
open Cert.GatesMath (Heads Col gate)
open Cert.GatesReferenceIdeal.Read (foldl_add abs_up log1p_up)

/-- What one position of the window that ends at a token adds. -/
def upto_ (L : Heads) (p : Fin 16) (q : Fin 2048) (w : (⟨2, ![1, 2048]⟩ : Shape).Idx) : EReal :=
  if 2047 ≤ q.val + (w 1).val then (entry L p (q.val + (w 1).val - 2047) : ℝ) else 0

/-- Of a window of `n + 1` positions that ends at `q`, only the last `q + 1` add. -/
theorem ending (g : ℕ → ℝ) (n q : ℕ) (hq : q ≤ n) :
    (∑ k ∈ Finset.range (n + 1), if n ≤ q + k then g (q + k - n) else 0) = ∑ k ∈ Finset.range (q + 1), g k := by
  obtain ⟨d, rfl⟩ := Nat.exists_eq_add_of_le' hq
  rw [Nat.add_assoc, Finset.sum_range_add, Finset.sum_eq_zero, zero_add]
  · exact Finset.sum_congr rfl fun k _ => (if_pos (by omega)).trans (congrArg g (by omega))
  · intro k hk
    have := Finset.mem_range.1 hk
    exact if_neg (by omega)

theorem shift (L : Heads) (p : Fin 16) (q : Fin 2048) : ∑ k : Fin 2048, upto_ L p q (ix2 0 k) = (head L (q.val + 1) p : ℝ) := by
  have e : ∀ k : Fin 2048, upto_ L p q (ix2 0 k) = ((if 2047 ≤ q.val + k.val then entry L p (q.val + k.val - 2047) else 0 : ℝ) : EReal) := fun k => by
    show (if 2047 ≤ q.val + k.val then ((entry L p (q.val + k.val - 2047) : ℝ) : EReal) else 0) = _
    split
    · rfl
    · rfl
  simp only [e, sum_up]
  rw [← Finset.sum_range (fun k : ℕ => if 2047 ≤ q.val + k then entry L p (q.val + k - 2047) else 0)]
  exact congrArg Real.toEReal (ending (entry L p) 2047 q.val (by omega))

/-- A sum over the window that ends at an entry is the running sum. -/
theorem window_run (L : Heads) (z : S_.Idx → EReal) (hz : ∀ i, z i = 0) (p : Fin 16) (q : Fin 2048) :
    Host.reduceWindowAdd (F := Ideal) (φ := .f32) ![1, 2048] ![1, 1] ![0, 2047] ![0, 0] (up L) z reduceWindows_S16x2048_S16x2048_w1s1p0_0_w2048s1p2047_0 h_S_ (ix2 p q)
      = (head L (q.val + 1) p : ℝ) := by
  unfold Host.reduceWindowAdd
  rw [Ideal.hostReduceWindowAdd_def]
  unfold Ideal.hostReduceWindowAdd Host.reduceWindow
  dsimp only
  rw [foldl_add, hz, zero_add, ← List.ofFn_eq_map, List.sum_ofFn]
  refine (Finset.sum_congr rfl fun i _ => (?_ : _ = upto_ L p q ((⟨2, ![1, 2048]⟩ : Shape).rowMajor.symm i))).trans ?_
  · have e0 : (((⟨2, ![1, 2048]⟩ : Shape).rowMajor.symm i) 0).val = 0 := by have := (((⟨2, ![1, 2048]⟩ : Shape).rowMajor.symm i) 0).isLt; change _ < 1 at this; omega
    have e1 : (((⟨2, ![1, 2048]⟩ : Shape).rowMajor.symm i) 1).val < 2048 := (((⟨2, ![1, 2048]⟩ : Shape).rowMajor.symm i) 1).isLt
    unfold upto_
    split
    · next hin =>
      have h1 := (hin 1).1
      change 2047 ≤ q.val * 1 + (((⟨2, ![1, 2048]⟩ : Shape).rowMajor.symm i) 1).val at h1
      rw [if_pos (by omega)]
      unfold entry
      rw [dif_pos (by omega)]
      refine congrArg (up L) ?_
      funext a
      fin_cases a
      · exact Fin.ext (show p.val * 1 + (((⟨2, ![1, 2048]⟩ : Shape).rowMajor.symm i) 0).val - 0 = p.val by omega)
      · exact Fin.ext (show q.val * 1 + (((⟨2, ![1, 2048]⟩ : Shape).rowMajor.symm i) 1).val - 2047 = q.val + (((⟨2, ![1, 2048]⟩ : Shape).rowMajor.symm i) 1).val - 2047 by omega)
    · next hin =>
      rw [if_neg]
      intro h
      refine hin fun a => ?_
      have := p.isLt
      fin_cases a
      · show 0 ≤ p.val * 1 + (((⟨2, ![1, 2048]⟩ : Shape).rowMajor.symm i) 0).val ∧ p.val * 1 + (((⟨2, ![1, 2048]⟩ : Shape).rowMajor.symm i) 0).val - 0 < 16
        omega
      · show 2047 ≤ q.val * 1 + (((⟨2, ![1, 2048]⟩ : Shape).rowMajor.symm i) 1).val ∧ q.val * 1 + (((⟨2, ![1, 2048]⟩ : Shape).rowMajor.symm i) 1).val - 2047 < 2048
        omega
  · rw [Equiv.sum_comp (⟨2, ![1, 2048]⟩ : Shape).rowMajor.symm (upto_ L p q), ValueIdx.sum_idx2, Finset.univ_unique, Finset.sum_singleton]
    exact shift L p q

variable (X : Heads) (B : Col)

theorem arg_of : val_main_call0_v0 (F := Ideal) (up X) (up B) = up (fun i => -gate X B i) := by
  funext i
  idx_vars i
  pointwise [val_main_call0_v0, val_main_v1, val_main_v0]
  simp only [up, ← EReal.coe_add, ← EReal.coe_neg]
  rfl

theorem logf_of : val_main_v2 (F := Ideal) (up X) (up B) = up (logf X B) := by
  funext i
  idx_vars i
  pointwise [val_main_v2, val_main_call0_v1, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2,
    val_main_call0_call0_v1, val_main_call0_call0_v0, val_main_call0_call0_cst, arg_of]
  rw [if_neg (fun h => h rfl)]
  simp only [up]
  rw [abs_up, ← EReal.coe_neg, Ideal.exp_coe, log1p_up (Real.exp_pos _), ← EReal.coe_zero, ← EReal.coe_strictMono.monotone.map_max, ← EReal.coe_add,
    ← EReal.coe_neg]
  exact congrArg Real.toEReal (neg_softplus _)

theorem decay_of : val_main_v3 (F := Ideal) (up X) (up B) = up (runs (logf X B)) := by
  funext i
  idx_vars i
  refine Eq.trans ?_ (window_run (logf X B) (val_main_call1_call0_v0 (F := Ideal)) (fun j => by pointwise [val_main_call1_call0_v0, val_main_call1_call0_cst]) i0 i1)
  unfold val_main_v3
  rw [logf_of]

end Cert.GfwdReferenceIdeal.Read
end
-- ==== Proof.GfwdClaim.lean ====
/- The claims about the forget gates' forward kernel. -/
module

public import proofs.«01_k».proof.Defs
public import proofs.«01_k».proof.Proof.GfwdKernel
public import proofs.«01_k».proof.Proof.GfwdRef
public import proofs.«01_k».proof.Proof.Gen.GfwdKernel.Frame
public import proofs.«01_k».proof.Proof.Gen.GfwdKernelIdeal.Frame
public import proofs.«01_k».proof.Proof.Gen.GfwdReferenceIdeal.Run
public import Idealize.ShloMosaic.Lib.Quiescent

@[expose] public section

set_option maxRecDepth 16384
noncomputable section
open Idealize.ShloMosaic Idealize.ShloMosaic.TcCoe Idealize.SL.Sem

namespace Cert.GfwdClaim
open Cert.Reals Cert.GfwdMath

instance facts_pre : Cert.Pre_gfwd_finite.Facts := by
  constructor <;> decide +kernel

/-- The precondition gives the arguments as real arrays. -/
theorem reals (m) (h : Cert.Pre_GfwdKernelIdeal_gfwd_finite m) (c : Dev Cert.GfwdKernelIdeal.nD) :
    ∃ X B, m ((c.tc : Thread _ Cert.GfwdKernelIdeal.τ).loc Cert.GfwdKernelIdeal.main_arg0) = up X
      ∧ m ((c.tc : Thread _ Cert.GfwdKernelIdeal.τ).loc Cert.GfwdKernelIdeal.main_arg1) = up B := by
  obtain ⟨h0, h1⟩ := h c
  obtain ⟨X, eX⟩ := reals_of_test _ _ _ h0
  obtain ⟨B, eB⟩ := reals_of_test _ _ _ h1
  exact ⟨X, B, eX, eB⟩

/-- The reference declares no semaphore, so its run leaves every counter at zero. -/
theorem frame_ref : Cert.quiescent_GfwdReferenceIdeal (hGfwdReferenceIdeal := Cert.GfwdReferenceIdeal.Gen.facts) := fun m g _ =>
  (θ_run _ _ _).mono (fun r h => ⟨fun c => (h c).2, sem_eq_zero_of_no_sems (by decide) r.2⟩) (Cert.GfwdReferenceIdeal.Value.run (F := Ideal) m g)

/-- The two programs end with equal results. -/
theorem algebraic : Cert.algebraic_GfwdKernelIdeal_GfwdReferenceIdeal_pre_gfwd_finite
    (hGfwdKernelIdeal := Cert.GfwdKernelIdeal.Gen.facts) (hGfwdReferenceIdeal := Cert.GfwdReferenceIdeal.Gen.facts) := by
  intro m g m' g' hpre hag
  refine ⟨fun c => _, Cert.GfwdKernelIdeal.Value.run_blocks m g, ?_⟩
  refine (θ_run _ _ _).mono (fun r h c => ?_) (Cert.GfwdReferenceIdeal.Value.run m' g')
  obtain ⟨X, B, eX, eB⟩ := reals m hpre c
  obtain ⟨a0, a1⟩ := hag c
  obtain ⟨r0, k⟩ := h c
  refine ⟨r0.trans ?_, k⟩
  · rw [Cert.GfwdReferenceIdeal.Read.val_main_v3_eq, a0, a1, eX, eB]
    exact (Cert.GfwdReferenceIdeal.Read.decay_of X B).trans (Cert.GfwdKernelIdeal.Arrays.decay_array m c X B eX eB).symm

end Cert.GfwdClaim
end
-- ==== Proof.CfwdKernelIdealFrame.lean ====
/- The frame of the convolution's forward kernel (CfwdKernelIdeal): from any staged arrays its body runs to an end, leaving the
   gated rows between zeros in the scratch buffer and the chunks' values in the two results. -/
module

public import proofs.«01_k».proof.Proof.Gen.CfwdKernelIdeal.Frame.Runs
public import Idealize.ShloMosaic.Lib.Pipeline.Frame
public import Idealize.ShloMosaic.Lib.Tactic
public import Idealize.ShloMosaic.Lib.Claim

@[expose] public section

set_option maxRecDepth 16384

noncomputable section

namespace Cert.CfwdKernelIdeal.Whole

open Cert.CfwdKernelIdeal Cert.CfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave -/

section Stores

variable (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole)

/-- The stores into the scratch buffer, last first: the gated rows chunk by chunk, over the zeros behind and before them. -/
def filling (x0 : Vec F S2048x1024 .f32) : List (View.Piece (Elt F) S2096x512 .f32) :=
  pb_k0_t1 Variants.none c none a0 h0 a1 h1 a2 h2 a3 h3 a4 h4 a5 h5 a6 h6 a7 h7 a8 h8 (h0.unread x0) (Scf.trips k0_t1_loop.lb k0_t1_loop.ub k0_t1_loop.st) ++
    [⟨Rect.unit ![2080, 0] S16x512.size inb_S2096x512_S16x512_2080_0, k0_pay2⟩,
      ⟨Rect.unit ![0, 0] S32x512.size inb_S2096x512_S32x512_0_0, k0_pay1⟩]

/-- The scratch buffer once filled. -/
def filled (x0 : Vec F S2048x1024 .f32) : Vec F S2096x512 .f32 := View.canon (filling c a0 h0 a1 h1 a2 h2 a3 h3 a4 h4 a5 h5 a6 h6 a7 h7 a8 h8 x0)

/-- The stores into the two results, chunk by chunk. -/
def storing (x0 : Vec F S2048x1024 .f32) (x1 : Vec F S32x512 .f32) (x2 : Vec F S1x512 .f32) (x3 : Vec F S1x512 .f32) (x4 : Vec F S1x512 .f32) (x5 : Vec F S1x512 .f32) : List (View.Piece (Elt F) S2048x512 .bf16) × List (View.Piece (Elt F) S2048x512 .f32) :=
  pb_k0_t2 Variants.none c none a0 h0 a1 h1 a2 h2 a3 h3 a4 h4 a5 h5 a6 h6 a7 h7 a8 h8 (View.readAt (Elt F) a2.view (Rect.unit ![0, 0] S1x512.size inb_S1x512_S1x512_0_0).toLoadRect (h2.unread x2)) (View.readAt (Elt F) a3.view (Rect.unit ![0, 0] S1x512.size inb_S1x512_S1x512_0_0).toLoadRect (h3.unread x3)) (View.readAt (Elt F) a4.view (Rect.unit ![0, 0] S1x512.size inb_S1x512_S1x512_0_0).toLoadRect (h4.unread x4)) (View.readAt (Elt F) a5.view (Rect.unit ![0, 0] S1x512.size inb_S1x512_S1x512_0_0).toLoadRect (h5.unread x5)) (h1.unread x1) (h8.unread (filled c a0 h0 a1 h1 a2 h2 a3 h3 a4 h4 a5 h5 a6 h6 a7 h7 a8 h8 x0))
    (Scf.trips k0_t2_loop.lb k0_t2_loop.ub k0_t2_loop.st)

/-- A trip of the filling loop stores one chunk. -/
theorem fill_trip (X : BufTy.Contents (Elt F) a0.view.ty) (k : Fin k0_t1_loop.trips) :
    tripL_k0_t1 Variants.none c none a0 h0 a1 h1 a2 h2 a3 h3 a4 h4 a5 h5 a6 h6 a7 h7 a8 h8 X k =
      [⟨Rect.unit (s := S2096x512) (k0_off3 k) S128x512.size (k0_off3_inb k),
        k0_pay3 (View.readAt (Elt F) a0.view (Rect.unit (s := S2048x1024) (k0_off1 k) S128x512.size (k0_off1_inb k)).toLoadRect X)
          (View.readAt (Elt F) a0.view (Rect.unit (s := S2048x1024) (k0_off2 k) S128x512.size (k0_off2_inb k)).toLoadRect X)⟩] := by
  unfold tripL_k0_t1 trip_k0_t1
  rfl

/-- A trip of the second loop stores one chunk of either result. -/
theorem store_trip (v9 v10 v11 v12 : Vec F S1x512 .f32) (X : BufTy.Contents (Elt F) a1.view.ty) (U : BufTy.Contents (Elt F) a8.view.ty)
    (k : Fin k0_t2_loop.trips) : ∃ (o : S128x512.Idx → Elt F .bf16) (y : S128x512.Idx → Elt F .f32),
    tripL_k0_t2 Variants.none c none a0 h0 a1 h1 a2 h2 a3 h3 a4 h4 a5 h5 a6 h6 a7 h7 a8 h8 v9 v10 v11 v12 X U k =
      ([⟨Rect.unit (s := S2048x512) (k0_off5 k) S128x512.size (k0_off5_inb k), o⟩], [⟨Rect.unit (s := S2048x512) (k0_off5 k) S128x512.size (k0_off5_inb k), y⟩]) := by
  unfold tripL_k0_t2 trip_k0_t2
  exact ⟨_, _, rfl⟩

/-- After `n` trips the scratch buffer has the chunks of the trips before. -/
theorem fill_mem (X : BufTy.Contents (Elt F) a0.view.ty) (k : Fin k0_t1_loop.trips) : ∀ n, k.val < n → n ≤ k0_t1_loop.trips →
    ∃ p ∈ pb_k0_t1 Variants.none c none a0 h0 a1 h1 a2 h2 a3 h3 a4 h4 a5 h5 a6 h6 a7 h7 a8 h8 X n, p.1 = Rect.unit (s := S2096x512) (k0_off3 k) S128x512.size (k0_off3_inb k)
  | 0, h, _ => absurd h (Nat.not_lt_zero _)
  | n + 1, h, hn => by
    rw [pb_k0_t1_succ Variants.none c none a0 h0 a1 h1 a2 h2 a3 h3 a4 h4 a5 h5 a6 h6 a7 h7 a8 h8 X ⟨n, hn⟩, fill_trip]
    rcases Nat.lt_succ_iff_lt_or_eq.mp h with h | h
    · obtain ⟨p, hp, e⟩ := fill_mem X k n h (Nat.le_of_succ_le hn)
      exact ⟨p, List.mem_append_right _ hp, e⟩
    · subst h
      exact ⟨_, List.mem_append_left _ (List.mem_singleton.mpr rfl), rfl⟩

/-- And either result too. -/
theorem store_mem (v9 v10 v11 v12 : Vec F S1x512 .f32) (X : BufTy.Contents (Elt F) a1.view.ty) (U : BufTy.Contents (Elt F) a8.view.ty)
    (k : Fin k0_t2_loop.trips) : ∀ n, k.val < n → n ≤ k0_t2_loop.trips →
    (∃ p ∈ (pb_k0_t2 Variants.none c none a0 h0 a1 h1 a2 h2 a3 h3 a4 h4 a5 h5 a6 h6 a7 h7 a8 h8 v9 v10 v11 v12 X U n).1, p.1 = Rect.unit (s := S2048x512) (k0_off5 k) S128x512.size (k0_off5_inb k))
      ∧ ∃ p ∈ (pb_k0_t2 Variants.none c none a0 h0 a1 h1 a2 h2 a3 h3 a4 h4 a5 h5 a6 h6 a7 h7 a8 h8 v9 v10 v11 v12 X U n).2, p.1 = Rect.unit (s := S2048x512) (k0_off5 k) S128x512.size (k0_off5_inb k)
  | 0, h, _ => absurd h (Nat.not_lt_zero _)
  | n + 1, h, hn => by
    obtain ⟨o, y, e⟩ := store_trip c a0 h0 a1 h1 a2 h2 a3 h3 a4 h4 a5 h5 a6 h6 a7 h7 a8 h8 v9 v10 v11 v12 X U ⟨n, hn⟩
    rw [pb_k0_t2_succ Variants.none c none a0 h0 a1 h1 a2 h2 a3 h3 a4 h4 a5 h5 a6 h6 a7 h7 a8 h8 v9 v10 v11 v12 X U ⟨n, hn⟩, e]
    rcases Nat.lt_succ_iff_lt_or_eq.mp h with h | h
    · obtain ⟨⟨p, hp, ep⟩, q, hq, eq⟩ := store_mem v9 v10 v11 v12 X U k n h (Nat.le_of_succ_le hn)
      exact ⟨⟨p, List.mem_append_right _ hp, ep⟩, q, List.mem_append_right _ hq, eq⟩
    · subst h
      exact ⟨⟨_, List.mem_append_left _ (List.mem_singleton.mpr rfl), rfl⟩, _, List.mem_append_left _ (List.mem_singleton.mpr rfl), rfl⟩

end Stores

theorem trips_1 : Scf.trips k0_t1_loop.lb k0_t1_loop.ub k0_t1_loop.st = 16 := by decide
theorem trips_2 : Scf.trips k0_t2_loop.lb k0_t2_loop.ub k0_t2_loop.st = 16 := by decide

theorem off3 : ∀ k : Fin k0_t1_loop.trips, k0_off3 k 0 = 32 + 128 * k.val ∧ k0_off3 k 1 = 0 := by decide +kernel
theorem off5 : ∀ k : Fin k0_t2_loop.trips, k0_off5 k 0 = 128 * k.val ∧ k0_off5 k 1 = 0 := by decide +kernel

/-- A place in a chunk's rows is in the chunk. -/
theorem at_rows {R : ℕ} (off : Fin 2 → ℕ) (y : (⟨2, ![R, 512]⟩ : Shape).Idx) {o : ℕ} (e0 : off 0 = o) (e1 : off 1 = 0) (lo : o ≤ (y 0 : ℕ))
    (hi : (y 0 : ℕ) < o + 128) : ∀ a : Fin 2, off a ≤ (y a : ℕ) ∧ (y a : ℕ) < off a + S128x512.size a := by
  have l : (y 1 : ℕ) < 512 := (y 1).isLt
  intro a
  fin_cases a
  · exact ⟨e0.trans_le lo, hi.trans_eq (congrArg (· + 128) e0.symm)⟩
  · exact ⟨e1.trans_le (Nat.zero_le _), l.trans_eq ((Nat.zero_add 512).symm.trans (congrArg (· + 512) e1.symm))⟩

section Covers

variable (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole)

theorem fill_covers (x0 : Vec F S2048x1024 .f32) (y : S2096x512.Idx) : ∃ p ∈ filling c a0 h0 a1 h1 a2 h2 a3 h3 a4 h4 a5 h5 a6 h6 a7 h7 a8 h8 x0, y ∈ p.1.set := by
  unfold filling
  have r : (y 0 : ℕ) < 2096 := (y 0).isLt
  have l : (y 1 : ℕ) < 512 := (y 1).isLt
  by_cases lo : (y 0 : ℕ) < 32
  · refine ⟨⟨Rect.unit ![0, 0] S32x512.size inb_S2096x512_S32x512_0_0, k0_pay1⟩, List.mem_append_right _ (List.mem_cons_of_mem _ List.mem_cons_self), (Rect.mem_set_unit (s := S2096x512) (off := ![0, 0]) (size := S32x512.size) (inb := inb_S2096x512_S32x512_0_0)).mpr fun a => ?_⟩
    fin_cases a
    · exact ⟨Nat.zero_le _, lo.trans_eq rfl⟩
    · exact ⟨Nat.zero_le _, l.trans_eq rfl⟩
  by_cases hi : 2080 ≤ (y 0 : ℕ)
  · refine ⟨⟨Rect.unit ![2080, 0] S16x512.size inb_S2096x512_S16x512_2080_0, k0_pay2⟩, List.mem_append_right _ List.mem_cons_self, (Rect.mem_set_unit (s := S2096x512) (off := ![2080, 0]) (size := S16x512.size) (inb := inb_S2096x512_S16x512_2080_0)).mpr fun a => ?_⟩
    fin_cases a
    · exact ⟨hi, r.trans_eq rfl⟩
    · exact ⟨Nat.zero_le _, l.trans_eq rfl⟩
  have hk : ((y 0 : ℕ) - 32) / 128 < 16 := by omega
  have hk' : ((y 0 : ℕ) - 32) / 128 < k0_t1_loop.trips := hk.trans_eq trips_1.symm
  obtain ⟨p, hp, e⟩ := fill_mem c a0 h0 a1 h1 a2 h2 a3 h3 a4 h4 a5 h5 a6 h6 a7 h7 a8 h8 (h0.unread x0) ⟨((y 0 : ℕ) - 32) / 128, hk'⟩ _ hk' le_rfl
  refine ⟨p, List.mem_append_left _ hp, ?_⟩
  rw [e]
  obtain ⟨e0, e1⟩ := off3 ⟨((y 0 : ℕ) - 32) / 128, hk'⟩
  refine Rect.mem_set_unit.mpr (at_rows (k0_off3 _) y e0 e1 ?_ ?_) <;> dsimp only <;> omega

theorem store_covers (x0 : Vec F S2048x1024 .f32) (x1 : Vec F S32x512 .f32) (x2 : Vec F S1x512 .f32) (x3 : Vec F S1x512 .f32) (x4 : Vec F S1x512 .f32) (x5 : Vec F S1x512 .f32) (y : S2048x512.Idx) :
    (∃ p ∈ (storing c a0 h0 a1 h1 a2 h2 a3 h3 a4 h4 a5 h5 a6 h6 a7 h7 a8 h8 x0 x1 x2 x3 x4 x5).1, y ∈ p.1.set) ∧ ∃ p ∈ (storing c a0 h0 a1 h1 a2 h2 a3 h3 a4 h4 a5 h5 a6 h6 a7 h7 a8 h8 x0 x1 x2 x3 x4 x5).2, y ∈ p.1.set := by
  unfold storing
  have r : (y 0 : ℕ) < 2048 := (y 0).isLt
  have hk : (y 0 : ℕ) / 128 < 16 := by omega
  have hk' : (y 0 : ℕ) / 128 < k0_t2_loop.trips := hk.trans_eq trips_2.symm
  obtain ⟨e0, e1⟩ := off5 ⟨(y 0 : ℕ) / 128, hk'⟩
  have hy : y ∈ (Rect.unit (s := S2048x512) (k0_off5 ⟨(y 0 : ℕ) / 128, hk'⟩) S128x512.size (k0_off5_inb _)).set := by
    refine Rect.mem_set_unit.mpr (at_rows (k0_off5 _) y e0 e1 ?_ ?_) <;> dsimp only <;> omega
  obtain ⟨⟨p, hp, e⟩, q, hq, e'⟩ := store_mem c a0 h0 a1 h1 a2 h2 a3 h3 a4 h4 a5 h5 a6 h6 a7 h7 a8 h8 (View.readAt (Elt F) a2.view (Rect.unit ![0, 0] S1x512.size inb_S1x512_S1x512_0_0).toLoadRect (h2.unread x2)) (View.readAt (Elt F) a3.view (Rect.unit ![0, 0] S1x512.size inb_S1x512_S1x512_0_0).toLoadRect (h3.unread x3)) (View.readAt (Elt F) a4.view (Rect.unit ![0, 0] S1x512.size inb_S1x512_S1x512_0_0).toLoadRect (h4.unread x4)) (View.readAt (Elt F) a5.view (Rect.unit ![0, 0] S1x512.size inb_S1x512_S1x512_0_0).toLoadRect (h5.unread x5)) (h1.unread x1) (h8.unread (filled c a0 h0 a1 h1 a2 h2 a3 h3 a4 h4 a5 h5 a6 h6 a7 h7 a8 h8 x0)) ⟨(y 0 : ℕ) / 128, hk'⟩ _ hk' le_rfl
  exact ⟨⟨p, hp, e ▸ hy⟩, q, hq, e' ▸ hy⟩

end Covers

/-- Contents that the body ends with are contents at some value. -/
theorem some_contents {sp : Space} {s : Shape} {e : EltTy} (c : Dev nD) (a : Memref sig .tc sp s e) (f : BufTy.Contents (Elt F) a.view.ty) :
    (a.view.loc (c : Thread nD τ) ↦[a.view.set]{fullShare} f : sProp 𝕄) ⊢ iprop(∃ d, owns (c : Thread nD τ) a fullShare d) := by
  unfold owns
  iintro H
  iexists _, _; isplitr; swap; · iexact H
  ipureintro; rfl

/-- An array held at its contents is owned at the value they read as. -/
theorem at_contents {sp : Space} {s : Shape} {e : EltTy} (c : Dev nD) (a : Memref sig .tc sp s e) (f : BufTy.Contents (Elt F) a.view.ty) (x : Vec F s e)
    (h : a.view.read (Elt F) f = x) :
    (a.view.loc (c : Thread nD τ) ↦[a.view.set]{fullShare} f : sProp 𝕄) ⊢ iprop(∃ f, ⌜a.view.read (Elt F) f = x⌝ ∗ (a.view.loc (c : Thread nD τ) ↦[a.view.set]{fullShare} f)) := by
  iintro H
  iexists _; isplitr; swap; · iexact H
  ipureintro; exact h

/-- Whatever the scratch buffer held, once filled its contents are the filled array's. -/
theorem filled_eq (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole) (x0 : Vec F S2048x1024 .f32) (f : BufTy.Contents (Elt F) a8.view.ty) :
    a8.view.writes (Elt F) f (filling c a0 h0 a1 h1 a2 h2 a3 h3 a4 h4 a5 h5 a6 h6 a7 h7 a8 h8 x0) = h8.unread (filled c a0 h0 a1 h1 a2 h2 a3 h3 a4 h4 a5 h5 a6 h6 a7 h7 a8 h8 x0) :=
  h8.eq_unread (View.read_writes_eq_canon _ _ _ (fill_covers c a0 h0 a1 h1 a2 h2 a3 h3 a4 h4 a5 h5 a6 h6 a7 h7 a8 h8 x0))

set_option maxHeartbeats 0 in
/-- The body keeps what it reads and leaves in either result what its stores leave. -/
theorem body_runs (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole)
    (x0 : Vec F S2048x1024 .f32) (x1 : Vec F S32x512 .f32) (x2 : Vec F S1x512 .f32) (x3 : Vec F S1x512 .f32) (x4 : Vec F S1x512 .f32) (x5 : Vec F S1x512 .f32) (E : Set ℕ) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (View.canon (storing c a0 h0 a1 h1 a2 h2 a3 h3 a4 h4 a5 h5 a6 h6 a7 h7 a8 h8 x0 x1 x2 x3 x4 x5).1) ∗ owns (c : Thread nD τ) a7 fullShare (View.canon (storing c a0 h0 a1 h1 a2 h2 a3 h3 a4 h4 a5 h5 a6 h6 a7 h7 a8 h8 x0 x1 x2 x3 x4 x5).2) ∗ (∃ d, owns (c : Thread nD τ) a8 fullShare d)) -∗ K ⟨⟩))
      ⊢ wp frame (wpE (defs₀ (F := F)) Variants.none c none) E (cc0_conv_fwd a0 h0 a1 h1 a2 h2 a3 h3 a4 h4 a5 h5 a6 h6 a7 h7 a8 h8) K := by
  have hu := filled_eq c a0 h0 a1 h1 a2 h2 a3 h3 a4 h4 a5 h5 a6 h6 a7 h7 a8 h8 x0
  have hc := store_covers c a0 h0 a1 h1 a2 h2 a3 h3 a4 h4 a5 h5 a6 h6 a7 h7 a8 h8 x0 x1 x2 x3 x4 x5
  unfold filling at hu
  simp only [cc0_conv_fwd_eq_skeleton]; unfold cc0_conv_fwd_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%ds, %fs, -, S0⟩, Hk⟩
  obtain rfl := h0.eq_unread e0; obtain rfl := h1.eq_unread e1; obtain rfl := h2.eq_unread e2; obtain rfl := h3.eq_unread e3; obtain rfl := h4.eq_unread e4; obtain rfl := h5.eq_unread e5
  sl_exec
  rw [hu fs]
  sl_step
  iapply Hk
  isplitl [H0]; · iapply (at_contents c a0 _ x0 (h0.read_unread _)); iexact H0
  isplitl [H1]; · iapply (at_contents c a1 _ x1 (h1.read_unread _)); iexact H1
  isplitl [H2]; · iapply (at_contents c a2 _ x2 (h2.read_unread _)); iexact H2
  isplitl [H3]; · iapply (at_contents c a3 _ x3 (h3.read_unread _)); iexact H3
  isplitl [H4]; · iapply (at_contents c a4 _ x4 (h4.read_unread _)); iexact H4
  isplitl [H5]; · iapply (at_contents c a5 _ x5 (h5.read_unread _)); iexact H5
  isplitl [H6]; · iapply (at_contents c a6 _ _ (View.read_writes_eq_canon _ _ _ fun y => (hc y).1)); iexact H6
  isplitl [H7]; · iapply (at_contents c a7 _ _ (View.read_writes_eq_canon _ _ _ fun y => (hc y).2)); iexact H7
  iapply (some_contents c a8); iexact S0

/-- The stores at a point. -/
def stores (c : Dev nD) (t : Fin cfg0.N) : List (View.Piece (Elt F) S2048x512 .bf16) × List (View.Piece (Elt F) S2048x512 .f32) :=
  storing c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t)

/-- The proof data: the arrays as the call finds them, the inputs' blocks kept, the results' blocks as the stores leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (stores m c t).1
    | ⟨7, _⟩ => View.canon (stores m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem kept_0 (c : Dev nD) (t : Fin cfg0.N) : (dats m 0 c).after 0 t = iblk m c 0 t := by dsimp only [dats]

theorem found_0 (c : Dev nD) (t : Fin cfg0.N) (d) : (dats m 0 c).before 0 t d = iblk m c 0 t :=
  before0_0_of m (dats m 0 c) (A_eq m c 0) (kept_0 m c) t d

theorem kept_1 (c : Dev nD) (t : Fin cfg0.N) : (dats m 0 c).after 1 t = iblk m c 1 t := by dsimp only [dats]

theorem found_1 (c : Dev nD) (t : Fin cfg0.N) (d) : (dats m 0 c).before 1 t d = iblk m c 1 t :=
  before0_1_of m (dats m 0 c) (A_eq m c 1) (kept_1 m c) t d

theorem kept_2 (c : Dev nD) (t : Fin cfg0.N) : (dats m 0 c).after 2 t = iblk m c 2 t := by dsimp only [dats]

theorem found_2 (c : Dev nD) (t : Fin cfg0.N) (d) : (dats m 0 c).before 2 t d = iblk m c 2 t :=
  before0_2_of m (dats m 0 c) (A_eq m c 2) (kept_2 m c) t d

theorem kept_3 (c : Dev nD) (t : Fin cfg0.N) : (dats m 0 c).after 3 t = iblk m c 3 t := by dsimp only [dats]

theorem found_3 (c : Dev nD) (t : Fin cfg0.N) (d) : (dats m 0 c).before 3 t d = iblk m c 3 t :=
  before0_3_of m (dats m 0 c) (A_eq m c 3) (kept_3 m c) t d

theorem kept_4 (c : Dev nD) (t : Fin cfg0.N) : (dats m 0 c).after 4 t = iblk m c 4 t := by dsimp only [dats]

theorem found_4 (c : Dev nD) (t : Fin cfg0.N) (d) : (dats m 0 c).before 4 t d = iblk m c 4 t :=
  before0_4_of m (dats m 0 c) (A_eq m c 4) (kept_4 m c) t d

theorem kept_5 (c : Dev nD) (t : Fin cfg0.N) : (dats m 0 c).after 5 t = iblk m c 5 t := by dsimp only [dats]

theorem found_5 (c : Dev nD) (t : Fin cfg0.N) (d) : (dats m 0 c).before 5 t d = iblk m c 5 t :=
  before0_5_of m (dats m 0 c) (A_eq m c 5) (kept_5 m c) t d

theorem left_6 (c : Dev nD) (t : Fin cfg0.N) : (dats m 0 c).after 6 t = View.canon (stores m c t).1 := by dsimp only [dats]

theorem left_7 (c : Dev nD) (t : Fin cfg0.N) : (dats m 0 c).after 7 t = View.canon (stores m c t).2 := by dsimp only [dats]

/-- The body at a point: from the blocks it finds to the blocks it keeps and those it leaves. -/
theorem body_sound (c : Dev nD) (t : Fin cfg0.N) :
    iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))
      ⊢ wp frame (wpE (defs₀ (F := F)) Variants.none c none) Set.univ (bodyAt0 t) (fun _ => iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))) := by
  unfold bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    kept_0, kept_1, kept_2, kept_3, kept_4, kept_5, left_6, left_7]
  rw [show (dats m 0 c).Φ t.castSucc = Pipeline.ΦA spec0 c from rfl, PhiA0_eq]
  iintro ⟨⟨S0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  iintro ⟨H0, H1, H2, H3, H4, H5, H6, H7, S0⟩
  isplitl [S0 Hg]
  · isplitl [S0]
    · iexact S0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · unfold stores; iexact H6
  unfold stores; iexact H7

/-- The body's row of the table of bodies is the body at the point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

set_option backward.isDefEq.respectTransparency.types false in
/-- The launch: every window's array ends as the proof data say, every other array as found, and every counter at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (ends m ρ))

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (ends m ρ))

end Cert.CfwdKernelIdeal.Whole

end
-- ==== Proof.CfwdKernelFrame.lean ====
/- The frame of the convolution's forward kernel on machine numbers (CfwdKernel): its text is the idealised program's, so the proof is. -/
module

public import proofs.«01_k».proof.Defs
public import proofs.«01_k».proof.Proof.Gen.CfwdKernel
public import proofs.«01_k».proof.Proof.CfwdKernelIdealFrame

@[expose] public section

set_option maxRecDepth 16384

noncomputable section
open Idealize.ShloMosaic Idealize.ShloMosaic.TcCoe Idealize.SL.Sem

namespace Cert.CfwdKernel.Whole
open Cert.CfwdKernel

/-- The bodies are the same. -/
theorem bodies_eq : @Cert.CfwdKernel.defs₀ Bits _ Cert.CfwdKernel.Gen.facts = @Cert.CfwdKernelIdeal.defs₀ Bits _ Cert.CfwdKernelIdeal.Gen.facts := by
  unfold Cert.CfwdKernel.defs₀ Cert.CfwdKernelIdeal.defs₀
  refine congrArg Defs.onTc ?_
  funext l a
  match l, a with
  | 0, (t, s) => with_unfolding_all rfl

theorem defs_eq : @Cert.CfwdKernel.defs Bits _ Cert.CfwdKernel.Gen.facts = @Cert.CfwdKernelIdeal.defs Bits _ Cert.CfwdKernelIdeal.Gen.facts :=
  congrArg (Pipeline.defs Cert.CfwdKernelIdeal.pcfgs) bodies_eq

/-- So are the host operations. -/
theorem main_eq : @Cert.CfwdKernel.main Bits _ Cert.CfwdKernel.Gen.facts = @Cert.CfwdKernelIdeal.main Bits _ Cert.CfwdKernelIdeal.Gen.facts := by with_unfolding_all rfl

/-- The arguments end unchanged and every counter at zero. -/
theorem frame (m : (ℓ : Loc nD τ sig) → Buf (Elt Bits) ℓ) (ρ : Dev nD → PrngReg) :
    θ_run (@Cert.CfwdKernel.defs Bits _ Cert.CfwdKernel.Gen.facts) (onTc (τ := τ) (@Cert.CfwdKernel.main Bits _ Cert.CfwdKernel.Gen.facts)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  rw [defs_eq, main_eq]
  exact Cert.CfwdKernelIdeal.Whole.frame (F := Bits) m ρ

end Cert.CfwdKernel.Whole
end
-- ==== Proof.CfwdMath.lean ====
/- The gated columns, their causal convolution, and the normed activation of what it gives, over extended reals. -/
module

public import proofs.«01_k».proof.Proof.Rms

@[expose] public section

noncomputable section

namespace Cert.CfwdMath

open Idealize.ShloMosaic

/-- The width and what is added under a root, as both programs print them. -/
abbrev width : EReal := Ideal.ofBits .f32 0x44000000#32
abbrev eps : EReal := Ideal.ofBits .f32 0x358637BD#32

/-- An entry times the logistic of another. -/
def gated (a g : EReal) : EReal := a * Ideal.div 1 (1 + Ideal.exp (-g))

theorem zero_less (x : EReal) : 0 - x = -x := by rw [sub_eq_add_neg, zero_add]

/-- The gated columns of the input: its first 512 by the logistic of its last. -/
def gate (A : (⟨2, ![2048, 1024]⟩ : Shape).Idx → EReal) (n : Fin 2048) (q : Fin 512) : EReal :=
  gated (A (ix2 n ⟨q.val, by omega⟩)) (A (ix2 n ⟨512 + q.val, by omega⟩))

/-- The gated rows with 32 rows of zeros before them, and zeros after. -/
def padded (A : (⟨2, ![2048, 1024]⟩ : Shape).Idx → EReal) (n : ℕ) (q : Fin 512) : EReal :=
  if h : 32 ≤ n ∧ n < 2080 then gate A ⟨n - 32, by omega⟩ q else 0

/-- The causal convolution of the gated columns: at a row, the 31 taps over the rows up to it, and the bias. -/
def conv (A : (⟨2, ![2048, 1024]⟩ : Shape).Idx → EReal) (W : (⟨2, ![31, 512]⟩ : Shape).Idx → EReal) (B : (⟨2, ![1, 512]⟩ : Shape).Idx → EReal)
    (n : Fin 2048) (q : Fin 512) : EReal := (∑ j : Fin 31, padded A (n.val + j.val + 2) q * W (ix2 j q)) + B (ix2 0 q)

/-- A sum of 31 summands, written out. -/
theorem sum_taps (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

theorem first_taps (f : Fin 32 → EReal) : ∑ j : Fin 31, f j.castSucc = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 :=
  sum_taps fun j => f j.castSucc

/-- The mean of a row. -/
def mean (z : Fin 512 → EReal) : EReal := Ideal.div (∑ k, z k) width

/-- A row less its mean, over its deviation, scaled and shifted. -/
def layer (z g s : Fin 512 → EReal) (q : Fin 512) : EReal :=
  (z q - mean z) * Ideal.rsqrt (mean (fun k => (z k - mean z) * (z k - mean z)) + eps) * g q + s q

/-- A row over its root mean square, scaled. -/
def rms (z n : Fin 512 → EReal) (q : Fin 512) : EReal := z q * Ideal.rsqrt (mean (fun k => z k * z k) + eps) * n q

/-- A row normed, gated by itself and normed once more. -/
def act (z g s n : Fin 512 → EReal) (q : Fin 512) : EReal := rms (fun k => gated (layer z g s k) (layer z g s k)) n q

/-- The call's first result: the convolved rows normed, gated and normed. -/
def acted (A : (⟨2, ![2048, 1024]⟩ : Shape).Idx → EReal) (W : (⟨2, ![31, 512]⟩ : Shape).Idx → EReal) (B g s n : (⟨2, ![1, 512]⟩ : Shape).Idx → EReal)
    (p : Fin 2048) (q : Fin 512) : EReal :=
  act (conv A W B p) (fun k => g (ix2 0 k)) (fun k => s (ix2 0 k)) (fun k => n (ix2 0 k)) q

end Cert.CfwdMath

end
-- ==== Proof.CfwdKernelWindow.lean ====
/- What a trip of the convolution's second loop leaves, from the window of rows it reads and the taps. -/
module

public import proofs.«01_k».proof.Proof.Gen.CfwdKernelIdeal.Skeleton
public import proofs.«01_k».proof.Proof.CfwdMath

@[expose] public section

set_option maxRecDepth 16384
noncomputable section
open Idealize.ShloMosaic Idealize.ShloMosaic.TcCoe Idealize.SL.Sem

namespace Cert.CfwdKernelIdeal.Window
open Cert.CfwdKernelIdeal Cert.CfwdKernelIdeal.Gen Cert.CfwdMath

section Trip
variable {F : FTy → Type} [FloatOps F] (v : Vec F S168x512 .f32) (w : Fin 32 → Vec F S1x512 .f32) (b g s n : Vec F S1x512 .f32)

/-- The products of the taps six and seven, as far as the first part goes. -/
def acc1 : Vec F S128x512 .f32 := k0_pay6 v (w 6) (w 14) (w 22) (w 30) (w 7) (w 15)

def acc2 : Vec F S128x512 .f32 := k0_pay9 v (acc1 v w) (k0_pay7 v) (w 23) (w 0) (w 8) (w 16) (w 24) (w 1) (w 9)

def acc3 : Vec F S128x512 .f32 := k0_pay12 v (k0_pay8 v) (acc2 v w) (k0_pay10 v) (w 17) (w 25) (w 2) (w 10) (w 18) (w 26) (w 3)

def acc4 : Vec F S128x512 .f32 := k0_pay14 v (k0_pay11 v) (acc3 v w) (k0_pay13 v) (w 11) (w 19) (w 27) (w 4) (w 12) (w 20) (w 28)

/-- The convolved rows. -/
def rowsY : Vec F S128x512 .f32 := k0_pay17 b (acc4 v w) (k0_pay15 v) (k0_pay16 v) (w 5) (w 13) (w 21) (w 29)

/-- The convolved rows normed, scaled and shifted, gated by themselves and normed once more. -/
def rowsO : Vec F S128x512 .bf16 := k0_pay4 s n (k0_pay18 b g (acc4 v w) (k0_pay15 v) (k0_pay16 v) (w 5) (w 13) (w 21) (w 29))

end Trip

section Values
variable (v : Vec Ideal S168x512 .f32) (w : Fin 32 → Vec Ideal S1x512 .f32) (b g s n : Vec Ideal S1x512 .f32) (p : Fin 128) (q : Fin 512)

/-- Tap `j` at a row: the row `j + 2` further on in the window, by the tap's weight. -/
def tap (j : Fin 32) : EReal := v (ix2 ⟨p.val + j.val + 2, by omega⟩ q) * w j (ix2 0 q)

theorem tap_at (j : Fin 32) (i : ℕ) (hi : i < 168) (e : i = p.val + j.val + 2) : w j (ix2 0 q) * v (ix2 ⟨i, hi⟩ q) = tap v w p q j := by
  subst e; exact mul_comm _ _

theorem acc1_apply : acc1 v w (ix2 p q) = tap v w p q 6 + tap v w p q 14 + tap v w p q 22 + tap v w p q 30 + tap v w p q 7 + tap v w p q 15 := by
  pointwise [acc1, k0_pay6, k0_pay5]
  repeat' refine congrArg₂ (· + ·) ?_ ?_
  all_goals first | rfl | exact tap_at v w p q _ _ _ (by simp only [Fin.isValue, Fin.coe_ofNat_eq_mod]; omega)

theorem acc2_apply : acc2 v w (ix2 p q) = acc1 v w (ix2 p q) + tap v w p q 23 + tap v w p q 0 + tap v w p q 8 + tap v w p q 16 + tap v w p q 24 + tap v w p q 1 + tap v w p q 9 := by
  pointwise [acc2, k0_pay9, k0_pay7, k0_pay8, k0_pay5]
  repeat' refine congrArg₂ (· + ·) ?_ ?_
  all_goals first | rfl | exact tap_at v w p q _ _ _ (by simp only [Fin.isValue, Fin.coe_ofNat_eq_mod]; omega)

theorem acc3_apply : acc3 v w (ix2 p q) = acc2 v w (ix2 p q) + tap v w p q 17 + tap v w p q 25 + tap v w p q 2 + tap v w p q 10 + tap v w p q 18 + tap v w p q 26 + tap v w p q 3 := by
  pointwise [acc3, k0_pay12, k0_pay8, k0_pay10, k0_pay11]
  repeat' refine congrArg₂ (· + ·) ?_ ?_
  all_goals first | rfl | exact tap_at v w p q _ _ _ (by simp only [Fin.isValue, Fin.coe_ofNat_eq_mod]; omega)

theorem acc4_apply : acc4 v w (ix2 p q) = acc3 v w (ix2 p q) + tap v w p q 11 + tap v w p q 19 + tap v w p q 27 + tap v w p q 4 + tap v w p q 12 + tap v w p q 20 + tap v w p q 28 := by
  pointwise [acc4, k0_pay14, k0_pay11, k0_pay13, k0_pay15]
  repeat' refine congrArg₂ (· + ·) ?_ ?_
  all_goals first | rfl | exact tap_at v w p q _ _ _ (by simp only [Fin.isValue, Fin.coe_ofNat_eq_mod]; omega)

theorem rowsY_taps : rowsY v w b (ix2 p q) = acc4 v w (ix2 p q) + tap v w p q 5 + tap v w p q 13 + tap v w p q 21 + tap v w p q 29 + b (ix2 0 q) := by
  pointwise [rowsY, k0_pay17, k0_pay16, k0_pay15]
  refine congrArg (· + b (ix2 0 q)) ?_
  repeat' refine congrArg₂ (· + ·) ?_ ?_
  all_goals first | rfl | exact tap_at v w p q _ _ _ (by simp only [Fin.isValue, Fin.coe_ofNat_eq_mod]; omega)

/-- The convolution at a row: the 31 taps and the bias. -/
theorem rowsY_apply : rowsY v w b (ix2 p q) = (∑ j : Fin 31, tap v w p q j.castSucc) + b (ix2 0 q) := by
  rw [rowsY_taps, acc4_apply, acc3_apply, acc2_apply, acc1_apply, first_taps]
  refine congrArg (· + b (ix2 0 q)) ?_
  ac_nf

/-- The rows normed and scaled. -/
theorem scaled_apply : k0_pay18 b g (acc4 v w) (k0_pay15 v) (k0_pay16 v) (w 5) (w 13) (w 21) (w 29) (ix2 p q) + s (ix2 0 q)
    = layer (fun k => rowsY v w b (ix2 p k)) (fun k => g (ix2 0 k)) (fun k => s (ix2 0 k)) q := by
  pointwise [k0_pay18]
  rfl

/-- The activation at a row. -/
theorem rowsO_apply : rowsO v w b g s n (ix2 p q)
    = act (fun k => rowsY v w b (ix2 p k)) (fun k => g (ix2 0 k)) (fun k => s (ix2 0 k)) (fun k => n (ix2 0 k)) q := by
  unfold act
  rw [funext fun k => (scaled_apply v w b g s p k).symm]
  pointwise [rowsO, k0_pay4]
  simp only [zero_less]
  rfl

end Values

end Cert.CfwdKernelIdeal.Window
end
-- ==== Proof.CfwdKernel.lean ====
/- The values of the convolution's forward kernel: what it leaves in its two arrays, as functions of its arguments. -/
module

public import proofs.«01_k».proof.Proof.CfwdKernelIdealFrame
public import proofs.«01_k».proof.Proof.CfwdKernelWindow
public import Idealize.ShloMosaic.Lib.Pipeline.Value
public import Idealize.ShloMosaic.Lib.KernelVsHost
public import Idealize.ShloMosaic.Lib.WholeRead

@[expose] public section

set_option maxRecDepth 16384
noncomputable section
open Idealize.ShloMosaic Idealize.ShloMosaic.TcCoe Idealize.SL.Sem

namespace Cert.CfwdKernelIdeal.Arrays
open Cert.CfwdKernelIdeal Cert.CfwdKernelIdeal.Gen Cert.CfwdKernelIdeal.Whole Cert.CfwdKernelIdeal.Window Cert.CfwdMath

/-! ## The pieces -/

theorem row_inb : ∀ (j : Fin 32) (a : Fin 2), (![j.val, 0] : Fin 2 → ℕ) a + S1x512.size a ≤ S32x512.size a := by decide

theorem off1 : ∀ k : Fin k0_t1_loop.trips, k0_off1 k 0 = 128 * k.val ∧ k0_off1 k 1 = 0 := by decide +kernel
theorem off2 : ∀ k : Fin k0_t1_loop.trips, k0_off2 k 0 = 128 * k.val ∧ k0_off2 k 1 = 512 := by decide +kernel
theorem off4 : ∀ k : Fin k0_t2_loop.trips, k0_off4 k 0 = 128 * k.val ∧ k0_off4 k 1 = 0 := by decide +kernel

section Pieces
variable {F : FTy → Type} [FloatOps F]
variable (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole)

/-- The stores of the filling loop's trips. -/
def chunk (G : BufTy.Contents (Elt F) a0.view.ty) (k : Fin k0_t1_loop.trips) : View.Piece (Elt F) S2096x512 .f32 :=
  ⟨Rect.unit (s := S2096x512) (k0_off3 k) S128x512.size (k0_off3_inb k),
    k0_pay3 (View.readAt (Elt F) a0.view (Rect.unit (s := S2048x1024) (k0_off1 k) S128x512.size (k0_off1_inb k)).toLoadRect G)
      (View.readAt (Elt F) a0.view (Rect.unit (s := S2048x1024) (k0_off2 k) S128x512.size (k0_off2_inb k)).toLoadRect G)⟩

theorem fill_all (G : BufTy.Contents (Elt F) a0.view.ty) : ∀ n, n ≤ k0_t1_loop.trips →
    ∀ p ∈ pb_k0_t1 Variants.none c none a0 h0 a1 h1 a2 h2 a3 h3 a4 h4 a5 h5 a6 h6 a7 h7 a8 h8 G n, ∃ k, p = chunk a0 G k
  | 0, _, p, hp => absurd hp (by rw [pb_k0_t1.eq_1]; exact List.not_mem_nil)
  | n + 1, hn, p, hp => by
    rw [pb_k0_t1_succ Variants.none c none a0 h0 a1 h1 a2 h2 a3 h3 a4 h4 a5 h5 a6 h6 a7 h7 a8 h8 G ⟨n, hn⟩, fill_trip] at hp
    rcases List.mem_append.mp hp with h | h
    · exact ⟨⟨n, hn⟩, List.mem_singleton.mp h⟩
    · exact fill_all G n (Nat.le_of_succ_le hn) p h

/-- The window of rows that a trip reads, and the rows of weights. -/
abbrev window (U : BufTy.Contents (Elt F) a8.view.ty) (k : Fin k0_t2_loop.trips) : Vec F S168x512 .f32 :=
  View.readAt (Elt F) a8.view (Rect.unit (s := S2096x512) (k0_off4 k) S168x512.size (k0_off4_inb k)).toLoadRect U

abbrev weights (G : BufTy.Contents (Elt F) a1.view.ty) (j : Fin 32) : Vec F S1x512 .f32 :=
  View.readAt (Elt F) a1.view (Rect.unit (s := S32x512) ![j.val, 0] S1x512.size (row_inb j)).toLoadRect G

/-- The stores of the second loop's trips into either result. -/
def pieceO (v9 v10 v11 v12 : Vec F S1x512 .f32) (G : BufTy.Contents (Elt F) a1.view.ty) (U : BufTy.Contents (Elt F) a8.view.ty)
    (k : Fin k0_t2_loop.trips) : View.Piece (Elt F) S2048x512 .bf16 :=
  ⟨Rect.unit (s := S2048x512) (k0_off5 k) S128x512.size (k0_off5_inb k), rowsO (window a8 U k) (weights a1 G) v9 v10 v11 v12⟩

def pieceY (v9 : Vec F S1x512 .f32) (G : BufTy.Contents (Elt F) a1.view.ty) (U : BufTy.Contents (Elt F) a8.view.ty)
    (k : Fin k0_t2_loop.trips) : View.Piece (Elt F) S2048x512 .f32 :=
  ⟨Rect.unit (s := S2048x512) (k0_off5 k) S128x512.size (k0_off5_inb k), rowsY (window a8 U k) (weights a1 G) v9⟩

theorem trip_pieces (v9 v10 v11 v12 : Vec F S1x512 .f32) (G : BufTy.Contents (Elt F) a1.view.ty) (U : BufTy.Contents (Elt F) a8.view.ty)
    (k : Fin k0_t2_loop.trips) : tripL_k0_t2 Variants.none c none a0 h0 a1 h1 a2 h2 a3 h3 a4 h4 a5 h5 a6 h6 a7 h7 a8 h8 v9 v10 v11 v12 G U k
      = ([pieceO a1 a8 v9 v10 v11 v12 G U k], [pieceY a1 a8 v9 G U k]) := by
  unfold tripL_k0_t2 trip_k0_t2
  rfl

theorem store_all (v9 v10 v11 v12 : Vec F S1x512 .f32) (G : BufTy.Contents (Elt F) a1.view.ty) (U : BufTy.Contents (Elt F) a8.view.ty) :
    ∀ n, n ≤ k0_t2_loop.trips →
    (∀ p ∈ (pb_k0_t2 Variants.none c none a0 h0 a1 h1 a2 h2 a3 h3 a4 h4 a5 h5 a6 h6 a7 h7 a8 h8 v9 v10 v11 v12 G U n).1, ∃ k, p = pieceO a1 a8 v9 v10 v11 v12 G U k)
      ∧ ∀ p ∈ (pb_k0_t2 Variants.none c none a0 h0 a1 h1 a2 h2 a3 h3 a4 h4 a5 h5 a6 h6 a7 h7 a8 h8 v9 v10 v11 v12 G U n).2, ∃ k, p = pieceY a1 a8 v9 G U k
  | 0, _ => by
    rw [pb_k0_t2.eq_1]
    exact ⟨fun p hp => absurd hp List.not_mem_nil, fun p hp => absurd hp List.not_mem_nil⟩
  | n + 1, hn => by
    rw [pb_k0_t2_succ Variants.none c none a0 h0 a1 h1 a2 h2 a3 h3 a4 h4 a5 h5 a6 h6 a7 h7 a8 h8 v9 v10 v11 v12 G U ⟨n, hn⟩, trip_pieces]
    obtain ⟨iO, iY⟩ := store_all v9 v10 v11 v12 G U n (Nat.le_of_succ_le hn)
    refine ⟨fun p hp => ?_, fun p hp => ?_⟩
    · rcases List.mem_append.mp hp with h | h
      · exact ⟨⟨n, hn⟩, List.mem_singleton.mp h⟩
      · exact iO p h
    · rcases List.mem_append.mp hp with h | h
      · exact ⟨⟨n, hn⟩, List.mem_singleton.mp h⟩
      · exact iY p h

end Pieces

/-! ## Their values -/

section Values
variable (c : Dev nD) (a0 : Memref sig .tc .vmem S2048x1024 .f32) (h0 : a0.IsWhole) (a1 : Memref sig .tc .vmem S32x512 .f32) (h1 : a1.IsWhole) (a2 : Memref sig .tc .vmem S1x512 .f32) (h2 : a2.IsWhole) (a3 : Memref sig .tc .vmem S1x512 .f32) (h3 : a3.IsWhole) (a4 : Memref sig .tc .vmem S1x512 .f32) (h4 : a4.IsWhole) (a5 : Memref sig .tc .vmem S1x512 .f32) (h5 : a5.IsWhole) (a6 : Memref sig .tc .vmem S2048x512 .bf16) (h6 : a6.IsWhole) (a7 : Memref sig .tc .vmem S2048x512 .f32) (h7 : a7.IsWhole) (a8 : Memref sig .tc .vmem S2096x512 .f32) (h8 : a8.IsWhole)
variable (x0 : Vec Ideal S2048x1024 .f32) (x1 : Vec Ideal S32x512 .f32) (x2 : Vec Ideal S1x512 .f32) (x3 : Vec Ideal S1x512 .f32) (x4 : Vec Ideal S1x512 .f32) (x5 : Vec Ideal S1x512 .f32)

theorem chunk_at (k : Fin k0_t1_loop.trips) (p : Fin 128) (q : Fin 512) :
    (chunk (F := Ideal) a0 (h0.unread x0) k).2 (ix2 p q) = padded x0 (32 + 128 * k.val + p.val) q := by
  have hk : k.val < 16 := k.isLt.trans_eq trips_1
  unfold chunk padded gate
  rw [dif_pos ⟨by omega, by omega⟩]
  pointwise [k0_pay3]
  rw [h0.readAt_unread, h0.readAt_unread, zero_less]
  refine congrArg₂ gated (congrArg x0 ?_) (congrArg x0 ?_)
  · funext a
    fin_cases a <;> refine Fin.ext ((Rect.idx_unit_val _ _ _ _ _).trans ?_)
    · show k0_off1 k 0 + p.val = 32 + 128 * k.val + p.val - 32
      rw [(off1 k).1]; omega
    · show k0_off1 k 1 + q.val = q.val
      rw [(off1 k).2]; omega
  · funext a
    fin_cases a <;> refine Fin.ext ((Rect.idx_unit_val _ _ _ _ _).trans ?_)
    · show k0_off2 k 0 + p.val = 32 + 128 * k.val + p.val - 32
      rw [(off2 k).1]; omega
    · show k0_off2 k 1 + q.val = 512 + q.val
      rw [(off2 k).2]

/-- Where a chunk's row is in the scratch buffer. -/
theorem emb3 (k : Fin k0_t1_loop.trips) (p : Fin 128) (q : Fin 512) :
    (Rect.unit (s := S2096x512) (k0_off3 k) S128x512.size (k0_off3_inb k)).emb (ix2 p q)
      = ix2 ⟨32 + 128 * k.val + p.val, by have := k.isLt.trans_eq trips_1; omega⟩ q := by
  funext a
  fin_cases a <;> refine Fin.ext ((Rect.idx_unit_val _ _ _ _ _).trans ?_)
  · show k0_off3 k 0 + p.val = 32 + 128 * k.val + p.val
    rw [(off3 k).1]
  · show k0_off3 k 1 + q.val = q.val
    rw [(off3 k).2, Nat.zero_add]

/-- The scratch buffer's rows: the gated columns between zeros. -/
theorem filled_at : filled (F := Ideal) c a0 h0 a1 h1 a2 h2 a3 h3 a4 h4 a5 h5 a6 h6 a7 h7 a8 h8 x0 = fun i => padded x0 (i 0).val (i 1) := by
  funext y
  refine View.canon_apply_of_pieces (fun i : S2096x512.Idx => padded x0 (i 0).val (i 1)) _ (fun p hp x => ?_) y (fill_covers c a0 h0 a1 h1 a2 h2 a3 h3 a4 h4 a5 h5 a6 h6 a7 h7 a8 h8 x0 y)
  unfold filling at hp
  rcases List.mem_append.mp hp with h | h
  · obtain ⟨k, rfl⟩ := fill_all c a0 h0 a1 h1 a2 h2 a3 h3 a4 h4 a5 h5 a6 h6 a7 h7 a8 h8 _ _ le_rfl p h
    obtain ⟨a, b, rfl⟩ : ∃ (a : Fin 128) (b : Fin 512), x = ix2 a b := ⟨x 0, x 1, by funext a; fin_cases a <;> rfl⟩
    exact (chunk_at a0 h0 x0 k a b).trans (congrArg (fun i : S2096x512.Idx => padded x0 (i 0).val (i 1)) (emb3 k a b).symm)
  · rcases List.mem_cons.mp h with rfl | h
    · have e : ((Rect.unit (s := S2096x512) ![2080, 0] S16x512.size inb_S2096x512_S16x512_2080_0).emb x 0).val = 2080 + (x 0).val := Rect.idx_unit_val _ _ _ _ _
      refine Eq.trans ?_ (dif_neg (by rw [e]; omega)).symm
      show k0_pay2 (F := Ideal) x = 0
      pointwise [k0_pay2]
    · obtain rfl := List.mem_singleton.mp h
      have e : ((Rect.unit (s := S2096x512) ![0, 0] S32x512.size inb_S2096x512_S32x512_0_0).emb x 0).val = 0 + (x 0).val := Rect.idx_unit_val _ _ _ _ _
      have l : (x 0).val < 32 := (x 0).isLt
      refine Eq.trans ?_ (dif_neg (by rw [e]; omega)).symm
      show k0_pay1 (F := Ideal) x = 0
      pointwise [k0_pay1]

/-- The first 31 rows of the weights. -/
abbrev used (x1 : Vec Ideal S32x512 .f32) : S31x512.Idx → EReal := fun i => x1 (ix2 (i 0 : Fin 31).castSucc (i 1))

/-- The row of the result that row `p` of chunk `k` is. -/
abbrev tok (k : Fin k0_t2_loop.trips) (p : Fin 128) : Fin 2048 := ⟨128 * k.val + p.val, by have := k.isLt.trans_eq trips_2; omega⟩

theorem tap_eq (k : Fin k0_t2_loop.trips) (p : Fin 128) (q : Fin 512) (j : Fin 31) :
    tap (window a8 (h8.unread (filled (F := Ideal) c a0 h0 a1 h1 a2 h2 a3 h3 a4 h4 a5 h5 a6 h6 a7 h7 a8 h8 x0)) k) (weights a1 (h1.unread x1)) p q j.castSucc
      = padded x0 ((tok k p).val + j.val + 2) q * used x1 (ix2 j q) := by
  unfold tap window weights
  rw [h8.readAt_unread, h1.readAt_unread, filled_at]
  refine congrArg₂ (· * ·) (congrArg₂ (padded x0) ?_ ?_) (congrArg x1 ?_)
  · refine (Rect.idx_unit_val _ _ _ _ _).trans ?_
    show k0_off4 k 0 + (p.val + j.val + 2) = 128 * k.val + p.val + j.val + 2
    rw [(off4 k).1]; omega
  · refine Fin.ext ((Rect.idx_unit_val _ _ _ _ _).trans ?_)
    show k0_off4 k 1 + q.val = q.val
    rw [(off4 k).2, Nat.zero_add]
  · funext a
    fin_cases a <;> refine Fin.ext ((Rect.idx_unit_val _ _ _ _ _).trans ?_)
    · rfl
    · exact Nat.zero_add _

/-- An input read whole. -/
theorem whole_eq (a : Memref sig .tc .vmem S1x512 .f32) (h : a.IsWhole) (x : Vec Ideal S1x512 .f32) :
    View.readAt (Elt Ideal) a.view (Rect.unit ![0, 0] S1x512.size inb_S1x512_S1x512_0_0).toLoadRect (h.unread x) = x := by
  funext y
  rw [h.readAt_unread]
  refine congrArg x ?_
  funext b
  fin_cases b <;> exact Fin.ext ((Rect.idx_unit_val _ _ _ _ _).trans (Nat.zero_add _))

theorem rowsY_at (k : Fin k0_t2_loop.trips) (p : Fin 128) (q : Fin 512) :
    rowsY (window a8 (h8.unread (filled (F := Ideal) c a0 h0 a1 h1 a2 h2 a3 h3 a4 h4 a5 h5 a6 h6 a7 h7 a8 h8 x0)) k) (weights a1 (h1.unread x1)) x2 (ix2 p q)
      = conv x0 (used x1) x2 (tok k p) q := by
  rw [rowsY_apply]
  exact congrArg (· + x2 (ix2 0 q)) (Finset.sum_congr rfl fun j _ => tap_eq c a0 h0 a1 h1 a2 h2 a3 h3 a4 h4 a5 h5 a6 h6 a7 h7 a8 h8 x0 x1 k p q j)

theorem rowsO_at (k : Fin k0_t2_loop.trips) (p : Fin 128) (q : Fin 512) :
    rowsO (window a8 (h8.unread (filled (F := Ideal) c a0 h0 a1 h1 a2 h2 a3 h3 a4 h4 a5 h5 a6 h6 a7 h7 a8 h8 x0)) k) (weights a1 (h1.unread x1)) x2 x3 x4 x5 (ix2 p q)
      = acted x0 (used x1) x2 x3 x4 x5 (tok k p) q := by
  rw [rowsO_apply]
  exact congrArg (fun z => act z _ _ _ q) (funext fun r => rowsY_at c a0 h0 a1 h1 a2 h2 a3 h3 a4 h4 a5 h5 a6 h6 a7 h7 a8 h8 x0 x1 x2 k p r)

/-- Where a chunk's row is in the result. -/
theorem emb5 (k : Fin k0_t2_loop.trips) (p : Fin 128) (q : Fin 512) :
    (Rect.unit (s := S2048x512) (k0_off5 k) S128x512.size (k0_off5_inb k)).emb (ix2 p q) = ix2 (tok k p) q := by
  funext a
  fin_cases a <;> refine Fin.ext ((Rect.idx_unit_val _ _ _ _ _).trans ?_)
  · show k0_off5 k 0 + p.val = 128 * k.val + p.val
    rw [(off5 k).1]
  · show k0_off5 k 1 + q.val = q.val
    rw [(off5 k).2, Nat.zero_add]

theorem left_y : View.canon (storing (F := Ideal) c a0 h0 a1 h1 a2 h2 a3 h3 a4 h4 a5 h5 a6 h6 a7 h7 a8 h8 x0 x1 x2 x3 x4 x5).2 = fun i => conv x0 (used x1) x2 (i 0) (i 1) := by
  funext y
  refine View.canon_apply_of_pieces (fun i : S2048x512.Idx => conv x0 (used x1) x2 (i 0) (i 1)) _ (fun p hp x => ?_) y (store_covers c a0 h0 a1 h1 a2 h2 a3 h3 a4 h4 a5 h5 a6 h6 a7 h7 a8 h8 x0 x1 x2 x3 x4 x5 y).2
  unfold storing at hp
  obtain ⟨k, rfl⟩ := (store_all c a0 h0 a1 h1 a2 h2 a3 h3 a4 h4 a5 h5 a6 h6 a7 h7 a8 h8 _ _ _ _ _ _ _ le_rfl).2 p hp
  obtain ⟨a, b, rfl⟩ : ∃ (a : Fin 128) (b : Fin 512), x = ix2 a b := ⟨x 0, x 1, by funext a; fin_cases a <;> rfl⟩
  unfold pieceY
  rw [whole_eq]
  exact (rowsY_at c a0 h0 a1 h1 a2 h2 a3 h3 a4 h4 a5 h5 a6 h6 a7 h7 a8 h8 x0 x1 x2 k a b).trans (congrArg (fun i : S2048x512.Idx => conv x0 (used x1) x2 (i 0) (i 1)) (emb5 k a b).symm)

/-- A chunk of the first result. -/
theorem pieceO_at (k : Fin k0_t2_loop.trips) (x : S128x512.Idx) :
    rowsO (window a8 (h8.unread (filled (F := Ideal) c a0 h0 a1 h1 a2 h2 a3 h3 a4 h4 a5 h5 a6 h6 a7 h7 a8 h8 x0)) k) (weights a1 (h1.unread x1)) x2 x3 x4 x5 x
      = acted x0 (used x1) x2 x3 x4 x5 ((Rect.unit (s := S2048x512) (k0_off5 k) S128x512.size (k0_off5_inb k)).emb x 0)
        ((Rect.unit (s := S2048x512) (k0_off5 k) S128x512.size (k0_off5_inb k)).emb x 1) := by
  obtain ⟨a, b, rfl⟩ : ∃ (a : Fin 128) (b : Fin 512), x = ix2 a b := ⟨x 0, x 1, by funext a; fin_cases a <;> rfl⟩
  rw [rowsO_at, emb5]
  rfl

/-- Every store of the first result's is of its values. -/
theorem stored_o : ∀ p ∈ (storing (F := Ideal) c a0 h0 a1 h1 a2 h2 a3 h3 a4 h4 a5 h5 a6 h6 a7 h7 a8 h8 x0 x1 x2 x3 x4 x5).1, ∀ x, p.2 x = acted x0 (used x1) x2 x3 x4 x5 (p.1.emb x 0) (p.1.emb x 1) := by
  intro p hp x
  unfold storing at hp
  rw [whole_eq, whole_eq, whole_eq, whole_eq] at hp
  obtain ⟨k, e⟩ := (store_all c a0 h0 a1 h1 a2 h2 a3 h3 a4 h4 a5 h5 a6 h6 a7 h7 a8 h8 x2 x3 x4 x5 (h1.unread x1) (h8.unread (filled (F := Ideal) c a0 h0 a1 h1 a2 h2 a3 h3 a4 h4 a5 h5 a6 h6 a7 h7 a8 h8 x0)) _ le_rfl).1 p hp
  subst e
  exact pieceO_at c a0 h0 a1 h1 a2 h2 a3 h3 a4 h4 a5 h5 a6 h6 a7 h7 a8 h8 x0 x1 x2 x3 x4 x5 k x

theorem left_o : View.canon (storing (F := Ideal) c a0 h0 a1 h1 a2 h2 a3 h3 a4 h4 a5 h5 a6 h6 a7 h7 a8 h8 x0 x1 x2 x3 x4 x5).1 = fun i => acted x0 (used x1) x2 x3 x4 x5 (i 0) (i 1) := by
  funext y
  exact View.canon_apply_of_pieces (fun i : S2048x512.Idx => (acted x0 (used x1) x2 x3 x4 x5 (i 0) (i 1) : Elt Ideal .bf16)) _
    (stored_o c a0 h0 a1 h1 a2 h2 a3 h3 a4 h4 a5 h5 a6 h6 a7 h7 a8 h8 x0 x1 x2 x3 x4 x5) y (store_covers c a0 h0 a1 h1 a2 h2 a3 h3 a4 h4 a5 h5 a6 h6 a7 h7 a8 h8 x0 x1 x2 x3 x4 x5 y).1

end Values

end Cert.CfwdKernelIdeal.Arrays
end
-- ==== Proof.CfwdArrays.lean ====
/- The two arrays that the convolution's forward kernel ends with. -/
module

public import proofs.«01_k».proof.Proof.CfwdKernel
public import Idealize.ShloMosaic.Lib.Pipeline.ValueKit

@[expose] public section

set_option maxRecDepth 16384
noncomputable section
open Idealize.ShloMosaic Idealize.ShloMosaic.TcCoe Idealize.SL.Sem

namespace Cert.CfwdKernelIdeal.Arrays
open Cert.CfwdKernelIdeal Cert.CfwdKernelIdeal.Gen Cert.CfwdKernelIdeal.Whole Cert.CfwdMath

variable (m : (ℓ : Loc nD τ sig) → Buf (Elt Ideal) ℓ) (c : Dev nD)

/-- The results are the proof data's arrays, and the arguments end unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.1 c).1 6, (h.1.1 c).1 7, h.2.1 c⟩) (θ_run_and (ends m ρ) (frame m ρ))

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem V_v0 : V m c main_v0 = pad (s := S31x512) (α := Elt Ideal .f32) S32x512 ![0, 0] ![1, 0] ![0, 0] (m ((c.tc : Thread nD τ).loc main_arg1)) (sitofp (F := Ideal) .f32 (constantI S_ 32 0#32)) pads_S31x512_S32x512_010_000 h_S_ := by
  entry_read; rfl

theorem blk0 (t : Fin cfg0.N) : iblk m c 0 t = m ((c.tc : Thread nD τ).loc main_arg0) := by
  funext y
  refine Eq.trans ?_ (congrFun (V_main_arg0 m c) _)
  blk_ext [iblk, idx t]

theorem blk1 (t : Fin cfg0.N) : iblk m c 1 t = V m c main_v0 := by
  funext y
  blk_ext [iblk, idx t]

theorem blk2 (t : Fin cfg0.N) : iblk m c 2 t = m ((c.tc : Thread nD τ).loc main_arg2) := by
  funext y
  refine Eq.trans ?_ (congrFun (V_main_arg2 m c) _)
  blk_ext [iblk, idx t]

theorem blk3 (t : Fin cfg0.N) : iblk m c 3 t = m ((c.tc : Thread nD τ).loc main_arg3) := by
  funext y
  refine Eq.trans ?_ (congrFun (V_main_arg3 m c) _)
  blk_ext [iblk, idx t]

theorem blk4 (t : Fin cfg0.N) : iblk m c 4 t = m ((c.tc : Thread nD τ).loc main_arg4) := by
  funext y
  refine Eq.trans ?_ (congrFun (V_main_arg4 m c) _)
  blk_ext [iblk, idx t]

theorem blk5 (t : Fin cfg0.N) : iblk m c 5 t = m ((c.tc : Thread nD τ).loc main_arg5) := by
  funext y
  refine Eq.trans ?_ (congrFun (V_main_arg5 m c) _)
  blk_ext [iblk, idx t]

/-- The weights that the taps use are the argument's. -/
theorem used_eq : used (V m c main_v0) = m ((c.tc : Thread nD τ).loc main_arg1) := by
  rw [V_v0]
  funext i
  exact pad_apply_of_inside _ _ _ _ _ _ _ _ i (by
    intro a
    fin_cases a
    · show (i 0).val = 0 + (i 0).val * (0 + 1); omega
    · show (i 1).val = 0 + (i 1).val * (0 + 1); omega)

abbrev arg (b : Ref sig .tc) := m ((c.tc : Thread nD τ).loc b)

/-- A result's block is its array. -/
theorem emb6 (t : Fin cfg0.N) (y : S2048x512.Idx) : (win0_6.blk t).view.emb y = y := by
  blk_ext [idx t]

theorem emb7 (t : Fin cfg0.N) (y : S2048x512.Idx) : (win0_7.blk t).view.emb y = y := by
  blk_ext [idx t]

/-- The array of the activations. -/
theorem o_array : (dats m 0 c).arrAt 6 cfg0.N = fun i => acted (arg m c main_arg0) (arg m c main_arg1) (arg m c main_arg2)
    (arg m c main_arg3) (arg m c main_arg4) (arg m c main_arg5) (i 0) (i 1) := by
  refine (dats m 0 c).arrAt_eq_of_covers 6 _ (by decide +kernel) fun t _ y => ?_
  blk_simp
  rw [left_6]
  unfold stores
  rw [left_o, blk0, blk1, blk2, blk3, blk4, blk5, used_eq]
  exact congrArg (fun i : S2048x512.Idx => acted (arg m c main_arg0) (arg m c main_arg1) (arg m c main_arg2) (arg m c main_arg3)
    (arg m c main_arg4) (arg m c main_arg5) (i 0) (i 1)) (emb6 t y).symm

/-- The array of the convolution. -/
theorem y_array : (dats m 0 c).arrAt 7 cfg0.N = fun i => conv (arg m c main_arg0) (arg m c main_arg1) (arg m c main_arg2) (i 0) (i 1) := by
  refine (dats m 0 c).arrAt_eq_of_covers 7 _ (by decide +kernel) fun t _ y => ?_
  blk_simp
  rw [left_7]
  unfold stores
  rw [left_y, blk0, blk1, blk2, used_eq]
  exact congrArg (fun i : S2048x512.Idx => conv (arg m c main_arg0) (arg m c main_arg1) (arg m c main_arg2) (i 0) (i 1)) (emb7 t y).symm

end Cert.CfwdKernelIdeal.Arrays
end
-- ==== Proof.CfwdRef.lean ====
/- What the reference of the convolution's forward call computes. -/
module

public import proofs.«01_k».proof.Proof.CfwdMath
public import proofs.«01_k».proof.Proof.Gen.CfwdReferenceIdeal.Read
public import Idealize.ShloMosaic.Lib.KernelVsHost

@[expose] public section

set_option maxRecDepth 16384
noncomputable section
open Idealize.ShloMosaic Idealize.ShloMosaic.TcCoe Idealize.SL.Sem

namespace Cert.CfwdReferenceIdeal.Read
open Cert.CfwdReferenceIdeal Cert.CfwdReferenceIdeal.Gen Cert.CfwdMath

variable (A : Vec Ideal S2048x1024 .f32) (W : Vec Ideal S31x512 .f32) (B g s n : Vec Ideal S1x512 .f32)

theorem v8_at (p : Fin 2048) (q : Fin 512) : val_main_v8 A (ix2 p q) = gate A p q := by
  pointwise [val_main_v8, val_main_v7, val_main_v6, val_main_v5, val_main_v4, val_main_v3, val_main_v2, val_main_v1, val_main_v0, val_main_cst, val_main_cst_0]
  rfl

theorem zero_at (i) : val_main_call0_v0 (F := Ideal) i = 0 := by
  pointwise [val_main_call0_v0, val_main_c]
  show (((0#32 : BitVec 32).toInt : ℝ) : EReal) = 0
  simp

/-- The gated rows behind 30 rows of zeros. -/
theorem v9_at (i : Fin 2078) (q : Fin 512) : val_main_v9 A (ix2 i q) = padded A (i.val + 2) q := by
  unfold val_main_v9 padded
  split
  next h =>
    exact (pad_apply_of_inside _ _ _ _ _ _ _ _ (ix2 ⟨i.val + 2 - 32, by omega⟩ q) (by
      intro a
      fin_cases a
      · show i.val = 30 + (i.val + 2 - 32) * (0 + 1); omega
      · show q.val = 0 + q.val * (0 + 1); omega)).trans (v8_at A _ q)
  next h =>
    refine (pad_apply_of_not_inside _ _ _ _ _ _ _ _ (0 : Fin 2) fun k => h ?_).trans (zero_at _)
    have e : 30 ≤ i.val := k.1
    omega

/-- The taps, one product of shifted rows each. -/
theorem taps_at (p : Fin 2048) (q : Fin 512) : val_main_v227 A W (ix2 p q) = ∑ j : Fin 31, padded A (p.val + j.val + 2) q * W (ix2 j q) := by
  rw [sum_taps]
  pointwise [val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_cst_1]
  repeat' refine congrArg₂ (· + ·) ?_ ?_
  all_goals exact congrArg (· * _) ((v9_at A _ q).trans (congrArg (padded A · q) (by dsimp only <;> omega)))

theorem v231_at (p : Fin 2048) (q : Fin 512) : val_main_v231 A W B (ix2 p q) = conv A W B p q := by
  pointwise [val_main_v231, val_main_v230, val_main_v229, val_main_v228, taps_at]
  rfl

/-- The convolved rows normed, scaled and shifted. -/
theorem v255_at (p : Fin 2048) (q : Fin 512) : val_main_v255 A W B g s (ix2 p q)
    = layer (fun k => conv A W B p k) (fun k => g (ix2 0 k)) (fun k => s (ix2 0 k)) q := by
  pointwise [val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_cst_2, val_main_cst_3, val_main_cst_4, val_main_cst_5, val_main_cst_6, v231_at]
  rfl

theorem v256_at (p : Fin 2048) (q : Fin 512) : val_main_v256 A W B g s (ix2 p q)
    = gated (layer (fun k => conv A W B p k) (fun k => g (ix2 0 k)) (fun k => s (ix2 0 k)) q) (layer (fun k => conv A W B p k) (fun k => g (ix2 0 k)) (fun k => s (ix2 0 k)) q) := by
  pointwise [val_main_v256, val_main_call1_v5, val_main_call1_v4, val_main_call1_v3, val_main_call1_v2, val_main_call1_v1, val_main_call1_v0, val_main_call1_cst, val_main_call1_cst_0, v255_at]
  rfl

/-- The reference's two results as arrays. -/
theorem o_of : val_main_v271 A W B g s n
    = fun i => acted A W B g s n (i 0) (i 1) := by
  funext j
  idx_vars j
  pointwise [val_main_v271, val_main_v270, val_main_v269, val_main_v268, val_main_v267, val_main_v266, val_main_v265, val_main_v264, val_main_v263, val_main_v262, val_main_v261, val_main_v260, val_main_v259, val_main_v258, val_main_v257, val_main_cst_7, val_main_cst_8, val_main_cst_9, v256_at]
  rfl

theorem y_of : val_main_v231 A W B = fun i => conv A W B (i 0) (i 1) := by
  funext j
  idx_vars j
  exact v231_at A W B _ _

end Cert.CfwdReferenceIdeal.Read
end
-- ==== Proof.CfwdClaim.lean ====
/- The claims about the convolution's forward kernel. -/
module

public import proofs.«01_k».proof.Defs
public import proofs.«01_k».proof.Proof.CfwdArrays
public import proofs.«01_k».proof.Proof.CfwdRef
public import proofs.«01_k».proof.Proof.Gen.CfwdReferenceIdeal.Run
public import Idealize.ShloMosaic.Lib.Quiescent

@[expose] public section

set_option maxRecDepth 16384
noncomputable section
open Idealize.ShloMosaic Idealize.ShloMosaic.TcCoe Idealize.SL.Sem

namespace Cert.CfwdClaim
open Cert.CfwdMath

/-- The reference declares no semaphore, so its run leaves every counter at zero. -/
theorem frame_ref : Cert.quiescent_CfwdReferenceIdeal (hCfwdReferenceIdeal := Cert.CfwdReferenceIdeal.Gen.facts) := fun m g _ =>
  (θ_run _ _ _).mono (fun r h => ⟨fun c => (h c).2.2, sem_eq_zero_of_no_sems (by decide) r.2⟩) (Cert.CfwdReferenceIdeal.Value.run (F := Ideal) m g)

/-- The reference's results from equal arguments. -/
theorem named {x0 y0 x1 y1 x2 y2 x3 y3 x4 y4 x5 y5} (h0 : x0 = y0) (h1 : x1 = y1) (h2 : x2 = y2) (h3 : x3 = y3) (h4 : x4 = y4) (h5 : x5 = y5) :
    Cert.CfwdReferenceIdeal.Read.val_main_v271 (F := Ideal) x0 x1 x2 x3 x4 x5 = (fun i => acted y0 y1 y2 y3 y4 y5 (i 0) (i 1))
    ∧ Cert.CfwdReferenceIdeal.Read.val_main_v231 (F := Ideal) x0 x1 x2 = fun i => conv y0 y1 y2 (i 0) (i 1) := by
  subst h0 h1 h2 h3 h4 h5
  exact ⟨Cert.CfwdReferenceIdeal.Read.o_of _ _ _ _ _ _, Cert.CfwdReferenceIdeal.Read.y_of _ _ _⟩

/-- The two programs end with equal results. -/
theorem algebraic : Cert.algebraic_CfwdKernelIdeal_CfwdReferenceIdeal
    (hCfwdKernelIdeal := Cert.CfwdKernelIdeal.Gen.facts) (hCfwdReferenceIdeal := Cert.CfwdReferenceIdeal.Gen.facts) := by
  intro m g m' g' _ hag
  refine ⟨fun c => _, fun c => _, Cert.CfwdKernelIdeal.Arrays.run_arrays m g, ?_⟩
  refine (θ_run _ _ _).mono (fun r h c => ?_) (Cert.CfwdReferenceIdeal.Value.run m' g')
  obtain ⟨a0, a1, a2, a3, a4, a5⟩ := hag c
  obtain ⟨r0, r1, k⟩ := h c
  refine ⟨r0.trans ?_, r1.trans ?_, k⟩
  · exact (Cert.CfwdReferenceIdeal.Read.val_main_v271_eq _).trans ((named a0 a1 a2 a3 a4 a5).1.trans (Cert.CfwdKernelIdeal.Arrays.o_array m c).symm)
  · exact (Cert.CfwdReferenceIdeal.Read.val_main_v231_eq _).trans ((named a0 a1 a2 a3 a4 a5).2.trans (Cert.CfwdKernelIdeal.Arrays.y_array m c).symm)

end Cert.CfwdClaim
end
-- ==== Proof.WgradValue.lean ====
/- The product for the gradient of the gate and up weights: what its kernel leaves and what the reference computes. -/
module

public import proofs.«01_k».proof.Proof.Rms
public import proofs.«01_k».proof.Proof.Gen.WgradKernelIdeal.Value
public import proofs.«01_k».proof.Proof.Gen.WgradReferenceIdeal.Read

@[expose] public section

set_option maxRecDepth 16384
noncomputable section
open Idealize.ShloMosaic Idealize.ShloMosaic.TcCoe Idealize.SL.Sem

namespace Cert.WgradMath

/-- The gradient at row `p` and column `q` of part `j`. -/
def dw (X : (⟨2, ![2048, 1024]⟩ : Shape).Idx → EReal) (Y : (⟨2, ![2048, 5632]⟩ : Shape).Idx → EReal) (j : Fin 4) (p : Fin 1024) (q : Fin 1408) : EReal :=
  ∑ k, X (ix2 k p) * Y (ix2 k ⟨1408 * j.val + q.val, by omega⟩)

end Cert.WgradMath

open Cert.WgradMath

namespace Cert.WgradReferenceIdeal.Read
open Cert.WgradReferenceIdeal Cert.WgradReferenceIdeal.Gen
variable (X : S2048x1024.Idx → EReal) (Y : S2048x5632.Idx → EReal)

theorem v3_at (p : Fin 1024) (q : Fin 5632) : val_main_v3 (F := Ideal) X Y (ix2 p q) = ∑ k, X (ix2 k p) * Y (ix2 k q) := by
  pointwise [val_main_v3, val_main_v2]
  exact Finset.sum_congr rfl fun k _ => mul_comm _ _

theorem dw_at (j : Fin 4) (p : Fin 1024) (q : Fin 1408) : val_main_v13 (F := Ideal) X Y (ix3 j p q) = dw X Y j p q := by
  unfold dw
  fin_cases j <;> pointwise [val_main_v13, val_main_v12, val_main_v11, val_main_v10, val_main_v9, val_main_v8, val_main_v7, val_main_v6, val_main_v5, val_main_v4, v3_at]

theorem dw_of : val_main_v13 (F := Ideal) X Y = fun i => dw X Y (i 0) (i 1) (i 2) := by
  funext i
  idx_vars i
  exact dw_at X Y _ _ _

end Cert.WgradReferenceIdeal.Read

namespace Cert.WgradKernelIdeal.Arrays
open Cert.WgradKernelIdeal Cert.WgradKernelIdeal.Gen

theorem at_block (X : S2048x1024.Idx → EReal) (Y : S2048x1408.Idx → EReal) (j : Fin 1) (p : Fin 1024) (q : Fin 1408) :
    k0_pay1 (F := Ideal) X Y (ix3 j p q) = ∑ k, X (ix2 k p) * Y (ix2 k q) := by
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![t.val, 0, 0] ∧ t.val < 4 :=
  (by decide +kernel : ∀ t : Fin grid0.N, _)

abbrev arg (b : Ref sig .tc) := m ((c.tc : Thread nD τ).loc b)

/-- The column of the block's column `q`. -/
abbrev col (t : Fin cfg0.N) (q : Fin 1408) : Fin 5632 := ⟨1408 * t.val + q.val, by have := (idx t).2.2.2; omega⟩

theorem V_v0 : V m c main_v0 = arg m c main_arg0 := by
  entry_read; rfl

theorem V_v1 : V m c main_v1 = arg m c main_arg1 := by
  entry_read; rfl

theorem blk0 (t : Fin cfg0.N) : iblk m c 0 t = arg m c main_arg0 := by
  funext y
  refine Eq.trans ?_ (congrFun (V_v0 m c) _)
  blk_ext [iblk, idx t]

theorem blk1 (t : Fin cfg0.N) : iblk m c 1 t = fun y => arg m c main_arg1 (ix2 (y 0) (col t (y 1))) := by
  funext y
  refine Eq.trans ?_ (congrFun (V_v1 m c) _)
  blk_ext [iblk, idx t]

theorem emb2 (t : Fin cfg0.N) (y : S1x1024x1408.Idx) : (win0_2.blk t).view.emb y = ix3 ⟨t.val, (idx t).2.2.2⟩ (y 1) (y 2) := by
  blk_ext [idx t]

theorem dw_array : (dats m 0 c).arrAt 2 cfg0.N = fun i => dw (arg m c main_arg0) (arg m c main_arg1) (i 0) (i 1) (i 2) := by
  refine (dats m 0 c).arrAt_eq_of_covers 2 _ (by decide +kernel) fun t _ y => ?_
  blk_simp
  rw [after0_2, blk0, blk1]
  frame_out
  refine Eq.trans ?_ (congrArg (fun i : S4x1024x1408.Idx => dw (arg m c main_arg0) (arg m c main_arg1) (i 0) (i 1) (i 2)) (emb2 t y)).symm
  idx_vars y
  exact at_block _ _ _ _ _

end Cert.WgradKernelIdeal.Arrays
end
-- ==== Proof.WgradClaim.lean ====
/- The claims about the product for the gradient of the gate and up weights. -/
module

public import proofs.«01_k».proof.Defs
public import proofs.«01_k».proof.Proof.WgradValue
public import proofs.«01_k».proof.Proof.Gen.WgradKernel.Frame
public import proofs.«01_k».proof.Proof.Gen.WgradKernelIdeal.Frame
public import proofs.«01_k».proof.Proof.Gen.WgradReferenceIdeal.Run
public import Idealize.ShloMosaic.Lib.Quiescent

@[expose] public section

set_option maxRecDepth 16384
noncomputable section
open Idealize.ShloMosaic Idealize.ShloMosaic.TcCoe Idealize.SL.Sem

namespace Cert.WgradClaim

/-- The reference declares no semaphore, so its run leaves every counter at zero. -/
theorem frame_ref : Cert.quiescent_WgradReferenceIdeal (hWgradReferenceIdeal := Cert.WgradReferenceIdeal.Gen.facts) := fun m g _ =>
  (θ_run _ _ _).mono (fun r h => ⟨fun c => (h c).2, sem_eq_zero_of_no_sems (by decide) r.2⟩) (Cert.WgradReferenceIdeal.Value.run (F := Ideal) m g)

/-- The two programs end with equal results. -/
theorem algebraic : Cert.algebraic_WgradKernelIdeal_WgradReferenceIdeal
    (hWgradKernelIdeal := Cert.WgradKernelIdeal.Gen.facts) (hWgradReferenceIdeal := Cert.WgradReferenceIdeal.Gen.facts) := by
  intro m g m' g' _ hag
  refine ⟨fun c => _, Cert.WgradKernelIdeal.Value.run_blocks m g, ?_⟩
  refine (θ_run _ _ _).mono (fun r h c => ?_) (Cert.WgradReferenceIdeal.Value.run m' g')
  obtain ⟨a0, a1⟩ := hag c
  obtain ⟨r0, k⟩ := h c
  refine ⟨r0.trans ?_, k⟩
  rw [Cert.WgradReferenceIdeal.Read.val_main_v13_eq, a0, a1]
  exact (Cert.WgradReferenceIdeal.Read.dw_of _ _).trans (Cert.WgradKernelIdeal.Arrays.dw_array m c).symm

end Cert.WgradClaim
end
-- ==== Proof.AdamValue.lean ====
/- The optimiser's step on one matrix: what its kernel leaves and what the reference computes, entry by entry. -/
module

public import proofs.«01_k».proof.Proof.Rms
public import proofs.«01_k».proof.Proof.Gen.AdamKernelIdeal.Value
public import proofs.«01_k».proof.Proof.Gen.AdamReferenceIdeal.Read

@[expose] public section

set_option maxRecDepth 16384
noncomputable section
open Idealize.ShloMosaic Idealize.ShloMosaic.TcCoe Idealize.SL.Sem

namespace Cert.AdamMath

/-- The number that 32 bits stand for. -/
abbrev num (b : BitVec 32) : EReal := Ideal.ofBits FTy.f32 b

/-- The new first moment of an entry with gradient `g` and moment `a`. -/
def first (g a : EReal) : EReal := num 0x3F666666#32 * a + num 0x3DCCCCCD#32 * g

/-- The new second moment. -/
def second (g b : EReal) : EReal := num 0x3F7FBE77#32 * b + num 0x3A83126F#32 * (g * g)

/-- The change of a weight `w`. -/
def change (w g a b : EReal) : EReal :=
  num 0xBA83126F#32 * (Ideal.div (Ideal.div (first g a) (num 0x3F26BD02#32))
    (Ideal.sqrt (Ideal.div (second g b) (num 0x3C231ACC#32)) + num 0x322BCC77#32) + num 0x3C23D70A#32 * w)

end Cert.AdamMath

open Cert.AdamMath

namespace Cert.AdamReferenceIdeal.Read
open Cert.AdamReferenceIdeal Cert.AdamReferenceIdeal.Gen

variable (w g a b : S1024x1408.Idx → EReal)

theorem first_of : val_main_v4 (F := Ideal) g a = fun i => first (g i) (a i) := by
  funext i
  pointwise [val_main_v4, val_main_v3, val_main_v2, val_main_v1, val_main_v0, val_main_cst, val_main_cst_0]
  rfl

theorem second_of : val_main_v10 (F := Ideal) g b = fun i => second (g i) (b i) := by
  funext i
  pointwise [val_main_v10, val_main_v9, val_main_v8, val_main_v7, val_main_v6, val_main_v5, val_main_cst_1, val_main_cst_2]
  rfl

theorem change_of : val_main_v23 (F := Ideal) w g a b = fun i => change (w i) (g i) (a i) (b i) := by
  funext i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7,
    first_of, second_of]
  rfl

end Cert.AdamReferenceIdeal.Read

namespace Cert.AdamKernelIdeal.Arrays
open Cert.AdamKernelIdeal Cert.AdamKernelIdeal.Gen

section Block
variable (w g a b : S512x1408.Idx → EReal)

theorem first_block : k0_pay1 (F := Ideal) g a = fun i => first (g i) (a i) := by
  funext i
  pointwise [k0_pay1]
  rfl

theorem second_block : k0_pay2 (F := Ideal) g b = fun i => second (g i) (b i) := by
  funext i
  pointwise [k0_pay2]
  rfl

theorem change_block : k0_pay3 (F := Ideal) g w a b = fun i => change (w i) (g i) (a i) (b i) := by
  funext i
  pointwise [k0_pay3, first_block, second_block]
  rfl

end Block

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 2 :=
  (by decide +kernel : ∀ t : Fin grid0.N, _)

/-- The place in the matrix of a block's entry. -/
abbrev at_ (t : Fin cfg0.N) (y : S512x1408.Idx) : S1024x1408.Idx :=
  ix2 ⟨t.val * 512 + (y 0).val, by have := (idx t).2.2.2.2.2.2.2.2; have := (y 0).isLt; change (y 0).val < 512 at this; omega⟩ (y 1)

abbrev arg (b : Ref sig .tc) := m ((c.tc : Thread nD τ).loc b)

theorem blk0 (t : Fin cfg0.N) : iblk m c 0 t = fun y => arg m c main_arg0 (at_ t y) := by
  funext y
  refine Eq.trans ?_ (congrFun (V_main_arg0 m c) _)
  blk_ext [iblk, idx t] <;> rfl

theorem blk1 (t : Fin cfg0.N) : iblk m c 1 t = fun y => arg m c main_arg1 (at_ t y) := by
  funext y
  refine Eq.trans ?_ (congrFun (V_main_arg1 m c) _)
  blk_ext [iblk, idx t] <;> rfl

theorem blk2 (t : Fin cfg0.N) : iblk m c 2 t = fun y => arg m c main_arg2 (at_ t y) := by
  funext y
  refine Eq.trans ?_ (congrFun (V_main_arg2 m c) _)
  blk_ext [iblk, idx t] <;> rfl

theorem blk3 (t : Fin cfg0.N) : iblk m c 3 t = fun y => arg m c main_arg3 (at_ t y) := by
  funext y
  refine Eq.trans ?_ (congrFun (V_main_arg3 m c) _)
  blk_ext [iblk, idx t] <;> rfl

theorem emb4 (t : Fin cfg0.N) (y : S512x1408.Idx) : (win0_4.blk t).view.emb y = at_ t y := by blk_ext [idx t] <;> rfl
theorem emb5 (t : Fin cfg0.N) (y : S512x1408.Idx) : (win0_5.blk t).view.emb y = at_ t y := by blk_ext [idx t] <;> rfl
theorem emb6 (t : Fin cfg0.N) (y : S512x1408.Idx) : (win0_6.blk t).view.emb y = at_ t y := by blk_ext [idx t] <;> rfl
theorem emb7 (t : Fin cfg0.N) (y : S512x1408.Idx) : (win0_7.blk t).view.emb y = at_ t y := by blk_ext [idx t] <;> rfl

/-- The gradient comes out as it went in. -/
theorem kept_array : (dats m 0 c).arrAt 4 cfg0.N = arg m c main_arg1 := by
  refine (dats m 0 c).arrAt_eq_of_covers 4 _ (by decide +kernel) fun t _ y => ?_
  blk_simp
  rw [after0_4, blk1]
  frame_out
  exact congrArg (arg m c main_arg1) (emb4 t y).symm

theorem change_array : (dats m 0 c).arrAt 5 cfg0.N
    = fun i => change (arg m c main_arg0 i) (arg m c main_arg1 i) (arg m c main_arg2 i) (arg m c main_arg3 i) := by
  refine (dats m 0 c).arrAt_eq_of_covers 5 _ (by decide +kernel) fun t _ y => ?_
  blk_simp
  rw [after0_5, blk0, blk1, blk2, blk3]
  frame_out
  refine (congrFun (change_block _ _ _ _) y).trans ?_
  exact congrArg (fun i => change (arg m c main_arg0 i) (arg m c main_arg1 i) (arg m c main_arg2 i) (arg m c main_arg3 i)) (emb5 t y).symm

theorem first_array : (dats m 0 c).arrAt 6 cfg0.N = fun i => first (arg m c main_arg1 i) (arg m c main_arg2 i) := by
  refine (dats m 0 c).arrAt_eq_of_covers 6 _ (by decide +kernel) fun t _ y => ?_
  blk_simp
  rw [after0_6, blk1, blk2]
  frame_out
  refine (congrFun (first_block _ _) y).trans ?_
  exact congrArg (fun i => first (arg m c main_arg1 i) (arg m c main_arg2 i)) (emb6 t y).symm

theorem second_array : (dats m 0 c).arrAt 7 cfg0.N = fun i => second (arg m c main_arg1 i) (arg m c main_arg3 i) := by
  refine (dats m 0 c).arrAt_eq_of_covers 7 _ (by decide +kernel) fun t _ y => ?_
  blk_simp
  rw [after0_7, blk1, blk3]
  frame_out
  refine (congrFun (second_block _ _) y).trans ?_
  exact congrArg (fun i => second (arg m c main_arg1 i) (arg m c main_arg3 i)) (emb7 t y).symm

end Cert.AdamKernelIdeal.Arrays
end
-- ==== Proof.AdamClaim.lean ====
/- The claims about the optimiser's step on one matrix. -/
module

public import proofs.«01_k».proof.Defs
public import proofs.«01_k».proof.Proof.AdamValue
public import proofs.«01_k».proof.Proof.Gen.AdamKernel.Frame
public import proofs.«01_k».proof.Proof.Gen.AdamKernelIdeal.Frame
public import proofs.«01_k».proof.Proof.Gen.AdamReferenceIdeal.Run
public import Idealize.ShloMosaic.Lib.Quiescent

@[expose] public section

set_option maxRecDepth 16384
noncomputable section
open Idealize.ShloMosaic Idealize.ShloMosaic.TcCoe Idealize.SL.Sem

namespace Cert.AdamClaim

/-- The reference declares no semaphore, so its run leaves every counter at zero. -/
theorem frame_ref : Cert.quiescent_AdamReferenceIdeal (hAdamReferenceIdeal := Cert.AdamReferenceIdeal.Gen.facts) := fun m g _ =>
  (θ_run _ _ _).mono (fun r h => ⟨fun c => (h c).2.2.2.2, sem_eq_zero_of_no_sems (by decide) r.2⟩) (Cert.AdamReferenceIdeal.Value.run (F := Ideal) m g)

/-- The two programs end with equal results. -/
theorem algebraic : Cert.algebraic_AdamKernelIdeal_AdamReferenceIdeal
    (hAdamKernelIdeal := Cert.AdamKernelIdeal.Gen.facts) (hAdamReferenceIdeal := Cert.AdamReferenceIdeal.Gen.facts) := by
  intro m g m' g' _ hag
  refine ⟨fun c => _, fun c => _, fun c => _, fun c => _, Cert.AdamKernelIdeal.Value.run_blocks m g, ?_⟩
  refine (θ_run _ _ _).mono (fun r h c => ?_) (Cert.AdamReferenceIdeal.Value.run m' g')
  obtain ⟨a0, a1, a2, a3⟩ := hag c
  obtain ⟨r0, r1, r2, r3, k⟩ := h c
  refine ⟨r0.trans ?_, r1.trans ?_, r2.trans ?_, r3.trans ?_, k⟩
  · exact a1.trans (Cert.AdamKernelIdeal.Arrays.kept_array m c).symm
  · rw [Cert.AdamReferenceIdeal.Read.val_main_v23_eq, a0, a1, a2, a3]
    exact (Cert.AdamReferenceIdeal.Read.change_of _ _ _ _).trans (Cert.AdamKernelIdeal.Arrays.change_array m c).symm
  · rw [Cert.AdamReferenceIdeal.Read.val_main_v4_eq, a1, a2]
    exact (Cert.AdamReferenceIdeal.Read.first_of _ _).trans (Cert.AdamKernelIdeal.Arrays.first_array m c).symm
  · rw [Cert.AdamReferenceIdeal.Read.val_main_v10_eq, a1, a3]
    exact (Cert.AdamReferenceIdeal.Read.second_of _ _).trans (Cert.AdamKernelIdeal.Arrays.second_array m c).symm

end Cert.AdamClaim
end
-- ==== Proof.SsumValue.lean ====
/- The sum of the small gradients over the eight devices: what its kernel leaves and what the reference computes. -/
module

public import proofs.«01_k».proof.Proof.Rms
public import proofs.«01_k».proof.Proof.Gen.SsumKernelIdeal.Value
public import proofs.«01_k».proof.Proof.Gen.SsumReferenceIdeal.Read

@[expose] public section

set_option maxRecDepth 16384
noncomputable section
open Idealize.ShloMosaic Idealize.ShloMosaic.TcCoe Idealize.SL.Sem

namespace Cert.SsumMath

/-- The sum of the eight slots at each place. -/
def total (X : (⟨3, ![8, 184, 128]⟩ : Shape).Idx → EReal) (i : (⟨2, ![184, 128]⟩ : Shape).Idx) : EReal := ∑ k : Fin 8, X (ix3 k (i 0) (i 1))

end Cert.SsumMath

open Cert.SsumMath

namespace Cert.SsumReferenceIdeal.Read
open Cert.SsumReferenceIdeal Cert.SsumReferenceIdeal.Gen

theorem sum_of (X : S8x184x128.Idx → EReal) : val_main_v0 (F := Ideal) X = total X := by
  funext i
  idx_vars i
  unfold total
  pointwise [val_main_v0, val_main_cst]

end Cert.SsumReferenceIdeal.Read

namespace Cert.SsumKernelIdeal.Arrays
open Cert.SsumKernelIdeal Cert.SsumKernelIdeal.Gen

theorem at_block (X : S8x184x128.Idx → EReal) (p : Fin 184) (q : Fin 128) :
    k0_pay1 (F := Ideal) (View.ld X r0_0) (View.ld X r0_1) (View.ld X r0_2) (View.ld X r0_3) (View.ld X r0_4) (View.ld X r0_5)
      (View.ld X r0_6) (View.ld X r0_7) (ix2 p q) = ∑ k : Fin 8, X (ix3 k p q) := by
  pointwise [k0_pay1]
  rw [Fin.sum_univ_eight]

variable (m : (ℓ : Loc nD τ sig) → Buf (Elt Ideal) ℓ) (c : Dev nD)

theorem idx : ∀ t : Fin cfg0.N, win0_0.index t = ![0, 0, 0] ∧ win0_1.index t = ![0, 0] :=
  (by decide +kernel : ∀ t : Fin grid0.N, _)

abbrev arg (b : Ref sig .tc) := m ((c.tc : Thread nD τ).loc b)

theorem blk0 (t : Fin cfg0.N) : iblk m c 0 t = arg m c main_arg0 := by
  funext y
  refine Eq.trans ?_ (congrFun (V_main_arg0 m c) _)
  blk_ext [iblk, idx t]

theorem emb1 (t : Fin cfg0.N) (y : S184x128.Idx) : (win0_1.blk t).view.emb y = y := by
  blk_ext [idx t]

theorem sum_array : (dats m 0 c).arrAt 1 cfg0.N = total (arg m c main_arg0) := by
  refine (dats m 0 c).arrAt_eq_of_covers 1 _ (by decide +kernel) fun t _ y => ?_
  blk_simp
  rw [after0_1, blk0]
  frame_out
  refine Eq.trans ?_ (congrArg (total (arg m c main_arg0)) (emb1 t y)).symm
  idx_vars y
  exact at_block _ _ _

end Cert.SsumKernelIdeal.Arrays
end
-- ==== Proof.SsumClaim.lean ====
/- The claims about the sum of the small gradients over the devices. -/
module

public import proofs.«01_k».proof.Defs
public import proofs.«01_k».proof.Proof.SsumValue
public import proofs.«01_k».proof.Proof.Gen.SsumKernel.Frame
public import proofs.«01_k».proof.Proof.Gen.SsumKernelIdeal.Frame
public import proofs.«01_k».proof.Proof.Gen.SsumReferenceIdeal.Run
public import Idealize.ShloMosaic.Lib.Quiescent

@[expose] public section

set_option maxRecDepth 16384
noncomputable section
open Idealize.ShloMosaic Idealize.ShloMosaic.TcCoe Idealize.SL.Sem

namespace Cert.SsumClaim

/-- The reference declares no semaphore, so its run leaves every counter at zero. -/
theorem frame_ref : Cert.quiescent_SsumReferenceIdeal (hSsumReferenceIdeal := Cert.SsumReferenceIdeal.Gen.facts) := fun m g _ =>
  (θ_run _ _ _).mono (fun r h => ⟨fun c => (h c).2, sem_eq_zero_of_no_sems (by decide) r.2⟩) (Cert.SsumReferenceIdeal.Value.run (F := Ideal) m g)

/-- The two programs end with equal results. -/
theorem algebraic : Cert.algebraic_SsumKernelIdeal_SsumReferenceIdeal
    (hSsumKernelIdeal := Cert.SsumKernelIdeal.Gen.facts) (hSsumReferenceIdeal := Cert.SsumReferenceIdeal.Gen.facts) := by
  intro m g m' g' _ hag
  refine ⟨fun c => _, Cert.SsumKernelIdeal.Value.run_blocks m g, ?_⟩
  refine (θ_run _ _ _).mono (fun r h c => ?_) (Cert.SsumReferenceIdeal.Value.run m' g')
  have a0 := hag c
  obtain ⟨r0, k⟩ := h c
  refine ⟨r0.trans ?_, k⟩
  rw [Cert.SsumReferenceIdeal.Read.val_main_v0_eq, a0]
  exact (Cert.SsumReferenceIdeal.Read.sum_of _).trans (Cert.SsumKernelIdeal.Arrays.sum_array m c).symm

end Cert.SsumClaim
end
-- ==== Proof.Slabs.lean ====
/- Weights copied slab by slab into a scratch buffer: after the copies the buffer reads as the weights. -/
module

public import Idealize.ShloMosaic.Lib.ViewIndex
public import Idealize.ShloMosaic.Lib.Pipeline.Value
public import Idealize.ShloMosaic.Lib.Tactic

@[expose] public section

set_option maxRecDepth 16384

noncomputable section

namespace Cert.Slabs

open Idealize.ShloMosaic Idealize.ShloMosaic.TcCoe

variable {F : FTy → Type} [FloatOps F] {sig : RefSig}

abbrev Slabs4 : Shape := ⟨3, ![4, 1024, 1408]⟩
abbrev Slab : Shape := ⟨3, ![1, 1024, 1408]⟩
abbrev SlabMat : Shape := ⟨2, ![1024, 1408]⟩
abbrev Rows : Shape := ⟨2, ![2816, 1024]⟩
abbrev Half : Shape := ⟨2, ![1408, 1024]⟩

/-! ## The slabs of weights -/

/-- After a copy into a part of a buffer from the same part of `W`: `W` in the part, the old contents elsewhere. -/
theorem read_copied {sp : Space} {S S' : Shape} {e : EltTy} (v : View sig .tc sp S e) (r : Rect S) (h : S'.numel = r.shape.numel)
    (f : v.ty.Contents (Elt F)) (W : S.Idx → Elt F e) (y : S.Idx) :
    v.read (Elt F) (((v.slice r).reshape S' h).write (Elt F) f (fun x => W (r.emb (Shape.reshapeEquiv h x))) Finset.univ) y
      = if y ∈ r.set then W y else v.read (Elt F) f y := by
  split
  · rename_i hy
    obtain ⟨z, rfl⟩ : ∃ z, r.emb z = y := r.exists_idx_of_mem hy
    obtain ⟨x, rfl⟩ := (Shape.reshapeEquiv h).surjective z
    exact View.read_write_reshape (v.slice r) h f (fun x => W (r.emb (Shape.reshapeEquiv h x))) x
  · rename_i hy
    refine View.read_congr_at y (View.write_of_not_mem _ _ _ fun hm => hy ?_)
    obtain ⟨x, -, ex⟩ := Finset.mem_map.mp hm
    have : r.emb (Shape.reshapeEquiv h x) = y := v.emb.injective ex
    exact this ▸ r.idx_mem _

/-- The part of the weights of number `k`. -/
abbrev slab0 : Rect Slabs4 := Rect.unit ![0, 0, 0] Slab.size (by decide)
abbrev slab1 : Rect Slabs4 := Rect.unit ![1, 0, 0] Slab.size (by decide)
abbrev slab2 : Rect Slabs4 := Rect.unit ![2, 0, 0] Slab.size (by decide)
abbrev slab3 : Rect Slabs4 := Rect.unit ![3, 0, 0] Slab.size (by decide)

theorem slab_size : SlabMat.numel = Slab.numel := by decide

/-- A slab of `W` as a matrix. -/
def part (W : Vec F Slabs4 .bf16) (r : Rect Slabs4) (h : SlabMat.numel = r.shape.numel) : Vec F SlabMat .bf16 :=
  fun x => W (r.emb (Shape.reshapeEquiv h x))

/-- The scratch buffer after the four copies, in the order they start. -/
def copied (v : View sig .tc .vmem Slabs4 .bf16) (f : v.ty.Contents (Elt F)) (W : Vec F Slabs4 .bf16) : v.ty.Contents (Elt F) :=
  ((v.slice slab3).reshape SlabMat slab_size).write (Elt F)
    (((v.slice slab1).reshape SlabMat slab_size).write (Elt F)
      (((v.slice slab2).reshape SlabMat slab_size).write (Elt F)
        (((v.slice slab0).reshape SlabMat slab_size).write (Elt F) f (part W slab0 slab_size) Finset.univ)
        (part W slab2 slab_size) Finset.univ)
      (part W slab1 slab_size) Finset.univ)
    (part W slab3 slab_size) Finset.univ

/-- An index whose first coordinate is `k` lies in slab `k`. -/
theorem at_slab {off : Fin 3 → ℕ} (inb) (y : Slabs4.Idx) (k : ℕ) (ho : off = ![k, 0, 0]) (h1 : (y 1 : ℕ) < 1024) (h2 : (y 2 : ℕ) < 1408)
    (h : (y 0 : ℕ) = k) : y ∈ (Rect.unit (s := Slabs4) off Slab.size inb).set := by
  subst ho
  refine Rect.mem_set_unit.mpr fun a => ?_
  match a with
  | ⟨0, _⟩ => exact ⟨h.ge, h.le.trans_lt (Nat.lt_succ_self k)⟩
  | ⟨1, _⟩ => exact ⟨Nat.zero_le _, by simpa using h1⟩
  | ⟨2, _⟩ => exact ⟨Nat.zero_le _, by simpa using h2⟩

theorem read_copied_all (v : View sig .tc .vmem Slabs4 .bf16) (f : v.ty.Contents (Elt F)) (W : Vec F Slabs4 .bf16) :
    v.read (Elt F) (copied v f W) = W := by
  funext y
  unfold copied part
  rw [read_copied, read_copied, read_copied, read_copied]
  have h0 : (y 0 : ℕ) < 4 := (y 0).isLt
  have h1 : (y 1 : ℕ) < 1024 := (y 1).isLt
  have h2 : (y 2 : ℕ) < 1408 := (y 2).isLt
  have hm : y ∈ slab3.set ∨ y ∈ slab1.set ∨ y ∈ slab2.set ∨ y ∈ slab0.set := by
    have e : (y 0 : ℕ) = 3 ∨ (y 0 : ℕ) = 1 ∨ (y 0 : ℕ) = 2 ∨ (y 0 : ℕ) = 0 := by omega
    refine e.imp (at_slab _ y 3 rfl h1 h2) (Or.imp (at_slab _ y 1 rfl h1 h2) (Or.imp (at_slab _ y 2 rfl h1 h2) (at_slab _ y 0 rfl h1 h2)))
  rcases hm with h | h | h | h <;> simp only [h, if_true, ite_self]

/-- The halves of the second weights' rows. -/
abbrev rows0 : Rect Rows := Rect.unit ![0, 0] Half.size (by decide)
abbrev rows1 : Rect Rows := Rect.unit ![1408, 0] Half.size (by decide)

/-- What the two copies write into the second scratch buffer, the last first. -/
abbrev halves (U : Vec F Rows .bf16) : List (View.Piece (Elt F) Rows .bf16) :=
  [⟨rows1, fun x => U (rows1.emb x)⟩, ⟨rows0, fun x => U (rows0.emb x)⟩]

theorem covers_halves (U : Vec F Rows .bf16) (y : Rows.Idx) : ∃ p ∈ halves U, y ∈ p.1.set :=
  View.cover_of_tiled (s := Rows) (halves U) Half.size (by rfl) y

theorem canon_halves (U : Vec F Rows .bf16) : View.canon (halves U) = U := funext fun y =>
  View.canon_apply_of_pieces (Val := Elt F) (e := .bf16) U _ (by
    simp only [List.forall_mem_cons, List.not_mem_nil, false_implies, implies_true, and_true]) y (covers_halves U y)

/-- A load of a half after both copies. -/
theorem load_half (v : View sig .tc .vmem Rows .bf16) (U : Vec F Rows .bf16) (r : Rect Rows) :
    v.readCov (halves U) r.toLoadRect = View.ld U r := by
  rw [View.readCov_eq_canon_ld _ _ _ (fun y => covers_halves U _), canon_halves]

end Cert.Slabs

end
-- ==== Proof.FupKernelIdealFrame.lean ====
/- The frame of the gated forward kernel (FupKernelIdeal): at the first point its body copies the four slabs of weights into the
   scratch buffer, at the later points it reads them there; at every point it leaves the three results' rows. -/
module

public import proofs.«01_k».proof.Proof.Slabs
public import proofs.«01_k».proof.Proof.Gen.FupKernelIdeal.Frame
public import proofs.«01_k».proof.Proof.Gen.FupKernelIdeal.Skeleton
public import Idealize.ShloMosaic.Lib.ViewIndex
public import Idealize.ShloMosaic.Lib.Pipeline.Frame
public import Idealize.ShloMosaic.Lib.Tactic
public import Idealize.ShloMosaic.Lib.Claim

@[expose] public section

set_option maxRecDepth 16384

noncomputable section

namespace Cert.FupKernelIdeal.Whole

open Cert.Slabs Cert.FupKernelIdeal Cert.FupKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves -/

abbrev rx : Rect S256x1024 := Rect.unit ![0, 0] S256x1024.size inb_S256x1024_S256x1024_0_0
abbrev rg : Rect S1x1024 := Rect.unit ![0, 0] S1x1024.size inb_S1x1024_S1x1024_0_0

abbrev q0 : Rect S256x5632 := Rect.unit ![0, 0] S256x1408.size inb_S256x5632_S256x1408_0_0
abbrev q1 : Rect S256x5632 := Rect.unit ![0, 1408] S256x1408.size inb_S256x5632_S256x1408_0_1408
abbrev q2 : Rect S256x5632 := Rect.unit ![0, 2816] S256x1408.size inb_S256x5632_S256x1408_0_2816
abbrev q3 : Rect S256x5632 := Rect.unit ![0, 4224] S256x1408.size inb_S256x5632_S256x1408_0_4224
abbrev o0 : Rect S256x2816 := Rect.unit ![0, 0] S256x1408.size inb_S256x2816_S256x1408_0_0
abbrev o1 : Rect S256x2816 := Rect.unit ![0, 1408] S256x1408.size inb_S256x2816_S256x1408_0_1408

/-- The normed rows. -/
def leftH (x : Vec F S256x1024 .f32) (g : Vec F S1x1024 .f32) : Vec F S256x1024 .bf16 :=
  View.canon [⟨rx, k0_pay20 (View.ld x rx) (View.ld g rg)⟩]

/-- Their products with the four slabs. -/
def leftGU (x : Vec F S256x1024 .f32) (g : Vec F S1x1024 .f32) (W : Vec F S4x1024x1408 .bf16) : Vec F S256x5632 .bf16 :=
  View.canon [⟨q3, k0_pay6 (k0_pay20 (View.ld x rx) (View.ld g rg)) (View.ld W slab3)⟩,
    ⟨q1, k0_pay5 (k0_pay20 (View.ld x rx) (View.ld g rg)) (View.ld W slab1)⟩,
    ⟨q2, k0_pay24 (View.ld x rx) (View.ld g rg) (View.ld W slab2)⟩,
    ⟨q0, k0_pay23 (View.ld x rx) (View.ld g rg) (View.ld W slab0)⟩]

/-- The gated products. -/
def leftA (x : Vec F S256x1024 .f32) (g : Vec F S1x1024 .f32) (W : Vec F S4x1024x1408 .bf16) : Vec F S256x2816 .bf16 :=
  View.canon [⟨o1, k0_pay7 (k0_pay20 (View.ld x rx) (View.ld g rg)) (View.ld W slab1) (View.ld W slab3)⟩,
    ⟨o0, k0_pay2 (k0_pay21 (View.ld x rx) (View.ld g rg) (View.ld W slab0)) (k0_pay22 (View.ld x rx) (View.ld g rg) (View.ld W slab2)) (k0_pay25 (View.ld x rx) (View.ld g rg) (View.ld W slab0))⟩]

theorem covers4 (p0 : Vec F S256x1024 .bf16) (y : S256x1024.Idx) : ∃ p ∈ ([⟨rx, p0⟩] : List (View.Piece (Elt F) S256x1024 .bf16)), y ∈ p.1.set :=
  View.cover_of_tiled [⟨rx, p0⟩] S256x1024.size (by rfl) y

theorem covers5 (p0 p1 p2 p3 : Vec F S256x1408 .bf16) (y : S256x5632.Idx) :
    ∃ p ∈ ([⟨q3, p3⟩, ⟨q1, p1⟩, ⟨q2, p2⟩, ⟨q0, p0⟩] : List (View.Piece (Elt F) S256x5632 .bf16)), y ∈ p.1.set :=
  View.cover_of_tiled (s := S256x5632) [⟨q3, p3⟩, ⟨q1, p1⟩, ⟨q2, p2⟩, ⟨q0, p0⟩] S256x1408.size (by rfl) y

theorem covers6 (p0 p1 : Vec F S256x1408 .bf16) (y : S256x2816.Idx) :
    ∃ p ∈ ([⟨o1, p1⟩, ⟨o0, p0⟩] : List (View.Piece (Elt F) S256x2816 .bf16)), y ∈ p.1.set :=
  View.cover_of_tiled (s := S256x2816) [⟨o1, p1⟩, ⟨o0, p0⟩] S256x1408.size (by rfl) y

/-! The stores' payloads at the first point and at the later ones, by what was loaded. -/

section Payloads

variable {x : Vec F S256x1024 .f32} {g : Vec F S1x1024 .f32} {W : Vec F S4x1024x1408 .bf16}
  {x' : Vec F S256x1024 .f32} {g' : Vec F S1x1024 .f32} {u0 u1 u2 u3 : Vec F S1x1024x1408 .bf16}
  (ex : x' = View.ld x rx) (eg : g' = View.ld g rg) (e0 : u0 = View.ld W slab0) (e1 : u1 = View.ld W slab1) (e2 : u2 = View.ld W slab2) (e3 : u3 = View.ld W slab3)

include ex eg

theorem first4 : View.canon (Val := Elt F) [⟨rx, k0_pay9 (k0_pay8 x') g'⟩] = leftH x g := by
  subst ex eg; rfl

theorem later4 : View.canon (Val := Elt F) [⟨rx, k0_pay20 x' g'⟩] = leftH x g := by
  subst ex eg; rfl

include e0 e1 e2 e3

theorem first5 : View.canon (Val := Elt F) (s := S256x5632) [⟨q3, k0_pay19 (k0_pay9 (k0_pay8 x') g') u3⟩, ⟨q1, k0_pay18 (k0_pay9 (k0_pay8 x') g') u1⟩, ⟨q2, k0_pay13 (k0_pay8 x') g' u2⟩, ⟨q0, k0_pay12 (k0_pay8 x') g' u0⟩] = leftGU x g W := by
  subst ex eg e0 e1 e2 e3; rfl

theorem later5 : View.canon (Val := Elt F) (s := S256x5632) [⟨q3, k0_pay6 (k0_pay20 x' g') u3⟩, ⟨q1, k0_pay5 (k0_pay20 x' g') u1⟩, ⟨q2, k0_pay24 x' g' u2⟩, ⟨q0, k0_pay23 x' g' u0⟩] = leftGU x g W := by
  subst ex eg e0 e1 e2 e3; rfl

theorem first6 : View.canon (Val := Elt F) (s := S256x2816) [⟨o1, k0_pay1 (k0_pay16 (k0_pay9 (k0_pay8 x') g') u1) (k0_pay17 (k0_pay9 (k0_pay8 x') g') u3) (Scalar.ofBits .f32 0x00000000#32)⟩, ⟨o0, k0_pay15 (k0_pay10 (k0_pay8 x') g' u0) (k0_pay11 (k0_pay8 x') g' u2) (k0_pay14 (k0_pay8 x') g' u0)⟩] = leftA x g W := by
  subst ex eg e0 e1 e2 e3; rfl

theorem later6 : View.canon (Val := Elt F) (s := S256x2816) [⟨o1, k0_pay7 (k0_pay20 x' g') u1 u3⟩, ⟨o0, k0_pay2 (k0_pay21 x' g' u0) (k0_pay22 x' g' u2) (k0_pay25 x' g' u0)⟩] = leftA x g W := by
  subst ex eg e0 e1 e2 e3; rfl

end Payloads

/-! ## The body -/

section Contents

variable {sp : Space} {s : Shape} {e : EltTy} (c : Dev nD) (a : Memref sig .tc sp s e) (f : BufTy.Contents (Elt F) a.view.ty)

/-- A buffer that reads as `x` is owned at `x`. -/
theorem reads_as (x : Vec F s e) (h : a.view.read (Elt F) f = x) :
    (a.view.loc (c : Thread nD τ) ↦[a.view.set]{fullShare} f : sProp 𝕄) ⊢ iprop(∃ f, ⌜a.view.read (Elt F) f = x⌝ ∗ (a.view.loc (c : Thread nD τ) ↦[a.view.set]{fullShare} f)) := by
  iintro H
  iexists _; isplitr; swap; · iexact H
  ipureintro; exact h

end Contents

/-- The kernel's own six semaphore cells at zero. -/
def cells (c : Dev nD) : sProp 𝕄 :=
  iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)

/-- The array of the weights, whole. -/
abbrev array : Memref sig .tc .hbm S4x1024x1408 .bf16 := Memref.whole main_v2

/-- A whole array held at `f`. -/
abbrev held (c : Dev nD) {sp : Space} {s : Shape} {e : EltTy} (a : Memref sig .tc sp s e) (f : Buf (Elt F) (a.view.loc (c : Thread nD τ))) : sProp 𝕄 :=
  a.view.loc (c : Thread nD τ) ↦{fullShare} f

/-- The array of the weights held at `W`. -/
def weights (c : Dev nD) (W : Vec F S4x1024x1408 .bf16) : sProp 𝕄 := held c array W

set_option maxHeartbeats 1000000 in set_option sl_exec.dmaWindow true in set_option sl_exec.dmaWindowSet true in
/-- The body at the first point: the four copies, each waited for before its slab is read. -/
theorem first_point (c : Dev nD) (i : grid0.Coords) (a1 : Memref sig .tc .vmem S256x1024 .f32) (h1 : a1.IsWhole) (a2 : Memref sig .tc .vmem S1x1024 .f32) (h2 : a2.IsWhole) (a4 : Memref sig .tc .vmem S256x1024 .bf16) (h4 : a4.IsWhole) (a5 : Memref sig .tc .vmem S256x5632 .bf16) (h5 : a5.IsWhole) (a6 : Memref sig .tc .vmem S256x2816 .bf16) (h6 : a6.IsWhole) (a7 : Memref sig .tc .vmem S4x1024x1408 .bf16) (h7 : a7.IsWhole)
    (k1 : k0_cond1 i = 1#1) (k2 : ¬k0_cond2 i = 1#1)
    (x : Vec F S256x1024 .f32) (g : Vec F S1x1024 .f32) (W : Vec F S4x1024x1408 .bf16) (O : Waits sig Unit) (K : PUnit → sProp 𝕄) :
    iprop(owns (c : Thread nD τ) a1 fullShare x ∗ owns (c : Thread nD τ) a2 fullShare g ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ cells c ∗ weights c W ∗ owes (c : Thread nD τ) 0 O
        ∗ (iprop(owns (c : Thread nD τ) a1 fullShare x ∗ owns (c : Thread nD τ) a2 fullShare g ∗ owns (c : Thread nD τ) a4 fullShare (leftH x g) ∗ owns (c : Thread nD τ) a5 fullShare (leftGU x g W) ∗ owns (c : Thread nD τ) a6 fullShare (leftA x g W) ∗ owns (c : Thread nD τ) a7 fullShare W ∗ cells c ∗ weights c W ∗ (∃ O', owes (c : Thread nD τ) 0 O')) -∗ K ⟨⟩))
      ⊢ wp frame (wpE (defs₀ (F := F)) Variants.none c none) Set.univ (cc0_ffn_up i a1 h1 a2 h2 (Memref.whole main_v2) (Memref.isWhole_whole _) a4 h4 a5 h5 a6 h6 a7 h7 cc0_scratch1) K := by
  simp only [cc0_ffn_up_eq_skeleton]; unfold cc0_ffn_up_skel
  simp only [k0_part1_eq_skeleton, k0_part2_eq_skeleton, k0_part3_eq_skeleton]
  unfold owns cells weights
  iintro ⟨⟨%f1, %e1, H1⟩, ⟨%f2, %e2, H2⟩, ⟨%d4, %f4, -, H4⟩, ⟨%d5, %f5, -, H5⟩, ⟨%d6, %f6, -, H6⟩, ⟨%d7, %f7, -, H7⟩, ⟨Q0, Q1, Q2, Q3, Q4, Q5⟩, HA, HO, Hk⟩
  obtain rfl := h1.eq_unread e1; obtain rfl := h2.eq_unread e2
  sl_exec (disch := first | sl_exact k1 | sl_exact k2)
  sl_step
  iapply Hk
  isplitl [H1]; · iapply (reads_as c a1 _ x (h1.read_unread _)); iexact H1
  isplitl [H2]; · iapply (reads_as c a2 _ g (h2.read_unread _)); iexact H2
  have x' : View.readAt (Elt F) a1.view rx.toLoadRect (h1.unread x) = View.ld x rx := by rw [View.readAt_eq_ld, h1.read_unread]
  have g' : View.readAt (Elt F) a2.view rg.toLoadRect (h2.unread g) = View.ld g rg := by rw [View.readAt_eq_ld, h2.read_unread]
  have w0 : View.readAt (Elt F) a7.view slab0.toLoadRect (copied a7.view f7 W) = View.ld W slab0 := by rw [View.readAt_eq_ld, read_copied_all]
  have w1 : View.readAt (Elt F) a7.view slab1.toLoadRect (copied a7.view f7 W) = View.ld W slab1 := by rw [View.readAt_eq_ld, read_copied_all]
  have w2 : View.readAt (Elt F) a7.view slab2.toLoadRect (copied a7.view f7 W) = View.ld W slab2 := by rw [View.readAt_eq_ld, read_copied_all]
  have w3 : View.readAt (Elt F) a7.view slab3.toLoadRect (copied a7.view f7 W) = View.ld W slab3 := by rw [View.readAt_eq_ld, read_copied_all]
  isplitl [H4]; · iapply (reads_as c a4 _ _ ((View.read_writes_eq_canon _ _ _ (covers4 _)).trans (first4 x' g'))); iexact H4
  isplitl [H5]; · iapply (reads_as c a5 _ _ ((View.read_writes_eq_canon _ _ _ (covers5 _ _ _ _)).trans (first5 x' g' w0 w1 w2 w3))); iexact H5
  isplitl [H6]; · iapply (reads_as c a6 _ _ ((View.read_writes_eq_canon _ _ _ (covers6 _ _)).trans (first6 x' g' w0 w1 w2 w3))); iexact H6
  isplitl [H7]; · iapply (reads_as c a7 _ W (read_copied_all _ _ _ )); iexact H7
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA]; · iexact HA
  iexists _; iexact HO

set_option maxHeartbeats 1000000 in
/-- The body at a later point: the slabs are read in the scratch buffer. -/
theorem later_point (c : Dev nD) (i : grid0.Coords) (a1 : Memref sig .tc .vmem S256x1024 .f32) (h1 : a1.IsWhole) (a2 : Memref sig .tc .vmem S1x1024 .f32) (h2 : a2.IsWhole) (a4 : Memref sig .tc .vmem S256x1024 .bf16) (h4 : a4.IsWhole) (a5 : Memref sig .tc .vmem S256x5632 .bf16) (h5 : a5.IsWhole) (a6 : Memref sig .tc .vmem S256x2816 .bf16) (h6 : a6.IsWhole) (a7 : Memref sig .tc .vmem S4x1024x1408 .bf16) (h7 : a7.IsWhole)
    (k1 : ¬k0_cond1 i = 1#1) (k2 : k0_cond2 i = 1#1)
    (x : Vec F S256x1024 .f32) (g : Vec F S1x1024 .f32) (W : Vec F S4x1024x1408 .bf16) (O : Waits sig Unit) (K : PUnit → sProp 𝕄) :
    iprop(owns (c : Thread nD τ) a1 fullShare x ∗ owns (c : Thread nD τ) a2 fullShare g ∗ (∃ d, owns (c : Thread nD τ) a4 fullShare d) ∗ (∃ d, owns (c : Thread nD τ) a5 fullShare d) ∗ (∃ d, owns (c : Thread nD τ) a6 fullShare d) ∗ owns (c : Thread nD τ) a7 fullShare W ∗ cells c ∗ weights c W ∗ owes (c : Thread nD τ) 0 O
        ∗ (iprop(owns (c : Thread nD τ) a1 fullShare x ∗ owns (c : Thread nD τ) a2 fullShare g ∗ owns (c : Thread nD τ) a4 fullShare (leftH x g) ∗ owns (c : Thread nD τ) a5 fullShare (leftGU x g W) ∗ owns (c : Thread nD τ) a6 fullShare (leftA x g W) ∗ owns (c : Thread nD τ) a7 fullShare W ∗ cells c ∗ weights c W ∗ (∃ O', owes (c : Thread nD τ) 0 O')) -∗ K ⟨⟩))
      ⊢ wp frame (wpE (defs₀ (F := F)) Variants.none c none) Set.univ (cc0_ffn_up i a1 h1 a2 h2 (Memref.whole main_v2) (Memref.isWhole_whole _) a4 h4 a5 h5 a6 h6 a7 h7 cc0_scratch1) K := by
  simp only [cc0_ffn_up_eq_skeleton]; unfold cc0_ffn_up_skel
  simp only [k0_part4_eq_skeleton]
  unfold owns cells weights
  iintro ⟨⟨%f1, %e1, H1⟩, ⟨%f2, %e2, H2⟩, ⟨%d4, %f4, -, H4⟩, ⟨%d5, %f5, -, H5⟩, ⟨%d6, %f6, -, H6⟩, ⟨%f7, %e7, H7⟩, ⟨Q0, Q1, Q2, Q3, Q4, Q5⟩, HA, HO, Hk⟩
  obtain rfl := h1.eq_unread e1; obtain rfl := h2.eq_unread e2; obtain rfl := h7.eq_unread e7
  sl_exec (disch := first | sl_exact k1 | sl_exact k2)
  sl_step
  iapply Hk
  isplitl [H1]; · iapply (reads_as c a1 _ x (h1.read_unread _)); iexact H1
  isplitl [H2]; · iapply (reads_as c a2 _ g (h2.read_unread _)); iexact H2
  have x' : View.readAt (Elt F) a1.view rx.toLoadRect (h1.unread x) = View.ld x rx := by rw [View.readAt_eq_ld, h1.read_unread]
  have g' : View.readAt (Elt F) a2.view rg.toLoadRect (h2.unread g) = View.ld g rg := by rw [View.readAt_eq_ld, h2.read_unread]
  have w0 : View.readAt (Elt F) a7.view slab0.toLoadRect (h7.unread W) = View.ld W slab0 := by rw [View.readAt_eq_ld, h7.read_unread]
  have w1 : View.readAt (Elt F) a7.view slab1.toLoadRect (h7.unread W) = View.ld W slab1 := by rw [View.readAt_eq_ld, h7.read_unread]
  have w2 : View.readAt (Elt F) a7.view slab2.toLoadRect (h7.unread W) = View.ld W slab2 := by rw [View.readAt_eq_ld, h7.read_unread]
  have w3 : View.readAt (Elt F) a7.view slab3.toLoadRect (h7.unread W) = View.ld W slab3 := by rw [View.readAt_eq_ld, h7.read_unread]
  isplitl [H4]; · iapply (reads_as c a4 _ _ ((View.read_writes_eq_canon _ _ _ (covers4 _)).trans (later4 x' g'))); iexact H4
  isplitl [H5]; · iapply (reads_as c a5 _ _ ((View.read_writes_eq_canon _ _ _ (covers5 _ _ _ _)).trans (later5 x' g' w0 w1 w2 w3))); iexact H5
  isplitl [H6]; · iapply (reads_as c a6 _ _ ((View.read_writes_eq_canon _ _ _ (covers6 _ _)).trans (later6 x' g' w0 w1 w2 w3))); iexact H6
  isplitl [H7]; · iapply (reads_as c a7 _ W (h7.read_unread  _)); iexact H7
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA]; · iexact HA
  iexists _; iexact HO

/-! ## The proof data -/

abbrev st0 (t : Fin cfg0.N) : Memref sig .tc .vmem S256x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S256x1024 .bf16 := win0_2.stage (cfg0.slots t 2)
abbrev st3 (t : Fin cfg0.N) : Memref sig .tc .vmem S256x5632 .bf16 := win0_3.stage (cfg0.slots t 3)
abbrev st4 (t : Fin cfg0.N) : Memref sig .tc .vmem S256x2816 .bf16 := win0_4.stage (cfg0.slots t 4)

/-- The scratch buffer. -/
abbrev scratch : Memref sig .tc .vmem S4x1024x1408 .bf16 := Memref.whole cc0_scratch0

/-- The scratch buffer before point `n`: anything at first, the weights later. -/
def slabs (c : Dev nD) (n : ℕ) : sProp 𝕄 :=
  if n = 0 then iprop(∃ d, owns (c : Thread nD τ) scratch fullShare d) else owns (c : Thread nD τ) scratch fullShare (V m c main_v2)

theorem slabs_zero (c : Dev nD) : slabs m c 0 = iprop(∃ d, owns (c : Thread nD τ) scratch fullShare d) := if_pos rfl
theorem slabs_pos (c : Dev nD) {n : ℕ} (h : n ≠ 0) : slabs m c n = owns (c : Thread nD τ) scratch fullShare (V m c main_v2) := if_neg h

/-- What is held beside the windows before point `n`. -/
def beside (c : Dev nD) (n : ℕ) : sProp 𝕄 := iprop(slabs m c n ∗ (∃ r, prngReg c r) ∗ cells c ∗ weights c (V m c main_v2))

/-- The kernel's own semaphores. -/
abbrev own : Fin 6 → SemLoc sig := ![SemLoc.dma 9, SemLoc.dma 10, SemLoc.dma 11, SemLoc.dma 12, SemLoc.dma 13, SemLoc.dma 14]

theorem own_facts : Pipeline.OwnSemFacts spec0 own := by decide

/-- The array the body reads itself. -/
def direct : Finset (Ref sig .tc) := {main_v2}

theorem direct_sub : direct ⊆ Pipeline.restRefs sig spec0 := by decide

/-- What the launch hands over is what is held before the first point. -/
theorem handed (c : Dev nD) : (Pipeline.ΦD own spec0 direct (V m) c : sProp 𝕄) = beside m c 0 := by
  have e1 : (Pipeline.ownSems0 (Ix := Unit) (Name := ℕ) (U := Pipeline.UD sig nD τ) (Lvl := ℕ) (Val := Elt F) (τ := τ) own c : sProp 𝕄) = cells c := by
    rw [Pipeline.ownSems0_eq_of_list c own [0, 1, 2, 3, 4, 5] (by decide) (by decide)]; rfl
  have e2 : (bigSep direct (fun b => ((c : Thread nD τ).loc b) ↦{fullShare} V m c b) : sProp 𝕄) = weights c (V m c main_v2) := by
    rw [BI.bigSep_eq_bigSepL_of_eq [main_v2] (by decide) (by decide)]; rfl
  unfold beside
  rw [Pipeline.ΦD_eq, scopedRest0_eq, e1, e2, slabs_zero]
  simp only [scratch, owns_whole]
  try rfl

/-- What is held after the last point is handed back. -/
theorem back (c : Dev nD) (n : ℕ) : beside m c n ⊢ beside m c 0 := by
  by_cases h : n = 0
  · subst h; exact .rfl
  · unfold beside
    rw [slabs_zero, slabs_pos m c h]
    iintro ⟨S, R⟩
    isplitl [S]
    · iexists _; iexact S
    iexact R

/-- The proof data: the arrays as the call finds them, the inputs' blocks kept, the results' blocks as the body leaves them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => leftH (iblk m c 0 t) (iblk m c 1 t)
    | ⟨3, _⟩ => leftGU (iblk m c 0 t) (iblk m c 1 t) (V m c main_v2)
    | ⟨4, _⟩ => leftA (iblk m c 0 t) (iblk m c 1 t) (V m c main_v2)
  Φ t := beside m c t.val
  q _ := fullShare
  owed _ := 0

theorem A_eq (c : Dev nD) (w : Fin cfg0.W) : (dats m 0 c).A w = V m c (Pipeline.arrRef spec0 w) := by
  dsimp only [dats]

section Windows

variable (c : Dev nD) (t : Fin cfg0.N)

theorem kept_0 : (dats m 0 c).after 0 t = iblk m c 0 t := by dsimp only [dats]
theorem kept_1 : (dats m 0 c).after 1 t = iblk m c 1 t := by dsimp only [dats]
theorem left_2 : (dats m 0 c).after 2 t = leftH (iblk m c 0 t) (iblk m c 1 t) := by dsimp only [dats]
theorem left_3 : (dats m 0 c).after 3 t = leftGU (iblk m c 0 t) (iblk m c 1 t) (V m c main_v2) := by dsimp only [dats]
theorem left_4 : (dats m 0 c).after 4 t = leftA (iblk m c 0 t) (iblk m c 1 t) (V m c main_v2) := by dsimp only [dats]

theorem found_0 (d) : (dats m 0 c).before 0 t d = iblk m c 0 t :=
  ((dats m 0 c).before_in_eq_fetched 0 rfl (fun _ => rfl) (fun _ _ _ => rfl) (fun t => by rw [kept_0]; unfold Dat.blockOf iblk; rw [A_eq]; try rfl) t d).trans
    (by unfold Dat.fetched Dat.blockOf iblk; rw [A_eq]; try rfl)
theorem found_1 (d) : (dats m 0 c).before 1 t d = iblk m c 1 t :=
  ((dats m 0 c).before_in_eq_fetched 1 rfl (fun _ => rfl) (fun _ _ _ => rfl) (fun t => by rw [kept_1]; unfold Dat.blockOf iblk; rw [A_eq]; try rfl) t d).trans
    (by unfold Dat.fetched Dat.blockOf iblk; rw [A_eq]; try rfl)

end Windows

/-- The first branch is taken at the first point only, -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- and the second at the others. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The body at a point, from what the point before left in the scratch buffer. -/
theorem point (c : Dev nD) (t : Fin cfg0.N) (O : Waits sig Unit) (K : PUnit → sProp 𝕄) :
    iprop(owns (c : Thread nD τ) (st0 t) fullShare (iblk m c 0 t) ∗ owns (c : Thread nD τ) (st1 t) fullShare (iblk m c 1 t) ∗ (∃ d, owns (c : Thread nD τ) (st2 t) fullShare d) ∗ (∃ d, owns (c : Thread nD τ) (st3 t) fullShare d) ∗ (∃ d, owns (c : Thread nD τ) (st4 t) fullShare d) ∗ slabs m c t.val ∗ cells c ∗ weights c (V m c main_v2) ∗ owes (c : Thread nD τ) 0 O
        ∗ (iprop(owns (c : Thread nD τ) (st0 t) fullShare (iblk m c 0 t) ∗ owns (c : Thread nD τ) (st1 t) fullShare (iblk m c 1 t) ∗ owns (c : Thread nD τ) (st2 t) fullShare (leftH (iblk m c 0 t) (iblk m c 1 t)) ∗ owns (c : Thread nD τ) (st3 t) fullShare (leftGU (iblk m c 0 t) (iblk m c 1 t) (V m c main_v2)) ∗ owns (c : Thread nD τ) (st4 t) fullShare (leftA (iblk m c 0 t) (iblk m c 1 t) (V m c main_v2)) ∗ slabs m c (t.val + 1) ∗ cells c ∗ weights c (V m c main_v2) ∗ (∃ O', owes (c : Thread nD τ) 0 O')) -∗ K ⟨⟩))
      ⊢ wp frame (wpE (defs₀ (F := F)) Variants.none c none) Set.univ (bodyAt0 t) K := by
  unfold bodyAt0
  rw [slabs_pos m c (Nat.succ_ne_zero t.val)]
  by_cases h : t.val = 0
  · rw [h, slabs_zero]
    exact first_point c (grid0.coords t) _ _ _ _ _ _ _ _ _ _ _ _ ((first_iff t).mpr h) (fun k => (later_iff t).mp k h) _ _ _ O K
  · rw [slabs_pos m c h]
    exact later_point c (grid0.coords t) _ _ _ _ _ _ _ _ _ _ _ _ (fun k => h ((first_iff t).mp k)) ((later_iff t).mpr h) _ _ _ O K

/-- The body at a point: from the blocks it finds to the blocks it keeps and those it leaves. -/
theorem body_sound (c : Dev nD) (t : Fin cfg0.N) :
    iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)))
      ⊢ wp frame (wpE (defs₀ (F := F)) Variants.none c none) Set.univ (bodyAt0 t) (fun _ => iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t))) := by
  simp only [found_0, found_1]
  rw [kept_0, kept_1, left_2, left_3, left_4, show (dats m 0 c).Φ t.castSucc = beside m c t.val from rfl,
    show (dats m 0 c).Φ t.succ = beside m c (t.val + 1) from rfl]
  unfold beside Dat.owesAt Pipeline.owesWithin
  rw [show (dats m 0 c).owed t.castSucc = 0 from rfl, show (dats m 0 c).owed t.succ = 0 from rfl]
  iintro ⟨⟨S, G, Q, A⟩, ⟨%O, -, HO⟩, ⟨%d0, H0⟩, ⟨%d1, H1⟩, ⟨%d2, H2⟩, ⟨%d3, H3⟩, ⟨%d4, H4⟩⟩
  iapply (point m c t O _)
  isplitl [H0]; · iexact H0
  isplitl [H1]; · iexact H1
  isplitl [H2]; · iexists _; iexact H2
  isplitl [H3]; · iexists _; iexact H3
  isplitl [H4]; · iexists _; iexact H4
  isplitl [S]; · iexact S
  isplitl [Q]; · iexact Q
  isplitl [A]; · iexact A
  isplitl [HO]; · iexact HO
  iintro ⟨H0, H1, H2, H3, H4, S, Q, A, ⟨%O', HO⟩⟩
  isplitl [S G Q A]
  · isplitl [S]; · iexact S
    isplitl [G]; · iexact G
    isplitl [Q]; · iexact Q
    iexact A
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  iexact H4

/-- The body's row of the table of bodies is the body at the point. -/
theorem row (t : Fin cfg0.N) : defs₀ (F := F) .tc cfg0.body (cfg0.bodyArgs t (cfg0.slots t)) = bodyAt0 t := by
  unfold defs₀; rw [Defs.onTc_tc]

/-- Every result is stored into at every point. -/
theorem busy_2 : ∀ t : Fin grid0.N, idle0 2 (grid0.coords t) = false := by decide +kernel
theorem busy_3 : ∀ t : Fin grid0.N, idle0 3 (grid0.coords t) = false := by decide +kernel
theorem busy_4 : ∀ t : Fin grid0.N, idle0 4 (grid0.coords t) = false := by decide +kernel

theorem obligation (c : Dev nD) : BodyObligation (dats (F := F) m 0 c) (defs₀ (F := F)) Variants.none () Set.univ := fun t => by
  rw [bigSep_W0, bigSep_W0, row]
  simp only [busy_2 t, busy_3 t, busy_4 t]
  exact triple_restated (body_sound m c t) rfl .rfl fun _ => .rfl

/-- The host's operations before the call. -/
theorem before_call : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data say, every other array as found, and every counter at zero. -/
theorem ends : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 own defs₀ Variants.none own_facts direct direct_sub m ρ main
    (hbody := fun c => (obligation m c).loose) (hshare := fun c => (dats m 0 c).share_full fun _ => rfl)
    (howed := fun _ _ => rfl) (V := V m) (hmain := before_call m) (hA := A_eq m)
    (hin := fun c => (handed m c).le) (hout := fun c => (back m c _).trans (handed m c).ge)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (ends m ρ)

end Cert.FupKernelIdeal.Whole

end
-- ==== Proof.FupKernelFrame.lean ====
/- The frame of the gated forward kernel on machine numbers (FupKernel): its text is the idealised program's, so the proof is. -/
module

public import proofs.«01_k».proof.Defs
public import proofs.«01_k».proof.Proof.Gen.FupKernel.Skeleton
public import proofs.«01_k».proof.Proof.FupKernelIdealFrame

@[expose] public section

set_option maxRecDepth 16384

noncomputable section
open Idealize.ShloMosaic Idealize.ShloMosaic.TcCoe Idealize.SL.Sem

namespace Cert.FupKernel.Whole
open Cert.FupKernel

/-- The bodies are the same. -/
theorem bodies_eq : @Cert.FupKernel.defs₀ Bits _ Cert.FupKernel.Gen.facts = @Cert.FupKernelIdeal.defs₀ Bits _ Cert.FupKernelIdeal.Gen.facts := by
  unfold Cert.FupKernel.defs₀ Cert.FupKernelIdeal.defs₀
  refine congrArg Defs.onTc ?_
  funext l a
  match l, a with
  | 0, (t, s) => with_unfolding_all rfl

theorem defs_eq : @Cert.FupKernel.defs Bits _ Cert.FupKernel.Gen.facts = @Cert.FupKernelIdeal.defs Bits _ Cert.FupKernelIdeal.Gen.facts :=
  congrArg (Pipeline.defs Cert.FupKernelIdeal.pcfgs) bodies_eq

/-- So are the host operations. -/
theorem main_eq : @Cert.FupKernel.main Bits _ Cert.FupKernel.Gen.facts = @Cert.FupKernelIdeal.main Bits _ Cert.FupKernelIdeal.Gen.facts := by with_unfolding_all rfl

/-- The arguments end unchanged and every counter at zero. -/
theorem frame (m : (ℓ : Loc nD τ sig) → Buf (Elt Bits) ℓ) (ρ : Dev nD → PrngReg) :
    θ_run (@Cert.FupKernel.defs Bits _ Cert.FupKernel.Gen.facts) (onTc (τ := τ) (@Cert.FupKernel.main Bits _ Cert.FupKernel.Gen.facts)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ r.2.sem = fun _ => 0) := by
  rw [defs_eq, main_eq]
  exact Cert.FupKernelIdeal.Whole.frame (F := Bits) m ρ

end Cert.FupKernel.Whole
end
-- ==== Proof.FupMath.lean ====
/- The gated forward product: its equations over any entries. -/
module

public import proofs.«01_k».proof.Proof.Slabs
public import proofs.«01_k».proof.Proof.Rms

@[expose] public section

set_option maxRecDepth 16384
noncomputable section
open Idealize.ShloMosaic Idealize.ShloMosaic.TcCoe Idealize.SL.Sem

namespace Cert.FupMath
open Cert.Slabs

/-- The number that 32 bits stand for. -/
abbrev num (b : BitVec 32) : EReal := Ideal.ofBits FTy.f32 b

abbrev Tok := (⟨2, ![2048, 1024]⟩ : Shape).Idx → EReal
abbrev Scale := (⟨2, ![1, 1024]⟩ : Shape).Idx → EReal
abbrev Wt := (⟨2, ![1024, 5632]⟩ : Shape).Idx → EReal

/-- The inverse root mean square of a row. -/
def inv (r : Fin 1024 → EReal) : EReal := Ideal.rsqrt (Ideal.div (∑ k, r k * r k) (num 0x44800000#32) + num 0x358637BD#32)

/-- The entry `b` of a normed row. -/
def normed (r s : Fin 1024 → EReal) (b : Fin 1024) : EReal := r b * inv r * s b

/-- The normed row's product with a column. -/
def prod (r s w : Fin 1024 → EReal) : EReal := ∑ k, normed r s k * w k

/-- A number times its logistic function. -/
def silu (z : EReal) : EReal := z * Ideal.div 1 (1 + Ideal.exp (-z))

/-- The row of a token, the scales, and a column of the weights. -/
abbrev row (X : Tok) (a : Fin 2048) : Fin 1024 → EReal := fun k => X (ix2 a k)
abbrev sc (G : Scale) : Fin 1024 → EReal := fun k => G (ix2 0 k)
abbrev col (W : Wt) (b : Fin 5632) : Fin 1024 → EReal := fun k => W (ix2 k b)

/-- The three results. -/
def h (X : Tok) (G : Scale) (a : Fin 2048) (b : Fin 1024) : EReal := normed (row X a) (sc G) b
def gu (X : Tok) (G : Scale) (W : Wt) (a : Fin 2048) (b : Fin 5632) : EReal := prod (row X a) (sc G) (col W b)
def gated (X : Tok) (G : Scale) (W : Wt) (a : Fin 2048) (b : Fin 2816) : EReal :=
  silu (gu X G W a ⟨b.val, by omega⟩) * gu X G W a ⟨2816 + b.val, by omega⟩

/-! ## A block of 256 rows and the slabs -/

section Pieces

abbrev Block : Shape := ⟨2, ![256, 1024]⟩

/-- A row of a block, and a column of a slab. -/
abbrev brow (x : Block.Idx → EReal) (p : Fin 256) : Fin 1024 → EReal := fun k => x (ix2 p k)
abbrev bcol (w : Slab.Idx → EReal) (q : Fin 1408) : Fin 1024 → EReal := fun k => w (ix3 0 k q)

theorem slab_lt (k : Fin 4) (q : Fin 1408) : 1408 * k.val + q.val < 5632 := by omega

variable (X : Tok) (G : Scale) (W : Wt) (Wv : Slabs4.Idx → EReal) (f : Fin 256 → Fin 2048)

/-- The block of the rows `f` names, and what is computed of it. -/
abbrev blockOf : Block.Idx → EReal := fun y => X (ix2 (f (y 0)) (y 1))
abbrev guAt (y : (⟨2, ![256, 5632]⟩ : Shape).Idx) : EReal := gu X G W (f (y 0)) (y 1)
abbrev gatedAt (y : (⟨2, ![256, 2816]⟩ : Shape).Idx) : EReal := gated X G W (f (y 0)) (y 1)

variable (hW : ∀ (k : Fin 4) (r : Fin 1024) (q : Fin 1408), Wv (ix3 k r q) = W (ix2 r ⟨1408 * k.val + q.val, slab_lt k q⟩))
include hW

/-- The columns of a slab are the weights' columns. -/
theorem col_slab (k : Fin 4) (inb) (q : Fin 1408) :
    bcol (View.ld (Val := Elt Ideal) (e' := .bf16) Wv (Rect.unit (s := Slabs4) ![k.val, 0, 0] Slab.size inb)) q
      = col W ⟨1408 * k.val + q.val, slab_lt k q⟩ := by
  funext r
  refine Eq.trans ?_ (hW k r q)
  refine congrArg Wv (funext fun a => Fin.ext ?_)
  fin_cases a <;> simp [ix3]

/-- A store of products with slab `k`. -/
theorem piece_gu (k : Fin 4) (o : ℕ) (ho : o = 1408 * k.val) (inw) (P : (⟨2, ![256, 1408]⟩ : Shape).Idx → EReal)
    (hP : ∀ p q, P (ix2 p q) = prod (brow (blockOf X f) p) (sc G)
      (bcol (View.ld (Val := Elt Ideal) (e' := .bf16) Wv (Rect.unit (s := Slabs4) ![k.val, 0, 0] Slab.size inw)) q))
    (inb) (y : (⟨2, ![256, 1408]⟩ : Shape).Idx) : P y = guAt X G W f ((Rect.unit (s := (⟨2, ![256, 5632]⟩ : Shape)) ![0, o] (⟨2, ![256, 1408]⟩ : Shape).size inb).emb y) := by
  subst ho
  idx_vars y
  refine (hP _ _).trans ?_
  rw [col_slab W Wv hW]
  refine congrArg₂ (gu X G W) (congrArg f (Fin.ext ?_)) (Fin.ext ?_) <;> simp [ix2]

/-- A store of gated products of slabs `k` and `k' = k + 2`. -/
theorem piece_gated (k k' : Fin 4) (hk : k.val < 2) (hk' : k'.val = k.val + 2) (o : ℕ) (ho : o = 1408 * k.val) (inw) (inu) (P : (⟨2, ![256, 1408]⟩ : Shape).Idx → EReal)
    (hP : ∀ p q, P (ix2 p q) = silu (prod (brow (blockOf X f) p) (sc G)
      (bcol (View.ld (Val := Elt Ideal) (e' := .bf16) Wv (Rect.unit (s := Slabs4) ![k.val, 0, 0] Slab.size inw)) q))
      * prod (brow (blockOf X f) p) (sc G)
      (bcol (View.ld (Val := Elt Ideal) (e' := .bf16) Wv (Rect.unit (s := Slabs4) ![k'.val, 0, 0] Slab.size inu)) q))
    (inb) (y : (⟨2, ![256, 1408]⟩ : Shape).Idx) : P y = gatedAt X G W f ((Rect.unit (s := (⟨2, ![256, 2816]⟩ : Shape)) ![0, o] (⟨2, ![256, 1408]⟩ : Shape).size inb).emb y) := by
  subst ho
  idx_vars y
  refine (hP _ _).trans ?_
  rw [col_slab W Wv hW, col_slab W Wv hW]
  refine congrArg₂ (fun z z' => silu z * z') (congrArg₂ (gu X G W) (congrArg f (Fin.ext ?_)) (Fin.ext ?_))
    (congrArg₂ (gu X G W) (congrArg f (Fin.ext ?_)) (Fin.ext ?_)) <;> simp [ix2]
  omega

end Pieces

end Cert.FupMath

end
-- ==== Proof.FupRef.lean ====
/- The gated forward product: the reference computes its equations. -/
module

public import proofs.«01_k».proof.Proof.FupMath
public import proofs.«01_k».proof.Proof.Gen.FupReferenceIdeal.Read

@[expose] public section

set_option maxRecDepth 16384
noncomputable section
open Idealize.ShloMosaic Idealize.ShloMosaic.TcCoe Idealize.SL.Sem

namespace Cert.FupReferenceIdeal.Read
open Cert.FupReferenceIdeal Cert.FupReferenceIdeal.Gen Cert.FupMath

variable (X : S2048x1024.Idx → EReal) (G : S1x1024.Idx → EReal) (W : S1024x5632.Idx → EReal)

theorem v8_of (a : Fin 2048) (b : Fin 1) : val_main_v8 (F := Ideal) X (ix2 a b) = inv (row X a) := by
  pointwise [val_main_v8, val_main_v7, val_main_v6, val_main_v5, val_main_v4, val_main_v3, val_main_v2, val_main_v1, val_main_cst, val_main_cst_0, val_main_cst_1]
  rfl

theorem v13_of (a : Fin 2048) (b : Fin 1024) : val_main_v13 (F := Ideal) X G (ix2 a b) = h X G a b := by
  pointwise [val_main_v13, val_main_v12, val_main_v11, val_main_v10, val_main_v9, val_main_v0]
  simp only [v8_of]
  rfl

theorem v14_of (a : Fin 2048) (b : Fin 5632) : val_main_v14 (F := Ideal) X G W (ix2 a b) = gu X G W a b := by
  pointwise [val_main_v14]
  simp only [v13_of]
  rfl

theorem h_of : val_main_v17 (F := Ideal) X G = fun i => h X G (i 0) (i 1) := by
  funext j
  idx_vars j
  pointwise [val_main_v17]
  exact v13_of X G _ _

theorem gu_of : val_main_v18 (F := Ideal) X G W = fun i => gu X G W (i 0) (i 1) := by
  funext j
  idx_vars j
  pointwise [val_main_v18]
  exact v14_of X G W _ _

theorem gated_of : val_main_v21 (F := Ideal) X G W = fun i => gated X G W (i 0) (i 1) := by
  funext j
  idx_vars j
  pointwise [val_main_v21, val_main_v20, val_main_v19, val_main_v16, val_main_v15, val_main_call0_v5, val_main_call0_v4, val_main_call0_v3,
    val_main_call0_v2, val_main_call0_v1, val_main_call0_v0, val_main_call0_cst, val_main_call0_cst_0]
  simp only [v14_of]
  rfl

end Cert.FupReferenceIdeal.Read
end
-- ==== Proof.FupArrays.lean ====
/- What the gated forward kernel leaves in its three arrays, entry by entry. -/
module

public import proofs.«01_k».proof.Proof.FupRef
public import proofs.«01_k».proof.Proof.FupKernelIdealFrame

@[expose] public section

set_option maxRecDepth 16384
noncomputable section
open Idealize.ShloMosaic Idealize.ShloMosaic.TcCoe Idealize.SL.Sem

namespace Cert.FupKernelIdeal.Arrays
open Cert.Slabs Cert.FupKernelIdeal Cert.FupKernelIdeal.Gen Cert.FupKernelIdeal.Whole Cert.FupMath

/-! ## One block of rows -/

section Block
variable (x : S256x1024.Idx → EReal) (g : S1x1024.Idx → EReal) (w u : S1x1024x1408.Idx → EReal)

theorem h_block (p : Fin 256) (q : Fin 1024) : k0_pay20 (F := Ideal) x g (ix2 p q) = normed (brow x p) (sc g) q := by
  pointwise [k0_pay20]
  rfl

theorem prod_a (p : Fin 256) (q : Fin 1408) : k0_pay21 (F := Ideal) x g w (ix2 p q) = prod (brow x p) (sc g) (bcol w q) := by
  pointwise [k0_pay21]
  simp only [h_block]
  rfl

theorem prod_b (p : Fin 256) (q : Fin 1408) : k0_pay22 (F := Ideal) x g w (ix2 p q) = prod (brow x p) (sc g) (bcol w q) := by
  pointwise [k0_pay22]
  simp only [h_block]
  rfl

theorem prod_c (p : Fin 256) (q : Fin 1408) : k0_pay3 (F := Ideal) (k0_pay20 x g) w (ix2 p q) = prod (brow x p) (sc g) (bcol w q) := by
  pointwise [k0_pay3]
  simp only [h_block]
  rfl

theorem prod_d (p : Fin 256) (q : Fin 1408) : k0_pay4 (F := Ideal) (k0_pay20 x g) w (ix2 p q) = prod (brow x p) (sc g) (bcol w q) := by
  pointwise [k0_pay4]
  simp only [h_block]
  rfl

theorem gated_lo (p : Fin 256) (q : Fin 1408) : k0_pay2 (F := Ideal) (k0_pay21 x g w) (k0_pay22 x g u) (k0_pay25 x g w) (ix2 p q)
    = silu (prod (brow x p) (sc g) (bcol w q)) * prod (brow x p) (sc g) (bcol u q) := by
  pointwise [k0_pay2, k0_pay25]
  simp only [prod_a, prod_b, zero_sub]
  rfl

theorem gated_hi (p : Fin 256) (q : Fin 1408) : k0_pay7 (F := Ideal) (k0_pay20 x g) w u (ix2 p q)
    = silu (prod (brow x p) (sc g) (bcol w q)) * prod (brow x p) (sc g) (bcol u q) := by
  pointwise [k0_pay7]
  simp only [prod_c, prod_d, zero_sub]
  rfl

end Block

/-! ## The blocks -/

variable (m : (ℓ : Loc nD τ sig) → Buf (Elt Ideal) ℓ) (c : Dev nD)

abbrev arg (b : Ref sig .tc) := m ((c.tc : Thread nD τ).loc b)

/-- The slabs: column `q` of slab `k` is the weights' column `1408 k + q`. -/
theorem slabs_of (k : Fin 4) (r : Fin 1024) (q : Fin 1408) :
    V m c main_v2 (ix3 k r q) = arg m c main_arg2 (ix2 r ⟨1408 * k.val + q.val, by omega⟩) := by
  have e : V m c main_v2 = transpose S4x1024x1408 [1, 0, 2] (shapeCast S1024x4x1408 (truncf (F := Ideal) .bf16
      (m ((c.tc : Thread nD τ).loc main_arg2)) bitsLt_bf16_f32) shapeCasts_S1024x5632_S1024x4x1408) transposes_S1024x4x1408_S4x1024x1408_1_0_2 := by
    simp only [V, hostOps0, List.flatten_cons, List.flatten_nil, List.append_nil, List.cons_append, List.nil_append]
    after_results
    rfl
  rw [e]
  pointwise []
  exact congrArg (fun j => arg m c main_arg2 (ix2 r j)) (Fin.ext (by simp [Nat.mul_comm]))

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ t.val < 8 :=
  (by decide +kernel : ∀ t : Fin grid0.N, _)

/-- The token that row `p` of point `t`'s block is. -/
abbrev tok (t : Fin cfg0.N) (p : Fin 256) : Fin 2048 := ⟨t.val * 256 + p.val, by have := (idx t).2.2.2.2.2; omega⟩

theorem blk0 (t : Fin cfg0.N) : iblk m c 0 t = fun y : S256x1024.Idx => arg m c main_arg0 (ix2 (tok t (y 0)) (y 1)) := by
  funext y
  refine Eq.trans ?_ (congrFun (V_main_arg0 m c) _)
  blk_ext [iblk, idx t] <;> rfl

theorem blk1 (t : Fin cfg0.N) : iblk m c 1 t = arg m c main_arg1 := by
  funext y
  refine Eq.trans ?_ (congrFun (V_main_arg1 m c) _)
  blk_ext [iblk, idx t]

theorem ld_x (x : S256x1024.Idx → EReal) : View.ld (Val := Elt Ideal) (e' := .f32) x rx = x := by
  funext y
  refine congrArg x (funext fun a => Fin.ext ?_)
  fin_cases a <;> simp

theorem ld_g (x : S1x1024.Idx → EReal) : View.ld (Val := Elt Ideal) (e' := .f32) x rg = x := by
  funext y
  refine congrArg x (funext fun a => Fin.ext ?_)
  fin_cases a <;> simp

/-- The block of point `t`. -/
abbrev xb (t : Fin cfg0.N) : S256x1024.Idx → EReal := blockOf (arg m c main_arg0) (tok t)

theorem left_gu (t : Fin cfg0.N) : leftGU (F := Ideal) (xb m c t) (arg m c main_arg1) (V m c main_v2) = guAt (arg m c main_arg0) (arg m c main_arg1) (arg m c main_arg2) (tok t) := by
  funext y
  unfold leftGU
  rw [ld_x, ld_g]
  refine View.canon_apply_of_pieces (Val := Elt Ideal) (e := .bf16) (guAt (arg m c main_arg0) (arg m c main_arg1) (arg m c main_arg2) (tok t)) _ ?_ y (covers5 _ _ _ _ y)
  simp only [List.forall_mem_cons, List.not_mem_nil, false_implies, implies_true, and_true]
  exact ⟨piece_gu _ _ _ _ _ (slabs_of m c) 3 4224 rfl _ _ (prod_d _ _ _) _, piece_gu _ _ _ _ _ (slabs_of m c) 1 1408 rfl _ _ (prod_c _ _ _) _,
    piece_gu _ _ _ _ _ (slabs_of m c) 2 2816 rfl _ _ (prod_b _ _ _) _, piece_gu _ _ _ _ _ (slabs_of m c) 0 0 rfl _ _ (prod_a _ _ _) _⟩

theorem left_gated (t : Fin cfg0.N) : leftA (F := Ideal) (xb m c t) (arg m c main_arg1) (V m c main_v2) = gatedAt (arg m c main_arg0) (arg m c main_arg1) (arg m c main_arg2) (tok t) := by
  funext y
  unfold leftA
  rw [ld_x, ld_g]
  refine View.canon_apply_of_pieces (Val := Elt Ideal) (e := .bf16) (gatedAt (arg m c main_arg0) (arg m c main_arg1) (arg m c main_arg2) (tok t)) _ ?_ y (covers6 _ _ y)
  simp only [List.forall_mem_cons, List.not_mem_nil, false_implies, implies_true, and_true]
  exact ⟨piece_gated _ _ _ _ _ (slabs_of m c) 1 3 (by decide) rfl 1408 rfl _ _ _ (gated_hi _ _ _ _) _, piece_gated _ _ _ _ _ (slabs_of m c) 0 2 (by decide) rfl 0 rfl _ _ _ (gated_lo _ _ _ _) _⟩

theorem left_h (t : Fin cfg0.N) : leftH (F := Ideal) (xb m c t) (arg m c main_arg1)
    = fun y => h (arg m c main_arg0) (arg m c main_arg1) (tok t (y 0)) (y 1) := by
  funext y
  unfold leftH
  rw [ld_x, ld_g]
  refine View.canon_apply_of_pieces (Val := Elt Ideal) (e := .bf16) (fun y => h (arg m c main_arg0) (arg m c main_arg1) (tok t (y 0)) (y 1)) _ ?_ y (covers4 _ y)
  simp only [List.forall_mem_cons, List.not_mem_nil, false_implies, implies_true, and_true]
  intro y
  idx_vars y
  refine (h_block _ _ _ _).trans ?_
  refine congrArg₂ (h (arg m c main_arg0) (arg m c main_arg1)) (congrArg (tok t) (Fin.ext ?_)) (Fin.ext ?_) <;> simp [ix2]

/-! ## The arrays after the grid -/

/-- The place in the array of a block's entry. -/
theorem place {n : ℕ} (t : Fin cfg0.N) (f : Fin 2048 → Fin n → EReal) (y : (⟨2, ![256, n]⟩ : Shape).Idx) (i : (⟨2, ![2048, n]⟩ : Shape).Idx)
    (h0 : (i 0 : ℕ) = t.val * 256 + y 0) (h1 : (i 1 : ℕ) = y 1) : f (tok t (y 0)) (y 1) = f (i 0) (i 1) :=
  congrArg₂ f (Fin.ext h0.symm) (Fin.ext h1.symm)

theorem h_array : (dats m 0 c).arrAt 2 cfg0.N = fun i => h (arg m c main_arg0) (arg m c main_arg1) (i 0) (i 1) := by
  refine (dats m 0 c).arrAt_eq_of_covers 2 _ (by decide +kernel) fun t _ y => ?_
  blk_simp
  rw [left_2, blk0, blk1, left_h]
  have hi : ∀ a, ((((View.whole main_v3_0).slice (win0_2.rect t)).emb y) a : ℕ) = win0_2.index t a * ![256, 1024] a + y a := by
    intro a; fin_cases a <;> blk_simp
  rw [(idx t).2.2.1] at hi
  exact place t (h (arg m c main_arg0) (arg m c main_arg1)) y _ (hi 0) (by simpa using hi 1)

theorem gu_array : (dats m 0 c).arrAt 3 cfg0.N = fun i => gu (arg m c main_arg0) (arg m c main_arg1) (arg m c main_arg2) (i 0) (i 1) := by
  refine (dats m 0 c).arrAt_eq_of_covers 3 _ (by decide +kernel) fun t _ y => ?_
  blk_simp
  rw [left_3, blk0, blk1, left_gu]
  have hi : ∀ a, ((((View.whole main_v3_1).slice (win0_3.rect t)).emb y) a : ℕ) = win0_3.index t a * ![256, 5632] a + y a := by
    intro a; fin_cases a <;> blk_simp
  rw [(idx t).2.2.2.1] at hi
  exact place t (gu (arg m c main_arg0) (arg m c main_arg1) (arg m c main_arg2)) y _ (hi 0) (by simpa using hi 1)

theorem gated_array : (dats m 0 c).arrAt 4 cfg0.N = fun i => gated (arg m c main_arg0) (arg m c main_arg1) (arg m c main_arg2) (i 0) (i 1) := by
  refine (dats m 0 c).arrAt_eq_of_covers 4 _ (by decide +kernel) fun t _ y => ?_
  blk_simp
  rw [left_4, blk0, blk1, left_gated]
  have hi : ∀ a, ((((View.whole main_v3_2).slice (win0_4.rect t)).emb y) a : ℕ) = win0_4.index t a * ![256, 2816] a + y a := by
    intro a; fin_cases a <;> blk_simp
  rw [(idx t).2.2.2.2.1] at hi
  exact place t (gated (arg m c main_arg0) (arg m c main_arg1) (arg m c main_arg2)) y _ (hi 0) (by simpa using hi 1)

/-- The run, with the three results' arrays. -/
theorem run_arrays (ρ : Dev nD → PrngReg) : θ_run defs (onTc (τ := τ) (main (F := Ideal))) ⟨m, fun _ => 0, ρ⟩ (fun r => ∀ c : Dev nD,
    r.2.mem ((c.tc : Thread nD τ).loc main_v3_0) = (dats m 0 c).arrAt 2 cfg0.N ∧ r.2.mem ((c.tc : Thread nD τ).loc main_v3_1) = (dats m 0 c).arrAt 3 cfg0.N
      ∧ r.2.mem ((c.tc : Thread nD τ).loc main_v3_2) = (dats m 0 c).arrAt 4 cfg0.N
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 2, (h.1 c).1 3, (h.1 c).1 4,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c)⟩) (ends m ρ)

end Cert.FupKernelIdeal.Arrays
end
-- ==== Proof.FupClaim.lean ====
/- The claims about the feed-forward layer's gated forward call. -/
module

public import proofs.«01_k».proof.Defs
public import proofs.«01_k».proof.Proof.FupArrays
public import proofs.«01_k».proof.Proof.Gen.FupReferenceIdeal.Run
public import Idealize.ShloMosaic.Lib.Quiescent

@[expose] public section

set_option maxRecDepth 16384
noncomputable section
open Idealize.ShloMosaic Idealize.ShloMosaic.TcCoe Idealize.SL.Sem

namespace Cert.FupClaim

/-- The reference declares no semaphore, so its run leaves every counter at zero. -/
theorem frame_ref : Cert.quiescent_FupReferenceIdeal (hFupReferenceIdeal := Cert.FupReferenceIdeal.Gen.facts) := fun m g _ =>
  (θ_run _ _ _).mono (fun r h => ⟨fun c => (h c).2.2.2, sem_eq_zero_of_no_sems (by decide) r.2⟩) (Cert.FupReferenceIdeal.Value.run (F := Ideal) m g)

/-- The two programs end with equal results. -/
theorem algebraic : Cert.algebraic_FupKernelIdeal_FupReferenceIdeal
    (hFupKernelIdeal := Cert.FupKernelIdeal.Gen.facts) (hFupReferenceIdeal := Cert.FupReferenceIdeal.Gen.facts) := by
  intro m g m' g' _ hag
  refine ⟨fun c => _, fun c => _, fun c => _, Cert.FupKernelIdeal.Arrays.run_arrays m g, ?_⟩
  refine (θ_run _ _ _).mono (fun r h c => ?_) (Cert.FupReferenceIdeal.Value.run m' g')
  obtain ⟨a0, a1, a2⟩ := hag c
  obtain ⟨r0, r1, r2, k⟩ := h c
  refine ⟨r0.trans ?_, r1.trans ?_, r2.trans ?_, k⟩
  · rw [Cert.FupReferenceIdeal.Read.val_main_v17_eq, a0, a1]
    exact (Cert.FupReferenceIdeal.Read.h_of _ _).trans (Cert.FupKernelIdeal.Arrays.h_array m c).symm
  · rw [Cert.FupReferenceIdeal.Read.val_main_v18_eq, a0, a1, a2]
    exact (Cert.FupReferenceIdeal.Read.gu_of _ _ _).trans (Cert.FupKernelIdeal.Arrays.gu_array m c).symm
  · rw [Cert.FupReferenceIdeal.Read.val_main_v21_eq, a0, a1, a2]
    exact (Cert.FupReferenceIdeal.Read.gated_of _ _ _).trans (Cert.FupKernelIdeal.Arrays.gated_array m c).symm

end Cert.FupClaim
end
-- ==== Proof.FfnMath.lean ====
/- The gradients of the feed-forward layer with its norm, over real arrays. -/
module

public import proofs.«01_k».proof.Proof.Rms

@[expose] public section

noncomputable section

namespace Cert.FfnMath

open Idealize.ShloMosaic Cert.Reals Cert.Rms

abbrev Tok := (⟨2, ![2048, 1024]⟩ : Shape).Idx → ℝ
abbrev Scale := (⟨2, ![1, 1024]⟩ : Shape).Idx → ℝ
abbrev Wide := (⟨2, ![1024, 5632]⟩ : Shape).Idx → ℝ
abbrev Narrow := (⟨2, ![2816, 1024]⟩ : Shape).Idx → ℝ

/-- The logistic function. -/
def sgm (t : ℝ) : ℝ := 1 / (1 + Real.exp (-t))

theorem sgm_up (t : ℝ) : Ideal.div ((1 : ℝ) : EReal) ((1 + Real.exp (-t) : ℝ) : EReal) = (sgm t : ℝ) :=
  div_up 1 (by positivity)

/-- The derivative of `t ↦ t * sgm t`. -/
def slope (t : ℝ) : ℝ := sgm t * (1 + t * (1 - sgm t))

/-- One token's row. -/
abbrev row (X : Tok) (a : Fin 2048) : Fin 1024 → ℝ := fun k => X (ix2 a k)

/-- The normed row's product with a column: the first 2816 are the gates, the others what they multiply. -/
def gu (X : Tok) (G : Scale) (W : Wide) (a : Fin 2048) (j : Fin 5632) : ℝ := ∑ k, X (ix2 a k) * inv 1024 (row X a) * G (ix2 0 k) * W (ix2 k j)

/-- The gradient at the gated products. -/
def da (D : Tok) (U : Narrow) (a : Fin 2048) (j : Fin 2816) : ℝ := ∑ k, 1 / 2 * D (ix2 a k) * U (ix2 j k)

/-- At the gates, and at what they multiply. -/
def dgate (D X : Tok) (G : Scale) (W : Wide) (U : Narrow) (a : Fin 2048) (j : Fin 2816) : ℝ :=
  da D U a j * gu X G W a ⟨2816 + j.val, by omega⟩ * slope (gu X G W a ⟨j.val, by omega⟩)
def dother (D X : Tok) (G : Scale) (W : Wide) (U : Narrow) (a : Fin 2048) (j : Fin 2816) : ℝ :=
  da D U a j * (gu X G W a ⟨j.val, by omega⟩ * sgm (gu X G W a ⟨j.val, by omega⟩))

/-- Both, side by side. -/
def dgu (D X : Tok) (G : Scale) (W : Wide) (U : Narrow) (a : Fin 2048) (j : Fin 5632) : ℝ :=
  if h : j.val < 2816 then dgate D X G W U a ⟨j.val, h⟩ else dother D X G W U a ⟨j.val - 2816, by omega⟩

/-- The gradient at the normed row. -/
def dh (D X : Tok) (G : Scale) (W : Wide) (U : Narrow) (a : Fin 2048) (b : Fin 1024) : ℝ := ∑ j, dgu D X G W U a j * W (ix2 b j)

/-- The gradient at the layer's input. -/
def dx (D X : Tok) (G : Scale) (W : Wide) (U : Narrow) (a : Fin 2048) (b : Fin 1024) : ℝ :=
  D (ix2 a b) + grad 1024 (row X a) (fun k => dh D X G W U a k * G (ix2 0 k)) b

/-- The gradient at the norm's scale. -/
def dg (D X : Tok) (G : Scale) (W : Wide) (U : Narrow) (b : Fin 1024) : ℝ := ∑ a, dh D X G W U a b * X (ix2 a b) * inv 1024 (row X a)

/-- A sum over the columns, in the four quarters that the kernel's products take. -/
theorem sum_quarters (f : Fin 5632 → ℝ) :
    (∑ k : Fin 1408, f ⟨0 + k.val, by omega⟩) + (∑ k : Fin 1408, f ⟨2816 + k.val, by omega⟩) + (∑ k : Fin 1408, f ⟨1408 + k.val, by omega⟩)
        + (∑ k : Fin 1408, f ⟨4224 + k.val, by omega⟩) = ∑ k, f k := by
  have h1 := Fin.sum_univ_add (a := 4224) (b := 1408) f
  have h2 := Fin.sum_univ_add (a := 2816) (b := 1408) fun k => f (Fin.castAdd 1408 k)
  have h3 := Fin.sum_univ_add (a := 1408) (b := 1408) fun k => f (Fin.castAdd 1408 (Fin.castAdd 1408 k))
  have h : ∑ k, f k = (∑ k : Fin 1408, f ⟨k.val, by omega⟩) + (∑ k : Fin 1408, f ⟨1408 + k.val, by omega⟩) + (∑ k : Fin 1408, f ⟨2816 + k.val, by omega⟩)
      + (∑ k : Fin 1408, f ⟨4224 + k.val, by omega⟩) := h1.trans (congrArg (· + _) (h2.trans (congrArg (· + _) h3)))
  have h0 : (∑ k : Fin 1408, f ⟨0 + k.val, by omega⟩) = ∑ k : Fin 1408, f ⟨k.val, by omega⟩ := Finset.sum_congr rfl fun k _ => congrArg f (Fin.ext (Nat.zero_add _))
  rw [h, h0]
  ring

end Cert.FfnMath

end
-- ==== Proof.FfnRef.lean ====
/- What the reference of the feed-forward layer's backward call computes from real arrays. -/
module

public import proofs.«01_k».proof.Proof.FfnMath
public import proofs.«01_k».proof.Proof.Gen.FfnReferenceIdeal.Read

@[expose] public section

set_option maxRecDepth 16384
noncomputable section
open Idealize.ShloMosaic Idealize.ShloMosaic.TcCoe Idealize.SL.Sem

namespace Cert.FfnReferenceIdeal.Read
open Cert.FfnReferenceIdeal Cert.FfnReferenceIdeal.Gen Cert.Reals Cert.Rms Cert.FfnMath

variable (D X : S2048x1024.Idx → ℝ) (G : S1x1024.Idx → ℝ) (W : S1024x5632.Idx → ℝ) (U : S2816x1024.Idx → ℝ)

/-! ## The forward values -/

theorem ms_of (a : Fin 2048) (b : Fin 1) : val_main_v7 (F := Ideal) (up X) (ix2 a b) = (ms 1024 (row X a) : ℝ) := by
  pointwise [val_main_v7, val_main_v6, val_main_v5, val_main_v4, val_main_v3, val_main_v2, val_main_v1, val_main_cst, val_main_cst_0, val_main_cst_1]
  simp only [up, bits_1024, bits_eps, ← EReal.coe_mul, sum_up, div_1024, ← EReal.coe_add]
  rfl

theorem inv_of (a : Fin 2048) (b : Fin 1) : val_main_v8 (F := Ideal) (up X) (ix2 a b) = (inv 1024 (row X a) : ℝ) := by
  pointwise [val_main_v8]
  exact (congrArg Ideal.rsqrt (ms_of X a b)).trans (rsqrt_up (ms_pos (by norm_num) _))

theorem slope_of (a : Fin 2048) (b : Fin 1) :
    val_main_v11 (F := Ideal) (up X) (ix2 a b) = ((-(1 / 2) * (inv 1024 (row X a) / ms 1024 (row X a)) : ℝ) : EReal) := by
  pointwise [val_main_v11, val_main_v10, val_main_v9, val_main_cst_2]
  simp only [ms_of, inv_of, bits_neg_half]
  rw [div_up _ (ms_pos (by norm_num) _).ne', ← EReal.coe_mul]

theorem gu_of (a : Fin 2048) (j : Fin 5632) : val_main_v17 (F := Ideal) (up X) (up G) (up W) (ix2 a j) = (gu X G W a j : ℝ) := by
  pointwise [val_main_v17, val_main_v16, val_main_v15, val_main_v14, val_main_v13, val_main_v12, val_main_v0]
  simp only [inv_of, up, ← EReal.coe_mul, sum_up]
  rfl

theorem gate_of (a : Fin 2048) (j : Fin 2816) : val_main_v18 (F := Ideal) (up X) (up G) (up W) (ix2 a j) = (gu X G W a ⟨j.val, by omega⟩ : ℝ) := by
  pointwise [val_main_v18]
  refine Eq.trans (congrArg (val_main_v17 (F := Ideal) (up X) (up G) (up W)) ?_) (gu_of X G W a ⟨j.val, by omega⟩)
  blk_ext []

theorem other_of (a : Fin 2048) (j : Fin 2816) : val_main_v19 (F := Ideal) (up X) (up G) (up W) (ix2 a j) = (gu X G W a ⟨2816 + j.val, by omega⟩ : ℝ) := by
  pointwise [val_main_v19]
  refine Eq.trans (congrArg (val_main_v17 (F := Ideal) (up X) (up G) (up W)) ?_) (gu_of X G W a ⟨2816 + j.val, by omega⟩)
  blk_ext []

theorem sgm_of (a : Fin 2048) (j : Fin 2816) : val_main_v20_2 (F := Ideal) (up X) (up G) (up W) (ix2 a j) = (sgm (gu X G W a ⟨j.val, by omega⟩) : ℝ) := by
  pointwise [val_main_v20_2, val_main_call0_v4, val_main_call0_v3, val_main_call0_v2, val_main_call0_v1, val_main_call0_v0, val_main_call0_cst, val_main_call0_cst_0]
  simp only [gate_of, ← EReal.coe_neg, Ideal.exp_coe, ← EReal.coe_one, ← EReal.coe_add]
  exact sgm_up _

/-! ## The gradients -/

theorem da_of (a : Fin 2048) (j : Fin 2816) : val_main_v27 (F := Ideal) (up D) (up U) (ix2 a j) = (da D U a j : ℝ) := by
  pointwise [val_main_v27, val_main_v26, val_main_v25, val_main_cst_4]
  simp only [up, bits_half, ← EReal.coe_mul, sum_up]
  rfl

theorem dother_of (a : Fin 2048) (j : Fin 2816) : val_main_v28 (F := Ideal) (up D) (up X) (up G) (up W) (up U) (ix2 a j) = (dother D X G W U a j : ℝ) := by
  pointwise [val_main_v28, val_main_v20_0]
  simp only [gate_of, sgm_of, da_of, ← EReal.coe_mul]
  exact congrArg _ (mul_comm _ _)

theorem dgate_of (a : Fin 2048) (j : Fin 2816) : val_main_v30 (F := Ideal) (up D) (up X) (up G) (up W) (up U) (ix2 a j) = (dgate D X G W U a j : ℝ) := by
  pointwise [val_main_v30, val_main_call1_v1, val_main_call1_v2, val_main_call1_v0, val_main_v29, val_main_v20_1, val_main_call0_v7, val_main_call0_v6, val_main_call0_cst_1]
  simp only [gate_of, other_of, sgm_of, da_of, ← EReal.coe_mul, ← EReal.coe_one, ← EReal.coe_sub, ← EReal.coe_add]
  refine congrArg _ ?_
  rw [dgate, Cert.FfnMath.slope]
  ring

theorem dgu_of (a : Fin 2048) (j : Fin 5632) : val_main_v31 (F := Ideal) (up D) (up X) (up G) (up W) (up U) (ix2 a j) = (dgu D X G W U a j : ℝ) := by
  pointwise [val_main_v31]
  simp only [dgate_of, dother_of, dgu]
  split <;> rfl

theorem dh_of (a : Fin 2048) (b : Fin 1024) : val_main_v32 (F := Ideal) (up D) (up X) (up G) (up W) (up U) (ix2 a b) = (dh D X G W U a b : ℝ) := by
  pointwise [val_main_v32]
  simp only [dgu_of, up, ← EReal.coe_mul, sum_up]
  rfl

theorem dhg_of (a : Fin 2048) (b : Fin 1024) :
    val_main_v37 (F := Ideal) (up D) (up X) (up G) (up W) (up U) (ix2 a b) = ((dh D X G W U a b * G (ix2 0 b) : ℝ) : EReal) := by
  pointwise [val_main_v37, val_main_v36, val_main_v14, val_main_v0]
  rw [dh_of, up, ← EReal.coe_mul]

/-! ## The five results as arrays -/

theorem dx_up (a : Fin 2048) (b : Fin 1024) : val_main_v54 (F := Ideal) (up D) (up X) (up G) (up W) (up U) (ix2 a b) = (dx D X G W U a b : ℝ) := by
  pointwise [val_main_v54, val_main_v52, val_main_v51, val_main_v50, val_main_v49, val_main_v48, val_main_v47, val_main_v46, val_main_v45, val_main_v44, val_main_v43, val_main_v42, val_main_v41, val_main_v40, val_main_v39, val_main_cst_7, val_main_cst_8, val_main_cst_9]
  simp only [dhg_of, inv_of, slope_of, up, bits_1024, ← EReal.coe_mul, sum_up, div_1024, ← EReal.coe_add, Finset.univ_unique, Finset.sum_singleton]
  refine congrArg _ ?_
  rw [dx, ← grad_eq (by norm_num)]

theorem dx_of : val_main_v54 (F := Ideal) (up D) (up X) (up G) (up W) (up U) = up fun i => dx D X G W U (i 0) (i 1) := by
  funext j
  idx_vars j
  exact dx_up D X G W U _ _

theorem dgu_array : val_main_v55 (F := Ideal) (up D) (up X) (up G) (up W) (up U) = up fun i => dgu D X G W U (i 0) (i 1) := by
  funext j
  idx_vars j
  pointwise [val_main_v55]
  exact dgu_of D X G W U _ _

theorem dg_up (a : Fin 1) (b : Fin 1024) : val_main_v53 (F := Ideal) (up D) (up X) (up G) (up W) (up U) (ix2 a b) = (dg D X G W U b : ℝ) := by
  pointwise [val_main_v53, val_main_v38, val_main_v35, val_main_v34, val_main_v33, val_main_v13, val_main_v12, val_main_cst_5, val_main_cst_6]
  simp only [dh_of, inv_of, up, ← EReal.coe_mul, sum_up, Finset.univ_unique, Finset.sum_singleton]
  refine congrArg _ ?_
  rw [dg]
  exact Finset.sum_congr rfl fun a _ => by ring

theorem dg_of : val_main_v53 (F := Ideal) (up D) (up X) (up G) (up W) (up U) = up fun i => dg D X G W U (i 1) := by
  funext j
  idx_vars j
  exact dg_up D X G W U _ _

theorem half_of : val_main_v58 (F := Ideal) (up D) = up fun i => 1 / 2 * D (ix2 (i 0) (i 1)) := by
  funext j
  idx_vars j
  pointwise [val_main_v58, val_main_v57, val_main_v56, val_main_cst_10]
  simp only [up, bits_half, ← EReal.coe_mul]

theorem dx_again : val_main_v59 (F := Ideal) (up D) (up X) (up G) (up W) (up U) = up fun i => dx D X G W U (i 0) (i 1) :=
  Eq.trans (by funext j; pointwise [val_main_v59]) (dx_of D X G W U)

end Cert.FfnReferenceIdeal.Read
end
-- ==== Proof.FfnKernelIdealLeft.lean ====
/- The frame of the feed-forward layer's backward kernel (FfnKernelIdeal): at the first point its body copies both weights into the
   scratch buffers, at the later points it reads them there; at every point it leaves four results' rows and adds to the fifth. -/
module

public import proofs.«01_k».proof.Proof.Slabs
public import proofs.«01_k».proof.Proof.Gen.FfnKernelIdeal.Frame
public import proofs.«01_k».proof.Proof.Gen.FfnKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfnKernelIdeal.Whole

open Cert.Slabs Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves -/

abbrev rx : Rect S256x1024 := Rect.unit ![0, 0] S256x1024.size inb_S256x1024_S256x1024_0_0
abbrev rg : Rect S1x1024 := Rect.unit ![0, 0] S1x1024.size inb_S1x1024_S1x1024_0_0
abbrev q0 : Rect S256x5632 := Rect.unit ![0, 0] S256x1408.size inb_S256x5632_S256x1408_0_0
abbrev q1 : Rect S256x5632 := Rect.unit ![0, 1408] S256x1408.size inb_S256x5632_S256x1408_0_1408
abbrev q2 : Rect S256x5632 := Rect.unit ![0, 2816] S256x1408.size inb_S256x5632_S256x1408_0_2816
abbrev q3 : Rect S256x5632 := Rect.unit ![0, 4224] S256x1408.size inb_S256x5632_S256x1408_0_4224

/-! By the loaded values: the gradients at the first halves of the gate and of the other columns, at their second halves, the gradient
    at the normed rows from the first halves, the rows of the gains' gradient, and the gradient at the rows. -/

section Loaded

variable (d x : Vec F S256x1024 .f32) (g : Vec F S1x1024 .f32) (p0 p1 p2 p3 : Vec F S256x1408 .bf16) (s0 s1 s2 s3 : Vec F S1x1024x1408 .bf16) (w0 w1 : Vec F S1408x1024 .bf16)

def gate0 : Vec F S256x1408 .bf16 := k0_pay32 d w0 p0 p2
def up0 : Vec F S256x1408 .bf16 := k0_pay33 d w0 p0
def gate1 : Vec F S256x1408 .bf16 := k0_pay38 (k0_pay27 d) w1 p1 p3
def up1 : Vec F S256x1408 .bf16 := k0_pay39 (k0_pay27 d) w1 p1
def mid : Vec F S256x1024 .f32 := k0_pay34 k0_pay28 (gate0 d p0 p2 w0) (up0 d p0 w0) s0 s2
def gains : Vec F S256x1024 .f32 := k0_pay42 (mid d p0 p2 s0 s2 w0) (gate1 d p1 p3 w1) (up1 d p1 w1) s1 s3 x
def rowsGrad : Vec F S256x1024 .f32 := k0_pay43 d (mid d p0 p2 s0 s2 w0) (gate1 d p1 p3 w1) (up1 d p1 w1) s1 s3 x g

/-! The first point computes the same by its own parts. -/

theorem gate0_first : k0_pay14 (k0_pay13 d w0 p0 p2) = gate0 d p0 p2 w0 := rfl
theorem up0_first : k0_pay15 (k0_pay9 d w0) (k0_pay12 p0) = up0 d p0 w0 := rfl
theorem gate1_first : k0_pay20 (k0_pay7 d) w1 p1 p3 = gate1 d p1 p3 w1 := rfl
theorem up1_first : k0_pay21 (k0_pay7 d) w1 p1 = up1 d p1 w1 := rfl
theorem mid_first : k0_pay16 k0_pay8 (k0_pay9 d w0) (k0_pay12 p0) (k0_pay13 d w0 p0 p2) s0 s2 = mid d p0 p2 s0 s2 w0 := rfl
theorem gains_first (a : Vec F S256x1024 .f32) (b c : Vec F S256x1408 .bf16) (e : Vec F S1x1024 .f32) :
    k0_pay4 (k0_pay25 a b c s1 s3 x) (k0_pay26 x) e = k0_pay6 (k0_pay42 a b c s1 s3 x) e := rfl
theorem rowsGrad_first (a : Vec F S256x1024 .f32) (b c : Vec F S256x1408 .bf16) :
    k0_pay2 d (k0_pay24 a b c s1 s3 x g) = k0_pay43 d a b c s1 s3 x g := rfl
theorem rowsGradB_first (a : Vec F S256x1024 .f32) (b c : Vec F S256x1408 .bf16) :
    k0_pay3 d (k0_pay24 a b c s1 s3 x g) = k0_pay5 (k0_pay43 d a b c s1 s3 x g) := rfl

end Loaded

section Left

variable (dy x : Vec F S256x1024 .f32) (gu : Vec F S256x5632 .bf16) (g : Vec F S1x1024 .f32) (W : Vec F S4x1024x1408 .bf16) (U : Vec F S2816x1024 .bf16)

/-- The gradient at the rows, -/
def leftX : Vec F S256x1024 .f32 :=
  View.canon [⟨rx, rowsGrad (View.ld dy rx) (View.ld x rx) (View.ld g rg) (View.ld gu q0) (View.ld gu q1) (View.ld gu q2) (View.ld gu q3) (View.ld W slab0) (View.ld W slab1) (View.ld W slab2) (View.ld W slab3) (View.ld U rows0) (View.ld U rows1)⟩]

/-- at the gate's and the other columns, -/
def leftGU : Vec F S256x5632 .bf16 :=
  View.canon [⟨q3, up1 (View.ld dy rx) (View.ld gu q1) (View.ld U rows1)⟩, ⟨q1, gate1 (View.ld dy rx) (View.ld gu q1) (View.ld gu q3) (View.ld U rows1)⟩,
    ⟨q2, up0 (View.ld dy rx) (View.ld gu q0) (View.ld U rows0)⟩, ⟨q0, gate0 (View.ld dy rx) (View.ld gu q0) (View.ld gu q2) (View.ld U rows0)⟩]

/-- the gains' gradient over `e` before, -/
def leftG (e : Vec F S1x1024 .f32) : Vec F S1x1024 .f32 :=
  k0_pay6 (gains (View.ld dy rx) (View.ld x rx) (View.ld gu q0) (View.ld gu q1) (View.ld gu q2) (View.ld gu q3) (View.ld W slab0) (View.ld W slab1) (View.ld W slab2) (View.ld W slab3) (View.ld U rows0) (View.ld U rows1)) e

/-- half the rows given, -/
def leftH : Vec F S256x1024 .bf16 := View.canon [⟨rx, k0_pay27 (View.ld dy rx)⟩]

/-- and the gradient at the rows again. -/
def leftB : Vec F S256x1024 .bf16 :=
  View.canon [⟨rx, k0_pay5 (rowsGrad (View.ld dy rx) (View.ld x rx) (View.ld g rg) (View.ld gu q0) (View.ld gu q1) (View.ld gu q2) (View.ld gu q3) (View.ld W slab0) (View.ld W slab1) (View.ld W slab2) (View.ld W slab3) (View.ld U rows0) (View.ld U rows1))⟩]

end Left

theorem coversR {e : EltTy} (p : rx.shape.Idx → Elt F e) (y : S256x1024.Idx) : ∃ q ∈ ([⟨rx, p⟩] : List (View.Piece (Elt F) S256x1024 e)), y ∈ q.1.set :=
  View.cover_of_tiled [⟨rx, p⟩] S256x1024.size (by rfl) y

theorem coversQ (p0 p1 p2 p3 : Vec F S256x1408 .bf16) (y : S256x5632.Idx) :
    ∃ p ∈ ([⟨q3, p3⟩, ⟨q1, p1⟩, ⟨q2, p2⟩, ⟨q0, p0⟩] : List (View.Piece (Elt F) S256x5632 .bf16)), y ∈ p.1.set :=
  View.cover_of_tiled (s := S256x5632) [⟨q3, p3⟩, ⟨q1, p1⟩, ⟨q2, p2⟩, ⟨q0, p0⟩] S256x1408.size (by rfl) y

theorem coversG (p : Vec F S1x1024 .f32) (L : List (View.Piece (Elt F) S1x1024 .f32)) (y : S1x1024.Idx) : ∃ q ∈ (⟨rg, p⟩ :: L), y ∈ q.1.set := by
  obtain ⟨q, hq, hy⟩ := View.cover_of_tiled (Val := Elt F) (e := .f32) [⟨rg, p⟩] S1x1024.size (by rfl) y
  exact ⟨q, List.mem_cons.mpr (Or.inl (List.mem_singleton.mp hq)), hy⟩

theorem wholeG (p : Vec F S1x1024 .f32) (L : List (View.Piece (Elt F) S1x1024 .f32)) : View.canon (Val := Elt F) (⟨rg, p⟩ :: L) = p :=
  View.canon_cons_unit_zero (by funext a; fin_cases a <;> rfl) _ p L

/-! The stores' payloads at the first point and at the later ones, by what was loaded. -/

section Payloads

variable {dy x : Vec F S256x1024 .f32} {gu : Vec F S256x5632 .bf16} {g : Vec F S1x1024 .f32} {W : Vec F S4x1024x1408 .bf16} {U : Vec F S2816x1024 .bf16}
  {d' x' : Vec F S256x1024 .f32} {g' : Vec F S1x1024 .f32} {p0 p1 p2 p3 : Vec F S256x1408 .bf16} {s0 s1 s2 s3 : Vec F S1x1024x1408 .bf16} {w0 w1 : Vec F S1408x1024 .bf16}
  (ed : d' = View.ld dy rx) (ex : x' = View.ld x rx) (eg : g' = View.ld g rg)
  (f0 : p0 = View.ld gu q0) (f1 : p1 = View.ld gu q1) (f2 : p2 = View.ld gu q2) (f3 : p3 = View.ld gu q3)
  (e0 : s0 = View.ld W slab0) (e1 : s1 = View.ld W slab1) (e2 : s2 = View.ld W slab2) (e3 : s3 = View.ld W slab3)
  (r0 : w0 = View.ld U rows0) (r1 : w1 = View.ld U rows1)

include ed

theorem firstH : View.canon (Val := Elt F) [⟨rx, k0_pay7 d'⟩] = leftH dy := by
  subst ed; rfl

theorem laterH : View.canon (Val := Elt F) [⟨rx, k0_pay27 d'⟩] = leftH dy := by
  subst ed; rfl

include f0 f1 f2 f3 r0 r1

theorem firstGU : View.canon (Val := Elt F) (s := S256x5632) [⟨q3, k0_pay21 (k0_pay7 d') w1 p1⟩, ⟨q1, k0_pay20 (k0_pay7 d') w1 p1 p3⟩, ⟨q2, k0_pay15 (k0_pay9 d' w0) (k0_pay12 p0)⟩, ⟨q0, k0_pay14 (k0_pay13 d' w0 p0 p2)⟩] = leftGU dy gu U := by
  subst ed f0 f1 f2 f3 r0 r1; rw [gate0_first, up0_first, gate1_first, up1_first]; rfl

theorem laterGU : View.canon (Val := Elt F) (s := S256x5632) [⟨q3, k0_pay39 (k0_pay27 d') w1 p1⟩, ⟨q1, k0_pay38 (k0_pay27 d') w1 p1 p3⟩, ⟨q2, k0_pay33 d' w0 p0⟩, ⟨q0, k0_pay32 d' w0 p0 p2⟩] = leftGU dy gu U := by
  subst ed f0 f1 f2 f3 r0 r1; rfl

include ex e0 e1 e2 e3

theorem firstG (e : Vec F S1x1024 .f32) (L : List (View.Piece (Elt F) S1x1024 .f32)) :
    View.canon (Val := Elt F) (s := S1x1024) (⟨rg, k0_pay4 (k0_pay25 (k0_pay16 k0_pay8 (k0_pay9 d' w0) (k0_pay12 p0) (k0_pay13 d' w0 p0 p2) s0 s2) (k0_pay20 (k0_pay7 d') w1 p1 p3) (k0_pay21 (k0_pay7 d') w1 p1) s1 s3 x') (k0_pay26 x') e⟩ :: L) = leftG dy x gu W U e := by
  subst ed ex f0 f1 f2 f3 e0 e1 e2 e3 r0 r1; rw [wholeG, gains_first, mid_first, gate1_first, up1_first]; rfl

theorem laterG (e : Vec F S1x1024 .f32) (L : List (View.Piece (Elt F) S1x1024 .f32)) :
    View.canon (Val := Elt F) (s := S1x1024) (⟨rg, k0_pay6 (k0_pay42 (k0_pay34 k0_pay28 (k0_pay32 d' w0 p0 p2) (k0_pay33 d' w0 p0) s0 s2) (k0_pay38 (k0_pay27 d') w1 p1 p3) (k0_pay39 (k0_pay27 d') w1 p1) s1 s3 x') e⟩ :: L) = leftG dy x gu W U e := by
  subst ed ex f0 f1 f2 f3 e0 e1 e2 e3 r0 r1; rw [wholeG]; rfl

include eg

theorem firstX : View.canon (Val := Elt F) (s := S256x1024) [⟨rx, k0_pay2 d' (k0_pay24 (k0_pay16 k0_pay8 (k0_pay9 d' w0) (k0_pay12 p0) (k0_pay13 d' w0 p0 p2) s0 s2) (k0_pay20 (k0_pay7 d') w1 p1 p3) (k0_pay21 (k0_pay7 d') w1 p1) s1 s3 x' g')⟩] = leftX dy x gu g W U := by
  subst ed ex eg f0 f1 f2 f3 e0 e1 e2 e3 r0 r1; rw [rowsGrad_first, mid_first, gate1_first, up1_first]; rfl

theorem laterX : View.canon (Val := Elt F) (s := S256x1024) [⟨rx, k0_pay43 d' (k0_pay34 k0_pay28 (k0_pay32 d' w0 p0 p2) (k0_pay33 d' w0 p0) s0 s2) (k0_pay38 (k0_pay27 d') w1 p1 p3) (k0_pay39 (k0_pay27 d') w1 p1) s1 s3 x' g'⟩] = leftX dy x gu g W U := by
  subst ed ex eg f0 f1 f2 f3 e0 e1 e2 e3 r0 r1; rfl

theorem firstB : View.canon (Val := Elt F) (s := S256x1024) [⟨rx, k0_pay3 d' (k0_pay24 (k0_pay16 k0_pay8 (k0_pay9 d' w0) (k0_pay12 p0) (k0_pay13 d' w0 p0 p2) s0 s2) (k0_pay20 (k0_pay7 d') w1 p1 p3) (k0_pay21 (k0_pay7 d') w1 p1) s1 s3 x' g')⟩] = leftB dy x gu g W U := by
  subst ed ex eg f0 f1 f2 f3 e0 e1 e2 e3 r0 r1; rw [rowsGradB_first, mid_first, gate1_first, up1_first]; rfl

theorem laterB : View.canon (Val := Elt F) (s := S256x1024) [⟨rx, k0_pay5 (k0_pay43 d' (k0_pay34 k0_pay28 (k0_pay32 d' w0 p0 p2) (k0_pay33 d' w0 p0) s0 s2) (k0_pay38 (k0_pay27 d') w1 p1 p3) (k0_pay39 (k0_pay27 d') w1 p1) s1 s3 x' g')⟩] = leftB dy x gu g W U := by
  subst ed ex eg f0 f1 f2 f3 e0 e1 e2 e3 r0 r1; rfl

end Payloads

end Cert.FfnKernelIdeal.Whole

end
-- ==== Proof.FfnKernelIdealBlock.lean ====
/- What one block of rows gives in the feed-forward layer's backward kernel, from real arrays. -/
module

public import proofs.«01_k».proof.Proof.FfnMath
public import proofs.«01_k».proof.Proof.FfnKernelIdealLeft

@[expose] public section

set_option maxRecDepth 16384
noncomputable section
open Idealize.ShloMosaic Idealize.ShloMosaic.TcCoe Idealize.SL.Sem

namespace Cert.FfnKernelIdeal.Block
open Cert.Slabs Cert.FfnKernelIdeal Cert.FfnKernelIdeal.Gen Cert.FfnKernelIdeal.Whole Cert.Reals Cert.Rms Cert.FfnMath

variable (d x : S256x1024.Idx → ℝ) (g : S1x1024.Idx → ℝ) (p p0 p1 p2 p3 : S256x1408.Idx → ℝ) (s0 s1 s2 s3 : S1x1024x1408.Idx → ℝ) (w w0 w1 : S1408x1024.Idx → ℝ)

/-- One row of a block. -/
abbrev brow (r : Fin 256) : Fin 1024 → ℝ := fun k => x (ix2 r k)

/-- The gradient at the gated products of half the columns; at the gates; at what they multiply. -/
def bda (r : Fin 256) (j : Fin 1408) : ℝ := ∑ k, 1 / 2 * d (ix2 r k) * w (ix2 j k)
def bgate (p q : S256x1408.Idx → ℝ) : S256x1408.Idx → ℝ := fun y => bda d w (y 0) (y 1) * q y * Cert.FfnMath.slope (p y)
def bother (p : S256x1408.Idx → ℝ) : S256x1408.Idx → ℝ := fun y => bda d w (y 0) (y 1) * (p y * sgm (p y))

/-- A product of a gradient with a slab. -/
def bprod (a : S256x1408.Idx → ℝ) (s : S1x1024x1408.Idx → ℝ) (r : Fin 256) (q : Fin 1024) : ℝ := ∑ k, a (ix2 r k) * s (ix3 0 q k)

/-- The gradient at the normed rows. -/
def bdh (r : Fin 256) (q : Fin 1024) : ℝ :=
  bprod (bgate d w0 p0 p2) s0 r q + bprod (bother d w0 p0) s2 r q + bprod (bgate d w1 p1 p3) s1 r q + bprod (bother d w1 p1) s3 r q

theorem half_block : k0_pay27 (F := Ideal) (up d) = up fun y => 1 / 2 * d y := by
  funext y
  pointwise [k0_pay27]
  simp only [up, bits_half, ← EReal.coe_mul]

theorem da_block (r : Fin 256) (j : Fin 1408) : k0_pay29 (F := Ideal) (up d) (up w) (ix2 r j) = (bda d w r j : ℝ) := by
  pointwise [k0_pay29, half_block]
  simp only [up, ← EReal.coe_mul, sum_up]
  rfl

theorem sgm_block (y : S256x1408.Idx) : k0_pay31 (F := Ideal) (up p) y = (sgm (p y) : ℝ) := by
  idx_vars y
  pointwise [k0_pay31, k0_pay30]
  simp only [up, zero_sub, ← EReal.coe_neg, Ideal.exp_coe, ← EReal.coe_one, ← EReal.coe_add]
  exact sgm_up _

theorem gate0_block : gate0 (F := Ideal) (up d) (up p0) (up p2) (up w0) = up (bgate d w0 p0 p2) := by
  funext y
  idx_vars y
  pointwise [gate0, k0_pay32, k0_pay30]
  simp only [da_block, sgm_block, up, ← EReal.coe_one, ← EReal.coe_sub, ← EReal.coe_mul, ← EReal.coe_add]
  rfl

theorem other0_block : up0 (F := Ideal) (up d) (up p0) (up w0) = up (bother d w0 p0) := by
  funext y
  idx_vars y
  pointwise [up0, k0_pay33, k0_pay30]
  simp only [da_block, sgm_block, up, ← EReal.coe_mul]
  rfl

theorem gate1_block : gate1 (F := Ideal) (up d) (up p1) (up p3) (up w1) = up (bgate d w1 p1 p3) :=
  Eq.trans rfl (gate0_block d p1 p3 w1)

theorem other1_block : up1 (F := Ideal) (up d) (up p1) (up w1) = up (bother d w1 p1) :=
  Eq.trans rfl (other0_block d p1 w1)

theorem dh_block (r : Fin 256) (q : Fin 1024) :
    k0_pay40 (F := Ideal) (mid (F := Ideal) (up d) (up p0) (up p2) (up s0) (up s2) (up w0)) (gate1 (F := Ideal) (up d) (up p1) (up p3) (up w1)) (up1 (F := Ideal) (up d) (up p1) (up w1)) (up s1) (up s3) (ix2 r q)
      = (bdh d p0 p1 p2 p3 s0 s1 s2 s3 w0 w1 r q : ℝ) := by
  unfold mid
  rw [gate0_block, other0_block, gate1_block, other1_block]
  pointwise [k0_pay40, k0_pay34, k0_pay28]
  simp only [up, ← EReal.coe_mul, sum_up, ← EReal.coe_add, zero_add]
  rfl

theorem inv_block (r : Fin 256) (q : Fin 1) : k0_pay41 (F := Ideal) (up x) (ix2 r q) = (inv 1024 (brow x r) : ℝ) := by
  pointwise [k0_pay41]
  simp only [up, bits_1024, bits_eps, ← EReal.coe_mul, sum_up, div_1024, ← EReal.coe_add]
  exact rsqrt_up (ms_pos (by norm_num) (brow x r))

/-- A block's gradient at the layer's input. -/
theorem dx_block (r : Fin 256) (q : Fin 1024) :
    rowsGrad (F := Ideal) (up d) (up x) (up g) (up p0) (up p1) (up p2) (up p3) (up s0) (up s1) (up s2) (up s3) (up w0) (up w1) (ix2 r q)
      = ((d (ix2 r q) + grad 1024 (brow x r) (fun k => bdh d p0 p1 p2 p3 s0 s1 s2 s3 w0 w1 r k * g (ix2 0 k)) q : ℝ) : EReal) := by
  pointwise [rowsGrad, k0_pay43]
  simp only [dh_block, inv_block, up, bits_1024, ← EReal.coe_mul, sum_up, div_1024, ← EReal.coe_sub, ← EReal.coe_add]
  rfl

/-- A block's share of the gradient at the norm's scale is added to what the row held. -/
theorem dg_block (acc : Vec Ideal S1x1024 .f32) (j : S1x1024.Idx) :
    k0_pay6 (F := Ideal) (gains (F := Ideal) (up d) (up x) (up p0) (up p1) (up p2) (up p3) (up s0) (up s1) (up s2) (up s3) (up w0) (up w1)) acc j
      = acc j + ((∑ r : Fin 256, bdh d p0 p1 p2 p3 s0 s1 s2 s3 w0 w1 r (j 1) * x (ix2 r (j 1)) * inv 1024 (brow x r) : ℝ) : EReal) := by
  idx_vars j
  pointwise [k0_pay6, gains, k0_pay42]
  simp only [dh_block, inv_block, up, ← EReal.coe_mul, sum_up]

end Cert.FfnKernelIdeal.Block
end
-- ==== Proof.FfnKernelIdealBody.lean ====
/- The body of the feed-forward layer's backward kernel (FfnKernelIdeal), at the first point and at the later ones. -/
module

public import proofs.«01_k».proof.Proof.FfnKernelIdealLeft
public import proofs.«01_k».proof.Proof.Gen.FfnKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfnKernelIdeal.Whole

open Cert.Slabs Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body -/

section Contents

variable {sp : Space} {s : Shape} {e : EltTy} (c : Dev nD) (a : Memref sig .tc sp s e) (f : BufTy.Contents (Elt F) a.view.ty)

/-- A buffer that reads as `x` is owned at `x`. -/
theorem reads_as (x : Vec F s e) (h : a.view.read (Elt F) f = x) :
    (a.view.loc (c : Thread nD τ) ↦[a.view.set]{fullShare} f : sProp 𝕄) ⊢ iprop(∃ f, ⌜a.view.read (Elt F) f = x⌝ ∗ (a.view.loc (c : Thread nD τ) ↦[a.view.set]{fullShare} f)) := by
  iintro H
  iexists _; isplitr; swap; · iexact H
  ipureintro; exact h

end Contents

/-- The kernel's own six semaphore cells at zero. -/
def cells (c : Dev nD) : sProp 𝕄 :=
  iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- The arrays of the weights, whole. -/
abbrev array : Memref sig .tc .hbm S4x1024x1408 .bf16 := Memref.whole main_v18
abbrev array' : Memref sig .tc .hbm S2816x1024 .bf16 := Memref.whole main_v19

/-- A whole array held at `f`. -/
abbrev held (c : Dev nD) {sp : Space} {s : Shape} {e : EltTy} (a : Memref sig .tc sp s e) (f : Buf (Elt F) (a.view.loc (c : Thread nD τ))) : sProp 𝕄 :=
  a.view.loc (c : Thread nD τ) ↦{fullShare} f

/-- The arrays of the weights held at `W` and `U`. -/
def weights (c : Dev nD) (W : Vec F S4x1024x1408 .bf16) (U : Vec F S2816x1024 .bf16) : sProp 𝕄 := iprop(held c array W ∗ held c array' U)

set_option maxHeartbeats 2000000 in set_option sl_exec.dmaWindow true in set_option sl_exec.dmaWindowSet true in
/-- The body at the first point: the six copies, each waited for before its part is read. -/
theorem first_point (c : Dev nD) (i : grid0.Coords) (a1 : Memref sig .tc .vmem S256x1024 .f32) (h1 : a1.IsWhole) (a2 : Memref sig .tc .vmem S256x1024 .f32) (h2 : a2.IsWhole) (a3 : Memref sig .tc .vmem S256x5632 .bf16) (h3 : a3.IsWhole) (a4 : Memref sig .tc .vmem S1x1024 .f32) (h4 : a4.IsWhole) (a7 : Memref sig .tc .vmem S256x1024 .f32) (h7 : a7.IsWhole) (a8 : Memref sig .tc .vmem S256x5632 .bf16) (h8 : a8.IsWhole) (a9 : Memref sig .tc .vmem S1x1024 .f32) (h9 : a9.IsWhole) (a10 : Memref sig .tc .vmem S256x1024 .bf16) (h10 : a10.IsWhole) (a11 : Memref sig .tc .vmem S256x1024 .bf16) (h11 : a11.IsWhole) (a12 : Memref sig .tc .vmem S4x1024x1408 .bf16) (h12 : a12.IsWhole) (a13 : Memref sig .tc .vmem S2816x1024 .bf16) (h13 : a13.IsWhole)
    (k1 : k0_cond1 i = 1#1) (k2 : k0_cond2 i = 1#1) (k3 : ¬k0_cond3 i = 1#1)
    (dy x : Vec F S256x1024 .f32) (gu : Vec F S256x5632 .bf16) (g : Vec F S1x1024 .f32) (W : Vec F S4x1024x1408 .bf16) (U : Vec F S2816x1024 .bf16) (O : Waits sig Unit) (K : PUnit → sProp 𝕄) :
    iprop(owns (c : Thread nD τ) a1 fullShare dy ∗ owns (c : Thread nD τ) a2 fullShare x ∗ owns (c : Thread nD τ) a3 fullShare gu ∗ owns (c : Thread nD τ) a4 fullShare g ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ ((∃ d, owns (c : Thread nD τ) a12 fullShare d) ∗ (∃ d, owns (c : Thread nD τ) a13 fullShare d)) ∗ cells c ∗ weights c W U ∗ owes (c : Thread nD τ) 0 O
        ∗ (iprop(owns (c : Thread nD τ) a1 fullShare dy ∗ owns (c : Thread nD τ) a2 fullShare x ∗ owns (c : Thread nD τ) a3 fullShare gu ∗ owns (c : Thread nD τ) a4 fullShare g ∗ owns (c : Thread nD τ) a7 fullShare (leftX dy x gu g W U) ∗ owns (c : Thread nD τ) a8 fullShare (leftGU dy gu U) ∗ owns (c : Thread nD τ) a9 fullShare (leftG dy x gu W U k0_pay1) ∗ owns (c : Thread nD τ) a10 fullShare (leftH dy) ∗ owns (c : Thread nD τ) a11 fullShare (leftB dy x gu g W U) ∗ (owns (c : Thread nD τ) a12 fullShare W ∗ owns (c : Thread nD τ) a13 fullShare U) ∗ cells c ∗ weights c W U ∗ (∃ O', owes (c : Thread nD τ) 0 O')) -∗ K ⟨⟩))
      ⊢ wp frame (wpE (defs₀ (F := F)) Variants.none c none) Set.univ (cc0_ffn_bwd i a1 h1 a2 h2 a3 h3 a4 h4 (Memref.whole main_v18) (Memref.isWhole_whole _) (Memref.whole main_v19) (Memref.isWhole_whole _) a7 h7 a8 h8 a9 h9 a10 h10 a11 h11 a12 h12 a13 h13 cc0_scratch2) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns cells weights
  iintro ⟨⟨%f1, %e1, H1⟩, ⟨%f2, %e2, H2⟩, ⟨%f3, %e3, H3⟩, ⟨%f4, %e4, H4⟩, ⟨%d7, %f7, -, H7⟩, ⟨%d8, %f8, -, H8⟩, ⟨%d9, %f9, -, H9⟩, ⟨%d10, %f10, -, H10⟩, ⟨%d11, %f11, -, H11⟩, ⟨⟨%d12, %f12, -, H12⟩, ⟨%d13, %f13, -, H13⟩⟩, ⟨Q0, Q1, Q2, Q3, Q4, Q5⟩, ⟨HA, HB⟩, HO, Hk⟩
  obtain rfl := h1.eq_unread e1; obtain rfl := h2.eq_unread e2; obtain rfl := h3.eq_unread e3; obtain rfl := h4.eq_unread e4
  sl_exec (disch := first | sl_exact k1 | sl_exact k2 | sl_exact k3)
  sl_step
  iapply Hk
  delta first_point.sl.r_10 first_point.sl.r_9 first_point.sl.r_8 first_point.sl.r_7 first_point.sl.r_6 first_point.sl.r_5 first_point.sl.r_4 first_point.sl.r_3 first_point.sl.r_2 first_point.sl.r_1 first_point.sl.r
  isplitl [H1]; · iapply (reads_as c a1 _ dy (h1.read_unread _)); iexact H1
  isplitl [H2]; · iapply (reads_as c a2 _ x (h2.read_unread _)); iexact H2
  isplitl [H3]; · iapply (reads_as c a3 _ gu (h3.read_unread _)); iexact H3
  isplitl [H4]; · iapply (reads_as c a4 _ g (h4.read_unread _)); iexact H4
  have d' : View.readAt (Elt F) a1.view rx.toLoadRect (h1.unread dy) = View.ld dy rx := by rw [View.readAt_eq_ld, h1.read_unread]
  have x' : View.readAt (Elt F) a2.view rx.toLoadRect (h2.unread x) = View.ld x rx := by rw [View.readAt_eq_ld, h2.read_unread]
  have g' : View.readAt (Elt F) a4.view rg.toLoadRect (h4.unread g) = View.ld g rg := by rw [View.readAt_eq_ld, h4.read_unread]
  have p0 : View.readAt (Elt F) a3.view q0.toLoadRect (h3.unread gu) = View.ld gu q0 := by rw [View.readAt_eq_ld, h3.read_unread]
  have p1 : View.readAt (Elt F) a3.view q1.toLoadRect (h3.unread gu) = View.ld gu q1 := by rw [View.readAt_eq_ld, h3.read_unread]
  have p2 : View.readAt (Elt F) a3.view q2.toLoadRect (h3.unread gu) = View.ld gu q2 := by rw [View.readAt_eq_ld, h3.read_unread]
  have p3 : View.readAt (Elt F) a3.view q3.toLoadRect (h3.unread gu) = View.ld gu q3 := by rw [View.readAt_eq_ld, h3.read_unread]
  have s0 : first_point.sl.v92 c a12 W f12 = View.ld W slab0 := by
    change View.readAt (Elt F) a12.view slab0.toLoadRect (copied a12.view f12 W) = _; rw [View.readAt_eq_ld, read_copied_all]
  have s1 : first_point.sl.v145 c a12 W f12 = View.ld W slab1 := by
    change View.readAt (Elt F) a12.view slab1.toLoadRect (copied a12.view f12 W) = _; rw [View.readAt_eq_ld, read_copied_all]
  have s2 : first_point.sl.v96 c a12 W f12 = View.ld W slab2 := by
    change View.readAt (Elt F) a12.view slab2.toLoadRect (copied a12.view f12 W) = _; rw [View.readAt_eq_ld, read_copied_all]
  have s3 : first_point.sl.v149 c a12 W f12 = View.ld W slab3 := by
    change View.readAt (Elt F) a12.view slab3.toLoadRect (copied a12.view f12 W) = _; rw [View.readAt_eq_ld, read_copied_all]
  have w0 : first_point.sl.v51 c a13 U = View.ld U rows0 := load_half _ U rows0
  have w1 : first_point.sl.v104 c a13 U = View.ld U rows1 := load_half _ U rows1
  have z0 : first_point.sl.v186 (F := F) c a9 = k0_pay1 := View.readCov_cons_toLoadRect _ _ _ _
  isplitl [H7]; · iapply (reads_as c a7 _ _ ((View.read_writes_eq_canon _ _ _ (coversR _)).trans (firstX d' x' g' p0 p1 p2 p3 s0 s1 s2 s3 w0 w1))); iexact H7
  isplitl [H8]; · iapply (reads_as c a8 _ _ ((View.read_writes_eq_canon _ _ _ (coversQ _ _ _ _)).trans (firstGU d' p0 p1 p2 p3 w0 w1))); iexact H8
  isplitl [H9]; · iapply (reads_as c a9 _ _ ((View.read_writes_eq_canon _ _ _ (coversG _ _)).trans ((firstG d' x' p0 p1 p2 p3 s0 s1 s2 s3 w0 w1 _ _).trans (congrArg (leftG dy x gu W U) z0)))); iexact H9
  isplitl [H10]; · iapply (reads_as c a10 _ _ ((View.read_writes_eq_canon _ _ _ (coversR _)).trans (firstH d'))); iexact H10
  isplitl [H11]; · iapply (reads_as c a11 _ _ ((View.read_writes_eq_canon _ _ _ (coversR _)).trans (firstB d' x' g' p0 p1 p2 p3 s0 s1 s2 s3 w0 w1))); iexact H11
  isplitl [H12 H13]
  · isplitl [H12]; · iapply (reads_as c a12 _ W (read_copied_all _ _ _)); iexact H12
    iapply (reads_as c a13 _ U ((View.read_writes_eq_canon _ _ _ (covers_halves U)).trans (canon_halves U))); iexact H13
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA HB]
  · isplitl [HA]; · iexact HA
    iexact HB
  iexists _; iexact HO

set_option maxHeartbeats 2000000 in
/-- The body at a later point: the weights are read in the scratch buffers. -/
theorem later_point (c : Dev nD) (i : grid0.Coords) (a1 : Memref sig .tc .vmem S256x1024 .f32) (h1 : a1.IsWhole) (a2 : Memref sig .tc .vmem S256x1024 .f32) (h2 : a2.IsWhole) (a3 : Memref sig .tc .vmem S256x5632 .bf16) (h3 : a3.IsWhole) (a4 : Memref sig .tc .vmem S1x1024 .f32) (h4 : a4.IsWhole) (a7 : Memref sig .tc .vmem S256x1024 .f32) (h7 : a7.IsWhole) (a8 : Memref sig .tc .vmem S256x5632 .bf16) (h8 : a8.IsWhole) (a9 : Memref sig .tc .vmem S1x1024 .f32) (h9 : a9.IsWhole) (a10 : Memref sig .tc .vmem S256x1024 .bf16) (h10 : a10.IsWhole) (a11 : Memref sig .tc .vmem S256x1024 .bf16) (h11 : a11.IsWhole) (a12 : Memref sig .tc .vmem S4x1024x1408 .bf16) (h12 : a12.IsWhole) (a13 : Memref sig .tc .vmem S2816x1024 .bf16) (h13 : a13.IsWhole)
    (k1 : ¬k0_cond1 i = 1#1) (k2 : ¬k0_cond2 i = 1#1) (k3 : k0_cond3 i = 1#1)
    (dy x : Vec F S256x1024 .f32) (gu : Vec F S256x5632 .bf16) (g : Vec F S1x1024 .f32) (W : Vec F S4x1024x1408 .bf16) (U : Vec F S2816x1024 .bf16) (e : Vec F S1x1024 .f32) (O : Waits sig Unit) (K : PUnit → sProp 𝕄) :
    iprop(owns (c : Thread nD τ) a1 fullShare dy ∗ owns (c : Thread nD τ) a2 fullShare x ∗ owns (c : Thread nD τ) a3 fullShare gu ∗ owns (c : Thread nD τ) a4 fullShare g ∗ (∃ d, owns (c : Thread nD τ) a7 fullShare d) ∗ (∃ d, owns (c : Thread nD τ) a8 fullShare d) ∗ owns (c : Thread nD τ) a9 fullShare e ∗ (∃ d, owns (c : Thread nD τ) a10 fullShare d) ∗ (∃ d, owns (c : Thread nD τ) a11 fullShare d) ∗ (owns (c : Thread nD τ) a12 fullShare W ∗ owns (c : Thread nD τ) a13 fullShare U) ∗ cells c ∗ weights c W U ∗ owes (c : Thread nD τ) 0 O
        ∗ (iprop(owns (c : Thread nD τ) a1 fullShare dy ∗ owns (c : Thread nD τ) a2 fullShare x ∗ owns (c : Thread nD τ) a3 fullShare gu ∗ owns (c : Thread nD τ) a4 fullShare g ∗ owns (c : Thread nD τ) a7 fullShare (leftX dy x gu g W U) ∗ owns (c : Thread nD τ) a8 fullShare (leftGU dy gu U) ∗ owns (c : Thread nD τ) a9 fullShare (leftG dy x gu W U e) ∗ owns (c : Thread nD τ) a10 fullShare (leftH dy) ∗ owns (c : Thread nD τ) a11 fullShare (leftB dy x gu g W U) ∗ (owns (c : Thread nD τ) a12 fullShare W ∗ owns (c : Thread nD τ) a13 fullShare U) ∗ cells c ∗ weights c W U ∗ (∃ O', owes (c : Thread nD τ) 0 O')) -∗ K ⟨⟩))
      ⊢ wp frame (wpE (defs₀ (F := F)) Variants.none c none) Set.univ (cc0_ffn_bwd i a1 h1 a2 h2 a3 h3 a4 h4 (Memref.whole main_v18) (Memref.isWhole_whole _) (Memref.whole main_v19) (Memref.isWhole_whole _) a7 h7 a8 h8 a9 h9 a10 h10 a11 h11 a12 h12 a13 h13 cc0_scratch2) K := by
  simp only [cc0_ffn_bwd_eq_skeleton]; unfold cc0_ffn_bwd_skel
  simp only [k0_part6_eq_skeleton, k0_part7_eq_skeleton, k0_part8_eq_skeleton]
  unfold owns cells weights
  iintro ⟨⟨%f1, %e1, H1⟩, ⟨%f2, %e2, H2⟩, ⟨%f3, %e3, H3⟩, ⟨%f4, %e4, H4⟩, ⟨%d7, %f7, -, H7⟩, ⟨%d8, %f8, -, H8⟩, ⟨%f9, %e9, H9⟩, ⟨%d10, %f10, -, H10⟩, ⟨%d11, %f11, -, H11⟩, ⟨⟨%f12, %e12, H12⟩, ⟨%f13, %e13, H13⟩⟩, ⟨Q0, Q1, Q2, Q3, Q4, Q5⟩, ⟨HA, HB⟩, HO, Hk⟩
  obtain rfl := h1.eq_unread e1; obtain rfl := h2.eq_unread e2; obtain rfl := h3.eq_unread e3; obtain rfl := h4.eq_unread e4; obtain rfl := h9.eq_unread e9; obtain rfl := h12.eq_unread e12; obtain rfl := h13.eq_unread e13
  sl_exec (disch := first | sl_exact k1 | sl_exact k2 | sl_exact k3)
  sl_step
  iapply Hk
  isplitl [H1]; · iapply (reads_as c a1 _ dy (h1.read_unread _)); iexact H1
  isplitl [H2]; · iapply (reads_as c a2 _ x (h2.read_unread _)); iexact H2
  isplitl [H3]; · iapply (reads_as c a3 _ gu (h3.read_unread _)); iexact H3
  isplitl [H4]; · iapply (reads_as c a4 _ g (h4.read_unread _)); iexact H4
  have d' : View.readAt (Elt F) a1.view rx.toLoadRect (h1.unread dy) = View.ld dy rx := by rw [View.readAt_eq_ld, h1.read_unread]
  have x' : View.readAt (Elt F) a2.view rx.toLoadRect (h2.unread x) = View.ld x rx := by rw [View.readAt_eq_ld, h2.read_unread]
  have g' : View.readAt (Elt F) a4.view rg.toLoadRect (h4.unread g) = View.ld g rg := by rw [View.readAt_eq_ld, h4.read_unread]
  have p0 : View.readAt (Elt F) a3.view q0.toLoadRect (h3.unread gu) = View.ld gu q0 := by rw [View.readAt_eq_ld, h3.read_unread]
  have p1 : View.readAt (Elt F) a3.view q1.toLoadRect (h3.unread gu) = View.ld gu q1 := by rw [View.readAt_eq_ld, h3.read_unread]
  have p2 : View.readAt (Elt F) a3.view q2.toLoadRect (h3.unread gu) = View.ld gu q2 := by rw [View.readAt_eq_ld, h3.read_unread]
  have p3 : View.readAt (Elt F) a3.view q3.toLoadRect (h3.unread gu) = View.ld gu q3 := by rw [View.readAt_eq_ld, h3.read_unread]
  have s0 : View.readAt (Elt F) a12.view slab0.toLoadRect (h12.unread W) = View.ld W slab0 := by rw [View.readAt_eq_ld, h12.read_unread]
  have s1 : View.readAt (Elt F) a12.view slab1.toLoadRect (h12.unread W) = View.ld W slab1 := by rw [View.readAt_eq_ld, h12.read_unread]
  have s2 : View.readAt (Elt F) a12.view slab2.toLoadRect (h12.unread W) = View.ld W slab2 := by rw [View.readAt_eq_ld, h12.read_unread]
  have s3 : View.readAt (Elt F) a12.view slab3.toLoadRect (h12.unread W) = View.ld W slab3 := by rw [View.readAt_eq_ld, h12.read_unread]
  have w0 : View.readAt (Elt F) a13.view rows0.toLoadRect (h13.unread U) = View.ld U rows0 := by rw [View.readAt_eq_ld, h13.read_unread]
  have w1 : View.readAt (Elt F) a13.view rows1.toLoadRect (h13.unread U) = View.ld U rows1 := by rw [View.readAt_eq_ld, h13.read_unread]
  isplitl [H7]; · iapply (reads_as c a7 _ _ ((View.read_writes_eq_canon _ _ _ (coversR _)).trans (laterX d' x' g' p0 p1 p2 p3 s0 s1 s2 s3 w0 w1))); iexact H7
  isplitl [H8]; · iapply (reads_as c a8 _ _ ((View.read_writes_eq_canon _ _ _ (coversQ _ _ _ _)).trans (laterGU d' p0 p1 p2 p3 w0 w1))); iexact H8
  have z : View.readAt (Elt F) a9.view rg.toLoadRect (h9.unread e) = e := by rw [View.readAt_eq_ld, h9.read_unread]; exact View.ld_unit_zero (by funext a; fin_cases a <;> rfl) _ e
  isplitl [H9]; · iapply (reads_as c a9 _ _ ((View.read_writes_eq_canon _ _ _ (coversG _ _)).trans ((laterG d' x' p0 p1 p2 p3 s0 s1 s2 s3 w0 w1 _ _).trans (congrArg (leftG dy x gu W U) z)))); iexact H9
  isplitl [H10]; · iapply (reads_as c a10 _ _ ((View.read_writes_eq_canon _ _ _ (coversR _)).trans (laterH d'))); iexact H10
  isplitl [H11]; · iapply (reads_as c a11 _ _ ((View.read_writes_eq_canon _ _ _ (coversR _)).trans (laterB d' x' g' p0 p1 p2 p3 s0 s1 s2 s3 w0 w1))); iexact H11
  isplitl [H12 H13]
  · isplitl [H12]; · iapply (reads_as c a12 _ W (h12.read_unread _)); iexact H12
    iapply (reads_as c a13 _ U (h13.read_unread _)); iexact H13
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA HB]
  · isplitl [HA]; · iexact HA
    iexact HB
  iexists _; iexact HO

end Cert.FfnKernelIdeal.Whole

end
-- ==== Proof.FfnKernelIdealFrame.lean ====
/- The frame of the feed-forward layer's backward kernel (FfnKernelIdeal), with its results named. -/
module

public import proofs.«01_k».proof.Proof.FfnKernelIdealBody
public import proofs.«01_k».proof.Proof.Gen.FfnKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfnKernelIdeal.Whole

open Cert.Slabs Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

abbrev st0 (t : Fin cfg0.N) : Memref sig .tc .vmem S256x1024 .f32 := win0_0.stage (cfg0.slots t 0)
abbrev st1 (t : Fin cfg0.N) : Memref sig .tc .vmem S256x1024 .f32 := win0_1.stage (cfg0.slots t 1)
abbrev st2 (t : Fin cfg0.N) : Memref sig .tc .vmem S256x5632 .bf16 := win0_2.stage (cfg0.slots t 2)
abbrev st3 (t : Fin cfg0.N) : Memref sig .tc .vmem S1x1024 .f32 := win0_3.stage (cfg0.slots t 3)
abbrev st4 (t : Fin cfg0.N) : Memref sig .tc .vmem S256x1024 .f32 := win0_4.stage (cfg0.slots t 4)
abbrev st5 (t : Fin cfg0.N) : Memref sig .tc .vmem S256x5632 .bf16 := win0_5.stage (cfg0.slots t 5)
abbrev st6 (t : Fin cfg0.N) : Memref sig .tc .vmem S1x1024 .f32 := win0_6.stage (cfg0.slots t 6)
abbrev st7 (t : Fin cfg0.N) : Memref sig .tc .vmem S256x1024 .bf16 := win0_7.stage (cfg0.slots t 7)
abbrev st8 (t : Fin cfg0.N) : Memref sig .tc .vmem S256x1024 .bf16 := win0_8.stage (cfg0.slots t 8)

/-- The scratch buffers. -/
abbrev scratch : Memref sig .tc .vmem S4x1024x1408 .bf16 := Memref.whole cc0_scratch0
abbrev scratch' : Memref sig .tc .vmem S2816x1024 .bf16 := Memref.whole cc0_scratch1

/-- The scratch buffers before point `n`: anything at first, the weights later. -/
def slabs (c : Dev nD) (n : ℕ) : sProp 𝕄 :=
  if n = 0 then iprop((∃ d, owns (c : Thread nD τ) scratch fullShare d) ∗ (∃ d, owns (c : Thread nD τ) scratch' fullShare d))
  else iprop(owns (c : Thread nD τ) scratch fullShare (V m c main_v18) ∗ owns (c : Thread nD τ) scratch' fullShare (V m c main_v19))

theorem slabs_zero (c : Dev nD) : slabs m c 0 = iprop((∃ d, owns (c : Thread nD τ) scratch fullShare d) ∗ (∃ d, owns (c : Thread nD τ) scratch' fullShare d)) := if_pos rfl
theorem slabs_pos (c : Dev nD) {n : ℕ} (h : n ≠ 0) : slabs m c n = iprop(owns (c : Thread nD τ) scratch fullShare (V m c main_v18) ∗ owns (c : Thread nD τ) scratch' fullShare (V m c main_v19)) := if_neg h

/-- What is held beside the windows before point `n`. -/
def beside (c : Dev nD) (n : ℕ) : sProp 𝕄 := iprop(slabs m c n ∗ (∃ r, prngReg c r) ∗ cells c ∗ weights c (V m c main_v18) (V m c main_v19))

/-- The kernel's own semaphores. -/
abbrev own : Fin 6 → SemLoc sig := ![SemLoc.dma 16, SemLoc.dma 17, SemLoc.dma 18, SemLoc.dma 19, SemLoc.dma 20, SemLoc.dma 21]

theorem own_facts : Pipeline.OwnSemFacts spec0 own := by decide

/-- The arrays the body reads itself. -/
def direct : Finset (Ref sig .tc) := {main_v18, main_v19}

theorem direct_sub : direct ⊆ Pipeline.restRefs sig spec0 := by decide

/-- What the launch hands over is what is held before the first point. -/
theorem handed (c : Dev nD) : (Pipeline.ΦD own spec0 direct (V m) c : sProp 𝕄) = beside m c 0 := by
  have e1 : (Pipeline.ownSems0 (Ix := Unit) (Name := ℕ) (U := Pipeline.UD sig nD τ) (Lvl := ℕ) (Val := Elt F) (τ := τ) own c : sProp 𝕄) = cells c := by
    rw [Pipeline.ownSems0_eq_of_list c own [0, 1, 2, 3, 4, 5] (by decide) (by decide)]; rfl
  have e2 : (bigSep direct (fun b => (((c : Thread nD τ)).loc b) ↦{fullShare} V m c b) : sProp 𝕄) = weights c (V m c main_v18) (V m c main_v19) := by
    rw [BI.bigSep_eq_bigSepL_of_eq [main_v18, main_v19] (by decide) (by decide)]; rfl
  unfold beside
  rw [Pipeline.ΦD_eq, scopedRest0_eq, e1, e2, slabs_zero]
  simp only [scratch, scratch', owns_whole]
  try rfl

/-- What is held after the last point is handed back. -/
theorem back (c : Dev nD) (n : ℕ) : beside m c n ⊢ beside m c 0 := by
  by_cases h : n = 0
  · subst h; exact .rfl
  · unfold beside
    rw [slabs_zero, slabs_pos m c h]
    iintro ⟨⟨S, S'⟩, R⟩
    isplitl [S S']
    · isplitl [S]
      · iexists _; iexact S
      · iexists _; iexact S'
    iexact R

/-- The gains' gradient over the points before `n`. -/
def sums (c : Dev nD) : ℕ → Vec F S1x1024 .f32
  | 0 => k0_pay1
  | n + 1 => if h : n < cfg0.N then leftG (iblk m c 0 ⟨n, h⟩) (iblk m c 1 ⟨n, h⟩) (iblk m c 2 ⟨n, h⟩) (V m c main_v18) (V m c main_v19) (sums c n) else sums c n

theorem sums_succ (c : Dev nD) (t : Fin cfg0.N) : sums m c (t.val + 1) = leftG (iblk m c 0 t) (iblk m c 1 t) (iblk m c 2 t) (V m c main_v18) (V m c main_v19) (sums m c t.val) := dif_pos t.isLt

/-- The proof data: the arrays as the call finds them, the inputs' blocks kept, the results' blocks as the body leaves them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftX (iblk m c 0 t) (iblk m c 1 t) (iblk m c 2 t) (iblk m c 3 t) (V m c main_v18) (V m c main_v19)
    | ⟨5, _⟩ => leftGU (iblk m c 0 t) (iblk m c 2 t) (V m c main_v19)
    | ⟨6, _⟩ => sums m c (t.val + 1)
    | ⟨7, _⟩ => leftH (iblk m c 0 t)
    | ⟨8, _⟩ => leftB (iblk m c 0 t) (iblk m c 1 t) (iblk m c 2 t) (iblk m c 3 t) (V m c main_v18) (V m c main_v19)
  Φ t := beside m c t.val
  q _ := fullShare
  owed _ := 0

theorem A_eq (c : Dev nD) (w : Fin cfg0.W) : (dats m 0 c).A w = V m c (Pipeline.arrRef spec0 w) := by
  dsimp only [dats]

section Windows

variable (c : Dev nD) (t : Fin cfg0.N)

theorem kept_0 : (dats m 0 c).after 0 t = iblk m c 0 t := by dsimp only [dats]
theorem kept_1 : (dats m 0 c).after 1 t = iblk m c 1 t := by dsimp only [dats]
theorem kept_2 : (dats m 0 c).after 2 t = iblk m c 2 t := by dsimp only [dats]
theorem kept_3 : (dats m 0 c).after 3 t = iblk m c 3 t := by dsimp only [dats]
theorem left_4 : (dats m 0 c).after 4 t = leftX (iblk m c 0 t) (iblk m c 1 t) (iblk m c 2 t) (iblk m c 3 t) (V m c main_v18) (V m c main_v19) := by dsimp only [dats]
theorem left_5 : (dats m 0 c).after 5 t = leftGU (iblk m c 0 t) (iblk m c 2 t) (V m c main_v19) := by dsimp only [dats]
theorem left_6 : (dats m 0 c).after 6 t = sums m c (t.val + 1) := by dsimp only [dats]
theorem left_7 : (dats m 0 c).after 7 t = leftH (iblk m c 0 t) := by dsimp only [dats]
theorem left_8 : (dats m 0 c).after 8 t = leftB (iblk m c 0 t) (iblk m c 1 t) (iblk m c 2 t) (iblk m c 3 t) (V m c main_v18) (V m c main_v19) := by dsimp only [dats]

theorem found_0 (d) : (dats m 0 c).before 0 t d = iblk m c 0 t :=
  ((dats m 0 c).before_in_eq_fetched 0 rfl (fun _ => rfl) (fun _ _ _ => rfl) (fun t => by rw [kept_0]; unfold Dat.blockOf iblk; rw [A_eq]; try rfl) t d).trans
    (by unfold Dat.fetched Dat.blockOf iblk; rw [A_eq]; try rfl)
theorem found_1 (d) : (dats m 0 c).before 1 t d = iblk m c 1 t :=
  ((dats m 0 c).before_in_eq_fetched 1 rfl (fun _ => rfl) (fun _ _ _ => rfl) (fun t => by rw [kept_1]; unfold Dat.blockOf iblk; rw [A_eq]; try rfl) t d).trans
    (by unfold Dat.fetched Dat.blockOf iblk; rw [A_eq]; try rfl)
theorem found_2 (d) : (dats m 0 c).before 2 t d = iblk m c 2 t :=
  ((dats m 0 c).before_in_eq_fetched 2 rfl (fun _ => rfl) (fun _ _ _ => rfl) (fun t => by rw [kept_2]; unfold Dat.blockOf iblk; rw [A_eq]; try rfl) t d).trans
    (by unfold Dat.fetched Dat.blockOf iblk; rw [A_eq]; try rfl)
theorem found_3 (d) : (dats m 0 c).before 3 t d = iblk m c 3 t :=
  ((dats m 0 c).before_in_eq_fetched 3 rfl (fun _ => rfl) (fun _ _ _ => rfl) (fun t => by rw [kept_3]; unfold Dat.blockOf iblk; rw [A_eq]; try rfl) t d).trans
    (by unfold Dat.fetched Dat.blockOf iblk; rw [A_eq]; try rfl)

/-- The gains' gradient is stored into at every point. -/
theorem busy : ∀ i : cfg0.grid.Coords, cfg0.idle 6 i = false := (by decide +kernel : ∀ i : grid0.Coords, idle0 6 i = false)

/-- After the first point the gains' gradient stands as the point before left it. -/
theorem found_6 (h : t.val ≠ 0) (d) : (dats m 0 c).before 6 t d = sums m c t.val := by
  have hN : t.val < 8 := lt_of_lt_of_eq t.isLt (show cfg0.N = 8 from N_0)
  rw [Dat.before_out_kept _ 6 rfl t h (Bool.eq_false_iff.mpr fun k => by have := (flush0_6 _).mp k; dsimp only at this; omega) busy (fun _ _ => rfl)]
  refine (left_6 m c _).trans (congrArg (sums m c) ?_)
  exact Nat.succ_pred_eq_of_ne_zero h

end Windows

/-- The first two branches are taken at the first point only, -/
theorem zero_iff : ∀ t : Fin cfg0.N, k0_cond1 (grid0.coords t) = 1#1 ↔ t.val = 0 :=
  (by decide +kernel : ∀ t : Fin grid0.N, k0_cond1 (grid0.coords t) = 1#1 ↔ t.val = 0)
theorem first_iff : ∀ t : Fin cfg0.N, k0_cond2 (grid0.coords t) = 1#1 ↔ t.val = 0 :=
  (by decide +kernel : ∀ t : Fin grid0.N, k0_cond2 (grid0.coords t) = 1#1 ↔ t.val = 0)

/-- and the third at the others. -/
theorem later_iff : ∀ t : Fin cfg0.N, k0_cond3 (grid0.coords t) = 1#1 ↔ t.val ≠ 0 :=
  (by decide +kernel : ∀ t : Fin grid0.N, k0_cond3 (grid0.coords t) = 1#1 ↔ t.val ≠ 0)

/-- The gains' gradient before a point: anything at first, the sum so far later. -/
def sofar (c : Dev nD) (t : Fin cfg0.N) : sProp 𝕄 :=
  if t.val = 0 then iprop(∃ d, owns (c : Thread nD τ) (st6 t) fullShare d) else owns (c : Thread nD τ) (st6 t) fullShare (sums m c t.val)

theorem sofar_of (c : Dev nD) (t : Fin cfg0.N) : iprop(∃ d, owns (c : Thread nD τ) (st6 t) fullShare ((dats m 0 c).before 6 t d)) ⊢ sofar m c t := by
  unfold sofar
  by_cases h : t.val = 0
  · rw [if_pos h]; iintro ⟨%d, H⟩; iexists _; iexact H
  · rw [if_neg h]; simp only [found_6 m c t h]; iintro ⟨%d, H⟩; iexact H

/-- The body at a point, from what the point before left in the scratch buffers. -/
theorem point (c : Dev nD) (t : Fin cfg0.N) (O : Waits sig Unit) (K : PUnit → sProp 𝕄) :
    iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ (∃ d, owns (c : Thread nD τ) (st4 t) fullShare d) ∗ (∃ d, owns (c : Thread nD τ) (st5 t) fullShare d) ∗ sofar m c t ∗ (∃ d, owns (c : Thread nD τ) (st7 t) fullShare d) ∗ (∃ d, owns (c : Thread nD τ) (st8 t) fullShare d) ∗ slabs m c t.val ∗ cells c ∗ weights c (V m c main_v18) (V m c main_v19) ∗ owes (c : Thread nD τ) 0 O
        ∗ (iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (leftX (iblk m c 0 t) (iblk m c 1 t) (iblk m c 2 t) (iblk m c 3 t) (V m c main_v18) (V m c main_v19)) ∗ owns (c : Thread nD τ) (st5 t) fullShare (leftGU (iblk m c 0 t) (iblk m c 2 t) (V m c main_v19)) ∗ owns (c : Thread nD τ) (st6 t) fullShare (sums m c (t.val + 1)) ∗ owns (c : Thread nD τ) (st7 t) fullShare (leftH (iblk m c 0 t)) ∗ owns (c : Thread nD τ) (st8 t) fullShare (leftB (iblk m c 0 t) (iblk m c 1 t) (iblk m c 2 t) (iblk m c 3 t) (V m c main_v18) (V m c main_v19)) ∗ slabs m c (t.val + 1) ∗ cells c ∗ weights c (V m c main_v18) (V m c main_v19) ∗ (∃ O', owes (c : Thread nD τ) 0 O')) -∗ K ⟨⟩))
      ⊢ wp frame (wpE (defs₀ (F := F)) Variants.none c none) Set.univ (bodyAt0 t) K := by
  unfold bodyAt0 sofar
  rw [slabs_pos m c (Nat.succ_ne_zero t.val), sums_succ]
  by_cases h : t.val = 0
  · rw [h, slabs_zero, if_pos rfl]
    exact first_point c (grid0.coords t) _ _ _ _ _ _ _ _ _ _ _ _ _ _ _ _ _ _ _ _ _ _ ((zero_iff t).mpr h) ((first_iff t).mpr h) (fun k => (later_iff t).mp k h) (iblk m c 0 t) (iblk m c 1 t) (iblk m c 2 t) (iblk m c 3 t) (V m c main_v18) (V m c main_v19) O K
  · rw [slabs_pos m c h, if_neg h]
    exact later_point c (grid0.coords t) _ _ _ _ _ _ _ _ _ _ _ _ _ _ _ _ _ _ _ _ _ _ (fun k => h ((zero_iff t).mp k)) (fun k => h ((first_iff t).mp k)) ((later_iff t).mpr h) (iblk m c 0 t) (iblk m c 1 t) (iblk m c 2 t) (iblk m c 3 t) (V m c main_v18) (V m c main_v19) (sums m c t.val) O K

/-- The body at a point: from the blocks it finds to the blocks it keeps and those it leaves. -/
theorem body_sound (c : Dev nD) (t : Fin cfg0.N) :
    iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)))
      ⊢ wp frame (wpE (defs₀ (F := F)) Variants.none c none) Set.univ (bodyAt0 t) (fun _ => iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ owns (c : Thread nD τ) (st7 t) fullShare ((dats m 0 c).after 7 t) ∗ owns (c : Thread nD τ) (st8 t) fullShare ((dats m 0 c).after 8 t))) := by
  simp only [found_0, found_1, found_2, found_3]
  rw [kept_0, kept_1, kept_2, kept_3, left_4, left_5, left_6, left_7, left_8, show (dats m 0 c).Φ t.castSucc = beside m c t.val from rfl,
    show (dats m 0 c).Φ t.succ = beside m c (t.val + 1) from rfl]
  unfold beside Dat.owesAt Pipeline.owesWithin
  rw [show (dats m 0 c).owed t.castSucc = 0 from rfl, show (dats m 0 c).owed t.succ = 0 from rfl]
  iintro ⟨⟨S, G, Q, A⟩, ⟨%O, -, HO⟩, ⟨%d0, H0⟩, ⟨%d1, H1⟩, ⟨%d2, H2⟩, ⟨%d3, H3⟩, ⟨%d4, H4⟩, ⟨%d5, H5⟩, H6, ⟨%d7, H7⟩, ⟨%d8, H8⟩⟩
  iapply (point m c t O _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iapply (sofar_of m c t); iexact H6
  isplitl [H7]; · iexists _; iexact H7
  isplitl [H8]; · iexists _; iexact H8
  isplitl [S]; · iexact S
  isplitl [Q]; · iexact Q
  isplitl [A]; · iexact A
  isplitl [HO]; · iexact HO
  iintro ⟨H0, H1, H2, H3, H4, H5, H6, H7, H8, S, Q, A, ⟨%O', HO⟩⟩
  isplitl [S G Q A]
  · isplitl [S]; · iexact S
    isplitl [G]; · iexact G
    isplitl [Q]; · iexact Q
    iexact A
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the table of bodies is the body at the point. -/
theorem row (t : Fin cfg0.N) : defs₀ (F := F) .tc cfg0.body (cfg0.bodyArgs t (cfg0.slots t)) = bodyAt0 t := by
  unfold defs₀; rw [Defs.onTc_tc]

/-- Every result is stored into at every point. -/
theorem busy_4 : ∀ t : Fin grid0.N, idle0 4 (grid0.coords t) = false := by decide +kernel
theorem busy_5 : ∀ t : Fin grid0.N, idle0 5 (grid0.coords t) = false := by decide +kernel
theorem busy_6 : ∀ t : Fin grid0.N, idle0 6 (grid0.coords t) = false := by decide +kernel
theorem busy_7 : ∀ t : Fin grid0.N, idle0 7 (grid0.coords t) = false := by decide +kernel
theorem busy_8 : ∀ t : Fin grid0.N, idle0 8 (grid0.coords t) = false := by decide +kernel

theorem obligation (c : Dev nD) : BodyObligation (dats (F := F) m 0 c) (defs₀ (F := F)) Variants.none () Set.univ := fun t => by
  rw [bigSep_W0, bigSep_W0, row]
  simp only [busy_4 t, busy_5 t, busy_6 t, busy_7 t, busy_8 t]
  exact triple_restated (body_sound m c t) rfl .rfl fun _ => .rfl

/-- The host's operations before the call. -/
theorem before_call : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data say, every other array as found, and every counter at zero. -/
theorem ends : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 own defs₀ Variants.none own_facts direct direct_sub m ρ main
    (hbody := fun c => (obligation m c).loose) (hshare := fun c => (dats m 0 c).share_full fun _ => rfl)
    (howed := fun _ _ => rfl) (V := V m) (hmain := before_call m) (hA := A_eq m)
    (hin := fun c => (handed m c).le) (hout := fun c => (back m c _).trans (handed m c).ge)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 3).trans (((dats m 0 c).arrAt_in 3 rfl _).trans ((A_eq m c 3).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (ends m ρ)

end Cert.FfnKernelIdeal.Whole

end
-- ==== Proof.FfnArrays.lean ====
/- What the feed-forward layer's backward kernel leaves in its five arrays, from real arrays. -/
module

public import proofs.«01_k».proof.Proof.FfnRef
public import proofs.«01_k».proof.Proof.FfnKernelIdealBlock
public import proofs.«01_k».proof.Proof.FfnKernelIdealFrame

@[expose] public section

set_option maxRecDepth 16384
noncomputable section
open Idealize.ShloMosaic Idealize.ShloMosaic.TcCoe Idealize.SL.Sem

namespace Cert.FfnKernelIdeal.Arrays
open Cert.Slabs Cert.FfnKernelIdeal Cert.FfnKernelIdeal.Gen Cert.FfnKernelIdeal.Whole Cert.FfnKernelIdeal.Block Cert.Reals Cert.Rms Cert.FfnMath

variable (m : (ℓ : Loc nD τ sig) → Buf (Elt Ideal) ℓ) (c : Dev nD)
variable (D X : S2048x1024.Idx → ℝ) (G : S1x1024.Idx → ℝ) (W : S1024x5632.Idx → ℝ) (U : S2816x1024.Idx → ℝ)

/-! ## The blocks and their parts -/

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ t.val < 8 :=
  (by decide +kernel : ∀ t : Fin grid0.N, _)

/-- The token that row `r` of point `t`'s block is. -/
abbrev tok (t : Fin cfg0.N) (r : Fin 256) : Fin 2048 := ⟨t.val * 256 + r.val, by have := (idx t).2.2.2.2.2.2.2.2.2; omega⟩

/-- The rows of an array that point `t`'s block holds. -/
abbrev rows {w : ℕ} (A : (⟨2, ![2048, w]⟩ : Shape).Idx → ℝ) (t : Fin cfg0.N) : (⟨2, ![256, w]⟩ : Shape).Idx → ℝ :=
  fun y => A (ix2 (tok t (y 0)) (y 1))

/-- A quarter of a block's columns; of the wide weights'; half of the narrow weights' rows: each from number `o` on. -/
abbrev cols (o : ℕ) (ho : o + 1408 ≤ 5632) (B : S256x5632.Idx → ℝ) : S256x1408.Idx → ℝ :=
  fun y => B (ix2 (y 0) ⟨o + (y 1).val, by have := (y 1).isLt; change _ < 1408 at this; omega⟩)
abbrev slab (o : ℕ) (ho : o + 1408 ≤ 5632) : S1x1024x1408.Idx → ℝ :=
  fun y => W (ix2 (y 1) ⟨o + (y 2).val, by have := (y 2).isLt; change _ < 1408 at this; omega⟩)
abbrev half (o : ℕ) (ho : o + 1408 ≤ 2816) : S1408x1024.Idx → ℝ :=
  fun y => U (ix2 ⟨o + (y 0).val, by have := (y 0).isLt; change _ < 1408 at this; omega⟩ (y 1))

/-- The products that the forward pass saved. -/
abbrev saved : S2048x5632.Idx → ℝ := fun i => gu X G W (i 0) (i 1)

section Quarters
variable (t : Fin cfg0.N) (o o' : ℕ) (ho : o + 1408 ≤ 2816) (ho' : o' = 2816 + o)

/-- A block's gradients at the gates and at what they multiply are the arrays' at the block's rows. -/
theorem gate_eq (r : Fin 256) (j : Fin 1408) :
    bgate (rows D t) (half U o ho) (cols o (by omega) (rows (saved X G W) t)) (cols o' (by omega) (rows (saved X G W) t)) (ix2 r j)
      = dgu D X G W U (tok t r) ⟨o + j.val, by omega⟩ := by
  subst ho'
  have h : o + j.val < 2816 := by omega
  refine Eq.trans ?_ (dif_pos h).symm
  exact congrArg (fun k => da D U (tok t r) ⟨o + j.val, h⟩ * gu X G W (tok t r) k * Cert.FfnMath.slope (gu X G W (tok t r) ⟨o + j.val, by omega⟩))
    (Fin.ext (Nat.add_assoc _ _ _))

include ho' in
theorem other_eq (r : Fin 256) (j : Fin 1408) :
    bother (rows D t) (half U o ho) (cols o (by omega) (rows (saved X G W) t)) (ix2 r j)
      = dgu D X G W U (tok t r) ⟨o' + j.val, by omega⟩ := by
  subst ho'
  have h : ¬ 2816 + o + j.val < 2816 := by omega
  refine Eq.trans ?_ (dif_neg h).symm
  have e : (⟨2816 + o + j.val - 2816, by omega⟩ : Fin 2816) = ⟨o + j.val, by omega⟩ := Fin.ext (by show 2816 + o + j.val - 2816 = o + j.val; omega)
  exact (congrArg (dother D X G W U (tok t r)) e).symm

theorem gate_prod (r : Fin 256) (q : Fin 1024) :
    bprod (bgate (rows D t) (half U o ho) (cols o (by omega) (rows (saved X G W) t)) (cols o' (by omega) (rows (saved X G W) t))) (slab W o (by omega)) r q
      = ∑ k : Fin 1408, dgu D X G W U (tok t r) ⟨o + k.val, by omega⟩ * W (ix2 q ⟨o + k.val, by omega⟩) :=
  Finset.sum_congr rfl fun k _ => congrArg (· * _) (gate_eq D X G W U t o o' ho ho' r k)

include ho' in
theorem other_prod (r : Fin 256) (q : Fin 1024) :
    bprod (bother (rows D t) (half U o ho) (cols o (by omega) (rows (saved X G W) t))) (slab W o' (by omega)) r q
      = ∑ k : Fin 1408, dgu D X G W U (tok t r) ⟨o' + k.val, by omega⟩ * W (ix2 q ⟨o' + k.val, by omega⟩) :=
  Finset.sum_congr rfl fun k _ => congrArg (· * _) (other_eq D X G W U t o o' ho ho' r k)

end Quarters

/-- The kernel's four products are the one product over all columns. -/
theorem bdh_eq (t : Fin cfg0.N) (r : Fin 256) (q : Fin 1024) :
    bdh (rows D t) (cols 0 (by decide) (rows (saved X G W) t)) (cols 1408 (by decide) (rows (saved X G W) t)) (cols 2816 (by decide) (rows (saved X G W) t))
        (cols 4224 (by decide) (rows (saved X G W) t)) (slab W 0 (by decide)) (slab W 1408 (by decide)) (slab W 2816 (by decide)) (slab W 4224 (by decide))
        (half U 0 (by decide)) (half U 1408 (by decide)) r q
      = dh D X G W U (tok t r) q := by
  unfold bdh dh
  rw [gate_prod D X G W U t 0 2816 _ rfl, other_prod D X G W U t 0 2816 _ rfl, gate_prod D X G W U t 1408 4224 _ rfl, other_prod D X G W U t 1408 4224 _ rfl]
  exact sum_quarters fun j => dgu D X G W U (tok t r) j * W (ix2 q j)

/-! ## The loads -/

theorem zero2 : (![0, 0] : Fin 2 → ℕ) = fun _ => 0 := by funext a; fin_cases a <;> rfl

theorem ld_rows (A : S256x1024.Idx → EReal) : View.ld (Val := Elt Ideal) (e' := .f32) A rx = A := View.ld_unit_zero (Val := Elt Ideal) (e := .f32) zero2 _ A
theorem ld_scale (A : S1x1024.Idx → EReal) : View.ld (Val := Elt Ideal) (e' := .f32) A rg = A := View.ld_unit_zero (Val := Elt Ideal) (e := .f32) zero2 _ A

theorem ld_cols (B : S256x5632.Idx → ℝ) (o : ℕ) (ho : o + 1408 ≤ 5632) (inb) :
    View.ld (Val := Elt Ideal) (e' := .bf16) (up B) (Rect.unit (s := S256x5632) ![0, o] S256x1408.size inb) = up (cols o ho B) := by
  funext y
  refine congrArg (up B) (funext fun a => Fin.ext ?_)
  fin_cases a <;> simp [ix2]

theorem ld_half (o : ℕ) (ho : o + 1408 ≤ 2816) (inb) :
    View.ld (Val := Elt Ideal) (e' := .bf16) (up U) (Rect.unit (s := S2816x1024) ![o, 0] S1408x1024.size inb) = up (half U o ho) := by
  funext y
  refine congrArg (up U) (funext fun a => Fin.ext ?_)
  fin_cases a <;> simp [ix2]

/-- The wide weights as the host cuts them: column `q` of slab `k` is column `1408 k + q`. -/
abbrev cut : S4x1024x1408.Idx → ℝ :=
  fun i => W (ix2 (i 1) ⟨1408 * (i 0).val + (i 2).val, by have h0 := (i 0).isLt; have h2 := (i 2).isLt; change _ < 4 at h0; change _ < 1408 at h2; omega⟩)

theorem ld_slab (k : ℕ) (o : ℕ) (hk : o = 1408 * k) (ho : o + 1408 ≤ 5632) (inb) :
    View.ld (Val := Elt Ideal) (e' := .bf16) (up (cut W)) (Rect.unit (s := S4x1024x1408) ![k, 0, 0] S1x1024x1408.size inb) = up (slab W o ho) := by
  subst hk
  funext y
  have h0 : (y 0).val = 0 := Nat.lt_one_iff.mp (y 0).isLt
  refine congrArg (up W) (funext fun a => Fin.ext ?_)
  fin_cases a <;> simp [ix2, h0]

/-! ## The arrays that the host prepares -/

variable (h0 : m ((c.tc : Thread nD τ).loc main_arg0) = up D) (h1 : m ((c.tc : Thread nD τ).loc main_arg1) = up X)
  (h2 : m ((c.tc : Thread nD τ).loc main_arg2) = up G) (h3 : m ((c.tc : Thread nD τ).loc main_arg3) = up W)
  (h4 : m ((c.tc : Thread nD τ).loc main_arg4) = up U)

include h1 h2 h3 in
theorem saved_of : V m c main_v15 = up (saved X G W) := by
  have e : V m c main_v15 = truncf (F := Ideal) .bf16 (Cert.FfnReferenceIdeal.Read.val_main_v17 (F := Ideal) (m ((c.tc : Thread nD τ).loc main_arg1))
      (m ((c.tc : Thread nD τ).loc main_arg2)) (m ((c.tc : Thread nD τ).loc main_arg3))) bitsLt_bf16_f32 := by
    simp only [V, hostOps0, List.flatten_cons, List.flatten_nil, List.append_nil, List.cons_append, List.nil_append]
    after_results
    rfl
  rw [e, h1, h2, h3]
  funext j
  idx_vars j
  exact Cert.FfnReferenceIdeal.Read.gu_of X G W _ _

include h3 in
theorem cut_of : V m c main_v18 = up (cut W) := by
  have e : V m c main_v18 = transpose S4x1024x1408 [1, 0, 2] (shapeCast S1024x4x1408 (truncf (F := Ideal) .bf16
      (m ((c.tc : Thread nD τ).loc main_arg3)) bitsLt_bf16_f32) shapeCasts_S1024x5632_S1024x4x1408) transposes_S1024x4x1408_S4x1024x1408_1_0_2 := by
    simp only [V, hostOps0, List.flatten_cons, List.flatten_nil, List.append_nil, List.cons_append, List.nil_append]
    after_results
    rfl
  rw [e, h3]
  funext j
  idx_vars j
  pointwise []
  exact congrArg (fun k => up W (ix2 _ k)) (Fin.ext (by simp [Nat.mul_comm]))

include h4 in
theorem narrow_of : V m c main_v19 = up U := by
  have e : V m c main_v19 = truncf (F := Ideal) .bf16 (m ((c.tc : Thread nD τ).loc main_arg4)) bitsLt_bf16_f32 := by
    simp only [V, hostOps0, List.flatten_cons, List.flatten_nil, List.append_nil, List.cons_append, List.nil_append]
    after_results
  rw [e, h4]
  rfl

include h0 in
theorem blk0 (t : Fin cfg0.N) : iblk m c 0 t = up (rows D t) := by
  funext y
  refine Eq.trans ?_ (congrFun ((V_main_arg0 m c).trans h0) _)
  blk_ext [iblk, idx t] <;> rfl

include h1 in
theorem blk1 (t : Fin cfg0.N) : iblk m c 1 t = up (rows X t) := by
  funext y
  refine Eq.trans ?_ (congrFun ((V_main_arg1 m c).trans h1) _)
  blk_ext [iblk, idx t] <;> rfl

include h1 h2 h3 in
theorem blk2 (t : Fin cfg0.N) : iblk m c 2 t = up (rows (saved X G W) t) := by
  funext y
  refine Eq.trans ?_ (congrFun (saved_of m c X G W h1 h2 h3) _)
  blk_ext [iblk, idx t] <;> rfl

include h2 in
theorem blk3 (t : Fin cfg0.N) : iblk m c 3 t = up G := by
  funext y
  refine Eq.trans ?_ (congrFun ((V_main_arg2 m c).trans h2) _)
  blk_ext [iblk, idx t]

/-! ## What a point leaves -/

theorem whole_rows {e : EltTy} (p : S256x1024.Idx → Elt Ideal e) : View.canon (Val := Elt Ideal) (s := S256x1024) (e := e) [⟨rx, p⟩] = p :=
  View.canon_unit_zero (Val := Elt Ideal) zero2 _ p

/-- The gradients at the layer's input. -/
theorem rows_point (t : Fin cfg0.N) (y : S256x1024.Idx) :
    rowsGrad (F := Ideal) (up (rows D t)) (up (rows X t)) (up G) (up (cols 0 (by decide) (rows (saved X G W) t))) (up (cols 1408 (by decide) (rows (saved X G W) t)))
        (up (cols 2816 (by decide) (rows (saved X G W) t))) (up (cols 4224 (by decide) (rows (saved X G W) t))) (up (slab W 0 (by decide))) (up (slab W 1408 (by decide)))
        (up (slab W 2816 (by decide))) (up (slab W 4224 (by decide))) (up (half U 0 (by decide))) (up (half U 1408 (by decide))) y
      = up (rows (fun i : S2048x1024.Idx => dx D X G W U (i 0) (i 1)) t) y := by
  idx_vars y
  rw [dx_block]
  simp only [bdh_eq]
  rfl

theorem left_rows (t : Fin cfg0.N) :
    leftX (F := Ideal) (up (rows D t)) (up (rows X t)) (up (rows (saved X G W) t)) (up G) (up (cut W)) (up U) = up (rows (fun i : S2048x1024.Idx => dx D X G W U (i 0) (i 1)) t) := by
  unfold leftX
  rw [whole_rows, ld_rows, ld_rows, ld_scale, ld_cols _ 0 (by decide), ld_cols _ 1408 (by decide), ld_cols _ 2816 (by decide), ld_cols _ 4224 (by decide),
    ld_slab W 0 0 rfl (by decide), ld_slab W 1 1408 rfl (by decide), ld_slab W 2 2816 rfl (by decide), ld_slab W 3 4224 rfl (by decide), ld_half U 0 (by decide), ld_half U 1408 (by decide)]
  exact funext (rows_point D X G W U t)

theorem left_again (t : Fin cfg0.N) :
    leftB (F := Ideal) (up (rows D t)) (up (rows X t)) (up (rows (saved X G W) t)) (up G) (up (cut W)) (up U) = up (rows (fun i : S2048x1024.Idx => dx D X G W U (i 0) (i 1)) t) := by
  refine Eq.trans ?_ (left_rows D X G W U t)
  unfold leftB leftX
  rw [whole_rows, whole_rows]
  rfl

theorem left_half (t : Fin cfg0.N) : leftH (F := Ideal) (up (rows D t)) = up (rows (fun i : S2048x1024.Idx => 1 / 2 * D (ix2 (i 0) (i 1))) t) := by
  unfold leftH
  rw [whole_rows, ld_rows, half_block]
  rfl

/-- A store of a quarter of the gradients at the columns. -/
theorem piece (t : Fin cfg0.N) (o : ℕ) (ho : o + 1408 ≤ 5632) (P : S256x1408.Idx → ℝ) (hP : ∀ r j, P (ix2 r j) = dgu D X G W U (tok t r) ⟨o + j.val, by omega⟩)
    (inb) (y : S256x1408.Idx) :
    up P y = up (rows (fun i : S2048x5632.Idx => dgu D X G W U (i 0) (i 1)) t) ((Rect.unit (s := S256x5632) ![0, o] S256x1408.size inb).emb y) := by
  idx_vars y
  refine congrArg ((↑) : ℝ → EReal) ((hP _ _).trans ?_)
  refine congrArg₂ (dgu D X G W U) (congrArg (tok t) (Fin.ext ?_)) (Fin.ext ?_) <;> simp [ix2]

theorem left_cols (t : Fin cfg0.N) :
    leftGU (F := Ideal) (up (rows D t)) (up (rows (saved X G W) t)) (up U) = up (rows (fun i : S2048x5632.Idx => dgu D X G W U (i 0) (i 1)) t) := by
  funext y
  unfold leftGU
  rw [ld_rows, ld_cols _ 0 (by decide), ld_cols _ 1408 (by decide), ld_cols _ 2816 (by decide), ld_cols _ 4224 (by decide), ld_half U 0 (by decide), ld_half U 1408 (by decide),
    gate0_block, other0_block, gate1_block, other1_block]
  refine View.canon_apply_of_pieces (Val := Elt Ideal) (e := .bf16) (up (rows (fun i : S2048x5632.Idx => dgu D X G W U (i 0) (i 1)) t)) _ ?_ y (coversQ _ _ _ _ y)
  simp only [List.forall_mem_cons, List.not_mem_nil, false_implies, implies_true, and_true]
  exact ⟨piece D X G W U t 4224 (by decide) _ (other_eq D X G W U t 1408 4224 (by decide) rfl) _, piece D X G W U t 1408 (by decide) _ (gate_eq D X G W U t 1408 4224 (by decide) rfl) _,
    piece D X G W U t 2816 (by decide) _ (other_eq D X G W U t 0 2816 (by decide) rfl) _, piece D X G W U t 0 (by decide) _ (gate_eq D X G W U t 0 2816 (by decide) rfl) _⟩

/-- A point's share of the gradient at the norm's scale. -/
def share (b : Fin 1024) (t : Fin cfg0.N) : ℝ := ∑ r : Fin 256, dh D X G W U (tok t r) b * X (ix2 (tok t r) b) * inv 1024 (row X (tok t r))

theorem left_gains (t : Fin cfg0.N) (e : Vec Ideal S1x1024 .f32) (j : S1x1024.Idx) :
    leftG (F := Ideal) (up (rows D t)) (up (rows X t)) (up (rows (saved X G W) t)) (up (cut W)) (up U) e j = e j + (share D X G W U (j 1) t : ℝ) := by
  unfold leftG
  rw [ld_rows, ld_rows, ld_cols _ 0 (by decide), ld_cols _ 1408 (by decide), ld_cols _ 2816 (by decide), ld_cols _ 4224 (by decide),
    ld_slab W 0 0 rfl (by decide), ld_slab W 1 1408 rfl (by decide), ld_slab W 2 2816 rfl (by decide), ld_slab W 3 4224 rfl (by decide), ld_half U 0 (by decide), ld_half U 1408 (by decide), dg_block]
  exact congrArg (fun z : ℝ => e j + (z : EReal)) (Finset.sum_congr rfl fun r _ => congrArg (fun z => z * X _ * inv 1024 _) (bdh_eq D X G W U t r (j 1)))

include h0 h1 h2 h3 h4

theorem sums_eq (j : S1x1024.Idx) : ∀ n (hn : n ≤ cfg0.N), sums m c n j = ((∑ s : Fin n, share D X G W U (j 1) (Fin.castLE hn s) : ℝ) : EReal)
  | 0, _ => by
    show k0_pay1 (F := Ideal) j = _
    idx_vars j
    pointwise [k0_pay1]
    simp
  | n + 1, hn => by
    have ih := sums_eq j n (Nat.le_of_succ_le hn)
    rw [sums_succ m c ⟨n, hn⟩, blk0 m c D h0, blk1 m c X h1, blk2 m c X G W h1 h2 h3, cut_of m c W h3, narrow_of m c U h4, left_gains, ih, Fin.sum_univ_castSucc, EReal.coe_add]
    rfl

/-! ## The arrays after the grid -/

omit h0 h1 h2 h3 h4 in
/-- The place in the array of a block's entry. -/
theorem place {n : ℕ} (t : Fin cfg0.N) (f : Fin 2048 → Fin n → ℝ) (y : (⟨2, ![256, n]⟩ : Shape).Idx) (i : (⟨2, ![2048, n]⟩ : Shape).Idx)
    (e0 : (i 0 : ℕ) = t.val * 256 + y 0) (e1 : (i 1 : ℕ) = y 1) : up (rows (fun i : (⟨2, ![2048, n]⟩ : Shape).Idx => f (i 0) (i 1)) t) y = up (fun i => f (i 0) (i 1)) i :=
  congrArg ((↑) : ℝ → EReal) (congrArg₂ f (Fin.ext e0.symm) (Fin.ext e1.symm))

theorem dx_array : (dats m 0 c).arrAt 4 cfg0.N = up fun i => dx D X G W U (i 0) (i 1) := by
  refine (dats m 0 c).arrAt_eq_of_covers 4 _ (by decide +kernel) fun t _ y => ?_
  blk_simp
  rw [left_4, blk0 m c D h0, blk1 m c X h1, blk2 m c X G W h1 h2 h3, blk3 m c G h2, cut_of m c W h3, narrow_of m c U h4, left_rows]
  have hi : ∀ a, ((((View.whole main_v20_0).slice (win0_4.rect t)).emb y) a : ℕ) = win0_4.index t a * ![256, 1024] a + y a := by
    intro a; fin_cases a <;> blk_simp
  rw [(idx t).2.2.2.2.1] at hi
  exact place t (dx D X G W U) y _ (hi 0) (by simpa using hi 1)

theorem dgu_array : (dats m 0 c).arrAt 5 cfg0.N = up fun i => dgu D X G W U (i 0) (i 1) := by
  refine (dats m 0 c).arrAt_eq_of_covers 5 _ (by decide +kernel) fun t _ y => ?_
  blk_simp
  rw [left_5, blk0 m c D h0, blk2 m c X G W h1 h2 h3, narrow_of m c U h4, left_cols]
  have hi : ∀ a, ((((View.whole main_v20_1).slice (win0_5.rect t)).emb y) a : ℕ) = win0_5.index t a * ![256, 5632] a + y a := by
    intro a; fin_cases a <;> blk_simp
  rw [(idx t).2.2.2.2.2.1] at hi
  exact place t (dgu D X G W U) y _ (hi 0) (by simpa using hi 1)

theorem half_array : (dats m 0 c).arrAt 7 cfg0.N = up fun i => 1 / 2 * D (ix2 (i 0) (i 1)) := by
  refine (dats m 0 c).arrAt_eq_of_covers 7 _ (by decide +kernel) fun t _ y => ?_
  blk_simp
  rw [left_7, blk0 m c D h0, left_half]
  have hi : ∀ a, ((((View.whole main_v20_3).slice (win0_7.rect t)).emb y) a : ℕ) = win0_7.index t a * ![256, 1024] a + y a := by
    intro a; fin_cases a <;> blk_simp
  rw [(idx t).2.2.2.2.2.2.2.1] at hi
  exact place t (fun a b => 1 / 2 * D (ix2 a b)) y _ (hi 0) (by simpa using hi 1)

theorem again_array : (dats m 0 c).arrAt 8 cfg0.N = up fun i => dx D X G W U (i 0) (i 1) := by
  refine (dats m 0 c).arrAt_eq_of_covers 8 _ (by decide +kernel) fun t _ y => ?_
  blk_simp
  rw [left_8, blk0 m c D h0, blk1 m c X h1, blk2 m c X G W h1 h2 h3, blk3 m c G h2, cut_of m c W h3, narrow_of m c U h4, left_again]
  have hi : ∀ a, ((((View.whole main_v20_4).slice (win0_8.rect t)).emb y) a : ℕ) = win0_8.index t a * ![256, 1024] a + y a := by
    intro a; fin_cases a <;> blk_simp
  rw [(idx t).2.2.2.2.2.2.2.2.1] at hi
  exact place t (dx D X G W U) y _ (hi 0) (by simpa using hi 1)

/-- The row of the gradient at the norm's scale. -/
theorem dg_array : (dats m 0 c).arrAt 6 cfg0.N = up fun i => dg D X G W U (i 1) := by
  refine (dats m 0 c).arrAt_eq_of_after_last 6 t0_7 (by decide +kernel) _ fun j => ?_
  blk_simp
  rw [left_6]
  refine (sums_eq m c D X G W U h0 h1 h2 h3 h4 _ 8 (le_of_eq N_0.symm)).trans (congrArg ((↑) : ℝ → EReal) ?_)
  exact Fin.sum_mul_add_congr fun s k hl => rfl

omit h0 h1 h2 h3 h4 in
/-- The run, with the five results' arrays. -/
theorem run_arrays (ρ : Dev nD → PrngReg) : θ_run defs (onTc (τ := τ) (main (F := Ideal))) ⟨m, fun _ => 0, ρ⟩ (fun r => ∀ c : Dev nD,
    r.2.mem ((c.tc : Thread nD τ).loc main_v20_0) = (dats m 0 c).arrAt 4 cfg0.N ∧ r.2.mem ((c.tc : Thread nD τ).loc main_v20_1) = (dats m 0 c).arrAt 5 cfg0.N
      ∧ r.2.mem ((c.tc : Thread nD τ).loc main_v20_2) = (dats m 0 c).arrAt 6 cfg0.N ∧ r.2.mem ((c.tc : Thread nD τ).loc main_v20_3) = (dats m 0 c).arrAt 7 cfg0.N
      ∧ r.2.mem ((c.tc : Thread nD τ).loc main_v20_4) = (dats m 0 c).arrAt 8 cfg0.N
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, (h.1 c).1 5, (h.1 c).1 6, (h.1 c).1 7, (h.1 c).1 8,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 3).trans (((dats m 0 c).arrAt_in 3 rfl _).trans ((A_eq m c 3).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩) (ends m ρ)

end Cert.FfnKernelIdeal.Arrays
end
-- ==== Proof.FfnClaim.lean ====
/- The claims about the feed-forward layer's backward call. -/
module

public import proofs.«01_k».proof.Defs
public import proofs.«01_k».proof.Proof.Gen.FfnKernel.Skeleton
public import proofs.«01_k».proof.Proof.FfnArrays
public import proofs.«01_k».proof.Proof.Gen.FfnReferenceIdeal.Run
public import Idealize.ShloMosaic.Lib.Quiescent

@[expose] public section

set_option maxRecDepth 16384
noncomputable section
open Idealize.ShloMosaic Idealize.ShloMosaic.TcCoe Idealize.SL.Sem

namespace Cert.FfnClaim
open Cert.Reals Cert.FfnMath

/-! ## The frames of the two kernel programs: one text, so one proof -/

/-- The two programs' bodies are the same. -/
theorem bodies_eq : @Cert.FfnKernel.defs₀ Bits _ Cert.FfnKernel.Gen.facts = @Cert.FfnKernelIdeal.defs₀ Bits _ Cert.FfnKernelIdeal.Gen.facts := by
  unfold Cert.FfnKernel.defs₀ Cert.FfnKernelIdeal.defs₀
  refine congrArg Defs.onTc ?_
  funext l a
  match l, a with
  | 0, (t, s) => with_unfolding_all rfl

theorem defs_eq : @Cert.FfnKernel.defs Bits _ Cert.FfnKernel.Gen.facts = @Cert.FfnKernelIdeal.defs Bits _ Cert.FfnKernelIdeal.Gen.facts :=
  congrArg (Pipeline.defs Cert.FfnKernelIdeal.pcfgs) bodies_eq

/-- So are their host operations. -/
theorem main_eq : @Cert.FfnKernel.main Bits _ Cert.FfnKernel.Gen.facts = @Cert.FfnKernelIdeal.main Bits _ Cert.FfnKernelIdeal.Gen.facts := by with_unfolding_all rfl

theorem frame_Kernel : Cert.quiescent_FfnKernel (hFfnKernel := Cert.FfnKernel.Gen.facts) := fun m g _ => by
  rw [defs_eq, main_eq]
  exact Cert.FfnKernelIdeal.Whole.frame (F := Bits) m g

theorem frame_KernelIdeal : Cert.quiescent_FfnKernelIdeal (hFfnKernelIdeal := Cert.FfnKernelIdeal.Gen.facts) := fun m g _ =>
  Cert.FfnKernelIdeal.Whole.frame (F := Ideal) m g

/-- The reference declares no semaphore, so its run leaves every counter at zero. -/
theorem frame_ref : Cert.quiescent_FfnReferenceIdeal (hFfnReferenceIdeal := Cert.FfnReferenceIdeal.Gen.facts) := fun m g _ =>
  (θ_run _ _ _).mono (fun r h => ⟨fun c => (h c).2.2.2.2.2, sem_eq_zero_of_no_sems (by decide) r.2⟩) (Cert.FfnReferenceIdeal.Value.run (F := Ideal) m g)

/-! ## The values -/

instance facts_pre : Cert.Pre_ffn_finite.Facts := by
  constructor <;> decide +kernel

/-- The precondition gives the arguments as real arrays. -/
theorem reals (m) (h : Cert.Pre_FfnKernelIdeal_ffn_finite m) (c : Dev Cert.FfnKernelIdeal.nD) :
    ∃ D X G W U, m ((c.tc : Thread _ Cert.FfnKernelIdeal.τ).loc Cert.FfnKernelIdeal.main_arg0) = up D
      ∧ m ((c.tc : Thread _ Cert.FfnKernelIdeal.τ).loc Cert.FfnKernelIdeal.main_arg1) = up X
      ∧ m ((c.tc : Thread _ Cert.FfnKernelIdeal.τ).loc Cert.FfnKernelIdeal.main_arg2) = up G
      ∧ m ((c.tc : Thread _ Cert.FfnKernelIdeal.τ).loc Cert.FfnKernelIdeal.main_arg3) = up W
      ∧ m ((c.tc : Thread _ Cert.FfnKernelIdeal.τ).loc Cert.FfnKernelIdeal.main_arg4) = up U := by
  obtain ⟨h0, h1, h2, h3, h4⟩ := h c
  obtain ⟨D, eD⟩ := reals_of_test _ _ _ h0
  obtain ⟨X, eX⟩ := reals_of_test _ _ _ h1
  obtain ⟨G, eG⟩ := reals_of_test _ _ _ h2
  obtain ⟨W, eW⟩ := reals_of_test _ _ _ h3
  obtain ⟨U, eU⟩ := reals_of_test _ _ _ h4
  exact ⟨D, X, G, W, U, eD, eX, eG, eW, eU⟩

set_option maxHeartbeats 1000000 in
/-- The two programs end with equal results. -/
theorem algebraic : Cert.algebraic_FfnKernelIdeal_FfnReferenceIdeal_pre_ffn_finite
    (hFfnKernelIdeal := Cert.FfnKernelIdeal.Gen.facts) (hFfnReferenceIdeal := Cert.FfnReferenceIdeal.Gen.facts) := by
  intro m g m' g' hpre hag
  refine ⟨fun c => _, fun c => _, fun c => _, fun c => _, fun c => _, Cert.FfnKernelIdeal.Arrays.run_arrays m g, ?_⟩
  refine (θ_run _ _ _).mono (fun r h c => ?_) (Cert.FfnReferenceIdeal.Value.run m' g')
  obtain ⟨D, X, G, W, U, eD, eX, eG, eW, eU⟩ := reals m hpre c
  obtain ⟨a0, a1, a2, a3, a4⟩ := hag c
  obtain ⟨r0, r1, r2, r3, r4, k⟩ := h c
  refine ⟨r0.trans ?_, r1.trans ?_, r2.trans ?_, r3.trans ?_, r4.trans ?_, k⟩
  · rw [Cert.FfnReferenceIdeal.Read.val_main_v54_eq, a0, a1, a2, a3, a4, eD, eX, eG, eW, eU]
    exact (Cert.FfnReferenceIdeal.Read.dx_of D X G W U).trans (Cert.FfnKernelIdeal.Arrays.dx_array m c D X G W U eD eX eG eW eU).symm
  · rw [Cert.FfnReferenceIdeal.Read.val_main_v55_eq, a0, a1, a2, a3, a4, eD, eX, eG, eW, eU]
    exact (Cert.FfnReferenceIdeal.Read.dgu_array D X G W U).trans (Cert.FfnKernelIdeal.Arrays.dgu_array m c D X G W U eD eX eG eW eU).symm
  · rw [Cert.FfnReferenceIdeal.Read.val_main_v53_eq, a0, a1, a2, a3, a4, eD, eX, eG, eW, eU]
    exact (Cert.FfnReferenceIdeal.Read.dg_of D X G W U).trans (Cert.FfnKernelIdeal.Arrays.dg_array m c D X G W U eD eX eG eW eU).symm
  · refine (Cert.FfnReferenceIdeal.Read.val_main_v58_eq (F := Ideal) _).trans ?_
    exact (congrArg (Cert.FfnReferenceIdeal.Read.val_main_v58 (F := Ideal)) (a0.trans eD)).trans ((Cert.FfnReferenceIdeal.Read.half_of D).trans (Cert.FfnKernelIdeal.Arrays.half_array m c D X G W U eD eX eG eW eU).symm)
  · rw [Cert.FfnReferenceIdeal.Read.val_main_v59_eq, a0, a1, a2, a3, a4, eD, eX, eG, eW, eU]
    exact (Cert.FfnReferenceIdeal.Read.dx_again D X G W U).trans (Cert.FfnKernelIdeal.Arrays.again_array m c D X G W U eD eX eG eW eU).symm

end Cert.FfnClaim
end
-- ==== Proof.FfwKernelIdealLeft.lean ====
/- What the feed-forward layer's whole forward kernel (FfwKernelIdeal) leaves: at the first point its body copies both weights into the
   scratch buffers, at the later points it reads them there; at every point it leaves the four results' rows. -/
module

public import proofs.«01_k».proof.Proof.Slabs
public import proofs.«01_k».proof.Proof.Gen.FfwKernelIdeal.Frame
public import proofs.«01_k».proof.Proof.Gen.FfwKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfwKernelIdeal.Whole

open Cert.Slabs Cert.FfwKernelIdeal Cert.FfwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves -/

abbrev rx : Rect S256x1024 := Rect.unit ![0, 0] S256x1024.size inb_S256x1024_S256x1024_0_0
abbrev rg : Rect S1x1024 := Rect.unit ![0, 0] S1x1024.size inb_S1x1024_S1x1024_0_0
abbrev q0 : Rect S256x5632 := Rect.unit ![0, 0] S256x1408.size inb_S256x5632_S256x1408_0_0
abbrev q1 : Rect S256x5632 := Rect.unit ![0, 1408] S256x1408.size inb_S256x5632_S256x1408_0_1408
abbrev q2 : Rect S256x5632 := Rect.unit ![0, 2816] S256x1408.size inb_S256x5632_S256x1408_0_2816
abbrev q3 : Rect S256x5632 := Rect.unit ![0, 4224] S256x1408.size inb_S256x5632_S256x1408_0_4224
abbrev o0 : Rect S256x2816 := Rect.unit ![0, 0] S256x1408.size inb_S256x2816_S256x1408_0_0
abbrev o1 : Rect S256x2816 := Rect.unit ![0, 1408] S256x1408.size inb_S256x2816_S256x1408_0_1408

/-- The layer's rows, from the rows, the gains, the slabs and the halves of the second weights. -/
def rowsOut (x : Vec F S256x1024 .f32) (g : Vec F S1x1024 .f32) (s0 s1 s2 s3 : Vec F S1x1024x1408 .bf16) (w0 w1 : Vec F S1408x1024 .bf16) : Vec F S256x1024 .f32 :=
  k0_pay1 x (k0_pay10 (k0_pay3 x g) k0_pay4 (k0_pay5 x g s0) s2 w0) (k0_pay15 (k0_pay3 x g) s1 s3) w1

section Left

variable (x : Vec F S256x1024 .f32) (g : Vec F S1x1024 .f32) (W : Vec F S4x1024x1408 .bf16) (U : Vec F S2816x1024 .bf16)

/-- The layer's rows, -/
def leftX : Vec F S256x1024 .f32 :=
  View.canon [⟨rx, rowsOut (View.ld x rx) (View.ld g rg) (View.ld W slab0) (View.ld W slab1) (View.ld W slab2) (View.ld W slab3) (View.ld U rows0) (View.ld U rows1)⟩]

/-- the normed rows, -/
def leftH : Vec F S256x1024 .bf16 := View.canon [⟨rx, k0_pay3 (View.ld x rx) (View.ld g rg)⟩]

/-- their products with the four slabs, -/
def leftGU : Vec F S256x5632 .bf16 :=
  View.canon [⟨q3, k0_pay14 (k0_pay3 (View.ld x rx) (View.ld g rg)) (View.ld W slab3)⟩, ⟨q1, k0_pay13 (k0_pay3 (View.ld x rx) (View.ld g rg)) (View.ld W slab1)⟩,
    ⟨q2, k0_pay8 (k0_pay3 (View.ld x rx) (View.ld g rg)) (View.ld W slab2)⟩, ⟨q0, k0_pay7 (k0_pay5 (View.ld x rx) (View.ld g rg) (View.ld W slab0))⟩]

/-- and the gated products. -/
def leftA : Vec F S256x2816 .bf16 :=
  View.canon [⟨o1, k0_pay15 (k0_pay3 (View.ld x rx) (View.ld g rg)) (View.ld W slab1) (View.ld W slab3)⟩,
    ⟨o0, k0_pay9 (k0_pay3 (View.ld x rx) (View.ld g rg)) (k0_pay5 (View.ld x rx) (View.ld g rg) (View.ld W slab0)) (View.ld W slab2)⟩]

end Left

theorem coversR {e : EltTy} (p : rx.shape.Idx → Elt F e) (y : S256x1024.Idx) : ∃ q ∈ ([⟨rx, p⟩] : List (View.Piece (Elt F) S256x1024 e)), y ∈ q.1.set :=
  View.cover_of_tiled [⟨rx, p⟩] S256x1024.size (by rfl) y

theorem coversQ (p0 p1 p2 p3 : Vec F S256x1408 .bf16) (y : S256x5632.Idx) :
    ∃ p ∈ ([⟨q3, p3⟩, ⟨q1, p1⟩, ⟨q2, p2⟩, ⟨q0, p0⟩] : List (View.Piece (Elt F) S256x5632 .bf16)), y ∈ p.1.set :=
  View.cover_of_tiled (s := S256x5632) [⟨q3, p3⟩, ⟨q1, p1⟩, ⟨q2, p2⟩, ⟨q0, p0⟩] S256x1408.size (by rfl) y

theorem coversO (p0 p1 : Vec F S256x1408 .bf16) (y : S256x2816.Idx) :
    ∃ p ∈ ([⟨o1, p1⟩, ⟨o0, p0⟩] : List (View.Piece (Elt F) S256x2816 .bf16)), y ∈ p.1.set :=
  View.cover_of_tiled (s := S256x2816) [⟨o1, p1⟩, ⟨o0, p0⟩] S256x1408.size (by rfl) y

/-! The stores' payloads at the first point and at the later ones, by what was loaded. -/

section Payloads

variable {x : Vec F S256x1024 .f32} {g : Vec F S1x1024 .f32} {W : Vec F S4x1024x1408 .bf16} {U : Vec F S2816x1024 .bf16}
  {x' : Vec F S256x1024 .f32} {g' : Vec F S1x1024 .f32} {s0 s1 s2 s3 : Vec F S1x1024x1408 .bf16} {w0 w1 : Vec F S1408x1024 .bf16}
  (ex : x' = View.ld x rx) (eg : g' = View.ld g rg)
  (e0 : s0 = View.ld W slab0) (e1 : s1 = View.ld W slab1) (e2 : s2 = View.ld W slab2) (e3 : s3 = View.ld W slab3)
  (r0 : w0 = View.ld U rows0) (r1 : w1 = View.ld U rows1)

include ex eg

theorem firstH : View.canon (Val := Elt F) [⟨rx, k0_pay3 x' g'⟩] = leftH x g := by
  subst ex eg; rfl

theorem laterH : View.canon (Val := Elt F) [⟨rx, k0_pay16 x' g'⟩] = leftH x g := by
  subst ex eg; rfl

include e0 e1 e2 e3

theorem firstGU : View.canon (Val := Elt F) (s := S256x5632) [⟨q3, k0_pay14 (k0_pay3 x' g') s3⟩, ⟨q1, k0_pay13 (k0_pay3 x' g') s1⟩, ⟨q2, k0_pay8 (k0_pay3 x' g') s2⟩, ⟨q0, k0_pay7 (k0_pay5 x' g' s0)⟩] = leftGU x g W := by
  subst ex eg e0 e1 e2 e3; rfl

theorem laterGU : View.canon (Val := Elt F) (s := S256x5632) [⟨q3, k0_pay28 (k0_pay16 x' g') s3⟩, ⟨q1, k0_pay27 (k0_pay16 x' g') s1⟩, ⟨q2, k0_pay21 x' g' s2⟩, ⟨q0, k0_pay20 x' g' s0⟩] = leftGU x g W := by
  subst ex eg e0 e1 e2 e3; rfl

theorem firstA : View.canon (Val := Elt F) (s := S256x2816) [⟨o1, k0_pay15 (k0_pay3 x' g') s1 s3⟩, ⟨o0, k0_pay9 (k0_pay3 x' g') (k0_pay5 x' g' s0) s2⟩] = leftA x g W := by
  subst ex eg e0 e1 e2 e3; rfl

theorem laterA : View.canon (Val := Elt F) (s := S256x2816) [⟨o1, k0_pay29 (k0_pay16 x' g') s1 s3⟩, ⟨o0, k0_pay23 (k0_pay18 x' g' s0) (k0_pay19 x' g' s2) (k0_pay22 x' g' s0) (Scalar.ofBits .f32 0x3F800000#32)⟩] = leftA x g W := by
  subst ex eg e0 e1 e2 e3; rfl

include r0 r1

theorem firstX : View.canon (Val := Elt F) (s := S256x1024) [⟨rx, k0_pay1 x' (k0_pay10 (k0_pay3 x' g') k0_pay4 (k0_pay5 x' g' s0) s2 w0) (k0_pay15 (k0_pay3 x' g') s1 s3) w1⟩] = leftX x g W U := by
  subst ex eg e0 e1 e2 e3 r0 r1; rfl

theorem laterX : View.canon (Val := Elt F) (s := S256x1024) [⟨rx, k0_pay2 x' (k0_pay24 k0_pay17 (k0_pay18 x' g' s0) (k0_pay19 x' g' s2) (k0_pay22 x' g' s0) (Scalar.ofBits .f32 0x3F800000#32) w0) (k0_pay29 (k0_pay16 x' g') s1 s3) w1 (constant S256x1024 .f32 0x00000000#32)⟩] = leftX x g W U := by
  subst ex eg e0 e1 e2 e3 r0 r1; rfl

end Payloads

end Cert.FfwKernelIdeal.Whole

end
-- ==== Proof.FfwKernelIdealBody.lean ====
/- The body of the feed-forward layer's whole forward kernel (FfwKernelIdeal), at the first point and at the later ones. -/
module

public import proofs.«01_k».proof.Proof.FfwKernelIdealLeft
public import proofs.«01_k».proof.Proof.Gen.FfwKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfwKernelIdeal.Whole

open Cert.Slabs Cert.FfwKernelIdeal Cert.FfwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body -/

section Contents

variable {sp : Space} {s : Shape} {e : EltTy} (c : Dev nD) (a : Memref sig .tc sp s e) (f : BufTy.Contents (Elt F) a.view.ty)

/-- A buffer that reads as `x` is owned at `x`. -/
theorem reads_as (x : Vec F s e) (h : a.view.read (Elt F) f = x) :
    (a.view.loc (c : Thread nD τ) ↦[a.view.set]{fullShare} f : sProp 𝕄) ⊢ iprop(∃ f, ⌜a.view.read (Elt F) f = x⌝ ∗ (a.view.loc (c : Thread nD τ) ↦[a.view.set]{fullShare} f)) := by
  iintro H
  iexists _; isplitr; swap; · iexact H
  ipureintro; exact h

end Contents

/-- The kernel's own six semaphore cells at zero. -/
def cells (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)

/-- The arrays of the weights, whole. -/
abbrev array : Memref sig .tc .hbm S4x1024x1408 .bf16 := Memref.whole main_v2
abbrev array' : Memref sig .tc .hbm S2816x1024 .bf16 := Memref.whole main_v3

/-- A whole array held at `f`. -/
abbrev held (c : Dev nD) {sp : Space} {s : Shape} {e : EltTy} (a : Memref sig .tc sp s e) (f : Buf (Elt F) (a.view.loc (c : Thread nD τ))) : sProp 𝕄 :=
  a.view.loc (c : Thread nD τ) ↦{fullShare} f

/-- The arrays of the weights held at `W` and `U`. -/
def weights (c : Dev nD) (W : Vec F S4x1024x1408 .bf16) (U : Vec F S2816x1024 .bf16) : sProp 𝕄 := iprop(held c array W ∗ held c array' U)

set_option maxHeartbeats 2000000 in set_option sl_exec.dmaWindow true in set_option sl_exec.dmaWindowSet true in
/-- The body at the first point: the six copies, each waited for before its part is read. -/
theorem first_point (c : Dev nD) (i : grid0.Coords) (a1 : Memref sig .tc .vmem S256x1024 .f32) (h1 : a1.IsWhole) (a2 : Memref sig .tc .vmem S1x1024 .f32) (h2 : a2.IsWhole) (a5 : Memref sig .tc .vmem S256x1024 .f32) (h5 : a5.IsWhole) (a6 : Memref sig .tc .vmem S256x1024 .bf16) (h6 : a6.IsWhole) (a7 : Memref sig .tc .vmem S256x5632 .bf16) (h7 : a7.IsWhole) (a8 : Memref sig .tc .vmem S256x2816 .bf16) (h8 : a8.IsWhole) (a9 : Memref sig .tc .vmem S4x1024x1408 .bf16) (h9 : a9.IsWhole) (a10 : Memref sig .tc .vmem S2816x1024 .bf16) (h10 : a10.IsWhole)
    (k1 : k0_cond1 i = 1#1) (k2 : ¬k0_cond2 i = 1#1)
    (x : Vec F S256x1024 .f32) (g : Vec F S1x1024 .f32) (W : Vec F S4x1024x1408 .bf16) (U : Vec F S2816x1024 .bf16) (O : Waits sig Unit) (K : PUnit → sProp 𝕄) :
    iprop(owns (c : Thread nD τ) a1 fullShare x ∗ owns (c : Thread nD τ) a2 fullShare g ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ ((∃ d, owns (c : Thread nD τ) a9 fullShare d) ∗ (∃ d, owns (c : Thread nD τ) a10 fullShare d)) ∗ cells c ∗ weights c W U ∗ owes (c : Thread nD τ) 0 O
        ∗ (iprop(owns (c : Thread nD τ) a1 fullShare x ∗ owns (c : Thread nD τ) a2 fullShare g ∗ owns (c : Thread nD τ) a5 fullShare (leftX x g W U) ∗ owns (c : Thread nD τ) a6 fullShare (leftH x g) ∗ owns (c : Thread nD τ) a7 fullShare (leftGU x g W) ∗ owns (c : Thread nD τ) a8 fullShare (leftA x g W) ∗ (owns (c : Thread nD τ) a9 fullShare W ∗ owns (c : Thread nD τ) a10 fullShare U) ∗ cells c ∗ weights c W U ∗ (∃ O', owes (c : Thread nD τ) 0 O')) -∗ K ⟨⟩))
      ⊢ wp frame (wpE (defs₀ (F := F)) Variants.none c none) Set.univ (cc0_ffn_fwd i a1 h1 a2 h2 (Memref.whole main_v2) (Memref.isWhole_whole _) (Memref.whole main_v3) (Memref.isWhole_whole _) a5 h5 a6 h6 a7 h7 a8 h8 a9 h9 a10 h10 cc0_scratch2) K := by
  simp only [cc0_ffn_fwd_eq_skeleton]; unfold cc0_ffn_fwd_skel
  simp only [k0_part1_eq_skeleton, k0_part2_eq_skeleton, k0_part3_eq_skeleton, k0_part4_eq_skeleton]
  unfold owns cells weights
  iintro ⟨⟨%f1, %e1, H1⟩, ⟨%f2, %e2, H2⟩, ⟨%d5, %f5, -, H5⟩, ⟨%d6, %f6, -, H6⟩, ⟨%d7, %f7, -, H7⟩, ⟨%d8, %f8, -, H8⟩, ⟨⟨%d9, %f9, -, H9⟩, ⟨%d10, %f10, -, H10⟩⟩, ⟨Q0, Q1, Q2, Q3, Q4, Q5⟩, ⟨HA, HB⟩, HO, Hk⟩
  obtain rfl := h1.eq_unread e1; obtain rfl := h2.eq_unread e2
  sl_exec (disch := first | sl_exact k1 | sl_exact k2)
  sl_step
  iapply Hk
  delta first_point.sl.r_4 first_point.sl.r_3 first_point.sl.r_2 first_point.sl.r_1 first_point.sl.r
  isplitl [H1]; · iapply (reads_as c a1 _ x (h1.read_unread _)); iexact H1
  isplitl [H2]; · iapply (reads_as c a2 _ g (h2.read_unread _)); iexact H2
  have x' : View.readAt (Elt F) a1.view rx.toLoadRect (h1.unread x) = View.ld x rx := by rw [View.readAt_eq_ld, h1.read_unread]
  have g' : View.readAt (Elt F) a2.view rg.toLoadRect (h2.unread g) = View.ld g rg := by rw [View.readAt_eq_ld, h2.read_unread]
  have s0 : first_point.sl.v67 c a9 W f9 = View.ld W slab0 := by
    change View.readAt (Elt F) a9.view slab0.toLoadRect (copied a9.view f9 W) = _; rw [View.readAt_eq_ld, read_copied_all]
  have s1 : first_point.sl.v107 c a9 W f9 = View.ld W slab1 := by
    change View.readAt (Elt F) a9.view slab1.toLoadRect (copied a9.view f9 W) = _; rw [View.readAt_eq_ld, read_copied_all]
  have s2 : first_point.sl.v70 c a9 W f9 = View.ld W slab2 := by
    change View.readAt (Elt F) a9.view slab2.toLoadRect (copied a9.view f9 W) = _; rw [View.readAt_eq_ld, read_copied_all]
  have s3 : first_point.sl.v110 c a9 W f9 = View.ld W slab3 := by
    change View.readAt (Elt F) a9.view slab3.toLoadRect (copied a9.view f9 W) = _; rw [View.readAt_eq_ld, read_copied_all]
  have w0 : first_point.sl.v92 c a10 U = View.ld U rows0 := load_half _ U rows0
  have w1 : first_point.sl.v132 c a10 U = View.ld U rows1 := load_half _ U rows1
  isplitl [H5]; · iapply (reads_as c a5 _ _ ((View.read_writes_eq_canon _ _ _ (coversR _)).trans (firstX x' g' s0 s1 s2 s3 w0 w1))); iexact H5
  isplitl [H6]; · iapply (reads_as c a6 _ _ ((View.read_writes_eq_canon _ _ _ (coversR _)).trans (firstH x' g'))); iexact H6
  isplitl [H7]; · iapply (reads_as c a7 _ _ ((View.read_writes_eq_canon _ _ _ (coversQ _ _ _ _)).trans (firstGU x' g' s0 s1 s2 s3))); iexact H7
  isplitl [H8]; · iapply (reads_as c a8 _ _ ((View.read_writes_eq_canon _ _ _ (coversO _ _)).trans (firstA x' g' s0 s1 s2 s3))); iexact H8
  isplitl [H9 H10]
  · isplitl [H9]; · iapply (reads_as c a9 _ W (read_copied_all _ _ _)); iexact H9
    iapply (reads_as c a10 _ U ((View.read_writes_eq_canon _ _ _ (covers_halves U)).trans (canon_halves U))); iexact H10
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA HB]
  · isplitl [HA]; · iexact HA
    iexact HB
  iexists _; iexact HO

set_option maxHeartbeats 2000000 in
/-- The body at a later point: the weights are read in the scratch buffers. -/
theorem later_point (c : Dev nD) (i : grid0.Coords) (a1 : Memref sig .tc .vmem S256x1024 .f32) (h1 : a1.IsWhole) (a2 : Memref sig .tc .vmem S1x1024 .f32) (h2 : a2.IsWhole) (a5 : Memref sig .tc .vmem S256x1024 .f32) (h5 : a5.IsWhole) (a6 : Memref sig .tc .vmem S256x1024 .bf16) (h6 : a6.IsWhole) (a7 : Memref sig .tc .vmem S256x5632 .bf16) (h7 : a7.IsWhole) (a8 : Memref sig .tc .vmem S256x2816 .bf16) (h8 : a8.IsWhole) (a9 : Memref sig .tc .vmem S4x1024x1408 .bf16) (h9 : a9.IsWhole) (a10 : Memref sig .tc .vmem S2816x1024 .bf16) (h10 : a10.IsWhole)
    (k1 : ¬k0_cond1 i = 1#1) (k2 : k0_cond2 i = 1#1)
    (x : Vec F S256x1024 .f32) (g : Vec F S1x1024 .f32) (W : Vec F S4x1024x1408 .bf16) (U : Vec F S2816x1024 .bf16) (O : Waits sig Unit) (K : PUnit → sProp 𝕄) :
    iprop(owns (c : Thread nD τ) a1 fullShare x ∗ owns (c : Thread nD τ) a2 fullShare g ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (owns (c : Thread nD τ) a9 fullShare W ∗ owns (c : Thread nD τ) a10 fullShare U) ∗ cells c ∗ weights c W U ∗ owes (c : Thread nD τ) 0 O
        ∗ (iprop(owns (c : Thread nD τ) a1 fullShare x ∗ owns (c : Thread nD τ) a2 fullShare g ∗ owns (c : Thread nD τ) a5 fullShare (leftX x g W U) ∗ owns (c : Thread nD τ) a6 fullShare (leftH x g) ∗ owns (c : Thread nD τ) a7 fullShare (leftGU x g W) ∗ owns (c : Thread nD τ) a8 fullShare (leftA x g W) ∗ (owns (c : Thread nD τ) a9 fullShare W ∗ owns (c : Thread nD τ) a10 fullShare U) ∗ cells c ∗ weights c W U ∗ (∃ O', owes (c : Thread nD τ) 0 O')) -∗ K ⟨⟩))
      ⊢ wp frame (wpE (defs₀ (F := F)) Variants.none c none) Set.univ (cc0_ffn_fwd i a1 h1 a2 h2 (Memref.whole main_v2) (Memref.isWhole_whole _) (Memref.whole main_v3) (Memref.isWhole_whole _) a5 h5 a6 h6 a7 h7 a8 h8 a9 h9 a10 h10 cc0_scratch2) K := by
  simp only [cc0_ffn_fwd_eq_skeleton]; unfold cc0_ffn_fwd_skel
  simp only [k0_part5_eq_skeleton, k0_part6_eq_skeleton]
  unfold owns cells weights
  iintro ⟨⟨%f1, %e1, H1⟩, ⟨%f2, %e2, H2⟩, ⟨%d5, %f5, -, H5⟩, ⟨%d6, %f6, -, H6⟩, ⟨%d7, %f7, -, H7⟩, ⟨%d8, %f8, -, H8⟩, ⟨⟨%f9, %e9, H9⟩, ⟨%f10, %e10, H10⟩⟩, ⟨Q0, Q1, Q2, Q3, Q4, Q5⟩, ⟨HA, HB⟩, HO, Hk⟩
  obtain rfl := h1.eq_unread e1; obtain rfl := h2.eq_unread e2; obtain rfl := h9.eq_unread e9; obtain rfl := h10.eq_unread e10
  sl_exec (disch := first | sl_exact k1 | sl_exact k2)
  sl_step
  iapply Hk
  isplitl [H1]; · iapply (reads_as c a1 _ x (h1.read_unread _)); iexact H1
  isplitl [H2]; · iapply (reads_as c a2 _ g (h2.read_unread _)); iexact H2
  have x' : View.readAt (Elt F) a1.view rx.toLoadRect (h1.unread x) = View.ld x rx := by rw [View.readAt_eq_ld, h1.read_unread]
  have g' : View.readAt (Elt F) a2.view rg.toLoadRect (h2.unread g) = View.ld g rg := by rw [View.readAt_eq_ld, h2.read_unread]
  have s0 : View.readAt (Elt F) a9.view slab0.toLoadRect (h9.unread W) = View.ld W slab0 := by rw [View.readAt_eq_ld, h9.read_unread]
  have s1 : View.readAt (Elt F) a9.view slab1.toLoadRect (h9.unread W) = View.ld W slab1 := by rw [View.readAt_eq_ld, h9.read_unread]
  have s2 : View.readAt (Elt F) a9.view slab2.toLoadRect (h9.unread W) = View.ld W slab2 := by rw [View.readAt_eq_ld, h9.read_unread]
  have s3 : View.readAt (Elt F) a9.view slab3.toLoadRect (h9.unread W) = View.ld W slab3 := by rw [View.readAt_eq_ld, h9.read_unread]
  have w0 : View.readAt (Elt F) a10.view rows0.toLoadRect (h10.unread U) = View.ld U rows0 := by rw [View.readAt_eq_ld, h10.read_unread]
  have w1 : View.readAt (Elt F) a10.view rows1.toLoadRect (h10.unread U) = View.ld U rows1 := by rw [View.readAt_eq_ld, h10.read_unread]
  isplitl [H5]; · iapply (reads_as c a5 _ _ ((View.read_writes_eq_canon _ _ _ (coversR _)).trans (laterX x' g' s0 s1 s2 s3 w0 w1))); iexact H5
  isplitl [H6]; · iapply (reads_as c a6 _ _ ((View.read_writes_eq_canon _ _ _ (coversR _)).trans (laterH x' g'))); iexact H6
  isplitl [H7]; · iapply (reads_as c a7 _ _ ((View.read_writes_eq_canon _ _ _ (coversQ _ _ _ _)).trans (laterGU x' g' s0 s1 s2 s3))); iexact H7
  isplitl [H8]; · iapply (reads_as c a8 _ _ ((View.read_writes_eq_canon _ _ _ (coversO _ _)).trans (laterA x' g' s0 s1 s2 s3))); iexact H8
  isplitl [H9 H10]
  · isplitl [H9]; · iapply (reads_as c a9 _ W (h9.read_unread _)); iexact H9
    iapply (reads_as c a10 _ U (h10.read_unread _)); iexact H10
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [HA HB]
  · isplitl [HA]; · iexact HA
    iexact HB
  iexists _; iexact HO

end Cert.FfwKernelIdeal.Whole

end
-- ==== Proof.FfwKernelIdealFrame.lean ====
/- The frame of the feed-forward layer's whole forward kernel (FfwKernelIdeal), with its results named. -/
module

public import proofs.«01_k».proof.Proof.FfwKernelIdealBody
public import proofs.«01_k».proof.Proof.Gen.FfwKernelIdeal.Skeleton
public import Idealize.ShloMosaic.Lib.ViewIndex
public import Idealize.ShloMosaic.Lib.Pipeline.Frame
public import Idealize.ShloMosaic.Lib.Tactic
public import Idealize.ShloMosaic.Lib.Claim
public import Idealize.ShloMosaic.Lib.Pipeline.Value

@[expose] public section

set_option maxRecDepth 16384

noncomputable section

namespace Cert.FfwKernelIdeal.Whole

open Cert.Slabs Cert.FfwKernelIdeal Cert.FfwKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

abbrev st0 (t : Fin cfg0.N) : Memref sig .tc .vmem S256x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S256x1024 .f32 := win0_2.stage (cfg0.slots t 2)
abbrev st3 (t : Fin cfg0.N) : Memref sig .tc .vmem S256x1024 .bf16 := win0_3.stage (cfg0.slots t 3)
abbrev st4 (t : Fin cfg0.N) : Memref sig .tc .vmem S256x5632 .bf16 := win0_4.stage (cfg0.slots t 4)
abbrev st5 (t : Fin cfg0.N) : Memref sig .tc .vmem S256x2816 .bf16 := win0_5.stage (cfg0.slots t 5)

/-- The scratch buffers. -/
abbrev scratch : Memref sig .tc .vmem S4x1024x1408 .bf16 := Memref.whole cc0_scratch0
abbrev scratch' : Memref sig .tc .vmem S2816x1024 .bf16 := Memref.whole cc0_scratch1

/-- The scratch buffers before point `n`: anything at first, the weights later. -/
def slabs (c : Dev nD) (n : ℕ) : sProp 𝕄 :=
  if n = 0 then iprop((∃ d, owns (c : Thread nD τ) scratch fullShare d) ∗ (∃ d, owns (c : Thread nD τ) scratch' fullShare d))
  else iprop(owns (c : Thread nD τ) scratch fullShare (V m c main_v2) ∗ owns (c : Thread nD τ) scratch' fullShare (V m c main_v3))

theorem slabs_zero (c : Dev nD) : slabs m c 0 = iprop((∃ d, owns (c : Thread nD τ) scratch fullShare d) ∗ (∃ d, owns (c : Thread nD τ) scratch' fullShare d)) := if_pos rfl
theorem slabs_pos (c : Dev nD) {n : ℕ} (h : n ≠ 0) : slabs m c n = iprop(owns (c : Thread nD τ) scratch fullShare (V m c main_v2) ∗ owns (c : Thread nD τ) scratch' fullShare (V m c main_v3)) := if_neg h

/-- What is held beside the windows before point `n`. -/
def beside (c : Dev nD) (n : ℕ) : sProp 𝕄 := iprop(slabs m c n ∗ (∃ r, prngReg c r) ∗ cells c ∗ weights c (V m c main_v2) (V m c main_v3))

/-- The kernel's own semaphores. -/
abbrev own : Fin 6 → SemLoc sig := ![SemLoc.dma 11, SemLoc.dma 12, SemLoc.dma 13, SemLoc.dma 14, SemLoc.dma 15, SemLoc.dma 16]

theorem own_facts : Pipeline.OwnSemFacts spec0 own := by decide

/-- The arrays the body reads itself. -/
def direct : Finset (Ref sig .tc) := {main_v2, main_v3}

theorem direct_sub : direct ⊆ Pipeline.restRefs sig spec0 := by decide

/-- What the launch hands over is what is held before the first point. -/
theorem handed (c : Dev nD) : (Pipeline.ΦD own spec0 direct (V m) c : sProp 𝕄) = beside m c 0 := by
  have e1 : (Pipeline.ownSems0 (Ix := Unit) (Name := ℕ) (U := Pipeline.UD sig nD τ) (Lvl := ℕ) (Val := Elt F) (τ := τ) own c : sProp 𝕄) = cells c := by
    rw [Pipeline.ownSems0_eq_of_list c own [0, 1, 2, 3, 4, 5] (by decide) (by decide)]; rfl
  have e2 : (bigSep direct (fun b => (((c : Thread nD τ)).loc b) ↦{fullShare} V m c b) : sProp 𝕄) = weights c (V m c main_v2) (V m c main_v3) := by
    rw [BI.bigSep_eq_bigSepL_of_eq [main_v2, main_v3] (by decide) (by decide)]; rfl
  unfold beside
  rw [Pipeline.ΦD_eq, scopedRest0_eq, e1, e2, slabs_zero]
  simp only [scratch, scratch', owns_whole]
  try rfl

/-- What is held after the last point is handed back. -/
theorem back (c : Dev nD) (n : ℕ) : beside m c n ⊢ beside m c 0 := by
  by_cases h : n = 0
  · subst h; exact .rfl
  · unfold beside
    rw [slabs_zero, slabs_pos m c h]
    iintro ⟨⟨S, S'⟩, R⟩
    isplitl [S S']
    · isplitl [S]
      · iexists _; iexact S
      · iexists _; iexact S'
    iexact R

/-- The proof data: the arrays as the call finds them, the inputs' blocks kept, the results' blocks as the body leaves them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => leftX (iblk m c 0 t) (iblk m c 1 t) (V m c main_v2) (V m c main_v3)
    | ⟨3, _⟩ => leftH (iblk m c 0 t) (iblk m c 1 t)
    | ⟨4, _⟩ => leftGU (iblk m c 0 t) (iblk m c 1 t) (V m c main_v2)
    | ⟨5, _⟩ => leftA (iblk m c 0 t) (iblk m c 1 t) (V m c main_v2)
  Φ t := beside m c t.val
  q _ := fullShare
  owed _ := 0

theorem A_eq (c : Dev nD) (w : Fin cfg0.W) : (dats m 0 c).A w = V m c (Pipeline.arrRef spec0 w) := by
  dsimp only [dats]

section Windows

variable (c : Dev nD) (t : Fin cfg0.N)

theorem kept_0 : (dats m 0 c).after 0 t = iblk m c 0 t := by dsimp only [dats]
theorem kept_1 : (dats m 0 c).after 1 t = iblk m c 1 t := by dsimp only [dats]
theorem left_2 : (dats m 0 c).after 2 t = leftX (iblk m c 0 t) (iblk m c 1 t) (V m c main_v2) (V m c main_v3) := by dsimp only [dats]
theorem left_3 : (dats m 0 c).after 3 t = leftH (iblk m c 0 t) (iblk m c 1 t) := by dsimp only [dats]
theorem left_4 : (dats m 0 c).after 4 t = leftGU (iblk m c 0 t) (iblk m c 1 t) (V m c main_v2) := by dsimp only [dats]
theorem left_5 : (dats m 0 c).after 5 t = leftA (iblk m c 0 t) (iblk m c 1 t) (V m c main_v2) := by dsimp only [dats]

theorem found_0 (d) : (dats m 0 c).before 0 t d = iblk m c 0 t :=
  ((dats m 0 c).before_in_eq_fetched 0 rfl (fun _ => rfl) (fun _ _ _ => rfl) (fun t => by rw [kept_0]; unfold Dat.blockOf iblk; rw [A_eq]; try rfl) t d).trans
    (by unfold Dat.fetched Dat.blockOf iblk; rw [A_eq]; try rfl)
theorem found_1 (d) : (dats m 0 c).before 1 t d = iblk m c 1 t :=
  ((dats m 0 c).before_in_eq_fetched 1 rfl (fun _ => rfl) (fun _ _ _ => rfl) (fun t => by rw [kept_1]; unfold Dat.blockOf iblk; rw [A_eq]; try rfl) t d).trans
    (by unfold Dat.fetched Dat.blockOf iblk; rw [A_eq]; try rfl)

end Windows

/-- The first branch is taken at the first point only, -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- and the second at the others. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The body at a point, from what the point before left in the scratch buffers. -/
theorem point (c : Dev nD) (t : Fin cfg0.N) (O : Waits sig Unit) (K : PUnit → sProp 𝕄) :
    iprop(owns (c : Thread nD τ) (st0 t) fullShare (iblk m c 0 t) ∗ owns (c : Thread nD τ) (st1 t) fullShare (iblk m c 1 t) ∗ (∃ d, owns (c : Thread nD τ) (st2 t) fullShare d) ∗ (∃ d, owns (c : Thread nD τ) (st3 t) fullShare d) ∗ (∃ d, owns (c : Thread nD τ) (st4 t) fullShare d) ∗ (∃ d, owns (c : Thread nD τ) (st5 t) fullShare d) ∗ slabs m c t.val ∗ cells c ∗ weights c (V m c main_v2) (V m c main_v3) ∗ owes (c : Thread nD τ) 0 O
        ∗ (iprop(owns (c : Thread nD τ) (st0 t) fullShare (iblk m c 0 t) ∗ owns (c : Thread nD τ) (st1 t) fullShare (iblk m c 1 t) ∗ owns (c : Thread nD τ) (st2 t) fullShare (leftX (iblk m c 0 t) (iblk m c 1 t) (V m c main_v2) (V m c main_v3)) ∗ owns (c : Thread nD τ) (st3 t) fullShare (leftH (iblk m c 0 t) (iblk m c 1 t)) ∗ owns (c : Thread nD τ) (st4 t) fullShare (leftGU (iblk m c 0 t) (iblk m c 1 t) (V m c main_v2)) ∗ owns (c : Thread nD τ) (st5 t) fullShare (leftA (iblk m c 0 t) (iblk m c 1 t) (V m c main_v2)) ∗ slabs m c (t.val + 1) ∗ cells c ∗ weights c (V m c main_v2) (V m c main_v3) ∗ (∃ O', owes (c : Thread nD τ) 0 O')) -∗ K ⟨⟩))
      ⊢ wp frame (wpE (defs₀ (F := F)) Variants.none c none) Set.univ (bodyAt0 t) K := by
  unfold bodyAt0
  rw [slabs_pos m c (Nat.succ_ne_zero t.val)]
  by_cases h : t.val = 0
  · rw [h, slabs_zero]
    exact first_point c (grid0.coords t) _ _ _ _ _ _ _ _ _ _ _ _ _ _ _ _ ((first_iff t).mpr h) (fun k => (later_iff t).mp k h) (iblk m c 0 t) (iblk m c 1 t) (V m c main_v2) (V m c main_v3) O K
  · rw [slabs_pos m c h]
    exact later_point c (grid0.coords t) _ _ _ _ _ _ _ _ _ _ _ _ _ _ _ _ (fun k => h ((first_iff t).mp k)) ((later_iff t).mpr h) (iblk m c 0 t) (iblk m c 1 t) (V m c main_v2) (V m c main_v3) O K

/-- The body at a point: from the blocks it finds to the blocks it keeps and those it leaves. -/
theorem body_sound (c : Dev nD) (t : Fin cfg0.N) :
    iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)))
      ⊢ wp frame (wpE (defs₀ (F := F)) Variants.none c none) Set.univ (bodyAt0 t) (fun _ => iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t))) := by
  simp only [found_0, found_1]
  rw [kept_0, kept_1, left_2, left_3, left_4, left_5, show (dats m 0 c).Φ t.castSucc = beside m c t.val from rfl,
    show (dats m 0 c).Φ t.succ = beside m c (t.val + 1) from rfl]
  unfold beside Dat.owesAt Pipeline.owesWithin
  rw [show (dats m 0 c).owed t.castSucc = 0 from rfl, show (dats m 0 c).owed t.succ = 0 from rfl]
  iintro ⟨⟨S, G, Q, A⟩, ⟨%O, -, HO⟩, ⟨%d0, H0⟩, ⟨%d1, H1⟩, ⟨%d2, H2⟩, ⟨%d3, H3⟩, ⟨%d4, H4⟩, ⟨%d5, H5⟩⟩
  iapply (point m c t O _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [S]; · iexact S
  isplitl [Q]; · iexact Q
  isplitl [A]; · iexact A
  isplitl [HO]; · iexact HO
  iintro ⟨H0, H1, H2, H3, H4, H5, S, Q, A, ⟨%O', HO⟩⟩
  isplitl [S G Q A]
  · isplitl [S]; · iexact S
    isplitl [G]; · iexact G
    isplitl [Q]; · iexact Q
    iexact A
  isplitl [HO]
  · iexists O'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-- The body's row of the table of bodies is the body at the point. -/
theorem row (t : Fin cfg0.N) : defs₀ (F := F) .tc cfg0.body (cfg0.bodyArgs t (cfg0.slots t)) = bodyAt0 t := by
  unfold defs₀; rw [Defs.onTc_tc]

/-- Every result is stored into at every point. -/
theorem busy_2 : ∀ t : Fin grid0.N, idle0 2 (grid0.coords t) = false := by decide +kernel
theorem busy_3 : ∀ t : Fin grid0.N, idle0 3 (grid0.coords t) = false := by decide +kernel
theorem busy_4 : ∀ t : Fin grid0.N, idle0 4 (grid0.coords t) = false := by decide +kernel
theorem busy_5 : ∀ t : Fin grid0.N, idle0 5 (grid0.coords t) = false := by decide +kernel

theorem obligation (c : Dev nD) : BodyObligation (dats (F := F) m 0 c) (defs₀ (F := F)) Variants.none () Set.univ := fun t => by
  rw [bigSep_W0, bigSep_W0, row]
  simp only [busy_2 t, busy_3 t, busy_4 t, busy_5 t]
  exact triple_restated (body_sound m c t) rfl .rfl fun _ => .rfl

/-- The host's operations before the call. -/
theorem before_call : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every window's array ends as the proof data say, every other array as found, and every counter at zero. -/
theorem ends : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 own defs₀ Variants.none own_facts direct direct_sub m ρ main
    (hbody := fun c => (obligation m c).loose) (hshare := fun c => (dats m 0 c).share_full fun _ => rfl)
    (howed := fun _ _ => rfl) (V := V m) (hmain := before_call m) (hA := A_eq m)
    (hin := fun c => (handed m c).le) (hout := fun c => (back m c _).trans (handed m c).ge)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (ends m ρ)

end Cert.FfwKernelIdeal.Whole

end
-- ==== Proof.FfwKernelFrame.lean ====
/- The frame of the whole forward kernel on machine numbers (FfwKernel): its text is the idealised program's, so the proof is. -/
module

public import proofs.«01_k».proof.Defs
public import proofs.«01_k».proof.Proof.Gen.FfwKernel.Skeleton
public import proofs.«01_k».proof.Proof.FfwKernelIdealFrame

@[expose] public section

set_option maxRecDepth 16384

noncomputable section
open Idealize.ShloMosaic Idealize.ShloMosaic.TcCoe Idealize.SL.Sem

namespace Cert.FfwKernel.Whole
open Cert.FfwKernel

/-- The bodies are the same. -/
theorem bodies_eq : @Cert.FfwKernel.defs₀ Bits _ Cert.FfwKernel.Gen.facts = @Cert.FfwKernelIdeal.defs₀ Bits _ Cert.FfwKernelIdeal.Gen.facts := by
  unfold Cert.FfwKernel.defs₀ Cert.FfwKernelIdeal.defs₀
  refine congrArg Defs.onTc ?_
  funext l a
  match l, a with
  | 0, (t, s) => with_unfolding_all rfl

theorem defs_eq : @Cert.FfwKernel.defs Bits _ Cert.FfwKernel.Gen.facts = @Cert.FfwKernelIdeal.defs Bits _ Cert.FfwKernelIdeal.Gen.facts :=
  congrArg (Pipeline.defs Cert.FfwKernelIdeal.pcfgs) bodies_eq

/-- So are the host operations. -/
theorem main_eq : @Cert.FfwKernel.main Bits _ Cert.FfwKernel.Gen.facts = @Cert.FfwKernelIdeal.main Bits _ Cert.FfwKernelIdeal.Gen.facts := by with_unfolding_all rfl

/-- The arguments end unchanged and every counter at zero. -/
theorem frame (m : (ℓ : Loc nD τ sig) → Buf (Elt Bits) ℓ) (ρ : Dev nD → PrngReg) :
    θ_run (@Cert.FfwKernel.defs Bits _ Cert.FfwKernel.Gen.facts) (onTc (τ := τ) (@Cert.FfwKernel.main Bits _ Cert.FfwKernel.Gen.facts)) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3))
      ∧ r.2.sem = fun _ => 0) := by
  rw [defs_eq, main_eq]
  exact Cert.FfwKernelIdeal.Whole.frame (F := Bits) m ρ

end Cert.FfwKernel.Whole
end
-- ==== Proof.FfwRef.lean ====
/- The feed-forward layer's whole forward call: its last equation over any entries, and that the reference computes all four. -/
module

public import proofs.«01_k».proof.Proof.FupMath
public import proofs.«01_k».proof.Proof.Gen.FfwReferenceIdeal.Read

@[expose] public section

set_option maxRecDepth 16384
noncomputable section
open Idealize.ShloMosaic Idealize.ShloMosaic.TcCoe Idealize.SL.Sem

namespace Cert.FfwMath
open Cert.FupMath

abbrev Wt' := (⟨2, ![2816, 1024]⟩ : Shape).Idx → EReal

/-- The layer's row: half the gated columns' product with the second weights, added to the row. -/
def layer (X : Tok) (G : Scale) (W : Wt) (U : Wt') (a : Fin 2048) (b : Fin 1024) : EReal :=
  X (ix2 a b) + num 0x3F000000#32 * ∑ k, gated X G W a k * U (ix2 k b)

/-- A sum over 2816 columns is that over the first 1408 and that over the others. -/
theorem sum_halves (f : Fin 2816 → EReal) : ∑ k, f k = ∑ j : Fin 1408, f ⟨j.val, by omega⟩ + ∑ j : Fin 1408, f ⟨1408 + j.val, by omega⟩ :=
  Fin.sum_univ_add (a := 1408) (b := 1408) f

end Cert.FfwMath

namespace Cert.FfwReferenceIdeal.Read
open Cert.FfwReferenceIdeal Cert.FfwReferenceIdeal.Gen Cert.FupMath Cert.FfwMath

variable (X : S2048x1024.Idx → EReal) (G : S1x1024.Idx → EReal) (W : S1024x5632.Idx → EReal) (U : S2816x1024.Idx → EReal)

theorem v8_of (a : Fin 2048) (b : Fin 1) : val_main_v8 (F := Ideal) X (ix2 a b) = inv (row X a) := by
  pointwise [val_main_v8, val_main_v7, val_main_v6, val_main_v5, val_main_v4, val_main_v3, val_main_v2, val_main_v1, val_main_cst, val_main_cst_0, val_main_cst_1]
  rfl

theorem v13_of (a : Fin 2048) (b : Fin 1024) : val_main_v13 (F := Ideal) X G (ix2 a b) = h X G a b := by
  pointwise [val_main_v13, val_main_v12, val_main_v11, val_main_v10, val_main_v9, val_main_v0]
  simp only [v8_of]
  rfl

theorem v14_of (a : Fin 2048) (b : Fin 5632) : val_main_v14 (F := Ideal) X G W (ix2 a b) = gu X G W a b := by
  pointwise [val_main_v14]
  simp only [v13_of]
  rfl

theorem v18_of (a : Fin 2048) (b : Fin 2816) : val_main_v18 (F := Ideal) X G W (ix2 a b) = gated X G W a b := by
  pointwise [val_main_v18, val_main_v17, val_main_v16, val_main_v15, val_main_call0_v5, val_main_call0_v4, val_main_call0_v3,
    val_main_call0_v2, val_main_call0_v1, val_main_call0_v0, val_main_call0_cst, val_main_call0_cst_0]
  simp only [v14_of]
  rfl

theorem layer_of : val_main_v22 (F := Ideal) X G W U = fun i => layer X G W U (i 0) (i 1) := by
  funext j
  idx_vars j
  pointwise [val_main_v22, val_main_v21, val_main_v20, val_main_v19, val_main_cst_2]
  simp only [v18_of]
  rfl

theorem h_of : val_main_v23 (F := Ideal) X G = fun i => h X G (i 0) (i 1) := by
  funext j
  idx_vars j
  pointwise [val_main_v23]
  exact v13_of X G _ _

theorem gu_of : val_main_v24 (F := Ideal) X G W = fun i => gu X G W (i 0) (i 1) := by
  funext j
  idx_vars j
  pointwise [val_main_v24]
  exact v14_of X G W _ _

theorem gated_of : val_main_v25 (F := Ideal) X G W = fun i => gated X G W (i 0) (i 1) := by
  funext j
  idx_vars j
  pointwise [val_main_v25]
  exact v18_of X G W _ _

end Cert.FfwReferenceIdeal.Read
end
-- ==== Proof.FfwArrays.lean ====
/- What the whole forward kernel leaves in its four arrays, entry by entry. -/
module

public import proofs.«01_k».proof.Proof.FfwRef
public import proofs.«01_k».proof.Proof.FfwKernelIdealFrame

@[expose] public section

set_option maxRecDepth 16384
noncomputable section
open Idealize.ShloMosaic Idealize.ShloMosaic.TcCoe Idealize.SL.Sem

namespace Cert.FfwKernelIdeal.Arrays
open Cert.Slabs Cert.FfwKernelIdeal Cert.FfwKernelIdeal.Gen Cert.FfwKernelIdeal.Whole Cert.FupMath Cert.FfwMath

/-! ## One block of rows -/

section Block
variable (x : S256x1024.Idx → EReal) (g : S1x1024.Idx → EReal) (w u : S1x1024x1408.Idx → EReal)

theorem h_block (p : Fin 256) (q : Fin 1024) : k0_pay3 (F := Ideal) x g (ix2 p q) = normed (brow x p) (sc g) q := by
  pointwise [k0_pay3]
  rfl

theorem prod_a (p : Fin 256) (q : Fin 1408) : k0_pay5 (F := Ideal) x g w (ix2 p q) = prod (brow x p) (sc g) (bcol w q) := by
  pointwise [k0_pay5]
  simp only [h_block]
  rfl

theorem prod_b (p : Fin 256) (q : Fin 1408) : k0_pay6 (F := Ideal) (k0_pay3 x g) w (ix2 p q) = prod (brow x p) (sc g) (bcol w q) := by
  pointwise [k0_pay6]
  simp only [h_block]
  rfl

theorem prod_c (p : Fin 256) (q : Fin 1408) : k0_pay11 (F := Ideal) (k0_pay3 x g) w (ix2 p q) = prod (brow x p) (sc g) (bcol w q) := by
  pointwise [k0_pay11]
  simp only [h_block]
  rfl

theorem prod_d (p : Fin 256) (q : Fin 1408) : k0_pay12 (F := Ideal) (k0_pay3 x g) w (ix2 p q) = prod (brow x p) (sc g) (bcol w q) := by
  pointwise [k0_pay12]
  simp only [h_block]
  rfl

theorem gated_lo (p : Fin 256) (q : Fin 1408) : k0_pay9 (F := Ideal) (k0_pay3 x g) (k0_pay5 x g w) u (ix2 p q)
    = silu (prod (brow x p) (sc g) (bcol w q)) * prod (brow x p) (sc g) (bcol u q) := by
  pointwise [k0_pay9]
  simp only [prod_a, prod_b, zero_sub]
  rfl

theorem gated_hi (p : Fin 256) (q : Fin 1408) : k0_pay15 (F := Ideal) (k0_pay3 x g) w u (ix2 p q)
    = silu (prod (brow x p) (sc g) (bcol w q)) * prod (brow x p) (sc g) (bcol u q) := by
  pointwise [k0_pay15]
  simp only [prod_c, prod_d, zero_sub]
  rfl

/-- The layer's row, from the gated products of both halves. -/
theorem out_block (s0 s1 s2 s3 : S1x1024x1408.Idx → EReal) (w0 w1 : S1408x1024.Idx → EReal) (p : Fin 256) (q : Fin 1024) :
    rowsOut (F := Ideal) x g s0 s1 s2 s3 w0 w1 (ix2 p q) = x (ix2 p q) + num 0x3F000000#32
      * (∑ j, silu (prod (brow x p) (sc g) (bcol s0 j)) * prod (brow x p) (sc g) (bcol s2 j) * w0 (ix2 j q)
        + ∑ j, silu (prod (brow x p) (sc g) (bcol s1 j)) * prod (brow x p) (sc g) (bcol s3 j) * w1 (ix2 j q)) := by
  unfold rowsOut
  pointwise [k0_pay1, k0_pay10, k0_pay4]
  simp only [gated_lo, gated_hi, zero_add]

end Block

/-! ## The blocks -/

variable (m : (ℓ : Loc nD τ sig) → Buf (Elt Ideal) ℓ) (c : Dev nD)

abbrev arg (b : Ref sig .tc) := m ((c.tc : Thread nD τ).loc b)

/-- The slabs: column `q` of slab `k` is the weights' column `1408 k + q`. -/
theorem slabs_of (k : Fin 4) (r : Fin 1024) (q : Fin 1408) :
    V m c main_v2 (ix3 k r q) = arg m c main_arg2 (ix2 r ⟨1408 * k.val + q.val, by omega⟩) := by
  have e : V m c main_v2 = transpose S4x1024x1408 [1, 0, 2] (shapeCast S1024x4x1408 (truncf (F := Ideal) .bf16
      (m ((c.tc : Thread nD τ).loc main_arg2)) bitsLt_bf16_f32) shapeCasts_S1024x5632_S1024x4x1408) transposes_S1024x4x1408_S4x1024x1408_1_0_2 := by
    simp only [V, hostOps0, List.flatten_cons, List.flatten_nil, List.append_nil, List.cons_append, List.nil_append]
    after_results
    rfl
  rw [e]
  pointwise []
  exact congrArg (fun j => arg m c main_arg2 (ix2 r j)) (Fin.ext (by simp [Nat.mul_comm]))

/-- The second weights are the last argument. -/
theorem second_of : V m c main_v3 = arg m c main_arg3 := by
  have e : V m c main_v3 = truncf (F := Ideal) .bf16 (m ((c.tc : Thread nD τ).loc main_arg3)) bitsLt_bf16_f32 := by
    simp only [V, hostOps0, List.flatten_cons, List.flatten_nil, List.append_nil, List.cons_append, List.nil_append]
    after_results
  rw [e]
  rfl

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ t.val < 8 :=
  (by decide +kernel : ∀ t : Fin grid0.N, _)

/-- The token that row `p` of point `t`'s block is. -/
abbrev tok (t : Fin cfg0.N) (p : Fin 256) : Fin 2048 := ⟨t.val * 256 + p.val, by have := (idx t).2.2.2.2.2.2; omega⟩

theorem blk0 (t : Fin cfg0.N) : iblk m c 0 t = fun y : S256x1024.Idx => arg m c main_arg0 (ix2 (tok t (y 0)) (y 1)) := by
  funext y
  refine Eq.trans ?_ (congrFun (V_main_arg0 m c) _)
  blk_ext [iblk, idx t] <;> rfl

theorem blk1 (t : Fin cfg0.N) : iblk m c 1 t = arg m c main_arg1 := by
  funext y
  refine Eq.trans ?_ (congrFun (V_main_arg1 m c) _)
  blk_ext [iblk, idx t]

theorem ld_x (x : S256x1024.Idx → EReal) : View.ld (Val := Elt Ideal) (e' := .f32) x rx = x := by
  funext y
  refine congrArg x (funext fun a => Fin.ext ?_)
  fin_cases a <;> simp

theorem ld_g (x : S1x1024.Idx → EReal) : View.ld (Val := Elt Ideal) (e' := .f32) x rg = x := by
  funext y
  refine congrArg x (funext fun a => Fin.ext ?_)
  fin_cases a <;> simp

/-- What a point leaves of the rows. -/
abbrev layerAt (t : Fin cfg0.N) (y : S256x1024.Idx) : EReal :=
  layer (arg m c main_arg0) (arg m c main_arg1) (arg m c main_arg2) (arg m c main_arg3) (tok t (y 0)) (y 1)

/-- The block of point `t`. -/
abbrev xb (t : Fin cfg0.N) : S256x1024.Idx → EReal := blockOf (arg m c main_arg0) (tok t)

theorem left_gu (t : Fin cfg0.N) : leftGU (F := Ideal) (xb m c t) (arg m c main_arg1) (V m c main_v2) = guAt (arg m c main_arg0) (arg m c main_arg1) (arg m c main_arg2) (tok t) := by
  funext y
  unfold leftGU
  rw [ld_x, ld_g]
  refine View.canon_apply_of_pieces (Val := Elt Ideal) (e := .bf16) (guAt (arg m c main_arg0) (arg m c main_arg1) (arg m c main_arg2) (tok t)) _ ?_ y (coversQ _ _ _ _ y)
  simp only [List.forall_mem_cons, List.not_mem_nil, false_implies, implies_true, and_true]
  exact ⟨piece_gu _ _ _ _ _ (slabs_of m c) 3 4224 rfl _ _ (prod_d _ _ _) _, piece_gu _ _ _ _ _ (slabs_of m c) 1 1408 rfl _ _ (prod_c _ _ _) _,
    piece_gu _ _ _ _ _ (slabs_of m c) 2 2816 rfl _ _ (prod_b _ _ _) _, piece_gu _ _ _ _ _ (slabs_of m c) 0 0 rfl _ _ (prod_a _ _ _) _⟩

theorem left_gated (t : Fin cfg0.N) : leftA (F := Ideal) (xb m c t) (arg m c main_arg1) (V m c main_v2) = gatedAt (arg m c main_arg0) (arg m c main_arg1) (arg m c main_arg2) (tok t) := by
  funext y
  unfold leftA
  rw [ld_x, ld_g]
  refine View.canon_apply_of_pieces (Val := Elt Ideal) (e := .bf16) (gatedAt (arg m c main_arg0) (arg m c main_arg1) (arg m c main_arg2) (tok t)) _ ?_ y (coversO _ _ y)
  simp only [List.forall_mem_cons, List.not_mem_nil, false_implies, implies_true, and_true]
  exact ⟨piece_gated _ _ _ _ _ (slabs_of m c) 1 3 (by decide) rfl 1408 rfl _ _ _ (gated_hi _ _ _ _) _, piece_gated _ _ _ _ _ (slabs_of m c) 0 2 (by decide) rfl 0 rfl _ _ _ (gated_lo _ _ _ _) _⟩

theorem left_h (t : Fin cfg0.N) : leftH (F := Ideal) (xb m c t) (arg m c main_arg1)
    = fun y => h (arg m c main_arg0) (arg m c main_arg1) (tok t (y 0)) (y 1) := by
  funext y
  unfold leftH
  rw [ld_x, ld_g]
  refine View.canon_apply_of_pieces (Val := Elt Ideal) (e := .bf16) (fun y => h (arg m c main_arg0) (arg m c main_arg1) (tok t (y 0)) (y 1)) _ ?_ y (coversR _ y)
  simp only [List.forall_mem_cons, List.not_mem_nil, false_implies, implies_true, and_true]
  intro y
  idx_vars y
  refine (h_block _ _ _ _).trans ?_
  refine congrArg₂ (h (arg m c main_arg0) (arg m c main_arg1)) (congrArg (tok t) (Fin.ext ?_)) (Fin.ext ?_) <;> simp [ix2]

/-- A row of a half of the second weights. -/
theorem ld_rows (k : ℕ) (hk : k ≤ 1408) (inb) (j : Fin 1408) (q : Fin 1024) :
    View.ld (Val := Elt Ideal) (e' := .bf16) (V m c main_v3) (Rect.unit (s := S2816x1024) ![k, 0] S1408x1024.size inb) (ix2 j q)
      = arg m c main_arg3 (ix2 ⟨k + j.val, by omega⟩ q) := by
  rw [second_of]
  refine congrArg (arg m c main_arg3) (funext fun a => Fin.ext ?_)
  fin_cases a <;> simp [ix2]

/-- A term of the product with the second weights: gated column `n = 1408 k + j`, of the slabs `k` and `k' = k + 2`. -/
theorem half_term (t : Fin cfg0.N) (p : Fin 256) (q : Fin 1024) (j : Fin 1408) (k k' : Fin 4) (o n : ℕ) (hk : k.val < 2) (hk' : k'.val = k.val + 2) (ho : o = 1408 * k.val)
    (hn : n = o + j.val) (h : n < 2816) (inw) (inu) (inr) :
    silu (prod (brow (xb m c t) p) (sc (arg m c main_arg1))
        (bcol (View.ld (Val := Elt Ideal) (e' := .bf16) (V m c main_v2) (Rect.unit (s := S4x1024x1408) ![k.val, 0, 0] S1x1024x1408.size inw)) j))
      * prod (brow (xb m c t) p) (sc (arg m c main_arg1))
        (bcol (View.ld (Val := Elt Ideal) (e' := .bf16) (V m c main_v2) (Rect.unit (s := S4x1024x1408) ![k'.val, 0, 0] S1x1024x1408.size inu)) j)
      * View.ld (Val := Elt Ideal) (e' := .bf16) (V m c main_v3) (Rect.unit (s := S2816x1024) ![o, 0] S1408x1024.size inr) (ix2 j q)
      = gated (arg m c main_arg0) (arg m c main_arg1) (arg m c main_arg2) (tok t p) ⟨n, h⟩ * arg m c main_arg3 (ix2 ⟨n, h⟩ q) := by
  subst hn ho
  rw [col_slab _ _ (slabs_of m c), col_slab _ _ (slabs_of m c), ld_rows m c _ (by omega)]
  refine congrArg (· * _) (congrArg (fun z => silu _ * gu (arg m c main_arg0) (arg m c main_arg1) (arg m c main_arg2) (tok t p) z) (Fin.ext ?_))
  simp only
  omega

theorem left_x (t : Fin cfg0.N) : leftX (F := Ideal) (xb m c t) (arg m c main_arg1) (V m c main_v2) (V m c main_v3) = layerAt m c t := by
  funext y
  unfold leftX
  rw [ld_x, ld_g]
  refine View.canon_apply_of_pieces (Val := Elt Ideal) (e := .f32) (layerAt m c t) _ ?_ y (coversR _ y)
  simp only [List.forall_mem_cons, List.not_mem_nil, false_implies, implies_true, and_true]
  intro y
  idx_vars y
  refine (out_block _ _ _ _ _ _ _ _ _ _).trans ?_
  refine Eq.trans (b := layer (arg m c main_arg0) (arg m c main_arg1) (arg m c main_arg2) (arg m c main_arg3) (tok t y0) y1) ?_
    (congrArg₂ (layer (arg m c main_arg0) (arg m c main_arg1) (arg m c main_arg2) (arg m c main_arg3)) (congrArg (tok t) (Fin.ext (by simp [ix2]))) (Fin.ext (by simp [ix2])))
  unfold layer
  rw [sum_halves]
  refine congrArg₂ (fun z z' => _ + num 0x3F000000#32 * (z + z')) (Finset.sum_congr rfl fun j _ => ?_) (Finset.sum_congr rfl fun j _ => ?_)
  · exact half_term m c t _ _ j 0 2 0 _ (by decide) rfl rfl (Nat.zero_add _).symm _ _ _ _
  · exact half_term m c t _ _ j 1 3 1408 _ (by decide) rfl rfl rfl _ _ _ _

/-! ## The arrays after the grid -/

/-- The place in the array of a block's entry. -/
theorem place {n : ℕ} (t : Fin cfg0.N) (f : Fin 2048 → Fin n → EReal) (y : (⟨2, ![256, n]⟩ : Shape).Idx) (i : (⟨2, ![2048, n]⟩ : Shape).Idx)
    (h0 : (i 0 : ℕ) = t.val * 256 + y 0) (h1 : (i 1 : ℕ) = y 1) : f (tok t (y 0)) (y 1) = f (i 0) (i 1) :=
  congrArg₂ f (Fin.ext h0.symm) (Fin.ext h1.symm)

theorem h_array : (dats m 0 c).arrAt 3 cfg0.N = fun i => h (arg m c main_arg0) (arg m c main_arg1) (i 0) (i 1) := by
  refine (dats m 0 c).arrAt_eq_of_covers 3 _ (by decide +kernel) fun t _ y => ?_
  blk_simp
  rw [left_3, blk0, blk1, left_h]
  have hi : ∀ a, ((((View.whole main_v4_1).slice (win0_3.rect t)).emb y) a : ℕ) = win0_3.index t a * ![256, 1024] a + y a := by
    intro a; fin_cases a <;> blk_simp
  rw [(idx t).2.2.2.1] at hi
  exact place t (h (arg m c main_arg0) (arg m c main_arg1)) y _ (hi 0) (by simpa using hi 1)

theorem gu_array : (dats m 0 c).arrAt 4 cfg0.N = fun i => gu (arg m c main_arg0) (arg m c main_arg1) (arg m c main_arg2) (i 0) (i 1) := by
  refine (dats m 0 c).arrAt_eq_of_covers 4 _ (by decide +kernel) fun t _ y => ?_
  blk_simp
  rw [left_4, blk0, blk1, left_gu]
  have hi : ∀ a, ((((View.whole main_v4_2).slice (win0_4.rect t)).emb y) a : ℕ) = win0_4.index t a * ![256, 5632] a + y a := by
    intro a; fin_cases a <;> blk_simp
  rw [(idx t).2.2.2.2.1] at hi
  exact place t (gu (arg m c main_arg0) (arg m c main_arg1) (arg m c main_arg2)) y _ (hi 0) (by simpa using hi 1)

theorem gated_array : (dats m 0 c).arrAt 5 cfg0.N = fun i => gated (arg m c main_arg0) (arg m c main_arg1) (arg m c main_arg2) (i 0) (i 1) := by
  refine (dats m 0 c).arrAt_eq_of_covers 5 _ (by decide +kernel) fun t _ y => ?_
  blk_simp
  rw [left_5, blk0, blk1, left_gated]
  have hi : ∀ a, ((((View.whole main_v4_3).slice (win0_5.rect t)).emb y) a : ℕ) = win0_5.index t a * ![256, 2816] a + y a := by
    intro a; fin_cases a <;> blk_simp
  rw [(idx t).2.2.2.2.2.1] at hi
  exact place t (gated (arg m c main_arg0) (arg m c main_arg1) (arg m c main_arg2)) y _ (hi 0) (by simpa using hi 1)

theorem layer_array : (dats m 0 c).arrAt 2 cfg0.N = fun i => layer (arg m c main_arg0) (arg m c main_arg1) (arg m c main_arg2) (arg m c main_arg3) (i 0) (i 1) := by
  refine (dats m 0 c).arrAt_eq_of_covers 2 _ (by decide +kernel) fun t _ y => ?_
  blk_simp
  rw [left_2, blk0, blk1, left_x]
  have hi : ∀ a, ((((View.whole main_v4_0).slice (win0_2.rect t)).emb y) a : ℕ) = win0_2.index t a * ![256, 1024] a + y a := by
    intro a; fin_cases a <;> blk_simp
  rw [(idx t).2.2.1] at hi
  exact place t (layer (arg m c main_arg0) (arg m c main_arg1) (arg m c main_arg2) (arg m c main_arg3)) y _ (hi 0) (by simpa using hi 1)

/-- The run, with the four results' arrays. -/
theorem run_arrays (ρ : Dev nD → PrngReg) : θ_run defs (onTc (τ := τ) (main (F := Ideal))) ⟨m, fun _ => 0, ρ⟩ (fun r => ∀ c : Dev nD,
    r.2.mem ((c.tc : Thread nD τ).loc main_v4_0) = (dats m 0 c).arrAt 2 cfg0.N ∧ r.2.mem ((c.tc : Thread nD τ).loc main_v4_1) = (dats m 0 c).arrAt 3 cfg0.N ∧ r.2.mem ((c.tc : Thread nD τ).loc main_v4_2) = (dats m 0 c).arrAt 4 cfg0.N ∧ r.2.mem ((c.tc : Thread nD τ).loc main_v4_3) = (dats m 0 c).arrAt 5 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun r h c => ⟨(h.1 c).1 2, (h.1 c).1 3, (h.1 c).1 4, (h.1 c).1 5,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (ends m ρ)

end Cert.FfwKernelIdeal.Arrays
end
-- ==== Proof.FfwClaim.lean ====
/- The claims about the feed-forward layer's whole forward call. -/
module

public import proofs.«01_k».proof.Defs
public import proofs.«01_k».proof.Proof.FfwArrays
public import proofs.«01_k».proof.Proof.Gen.FfwReferenceIdeal.Run
public import Idealize.ShloMosaic.Lib.Quiescent

@[expose] public section

set_option maxRecDepth 16384
noncomputable section
open Idealize.ShloMosaic Idealize.ShloMosaic.TcCoe Idealize.SL.Sem

namespace Cert.FfwClaim

/-- The reference declares no semaphore, so its run leaves every counter at zero. -/
theorem frame_ref : Cert.quiescent_FfwReferenceIdeal (hFfwReferenceIdeal := Cert.FfwReferenceIdeal.Gen.facts) := fun m g _ =>
  (θ_run _ _ _).mono (fun r h => ⟨fun c => (h c).2.2.2.2, sem_eq_zero_of_no_sems (by decide) r.2⟩) (Cert.FfwReferenceIdeal.Value.run (F := Ideal) m g)

/-- The two programs end with equal results. -/
theorem algebraic : Cert.algebraic_FfwKernelIdeal_FfwReferenceIdeal
    (hFfwKernelIdeal := Cert.FfwKernelIdeal.Gen.facts) (hFfwReferenceIdeal := Cert.FfwReferenceIdeal.Gen.facts) := by
  intro m g m' g' _ hag
  refine ⟨fun c => _, fun c => _, fun c => _, fun c => _, Cert.FfwKernelIdeal.Arrays.run_arrays m g, ?_⟩
  refine (θ_run _ _ _).mono (fun r h c => ?_) (Cert.FfwReferenceIdeal.Value.run m' g')
  obtain ⟨a0, a1, a2, a3⟩ := hag c
  obtain ⟨r0, r1, r2, r3, k⟩ := h c
  refine ⟨r0.trans ?_, r1.trans ?_, r2.trans ?_, r3.trans ?_, k⟩
  · rw [Cert.FfwReferenceIdeal.Read.val_main_v22_eq, a0, a1, a2, a3]
    exact (Cert.FfwReferenceIdeal.Read.layer_of _ _ _ _).trans (Cert.FfwKernelIdeal.Arrays.layer_array m c).symm
  · rw [Cert.FfwReferenceIdeal.Read.val_main_v23_eq, a0, a1]
    exact (Cert.FfwReferenceIdeal.Read.h_of _ _).trans (Cert.FfwKernelIdeal.Arrays.h_array m c).symm
  · rw [Cert.FfwReferenceIdeal.Read.val_main_v24_eq, a0, a1, a2]
    exact (Cert.FfwReferenceIdeal.Read.gu_of _ _ _).trans (Cert.FfwKernelIdeal.Arrays.gu_array m c).symm
  · rw [Cert.FfwReferenceIdeal.Read.val_main_v25_eq, a0, a1, a2]
    exact (Cert.FfwReferenceIdeal.Read.gated_of _ _ _).trans (Cert.FfwKernelIdeal.Arrays.gated_array m c).symm

end Cert.FfwClaim
end
-- ==== Proof.lean ====
module

public import proofs.«01_k».proof.Proof.LossClaim
public import proofs.«01_k».proof.Proof.AttnClaim
public import proofs.«01_k».proof.Proof.OutClaim
public import proofs.«01_k».proof.Proof.MixClaim
public import proofs.«01_k».proof.Proof.GatesClaim
public import proofs.«01_k».proof.Proof.AfwdClaim
public import proofs.«01_k».proof.Proof.Gen.ConvKernel.Frame.Runs
public import proofs.«01_k».proof.Proof.ConvKernelFrame
public import proofs.«01_k».proof.Proof.ConvClaim
public import proofs.«01_k».proof.Proof.OfwdClaim
public import proofs.«01_k».proof.Proof.MfwdClaim
public import proofs.«01_k».proof.Proof.GfwdClaim
public import proofs.«01_k».proof.Proof.Gen.CfwdKernel.Frame.Runs
public import proofs.«01_k».proof.Proof.CfwdKernelFrame
public import proofs.«01_k».proof.Proof.CfwdClaim
public import proofs.«01_k».proof.Proof.WgradClaim
public import proofs.«01_k».proof.Proof.AdamClaim
public import proofs.«01_k».proof.Proof.SsumClaim
public import proofs.«01_k».proof.Proof.Gen.FupKernel.Frame
public import proofs.«01_k».proof.Proof.FupKernelFrame
public import proofs.«01_k».proof.Proof.FupClaim
public import proofs.«01_k».proof.Proof.Gen.FfnKernel.Frame
public import proofs.«01_k».proof.Proof.FfnClaim
public import proofs.«01_k».proof.Proof.Gen.FfwKernel.Frame
public import proofs.«01_k».proof.Proof.FfwKernelFrame
public import proofs.«01_k».proof.Proof.FfwClaim
public import Idealize.ShloMosaic.Adequacy
public import Idealize.ShloMosaic.Init

@[expose] public section

noncomputable section

namespace Cert.Proof

open Idealize.ShloMosaic Idealize.SL.Sem

theorem claim : Cert.Claim := ⟨Cert.LossKernel.Gen.facts,
  Cert.LossKernelIdeal.Gen.facts,
  Cert.LossReferenceIdeal.Gen.facts,
  Cert.AttnKernel.Gen.facts,
  Cert.AttnKernelIdeal.Gen.facts,
  Cert.AttnReferenceIdeal.Gen.facts,
  Cert.OutKernel.Gen.facts,
  Cert.OutKernelIdeal.Gen.facts,
  Cert.OutReferenceIdeal.Gen.facts,
  Cert.MixKernel.Gen.facts,
  Cert.MixKernelIdeal.Gen.facts,
  Cert.MixReferenceIdeal.Gen.facts,
  Cert.GatesKernel.Gen.facts,
  Cert.GatesKernelIdeal.Gen.facts,
  Cert.GatesReferenceIdeal.Gen.facts,
  Cert.AfwdKernel.Gen.facts,
  Cert.AfwdKernelIdeal.Gen.facts,
  Cert.AfwdReferenceIdeal.Gen.facts,
  Cert.ConvKernel.Gen.facts,
  Cert.ConvKernelIdeal.Gen.facts,
  Cert.ConvReferenceIdeal.Gen.facts,
  Cert.OfwdKernel.Gen.facts,
  Cert.OfwdKernelIdeal.Gen.facts,
  Cert.OfwdReferenceIdeal.Gen.facts,
  Cert.MfwdKernel.Gen.facts,
  Cert.MfwdKernelIdeal.Gen.facts,
  Cert.MfwdReferenceIdeal.Gen.facts,
  Cert.GfwdKernel.Gen.facts,
  Cert.GfwdKernelIdeal.Gen.facts,
  Cert.GfwdReferenceIdeal.Gen.facts,
  Cert.CfwdKernel.Gen.facts,
  Cert.CfwdKernelIdeal.Gen.facts,
  Cert.CfwdReferenceIdeal.Gen.facts,
  Cert.WgradKernel.Gen.facts,
  Cert.WgradKernelIdeal.Gen.facts,
  Cert.WgradReferenceIdeal.Gen.facts,
  Cert.AdamKernel.Gen.facts,
  Cert.AdamKernelIdeal.Gen.facts,
  Cert.AdamReferenceIdeal.Gen.facts,
  Cert.SsumKernel.Gen.facts,
  Cert.SsumKernelIdeal.Gen.facts,
  Cert.SsumReferenceIdeal.Gen.facts,
  Cert.FupKernel.Gen.facts,
  Cert.FupKernelIdeal.Gen.facts,
  Cert.FupReferenceIdeal.Gen.facts,
  Cert.FfnKernel.Gen.facts,
  Cert.FfnKernelIdeal.Gen.facts,
  Cert.FfnReferenceIdeal.Gen.facts,
  Cert.FfwKernel.Gen.facts,
  Cert.FfwKernelIdeal.Gen.facts,
  Cert.FfwReferenceIdeal.Gen.facts,
  Cert.LossClaim.facts_pre,
  Cert.AttnClaim.facts_pre,
  Cert.OutClaim.facts_pre,
  Cert.MixClaim.facts_pre,
  Cert.GatesClaim.facts_pre,
  Cert.AfwdClaim.facts_pre,
  Cert.OfwdClaim.facts_pre,
  Cert.MfwdClaim.facts_pre,
  Cert.GfwdClaim.facts_pre,
  Cert.FfnClaim.facts_pre,
  fun m g _ => Cert.LossKernel.Gen.frame m g,
  fun m g _ => Cert.LossKernelIdeal.Gen.frame m g,
  fun m g _ => Cert.LossKernelIdeal.Gen.frame m g,
  Cert.LossClaim.frame_ref,
  fun m g _ => Cert.LossClaim.frame_ref m g trivial,
  fun m g _ => Cert.AttnKernel.Gen.frame m g,
  fun m g _ => Cert.AttnKernelIdeal.Gen.frame m g,
  fun m g _ => Cert.AttnKernelIdeal.Gen.frame m g,
  Cert.AttnClaim.frame_ref,
  fun m g _ => Cert.AttnClaim.frame_ref m g trivial,
  fun m g _ => Cert.OutKernel.Gen.frame m g,
  fun m g _ => Cert.OutKernelIdeal.Gen.frame m g,
  fun m g _ => Cert.OutKernelIdeal.Gen.frame m g,
  Cert.OutClaim.frame_ref,
  fun m g _ => Cert.OutClaim.frame_ref m g trivial,
  fun m g _ => Cert.MixKernel.Gen.frame m g,
  fun m g _ => Cert.MixKernelIdeal.Gen.frame m g,
  fun m g _ => Cert.MixKernelIdeal.Gen.frame m g,
  Cert.MixClaim.frame_ref,
  fun m g _ => Cert.MixClaim.frame_ref m g trivial,
  fun m g _ => Cert.GatesKernel.Gen.frame m g,
  fun m g _ => Cert.GatesKernelIdeal.Gen.frame m g,
  fun m g _ => Cert.GatesKernelIdeal.Gen.frame m g,
  Cert.GatesClaim.frame_ref,
  fun m g _ => Cert.GatesClaim.frame_ref m g trivial,
  fun m g _ => Cert.AfwdKernel.Gen.frame m g,
  fun m g _ => Cert.AfwdKernelIdeal.Gen.frame m g,
  fun m g _ => Cert.AfwdKernelIdeal.Gen.frame m g,
  Cert.AfwdClaim.frame_ref,
  fun m g _ => Cert.AfwdClaim.frame_ref m g trivial,
  fun m g _ => Cert.ConvKernel.Whole.frame m g,
  fun m g _ => Cert.ConvKernelIdeal.Whole.frame m g,
  Cert.ConvClaim.frame_ref,
  fun m g _ => Cert.OfwdKernel.Gen.frame m g,
  fun m g _ => Cert.OfwdKernelIdeal.Gen.frame m g,
  fun m g _ => Cert.OfwdKernelIdeal.Gen.frame m g,
  Cert.OfwdClaim.frame_ref,
  fun m g _ => Cert.OfwdClaim.frame_ref m g trivial,
  fun m g _ => Cert.MfwdKernel.Gen.frame m g,
  fun m g _ => Cert.MfwdKernelIdeal.Gen.frame m g,
  fun m g _ => Cert.MfwdKernelIdeal.Gen.frame m g,
  Cert.MfwdClaim.frame_ref,
  fun m g _ => Cert.MfwdClaim.frame_ref m g trivial,
  fun m g _ => Cert.GfwdKernel.Gen.frame m g,
  fun m g _ => Cert.GfwdKernelIdeal.Gen.frame m g,
  fun m g _ => Cert.GfwdKernelIdeal.Gen.frame m g,
  Cert.GfwdClaim.frame_ref,
  fun m g _ => Cert.GfwdClaim.frame_ref m g trivial,
  fun m g _ => Cert.CfwdKernel.Whole.frame m g,
  fun m g _ => Cert.CfwdKernelIdeal.Whole.frame m g,
  Cert.CfwdClaim.frame_ref,
  fun m g _ => Cert.WgradKernel.Gen.frame m g,
  fun m g _ => Cert.WgradKernelIdeal.Gen.frame m g,
  Cert.WgradClaim.frame_ref,
  fun m g _ => Cert.AdamKernel.Gen.frame m g,
  fun m g _ => Cert.AdamKernelIdeal.Gen.frame m g,
  Cert.AdamClaim.frame_ref,
  fun m g _ => Cert.SsumKernel.Gen.frame m g,
  fun m g _ => Cert.SsumKernelIdeal.Gen.frame m g,
  Cert.SsumClaim.frame_ref,
  fun m g _ => Cert.FupKernel.Whole.frame m g,
  fun m g _ => Cert.FupKernelIdeal.Whole.frame m g,
  Cert.FupClaim.frame_ref,
  fun m g _ => Cert.FfnClaim.frame_Kernel m g trivial,
  fun m g _ => Cert.FfnClaim.frame_KernelIdeal m g trivial,
  fun m g _ => Cert.FfnClaim.frame_KernelIdeal m g trivial,
  Cert.FfnClaim.frame_ref,
  fun m g _ => Cert.FfnClaim.frame_ref m g trivial,
  fun m g _ => Cert.FfwKernel.Whole.frame m g,
  fun m g _ => Cert.FfwKernelIdeal.Whole.frame m g,
  Cert.FfwClaim.frame_ref,
  trivial,
  Cert.LossClaim.algebraic,
  trivial,
  Cert.AttnClaim.algebraic,
  trivial,
  Cert.OutClaim.algebraic,
  trivial,
  Cert.MixClaim.algebraic,
  trivial,
  Cert.GatesClaim.algebraic,
  trivial,
  Cert.AfwdClaim.algebraic,
  trivial,
  trivial,
  Cert.OfwdClaim.algebraic,
  trivial,
  Cert.MfwdClaim.algebraic,
  trivial,
  Cert.GfwdClaim.algebraic,
  trivial,
  Cert.CfwdClaim.algebraic,
  trivial,
  Cert.WgradClaim.algebraic,
  trivial,
  Cert.AdamClaim.algebraic,
  trivial,
  Cert.SsumClaim.algebraic,
  trivial,
  Cert.FupClaim.algebraic,
  trivial,
  Cert.FfnClaim.algebraic,
  trivial,
  Cert.FfwClaim.algebraic⟩

end Cert.Proof

end
